-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_logits [hPre_finite_logits : Cert.Pre_finite_logits.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_logits.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14)) (m ((c.tc : Thread Cert.Kernel7Ideal.nD Cert.Kernel7Ideal.τ).loc Cert.Kernel7Ideal.main_arg15))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_logits [hPre_finite_logits : Cert.Pre_finite_logits.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_logits.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14)) (m ((c.tc : Thread Cert.Reference7Ideal.nD Cert.Reference7Ideal.τ).loc Cert.Reference7Ideal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ r.2.sem = fun _ => 0)

def quiescent_Kernel7Ideal_pre_finite_logits [hKernel7Ideal : Cert.Kernel7Ideal.Facts] [hPre_finite_logits : Cert.Pre_finite_logits.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_logits m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15))
      ∧ r.2.sem = fun _ => 0)

def quiescent_Reference7Ideal_pre_finite_logits [hReference7Ideal : Cert.Reference7Ideal.Facts] [hPre_finite_logits : Cert.Pre_finite_logits.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_logits m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)) (v1 : (c : Dev Cert.Kernel2Ideal.nD) → Buf (Elt Ideal) ((c.tc : Thread Cert.Kernel2Ideal.nD Cert.Kernel2Ideal.τ).loc Cert.Kernel2Ideal.main_v10_0)) (v2 : (c : Dev Cert.Kernel2Ideal.nD) → Buf (Elt Ideal) ((c.tc : Thread Cert.Kernel2Ideal.nD Cert.Kernel2Ideal.τ).loc Cert.Kernel2Ideal.main_v10_1)) (v3 : (c : Dev Cert.Kernel2Ideal.nD) → Buf (Elt Ideal) ((c.tc : Thread Cert.Kernel2Ideal.nD Cert.Kernel2Ideal.τ).loc Cert.Kernel2Ideal.main_v10_2)) (v4 : (c : Dev Cert.Kernel2Ideal.nD) → Buf (Elt Ideal) ((c.tc : Thread Cert.Kernel2Ideal.nD Cert.Kernel2Ideal.τ).loc Cert.Kernel2Ideal.main_v9)) (v5 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_v10_0) = v1 c
          ∧ r.2.mem ((c.tc : Thread Cert.Kernel2Ideal.nD Cert.Kernel2Ideal.τ).loc Cert.Kernel2Ideal.main_v10_1) = v2 c
          ∧ r.2.mem ((c.tc : Thread Cert.Kernel2Ideal.nD Cert.Kernel2Ideal.τ).loc Cert.Kernel2Ideal.main_v10_2) = v3 c
          ∧ r.2.mem ((c.tc : Thread Cert.Kernel2Ideal.nD Cert.Kernel2Ideal.τ).loc Cert.Kernel2Ideal.main_v9) = v4 c
          ∧ r.2.mem ((c.tc : Thread Cert.Kernel2Ideal.nD Cert.Kernel2Ideal.τ).loc Cert.Kernel2Ideal.main_v8) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_v55) = v2 c
          ∧ r.2.mem ((c.tc : Thread Cert.Reference2Ideal.nD Cert.Reference2Ideal.τ).loc Cert.Reference2Ideal.main_v56) = v3 c
          ∧ r.2.mem ((c.tc : Thread Cert.Reference2Ideal.nD Cert.Reference2Ideal.τ).loc Cert.Reference2Ideal.main_v58) = v4 c
          ∧ r.2.mem ((c.tc : Thread Cert.Reference2Ideal.nD Cert.Reference2Ideal.τ).loc Cert.Reference2Ideal.main_v59) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8)) (v1 : (c : Dev Cert.Kernel3Ideal.nD) → Buf (Elt Ideal) ((c.tc : Thread Cert.Kernel3Ideal.nD Cert.Kernel3Ideal.τ).loc Cert.Kernel3Ideal.main_v9)) (v2 : (c : Dev Cert.Kernel3Ideal.nD) → Buf (Elt Ideal) ((c.tc : Thread Cert.Kernel3Ideal.nD Cert.Kernel3Ideal.τ).loc Cert.Kernel3Ideal.main_v10)) (v3 : (c : Dev Cert.Kernel3Ideal.nD) → Buf (Elt Ideal) ((c.tc : Thread Cert.Kernel3Ideal.nD Cert.Kernel3Ideal.τ).loc Cert.Kernel3Ideal.main_v13_0)) (v4 : (c : Dev Cert.Kernel3Ideal.nD) → Buf (Elt Ideal) ((c.tc : Thread Cert.Kernel3Ideal.nD Cert.Kernel3Ideal.τ).loc Cert.Kernel3Ideal.main_v13_1)) (v5 : (c : Dev Cert.Kernel3Ideal.nD) → Buf (Elt Ideal) ((c.tc : Thread Cert.Kernel3Ideal.nD Cert.Kernel3Ideal.τ).loc Cert.Kernel3Ideal.main_v13_2)) (v6 : (c : Dev Cert.Kernel3Ideal.nD) → Buf (Elt Ideal) ((c.tc : Thread Cert.Kernel3Ideal.nD Cert.Kernel3Ideal.τ).loc Cert.Kernel3Ideal.main_v12)) (v7 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_v9) = v1 c
          ∧ r.2.mem ((c.tc : Thread Cert.Kernel3Ideal.nD Cert.Kernel3Ideal.τ).loc Cert.Kernel3Ideal.main_v10) = v2 c
          ∧ r.2.mem ((c.tc : Thread Cert.Kernel3Ideal.nD Cert.Kernel3Ideal.τ).loc Cert.Kernel3Ideal.main_v13_0) = v3 c
          ∧ r.2.mem ((c.tc : Thread Cert.Kernel3Ideal.nD Cert.Kernel3Ideal.τ).loc Cert.Kernel3Ideal.main_v13_1) = v4 c
          ∧ r.2.mem ((c.tc : Thread Cert.Kernel3Ideal.nD Cert.Kernel3Ideal.τ).loc Cert.Kernel3Ideal.main_v13_2) = v5 c
          ∧ r.2.mem ((c.tc : Thread Cert.Kernel3Ideal.nD Cert.Kernel3Ideal.τ).loc Cert.Kernel3Ideal.main_v12) = v6 c
          ∧ r.2.mem ((c.tc : Thread Cert.Kernel3Ideal.nD Cert.Kernel3Ideal.τ).loc Cert.Kernel3Ideal.main_v11) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_v46) = v3 c
          ∧ r.2.mem ((c.tc : Thread Cert.Reference3Ideal.nD Cert.Reference3Ideal.τ).loc Cert.Reference3Ideal.main_v47) = v4 c
          ∧ r.2.mem ((c.tc : Thread Cert.Reference3Ideal.nD Cert.Reference3Ideal.τ).loc Cert.Reference3Ideal.main_v48) = v5 c
          ∧ r.2.mem ((c.tc : Thread Cert.Reference3Ideal.nD Cert.Reference3Ideal.τ).loc Cert.Reference3Ideal.main_v50) = v6 c
          ∧ r.2.mem ((c.tc : Thread Cert.Reference3Ideal.nD Cert.Reference3Ideal.τ).loc Cert.Reference3Ideal.main_v51) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v30)) (v1 : (c : Dev Cert.Kernel4Ideal.nD) → Buf (Elt Ideal) ((c.tc : Thread Cert.Kernel4Ideal.nD Cert.Kernel4Ideal.τ).loc Cert.Kernel4Ideal.main_v31)) (v2 : (c : Dev Cert.Kernel4Ideal.nD) → Buf (Elt Ideal) ((c.tc : Thread Cert.Kernel4Ideal.nD Cert.Kernel4Ideal.τ).loc Cert.Kernel4Ideal.main_v32)) (v3 : (c : Dev Cert.Kernel4Ideal.nD) → Buf (Elt Ideal) ((c.tc : Thread Cert.Kernel4Ideal.nD Cert.Kernel4Ideal.τ).loc Cert.Kernel4Ideal.main_v33)) (v4 : (c : Dev Cert.Kernel4Ideal.nD) → Buf (Elt Ideal) ((c.tc : Thread Cert.Kernel4Ideal.nD Cert.Kernel4Ideal.τ).loc Cert.Kernel4Ideal.main_v34)) (v5 : (c : Dev Cert.Kernel4Ideal.nD) → Buf (Elt Ideal) ((c.tc : Thread Cert.Kernel4Ideal.nD Cert.Kernel4Ideal.τ).loc Cert.Kernel4Ideal.main_v35)) (v6 : (c : Dev Cert.Kernel4Ideal.nD) → Buf (Elt Ideal) ((c.tc : Thread Cert.Kernel4Ideal.nD Cert.Kernel4Ideal.τ).loc Cert.Kernel4Ideal.main_v36)) (v7 : (c : Dev Cert.Kernel4Ideal.nD) → Buf (Elt Ideal) ((c.tc : Thread Cert.Kernel4Ideal.nD Cert.Kernel4Ideal.τ).loc Cert.Kernel4Ideal.main_v37)) (v8 : (c : Dev Cert.Kernel4Ideal.nD) → Buf (Elt Ideal) ((c.tc : Thread Cert.Kernel4Ideal.nD Cert.Kernel4Ideal.τ).loc Cert.Kernel4Ideal.main_v38)) (v9 : (c : Dev Cert.Kernel4Ideal.nD) → Buf (Elt Ideal) ((c.tc : Thread Cert.Kernel4Ideal.nD Cert.Kernel4Ideal.τ).loc Cert.Kernel4Ideal.main_v39)) (v10 : (c : Dev Cert.Kernel4Ideal.nD) → Buf (Elt Ideal) ((c.tc : Thread Cert.Kernel4Ideal.nD Cert.Kernel4Ideal.τ).loc Cert.Kernel4Ideal.main_v40)) (v11 : (c : Dev Cert.Kernel4Ideal.nD) → Buf (Elt Ideal) ((c.tc : Thread Cert.Kernel4Ideal.nD Cert.Kernel4Ideal.τ).loc Cert.Kernel4Ideal.main_v41)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30) = v0 c
          ∧ r.2.mem ((c.tc : Thread Cert.Kernel4Ideal.nD Cert.Kernel4Ideal.τ).loc Cert.Kernel4Ideal.main_v31) = v1 c
          ∧ r.2.mem ((c.tc : Thread Cert.Kernel4Ideal.nD Cert.Kernel4Ideal.τ).loc Cert.Kernel4Ideal.main_v32) = v2 c
          ∧ r.2.mem ((c.tc : Thread Cert.Kernel4Ideal.nD Cert.Kernel4Ideal.τ).loc Cert.Kernel4Ideal.main_v33) = v3 c
          ∧ r.2.mem ((c.tc : Thread Cert.Kernel4Ideal.nD Cert.Kernel4Ideal.τ).loc Cert.Kernel4Ideal.main_v34) = v4 c
          ∧ r.2.mem ((c.tc : Thread Cert.Kernel4Ideal.nD Cert.Kernel4Ideal.τ).loc Cert.Kernel4Ideal.main_v35) = v5 c
          ∧ r.2.mem ((c.tc : Thread Cert.Kernel4Ideal.nD Cert.Kernel4Ideal.τ).loc Cert.Kernel4Ideal.main_v36) = v6 c
          ∧ r.2.mem ((c.tc : Thread Cert.Kernel4Ideal.nD Cert.Kernel4Ideal.τ).loc Cert.Kernel4Ideal.main_v37) = v7 c
          ∧ r.2.mem ((c.tc : Thread Cert.Kernel4Ideal.nD Cert.Kernel4Ideal.τ).loc Cert.Kernel4Ideal.main_v38) = v8 c
          ∧ r.2.mem ((c.tc : Thread Cert.Kernel4Ideal.nD Cert.Kernel4Ideal.τ).loc Cert.Kernel4Ideal.main_v39) = v9 c
          ∧ r.2.mem ((c.tc : Thread Cert.Kernel4Ideal.nD Cert.Kernel4Ideal.τ).loc Cert.Kernel4Ideal.main_v40) = v10 c
          ∧ r.2.mem ((c.tc : Thread Cert.Kernel4Ideal.nD Cert.Kernel4Ideal.τ).loc Cert.Kernel4Ideal.main_v41) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_v75) = v1 c
          ∧ r.2.mem ((c.tc : Thread Cert.Reference4Ideal.nD Cert.Reference4Ideal.τ).loc Cert.Reference4Ideal.main_v79) = v2 c
          ∧ r.2.mem ((c.tc : Thread Cert.Reference4Ideal.nD Cert.Reference4Ideal.τ).loc Cert.Reference4Ideal.main_v81) = v3 c
          ∧ r.2.mem ((c.tc : Thread Cert.Reference4Ideal.nD Cert.Reference4Ideal.τ).loc Cert.Reference4Ideal.main_v84) = v4 c
          ∧ r.2.mem ((c.tc : Thread Cert.Reference4Ideal.nD Cert.Reference4Ideal.τ).loc Cert.Reference4Ideal.main_v124) = v5 c
          ∧ r.2.mem ((c.tc : Thread Cert.Reference4Ideal.nD Cert.Reference4Ideal.τ).loc Cert.Reference4Ideal.main_v97) = v6 c
          ∧ r.2.mem ((c.tc : Thread Cert.Reference4Ideal.nD Cert.Reference4Ideal.τ).loc Cert.Reference4Ideal.main_v110) = v7 c
          ∧ r.2.mem ((c.tc : Thread Cert.Reference4Ideal.nD Cert.Reference4Ideal.τ).loc Cert.Reference4Ideal.main_v123) = v8 c
          ∧ r.2.mem ((c.tc : Thread Cert.Reference4Ideal.nD Cert.Reference4Ideal.τ).loc Cert.Reference4Ideal.main_v95) = v9 c
          ∧ r.2.mem ((c.tc : Thread Cert.Reference4Ideal.nD Cert.Reference4Ideal.τ).loc Cert.Reference4Ideal.main_v108) = v10 c
          ∧ r.2.mem ((c.tc : Thread Cert.Reference4Ideal.nD Cert.Reference4Ideal.τ).loc Cert.Reference4Ideal.main_v121) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v52) = v0 c
          ∧ r.2.mem ((c.tc : Thread Cert.Reference5Ideal.nD Cert.Reference5Ideal.τ).loc Cert.Reference5Ideal.main_v53) = v1 c
          ∧ r.2.mem ((c.tc : Thread Cert.Reference5Ideal.nD Cert.Reference5Ideal.τ).loc Cert.Reference5Ideal.main_v54) = v2 c
          ∧ r.2.mem ((c.tc : Thread Cert.Reference5Ideal.nD Cert.Reference5Ideal.τ).loc Cert.Reference5Ideal.main_v60) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)) (v4 : (c : Dev Cert.Kernel6Ideal.nD) → Buf (Elt Ideal) ((c.tc : Thread Cert.Kernel6Ideal.nD Cert.Kernel6Ideal.τ).loc Cert.Kernel6Ideal.main_v6_0)) (v5 : (c : Dev Cert.Kernel6Ideal.nD) → Buf (Elt Ideal) ((c.tc : Thread Cert.Kernel6Ideal.nD Cert.Kernel6Ideal.τ).loc Cert.Kernel6Ideal.main_v6_1)) (v6 : (c : Dev Cert.Kernel6Ideal.nD) → Buf (Elt Ideal) ((c.tc : Thread Cert.Kernel6Ideal.nD Cert.Kernel6Ideal.τ).loc Cert.Kernel6Ideal.main_v6_2)) (v7 : (c : Dev Cert.Kernel6Ideal.nD) → Buf (Elt Ideal) ((c.tc : Thread Cert.Kernel6Ideal.nD Cert.Kernel6Ideal.τ).loc Cert.Kernel6Ideal.main_v6_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_v6_0) = v4 c
          ∧ r.2.mem ((c.tc : Thread Cert.Kernel6Ideal.nD Cert.Kernel6Ideal.τ).loc Cert.Kernel6Ideal.main_v6_1) = v5 c
          ∧ r.2.mem ((c.tc : Thread Cert.Kernel6Ideal.nD Cert.Kernel6Ideal.τ).loc Cert.Kernel6Ideal.main_v6_2) = v6 c
          ∧ r.2.mem ((c.tc : Thread Cert.Kernel6Ideal.nD Cert.Kernel6Ideal.τ).loc Cert.Kernel6Ideal.main_v6_3) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_v9) = v2 c
          ∧ r.2.mem ((c.tc : Thread Cert.Reference6Ideal.nD Cert.Reference6Ideal.τ).loc Cert.Reference6Ideal.main_v15) = v3 c
          ∧ r.2.mem ((c.tc : Thread Cert.Reference6Ideal.nD Cert.Reference6Ideal.τ).loc Cert.Reference6Ideal.main_v4) = v4 c
          ∧ r.2.mem ((c.tc : Thread Cert.Reference6Ideal.nD Cert.Reference6Ideal.τ).loc Cert.Reference6Ideal.main_v52) = v5 c
          ∧ r.2.mem ((c.tc : Thread Cert.Reference6Ideal.nD Cert.Reference6Ideal.τ).loc Cert.Reference6Ideal.main_v33) = v6 c
          ∧ r.2.mem ((c.tc : Thread Cert.Reference6Ideal.nD Cert.Reference6Ideal.τ).loc Cert.Reference6Ideal.main_v39) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal_pre_finite_logits [hKernel7Ideal : Cert.Kernel7Ideal.Facts] [hReference7Ideal : Cert.Reference7Ideal.Facts] [hPre_finite_logits : Cert.Pre_finite_logits.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_logits m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)) →
    ∃ (v0 : (c : Dev Cert.Kernel7Ideal.nD) → Buf (Elt Ideal) ((c.tc : Thread Cert.Kernel7Ideal.nD Cert.Kernel7Ideal.τ).loc Cert.Kernel7Ideal.main_v0)) (v1 : (c : Dev Cert.Kernel7Ideal.nD) → Buf (Elt Ideal) ((c.tc : Thread Cert.Kernel7Ideal.nD Cert.Kernel7Ideal.τ).loc Cert.Kernel7Ideal.main_v17)) (v2 : (c : Dev Cert.Kernel7Ideal.nD) → Buf (Elt Ideal) ((c.tc : Thread Cert.Kernel7Ideal.nD Cert.Kernel7Ideal.τ).loc Cert.Kernel7Ideal.main_v18)) (v3 : (c : Dev Cert.Kernel7Ideal.nD) → Buf (Elt Ideal) ((c.tc : Thread Cert.Kernel7Ideal.nD Cert.Kernel7Ideal.τ).loc Cert.Kernel7Ideal.main_v19)) (v4 : (c : Dev Cert.Kernel7Ideal.nD) → Buf (Elt Ideal) ((c.tc : Thread Cert.Kernel7Ideal.nD Cert.Kernel7Ideal.τ).loc Cert.Kernel7Ideal.main_v20)) (v5 : (c : Dev Cert.Kernel7Ideal.nD) → Buf (Elt Ideal) ((c.tc : Thread Cert.Kernel7Ideal.nD Cert.Kernel7Ideal.τ).loc Cert.Kernel7Ideal.main_v22)) (v6 : (c : Dev Cert.Kernel7Ideal.nD) → Buf (Elt Ideal) ((c.tc : Thread Cert.Kernel7Ideal.nD Cert.Kernel7Ideal.τ).loc Cert.Kernel7Ideal.main_v23)) (v7 : (c : Dev Cert.Kernel7Ideal.nD) → Buf (Elt Ideal) ((c.tc : Thread Cert.Kernel7Ideal.nD Cert.Kernel7Ideal.τ).loc Cert.Kernel7Ideal.main_v24)) (v8 : (c : Dev Cert.Kernel7Ideal.nD) → Buf (Elt Ideal) ((c.tc : Thread Cert.Kernel7Ideal.nD Cert.Kernel7Ideal.τ).loc Cert.Kernel7Ideal.main_v25)) (v9 : (c : Dev Cert.Kernel7Ideal.nD) → Buf (Elt Ideal) ((c.tc : Thread Cert.Kernel7Ideal.nD Cert.Kernel7Ideal.τ).loc Cert.Kernel7Ideal.main_v26)) (v10 : (c : Dev Cert.Kernel7Ideal.nD) → Buf (Elt Ideal) ((c.tc : Thread Cert.Kernel7Ideal.nD Cert.Kernel7Ideal.τ).loc Cert.Kernel7Ideal.main_v28)) (v11 : (c : Dev Cert.Kernel7Ideal.nD) → Buf (Elt Ideal) ((c.tc : Thread Cert.Kernel7Ideal.nD Cert.Kernel7Ideal.τ).loc Cert.Kernel7Ideal.main_v29)) (v12 : (c : Dev Cert.Kernel7Ideal.nD) → Buf (Elt Ideal) ((c.tc : Thread Cert.Kernel7Ideal.nD Cert.Kernel7Ideal.τ).loc Cert.Kernel7Ideal.main_v30)) (v13 : (c : Dev Cert.Kernel7Ideal.nD) → Buf (Elt Ideal) ((c.tc : Thread Cert.Kernel7Ideal.nD Cert.Kernel7Ideal.τ).loc Cert.Kernel7Ideal.main_v31)) (v14 : (c : Dev Cert.Kernel7Ideal.nD) → Buf (Elt Ideal) ((c.tc : Thread Cert.Kernel7Ideal.nD Cert.Kernel7Ideal.τ).loc Cert.Kernel7Ideal.main_v32)) (v15 : (c : Dev Cert.Kernel7Ideal.nD) → Buf (Elt Ideal) ((c.tc : Thread Cert.Kernel7Ideal.nD Cert.Kernel7Ideal.τ).loc Cert.Kernel7Ideal.main_v34)) (v16 : (c : Dev Cert.Kernel7Ideal.nD) → Buf (Elt Ideal) ((c.tc : Thread Cert.Kernel7Ideal.nD Cert.Kernel7Ideal.τ).loc Cert.Kernel7Ideal.main_v35)) (v17 : (c : Dev Cert.Kernel7Ideal.nD) → Buf (Elt Ideal) ((c.tc : Thread Cert.Kernel7Ideal.nD Cert.Kernel7Ideal.τ).loc Cert.Kernel7Ideal.main_v36)) (v18 : (c : Dev Cert.Kernel7Ideal.nD) → Buf (Elt Ideal) ((c.tc : Thread Cert.Kernel7Ideal.nD Cert.Kernel7Ideal.τ).loc Cert.Kernel7Ideal.main_v37)) (v19 : (c : Dev Cert.Kernel7Ideal.nD) → Buf (Elt Ideal) ((c.tc : Thread Cert.Kernel7Ideal.nD Cert.Kernel7Ideal.τ).loc Cert.Kernel7Ideal.main_v38)) (v20 : (c : Dev Cert.Kernel7Ideal.nD) → Buf (Elt Ideal) ((c.tc : Thread Cert.Kernel7Ideal.nD Cert.Kernel7Ideal.τ).loc Cert.Kernel7Ideal.main_v40)) (v21 : (c : Dev Cert.Kernel7Ideal.nD) → Buf (Elt Ideal) ((c.tc : Thread Cert.Kernel7Ideal.nD Cert.Kernel7Ideal.τ).loc Cert.Kernel7Ideal.main_v41)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_v17) = v1 c
          ∧ r.2.mem ((c.tc : Thread Cert.Kernel7Ideal.nD Cert.Kernel7Ideal.τ).loc Cert.Kernel7Ideal.main_v18) = v2 c
          ∧ r.2.mem ((c.tc : Thread Cert.Kernel7Ideal.nD Cert.Kernel7Ideal.τ).loc Cert.Kernel7Ideal.main_v19) = v3 c
          ∧ r.2.mem ((c.tc : Thread Cert.Kernel7Ideal.nD Cert.Kernel7Ideal.τ).loc Cert.Kernel7Ideal.main_v20) = v4 c
          ∧ r.2.mem ((c.tc : Thread Cert.Kernel7Ideal.nD Cert.Kernel7Ideal.τ).loc Cert.Kernel7Ideal.main_v22) = v5 c
          ∧ r.2.mem ((c.tc : Thread Cert.Kernel7Ideal.nD Cert.Kernel7Ideal.τ).loc Cert.Kernel7Ideal.main_v23) = v6 c
          ∧ r.2.mem ((c.tc : Thread Cert.Kernel7Ideal.nD Cert.Kernel7Ideal.τ).loc Cert.Kernel7Ideal.main_v24) = v7 c
          ∧ r.2.mem ((c.tc : Thread Cert.Kernel7Ideal.nD Cert.Kernel7Ideal.τ).loc Cert.Kernel7Ideal.main_v25) = v8 c
          ∧ r.2.mem ((c.tc : Thread Cert.Kernel7Ideal.nD Cert.Kernel7Ideal.τ).loc Cert.Kernel7Ideal.main_v26) = v9 c
          ∧ r.2.mem ((c.tc : Thread Cert.Kernel7Ideal.nD Cert.Kernel7Ideal.τ).loc Cert.Kernel7Ideal.main_v28) = v10 c
          ∧ r.2.mem ((c.tc : Thread Cert.Kernel7Ideal.nD Cert.Kernel7Ideal.τ).loc Cert.Kernel7Ideal.main_v29) = v11 c
          ∧ r.2.mem ((c.tc : Thread Cert.Kernel7Ideal.nD Cert.Kernel7Ideal.τ).loc Cert.Kernel7Ideal.main_v30) = v12 c
          ∧ r.2.mem ((c.tc : Thread Cert.Kernel7Ideal.nD Cert.Kernel7Ideal.τ).loc Cert.Kernel7Ideal.main_v31) = v13 c
          ∧ r.2.mem ((c.tc : Thread Cert.Kernel7Ideal.nD Cert.Kernel7Ideal.τ).loc Cert.Kernel7Ideal.main_v32) = v14 c
          ∧ r.2.mem ((c.tc : Thread Cert.Kernel7Ideal.nD Cert.Kernel7Ideal.τ).loc Cert.Kernel7Ideal.main_v34) = v15 c
          ∧ r.2.mem ((c.tc : Thread Cert.Kernel7Ideal.nD Cert.Kernel7Ideal.τ).loc Cert.Kernel7Ideal.main_v35) = v16 c
          ∧ r.2.mem ((c.tc : Thread Cert.Kernel7Ideal.nD Cert.Kernel7Ideal.τ).loc Cert.Kernel7Ideal.main_v36) = v17 c
          ∧ r.2.mem ((c.tc : Thread Cert.Kernel7Ideal.nD Cert.Kernel7Ideal.τ).loc Cert.Kernel7Ideal.main_v37) = v18 c
          ∧ r.2.mem ((c.tc : Thread Cert.Kernel7Ideal.nD Cert.Kernel7Ideal.τ).loc Cert.Kernel7Ideal.main_v38) = v19 c
          ∧ r.2.mem ((c.tc : Thread Cert.Kernel7Ideal.nD Cert.Kernel7Ideal.τ).loc Cert.Kernel7Ideal.main_v40) = v20 c
          ∧ r.2.mem ((c.tc : Thread Cert.Kernel7Ideal.nD Cert.Kernel7Ideal.τ).loc Cert.Kernel7Ideal.main_v41) = v21 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v174) = v0 c
          ∧ r.2.mem ((c.tc : Thread Cert.Reference7Ideal.nD Cert.Reference7Ideal.τ).loc Cert.Reference7Ideal.main_v49) = v1 c
          ∧ r.2.mem ((c.tc : Thread Cert.Reference7Ideal.nD Cert.Reference7Ideal.τ).loc Cert.Reference7Ideal.main_v50) = v2 c
          ∧ r.2.mem ((c.tc : Thread Cert.Reference7Ideal.nD Cert.Reference7Ideal.τ).loc Cert.Reference7Ideal.main_v48) = v3 c
          ∧ r.2.mem ((c.tc : Thread Cert.Reference7Ideal.nD Cert.Reference7Ideal.τ).loc Cert.Reference7Ideal.main_v51) = v4 c
          ∧ r.2.mem ((c.tc : Thread Cert.Reference7Ideal.nD Cert.Reference7Ideal.τ).loc Cert.Reference7Ideal.main_v53) = v5 c
          ∧ r.2.mem ((c.tc : Thread Cert.Reference7Ideal.nD Cert.Reference7Ideal.τ).loc Cert.Reference7Ideal.main_v77) = v6 c
          ∧ r.2.mem ((c.tc : Thread Cert.Reference7Ideal.nD Cert.Reference7Ideal.τ).loc Cert.Reference7Ideal.main_v101) = v7 c
          ∧ r.2.mem ((c.tc : Thread Cert.Reference7Ideal.nD Cert.Reference7Ideal.τ).loc Cert.Reference7Ideal.main_v125) = v8 c
          ∧ r.2.mem ((c.tc : Thread Cert.Reference7Ideal.nD Cert.Reference7Ideal.τ).loc Cert.Reference7Ideal.main_v149) = v9 c
          ∧ r.2.mem ((c.tc : Thread Cert.Reference7Ideal.nD Cert.Reference7Ideal.τ).loc Cert.Reference7Ideal.main_v173) = v10 c
          ∧ r.2.mem ((c.tc : Thread Cert.Reference7Ideal.nD Cert.Reference7Ideal.τ).loc Cert.Reference7Ideal.main_v58) = v11 c
          ∧ r.2.mem ((c.tc : Thread Cert.Reference7Ideal.nD Cert.Reference7Ideal.τ).loc Cert.Reference7Ideal.main_v82) = v12 c
          ∧ r.2.mem ((c.tc : Thread Cert.Reference7Ideal.nD Cert.Reference7Ideal.τ).loc Cert.Reference7Ideal.main_v106) = v13 c
          ∧ r.2.mem ((c.tc : Thread Cert.Reference7Ideal.nD Cert.Reference7Ideal.τ).loc Cert.Reference7Ideal.main_v130) = v14 c
          ∧ r.2.mem ((c.tc : Thread Cert.Reference7Ideal.nD Cert.Reference7Ideal.τ).loc Cert.Reference7Ideal.main_v154) = v15 c
          ∧ r.2.mem ((c.tc : Thread Cert.Reference7Ideal.nD Cert.Reference7Ideal.τ).loc Cert.Reference7Ideal.main_v64) = v16 c
          ∧ r.2.mem ((c.tc : Thread Cert.Reference7Ideal.nD Cert.Reference7Ideal.τ).loc Cert.Reference7Ideal.main_v88) = v17 c
          ∧ r.2.mem ((c.tc : Thread Cert.Reference7Ideal.nD Cert.Reference7Ideal.τ).loc Cert.Reference7Ideal.main_v112) = v18 c
          ∧ r.2.mem ((c.tc : Thread Cert.Reference7Ideal.nD Cert.Reference7Ideal.τ).loc Cert.Reference7Ideal.main_v136) = v19 c
          ∧ r.2.mem ((c.tc : Thread Cert.Reference7Ideal.nD Cert.Reference7Ideal.τ).loc Cert.Reference7Ideal.main_v160) = v20 c
          ∧ r.2.mem ((c.tc : Thread Cert.Reference7Ideal.nD Cert.Reference7Ideal.τ).loc Cert.Reference7Ideal.main_v177) = v21 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite_logits : Cert.Pre_finite_logits.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_logits (hKernel7Ideal := hKernel7Ideal) (hPre_finite_logits := hPre_finite_logits)
    ∧ quiescent_Reference7Ideal (hReference7Ideal := hReference7Ideal)
    ∧ quiescent_Reference7Ideal_pre_finite_logits (hReference7Ideal := hReference7Ideal) (hPre_finite_logits := hPre_finite_logits)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_logits (hKernel7Ideal := hKernel7Ideal) (hReference7Ideal := hReference7Ideal) (hPre_finite_logits := hPre_finite_logits)
-- ==== Pre_finite.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x5632 .f32) (main_arg3 : FVec F S2816x1024 .f32) (main_arg4 : FVec F S8192x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x5632 .f32 := Host.absf main_arg2
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S8192x1024 .f32 := Host.absf main_arg4
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_logits.lean ====
abbrev S8x8x1024 : Shape := ⟨3, ![8, 8, 1024]⟩
abbrev S2x1024 : Shape := ⟨2, ![2, 1024]⟩
abbrev S3x1024 : Shape := ⟨2, ![3, 1024]⟩
abbrev S1x128 : Shape := ⟨2, ![1, 128]⟩
abbrev S1024 : Shape := ⟨1, ![1024]⟩
abbrev S_ : Shape := ⟨0, ![]⟩

class Facts : Prop where
  reducesTo_S3x1024_S1024_d0 : S3x1024.ReducesTo [0] S1024
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x8x1024 .f32) (main_arg1 : FVec F S2x1024 .f32) (main_arg2 : FVec F S2x1024 .f32) (main_arg3 : FVec F S3x1024 .f32) (main_arg4 : FVec F S1x128 .f32) (main_arg5 : FVec F S1024 .f32) (main_arg6 : FVec F S2x1024 .f32) (main_arg7 : FVec F S2x1024 .f32) (main_arg8 : FVec F S3x1024 .f32) (main_arg9 : FVec F S1x128 .f32) (main_arg10 : FVec F S1024 .f32) (main_arg11 : FVec F S2x1024 .f32) (main_arg12 : FVec F S2x1024 .f32) (main_arg13 : FVec F S3x1024 .f32) (main_arg14 : FVec F S1x128 .f32) (main_arg15 : FVec F S1024 .f32) : IVec S_ 1 :=
  let main_cst : FVec F S_ .f32 := constant S_ .f32 0xFF800000#32
  let main_v0 : FVec F S1024 .f32 := (fun x v => Host.reduce FloatOps.maximumf x v reducesTo_S3x1024_S1024_d0 h_S_) main_arg3 main_cst
  let main_v1 : FVec F S1024 .f32 := Host.absf main_v0
  let main_cst_0 : FVec F S_ .f32 := constant S_ .f32 0x7F800000#32
  let main_v2 : FVec F S1024 .f32 := broadcastInDim S1024 ![] bcast_S_S1024 main_cst_0
  let main_v3 : IVec S1024 1 := cmpf .olt main_v1 main_v2
  let main_c : IVec S_ 1 := constantI S_ 1 1#1
  let main_v4 : IVec S_ 1 := (fun x v => Host.reduce IntOp.andi x v reducesTo_S1024_S_d0 h_S_) main_v3 main_c
  main_v4
-- ==== Kernel.lean ====
abbrev S8192x4x128 : Shape := ⟨3, ![8192, 4, 128]⟩
abbrev S8192x4 : Shape := ⟨2, ![8192, 4]⟩
abbrev S8192x64 : Shape := ⟨2, ![8192, 64]⟩
abbrev S8192x8x128 : Shape := ⟨3, ![8192, 8, 128]⟩
abbrev S8192x1x64 : Shape := ⟨3, ![8192, 1, 64]⟩
abbrev S8192x8x64 : Shape := ⟨3, ![8192, 8, 64]⟩
abbrev S8192x12x128 : Shape := ⟨3, ![8192, 12, 128]⟩
abbrev S2048x4x1536 : Shape := ⟨3, ![2048, 4, 1536]⟩
abbrev S4x2048x1536 : Shape := ⟨3, ![4, 2048, 1536]⟩
abbrev S8192x1536 : Shape := ⟨2, ![8192, 1536]⟩
abbrev S2048x4x512 : Shape := ⟨3, ![2048, 4, 512]⟩
abbrev S4x2048x512 : Shape := ⟨3, ![4, 2048, 512]⟩
abbrev S8192x512 : Shape := ⟨2, ![8192, 512]⟩
abbrev S8192x4x1 : Shape := ⟨3, ![8192, 4, 1]⟩
abbrev S8192x128 : Shape := ⟨2, ![8192, 128]⟩
abbrev S2048x4x128 : Shape := ⟨3, ![2048, 4, 128]⟩
abbrev S4x2048x128 : Shape := ⟨3, ![4, 2048, 128]⟩
abbrev S128x512 : Shape := ⟨2, ![128, 512]⟩
abbrev S256x512 : Shape := ⟨2, ![256, 512]⟩
abbrev S256x128 : Shape := ⟨2, ![256, 128]⟩
abbrev S256x1536 : Shape := ⟨2, ![256, 1536]⟩
abbrev S128x128 : Shape := ⟨2, ![128, 128]⟩

abbrev nBuf : Space → Nat
  | .hbm => 53
  | .vmem => 33
  | .smem => 0
  | _ => 0

abbrev bufTy : (tb : Table) → Fin (tcTables nBuf tb) → BufTy
  | .hbm, ⟨0, _⟩ => ⟨S8192x4x128, .f32⟩
  | .hbm, ⟨1, _⟩ => ⟨S8192x4x128, .f32⟩
  | .hbm, ⟨2, _⟩ => ⟨S8192x4x128, .f32⟩
  | .hbm, ⟨3, _⟩ => ⟨S8192x4x128, .f32⟩
  | .hbm, ⟨4, _⟩ => ⟨S8192x4, .f32⟩
  | .hbm, ⟨5, _⟩ => ⟨S8192x4, .f32⟩
  | .hbm, ⟨6, _⟩ => ⟨S8192x64, .f32⟩
  | .hbm, ⟨7, _⟩ => ⟨S8192x64, .f32⟩
  | .hbm, ⟨8, _⟩ => ⟨S8192x8x128, .f32⟩
  | .hbm, ⟨9, _⟩ => ⟨S8192x1x64, .f32⟩
  | .hbm, ⟨10, _⟩ => ⟨S8192x1x64, .f32⟩
  | .hbm, ⟨11, _⟩ => ⟨S8192x8x64, .f32⟩
  | .hbm, ⟨12, _⟩ => ⟨S8192x8x64, .f32⟩
  | .hbm, ⟨13, _⟩ => ⟨S8192x8x64, .f32⟩
  | .hbm, ⟨14, _⟩ => ⟨S8192x8x64, .f32⟩
  | .hbm, ⟨15, _⟩ => ⟨S8192x8x64, .f32⟩
  | .hbm, ⟨16, _⟩ => ⟨S8192x8x64, .f32⟩
  | .hbm, ⟨17, _⟩ => ⟨S8192x8x64, .f32⟩
  | .hbm, ⟨18, _⟩ => ⟨S8192x8x64, .f32⟩
  | .hbm, ⟨19, _⟩ => ⟨S8192x8x64, .f32⟩
  | .hbm, ⟨20, _⟩ => ⟨S8192x8x64, .f32⟩
  | .hbm, ⟨21, _⟩ => ⟨S8192x8x64, .f32⟩
  | .hbm, ⟨22, _⟩ => ⟨S8192x8x64, .f32⟩
  | .hbm, ⟨23, _⟩ => ⟨S8192x8x128, .f32⟩
  | .hbm, ⟨24, _⟩ => ⟨S8192x12x128, .f32⟩
  | .hbm, ⟨25, _⟩ => ⟨S2048x4x1536, .f32⟩
  | .hbm, ⟨26, _⟩ => ⟨S4x2048x1536, .f32⟩
  | .hbm, ⟨27, _⟩ => ⟨S8192x1536, .f32⟩
  | .hbm, ⟨28, _⟩ => ⟨S8192x1536, .bf16⟩
  | .hbm, ⟨29, _⟩ => ⟨S2048x4x512, .f32⟩
  | .hbm, ⟨30, _⟩ => ⟨S4x2048x512, .f32⟩
  | .hbm, ⟨31, _⟩ => ⟨S8192x512, .f32⟩
  | .hbm, ⟨32, _⟩ => ⟨S8192x512, .bf16⟩
  | .hbm, ⟨33, _⟩ => ⟨S8192x4x1, .f32⟩
  | .hbm, ⟨34, _⟩ => ⟨S8192x4x128, .f32⟩
  | .hbm, ⟨35, _⟩ => ⟨S2048x4x512, .f32⟩
  | .hbm, ⟨36, _⟩ => ⟨S4x2048x512, .f32⟩
  | .hbm, ⟨37, _⟩ => ⟨S8192x512, .f32⟩
  | .hbm, ⟨38, _⟩ => ⟨S8192x4x1, .f32⟩
  | .hbm, ⟨39, _⟩ => ⟨S8192x4x128, .f32⟩
  | .hbm, ⟨40, _⟩ => ⟨S2048x4x512, .f32⟩
  | .hbm, ⟨41, _⟩ => ⟨S4x2048x512, .f32⟩
  | .hbm, ⟨42, _⟩ => ⟨S8192x512, .f32⟩
  | .hbm, ⟨43, _⟩ => ⟨S8192x128, .f32⟩
  | .hbm, ⟨44, _⟩ => ⟨S2048x4x128, .f32⟩
  | .hbm, ⟨45, _⟩ => ⟨S4x2048x128, .f32⟩
  | .hbm, ⟨46, _⟩ => ⟨S8192x128, .f32⟩
  | .hbm, ⟨47, _⟩ => ⟨S8192x64, .f32⟩
  | .hbm, ⟨48, _⟩ => ⟨S8192x128, .f32⟩
  | .hbm, ⟨49, _⟩ => ⟨S2048x4x128, .f32⟩
  | .hbm, ⟨50, _⟩ => ⟨S4x2048x128, .f32⟩
  | .hbm, ⟨51, _⟩ => ⟨S8192x128, .f32⟩
  | .hbm, ⟨52, _⟩ => ⟨S8192x1536, .bf16⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S256x512, .bf16⟩
  | .local _ .vmem, ⟨5, _⟩ => ⟨S256x512, .bf16⟩
  | .local _ .vmem, ⟨6, _⟩ => ⟨S128x512, .bf16⟩
  | .local _ .vmem, ⟨7, _⟩ => ⟨S128x512, .bf16⟩
  | .local _ .vmem, ⟨8, _⟩ => ⟨S256x512, .bf16⟩
  | .local _ .vmem, ⟨9, _⟩ => ⟨S256x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x1536, .bf16⟩
  | .local _ .vmem, ⟨29, _⟩ => ⟨S256x1536, .bf16⟩
  | .local _ .vmem, ⟨30, _⟩ => ⟨S128x512, .f32⟩
  | .local _ .vmem, ⟨31, _⟩ => ⟨S128x512, .f32⟩
  | .local _ .vmem, ⟨32, _⟩ => ⟨S128x512, .f32⟩
  | _, _ => ⟨S8192x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c15_i32 : BitVec 32 := 15#32
  let v2 : BitVec 32 := Scalar.minsi v1 c15_i32
  let v3 : BitVec 32 := Scalar.addi v0 v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c15_i32 : BitVec 32 := 15#32
  let v2 : BitVec 32 := Scalar.minsi v1 c15_i32
  let v3 : BitVec 32 := Scalar.addi v0 v2
  let c1_i32 : BitVec 32 := 1#32
  let c0_i32 : BitVec 32 := 0#32
  ![v3.toNat, c1_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c15_i32 : BitVec 32 := 15#32
  let v2 : BitVec 32 := Scalar.minsi v1 c15_i32
  let v3 : BitVec 32 := Scalar.addi v0 v2
  let c2_i32_0 : BitVec 32 := 2#32
  let c0_i32 : BitVec 32 := 0#32
  ![v3.toNat, c2_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c15_i32 : BitVec 32 := 15#32
  let v2 : BitVec 32 := Scalar.minsi v1 c15_i32
  let v3 : BitVec 32 := Scalar.addi v0 v2
  let c0_i32 : BitVec 32 := 0#32
  let c0_i32_0 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c15_i32 : BitVec 32 := 15#32
  let v2 : BitVec 32 := Scalar.minsi v1 c15_i32
  let v3 : BitVec 32 := Scalar.addi v0 v2
  let c0_i32 : BitVec 32 := 0#32
  let c0_i32_0 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli c2_i32 arg1
  let c15_i32 : BitVec 32 := 15#32
  let v2 : BitVec 32 := Scalar.minsi v1 c15_i32
  let v3 : BitVec 32 := Scalar.addi v0 v2
  let c0_i32 : BitVec 32 := 0#32
  let c0_i32_0 : BitVec 32 := 0#32
  ![v3.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x4x128 : Shape := ⟨3, ![8192, 4, 128]⟩
abbrev S8192x4 : Shape := ⟨2, ![8192, 4]⟩
abbrev S8192x64 : Shape := ⟨2, ![8192, 64]⟩
abbrev S8192x1x64 : Shape := ⟨3, ![8192, 1, 64]⟩
abbrev S8192x4x64 : Shape := ⟨3, ![8192, 4, 64]⟩
abbrev S2048x4x4x128 : Shape := ⟨4, ![2048, 4, 4, 128]⟩
abbrev S4x4x2048x128 : Shape := ⟨4, ![4, 4, 2048, 128]⟩
abbrev S4x4x16x128x128 : Shape := ⟨5, ![4, 4, 16, 128, 128]⟩
abbrev S4x4x1x128x128 : Shape := ⟨5, ![4, 4, 1, 128, 128]⟩
abbrev S_ : Shape := ⟨0, ![]⟩
abbrev S4x4x15x128x128 : Shape := ⟨5, ![4, 4, 15, 128, 128]⟩
abbrev S4x4x16x256x128 : Shape := ⟨5, ![4, 4, 16, 256, 128]⟩
abbrev S4x4x16x128x256 : Shape := ⟨5, ![4, 4, 16, 128, 256]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S256 : Shape := ⟨1, ![256]⟩
abbrev S1x1x256 : Shape := ⟨3, ![1, 1, 256]⟩
abbrev S16x1x256 : Shape := ⟨3, ![16, 1, 256]⟩
abbrev S16x128x256 : Shape := ⟨3, ![16, 128, 256]⟩
abbrev S2048x4x4 : Shape := ⟨3, ![2048, 4, 4]⟩
abbrev S4x4x2048 : Shape := ⟨3, ![4, 4, 2048]⟩
abbrev S4x4x16x128x1 : Shape := ⟨5, ![4, 4, 16, 128, 1]⟩
abbrev S4x4x16x128 : Shape := ⟨4, ![4, 4, 16, 128]⟩
abbrev S2048x4x512 : Shape := ⟨3, ![2048, 4, 512]⟩
abbrev S4x2048x512 : Shape := ⟨3, ![4, 2048, 512]⟩
abbrev S8192x512 : Shape := ⟨2, ![8192, 512]⟩
abbrev S8192x1536 : Shape := ⟨2, ![8192, 1536]⟩

abbrev nBuf : Space → Nat
  | .hbm => 205
  | .vmem => 0
  | .smem => 0
  | _ => 0

abbrev hbmTy0_0 (i : Nat) : BufTy := match i % 128 with
  | 0 => ⟨S8192x4x128, .f32⟩
  | 1 => ⟨S8192x4x128, .f32⟩
  | 2 => ⟨S8192x4x128, .f32⟩
  | 3 => ⟨S8192x4x128, .f32⟩
  | 4 => ⟨S8192x4, .f32⟩
  | 5 => ⟨S8192x4, .f32⟩
  | 6 => ⟨S8192x64, .f32⟩
  | 7 => ⟨S8192x64, .f32⟩
  | 8 => ⟨S8192x1x64, .f32⟩
  | 9 => ⟨S8192x1x64, .f32⟩
  | 10 => ⟨S8192x4x64, .f32⟩
  | 11 => ⟨S8192x4x64, .f32⟩
  | 12 => ⟨S8192x4x64, .f32⟩
  | 13 => ⟨S8192x4x64, .f32⟩
  | 14 => ⟨S8192x4x64, .f32⟩
  | 15 => ⟨S8192x4x64, .f32⟩
  | 16 => ⟨S8192x4x64, .f32⟩
  | 17 => ⟨S8192x4x64, .f32⟩
  | 18 => ⟨S8192x4x64, .f32⟩
  | 19 => ⟨S8192x4x64, .f32⟩
  | 20 => ⟨S8192x4x64, .f32⟩
  | 21 => ⟨S8192x4x64, .f32⟩
  | 22 => ⟨S8192x4x128, .f32⟩
  | 23 => ⟨S8192x1x64, .f32⟩
  | 24 => ⟨S8192x1x64, .f32⟩
  | 25 => ⟨S8192x4x64, .f32⟩
  | 26 => ⟨S8192x4x64, .f32⟩
  | 27 => ⟨S8192x4x64, .f32⟩
  | 28 => ⟨S8192x4x64, .f32⟩
  | 29 => ⟨S8192x4x64, .f32⟩
  | 30 => ⟨S8192x4x64, .f32⟩
  | 31 => ⟨S8192x4x64, .f32⟩
  | 32 => ⟨S8192x4x64, .f32⟩
  | 33 => ⟨S8192x4x64, .f32⟩
  | 34 => ⟨S8192x4x64, .f32⟩
  | 35 => ⟨S8192x4x64, .f32⟩
  | 36 => ⟨S8192x4x64, .f32⟩
  | 37 => ⟨S8192x4x128, .f32⟩
  | 38 => ⟨S2048x4x4x128, .f32⟩
  | 39 => ⟨S4x4x2048x128, .f32⟩
  | 40 => ⟨S4x4x16x128x128, .f32⟩
  | 41 => ⟨S2048x4x4x128, .f32⟩
  | 42 => ⟨S4x4x2048x128, .f32⟩
  | 43 => ⟨S4x4x16x128x128, .f32⟩
  | 44 => ⟨S4x4x1x128x128, .f32⟩
  | 45 => ⟨S_, .f32⟩
  | 46 => ⟨S4x4x1x128x128, .f32⟩
  | 47 => ⟨S4x4x15x128x128, .f32⟩
  | 48 => ⟨S4x4x16x128x128, .f32⟩
  | 49 => ⟨S_, .f32⟩
  | 50 => ⟨S4x4x1x128x128, .f32⟩
  | 51 => ⟨S4x4x16x256x128, .f32⟩
  | 52 => ⟨S2048x4x4x128, .f32⟩
  | 53 => ⟨S4x4x2048x128, .f32⟩
  | 54 => ⟨S4x4x16x128x128, .f32⟩
  | 55 => ⟨S4x4x1x128x128, .f32⟩
  | 56 => ⟨S_, .f32⟩
  | 57 => ⟨S4x4x1x128x128, .f32⟩
  | 58 => ⟨S4x4x15x128x128, .f32⟩
  | 59 => ⟨S4x4x16x128x128, .f32⟩
  | 60 => ⟨S_, .f32⟩
  | 61 => ⟨S4x4x1x128x128, .f32⟩
  | 62 => ⟨S4x4x16x256x128, .f32⟩
  | 63 => ⟨S4x4x16x128x256, .f32⟩
  | 64 => ⟨S_, .f32⟩
  | 65 => ⟨S4x4x16x128x256, .f32⟩
  | 66 => ⟨S4x4x16x128x256, .f32⟩
  | 67 => ⟨S16, .i32⟩
  | 68 => ⟨S16x1x1, .i32⟩
  | 69 => ⟨S_, .i32⟩
  | 70 => ⟨S16x1x1, .i32⟩
  | 71 => ⟨S16x1x1, .i32⟩
  | 72 => ⟨S128, .i32⟩
  | 73 => ⟨S1x128x1, .i32⟩
  | 74 => ⟨S16x128x1, .i32⟩
  | 75 => ⟨S16x128x1, .i32⟩
  | 76 => ⟨S16x128x1, .i32⟩
  | 77 => ⟨S_, .i32⟩
  | 78 => ⟨S16x1x1, .i32⟩
  | 79 => ⟨S16x1x1, .i32⟩
  | 80 => ⟨S256, .i32⟩
  | 81 => ⟨S1x1x256, .i32⟩
  | 82 => ⟨S16x1x256, .i32⟩
  | 83 => ⟨S16x1x256, .i32⟩
  | 84 => ⟨S16x1x256, .i32⟩
  | 85 => ⟨S16x128x256, .i32⟩
  | 86 => ⟨S16x128x256, .i32⟩
  | 87 => ⟨S16x128x256, .i1⟩
  | 88 => ⟨S_, .i32⟩
  | 89 => ⟨S16x128x1, .i32⟩
  | 90 => ⟨S16x128x1, .i32⟩
  | 91 => ⟨S16x128x256, .i32⟩
  | 92 => ⟨S16x128x256, .i32⟩
  | 93 => ⟨S16x128x256, .i1⟩
  | 94 => ⟨S16x128x256, .i1⟩
  | 95 => ⟨S_, .i32⟩
  | 96 => ⟨S16x1x256, .i32⟩
  | 97 => ⟨S16x1x256, .i1⟩
  | 98 => ⟨S16x128x256, .i1⟩
  | 99 => ⟨S16x128x256, .i1⟩
  | 100 => ⟨S_, .f32⟩
  | 101 => ⟨S_, .f32⟩
  | 102 => ⟨S4x4x16x128x256, .i1⟩
  | 103 => ⟨S4x4x16x128x256, .f32⟩
  | 104 => ⟨S4x4x16x128x256, .f32⟩
  | 105 => ⟨S_, .f32⟩
  | 106 => ⟨S4x4x16x128x256, .f32⟩
  | 107 => ⟨S2048x4x4, .f32⟩
  | 108 => ⟨S4x4x2048, .f32⟩
  | 109 => ⟨S4x4x16x128x1, .f32⟩
  | 110 => ⟨S4x4x16x128x256, .f32⟩
  | 111 => ⟨S4x4x16x128x256, .f32⟩
  | 112 => ⟨S4x4x16x128x256, .f32⟩
  | 113 => ⟨S4x4x16x128x128, .f32⟩
  | 114 => ⟨S_, .f32⟩
  | 115 => ⟨S4x4x16x128, .f32⟩
  | 116 => ⟨S4x4x2048x128, .f32⟩
  | 117 => ⟨S2048x4x4x128, .f32⟩
  | 118 => ⟨S8192x4x128, .f32⟩
  | 119 => ⟨S4x4x2048, .f32⟩
  | 120 => ⟨S2048x4x4, .f32⟩
  | 121 => ⟨S8192x4, .f32⟩
  | 122 => ⟨S8192x4, .f32⟩
  | 123 => ⟨S2048x4x4, .f32⟩
  | 124 => ⟨S4x4x2048, .f32⟩
  | 125 => ⟨S4x4x16x128, .f32⟩
  | 126 => ⟨S2048x4x4x128, .f32⟩
  | 127 => ⟨S4x4x2048x128, .f32⟩
  | _ => ⟨S8192x4x128, .f32⟩

abbrev hbmTy0_1 (i : Nat) : BufTy := match i % 128 with
  | 0 => ⟨S4x4x16x128x128, .f32⟩
  | 1 => ⟨S4x4x16x128x256, .f32⟩
  | 2 => ⟨S4x4x16x128x256, .f32⟩
  | 3 => ⟨S4x4x16x256x128, .f32⟩
  | 4 => ⟨S4x4x16x128x256, .f32⟩
  | 5 => ⟨S4x4x16x128x256, .f32⟩
  | 6 => ⟨S4x4x16x128x256, .f32⟩
  | 7 => ⟨S_, .f32⟩
  | 8 => ⟨S4x4x16x128x256, .f32⟩
  | 9 => ⟨S4x4x16x128x256, .f32⟩
  | 10 => ⟨S_, .f32⟩
  | 11 => ⟨S4x4x16x128x256, .f32⟩
  | 12 => ⟨S4x4x16x128x256, .f32⟩
  | 13 => ⟨S4x4x16x256x128, .f32⟩
  | 14 => ⟨S4x4x16x128x128, .f32⟩
  | 15 => ⟨S4x4x16x128x128, .f32⟩
  | 16 => ⟨S4x4x16x128x128, .f32⟩
  | 17 => ⟨S4x4x1x128x128, .f32⟩
  | 18 => ⟨S4x4x15x128x128, .f32⟩
  | 19 => ⟨S_, .f32⟩
  | 20 => ⟨S4x4x16x128x128, .f32⟩
  | 21 => ⟨S4x4x16x128x128, .f32⟩
  | 22 => ⟨S4x4x2048x128, .f32⟩
  | 23 => ⟨S2048x4x4x128, .f32⟩
  | 24 => ⟨S8192x4x128, .f32⟩
  | 25 => ⟨S4x4x16x128x128, .f32⟩
  | 26 => ⟨S4x4x16x128x128, .f32⟩
  | 27 => ⟨S4x4x1x128x128, .f32⟩
  | 28 => ⟨S4x4x15x128x128, .f32⟩
  | 29 => ⟨S_, .f32⟩
  | 30 => ⟨S4x4x16x128x128, .f32⟩
  | 31 => ⟨S4x4x16x128x128, .f32⟩
  | 32 => ⟨S4x4x2048x128, .f32⟩
  | 33 => ⟨S2048x4x4x128, .f32⟩
  | 34 => ⟨S8192x4x128, .f32⟩
  | 35 => ⟨S4x4x2048x128, .f32⟩
  | 36 => ⟨S2048x4x4x128, .f32⟩
  | 37 => ⟨S8192x4x128, .f32⟩
  | 38 => ⟨S8192x4x64, .f32⟩
  | 39 => ⟨S8192x4x64, .f32⟩
  | 40 => ⟨S8192x4x64, .f32⟩
  | 41 => ⟨S8192x4x64, .f32⟩
  | 42 => ⟨S8192x4x64, .f32⟩
  | 43 => ⟨S8192x4x64, .f32⟩
  | 44 => ⟨S8192x4x64, .f32⟩
  | 45 => ⟨S8192x4x64, .f32⟩
  | 46 => ⟨S8192x4x64, .f32⟩
  | 47 => ⟨S8192x4x64, .f32⟩
  | 48 => ⟨S8192x4x64, .f32⟩
  | 49 => ⟨S8192x4x64, .f32⟩
  | 50 => ⟨S8192x4x64, .f32⟩
  | 51 => ⟨S8192x4x128, .f32⟩
  | 52 => ⟨S8192x4x64, .f32⟩
  | 53 => ⟨S8192x4x64, .f32⟩
  | 54 => ⟨S8192x4x64, .f32⟩
  | 55 => ⟨S8192x4x64, .f32⟩
  | 56 => ⟨S8192x4x64, .f32⟩
  | 57 => ⟨S8192x4x64, .f32⟩
  | 58 => ⟨S8192x4x64, .f32⟩
  | 59 => ⟨S8192x4x64, .f32⟩
  | 60 => ⟨S8192x4x64, .f32⟩
  | 61 => ⟨S8192x4x64, .f32⟩
  | 62 => ⟨S8192x4x64, .f32⟩
  | 63 => ⟨S8192x4x64, .f32⟩
  | 64 => ⟨S8192x4x64, .f32⟩
  | 65 => ⟨S8192x4x128, .f32⟩
  | 66 => ⟨S2048x4x512, .f32⟩
  | 67 => ⟨S4x2048x512, .f32⟩
  | 68 => ⟨S8192x512, .f32⟩
  | 69 => ⟨S2048x4x512, .f32⟩
  | 70 => ⟨S4x2048x512, .f32⟩
  | 71 => ⟨S8192x512, .f32⟩
  | 72 => ⟨S2048x4x512, .f32⟩
  | 73 => ⟨S4x2048x512, .f32⟩
  | 74 => ⟨S8192x512, .f32⟩
  | 75 => ⟨S8192x1536, .f32⟩
  | 76 => ⟨S8192x1536, .bf16⟩
  | _ => ⟨S8192x4x128, .f32⟩

abbrev hbmTy (i : Nat) : BufTy := match i / 128 with
  | 0 => hbmTy0_0 i
  | 1 => hbmTy0_1 i
  | _ => ⟨S8192x4x128, .f32⟩

abbrev bufTy : (tb : Table) → Fin (tcTables nBuf tb) → BufTy
  | .hbm, ⟨i, _⟩ => hbmTy i
  | _, _ => ⟨S8192x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_0 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_1 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_2 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_3 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_c_4 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_c_5 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_c_6 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_7 : Ref sig .tc := ⟨.hbm, 100, rfl⟩
abbrev main_call0_v0 : Ref sig .tc := ⟨.hbm, 101, rfl⟩
abbrev main_v83_1 : Ref sig .tc := ⟨.hbm, 102, rfl⟩
abbrev main_call0_v2 : Ref sig .tc := ⟨.hbm, 103, rfl⟩
abbrev main_v83_0 : Ref sig .tc := ⟨.hbm, 104, rfl⟩
abbrev main_call0_cst : Ref sig .tc := ⟨.hbm, 105, rfl⟩
abbrev main_v83_2 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_8 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_call1_cst : Ref sig .tc := ⟨.hbm, 135, rfl⟩
abbrev main_call1_v0 : Ref sig .tc := ⟨.hbm, 136, rfl⟩
abbrev main_v111 : Ref sig .tc := ⟨.hbm, 137, rfl⟩
abbrev main_cst_9 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_10 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_11 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S5632x1024 : Shape := ⟨2, ![5632, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S8192x256 : Shape := ⟨2, ![8192, 256]⟩
abbrev S256x2816 : Shape := ⟨2, ![256, 2816]⟩
abbrev S256 : Shape := ⟨1, ![256]⟩
abbrev S256x1 : Shape := ⟨2, ![256, 1]⟩

abbrev nBuf : Space → Nat
  | .hbm => 22
  | .vmem => 58
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S1x1024, .f32⟩
  | .hbm, ⟨6, _⟩ => ⟨S5632x1024, .f32⟩
  | .hbm, ⟨7, _⟩ => ⟨S5632x1024, .bf16⟩
  | .hbm, ⟨8, _⟩ => ⟨S2816x1024, .bf16⟩
  | .hbm, ⟨9, _⟩ => ⟨S8192x1024, .bf16⟩
  | .hbm, ⟨10, _⟩ => ⟨S8192x1024, .bf16⟩
  | .hbm, ⟨11, _⟩ => ⟨S8192x2816, .bf16⟩
  | .hbm, ⟨12, _⟩ => ⟨S8192x2816, .bf16⟩
  | .hbm, ⟨13, _⟩ => ⟨S8192x2816, .bf16⟩
  | .hbm, ⟨14, _⟩ => ⟨S8192x1024, .f32⟩
  | .hbm, ⟨15, _⟩ => ⟨S8192x2816, .bf16⟩
  | .hbm, ⟨16, _⟩ => ⟨S8192x2816, .bf16⟩
  | .hbm, ⟨17, _⟩ => ⟨S2816x1024, .bf16⟩
  | .hbm, ⟨18, _⟩ => ⟨S5632x1024, .bf16⟩
  | .hbm, ⟨19, _⟩ => ⟨S8192x1024, .f32⟩
  | .hbm, ⟨20, _⟩ => ⟨S8192x1024, .bf16⟩
  | .hbm, ⟨21, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S2816x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S2816x1024, .bf16⟩
  | .local _ .vmem, ⟨22, _⟩ => ⟨S512x2816, .bf16⟩
  | .local _ .vmem, ⟨23, _⟩ => ⟨S512x2816, .bf16⟩
  | .local _ .vmem, ⟨24, _⟩ => ⟨S512x2816, .bf16⟩
  | .local _ .vmem, ⟨25, _⟩ => ⟨S512x2816, .bf16⟩
  | .local _ .vmem, ⟨26, _⟩ => ⟨S512x2816, .bf16⟩
  | .local _ .vmem, ⟨27, _⟩ => ⟨S512x2816, .bf16⟩
  | .local _ .vmem, ⟨28, _⟩ => ⟨S512x2816, .bf16⟩
  | .local _ .vmem, ⟨29, _⟩ => ⟨S512x2816, .bf16⟩
  | .local _ .vmem, ⟨30, _⟩ => ⟨S8192x256, .bf16⟩
  | .local _ .vmem, ⟨31, _⟩ => ⟨S8192x256, .bf16⟩
  | .local _ .vmem, ⟨32, _⟩ => ⟨S8192x1024, .bf16⟩
  | .local _ .vmem, ⟨33, _⟩ => ⟨S256x1024, .bf16⟩
  | .local _ .vmem, ⟨34, _⟩ => ⟨S256x1024, .bf16⟩
  | .local _ .vmem, ⟨35, _⟩ => ⟨S8192x256, .bf16⟩
  | .local _ .vmem, ⟨36, _⟩ => ⟨S8192x256, .bf16⟩
  | .local _ .vmem, ⟨37, _⟩ => ⟨S8192x256, .bf16⟩
  | .local _ .vmem, ⟨38, _⟩ => ⟨S8192x256, .bf16⟩
  | .local _ .vmem, ⟨39, _⟩ => ⟨S8192x1024, .bf16⟩
  | .local _ .vmem, ⟨40, _⟩ => ⟨S256x1024, .bf16⟩
  | .local _ .vmem, ⟨41, _⟩ => ⟨S256x1024, .bf16⟩
  | .local _ .vmem, ⟨42, _⟩ => ⟨S512x2816, .bf16⟩
  | .local _ .vmem, ⟨43, _⟩ => ⟨S512x2816, .bf16⟩
  | .local _ .vmem, ⟨44, _⟩ => ⟨S512x2816, .bf16⟩
  | .local _ .vmem, ⟨45, _⟩ => ⟨S512x2816, .bf16⟩
  | .local _ .vmem, ⟨46, _⟩ => ⟨S2816x1024, .bf16⟩
  | .local _ .vmem, ⟨47, _⟩ => ⟨S2816x1024, .bf16⟩
  | .local _ .vmem, ⟨48, _⟩ => ⟨S512x1024, .f32⟩
  | .local _ .vmem, ⟨49, _⟩ => ⟨S512x1024, .f32⟩
  | .local _ .vmem, ⟨50, _⟩ => ⟨S512x1024, .f32⟩
  | .local _ .vmem, ⟨51, _⟩ => ⟨S512x1024, .f32⟩
  | .local _ .vmem, ⟨52, _⟩ => ⟨S1x1024, .f32⟩
  | .local _ .vmem, ⟨53, _⟩ => ⟨S512x1024, .f32⟩
  | .local _ .vmem, ⟨54, _⟩ => ⟨S512x1024, .f32⟩
  | .local _ .vmem, ⟨55, _⟩ => ⟨S512x1024, .bf16⟩
  | .local _ .vmem, ⟨56, _⟩ => ⟨S512x1024, .bf16⟩
  | .local _ .vmem, ⟨57, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg4_1 : Ref sig .tc := ⟨.vmem, 49, rfl⟩
abbrev cc5_stg5_0 : Ref sig .tc := ⟨.vmem, 50, rfl⟩
abbrev cc5_stg5_1 : Ref sig .tc := ⟨.vmem, 51, rfl⟩
abbrev cc5_stg6_0 : Ref sig .tc := ⟨.vmem, 52, rfl⟩
abbrev cc5_stg7_0 : Ref sig .tc := ⟨.vmem, 53, rfl⟩
abbrev cc5_stg7_1 : Ref sig .tc := ⟨.vmem, 54, rfl⟩
abbrev cc5_stg8_0 : Ref sig .tc := ⟨.vmem, 55, rfl⟩
abbrev cc5_stg8_1 : Ref sig .tc := ⟨.vmem, 56, rfl⟩
abbrev cc5_stg9_0 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem3_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem4_1 : DmaSem sig := 49
abbrev cc5_sem5_0 : DmaSem sig := 50
abbrev cc5_sem5_1 : DmaSem sig := 51
abbrev cc5_sem6_0 : DmaSem sig := 52
abbrev cc5_sem7_0 : DmaSem sig := 53
abbrev cc5_sem7_1 : DmaSem sig := 54
abbrev cc5_sem8_0 : DmaSem sig := 55
abbrev cc5_sem8_1 : DmaSem sig := 56
abbrev cc5_sem9_0 : DmaSem sig := 57

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2816 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x2816 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x2816 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x2816 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![11], ![false]⟩

def k3_cond1 (i : grid3.Coords) : BitVec 1 :=
  let arg0 : BitVec 32 := BitVec.ofNat 32 (i 0).val
  let c0_i32 : BitVec 32 := 0#32
  let v0 : BitVec 1 := Scalar.cmpi .sge arg0 c0_i32
  let c11_i32 : BitVec 32 := 11#32
  let v1 : BitVec 1 := Scalar.cmpi .slt arg0 c11_i32
  let v2 : BitVec 1 := Scalar.andi v0 v1
  let v3 : BitVec 32 := Scalar.extui v2
  let c0_i32_0 : BitVec 32 := 0#32
  let v4 : BitVec 1 := Scalar.cmpi .ne v3 c0_i32_0
  v4

def cc3_transform_0 (i : grid3.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![22], ![false]⟩

def k4_cond1 (i : grid4.Coords) : BitVec 1 :=
  let arg0 : BitVec 32 := BitVec.ofNat 32 (i 0).val
  let c0_i32 : BitVec 32 := 0#32
  let v0 : BitVec 1 := Scalar.cmpi .sge arg0 c0_i32
  let c11_i32 : BitVec 32 := 11#32
  let v1 : BitVec 1 := Scalar.cmpi .slt arg0 c11_i32
  let v2 : BitVec 1 := Scalar.andi v0 v1
  let v3 : BitVec 32 := Scalar.extui v2
  let c0_i32_0 : BitVec 32 := 0#32
  let v4 : BitVec 1 := Scalar.cmpi .ne v3 c0_i32_0
  v4

def k4_cond2 (i : grid4.Coords) : BitVec 1 :=
  let arg0 : BitVec 32 := BitVec.ofNat 32 (i 0).val
  let c11_i32_1 : BitVec 32 := 11#32
  let v5 : BitVec 1 := Scalar.cmpi .sge arg0 c11_i32_1
  let c22_i32 : BitVec 32 := 22#32
  let v6 : BitVec 1 := Scalar.cmpi .slt arg0 c22_i32
  let v7 : BitVec 1 := Scalar.andi v5 v6
  let v8 : BitVec 32 := Scalar.extui v7
  let c0_i32_2 : BitVec 32 := 0#32
  let v9 : BitVec 1 := Scalar.cmpi .ne v8 c0_i32_2
  v9

def cc4_transform_0 (i : grid4.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc4_transform_1 (i : grid4.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  ![c0_i32_0.toNat, v2.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S8192x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x2816 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x2816 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S2816x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2816x1024 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S512x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S512x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S512x1024 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S512x1024 .bf16 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 1 → Memref sig .tc .vmem S1x1024 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]
-- ==== Reference2Ideal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1024x2816 : Shape := ⟨2, ![1024, 2816]⟩
abbrev S5632x1024 : Shape := ⟨2, ![5632, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1024x2816, .f32⟩
  | .hbm, ⟨46, _⟩ => ⟨S2816x1024, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x5632, .f32⟩
  | .hbm, ⟨55, _⟩ => ⟨S5632x1024, .f32⟩
  | .hbm, ⟨56, _⟩ => ⟨S1024x5632, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .bf16⟩
  | .hbm, ⟨85, _⟩ => ⟨S1x1024, .f32⟩
  | .hbm, ⟨86, _⟩ => ⟨S5632x1024, .f32⟩
  | .hbm, ⟨87, _⟩ => ⟨S5632x1024, .bf16⟩
  | .hbm, ⟨88, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_3 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_4 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x4096 : Shape := ⟨2, ![1024, 4096]⟩
abbrev S1024x1024 : Shape := ⟨2, ![1024, 1024]⟩
abbrev S8192x4096 : Shape := ⟨2, ![8192, 4096]⟩
abbrev S1x1024 : Shape := ⟨2, ![1, 1024]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩
abbrev S512x512 : Shape := ⟨2, ![512, 512]⟩
abbrev S8192x256 : Shape := ⟨2, ![8192, 256]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 23
  | .vmem => 45
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S1024x1024, .f32⟩
  | .hbm, ⟨4, _⟩ => ⟨S8192x1024, .f32⟩
  | .hbm, ⟨5, _⟩ => ⟨S8192x4096, .f32⟩
  | .hbm, ⟨6, _⟩ => ⟨S8192x1024, .f32⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1024x1024, .bf16⟩
  | .hbm, ⟨11, _⟩ => ⟨S8192x1024, .bf16⟩
  | .hbm, ⟨12, _⟩ => ⟨S8192x4096, .bf16⟩
  | .hbm, ⟨13, _⟩ => ⟨S8192x1024, .bf16⟩
  | .hbm, ⟨14, _⟩ => ⟨S8192x1024, .bf16⟩
  | .hbm, ⟨15, _⟩ => ⟨S8192x4096, .f32⟩
  | .hbm, ⟨16, _⟩ => ⟨S8192x1024, .f32⟩
  | .hbm, ⟨17, _⟩ => ⟨S8192x1024, .f32⟩
  | .hbm, ⟨18, _⟩ => ⟨S1024x1024, .bf16⟩
  | .hbm, ⟨19, _⟩ => ⟨S4096x1024, .bf16⟩
  | .hbm, ⟨20, _⟩ => ⟨S8192x1024, .f32⟩
  | .hbm, ⟨21, _⟩ => ⟨S8192x1024, .bf16⟩
  | .hbm, ⟨22, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S4096x1024, .bf16⟩
  | .local _ .vmem, ⟨8, _⟩ => ⟨S512x4096, .f32⟩
  | .local _ .vmem, ⟨9, _⟩ => ⟨S512x4096, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S8192x256, .bf16⟩
  | .local _ .vmem, ⟨23, _⟩ => ⟨S8192x256, .bf16⟩
  | .local _ .vmem, ⟨24, _⟩ => ⟨S8192x1024, .bf16⟩
  | .local _ .vmem, ⟨25, _⟩ => ⟨S256x1024, .bf16⟩
  | .local _ .vmem, ⟨26, _⟩ => ⟨S256x1024, .bf16⟩
  | .local _ .vmem, ⟨27, _⟩ => ⟨S8192x256, .bf16⟩
  | .local _ .vmem, ⟨28, _⟩ => ⟨S8192x256, .bf16⟩
  | .local _ .vmem, ⟨29, _⟩ => ⟨S8192x1024, .bf16⟩
  | .local _ .vmem, ⟨30, _⟩ => ⟨S256x1024, .bf16⟩
  | .local _ .vmem, ⟨31, _⟩ => ⟨S256x1024, .bf16⟩
  | .local _ .vmem, ⟨32, _⟩ => ⟨S512x4096, .bf16⟩
  | .local _ .vmem, ⟨33, _⟩ => ⟨S512x4096, .bf16⟩
  | .local _ .vmem, ⟨34, _⟩ => ⟨S4096x1024, .bf16⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S1x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .bf16⟩
  | .local _ .vmem, ⟨43, _⟩ => ⟨S512x1024, .bf16⟩
  | .local _ .vmem, ⟨44, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc6_stg3_0 : Ref sig .tc := ⟨.vmem, 37, rfl⟩
abbrev cc6_stg3_1 : Ref sig .tc := ⟨.vmem, 38, rfl⟩
abbrev cc6_stg4_0 : Ref sig .tc := ⟨.vmem, 39, rfl⟩
abbrev cc6_stg5_0 : Ref sig .tc := ⟨.vmem, 40, rfl⟩
abbrev cc6_stg5_1 : Ref sig .tc := ⟨.vmem, 41, rfl⟩
abbrev cc6_stg6_0 : Ref sig .tc := ⟨.vmem, 42, rfl⟩
abbrev cc6_stg6_1 : Ref sig .tc := ⟨.vmem, 43, rfl⟩
abbrev cc6_stg7_0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc6_sem3_0 : DmaSem sig := 37
abbrev cc6_sem3_1 : DmaSem sig := 38
abbrev cc6_sem4_0 : DmaSem sig := 39
abbrev cc6_sem5_0 : DmaSem sig := 40
abbrev cc6_sem5_1 : DmaSem sig := 41
abbrev cc6_sem6_0 : DmaSem sig := 42
abbrev cc6_sem6_1 : DmaSem sig := 43
abbrev cc6_sem7_0 : DmaSem sig := 44

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def k4_cond1 (i : grid4.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def cc4_transform_0 (i : grid4.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![16], ![false]⟩

def k5_cond1 (i : grid5.Coords) : BitVec 1 :=
  let arg0 : BitVec 32 := BitVec.ofNat 32 (i 0).val
  let c0_i32 : BitVec 32 := 0#32
  let v0 : BitVec 1 := Scalar.cmpi .sge arg0 c0_i32
  let c16_i32 : BitVec 32 := 16#32
  let v1 : BitVec 1 := Scalar.cmpi .slt arg0 c16_i32
  let v2 : BitVec 1 := Scalar.andi v0 v1
  let v3 : BitVec 32 := Scalar.extui v2
  let c0_i32_0 : BitVec 32 := 0#32
  let v4 : BitVec 1 := Scalar.cmpi .ne v3 c0_i32_0
  v4

def cc5_transform_0 (i : grid5.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![c0_i32_1.toNat, v2.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8192x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S512x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S4096x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S512x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S512x1024 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]
-- ==== Reference3Ideal.lean ====
abbrev S8192x1024 : Shape := ⟨2, ![8192, 1024]⟩
abbrev S1024 : Shape := ⟨1, ![1024]⟩
abbrev S1024x4096 : Shape := ⟨2, ![1024, 4096]⟩
abbrev S1024x1024 : Shape := ⟨2, ![1024, 1024]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S1024x1024, .f32⟩
  | .hbm, ⟨4, _⟩ => ⟨S8192x1024, .f32⟩
  | .hbm, ⟨5, _⟩ => ⟨S8192x4096, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x4096, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x1024, .f32⟩
  | .hbm, ⟨32, _⟩ => ⟨S1024x1024, .f32⟩
  | .hbm, ⟨33, _⟩ => ⟨S8192x1024, .f32⟩
  | .hbm, ⟨34, _⟩ => ⟨S4096x1024, .f32⟩
  | .hbm, ⟨35, _⟩ => ⟨S1024x4096, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | .hbm, ⟨64, _⟩ => ⟨S1x1024, .f32⟩
  | .hbm, ⟨65, _⟩ => ⟨S4096x1024, .f32⟩
  | .hbm, ⟨66, _⟩ => ⟨S4096x1024, .bf16⟩
  | .hbm, ⟨67, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Kernel4.lean ====
abbrev S8192x1024 : Shape := ⟨2, ![8192, 1024]⟩
abbrev S1024x4608 : Shape := ⟨2, ![1024, 4608]⟩
abbrev S1536x1024 : Shape := ⟨2, ![1536, 1024]⟩
abbrev S8192x64 : Shape := ⟨2, ![8192, 64]⟩
abbrev S8192x1536 : Shape := ⟨2, ![8192, 1536]⟩
abbrev S4608x1024 : Shape := ⟨2, ![4608, 1024]⟩
abbrev S8192x128 : Shape := ⟨2, ![8192, 128]⟩
abbrev S2048x4x1024 : Shape := ⟨3, ![2048, 4, 1024]⟩
abbrev S4x2048x1024 : Shape := ⟨3, ![4, 2048, 1024]⟩
abbrev S512x16x1024 : Shape := ⟨3, ![512, 16, 1024]⟩
abbrev S16x512x1024 : Shape := ⟨3, ![16, 512, 1024]⟩
abbrev S2048x4x128 : Shape := ⟨3, ![2048, 4, 128]⟩
abbrev S4x2048x128 : Shape := ⟨3, ![4, 2048, 128]⟩
abbrev S512x16x128 : Shape := ⟨3, ![512, 16, 128]⟩
abbrev S16x512x128 : Shape := ⟨3, ![16, 512, 128]⟩
abbrev S512x1024 : Shape := ⟨2, ![512, 1024]⟩
abbrev S512x128 : Shape := ⟨2, ![512, 128]⟩
abbrev S512x1536 : Shape := ⟨2, ![512, 1536]⟩
abbrev S512x512 : Shape := ⟨2, ![512, 512]⟩
abbrev S8192x256 : Shape := ⟨2, ![8192, 256]⟩
abbrev S256x1024 : Shape := ⟨2, ![256, 1024]⟩

abbrev nBuf : Space → Nat
  | .hbm => 53
  | .vmem => 86
  | .smem => 0
  | _ => 0

abbrev bufTy : (tb : Table) → Fin (tcTables nBuf tb) → BufTy
  | .hbm, ⟨0, _⟩ => ⟨S8192x1024, .f32⟩
  | .hbm, ⟨1, _⟩ => ⟨S1024x4608, .f32⟩
  | .hbm, ⟨2, _⟩ => ⟨S1536x1024, .f32⟩
  | .hbm, ⟨3, _⟩ => ⟨S8192x64, .f32⟩
  | .hbm, ⟨4, _⟩ => ⟨S8192x64, .f32⟩
  | .hbm, ⟨5, _⟩ => ⟨S8192x1536, .f32⟩
  | .hbm, ⟨6, _⟩ => ⟨S8192x1536, .f32⟩
  | .hbm, ⟨7, _⟩ => ⟨S8192x1536, .f32⟩
  | .hbm, ⟨8, _⟩ => ⟨S8192x1536, .f32⟩
  | .hbm, ⟨9, _⟩ => ⟨S8192x1024, .f32⟩
  | .hbm, ⟨10, _⟩ => ⟨S8192x1024, .f32⟩
  | .hbm, ⟨11, _⟩ => ⟨S4608x1024, .f32⟩
  | .hbm, ⟨12, _⟩ => ⟨S4608x1024, .bf16⟩
  | .hbm, ⟨13, _⟩ => ⟨S1536x1024, .bf16⟩
  | .hbm, ⟨14, _⟩ => ⟨S8192x1024, .bf16⟩
  | .hbm, ⟨15, _⟩ => ⟨S8192x1536, .bf16⟩
  | .hbm, ⟨16, _⟩ => ⟨S8192x1024, .bf16⟩
  | .hbm, ⟨17, _⟩ => ⟨S8192x128, .f32⟩
  | .hbm, ⟨18, _⟩ => ⟨S8192x64, .f32⟩
  | .hbm, ⟨19, _⟩ => ⟨S8192x128, .f32⟩
  | .hbm, ⟨20, _⟩ => ⟨S2048x4x1024, .bf16⟩
  | .hbm, ⟨21, _⟩ => ⟨S4x2048x1024, .bf16⟩
  | .hbm, ⟨22, _⟩ => ⟨S8192x1024, .bf16⟩
  | .hbm, ⟨23, _⟩ => ⟨S512x16x1024, .bf16⟩
  | .hbm, ⟨24, _⟩ => ⟨S16x512x1024, .bf16⟩
  | .hbm, ⟨25, _⟩ => ⟨S8192x1024, .bf16⟩
  | .hbm, ⟨26, _⟩ => ⟨S2048x4x128, .f32⟩
  | .hbm, ⟨27, _⟩ => ⟨S4x2048x128, .f32⟩
  | .hbm, ⟨28, _⟩ => ⟨S8192x128, .f32⟩
  | .hbm, ⟨29, _⟩ => ⟨S2048x4x128, .f32⟩
  | .hbm, ⟨30, _⟩ => ⟨S4x2048x128, .f32⟩
  | .hbm, ⟨31, _⟩ => ⟨S8192x128, .f32⟩
  | .hbm, ⟨32, _⟩ => ⟨S512x16x128, .f32⟩
  | .hbm, ⟨33, _⟩ => ⟨S16x512x128, .f32⟩
  | .hbm, ⟨34, _⟩ => ⟨S8192x128, .f32⟩
  | .hbm, ⟨35, _⟩ => ⟨S512x16x128, .f32⟩
  | .hbm, ⟨36, _⟩ => ⟨S16x512x128, .f32⟩
  | .hbm, ⟨37, _⟩ => ⟨S8192x128, .f32⟩
  | .hbm, ⟨38, _⟩ => ⟨S8192x1536, .bf16⟩
  | .hbm, ⟨39, _⟩ => ⟨S8192x1536, .bf16⟩
  | .hbm, ⟨40, _⟩ => ⟨S8192x1536, .bf16⟩
  | .hbm, ⟨41, _⟩ => ⟨S8192x1536, .bf16⟩
  | .hbm, ⟨42, _⟩ => ⟨S8192x1536, .bf16⟩
  | .hbm, ⟨43, _⟩ => ⟨S8192x1536, .bf16⟩
  | .hbm, ⟨44, _⟩ => ⟨S8192x1024, .f32⟩
  | .hbm, ⟨45, _⟩ => ⟨S8192x1536, .f32⟩
  | .hbm, ⟨46, _⟩ => ⟨S1536x1024, .bf16⟩
  | .hbm, ⟨47, _⟩ => ⟨S1536x1024, .bf16⟩
  | .hbm, ⟨48, _⟩ => ⟨S1536x1024, .bf16⟩
  | .hbm, ⟨49, _⟩ => ⟨S1536x1024, .bf16⟩
  | .hbm, ⟨50, _⟩ => ⟨S8192x1024, .f32⟩
  | .hbm, ⟨51, _⟩ => ⟨S8192x1024, .f32⟩
  | .hbm, ⟨52, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1536, .bf16⟩
  | .local _ .vmem, ⟨10, _⟩ => ⟨S512x1536, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x1536, .bf16⟩
  | .local _ .vmem, ⟨21, _⟩ => ⟨S512x1536, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x1536, .bf16⟩
  | .local _ .vmem, ⟨32, _⟩ => ⟨S512x1536, .bf16⟩
  | .local _ .vmem, ⟨33, _⟩ => ⟨S512x1536, .bf16⟩
  | .local _ .vmem, ⟨34, _⟩ => ⟨S512x1536, .bf16⟩
  | .local _ .vmem, ⟨35, _⟩ => ⟨S1536x1024, .bf16⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .bf16⟩
  | .local _ .vmem, ⟨41, _⟩ => ⟨S512x1024, .bf16⟩
  | .local _ .vmem, ⟨42, _⟩ => ⟨S1536x1024, .bf16⟩
  | .local _ .vmem, ⟨43, _⟩ => ⟨S512x1536, .f32⟩
  | .local _ .vmem, ⟨44, _⟩ => ⟨S512x1536, .f32⟩
  | .local _ .vmem, ⟨45, _⟩ => ⟨S8192x256, .bf16⟩
  | .local _ .vmem, ⟨46, _⟩ => ⟨S8192x256, .bf16⟩
  | .local _ .vmem, ⟨47, _⟩ => ⟨S8192x1024, .bf16⟩
  | .local _ .vmem, ⟨48, _⟩ => ⟨S256x1024, .bf16⟩
  | .local _ .vmem, ⟨49, _⟩ => ⟨S256x1024, .bf16⟩
  | .local _ .vmem, ⟨50, _⟩ => ⟨S8192x256, .bf16⟩
  | .local _ .vmem, ⟨51, _⟩ => ⟨S8192x256, .bf16⟩
  | .local _ .vmem, ⟨52, _⟩ => ⟨S8192x1024, .bf16⟩
  | .local _ .vmem, ⟨53, _⟩ => ⟨S256x1024, .bf16⟩
  | .local _ .vmem, ⟨54, _⟩ => ⟨S256x1024, .bf16⟩
  | .local _ .vmem, ⟨55, _⟩ => ⟨S8192x256, .bf16⟩
  | .local _ .vmem, ⟨56, _⟩ => ⟨S8192x256, .bf16⟩
  | .local _ .vmem, ⟨57, _⟩ => ⟨S8192x1024, .bf16⟩
  | .local _ .vmem, ⟨58, _⟩ => ⟨S256x1024, .bf16⟩
  | .local _ .vmem, ⟨59, _⟩ => ⟨S256x1024, .bf16⟩
  | .local _ .vmem, ⟨60, _⟩ => ⟨S8192x256, .bf16⟩
  | .local _ .vmem, ⟨61, _⟩ => ⟨S8192x256, .bf16⟩
  | .local _ .vmem, ⟨62, _⟩ => ⟨S8192x1024, .bf16⟩
  | .local _ .vmem, ⟨63, _⟩ => ⟨S256x1024, .bf16⟩
  | .local _ .vmem, ⟨64, _⟩ => ⟨S256x1024, .bf16⟩
  | .local _ .vmem, ⟨65, _⟩ => ⟨S512x1536, .bf16⟩
  | .local _ .vmem, ⟨66, _⟩ => ⟨S512x1536, .bf16⟩
  | .local _ .vmem, ⟨67, _⟩ => ⟨S512x1024, .bf16⟩
  | .local _ .vmem, ⟨68, _⟩ => ⟨S512x1024, .bf16⟩
  | .local _ .vmem, ⟨69, _⟩ => ⟨S512x1024, .bf16⟩
  | .local _ .vmem, ⟨70, _⟩ => ⟨S512x1024, .f32⟩
  | .local _ .vmem, ⟨71, _⟩ => ⟨S512x1024, .f32⟩
  | .local _ .vmem, ⟨72, _⟩ => ⟨S512x1536, .bf16⟩
  | .local _ .vmem, ⟨73, _⟩ => ⟨S512x1536, .bf16⟩
  | .local _ .vmem, ⟨74, _⟩ => ⟨S512x1024, .bf16⟩
  | .local _ .vmem, ⟨75, _⟩ => ⟨S512x1024, .bf16⟩
  | .local _ .vmem, ⟨76, _⟩ => ⟨S512x1024, .bf16⟩
  | .local _ .vmem, ⟨77, _⟩ => ⟨S512x1024, .f32⟩
  | .local _ .vmem, ⟨78, _⟩ => ⟨S512x1024, .f32⟩
  | .local _ .vmem, ⟨79, _⟩ => ⟨S512x1536, .bf16⟩
  | .local _ .vmem, ⟨80, _⟩ => ⟨S512x1536, .bf16⟩
  | .local _ .vmem, ⟨81, _⟩ => ⟨S512x1024, .bf16⟩
  | .local _ .vmem, ⟨82, _⟩ => ⟨S512x1024, .bf16⟩
  | .local _ .vmem, ⟨83, _⟩ => ⟨S512x1024, .bf16⟩
  | .local _ .vmem, ⟨84, _⟩ => ⟨S512x1024, .f32⟩
  | .local _ .vmem, ⟨85, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg2_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg2_0 : Ref sig .tc := ⟨.vmem, 48, rfl⟩
abbrev cc5_stg2_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg2_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg2_0 : Ref sig .tc := ⟨.vmem, 58, rfl⟩
abbrev cc7_stg2_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg2_1 : Ref sig .tc := ⟨.vmem, 64, rfl⟩
abbrev cc9_stg0_0 : Ref sig .tc := ⟨.vmem, 65, rfl⟩
abbrev cc9_stg0_1 : Ref sig .tc := ⟨.vmem, 66, rfl⟩
abbrev cc9_stg1_0 : Ref sig .tc := ⟨.vmem, 67, rfl⟩
abbrev cc9_stg2_0 : Ref sig .tc := ⟨.vmem, 68, rfl⟩
abbrev cc9_stg3_0 : Ref sig .tc := ⟨.vmem, 69, rfl⟩
abbrev cc9_stg4_0 : Ref sig .tc := ⟨.vmem, 70, rfl⟩
abbrev cc9_stg4_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg2_0 : Ref sig .tc := ⟨.vmem, 75, rfl⟩
abbrev cc10_stg3_0 : Ref sig .tc := ⟨.vmem, 76, rfl⟩
abbrev cc10_stg4_0 : Ref sig .tc := ⟨.vmem, 77, rfl⟩
abbrev cc10_stg4_1 : Ref sig .tc := ⟨.vmem, 78, rfl⟩
abbrev cc11_stg0_0 : Ref sig .tc := ⟨.vmem, 79, rfl⟩
abbrev cc11_stg0_1 : Ref sig .tc := ⟨.vmem, 80, rfl⟩
abbrev cc11_stg1_0 : Ref sig .tc := ⟨.vmem, 81, rfl⟩
abbrev cc11_stg2_0 : Ref sig .tc := ⟨.vmem, 82, rfl⟩
abbrev cc11_stg3_0 : Ref sig .tc := ⟨.vmem, 83, rfl⟩
abbrev cc11_stg4_0 : Ref sig .tc := ⟨.vmem, 84, rfl⟩
abbrev cc11_stg4_1 : Ref sig .tc := ⟨.vmem, 85, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem2_1 : DmaSem sig := 37
abbrev cc3_sem3_0 : DmaSem sig := 38
abbrev cc3_sem3_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem2_1 : DmaSem sig := 44
abbrev cc5_sem0_0 : DmaSem sig := 45
abbrev cc5_sem0_1 : DmaSem sig := 46
abbrev cc5_sem1_0 : DmaSem sig := 47
abbrev cc5_sem2_0 : DmaSem sig := 48
abbrev cc5_sem2_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem2_1 : DmaSem sig := 54
abbrev cc7_sem0_0 : DmaSem sig := 55
abbrev cc7_sem0_1 : DmaSem sig := 56
abbrev cc7_sem1_0 : DmaSem sig := 57
abbrev cc7_sem2_0 : DmaSem sig := 58
abbrev cc7_sem2_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem2_1 : DmaSem sig := 64
abbrev cc9_sem0_0 : DmaSem sig := 65
abbrev cc9_sem0_1 : DmaSem sig := 66
abbrev cc9_sem1_0 : DmaSem sig := 67
abbrev cc9_sem2_0 : DmaSem sig := 68
abbrev cc9_sem3_0 : DmaSem sig := 69
abbrev cc9_sem4_0 : DmaSem sig := 70
abbrev cc9_sem4_1 : DmaSem sig := 71
abbrev cc10_sem0_0 : DmaSem sig := 72
abbrev cc10_sem0_1 : DmaSem sig := 73
abbrev cc10_sem1_0 : DmaSem sig := 74
abbrev cc10_sem2_0 : DmaSem sig := 75
abbrev cc10_sem3_0 : DmaSem sig := 76
abbrev cc10_sem4_0 : DmaSem sig := 77
abbrev cc10_sem4_1 : DmaSem sig := 78
abbrev cc11_sem0_0 : DmaSem sig := 79
abbrev cc11_sem0_1 : DmaSem sig := 80
abbrev cc11_sem1_0 : DmaSem sig := 81
abbrev cc11_sem2_0 : DmaSem sig := 82
abbrev cc11_sem3_0 : DmaSem sig := 83
abbrev cc11_sem4_0 : DmaSem sig := 84
abbrev cc11_sem4_1 : DmaSem sig := 85

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_2 (i : grid1.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc1_transform_3 (i : grid1.Coords) : Fin 2 → Nat :=
  let arg0 : BitVec 32 := BitVec.ofNat 32 (i 0).val
  let c7_i32 : BitVec 32 := 7#32
  let c0_i32 : BitVec 32 := 0#32
  let c0_i32_0 : BitVec 32 := 0#32
  ![c7_i32.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1536 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc2_transform_2 (i : grid2.Coords) : Fin 2 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat]

def cc2_transform_3 (i : grid2.Coords) : Fin 2 → Nat :=
  let arg0 : BitVec 32 := BitVec.ofNat 32 (i 0).val
  let c8_i32 : BitVec 32 := 8#32
  let c0_i32 : BitVec 32 := 0#32
  let c0_i32_0 : BitVec 32 := 0#32
  ![c8_i32.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1536 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1536 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1536x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1536x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1536 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![6], ![false]⟩

def k5_cond1 (i : grid5.Coords) : BitVec 1 :=
  let arg0 : BitVec 32 := BitVec.ofNat 32 (i 0).val
  let c0_i32 : BitVec 32 := 0#32
  let v0 : BitVec 1 := Scalar.cmpi .sge arg0 c0_i32
  let c6_i32 : BitVec 32 := 6#32
  let v1 : BitVec 1 := Scalar.cmpi .slt arg0 c6_i32
  let v2 : BitVec 1 := Scalar.andi v0 v1
  let v3 : BitVec 32 := Scalar.extui v2
  let c0_i32_0 : BitVec 32 := 0#32
  let v4 : BitVec 1 := Scalar.cmpi .ne v3 c0_i32_0
  v4

def cc5_transform_0 (i : grid5.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  let c0_i32_2 : BitVec 32 := 0#32
  ![c0_i32_1.toNat, v2.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8192x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![6], ![false]⟩

def k6_cond1 (i : grid6.Coords) : BitVec 1 :=
  let arg0 : BitVec 32 := BitVec.ofNat 32 (i 0).val
  let c0_i32 : BitVec 32 := 0#32
  let v0 : BitVec 1 := Scalar.cmpi .sge arg0 c0_i32
  let c6_i32 : BitVec 32 := 6#32
  let v1 : BitVec 1 := Scalar.cmpi .slt arg0 c6_i32
  let v2 : BitVec 1 := Scalar.andi v0 v1
  let v3 : BitVec 32 := Scalar.extui v2
  let c0_i32_0 : BitVec 32 := 0#32
  let v4 : BitVec 1 := Scalar.cmpi .ne v3 c0_i32_0
  v4

def cc6_transform_0 (i : grid6.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  let c0_i32_2 : BitVec 32 := 0#32
  ![c0_i32_1.toNat, v2.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8192x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8192x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![6], ![false]⟩

def k7_cond1 (i : grid7.Coords) : BitVec 1 :=
  let arg0 : BitVec 32 := BitVec.ofNat 32 (i 0).val
  let c0_i32 : BitVec 32 := 0#32
  let v0 : BitVec 1 := Scalar.cmpi .sge arg0 c0_i32
  let c6_i32 : BitVec 32 := 6#32
  let v1 : BitVec 1 := Scalar.cmpi .slt arg0 c6_i32
  let v2 : BitVec 1 := Scalar.andi v0 v1
  let v3 : BitVec 32 := Scalar.extui v2
  let c0_i32_0 : BitVec 32 := 0#32
  let v4 : BitVec 1 := Scalar.cmpi .ne v3 c0_i32_0
  v4

def cc7_transform_0 (i : grid7.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  let c0_i32_2 : BitVec 32 := 0#32
  ![c0_i32_1.toNat, v2.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8192x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S8192x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S256x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![6], ![false]⟩

def k8_cond1 (i : grid8.Coords) : BitVec 1 :=
  let arg0 : BitVec 32 := BitVec.ofNat 32 (i 0).val
  let c0_i32 : BitVec 32 := 0#32
  let v0 : BitVec 1 := Scalar.cmpi .sge arg0 c0_i32
  let c6_i32 : BitVec 32 := 6#32
  let v1 : BitVec 1 := Scalar.cmpi .slt arg0 c6_i32
  let v2 : BitVec 1 := Scalar.andi v0 v1
  let v3 : BitVec 32 := Scalar.extui v2
  let c0_i32_0 : BitVec 32 := 0#32
  let v4 : BitVec 1 := Scalar.cmpi .ne v3 c0_i32_0
  v4

def cc8_transform_0 (i : grid8.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  let c0_i32_2 : BitVec 32 := 0#32
  ![c0_i32_1.toNat, v2.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8192x256 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S8192x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S256x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![16], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc9_transform_3 (i : grid9.Coords) : Fin 2 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S512x1536 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S512x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S512x1024 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S512x1024 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S512x1024 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![16], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc10_transform_2 (i : grid10.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc10_transform_3 (i : grid10.Coords) : Fin 2 → Nat :=
  let arg0 : BitVec 32 := BitVec.ofNat 32 (i 0).val
  let c7_i32 : BitVec 32 := 7#32
  let c0_i32 : BitVec 32 := 0#32
  let c0_i32_0 : BitVec 32 := 0#32
  ![c7_i32.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x1536 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S512x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S512x1024 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S512x1024 .bf16 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S512x1024 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![16], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc11_transform_2 (i : grid11.Coords) : Fin 2 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat]

def cc11_transform_3 (i : grid11.Coords) : Fin 2 → Nat :=
  let arg0 : BitVec 32 := BitVec.ofNat 32 (i 0).val
  let c8_i32 : BitVec 32 := 8#32
  let c0_i32 : BitVec 32 := 0#32
  let c0_i32_0 : BitVec 32 := 0#32
  ![c8_i32.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S512x1536 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S512x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S512x1024 .bf16 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S512x1024 .bf16 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S512x1024 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]
-- ==== Reference4Ideal.lean ====
abbrev S8192x1024 : Shape := ⟨2, ![8192, 1024]⟩
abbrev S1024x4608 : Shape := ⟨2, ![1024, 4608]⟩
abbrev S1536x1024 : Shape := ⟨2, ![1536, 1024]⟩
abbrev S8192x64 : Shape := ⟨2, ![8192, 64]⟩
abbrev S8192x1536 : Shape := ⟨2, ![8192, 1536]⟩
abbrev S8192x4608 : Shape := ⟨2, ![8192, 4608]⟩
abbrev S8192x3x3x4x128 : Shape := ⟨5, ![8192, 3, 3, 4, 128]⟩
abbrev S8192x1x3x4x128 : Shape := ⟨5, ![8192, 1, 3, 4, 128]⟩
abbrev S8192x3x4x128 : Shape := ⟨4, ![8192, 3, 4, 128]⟩
abbrev S8192x1x1x64 : Shape := ⟨4, ![8192, 1, 1, 64]⟩
abbrev S8192x3x4x64 : Shape := ⟨4, ![8192, 3, 4, 64]⟩
abbrev S8192x1x4x128 : Shape := ⟨4, ![8192, 1, 4, 128]⟩
abbrev S8192x4x128 : Shape := ⟨3, ![8192, 4, 128]⟩
abbrev S8192x512 : Shape := ⟨2, ![8192, 512]⟩
abbrev S8192x1x1536 : Shape := ⟨3, ![8192, 1, 1536]⟩
abbrev S1x8192x1536 : Shape := ⟨3, ![1, 8192, 1536]⟩
abbrev S2048x4x1536 : Shape := ⟨3, ![2048, 4, 1536]⟩
abbrev S4x2048x1536 : Shape := ⟨3, ![4, 2048, 1536]⟩
abbrev S512x16x1536 : Shape := ⟨3, ![512, 16, 1536]⟩
abbrev S16x512x1536 : Shape := ⟨3, ![16, 512, 1536]⟩
abbrev S1024x1536 : Shape := ⟨2, ![1024, 1536]⟩
abbrev S1024x3x3x512 : Shape := ⟨4, ![1024, 3, 3, 512]⟩
abbrev S1024x3x1x512 : Shape := ⟨4, ![1024, 3, 1, 512]⟩
abbrev S1024x3x512 : Shape := ⟨3, ![1024, 3, 512]⟩
abbrev S8192x1x1024 : Shape := ⟨3, ![8192, 1, 1024]⟩
abbrev S1x8192x1024 : Shape := ⟨3, ![1, 8192, 1024]⟩
abbrev S2048x4x1024 : Shape := ⟨3, ![2048, 4, 1024]⟩
abbrev S4x2048x1024 : Shape := ⟨3, ![4, 2048, 1024]⟩
abbrev S512x16x1024 : Shape := ⟨3, ![512, 16, 1024]⟩
abbrev S16x512x1024 : Shape := ⟨3, ![16, 512, 1024]⟩

abbrev nBuf : Space → Nat
  | .hbm => 136
  | .vmem => 0
  | .smem => 0
  | _ => 0

abbrev hbmTy0_0 (i : Nat) : BufTy := match i % 128 with
  | 0 => ⟨S8192x1024, .f32⟩
  | 1 => ⟨S1024x4608, .f32⟩
  | 2 => ⟨S1536x1024, .f32⟩
  | 3 => ⟨S8192x64, .f32⟩
  | 4 => ⟨S8192x64, .f32⟩
  | 5 => ⟨S8192x1536, .f32⟩
  | 6 => ⟨S8192x1536, .f32⟩
  | 7 => ⟨S8192x1536, .f32⟩
  | 8 => ⟨S8192x1536, .f32⟩
  | 9 => ⟨S8192x1024, .f32⟩
  | 10 => ⟨S8192x1024, .f32⟩
  | 11 => ⟨S8192x4608, .f32⟩
  | 12 => ⟨S8192x3x3x4x128, .f32⟩
  | 13 => ⟨S8192x1x3x4x128, .f32⟩
  | 14 => ⟨S8192x3x4x128, .f32⟩
  | 15 => ⟨S8192x1x1x64, .f32⟩
  | 16 => ⟨S8192x1x1x64, .f32⟩
  | 17 => ⟨S8192x3x4x64, .f32⟩
  | 18 => ⟨S8192x3x4x64, .f32⟩
  | 19 => ⟨S8192x3x4x64, .f32⟩
  | 20 => ⟨S8192x3x4x64, .f32⟩
  | 21 => ⟨S8192x3x4x64, .f32⟩
  | 22 => ⟨S8192x3x4x64, .f32⟩
  | 23 => ⟨S8192x3x4x64, .f32⟩
  | 24 => ⟨S8192x3x4x64, .f32⟩
  | 25 => ⟨S8192x3x4x64, .f32⟩
  | 26 => ⟨S8192x3x4x64, .f32⟩
  | 27 => ⟨S8192x3x4x64, .f32⟩
  | 28 => ⟨S8192x3x4x64, .f32⟩
  | 29 => ⟨S8192x3x4x128, .f32⟩
  | 30 => ⟨S8192x1x3x4x128, .f32⟩
  | 31 => ⟨S8192x3x4x128, .f32⟩
  | 32 => ⟨S8192x1x1x64, .f32⟩
  | 33 => ⟨S8192x1x1x64, .f32⟩
  | 34 => ⟨S8192x3x4x64, .f32⟩
  | 35 => ⟨S8192x3x4x64, .f32⟩
  | 36 => ⟨S8192x3x4x64, .f32⟩
  | 37 => ⟨S8192x3x4x64, .f32⟩
  | 38 => ⟨S8192x3x4x64, .f32⟩
  | 39 => ⟨S8192x3x4x64, .f32⟩
  | 40 => ⟨S8192x3x4x64, .f32⟩
  | 41 => ⟨S8192x3x4x64, .f32⟩
  | 42 => ⟨S8192x3x4x64, .f32⟩
  | 43 => ⟨S8192x3x4x64, .f32⟩
  | 44 => ⟨S8192x3x4x64, .f32⟩
  | 45 => ⟨S8192x3x4x64, .f32⟩
  | 46 => ⟨S8192x3x4x128, .f32⟩
  | 47 => ⟨S8192x1x3x4x128, .f32⟩
  | 48 => ⟨S8192x3x4x128, .f32⟩
  | 49 => ⟨S8192x1x4x128, .f32⟩
  | 50 => ⟨S8192x4x128, .f32⟩
  | 51 => ⟨S8192x512, .f32⟩
  | 52 => ⟨S8192x1x4x128, .f32⟩
  | 53 => ⟨S8192x4x128, .f32⟩
  | 54 => ⟨S8192x512, .f32⟩
  | 55 => ⟨S8192x1x4x128, .f32⟩
  | 56 => ⟨S8192x4x128, .f32⟩
  | 57 => ⟨S8192x512, .f32⟩
  | 58 => ⟨S8192x1536, .f32⟩
  | 59 => ⟨S8192x1x4x128, .f32⟩
  | 60 => ⟨S8192x4x128, .f32⟩
  | 61 => ⟨S8192x512, .f32⟩
  | 62 => ⟨S8192x1x4x128, .f32⟩
  | 63 => ⟨S8192x4x128, .f32⟩
  | 64 => ⟨S8192x512, .f32⟩
  | 65 => ⟨S8192x1x4x128, .f32⟩
  | 66 => ⟨S8192x4x128, .f32⟩
  | 67 => ⟨S8192x512, .f32⟩
  | 68 => ⟨S8192x1536, .f32⟩
  | 69 => ⟨S8192x1x4x128, .f32⟩
  | 70 => ⟨S8192x4x128, .f32⟩
  | 71 => ⟨S8192x512, .f32⟩
  | 72 => ⟨S8192x1x4x128, .f32⟩
  | 73 => ⟨S8192x4x128, .f32⟩
  | 74 => ⟨S8192x512, .f32⟩
  | 75 => ⟨S8192x1x4x128, .f32⟩
  | 76 => ⟨S8192x4x128, .f32⟩
  | 77 => ⟨S8192x512, .f32⟩
  | 78 => ⟨S8192x1536, .f32⟩
  | 79 => ⟨S8192x1x1536, .f32⟩
  | 80 => ⟨S1x8192x1536, .f32⟩
  | 81 => ⟨S8192x1536, .f32⟩
  | 82 => ⟨S8192x1536, .bf16⟩
  | 83 => ⟨S2048x4x1536, .f32⟩
  | 84 => ⟨S4x2048x1536, .f32⟩
  | 85 => ⟨S8192x1536, .f32⟩
  | 86 => ⟨S8192x1536, .bf16⟩
  | 87 => ⟨S512x16x1536, .f32⟩
  | 88 => ⟨S16x512x1536, .f32⟩
  | 89 => ⟨S8192x1536, .f32⟩
  | 90 => ⟨S8192x1536, .bf16⟩
  | 91 => ⟨S8192x1024, .f32⟩
  | 92 => ⟨S8192x1024, .f32⟩
  | 93 => ⟨S1024x1536, .f32⟩
  | 94 => ⟨S1536x1024, .f32⟩
  | 95 => ⟨S8192x1536, .f32⟩
  | 96 => ⟨S1024x3x3x512, .f32⟩
  | 97 => ⟨S1024x3x1x512, .f32⟩
  | 98 => ⟨S1024x3x512, .f32⟩
  | 99 => ⟨S1024x1536, .f32⟩
  | 100 => ⟨S8192x1x1024, .f32⟩
  | 101 => ⟨S1x8192x1024, .f32⟩
  | 102 => ⟨S8192x1024, .f32⟩
  | 103 => ⟨S8192x1536, .f32⟩
  | 104 => ⟨S1536x1024, .f32⟩
  | 105 => ⟨S1024x1536, .f32⟩
  | 106 => ⟨S8192x1024, .f32⟩
  | 107 => ⟨S1536x1024, .f32⟩
  | 108 => ⟨S1536x1024, .bf16⟩
  | 109 => ⟨S1024x3x3x512, .f32⟩
  | 110 => ⟨S1024x3x1x512, .f32⟩
  | 111 => ⟨S1024x3x512, .f32⟩
  | 112 => ⟨S1024x1536, .f32⟩
  | 113 => ⟨S2048x4x1024, .f32⟩
  | 114 => ⟨S4x2048x1024, .f32⟩
  | 115 => ⟨S8192x1024, .f32⟩
  | 116 => ⟨S8192x1536, .f32⟩
  | 117 => ⟨S1536x1024, .f32⟩
  | 118 => ⟨S1024x1536, .f32⟩
  | 119 => ⟨S8192x1024, .f32⟩
  | 120 => ⟨S1536x1024, .f32⟩
  | 121 => ⟨S1536x1024, .bf16⟩
  | 122 => ⟨S1024x3x3x512, .f32⟩
  | 123 => ⟨S1024x3x1x512, .f32⟩
  | 124 => ⟨S1024x3x512, .f32⟩
  | 125 => ⟨S1024x1536, .f32⟩
  | 126 => ⟨S512x16x1024, .f32⟩
  | 127 => ⟨S16x512x1024, .f32⟩
  | _ => ⟨S8192x1024, .f32⟩

abbrev hbmTy0_1 (i : Nat) : BufTy := match i % 128 with
  | 0 => ⟨S8192x1024, .f32⟩
  | 1 => ⟨S8192x1536, .f32⟩
  | 2 => ⟨S1536x1024, .f32⟩
  | 3 => ⟨S1024x1536, .f32⟩
  | 4 => ⟨S8192x1024, .f32⟩
  | 5 => ⟨S1536x1024, .f32⟩
  | 6 => ⟨S1536x1024, .bf16⟩
  | 7 => ⟨S1536x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x2816, .bf16⟩
  | .hbm, ⟨6, _⟩ => ⟨S2816x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .bf16⟩
  | .hbm, ⟨76, _⟩ => ⟨S1x1024, .f32⟩
  | .hbm, ⟨77, _⟩ => ⟨S_, .f32⟩
  | .hbm, ⟨78, _⟩ => ⟨S1024, .f32⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S_, .f32⟩
  | .hbm, ⟨83, _⟩ => ⟨S1024, .f32⟩
  | .hbm, ⟨84, _⟩ => ⟨S1024, .f32⟩
  | .hbm, ⟨85, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_16 : Ref sig .tc := ⟨.hbm, 77, rfl⟩
abbrev main_v55 : Ref sig .tc := ⟨.hbm, 78, rfl⟩
abbrev main_cst_17 : Ref sig .tc := ⟨.hbm, 79, rfl⟩
abbrev main_v56 : Ref sig .tc := ⟨.hbm, 80, rfl⟩
abbrev main_v57 : Ref sig .tc := ⟨.hbm, 81, rfl⟩
abbrev main_cst_18 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== Kernel6.lean ====
abbrev S8x576x1024 : Shape := ⟨3, ![8, 576, 1024]⟩
abbrev S1x1024x576 : Shape := ⟨3, ![1, 1024, 576]⟩
abbrev S8x192x1024 : Shape := ⟨3, ![8, 192, 1024]⟩
abbrev S1x192x1024 : Shape := ⟨3, ![1, 192, 1024]⟩
abbrev S576x1024 : Shape := ⟨2, ![576, 1024]⟩
abbrev S192x1024 : Shape := ⟨2, ![192, 1024]⟩
abbrev S1024x576 : Shape := ⟨2, ![1024, 576]⟩
abbrev S1x256x576 : Shape := ⟨3, ![1, 256, 576]⟩
abbrev S256x576 : Shape := ⟨2, ![256, 576]⟩

abbrev nBuf : Space → Nat
  | .hbm => 21
  | .vmem => 30
  | .smem => 0
  | _ => 0

abbrev bufTy : (tb : Table) → Fin (tcTables nBuf tb) → BufTy
  | .hbm, ⟨0, _⟩ => ⟨S8x576x1024, .f32⟩
  | .hbm, ⟨1, _⟩ => ⟨S1x1024x576, .f32⟩
  | .hbm, ⟨2, _⟩ => ⟨S1x1024x576, .f32⟩
  | .hbm, ⟨3, _⟩ => ⟨S1x1024x576, .f32⟩
  | .hbm, ⟨4, _⟩ => ⟨S8x192x1024, .f32⟩
  | .hbm, ⟨5, _⟩ => ⟨S1x192x1024, .f32⟩
  | .hbm, ⟨6, _⟩ => ⟨S1x192x1024, .f32⟩
  | .hbm, ⟨7, _⟩ => ⟨S1x192x1024, .f32⟩
  | .hbm, ⟨8, _⟩ => ⟨S8x576x1024, .bf16⟩
  | .hbm, ⟨9, _⟩ => ⟨S576x1024, .f32⟩
  | .hbm, ⟨10, _⟩ => ⟨S1024x576, .f32⟩
  | .hbm, ⟨11, _⟩ => ⟨S1x1024x576, .f32⟩
  | .hbm, ⟨12, _⟩ => ⟨S1x1024x576, .f32⟩
  | .hbm, ⟨13, _⟩ => ⟨S1x1024x576, .f32⟩
  | .hbm, ⟨14, _⟩ => ⟨S1x1024x576, .f32⟩
  | .hbm, ⟨15, _⟩ => ⟨S8x192x1024, .bf16⟩
  | .hbm, ⟨16, _⟩ => ⟨S192x1024, .f32⟩
  | .hbm, ⟨17, _⟩ => ⟨S1x192x1024, .f32⟩
  | .hbm, ⟨18, _⟩ => ⟨S1x192x1024, .f32⟩
  | .hbm, ⟨19, _⟩ => ⟨S1x192x1024, .f32⟩
  | .hbm, ⟨20, _⟩ => ⟨S1x192x1024, .f32⟩
  | .local _ .vmem, ⟨0, _⟩ => ⟨S8x192x1024, .bf16⟩
  | .local _ .vmem, ⟨1, _⟩ => ⟨S8x192x1024, .bf16⟩
  | .local _ .vmem, ⟨2, _⟩ => ⟨S192x1024, .f32⟩
  | .local _ .vmem, ⟨3, _⟩ => ⟨S192x1024, .f32⟩
  | .local _ .vmem, ⟨4, _⟩ => ⟨S1x256x576, .f32⟩
  | .local _ .vmem, ⟨5, _⟩ => ⟨S1x256x576, .f32⟩
  | .local _ .vmem, ⟨6, _⟩ => ⟨S256x576, .f32⟩
  | .local _ .vmem, ⟨7, _⟩ => ⟨S256x576, .f32⟩
  | .local _ .vmem, ⟨8, _⟩ => ⟨S1x256x576, .f32⟩
  | .local _ .vmem, ⟨9, _⟩ => ⟨S1x256x576, .f32⟩
  | .local _ .vmem, ⟨10, _⟩ => ⟨S1x256x576, .f32⟩
  | .local _ .vmem, ⟨11, _⟩ => ⟨S1x256x576, .f32⟩
  | .local _ .vmem, ⟨12, _⟩ => ⟨S1x256x576, .f32⟩
  | .local _ .vmem, ⟨13, _⟩ => ⟨S1x256x576, .f32⟩
  | .local _ .vmem, ⟨14, _⟩ => ⟨S1x256x576, .f32⟩
  | .local _ .vmem, ⟨15, _⟩ => ⟨S1x256x576, .f32⟩
  | .local _ .vmem, ⟨16, _⟩ => ⟨S1x256x576, .f32⟩
  | .local _ .vmem, ⟨17, _⟩ => ⟨S1x256x576, .f32⟩
  | .local _ .vmem, ⟨18, _⟩ => ⟨S1x256x576, .f32⟩
  | .local _ .vmem, ⟨19, _⟩ => ⟨S1x256x576, .f32⟩
  | .local _ .vmem, ⟨20, _⟩ => ⟨S8x192x1024, .bf16⟩
  | .local _ .vmem, ⟨21, _⟩ => ⟨S192x1024, .f32⟩
  | .local _ .vmem, ⟨22, _⟩ => ⟨S1x192x1024, .f32⟩
  | .local _ .vmem, ⟨23, _⟩ => ⟨S192x1024, .f32⟩
  | .local _ .vmem, ⟨24, _⟩ => ⟨S1x192x1024, .f32⟩
  | .local _ .vmem, ⟨25, _⟩ => ⟨S1x192x1024, .f32⟩
  | .local _ .vmem, ⟨26, _⟩ => ⟨S1x192x1024, .f32⟩
  | .local _ .vmem, ⟨27, _⟩ => ⟨S1x192x1024, .f32⟩
  | .local _ .vmem, ⟨28, _⟩ => ⟨S1x192x1024, .f32⟩
  | .local _ .vmem, ⟨29, _⟩ => ⟨S1x192x1024, .f32⟩
  | _, _ => ⟨S8x576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg1_0 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem1_0 : DmaSem sig := 21
abbrev cc3_sem0_0 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x256x576 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x576 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x576 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x576 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x576 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x576 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x576 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x576 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S8x192x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S192x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 1 → Memref sig .tc .vmem S1x192x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S192x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1x192x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S1x192x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S1x192x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S1x192x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S1x192x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S1x192x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]
-- ==== Reference6Ideal.lean ====
abbrev S8x576x1024 : Shape := ⟨3, ![8, 576, 1024]⟩
abbrev S1x1024x576 : Shape := ⟨3, ![1, 1024, 576]⟩
abbrev S8x192x1024 : Shape := ⟨3, ![8, 192, 1024]⟩
abbrev S1x192x1024 : Shape := ⟨3, ![1, 192, 1024]⟩
abbrev S_ : Shape := ⟨0, ![]⟩
abbrev S576x1024 : Shape := ⟨2, ![576, 1024]⟩
abbrev S1024x576 : Shape := ⟨2, ![1024, 576]⟩
abbrev S192x1024 : Shape := ⟨2, ![192, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8x576x1024, .f32⟩
  | .hbm, ⟨1, _⟩ => ⟨S1x1024x576, .f32⟩
  | .hbm, ⟨2, _⟩ => ⟨S1x1024x576, .f32⟩
  | .hbm, ⟨3, _⟩ => ⟨S1x1024x576, .f32⟩
  | .hbm, ⟨4, _⟩ => ⟨S8x192x1024, .f32⟩
  | .hbm, ⟨5, _⟩ => ⟨S1x192x1024, .f32⟩
  | .hbm, ⟨6, _⟩ => ⟨S1x192x1024, .f32⟩
  | .hbm, ⟨7, _⟩ => ⟨S1x192x1024, .f32⟩
  | .hbm, ⟨8, _⟩ => ⟨S_, .f32⟩
  | .hbm, ⟨9, _⟩ => ⟨S576x1024, .f32⟩
  | .hbm, ⟨10, _⟩ => ⟨S1024x576, .f32⟩
  | .hbm, ⟨11, _⟩ => ⟨S1x1024x576, .f32⟩
  | .hbm, ⟨12, _⟩ => ⟨S_, .f32⟩
  | .hbm, ⟨13, _⟩ => ⟨S192x1024, .f32⟩
  | .hbm, ⟨14, _⟩ => ⟨S1x192x1024, .f32⟩
  | .hbm, ⟨15, _⟩ => ⟨S_, .f32⟩
  | .hbm, ⟨16, _⟩ => ⟨S1x1024x576, .f32⟩
  | .hbm, ⟨17, _⟩ => ⟨S1x1024x576, .f32⟩
  | .hbm, ⟨18, _⟩ => ⟨S_, .f32⟩
  | .hbm, ⟨19, _⟩ => ⟨S1x1024x576, .f32⟩
  | .hbm, ⟨20, _⟩ => ⟨S1x1024x576, .f32⟩
  | .hbm, ⟨21, _⟩ => ⟨S1x1024x576, .f32⟩
  | .hbm, ⟨22, _⟩ => ⟨S_, .f32⟩
  | .hbm, ⟨23, _⟩ => ⟨S1x1024x576, .f32⟩
  | .hbm, ⟨24, _⟩ => ⟨S1x1024x576, .f32⟩
  | .hbm, ⟨25, _⟩ => ⟨S1x1024x576, .f32⟩
  | .hbm, ⟨26, _⟩ => ⟨S_, .f32⟩
  | .hbm, ⟨27, _⟩ => ⟨S1x1024x576, .f32⟩
  | .hbm, ⟨28, _⟩ => ⟨S1x1024x576, .f32⟩
  | .hbm, ⟨29, _⟩ => ⟨S1x1024x576, .f32⟩
  | .hbm, ⟨30, _⟩ => ⟨S_, .f32⟩
  | .hbm, ⟨31, _⟩ => ⟨S1x1024x576, .f32⟩
  | .hbm, ⟨32, _⟩ => ⟨S1x1024x576, .f32⟩
  | .hbm, ⟨33, _⟩ => ⟨S_, .f32⟩
  | .hbm, ⟨34, _⟩ => ⟨S1x1024x576, .f32⟩
  | .hbm, ⟨35, _⟩ => ⟨S1x1024x576, .f32⟩
  | .hbm, ⟨36, _⟩ => ⟨S1x1024x576, .f32⟩
  | .hbm, ⟨37, _⟩ => ⟨S_, .f32⟩
  | .hbm, ⟨38, _⟩ => ⟨S1x1024x576, .f32⟩
  | .hbm, ⟨39, _⟩ => ⟨S1x1024x576, .f32⟩
  | .hbm, ⟨40, _⟩ => ⟨S1x1024x576, .f32⟩
  | .hbm, ⟨41, _⟩ => ⟨S_, .f32⟩
  | .hbm, ⟨42, _⟩ => ⟨S1x1024x576, .f32⟩
  | .hbm, ⟨43, _⟩ => ⟨S1x1024x576, .f32⟩
  | .hbm, ⟨44, _⟩ => ⟨S1x1024x576, .f32⟩
  | .hbm, ⟨45, _⟩ => ⟨S_, .f32⟩
  | .hbm, ⟨46, _⟩ => ⟨S1x1024x576, .f32⟩
  | .hbm, ⟨47, _⟩ => ⟨S1x1024x576, .f32⟩
  | .hbm, ⟨48, _⟩ => ⟨S_, .f32⟩
  | .hbm, ⟨49, _⟩ => ⟨S1x192x1024, .f32⟩
  | .hbm, ⟨50, _⟩ => ⟨S1x192x1024, .f32⟩
  | .hbm, ⟨51, _⟩ => ⟨S_, .f32⟩
  | .hbm, ⟨52, _⟩ => ⟨S1x192x1024, .f32⟩
  | .hbm, ⟨53, _⟩ => ⟨S1x192x1024, .f32⟩
  | .hbm, ⟨54, _⟩ => ⟨S1x192x1024, .f32⟩
  | .hbm, ⟨55, _⟩ => ⟨S_, .f32⟩
  | .hbm, ⟨56, _⟩ => ⟨S1x192x1024, .f32⟩
  | .hbm, ⟨57, _⟩ => ⟨S1x192x1024, .f32⟩
  | .hbm, ⟨58, _⟩ => ⟨S1x192x1024, .f32⟩
  | .hbm, ⟨59, _⟩ => ⟨S_, .f32⟩
  | .hbm, ⟨60, _⟩ => ⟨S1x192x1024, .f32⟩
  | .hbm, ⟨61, _⟩ => ⟨S1x192x1024, .f32⟩
  | .hbm, ⟨62, _⟩ => ⟨S1x192x1024, .f32⟩
  | .hbm, ⟨63, _⟩ => ⟨S_, .f32⟩
  | .hbm, ⟨64, _⟩ => ⟨S1x192x1024, .f32⟩
  | .hbm, ⟨65, _⟩ => ⟨S1x192x1024, .f32⟩
  | .hbm, ⟨66, _⟩ => ⟨S_, .f32⟩
  | .hbm, ⟨67, _⟩ => ⟨S1x192x1024, .f32⟩
  | .hbm, ⟨68, _⟩ => ⟨S1x192x1024, .f32⟩
  | .hbm, ⟨69, _⟩ => ⟨S1x192x1024, .f32⟩
  | .hbm, ⟨70, _⟩ => ⟨S_, .f32⟩
  | .hbm, ⟨71, _⟩ => ⟨S1x192x1024, .f32⟩
  | .hbm, ⟨72, _⟩ => ⟨S1x192x1024, .f32⟩
  | .hbm, ⟨73, _⟩ => ⟨S1x192x1024, .f32⟩
  | .hbm, ⟨74, _⟩ => ⟨S_, .f32⟩
  | .hbm, ⟨75, _⟩ => ⟨S1x192x1024, .f32⟩
  | .hbm, ⟨76, _⟩ => ⟨S1x192x1024, .f32⟩
  | .hbm, ⟨77, _⟩ => ⟨S1x192x1024, .f32⟩
  | .hbm, ⟨78, _⟩ => ⟨S_, .f32⟩
  | .hbm, ⟨79, _⟩ => ⟨S1x192x1024, .f32⟩
  | .hbm, ⟨80, _⟩ => ⟨S1x192x1024, .f32⟩
  | _, _ => ⟨S8x576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_9 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_cst_11 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_12 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_cst_15 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_16 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_17 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_18 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]
-- ==== Kernel7.lean ====
abbrev S8x8x1024 : Shape := ⟨3, ![8, 8, 1024]⟩
abbrev S2x1024 : Shape := ⟨2, ![2, 1024]⟩
abbrev S3x1024 : Shape := ⟨2, ![3, 1024]⟩
abbrev S1x128 : Shape := ⟨2, ![1, 128]⟩
abbrev S1024 : Shape := ⟨1, ![1024]⟩
abbrev S1x1024 : Shape := ⟨2, ![1, 1024]⟩
abbrev S_ : Shape := ⟨0, ![]⟩
abbrev S1x896 : Shape := ⟨2, ![1, 896]⟩
abbrev S7x1024 : Shape := ⟨2, ![7, 1024]⟩
abbrev S16x1024 : Shape := ⟨2, ![16, 1024]⟩
abbrev S1x1 : Shape := ⟨2, ![1, 1]⟩
abbrev S1x1x1024 : Shape := ⟨3, ![1, 1, 1024]⟩
abbrev S1x2x1024 : Shape := ⟨3, ![1, 2, 1024]⟩
abbrev S1 : Shape := ⟨1, ![1]⟩

abbrev nBuf : Space → Nat
  | .hbm => 68
  | .vmem => 11
  | .smem => 0
  | _ => 0

abbrev bufTy : (tb : Table) → Fin (tcTables nBuf tb) → BufTy
  | .hbm, ⟨0, _⟩ => ⟨S8x8x1024, .f32⟩
  | .hbm, ⟨1, _⟩ => ⟨S2x1024, .f32⟩
  | .hbm, ⟨2, _⟩ => ⟨S2x1024, .f32⟩
  | .hbm, ⟨3, _⟩ => ⟨S3x1024, .f32⟩
  | .hbm, ⟨4, _⟩ => ⟨S1x128, .f32⟩
  | .hbm, ⟨5, _⟩ => ⟨S1024, .f32⟩
  | .hbm, ⟨6, _⟩ => ⟨S2x1024, .f32⟩
  | .hbm, ⟨7, _⟩ => ⟨S2x1024, .f32⟩
  | .hbm, ⟨8, _⟩ => ⟨S3x1024, .f32⟩
  | .hbm, ⟨9, _⟩ => ⟨S1x128, .f32⟩
  | .hbm, ⟨10, _⟩ => ⟨S1024, .f32⟩
  | .hbm, ⟨11, _⟩ => ⟨S2x1024, .f32⟩
  | .hbm, ⟨12, _⟩ => ⟨S2x1024, .f32⟩
  | .hbm, ⟨13, _⟩ => ⟨S3x1024, .f32⟩
  | .hbm, ⟨14, _⟩ => ⟨S1x128, .f32⟩
  | .hbm, ⟨15, _⟩ => ⟨S1024, .f32⟩
  | .hbm, ⟨16, _⟩ => ⟨S1x1024, .f32⟩
  | .hbm, ⟨17, _⟩ => ⟨S_, .f32⟩
  | .hbm, ⟨18, _⟩ => ⟨S1x896, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S7x1024, .f32⟩
  | .hbm, ⟨23, _⟩ => ⟨S16x1024, .f32⟩
  | .hbm, ⟨24, _⟩ => ⟨S_, .f32⟩
  | .hbm, ⟨25, _⟩ => ⟨S1x896, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S7x1024, .f32⟩
  | .hbm, ⟨30, _⟩ => ⟨S16x1024, .f32⟩
  | .hbm, ⟨31, _⟩ => ⟨S_, .f32⟩
  | .hbm, ⟨32, _⟩ => ⟨S1x896, .f32⟩
  | .hbm, ⟨33, _⟩ => ⟨S1x1024, .f32⟩
  | .hbm, ⟨34, _⟩ => ⟨S1x1024, .f32⟩
  | .hbm, ⟨35, _⟩ => ⟨S_, .f32⟩
  | .hbm, ⟨36, _⟩ => ⟨S7x1024, .f32⟩
  | .hbm, ⟨37, _⟩ => ⟨S16x1024, .f32⟩
  | .hbm, ⟨38, _⟩ => ⟨S16x1024, .f32⟩
  | .hbm, ⟨39, _⟩ => ⟨S16x1024, .f32⟩
  | .hbm, ⟨40, _⟩ => ⟨S16x1024, .f32⟩
  | .hbm, ⟨41, _⟩ => ⟨S16x1024, .f32⟩
  | .hbm, ⟨42, _⟩ => ⟨S1x1, .f32⟩
  | .hbm, ⟨43, _⟩ => ⟨S2x1024, .f32⟩
  | .hbm, ⟨44, _⟩ => ⟨S2x1024, .f32⟩
  | .hbm, ⟨45, _⟩ => ⟨S3x1024, .f32⟩
  | .hbm, ⟨46, _⟩ => ⟨S1x128, .f32⟩
  | .hbm, ⟨47, _⟩ => ⟨S1x1024, .f32⟩
  | .hbm, ⟨48, _⟩ => ⟨S1024, .f32⟩
  | .hbm, ⟨49, _⟩ => ⟨S2x1024, .f32⟩
  | .hbm, ⟨50, _⟩ => ⟨S2x1024, .f32⟩
  | .hbm, ⟨51, _⟩ => ⟨S3x1024, .f32⟩
  | .hbm, ⟨52, _⟩ => ⟨S1x128, .f32⟩
  | .hbm, ⟨53, _⟩ => ⟨S1x1024, .f32⟩
  | .hbm, ⟨54, _⟩ => ⟨S1024, .f32⟩
  | .hbm, ⟨55, _⟩ => ⟨S2x1024, .f32⟩
  | .hbm, ⟨56, _⟩ => ⟨S2x1024, .f32⟩
  | .hbm, ⟨57, _⟩ => ⟨S3x1024, .f32⟩
  | .hbm, ⟨58, _⟩ => ⟨S1x128, .f32⟩
  | .hbm, ⟨59, _⟩ => ⟨S1x1024, .f32⟩
  | .hbm, ⟨60, _⟩ => ⟨S1024, .f32⟩
  | .hbm, ⟨61, _⟩ => ⟨S2x1024, .f32⟩
  | .hbm, ⟨62, _⟩ => ⟨S2x1024, .f32⟩
  | .hbm, ⟨63, _⟩ => ⟨S3x1024, .f32⟩
  | .hbm, ⟨64, _⟩ => ⟨S1x128, .f32⟩
  | .hbm, ⟨65, _⟩ => ⟨S1x1024, .f32⟩
  | .hbm, ⟨66, _⟩ => ⟨S1024, .f32⟩
  | .hbm, ⟨67, _⟩ => ⟨S_, .f32⟩
  | .local _ .vmem, ⟨0, _⟩ => ⟨S3x1024, .f32⟩
  | .local _ .vmem, ⟨1, _⟩ => ⟨S1x1024, .f32⟩
  | .local _ .vmem, ⟨2, _⟩ => ⟨S8x8x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S1x1, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_4 : Ref sig .tc := ⟨.hbm, 35, rfl⟩
abbrev main_v14 : Ref sig .tc := ⟨.hbm, 36, rfl⟩
abbrev main_v15 : Ref sig .tc := ⟨.hbm, 37, rfl⟩
abbrev main_v16_0 : Ref sig .tc := ⟨.hbm, 38, rfl⟩
abbrev main_v16_1 : Ref sig .tc := ⟨.hbm, 39, rfl⟩
abbrev main_v16_2 : Ref sig .tc := ⟨.hbm, 40, rfl⟩
abbrev main_v16_3 : Ref sig .tc := ⟨.hbm, 41, rfl⟩
abbrev main_v16_4 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem3_0 : DmaSem sig := 5
abbrev cc1_sem4_0 : DmaSem sig := 6
abbrev cc1_sem5_0 : DmaSem sig := 7
abbrev cc1_sem6_0 : DmaSem sig := 8
abbrev cc1_sem7_0 : DmaSem sig := 9
abbrev cc1_sem8_0 : DmaSem sig := 10

abbrev nD : Nat := 1
abbrev τ : Topo := Topo.v7x

variable {F : FTy → Type} [FloatOps F]

abbrev grid0 : Pipeline.Grid := .none

abbrev stage0_0 : Fin 1 → Memref sig .tc .vmem S3x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

abbrev stage1_0 : Fin 1 → Memref sig .tc .vmem S8x8x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S16x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S16x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
-- ==== Reference7Ideal.lean ====
abbrev S8x8x1024 : Shape := ⟨3, ![8, 8, 1024]⟩
abbrev S2x1024 : Shape := ⟨2, ![2, 1024]⟩
abbrev S3x1024 : Shape := ⟨2, ![3, 1024]⟩
abbrev S1x128 : Shape := ⟨2, ![1, 128]⟩
abbrev S1024 : Shape := ⟨1, ![1024]⟩
abbrev S_ : Shape := ⟨0, ![]⟩
abbrev S8x1024 : Shape := ⟨2, ![8, 1024]⟩
abbrev S1x1024 : Shape := ⟨2, ![1, 1024]⟩

abbrev nBuf : Space → Nat
  | .hbm => 258
  | .vmem => 0
  | .smem => 0
  | _ => 0

abbrev hbmTy0_0 (i : Nat) : BufTy := match i % 128 with
  | 0 => ⟨S8x8x1024, .f32⟩
  | 1 => ⟨S2x1024, .f32⟩
  | 2 => ⟨S2x1024, .f32⟩
  | 3 => ⟨S3x1024, .f32⟩
  | 4 => ⟨S1x128, .f32⟩
  | 5 => ⟨S1024, .f32⟩
  | 6 => ⟨S2x1024, .f32⟩
  | 7 => ⟨S2x1024, .f32⟩
  | 8 => ⟨S3x1024, .f32⟩
  | 9 => ⟨S1x128, .f32⟩
  | 10 => ⟨S1024, .f32⟩
  | 11 => ⟨S2x1024, .f32⟩
  | 12 => ⟨S2x1024, .f32⟩
  | 13 => ⟨S3x1024, .f32⟩
  | 14 => ⟨S1x128, .f32⟩
  | 15 => ⟨S1024, .f32⟩
  | 16 => ⟨S_, .f32⟩
  | 17 => ⟨S8x1024, .f32⟩
  | 18 => ⟨S_, .f32⟩
  | 19 => ⟨S1024, .f32⟩
  | 20 => ⟨S1x1024, .f32⟩
  | 21 => ⟨S3x1024, .f32⟩
  | 22 => ⟨S3x1024, .i1⟩
  | 23 => ⟨S3x1024, .f32⟩
  | 24 => ⟨S_, .f32⟩
  | 25 => ⟨S1024, .f32⟩
  | 26 => ⟨S_, .f32⟩
  | 27 => ⟨S1024, .f32⟩
  | 28 => ⟨S1024, .f32⟩
  | 29 => ⟨S_, .f32⟩
  | 30 => ⟨S1024, .f32⟩
  | 31 => ⟨S1024, .i1⟩
  | 32 => ⟨S_, .f32⟩
  | 33 => ⟨S1024, .f32⟩
  | 34 => ⟨S1024, .i1⟩
  | 35 => ⟨S_, .f32⟩
  | 36 => ⟨S1024, .f32⟩
  | 37 => ⟨S_, .f32⟩
  | 38 => ⟨S1024, .f32⟩
  | 39 => ⟨S_, .f32⟩
  | 40 => ⟨S1024, .f32⟩
  | 41 => ⟨S1024, .f32⟩
  | 42 => ⟨S1024, .f32⟩
  | 43 => ⟨S1x1024, .f32⟩
  | 44 => ⟨S3x1024, .f32⟩
  | 45 => ⟨S3x1024, .f32⟩
  | 46 => ⟨S3x1024, .f32⟩
  | 47 => ⟨S_, .f32⟩
  | 48 => ⟨S1024, .f32⟩
  | 49 => ⟨S1x1024, .f32⟩
  | 50 => ⟨S3x1024, .f32⟩
  | 51 => ⟨S3x1024, .f32⟩
  | 52 => ⟨S1x1024, .f32⟩
  | 53 => ⟨S_, .f32⟩
  | 54 => ⟨S1x1024, .f32⟩
  | 55 => ⟨S1x1024, .f32⟩
  | 56 => ⟨S_, .f32⟩
  | 57 => ⟨S_, .f32⟩
  | 58 => ⟨S3x1024, .f32⟩
  | 59 => ⟨S1x1024, .f32⟩
  | 60 => ⟨S1024, .f32⟩
  | 61 => ⟨S1x1024, .f32⟩
  | 62 => ⟨S1024, .f32⟩
  | 63 => ⟨S1x1024, .f32⟩
  | 64 => ⟨S_, .f32⟩
  | 65 => ⟨S3x1024, .f32⟩
  | 66 => ⟨S_, .f32⟩
  | 67 => ⟨S_, .f32⟩
  | 68 => ⟨S3x1024, .f32⟩
  | 69 => ⟨S3x1024, .f32⟩
  | 70 => ⟨S3x1024, .f32⟩
  | 71 => ⟨S3x1024, .f32⟩
  | 72 => ⟨S_, .f32⟩
  | 73 => ⟨S1024, .f32⟩
  | 74 => ⟨S1x1024, .f32⟩
  | 75 => ⟨S1x1024, .f32⟩
  | 76 => ⟨S3x1024, .f32⟩
  | 77 => ⟨S3x1024, .f32⟩
  | 78 => ⟨S_, .f32⟩
  | 79 => ⟨S1024, .f32⟩
  | 80 => ⟨S3x1024, .f32⟩
  | 81 => ⟨S3x1024, .f32⟩
  | 82 => ⟨S3x1024, .f32⟩
  | 83 => ⟨S2x1024, .f32⟩
  | 84 => ⟨S2x1024, .f32⟩
  | 85 => ⟨S1x128, .f32⟩
  | 86 => ⟨S1x1024, .f32⟩
  | 87 => ⟨S1024, .f32⟩
  | 88 => ⟨S_, .f32⟩
  | 89 => ⟨S2x1024, .f32⟩
  | 90 => ⟨S2x1024, .f32⟩
  | 91 => ⟨S_, .f32⟩
  | 92 => ⟨S2x1024, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S2x1024, .f32⟩
  | 103 => ⟨S_, .f32⟩
  | 104 => ⟨S2x1024, .f32⟩
  | 105 => ⟨S2x1024, .f32⟩
  | 106 => ⟨S_, .f32⟩
  | 107 => ⟨S2x1024, .f32⟩
  | 108 => ⟨S2x1024, .f32⟩
  | 109 => ⟨S2x1024, .f32⟩
  | 110 => ⟨S_, .f32⟩
  | 111 => ⟨S2x1024, .f32⟩
  | 112 => ⟨S2x1024, .f32⟩
  | 113 => ⟨S2x1024, .f32⟩
  | 114 => ⟨S_, .f32⟩
  | 115 => ⟨S2x1024, .f32⟩
  | 116 => ⟨S2x1024, .f32⟩
  | 117 => ⟨S2x1024, .f32⟩
  | 118 => ⟨S_, .f32⟩
  | 119 => ⟨S2x1024, .f32⟩
  | 120 => ⟨S2x1024, .f32⟩
  | 121 => ⟨S_, .f32⟩
  | 122 => ⟨S2x1024, .f32⟩
  | 123 => ⟨S2x1024, .f32⟩
  | 124 => ⟨S_, .f32⟩
  | 125 => ⟨S2x1024, .f32⟩
  | 126 => ⟨S2x1024, .f32⟩
  | 127 => ⟨S2x1024, .f32⟩
  | _ => ⟨S8x8x1024, .f32⟩

abbrev hbmTy0_1 (i : Nat) : BufTy := match i % 128 with
  | 0 => ⟨S_, .f32⟩
  | 1 => ⟨S2x1024, .f32⟩
  | 2 => ⟨S2x1024, .f32⟩
  | 3 => ⟨S2x1024, .f32⟩
  | 4 => ⟨S_, .f32⟩
  | 5 => ⟨S2x1024, .f32⟩
  | 6 => ⟨S2x1024, .f32⟩
  | 7 => ⟨S2x1024, .f32⟩
  | 8 => ⟨S_, .f32⟩
  | 9 => ⟨S2x1024, .f32⟩
  | 10 => ⟨S2x1024, .f32⟩
  | 11 => ⟨S_, .f32⟩
  | 12 => ⟨S2x1024, .f32⟩
  | 13 => ⟨S2x1024, .f32⟩
  | 14 => ⟨S2x1024, .f32⟩
  | 15 => ⟨S_, .f32⟩
  | 16 => ⟨S2x1024, .f32⟩
  | 17 => ⟨S2x1024, .f32⟩
  | 18 => ⟨S2x1024, .f32⟩
  | 19 => ⟨S_, .f32⟩
  | 20 => ⟨S2x1024, .f32⟩
  | 21 => ⟨S2x1024, .f32⟩
  | 22 => ⟨S2x1024, .f32⟩
  | 23 => ⟨S_, .f32⟩
  | 24 => ⟨S2x1024, .f32⟩
  | 25 => ⟨S2x1024, .f32⟩
  | 26 => ⟨S_, .f32⟩
  | 27 => ⟨S3x1024, .f32⟩
  | 28 => ⟨S3x1024, .f32⟩
  | 29 => ⟨S_, .f32⟩
  | 30 => ⟨S3x1024, .f32⟩
  | 31 => ⟨S3x1024, .f32⟩
  | 32 => ⟨S3x1024, .f32⟩
  | 33 => ⟨S_, .f32⟩
  | 34 => ⟨S3x1024, .f32⟩
  | 35 => ⟨S3x1024, .f32⟩
  | 36 => ⟨S3x1024, .f32⟩
  | 37 => ⟨S_, .f32⟩
  | 38 => ⟨S3x1024, .f32⟩
  | 39 => ⟨S3x1024, .f32⟩
  | 40 => ⟨S3x1024, .f32⟩
  | 41 => ⟨S_, .f32⟩
  | 42 => ⟨S3x1024, .f32⟩
  | 43 => ⟨S3x1024, .f32⟩
  | 44 => ⟨S_, .f32⟩
  | 45 => ⟨S3x1024, .f32⟩
  | 46 => ⟨S3x1024, .f32⟩
  | 47 => ⟨S3x1024, .f32⟩
  | 48 => ⟨S_, .f32⟩
  | 49 => ⟨S3x1024, .f32⟩
  | 50 => ⟨S3x1024, .f32⟩
  | 51 => ⟨S3x1024, .f32⟩
  | 52 => ⟨S_, .f32⟩
  | 53 => ⟨S3x1024, .f32⟩
  | 54 => ⟨S3x1024, .f32⟩
  | 55 => ⟨S3x1024, .f32⟩
  | 56 => ⟨S_, .f32⟩
  | 57 => ⟨S3x1024, .f32⟩
  | 58 => ⟨S3x1024, .f32⟩
  | 59 => ⟨S_, .f32⟩
  | 60 => ⟨S1x128, .f32⟩
  | 61 => ⟨S1x128, .f32⟩
  | 62 => ⟨S_, .f32⟩
  | 63 => ⟨S1x128, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S1x128, .f32⟩
  | 89 => ⟨S_, .f32⟩
  | 90 => ⟨S1x128, .f32⟩
  | 91 => ⟨S1x128, .f32⟩
  | 92 => ⟨S_, .f32⟩
  | 93 => ⟨S1024, .f32⟩
  | 94 => ⟨S1024, .f32⟩
  | 95 => ⟨S_, .f32⟩
  | 96 => ⟨S1024, .f32⟩
  | 97 => ⟨S1024, .f32⟩
  | 98 => ⟨S1024, .f32⟩
  | 99 => ⟨S_, .f32⟩
  | 100 => ⟨S1024, .f32⟩
  | 101 => ⟨S1024, .f32⟩
  | 102 => ⟨S1024, .f32⟩
  | 103 => ⟨S_, .f32⟩
  | 104 => ⟨S1024, .f32⟩
  | 105 => ⟨S1024, .f32⟩
  | 106 => ⟨S1024, .f32⟩
  | 107 => ⟨S_, .f32⟩
  | 108 => ⟨S1024, .f32⟩
  | 109 => ⟨S1024, .f32⟩
  | 110 => ⟨S_, .f32⟩
  | 111 => ⟨S1024, .f32⟩
  | 112 => ⟨S1024, .f32⟩
  | 113 => ⟨S1024, .f32⟩
  | 114 => ⟨S_, .f32⟩
  | 115 => ⟨S1024, .f32⟩
  | 116 => ⟨S1024, .f32⟩
  | 117 => ⟨S1024, .f32⟩
  | 118 => ⟨S_, .f32⟩
  | 119 => ⟨S1024, .f32⟩
  | 120 => ⟨S1024, .f32⟩
  | 121 => ⟨S1024, .f32⟩
  | 122 => ⟨S_, .f32⟩
  | 123 => ⟨S1024, .f32⟩
  | 124 => ⟨S1024, .f32⟩
  | 125 => ⟨S1x1024, .f32⟩
  | 126 => ⟨S1x1024, .f32⟩
  | 127 => ⟨S1024, .f32⟩
  | _ => ⟨S8x8x1024, .f32⟩

abbrev hbmTy0_2 (i : Nat) : BufTy := match i % 128 with
  | 0 => ⟨S_, .f32⟩
  | 1 => ⟨S_, .f32⟩
  | _ => ⟨S8x8x1024, .f32⟩

abbrev hbmTy (i : Nat) : BufTy := match i / 128 with
  | 0 => hbmTy0_0 i
  | 1 => hbmTy0_1 i
  | 2 => hbmTy0_2 i
  | _ => ⟨S8x8x1024, .f32⟩

abbrev bufTy : (tb : Table) → Fin (tcTables nBuf tb) → BufTy
  | .hbm, ⟨i, _⟩ => hbmTy i
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_cst_4 : Ref sig .tc := ⟨.hbm, 32, rfl⟩
abbrev main_v11 : Ref sig .tc := ⟨.hbm, 33, rfl⟩
abbrev main_v12 : Ref sig .tc := ⟨.hbm, 34, rfl⟩
abbrev main_cst_5 : Ref sig .tc := ⟨.hbm, 35, rfl⟩
abbrev main_v13 : Ref sig .tc := ⟨.hbm, 36, rfl⟩
abbrev main_cst_6 : Ref sig .tc := ⟨.hbm, 37, rfl⟩
abbrev main_v14 : Ref sig .tc := ⟨.hbm, 38, rfl⟩
abbrev main_cst_7 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_8 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_v27 : Ref sig .tc := ⟨.hbm, 54, rfl⟩
abbrev main_v28 : Ref sig .tc := ⟨.hbm, 55, rfl⟩
abbrev main_call0_call0_cst : Ref sig .tc := ⟨.hbm, 56, rfl⟩
abbrev main_call0_call0_v0 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_10 : Ref sig .tc := ⟨.hbm, 64, rfl⟩
abbrev main_v35 : Ref sig .tc := ⟨.hbm, 65, rfl⟩
abbrev main_call1_call0_cst : Ref sig .tc := ⟨.hbm, 66, rfl⟩
abbrev main_call1_call0_v0 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_11 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_12 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_13 : Ref sig .tc := ⟨.hbm, 88, rfl⟩
abbrev main_v54 : Ref sig .tc := ⟨.hbm, 89, rfl⟩
abbrev main_v55 : Ref sig .tc := ⟨.hbm, 90, rfl⟩
abbrev main_cst_14 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_15 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_16 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_17 : Ref sig .tc := ⟨.hbm, 103, rfl⟩
abbrev main_v65 : Ref sig .tc := ⟨.hbm, 104, rfl⟩
abbrev main_v66 : Ref sig .tc := ⟨.hbm, 105, rfl⟩
abbrev main_cst_18 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_19 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_20 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_21 : Ref sig .tc := ⟨.hbm, 118, rfl⟩
abbrev main_v76 : Ref sig .tc := ⟨.hbm, 119, rfl⟩
abbrev main_v77 : Ref sig .tc := ⟨.hbm, 120, rfl⟩
abbrev main_cst_22 : Ref sig .tc := ⟨.hbm, 121, rfl⟩
abbrev main_v78 : Ref sig .tc := ⟨.hbm, 122, rfl⟩
abbrev main_v79 : Ref sig .tc := ⟨.hbm, 123, rfl⟩
abbrev main_cst_23 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_24 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_25 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_26 : Ref sig .tc := ⟨.hbm, 136, rfl⟩
abbrev main_v89 : Ref sig .tc := ⟨.hbm, 137, rfl⟩
abbrev main_v90 : Ref sig .tc := ⟨.hbm, 138, rfl⟩
abbrev main_cst_27 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_28 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_29 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_cst_30 : Ref sig .tc := ⟨.hbm, 151, rfl⟩
abbrev main_v100 : Ref sig .tc := ⟨.hbm, 152, rfl⟩
abbrev main_v101 : Ref sig .tc := ⟨.hbm, 153, rfl⟩
abbrev main_cst_31 : Ref sig .tc := ⟨.hbm, 154, rfl⟩
abbrev main_v102 : Ref sig .tc := ⟨.hbm, 155, rfl⟩
abbrev main_v103 : Ref sig .tc := ⟨.hbm, 156, rfl⟩
abbrev main_cst_32 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_33 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_cst_34 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_cst_35 : Ref sig .tc := ⟨.hbm, 169, rfl⟩
abbrev main_v113 : Ref sig .tc := ⟨.hbm, 170, rfl⟩
abbrev main_v114 : Ref sig .tc := ⟨.hbm, 171, rfl⟩
abbrev main_cst_36 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_cst_37 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_cst_38 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_cst_39 : Ref sig .tc := ⟨.hbm, 184, rfl⟩
abbrev main_v124 : Ref sig .tc := ⟨.hbm, 185, rfl⟩
abbrev main_v125 : Ref sig .tc := ⟨.hbm, 186, rfl⟩
abbrev main_cst_40 : Ref sig .tc := ⟨.hbm, 187, rfl⟩
abbrev main_v126 : Ref sig .tc := ⟨.hbm, 188, rfl⟩
abbrev main_v127 : Ref sig .tc := ⟨.hbm, 189, rfl⟩
abbrev main_cst_41 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_cst_42 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_cst_43 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_cst_44 : Ref sig .tc := ⟨.hbm, 202, rfl⟩
abbrev main_v137 : Ref sig .tc := ⟨.hbm, 203, rfl⟩
abbrev main_v138 : Ref sig .tc := ⟨.hbm, 204, rfl⟩
abbrev main_cst_45 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_cst_46 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_cst_47 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_cst_48 : Ref sig .tc := ⟨.hbm, 217, rfl⟩
abbrev main_v148 : Ref sig .tc := ⟨.hbm, 218, rfl⟩
abbrev main_v149 : Ref sig .tc := ⟨.hbm, 219, rfl⟩
abbrev main_cst_49 : Ref sig .tc := ⟨.hbm, 220, rfl⟩
abbrev main_v150 : Ref sig .tc := ⟨.hbm, 221, rfl⟩
abbrev main_v151 : Ref sig .tc := ⟨.hbm, 222, rfl⟩
abbrev main_cst_50 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_cst_51 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_cst_52 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_cst_53 : Ref sig .tc := ⟨.hbm, 235, rfl⟩
abbrev main_v161 : Ref sig .tc := ⟨.hbm, 236, rfl⟩
abbrev main_v162 : Ref sig .tc := ⟨.hbm, 237, rfl⟩
abbrev main_cst_54 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_cst_55 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_cst_56 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_cst_57 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_cst_58 : Ref sig .tc := ⟨.hbm, 256, rfl⟩
abbrev main_v177 : Ref sig .tc := ⟨.hbm, 257, rfl⟩

abbrev nD : Nat := 1
abbrev τ : Topo := Topo.v7x

variable {F : FTy → Type} [FloatOps F]
-- ==== Proof.AttnParts.lean ====
module

public import proofs.«01_k».proof.Proof.Gen.KernelIdeal.Skeleton
public import Idealize.ShloMosaic.Lib.Pointwise

/-! One 128-query, 128-key part of the attention gradient of one head: the vector operations of the body, and the
    same numbers over extended reals. -/

@[expose] public section

set_option maxRecDepth 16384

noncomputable section

namespace Cert.KernelIdeal.Attn

open Cert.KernelIdeal Cert.KernelIdeal.Gen Idealize.ShloMosaic Idealize.ShloMosaic.TcCoe Idealize.SL.Sem

/-- A 128 by 128 tile of numbers. -/
abbrev Tile := Fin 128 → Fin 128 → EReal

/-- The score scale of the kernel: the number its constant `0x3DB504F3` stands for. -/
def scale : EReal := Ideal.ofBits .f32 0x3DB504F3#32

/-- The weight of key `c` for query `r`: `exp (score · scale − lse + bias)` where the mask holds, else 0. -/
def prob (Q K L : Tile) (msk : Fin 128 → Fin 128 → BitVec 1) (b : EReal) : Tile := fun r c =>
  Scalar.select (msk r c) (Ideal.exp ((∑ e : Fin 128, Q r e * K c e) * scale - L r c + b)) 0

/-- The gradient of the score: `weight · (do · v − delta) · scale`. -/
def dscore (Q O L D K V : Tile) (msk : Fin 128 → Fin 128 → BitVec 1) (b : EReal) : Tile := fun r c =>
  prob Q K L msk b r c * ((∑ e : Fin 128, O r e * V c e) - D r c) * scale

/-- The part's gradient of the queries. -/
def dqp (Q O L D K V : Tile) (msk : Fin 128 → Fin 128 → BitVec 1) (b : EReal) : Tile := fun r e =>
  ∑ c : Fin 128, dscore Q O L D K V msk b r c * K c e

/-- The part's gradient of the keys. -/
def dkp (Q O L D K V : Tile) (msk : Fin 128 → Fin 128 → BitVec 1) (b : EReal) : Tile := fun c e =>
  ∑ r : Fin 128, dscore Q O L D K V msk b r c * Q r e

/-- The part's gradient of the values. -/
def dvp (Q O L K : Tile) (msk : Fin 128 → Fin 128 → BitVec 1) (b : EReal) : Tile := fun c e =>
  ∑ r : Fin 128, prob Q K L msk b r c * O r e

/-- The rotation undone on one element: `x·cos` plus the half-way neighbour's `x·sin`. -/
def unrope (X C S : Tile) : Tile := fun r e =>
  X r e * C r e + X r ⟨(e.val + 128 - 64) % 128, Nat.mod_lt _ (by decide)⟩ * S r ⟨(e.val + 128 - 64) % 128, Nat.mod_lt _ (by decide)⟩

section Vectors

variable (q o k v : FVec Ideal S128x128 .bf16) (l d : FVec Ideal S128x128 .f32) (msk : IVec S128x128 1) (b : EReal)

/-- A vector as a tile. -/
def tl {φ : FTy} (x : FVec Ideal S128x128 φ) : Tile := fun r e => x (ix2 r e)

/-- A mask as a function of row and column. -/
def mk (x : IVec S128x128 1) : Fin 128 → Fin 128 → BitVec 1 := fun r c => x (ix2 r c)

/-- The body's product of two tiles over their lanes. -/
abbrev prodNT (x y : FVec Ideal S128x128 .bf16) : FVec Ideal S128x128 .f32 :=
  matmul (F := Ideal) dot_S128x128_S128x128_S128x128_1_1_0_0_n_n none x y (constant (F := Ideal) S128x128 .f32 0x00000000#32)

/-- The body's weights of one part. -/
abbrev probV : FVec Ideal S128x128 .f32 :=
  select msk (exp (F := Ideal) (addf (F := Ideal) (subf (F := Ideal) (mulf (F := Ideal) (prodNT q k)
    (broadcast S128x128 (Scalar.ofBits (F := Ideal) .f32 0x3DB504F3#32))) l) (broadcast S128x128 (show Ideal .f32 from b))))
    (broadcast S128x128 (Scalar.ofBits (F := Ideal) .f32 0x00000000#32))

/-- The body's score gradient of one part. -/
abbrev dsV : FVec Ideal S128x128 .bf16 :=
  truncf (F := Ideal) .bf16 (mulf (F := Ideal) (mulf (F := Ideal) (probV q k l msk b) (subf (F := Ideal) (prodNT o v) d))
    (broadcast S128x128 (Scalar.ofBits (F := Ideal) .f32 0x3DB504F3#32))) bitsLt_bf16_f32

/-- The body's query gradient of one part. -/
abbrev dqV : FVec Ideal S128x128 .f32 :=
  matmul (F := Ideal) dot_S128x128_S128x128_S128x128_1_0_0_1_n_n none (dsV q o k v l d msk b) k (constant (F := Ideal) S128x128 .f32 0x00000000#32)

/-- The body's key gradient of one part. -/
abbrev dkV : FVec Ideal S128x128 .f32 :=
  matmul (F := Ideal) dot_S128x128_S128x128_S128x128_0_0_1_1_n_n none (dsV q o k v l d msk b) q (constant (F := Ideal) S128x128 .f32 0x00000000#32)

/-- The body's value gradient of one part. -/
abbrev dvV : FVec Ideal S128x128 .f32 :=
  matmul (F := Ideal) dot_S128x128_S128x128_S128x128_0_0_1_1_n_n none (truncf (F := Ideal) .bf16 (probV q k l msk b) bitsLt_bf16_f32) o
    (constant (F := Ideal) S128x128 .f32 0x00000000#32)

/-- The body's undone rotation. -/
abbrev unropeV (x cs sn : FVec Ideal S128x128 .f32) : FVec Ideal S128x128 .f32 :=
  addf (F := Ideal) (mulf (F := Ideal) x cs) (dynamicRotate 1 64#32 none (mulf (F := Ideal) x sn) rotates_S128x128_d1)

theorem prob_at (r c : Fin 128) : probV q k l msk b (ix2 r c) = prob (tl q) (tl k) (tl l) (mk msk) b r c := by
  unfold prob tl mk scale
  pointwise []

theorem ds_at (r c : Fin 128) :
    dsV q o k v l d msk b (ix2 r c) = dscore (tl q) (tl o) (tl l) (tl d) (tl k) (tl v) (mk msk) b r c := by
  unfold dscore prob tl mk scale
  pointwise []

theorem dq_at (r e : Fin 128) :
    dqV q o k v l d msk b (ix2 r e) = dqp (tl q) (tl o) (tl l) (tl d) (tl k) (tl v) (mk msk) b r e := by
  unfold dqp dscore prob tl mk scale
  pointwise []

theorem dk_at (r e : Fin 128) :
    dkV q o k v l d msk b (ix2 r e) = dkp (tl q) (tl o) (tl l) (tl d) (tl k) (tl v) (mk msk) b r e := by
  unfold dkp dscore prob tl mk scale
  pointwise []

theorem dv_at (r e : Fin 128) :
    dvV q o k l msk b (ix2 r e) = dvp (tl q) (tl o) (tl l) (tl k) (mk msk) b r e := by
  unfold dvp prob tl mk scale
  pointwise []

theorem unrope_at (x cs sn : FVec Ideal S128x128 .f32) (r e : Fin 128) :
    unropeV x cs sn (ix2 r e) = unrope (tl x) (tl cs) (tl sn) r e := by
  unfold unrope tl
  pointwise []

end Vectors

/-- The mask of the block before a query's own: key `c` is in the window of query `r` when `r ≤ c`. -/
theorem mask_prev (r c : Fin 128) : mk k0_pay9 r c = if r ≤ c then 1#1 else 0#1 := by
  unfold mk
  pointwise [k0_pay9]
  revert r c
  decide +kernel

/-- The mask of a query's own block: key `c` is not after query `r`. -/
theorem mask_cur (r c : Fin 128) : mk k0_pay10 r c = if c ≤ r then 1#1 else 0#1 := by
  unfold mk
  pointwise [k0_pay10]
  revert r c
  decide +kernel

end Cert.KernelIdeal.Attn

end
-- ==== Proof.AttnPoint.lean ====
module

public import proofs.«01_k».proof.Proof.AttnParts
public import proofs.«01_k».proof.Proof.Gen.KernelIdeal.Value
public import Idealize.ShloMosaic.Lib.Pipeline.ValueKit

/-! What one grid point leaves in the carried scratches and in its output block. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- Head `h`'s columns of a 128-row block. -/
def colT {φ : FTy} (X : FVec Ideal S128x512 φ) (h : Fin 4) : Tile := fun r e => X (ix2 r ⟨128 * h.val + e.val, by omega⟩)

/-- Head `h`'s columns of the first half of a 256-row block. -/
def loT {φ : FTy} (X : FVec Ideal S256x512 φ) (h : Fin 4) : Tile := fun r e =>
  X (ix2 ⟨r.val, by omega⟩ ⟨128 * h.val + e.val, by omega⟩)

/-- Head `h`'s columns of the second half of a 256-row block. -/
def hiT {φ : FTy} (X : FVec Ideal S256x512 φ) (h : Fin 4) : Tile := fun r e =>
  X (ix2 ⟨128 + r.val, by omega⟩ ⟨128 * h.val + e.val, by omega⟩)

/-- The first half of a rotation table's block. -/
def loR (X : FVec Ideal S256x128 .f32) : Tile := fun r e => X (ix2 ⟨r.val, by omega⟩ e)

/-- The second half of a rotation table's block. -/
def hiR (X : FVec Ideal S256x128 .f32) : Tile := fun r e => X (ix2 ⟨128 + r.val, by omega⟩ e)

/-- What is added to the scores of the pair's second query block. -/
abbrev biasA (i : grid0.Coords) : EReal := k0_pay7 (F := Ideal) i

/-- What is added to the scores of the next query block against its own keys. -/
abbrev biasB (i : grid0.Coords) : EReal := k0_pay8 (F := Ideal) i

/-- What is added to the scores of the next query block against the pair's second key block. -/
abbrev biasAB (i : grid0.Coords) : EReal := Scalar.addf (F := Ideal) (φ := .f32) (biasA i) (biasB i)

abbrev mPrev : Fin 128 → Fin 128 → BitVec 1 := mk k0_pay9
abbrev mCur : Fin 128 → Fin 128 → BitVec 1 := mk k0_pay10

theorem dq_sum_at (q o k v q' o' k' v' : FVec Ideal S128x128 .bf16) (l d l' d' : FVec Ideal S128x128 .f32) (ma mb : IVec S128x128 1)
    (ba bb : EReal) (r e : Fin 128) :
    shapeCast S128x128 (addf (F := Ideal) (dqV q o k v l d ma ba) (dqV q' o' k' v' l' d' mb bb)) shapeCasts_S128x128_S128x128 (ix2 r e)
      = dqp (tl q) (tl o) (tl l) (tl d) (tl k) (tl v) (mk ma) ba r e
        + dqp (tl q') (tl o') (tl l') (tl d') (tl k') (tl v') (mk mb) bb r e := by
  rw [← dq_at, ← dq_at]
  pointwise []

theorem dqp_congr {Q O L D K V Q' O' L' D' K' V' : Tile} {ma mb : Fin 128 → Fin 128 → BitVec 1} {ba bb : EReal} {r e r' e' : Fin 128}
    (h1 : Q = Q') (h2 : O = O') (h3 : L = L') (h4 : D = D') (h5 : K = K') (h6 : V = V') (h7 : ma = mb) (h8 : ba = bb)
    (h9 : r = r') (h10 : e = e') :
    dqp Q O L D K V ma ba r e = dqp Q' O' L' D' K' V' mb bb r' e' := by
  subst h1 h2 h3 h4 h5 h6 h7 h8 h9 h10; rfl

theorem dk_at' (q o k v : FVec Ideal S128x128 .bf16) (l d : FVec Ideal S128x128 .f32) (ma : IVec S128x128 1)
    (ba : EReal) (r e : Fin 128) :
    shapeCast S128x128 (dkV q o k v l d ma ba) shapeCasts_S128x128_S128x128 (ix2 r e)
      = dkp (tl q) (tl o) (tl l) (tl d) (tl k) (tl v) (mk ma) ba r e := by
  rw [← dk_at]
  pointwise []

theorem dv_at' (q o k : FVec Ideal S128x128 .bf16) (l : FVec Ideal S128x128 .f32) (ma : IVec S128x128 1)
    (ba : EReal) (r e : Fin 128) :
    shapeCast S128x128 (dvV q o k l ma ba) shapeCasts_S128x128_S128x128 (ix2 r e)
      = dvp (tl q) (tl o) (tl l) (tl k) (mk ma) ba r e := by
  rw [← dv_at]
  pointwise []

theorem dkp_congr {Q O L D K V Q' O' L' D' K' V' : Tile} {ma mb : Fin 128 → Fin 128 → BitVec 1} {ba bb : EReal} {r e r' e' : Fin 128}
    (h1 : Q = Q') (h2 : O = O') (h3 : L = L') (h4 : D = D') (h5 : K = K') (h6 : V = V') (h7 : ma = mb) (h8 : ba = bb)
    (h9 : r = r') (h10 : e = e') :
    dkp Q O L D K V ma ba r e = dkp Q' O' L' D' K' V' mb bb r' e' := by
  subst h1 h2 h3 h4 h5 h6 h7 h8 h9 h10; rfl

theorem dvp_congr {Q O L K Q' O' L' K' : Tile} {ma mb : Fin 128 → Fin 128 → BitVec 1} {ba bb : EReal} {r e r' e' : Fin 128}
    (h1 : Q = Q') (h2 : O = O') (h3 : L = L') (h5 : K = K') (h7 : ma = mb) (h8 : ba = bb) (h9 : r = r') (h10 : e = e') :
    dvp Q O L K ma ba r e = dvp Q' O' L' K' mb bb r' e' := by
  subst h1 h2 h3 h5 h7 h8 h9 h10; rfl

/-- Stores followed by earlier ones, at an index the later stores cover: the earlier ones do not matter. -/
theorem canon_drop {Val : EltTy → Type} {S : Shape} {e : EltTy} [∀ e, Nonempty (Val e)] (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L' L y ?_
      obtain ⟨q, hq, hyq⟩ := hy
      rcases List.mem_cons.mp hq with rfl | hq'
      · exact absurd hyq hm
      · exact ⟨q, hq', hyq⟩

theorem unrope_congr {X C S X' C' S' : Tile} {r e r' e' : Fin 128} (h1 : ∀ e, X r e = X' r' e) (h2 : C = C') (h3 : S = S')
    (h4 : r = r') (h5 : e = e') : unrope X C S r e = unrope X' C' S' r' e' := by
  subst h2 h3 h4 h5
  unfold unrope
  rw [h1, h1]

/-- A half of the output block that a rotation is undone on: what is stored at `(r, e)`. -/
theorem unrope_bf_at (x cs sn : FVec Ideal S128x128 .f32) (r e : Fin 128) :
    truncf (F := Ideal) .bf16 (unropeV x cs sn) bitsLt_bf16_f32 (ix2 r e) = unrope (tl x) (tl cs) (tl sn) r e := by
  rw [← unrope_at]
  pointwise []

/-- The same where the rotated operand is a value the body computed. -/
theorem dq_add_at (q o k v q' o' k' v' : FVec Ideal S128x128 .bf16) (l d l' d' : FVec Ideal S128x128 .f32) (ma mb : IVec S128x128 1)
    (ba bb : EReal) (r e : Fin 128) :
    tl (addf (F := Ideal) (dqV q o k v l d ma ba) (dqV q' o' k' v' l' d' mb bb)) r e
      = dqp (tl q) (tl o) (tl l) (tl d) (tl k) (tl v) (mk ma) ba r e
        + dqp (tl q') (tl o') (tl l') (tl d') (tl k') (tl v') (mk mb) bb r e := by
  rw [← dq_at, ← dq_at]
  unfold tl
  pointwise []

theorem dk_add_at (q o k v q' o' k' v' : FVec Ideal S128x128 .bf16) (l d l' d' : FVec Ideal S128x128 .f32) (ma mb : IVec S128x128 1)
    (ba bb : EReal) (r e : Fin 128) :
    tl (addf (F := Ideal) (dkV q o k v l d ma ba) (dkV q' o' k' v' l' d' mb bb)) r e
      = dkp (tl q) (tl o) (tl l) (tl d) (tl k) (tl v) (mk ma) ba r e
        + dkp (tl q') (tl o') (tl l') (tl d') (tl k') (tl v') (mk mb) bb r e := by
  rw [← dk_at, ← dk_at]
  unfold tl
  pointwise []

theorem dk_add_scr (x : FVec Ideal S128x128 .f32) (q' o' k' v' : FVec Ideal S128x128 .bf16) (l' d' : FVec Ideal S128x128 .f32) (mb : IVec S128x128 1)
    (bb : EReal) (r e : Fin 128) :
    tl (addf (F := Ideal) x (dkV q' o' k' v' l' d' mb bb)) r e
      = tl x r e + dkp (tl q') (tl o') (tl l') (tl d') (tl k') (tl v') (mk mb) bb r e := by
  rw [← dk_at]
  unfold tl
  pointwise []

theorem dv_add_at (q o k q' o' k' : FVec Ideal S128x128 .bf16) (l l' : FVec Ideal S128x128 .f32) (ma mb : IVec S128x128 1)
    (ba bb : EReal) (r e : Fin 128) :
    truncf (F := Ideal) .bf16 (addf (F := Ideal) (dvV q o k l ma ba) (dvV q' o' k' l' mb bb)) bitsLt_bf16_f32 (ix2 r e)
      = dvp (tl q) (tl o) (tl l) (tl k) (mk ma) ba r e + dvp (tl q') (tl o') (tl l') (tl k') (mk mb) bb r e := by
  rw [← dv_at, ← dv_at]
  pointwise []

theorem dv_add_scr (x : FVec Ideal S128x128 .f32) (q' o' k' : FVec Ideal S128x128 .bf16) (l' : FVec Ideal S128x128 .f32) (mb : IVec S128x128 1)
    (bb : EReal) (r e : Fin 128) :
    truncf (F := Ideal) .bf16 (addf (F := Ideal) x (dvV q' o' k' l' mb bb)) bitsLt_bf16_f32 (ix2 r e)
      = tl x r e + dvp (tl q') (tl o') (tl l') (tl k') (mk mb) bb r e := by
  rw [← dv_at]
  unfold tl
  pointwise []

variable (m : (ℓ : Loc nD τ sig) → Buf (Elt Ideal) ℓ) (c : Dev nD) (t : Fin cfg0.N) (h : Fin 4)

/-- The point's blocks, head by head: the two query blocks, the three key and value blocks, the gradients and the row sums. -/
def qa : Tile := colT (φ := .bf16) (iblk m c 0 t) h
def qb : Tile := colT (φ := .bf16) (iblk m c 1 t) h
def ka : Tile := loT (φ := .bf16) (iblk m c 2 t) h
def kb : Tile := hiT (φ := .bf16) (iblk m c 2 t) h
def kn : Tile := colT (φ := .bf16) (iblk m c 3 t) h
def va : Tile := loT (φ := .bf16) (iblk m c 4 t) h
def vb : Tile := hiT (φ := .bf16) (iblk m c 4 t) h
def vn : Tile := colT (φ := .bf16) (iblk m c 5 t) h
def oa : Tile := colT (φ := .bf16) (iblk m c 6 t) h
def ob : Tile := colT (φ := .bf16) (iblk m c 7 t) h
def la : Tile := colT (φ := .f32) (iblk m c 8 t) h
def lb : Tile := colT (φ := .f32) (iblk m c 9 t) h
def da : Tile := colT (φ := .f32) (iblk m c 10 t) h
def db : Tile := colT (φ := .f32) (iblk m c 11 t) h

/-- The query gradient of the next block that point `t` leaves in its scratch. -/
def scrQ : Tile := fun r e =>
  dqp (qb m c t h) (ob m c t h) (lb m c t h) (db m c t h) (kb m c t h) (vb m c t h) mPrev (biasAB (grid0.coords t)) r e
    + dqp (qb m c t h) (ob m c t h) (lb m c t h) (db m c t h) (kn m c t h) (vn m c t h) mCur (biasB (grid0.coords t)) r e

/-- The key gradient of the next block that point `t` leaves in its scratch. -/
def scrK : Tile :=
  dkp (qb m c t h) (ob m c t h) (lb m c t h) (db m c t h) (kn m c t h) (vn m c t h) mCur (biasB (grid0.coords t))

/-- The value gradient of the next block that point `t` leaves in its scratch. -/
def scrV : Tile :=
  dvp (qb m c t h) (ob m c t h) (lb m c t h) (kn m c t h) mCur (biasB (grid0.coords t))

/-- The rotation tables of the point's pair: the cosines and the signed sines of its two blocks. -/
def cosLo : Tile := loR (iblk m c 12 t)
def cosHi : Tile := hiR (iblk m c 12 t)
def sinLo : Tile := loR (iblk m c 13 t)
def sinHi : Tile := hiR (iblk m c 13 t)

/-- The query, key and value gradients of the pair's second block. -/
def hiQ : Tile := unrope (fun r e =>
  dqp (qa m c t h) (oa m c t h) (la m c t h) (da m c t h) (ka m c t h) (va m c t h) mPrev (biasA (grid0.coords t)) r e
    + dqp (qa m c t h) (oa m c t h) (la m c t h) (da m c t h) (kb m c t h) (vb m c t h) mCur (biasA (grid0.coords t)) r e)
  (cosHi m c t) (sinHi m c t)
def hiK : Tile := unrope (fun r e =>
  dkp (qa m c t h) (oa m c t h) (la m c t h) (da m c t h) (kb m c t h) (vb m c t h) mCur (biasA (grid0.coords t)) r e
    + dkp (qb m c t h) (ob m c t h) (lb m c t h) (db m c t h) (kb m c t h) (vb m c t h) mPrev (biasAB (grid0.coords t)) r e)
  (cosHi m c t) (sinHi m c t)
def hiV : Tile := fun r e =>
  dvp (qa m c t h) (oa m c t h) (la m c t h) (kb m c t h) mCur (biasA (grid0.coords t)) r e
    + dvp (qb m c t h) (ob m c t h) (lb m c t h) (kb m c t h) mPrev (biasAB (grid0.coords t)) r e

/-- The query, key and value gradients of the pair's first block, over what the point before left in the scratches. -/
def loQ (X : Tile) : Tile := unrope X (cosLo m c t) (sinLo m c t)
def loK (X : Tile) : Tile := unrope (fun r e => X r e
    + dkp (qa m c t h) (oa m c t h) (la m c t h) (da m c t h) (ka m c t h) (va m c t h) mPrev (biasA (grid0.coords t)) r e)
  (cosLo m c t) (sinLo m c t)
def loV (X : Tile) : Tile := fun r e => X r e
    + dvp (qa m c t h) (oa m c t h) (la m c t h) (ka m c t h) mPrev (biasA (grid0.coords t)) r e

/-- What the point before left in the scratches, head by head. -/
def prevQ (s : Fin cfg0.N) : Tile := colT (φ := .f32) (outsAt0 m c s.val s.isLt).2.1 h
def prevK (s : Fin cfg0.N) : Tile := colT (φ := .f32) (outsAt0 m c s.val s.isLt).2.2.1 h
def prevV (s : Fin cfg0.N) : Tile := colT (φ := .f32) (outsAt0 m c s.val s.isLt).2.2.2 h

/-- What a point stores in its output block: row `r` and column `col` of it, over the scratches after point `s`. -/
def outAt (s : Fin cfg0.N) (row : Fin 256) (col : Fin 1536) : EReal :=
  if row.val < 128 then
    (if col.val < 512 then loQ m c t (prevQ m c ⟨col.val / 128 % 4, Nat.mod_lt _ (by decide)⟩ s)
     else if col.val < 1024 then loK m c t ⟨col.val / 128 % 4, Nat.mod_lt _ (by decide)⟩ (prevK m c ⟨col.val / 128 % 4, Nat.mod_lt _ (by decide)⟩ s)
     else loV m c t ⟨col.val / 128 % 4, Nat.mod_lt _ (by decide)⟩ (prevV m c ⟨col.val / 128 % 4, Nat.mod_lt _ (by decide)⟩ s))
      ⟨row.val % 128, Nat.mod_lt _ (by decide)⟩ ⟨col.val % 128, Nat.mod_lt _ (by decide)⟩
  else
    (if col.val < 512 then hiQ m c t ⟨col.val / 128 % 4, Nat.mod_lt _ (by decide)⟩
     else if col.val < 1024 then hiK m c t ⟨col.val / 128 % 4, Nat.mod_lt _ (by decide)⟩
     else hiV m c t ⟨col.val / 128 % 4, Nat.mod_lt _ (by decide)⟩)
      ⟨row.val % 128, Nat.mod_lt _ (by decide)⟩ ⟨col.val % 128, Nat.mod_lt _ (by decide)⟩

end Cert.KernelIdeal.Attn

end
-- ==== Proof.AttnSpec.lean ====
module

public import proofs.«01_k».proof.Proof.AttnParts

/-! What the gradient of windowed attention is, block by block, over plain functions of position, head and dimension.
A residue's positions are cut in 16 blocks of 128; a query of block `j` meets the keys of its own block up to itself, and those of
the block before from itself on. -/

@[expose] public section

noncomputable section

namespace Cert.KernelIdeal.Attn

open Idealize.ShloMosaic

/-- The eight arguments as functions of position, head and dimension. -/
structure Args where
  q : Fin 8192 → Fin 4 → Fin 128 → EReal
  k : Fin 8192 → Fin 4 → Fin 128 → EReal
  v : Fin 8192 → Fin 4 → Fin 128 → EReal
  o : Fin 8192 → Fin 4 → Fin 128 → EReal
  l : Fin 8192 → Fin 4 → EReal
  d : Fin 8192 → Fin 4 → EReal
  cs : Fin 8192 → Fin 64 → EReal
  sn : Fin 8192 → Fin 64 → EReal

/-- The dimension a coordinate's angle belongs to, and the coordinate it is paired with by the rotation. -/
def angle (e : Fin 128) : Fin 64 := ⟨e.val % 64, Nat.mod_lt _ (by decide)⟩
def other (e : Fin 128) : Fin 128 := ⟨(e.val + 64) % 128, Nat.mod_lt _ (by decide)⟩

/-- The rotated vectors. -/
def roped (cs sn : Fin 8192 → Fin 64 → EReal) (x : Fin 8192 → Fin 4 → Fin 128 → EReal) (p : Fin 8192) (h : Fin 4) (e : Fin 128) : EReal :=
  if e.val < 64 then x p h e * cs p (angle e) - x p h (other e) * sn p (angle e)
  else x p h e * cs p (angle e) + x p h (other e) * sn p (angle e)

/-- Row `r` of block `j` of residue `s`: the position it stands for. -/
def pos (s : Fin 4) (j : ℕ) (r : Fin 128) : Fin 8192 := ⟨(4 * (128 * j + r.val) + s.val) % 8192, Nat.mod_lt _ (by decide)⟩

variable (A : Args) (s h : Fin 4) (j : ℕ)

def qT : Tile := fun r e => roped A.cs A.sn A.q (pos s j r) h e
def kT : Tile := fun r e => roped A.cs A.sn A.k (pos s j r) h e
def vT : Tile := fun r e => A.v (pos s j r) h e
def oT : Tile := fun r e => A.o (pos s j r) h e
def lT : Tile := fun r _ => A.l (pos s j r) h
def dT : Tile := fun r _ => A.d (pos s j r) h
def cosT : Tile := fun r e => A.cs (pos s j r) (angle e)
def sinT : Tile := fun r e => if e.val < 64 then - A.sn (pos s j r) (angle e) else A.sn (pos s j r) (angle e)

/-- Which keys a query row meets: of the block before, and of its own block. -/
def mP : Fin 128 → Fin 128 → BitVec 1 := fun r c => if r ≤ c then 1#1 else 0#1
def mC : Fin 128 → Fin 128 → BitVec 1 := fun r c => if c ≤ r then 1#1 else 0#1

/-- The parts the queries of block `j` contribute: to their own gradient, and to the keys and values of the two blocks they meet. -/
def dqP : Tile := dqp (qT A s h j) (oT A s h j) (lT A s h j) (dT A s h j) (kT A s h (j - 1)) (vT A s h (j - 1)) mP 0
def dqC : Tile := dqp (qT A s h j) (oT A s h j) (lT A s h j) (dT A s h j) (kT A s h j) (vT A s h j) mC 0
def dkP : Tile := dkp (qT A s h j) (oT A s h j) (lT A s h j) (dT A s h j) (kT A s h (j - 1)) (vT A s h (j - 1)) mP 0
def dkC : Tile := dkp (qT A s h j) (oT A s h j) (lT A s h j) (dT A s h j) (kT A s h j) (vT A s h j) mC 0
def dvP : Tile := dvp (qT A s h j) (oT A s h j) (lT A s h j) (kT A s h (j - 1)) mP 0
def dvC : Tile := dvp (qT A s h j) (oT A s h j) (lT A s h j) (kT A s h j) mC 0

/-- The gradients of block `j`, before the rotation is undone. -/
def gq : Tile := fun r e => (if j = 0 then 0 else dqP A s h j r e) + dqC A s h j r e
def gk : Tile := fun r e => dkC A s h j r e + (if j = 15 then 0 else dkP A s h (j + 1) r e)
def gv : Tile := fun r e => dvC A s h j r e + (if j = 15 then 0 else dvP A s h (j + 1) r e)

/-- The three gradients at row `r` of block `j`. -/
def gradQ : Tile := unrope (gq A s h j) (cosT A s j) (sinT A s j)
def gradK : Tile := unrope (gk A s h j) (cosT A s j) (sinT A s j)

/-- The result: rows residue by residue, columns query, key, value gradient, head by head. -/
def spec (R : Fin 8192) (C : Fin 1536) : EReal :=
  if C.val < 512 then
    gradQ A ⟨R.val / 2048, by omega⟩ ⟨C.val / 128 % 4, Nat.mod_lt _ (by decide)⟩ (R.val % 2048 / 128)
      ⟨R.val % 128, Nat.mod_lt _ (by decide)⟩ ⟨C.val % 128, Nat.mod_lt _ (by decide)⟩
  else if C.val < 1024 then
    gradK A ⟨R.val / 2048, by omega⟩ ⟨C.val / 128 % 4, Nat.mod_lt _ (by decide)⟩ (R.val % 2048 / 128)
      ⟨R.val % 128, Nat.mod_lt _ (by decide)⟩ ⟨C.val % 128, Nat.mod_lt _ (by decide)⟩
  else
    gv A ⟨R.val / 2048, by omega⟩ ⟨C.val / 128 % 4, Nat.mod_lt _ (by decide)⟩ (R.val % 2048 / 128)
      ⟨R.val % 128, Nat.mod_lt _ (by decide)⟩ ⟨C.val % 128, Nat.mod_lt _ (by decide)⟩

/-! A part whose bias is the mask value is zero, whatever the tiles hold. -/

theorem prob_bot (Q K L : Tile) (msk : Fin 128 → Fin 128 → BitVec 1) (r e : Fin 128) : prob Q K L msk ⊥ r e = 0 := by
  unfold prob
  simp [Scalar.select]

theorem dqp_bot (Q O L D K V : Tile) (msk : Fin 128 → Fin 128 → BitVec 1) (r e : Fin 128) : dqp Q O L D K V msk ⊥ r e = 0 := by
  unfold dqp dscore
  simp [prob_bot]

theorem dkp_bot (Q O L D K V : Tile) (msk : Fin 128 → Fin 128 → BitVec 1) (r e : Fin 128) : dkp Q O L D K V msk ⊥ r e = 0 := by
  unfold dkp dscore
  simp [prob_bot]

theorem dvp_bot (Q O L K : Tile) (msk : Fin 128 → Fin 128 → BitVec 1) (r e : Fin 128) : dvp Q O L K msk ⊥ r e = 0 := by
  unfold dvp
  simp [prob_bot]

end Cert.KernelIdeal.Attn

end
-- ==== Proof.AttnEntry.lean ====
module

public import proofs.«01_k».proof.Proof.AttnPoint
public import proofs.«01_k».proof.Proof.AttnSpec

/-! The arrays the region is entered with, read at an index. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The position a row of the residue order stands for. -/
def posOf (R : Fin 8192) : Fin 8192 := ⟨4 * (R.val % 2048) + R.val / 2048, by omega⟩

/-- The arguments as launched. -/
def argsOf : Args where
  q p h e := (m ((c : Thread nD τ).loc main_arg0)) (ix3 p h e)
  k p h e := (m ((c : Thread nD τ).loc main_arg1)) (ix3 p h e)
  v p h e := (m ((c : Thread nD τ).loc main_arg2)) (ix3 p h e)
  o p h e := (m ((c : Thread nD τ).loc main_arg3)) (ix3 p h e)
  l p h := (m ((c : Thread nD τ).loc main_arg4)) (ix2 p h)
  d p h := (m ((c : Thread nD τ).loc main_arg5)) (ix2 p h)
  cs p e := (m ((c : Thread nD τ).loc main_arg6)) (ix2 p e)
  sn p e := (m ((c : Thread nD τ).loc main_arg7)) (ix2 p e)

theorem entry_do (R : Fin 8192) (C : Fin 512) (h : Fin 4) (e : Fin 128) (hC : C.val = 128 * h.val + e.val) :
    (V m c main_v24 : FVec Ideal S8192x512 .bf16) (ix2 R C) = (argsOf m c).o (posOf R) h e := by
  unfold argsOf
  entry_read
  pointwise []
  unfold posOf
  blk_ext

theorem entry_lse (R : Fin 8192) (C : Fin 512) (h : Fin 4) (e : Fin 128) (hC : C.val = 128 * h.val + e.val) :
    (V m c main_v29 : FVec Ideal S8192x512 .f32) (ix2 R C) = (argsOf m c).l (posOf R) h := by
  unfold argsOf
  entry_read
  pointwise []
  unfold posOf
  blk_ext

theorem entry_delta (R : Fin 8192) (C : Fin 512) (h : Fin 4) (e : Fin 128) (hC : C.val = 128 * h.val + e.val) :
    (V m c main_v34 : FVec Ideal S8192x512 .f32) (ix2 R C) = (argsOf m c).d (posOf R) h := by
  unfold argsOf
  entry_read
  pointwise []
  unfold posOf
  blk_ext

theorem entry_cos (R : Fin 8192) (e : Fin 128) :
    (V m c main_v38 : FVec Ideal S8192x128 .f32) (ix2 R e) = (argsOf m c).cs (posOf R) (angle e) := by
  unfold argsOf
  entry_read
  pointwise []
  unfold posOf angle
  by_cases he : e.val < 64
  · rw [dif_pos he]
    blk_ext
  · rw [dif_neg he]
    blk_ext

theorem entry_sin (R : Fin 8192) (e : Fin 128) :
    (V m c main_v43 : FVec Ideal S8192x128 .f32) (ix2 R e)
      = if e.val < 64 then - (argsOf m c).sn (posOf R) (angle e) else (argsOf m c).sn (posOf R) (angle e) := by
  unfold argsOf
  entry_read
  pointwise []
  unfold posOf angle
  by_cases he : e.val < 64
  · rw [dif_pos he]
    simp only [he, if_pos]
    blk_point []
  · rw [dif_neg he]
    simp only [he, if_neg, not_false_eq_true]
    blk_ext

theorem entry_q (R : Fin 8192) (C : Fin 1536) (h : Fin 4) (e : Fin 128) (hC : C.val = 128 * h.val + e.val) :
    (V m c main_v20 : FVec Ideal S8192x1536 .bf16) (ix2 R C)
      = roped (argsOf m c).cs (argsOf m c).sn (argsOf m c).q (posOf R) h e := by
  unfold argsOf roped
  entry_read
  pointwise []
  unfold posOf angle other
  have h1 : C.val / 128 = h.val := by omega
  have h2 : C.val % 128 = e.val := by omega
  have h3 : C.val / 128 < 8 := by omega
  have h4 : C.val / 128 < 4 := by omega
  simp only [h3, h4, h2, dif_pos]
  by_cases he : e.val < 64
  · simp only [he, dif_pos, if_pos]
    blk_point []
  · simp only [he, dif_neg, if_neg, not_false_eq_true]
    blk_point []

theorem entry_k (R : Fin 8192) (C : Fin 1536) (h : Fin 4) (e : Fin 128) (hC : C.val = 512 + 128 * h.val + e.val) :
    (V m c main_v20 : FVec Ideal S8192x1536 .bf16) (ix2 R C)
      = roped (argsOf m c).cs (argsOf m c).sn (argsOf m c).k (posOf R) h e := by
  unfold argsOf roped
  entry_read
  pointwise []
  unfold posOf angle other
  have h1 : C.val / 128 = 4 + h.val := by omega
  have h2 : C.val % 128 = e.val := by omega
  have h3 : C.val / 128 < 8 := by omega
  have h4 : ¬ C.val / 128 < 4 := by omega
  simp only [h3, h4, h2, dif_pos, dif_neg, not_false_eq_true]
  by_cases he : e.val < 64
  · simp only [he, dif_pos, if_pos]
    blk_point []
  · simp only [he, dif_neg, if_neg, not_false_eq_true]
    blk_point []

theorem entry_v (R : Fin 8192) (C : Fin 1536) (h : Fin 4) (e : Fin 128) (hC : C.val = 1024 + 128 * h.val + e.val) :
    (V m c main_v20 : FVec Ideal S8192x1536 .bf16) (ix2 R C) = (argsOf m c).v (posOf R) h e := by
  unfold argsOf
  entry_read
  pointwise []
  unfold posOf
  rw [dif_neg (by omega)]
  blk_ext

end Cert.KernelIdeal.Attn

end
-- ==== Proof.AttnBlocks.lean ====
module

public import proofs.«01_k».proof.Proof.AttnEntry

/-! The blocks a grid point is given, as tiles of the arguments, and the biases it adds. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N) (h : Fin 4)

theorem idx : ∀ t : Fin cfg0.N,
    win0_0.index t = ![16 * (t.val / 9) + (2 * (t.val % 9) - 1), 0] ∧ win0_1.index t = ![16 * (t.val / 9) + min (2 * (t.val % 9)) 15, 0]
    ∧ win0_2.index t = ![8 * (t.val / 9) + (t.val % 9 - 1), 1] ∧ win0_3.index t = ![16 * (t.val / 9) + min (2 * (t.val % 9)) 15, 1]
    ∧ win0_4.index t = ![8 * (t.val / 9) + (t.val % 9 - 1), 2] ∧ win0_5.index t = ![16 * (t.val / 9) + min (2 * (t.val % 9)) 15, 2]
    ∧ win0_6.index t = ![16 * (t.val / 9) + (2 * (t.val % 9) - 1), 0] ∧ win0_7.index t = ![16 * (t.val / 9) + min (2 * (t.val % 9)) 15, 0]
    ∧ win0_8.index t = ![16 * (t.val / 9) + (2 * (t.val % 9) - 1), 0] ∧ win0_9.index t = ![16 * (t.val / 9) + min (2 * (t.val % 9)) 15, 0]
    ∧ win0_10.index t = ![16 * (t.val / 9) + (2 * (t.val % 9) - 1), 0] ∧ win0_11.index t = ![16 * (t.val / 9) + min (2 * (t.val % 9)) 15, 0]
    ∧ win0_12.index t = ![8 * (t.val / 9) + (t.val % 9 - 1), 0] ∧ win0_13.index t = ![8 * (t.val / 9) + (t.val % 9 - 1), 0]
    ∧ win0_14.index t = ![8 * (t.val / 9) + (t.val % 9 - 1), 0] :=
  (by decide +kernel : ∀ t : Fin grid0.N, _)

theorem coord1 : ∀ t : Fin cfg0.N, (grid0.coords t 1).val = t.val % 9 :=
  (by decide +kernel : ∀ t : Fin grid0.N, (grid0.coords t 1).val = t.val % 9)

theorem point_lt : t.val < 36 := lt_of_lt_of_eq t.isLt (show cfg0.N = 36 from N_0)

/-- The residue a grid point works on. -/
def res : Fin 4 := ⟨t.val / 9, by have := point_lt t; omega⟩

theorem posOf_eq (R : Fin 8192) (s : Fin 4) (j : ℕ) (r : Fin 128) (hR : R.val = 2048 * s.val + 128 * j + r.val) (hj : j < 16) :
    posOf R = pos s j r := by
  have e1 : R.val % 2048 = 128 * j + r.val := by omega
  have e2 : R.val / 2048 = s.val := by omega
  have hr := r.isLt
  have hs := s.isLt
  apply Fin.ext
  simp only [posOf, pos, e1, e2]
  omega

theorem gt_word : ∀ n : Fin 9, Scalar.cmpi .sgt (BitVec.ofNat 32 n.val) 0#32 = if n.val = 0 then 0#1 else 1#1 := by decide
theorem lt_word : ∀ n : Fin 9, Scalar.cmpi .slt (BitVec.ofNat 32 n.val) 8#32 = if n.val = 8 then 0#1 else 1#1 := by decide

theorem biasA_eq : biasA (grid0.coords t) = if t.val % 9 = 0 then ⊥ else 0 := by
  unfold biasA k0_pay7
  have e := gt_word (grid0.coords t 1)
  rw [coord1] at e
  have z : Scalar.ofBits (F := Ideal) .f32 0x00000000#32 = (0 : EReal) := by exact Ideal.ofBits_zero_f32
  have b : (Named.named κ "mask" 0xF149F2CA#32 : Ideal .f32) = (⊥ : EReal) := rfl
  simp only [coord1, e, z, b]
  by_cases h0 : t.val % 9 = 0 <;> simp [h0, Scalar.select]

theorem biasB_eq : biasB (grid0.coords t) = if t.val % 9 = 8 then ⊥ else 0 := by
  unfold biasB k0_pay8
  have e := lt_word (grid0.coords t 1)
  rw [coord1] at e
  have z : Scalar.ofBits (F := Ideal) .f32 0x00000000#32 = (0 : EReal) := by exact Ideal.ofBits_zero_f32
  have b : (Named.named κ "mask" 0xF149F2CA#32 : Ideal .f32) = (⊥ : EReal) := rfl
  simp only [coord1, e, z, b]
  by_cases h0 : t.val % 9 = 8 <;> simp [h0, Scalar.select]

theorem biasAB_eq : biasAB (grid0.coords t) = biasA (grid0.coords t) + biasB (grid0.coords t) := rfl

theorem mPrev_eq : mPrev = mP := by
  funext r e
  exact mask_prev r e

theorem mCur_eq : mCur = mC := by
  funext r e
  exact mask_cur r e

theorem qa_eq (hn : t.val % 9 ≠ 0) : qa m c t h = qT (argsOf m c) (res t) h (2 * (t.val % 9) - 1) := by
  funext r e
  have ht := point_lt t
  unfold qa colT qT
  refine Eq.trans (b := (V m c main_v20 : FVec Ideal S8192x1536 .bf16) (ix2 ⟨128 * (16 * (t.val / 9) + (2 * (t.val % 9) - 1)) + r.val, by omega⟩ ⟨128 * h.val + e.val, by omega⟩)) (by blk_ext [iblk, idx t]) ?_
  refine (entry_q m c _ _ h e rfl).trans ?_
  exact congrArg (fun p => roped (argsOf m c).cs (argsOf m c).sn (argsOf m c).q p h e) (posOf_eq _ _ _ _ (by simp only [res]; omega) (by omega))

theorem qb_eq (hn : t.val % 9 ≠ 8) : qb m c t h = qT (argsOf m c) (res t) h (2 * (t.val % 9)) := by
  funext r e
  have ht := point_lt t
  unfold qb colT qT
  refine Eq.trans (b := (V m c main_v20 : FVec Ideal S8192x1536 .bf16) (ix2 ⟨128 * (16 * (t.val / 9) + min (2 * (t.val % 9)) 15) + r.val, by omega⟩ ⟨128 * h.val + e.val, by omega⟩)) (by blk_ext [iblk, idx t]) ?_
  refine (entry_q m c _ _ h e rfl).trans ?_
  exact congrArg (fun p => roped (argsOf m c).cs (argsOf m c).sn (argsOf m c).q p h e) (posOf_eq _ _ _ _ (by simp only [res]; omega) (by omega))

theorem ka_eq (hn : t.val % 9 ≠ 0) : ka m c t h = kT (argsOf m c) (res t) h (2 * (t.val % 9) - 2) := by
  funext r e
  have ht := point_lt t
  unfold ka loT kT
  refine Eq.trans (b := (V m c main_v20 : FVec Ideal S8192x1536 .bf16) (ix2 ⟨256 * (8 * (t.val / 9) + (t.val % 9 - 1)) + r.val, by omega⟩ ⟨512 + 128 * h.val + e.val, by omega⟩)) (by blk_ext [iblk, idx t]) ?_
  refine (entry_k m c _ _ h e rfl).trans ?_
  exact congrArg (fun p => roped (argsOf m c).cs (argsOf m c).sn (argsOf m c).k p h e) (posOf_eq _ _ _ _ (by simp only [res]; omega) (by omega))

theorem kb_eq (hn : t.val % 9 ≠ 0) : kb m c t h = kT (argsOf m c) (res t) h (2 * (t.val % 9) - 1) := by
  funext r e
  have ht := point_lt t
  unfold kb hiT kT
  refine Eq.trans (b := (V m c main_v20 : FVec Ideal S8192x1536 .bf16) (ix2 ⟨256 * (8 * (t.val / 9) + (t.val % 9 - 1)) + (128 + r.val), by omega⟩ ⟨512 + 128 * h.val + e.val, by omega⟩)) (by blk_ext [iblk, idx t]) ?_
  refine (entry_k m c _ _ h e rfl).trans ?_
  exact congrArg (fun p => roped (argsOf m c).cs (argsOf m c).sn (argsOf m c).k p h e) (posOf_eq _ _ _ _ (by simp only [res]; omega) (by omega))

theorem kn_eq (hn : t.val % 9 ≠ 8) : kn m c t h = kT (argsOf m c) (res t) h (2 * (t.val % 9)) := by
  funext r e
  have ht := point_lt t
  unfold kn colT kT
  refine Eq.trans (b := (V m c main_v20 : FVec Ideal S8192x1536 .bf16) (ix2 ⟨128 * (16 * (t.val / 9) + min (2 * (t.val % 9)) 15) + r.val, by omega⟩ ⟨512 + 128 * h.val + e.val, by omega⟩)) (by blk_ext [iblk, idx t]) ?_
  refine (entry_k m c _ _ h e rfl).trans ?_
  exact congrArg (fun p => roped (argsOf m c).cs (argsOf m c).sn (argsOf m c).k p h e) (posOf_eq _ _ _ _ (by simp only [res]; omega) (by omega))

theorem va_eq (hn : t.val % 9 ≠ 0) : va m c t h = vT (argsOf m c) (res t) h (2 * (t.val % 9) - 2) := by
  funext r e
  have ht := point_lt t
  unfold va loT vT
  refine Eq.trans (b := (V m c main_v20 : FVec Ideal S8192x1536 .bf16) (ix2 ⟨256 * (8 * (t.val / 9) + (t.val % 9 - 1)) + r.val, by omega⟩ ⟨1024 + 128 * h.val + e.val, by omega⟩)) (by blk_ext [iblk, idx t]) ?_
  refine (entry_v m c _ _ h e rfl).trans ?_
  exact congrArg (fun p => (argsOf m c).v p h e) (posOf_eq _ _ _ _ (by simp only [res]; omega) (by omega))

theorem vb_eq (hn : t.val % 9 ≠ 0) : vb m c t h = vT (argsOf m c) (res t) h (2 * (t.val % 9) - 1) := by
  funext r e
  have ht := point_lt t
  unfold vb hiT vT
  refine Eq.trans (b := (V m c main_v20 : FVec Ideal S8192x1536 .bf16) (ix2 ⟨256 * (8 * (t.val / 9) + (t.val % 9 - 1)) + (128 + r.val), by omega⟩ ⟨1024 + 128 * h.val + e.val, by omega⟩)) (by blk_ext [iblk, idx t]) ?_
  refine (entry_v m c _ _ h e rfl).trans ?_
  exact congrArg (fun p => (argsOf m c).v p h e) (posOf_eq _ _ _ _ (by simp only [res]; omega) (by omega))

theorem vn_eq (hn : t.val % 9 ≠ 8) : vn m c t h = vT (argsOf m c) (res t) h (2 * (t.val % 9)) := by
  funext r e
  have ht := point_lt t
  unfold vn colT vT
  refine Eq.trans (b := (V m c main_v20 : FVec Ideal S8192x1536 .bf16) (ix2 ⟨128 * (16 * (t.val / 9) + min (2 * (t.val % 9)) 15) + r.val, by omega⟩ ⟨1024 + 128 * h.val + e.val, by omega⟩)) (by blk_ext [iblk, idx t]) ?_
  refine (entry_v m c _ _ h e rfl).trans ?_
  exact congrArg (fun p => (argsOf m c).v p h e) (posOf_eq _ _ _ _ (by simp only [res]; omega) (by omega))

theorem oa_eq (hn : t.val % 9 ≠ 0) : oa m c t h = oT (argsOf m c) (res t) h (2 * (t.val % 9) - 1) := by
  funext r e
  have ht := point_lt t
  unfold oa colT oT
  refine Eq.trans (b := (V m c main_v24 : FVec Ideal S8192x512 .bf16) (ix2 ⟨128 * (16 * (t.val / 9) + (2 * (t.val % 9) - 1)) + r.val, by omega⟩ ⟨128 * h.val + e.val, by omega⟩)) (by blk_ext [iblk, idx t]) ?_
  refine (entry_do m c _ _ h e rfl).trans ?_
  exact congrArg (fun p => (argsOf m c).o p h e) (posOf_eq _ _ _ _ (by simp only [res]; omega) (by omega))

theorem ob_eq (hn : t.val % 9 ≠ 8) : ob m c t h = oT (argsOf m c) (res t) h (2 * (t.val % 9)) := by
  funext r e
  have ht := point_lt t
  unfold ob colT oT
  refine Eq.trans (b := (V m c main_v24 : FVec Ideal S8192x512 .bf16) (ix2 ⟨128 * (16 * (t.val / 9) + min (2 * (t.val % 9)) 15) + r.val, by omega⟩ ⟨128 * h.val + e.val, by omega⟩)) (by blk_ext [iblk, idx t]) ?_
  refine (entry_do m c _ _ h e rfl).trans ?_
  exact congrArg (fun p => (argsOf m c).o p h e) (posOf_eq _ _ _ _ (by simp only [res]; omega) (by omega))

theorem la_eq (hn : t.val % 9 ≠ 0) : la m c t h = lT (argsOf m c) (res t) h (2 * (t.val % 9) - 1) := by
  funext r e
  have ht := point_lt t
  unfold la colT lT
  refine Eq.trans (b := (V m c main_v29 : FVec Ideal S8192x512 .f32) (ix2 ⟨128 * (16 * (t.val / 9) + (2 * (t.val % 9) - 1)) + r.val, by omega⟩ ⟨128 * h.val + e.val, by omega⟩)) (by blk_ext [iblk, idx t]) ?_
  refine (entry_lse m c _ _ h e rfl).trans ?_
  exact congrArg (fun p => (argsOf m c).l p h) (posOf_eq _ _ _ _ (by simp only [res]; omega) (by omega))

theorem lb_eq (hn : t.val % 9 ≠ 8) : lb m c t h = lT (argsOf m c) (res t) h (2 * (t.val % 9)) := by
  funext r e
  have ht := point_lt t
  unfold lb colT lT
  refine Eq.trans (b := (V m c main_v29 : FVec Ideal S8192x512 .f32) (ix2 ⟨128 * (16 * (t.val / 9) + min (2 * (t.val % 9)) 15) + r.val, by omega⟩ ⟨128 * h.val + e.val, by omega⟩)) (by blk_ext [iblk, idx t]) ?_
  refine (entry_lse m c _ _ h e rfl).trans ?_
  exact congrArg (fun p => (argsOf m c).l p h) (posOf_eq _ _ _ _ (by simp only [res]; omega) (by omega))

theorem da_eq (hn : t.val % 9 ≠ 0) : da m c t h = dT (argsOf m c) (res t) h (2 * (t.val % 9) - 1) := by
  funext r e
  have ht := point_lt t
  unfold da colT dT
  refine Eq.trans (b := (V m c main_v34 : FVec Ideal S8192x512 .f32) (ix2 ⟨128 * (16 * (t.val / 9) + (2 * (t.val % 9) - 1)) + r.val, by omega⟩ ⟨128 * h.val + e.val, by omega⟩)) (by blk_ext [iblk, idx t]) ?_
  refine (entry_delta m c _ _ h e rfl).trans ?_
  exact congrArg (fun p => (argsOf m c).d p h) (posOf_eq _ _ _ _ (by simp only [res]; omega) (by omega))

theorem db_eq (hn : t.val % 9 ≠ 8) : db m c t h = dT (argsOf m c) (res t) h (2 * (t.val % 9)) := by
  funext r e
  have ht := point_lt t
  unfold db colT dT
  refine Eq.trans (b := (V m c main_v34 : FVec Ideal S8192x512 .f32) (ix2 ⟨128 * (16 * (t.val / 9) + min (2 * (t.val % 9)) 15) + r.val, by omega⟩ ⟨128 * h.val + e.val, by omega⟩)) (by blk_ext [iblk, idx t]) ?_
  refine (entry_delta m c _ _ h e rfl).trans ?_
  exact congrArg (fun p => (argsOf m c).d p h) (posOf_eq _ _ _ _ (by simp only [res]; omega) (by omega))

theorem cosLo_eq (hn : t.val % 9 ≠ 0) : cosLo m c t = cosT (argsOf m c) (res t) (2 * (t.val % 9) - 2) := by
  funext r e
  have ht := point_lt t
  unfold cosLo loR cosT
  refine Eq.trans (b := (V m c main_v38 : FVec Ideal S8192x128 .f32) (ix2 ⟨256 * (8 * (t.val / 9) + (t.val % 9 - 1)) + r.val, by omega⟩ e)) (by blk_ext [iblk, idx t]) ?_
  refine (entry_cos m c _ e).trans ?_
  exact congrArg (fun p => (argsOf m c).cs p (angle e)) (posOf_eq _ _ _ _ (by simp only [res]; omega) (by omega))

theorem cosHi_eq (hn : t.val % 9 ≠ 0) : cosHi m c t = cosT (argsOf m c) (res t) (2 * (t.val % 9) - 1) := by
  funext r e
  have ht := point_lt t
  unfold cosHi hiR cosT
  refine Eq.trans (b := (V m c main_v38 : FVec Ideal S8192x128 .f32) (ix2 ⟨256 * (8 * (t.val / 9) + (t.val % 9 - 1)) + (128 + r.val), by omega⟩ e)) (by blk_ext [iblk, idx t]) ?_
  refine (entry_cos m c _ e).trans ?_
  exact congrArg (fun p => (argsOf m c).cs p (angle e)) (posOf_eq _ _ _ _ (by simp only [res]; omega) (by omega))

theorem sinLo_eq (hn : t.val % 9 ≠ 0) : sinLo m c t = sinT (argsOf m c) (res t) (2 * (t.val % 9) - 2) := by
  funext r e
  have ht := point_lt t
  unfold sinLo loR sinT
  refine Eq.trans (b := (V m c main_v43 : FVec Ideal S8192x128 .f32) (ix2 ⟨256 * (8 * (t.val / 9) + (t.val % 9 - 1)) + r.val, by omega⟩ e)) (by blk_ext [iblk, idx t]) ?_
  refine (entry_sin m c _ e).trans ?_
  exact congrArg (fun p => if e.val < 64 then - (argsOf m c).sn p (angle e) else (argsOf m c).sn p (angle e)) (posOf_eq _ _ _ _ (by simp only [res]; omega) (by omega))

theorem sinHi_eq (hn : t.val % 9 ≠ 0) : sinHi m c t = sinT (argsOf m c) (res t) (2 * (t.val % 9) - 1) := by
  funext r e
  have ht := point_lt t
  unfold sinHi hiR sinT
  refine Eq.trans (b := (V m c main_v43 : FVec Ideal S8192x128 .f32) (ix2 ⟨256 * (8 * (t.val / 9) + (t.val % 9 - 1)) + (128 + r.val), by omega⟩ e)) (by blk_ext [iblk, idx t]) ?_
  refine (entry_sin m c _ e).trans ?_
  exact congrArg (fun p => if e.val < 64 then - (argsOf m c).sn p (angle e) else (argsOf m c).sn p (angle e)) (posOf_eq _ _ _ _ (by simp only [res]; omega) (by omega))

end Cert.KernelIdeal.Attn

end
-- ==== Proof.AttnScr0.lean ====
module

public import proofs.«01_k».proof.Proof.AttnPoint

/-! The scratch of the query gradient after a grid point. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

set_option maxHeartbeats 2000000 in
theorem scr0 (y : S128x512.Idx) :
    (outsAt0 m c t.val t.isLt).2.1 y = scrQ m c t ⟨(y 1).val / 128, by have := (y 1).isLt; simp at this; omega⟩ (y 0)
      ⟨(y 1).val % 128, Nat.mod_lt _ (by decide)⟩ := by
  by_cases h0 : t.val % 9 = 0
  on_goal 1 =>
    rw [outsAt0_A m c t h0]
    frame_out
    refine (canon_drop [_] [_, _, _, _] y (View.cover_of_tiled_head _ _ _ (by rfl) y)).trans ?_
    canon_tiles x hx
  on_goal 5 =>
    rw [outsAt0_B m c t h0]
    frame_out
    canon_tiles x hx
  all_goals
    rw [eq_ix2 x]
    open_payloads
    refine (dq_sum_at _ _ _ _ _ _ _ _ _ _ _ _ _ _ _ _ (x 0) (x 1)).trans ?_
    refine congrArg₂ (· + ·) (dqp_congr ?_ ?_ ?_ ?_ ?_ ?_ rfl rfl (Fin.ext hx0.symm) (Fin.ext (by show _ = (y 1).val % 128; omega)))
       (dqp_congr ?_ ?_ ?_ ?_ ?_ ?_ rfl rfl (Fin.ext hx0.symm) (Fin.ext (by show _ = (y 1).val % 128; omega)))
    all_goals
      funext a b
      simp only [tl, qb, ob, lb, db, kb, vb, kn, vn, colT, hiT]
      pointwise []
      blk_ext

end Cert.KernelIdeal.Attn

end
-- ==== Proof.AttnScr1.lean ====
module

public import proofs.«01_k».proof.Proof.AttnPoint

/-! The scratches of the key and value gradients after a grid point. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

set_option maxHeartbeats 2000000 in
theorem scr1 (y : S128x512.Idx) :
    (outsAt0 m c t.val t.isLt).2.2.1 y = scrK m c t ⟨(y 1).val / 128, by have := (y 1).isLt; simp at this; omega⟩ (y 0)
      ⟨(y 1).val % 128, Nat.mod_lt _ (by decide)⟩ := by
  by_cases h0 : t.val % 9 = 0
  on_goal 1 =>
    rw [outsAt0_A m c t h0]
    frame_out
    refine (canon_drop [_] [_, _, _, _] y (View.cover_of_tiled_head _ _ _ (by rfl) y)).trans ?_
    canon_tiles x hx
  on_goal 5 =>
    rw [outsAt0_B m c t h0]
    frame_out
    canon_tiles x hx
  all_goals
    rw [eq_ix2 x]
    open_payloads
    refine (dk_at' _ _ _ _ _ _ _ _ (x 0) (x 1)).trans ?_
    refine dkp_congr ?_ ?_ ?_ ?_ ?_ ?_ rfl rfl (Fin.ext hx0.symm) (Fin.ext (by show _ = (y 1).val % 128; omega))
    all_goals
      funext a b
      simp only [tl, qb, ob, lb, db, kb, vb, kn, vn, colT, hiT]
      pointwise []
      blk_ext

set_option maxHeartbeats 2000000 in
theorem scr2 (y : S128x512.Idx) :
    (outsAt0 m c t.val t.isLt).2.2.2 y = scrV m c t ⟨(y 1).val / 128, by have := (y 1).isLt; simp at this; omega⟩ (y 0)
      ⟨(y 1).val % 128, Nat.mod_lt _ (by decide)⟩ := by
  by_cases h0 : t.val % 9 = 0
  on_goal 1 =>
    rw [outsAt0_A m c t h0]
    frame_out
    refine (canon_drop [_] [_, _, _, _] y (View.cover_of_tiled_head _ _ _ (by rfl) y)).trans ?_
    canon_tiles x hx
  on_goal 5 =>
    rw [outsAt0_B m c t h0]
    frame_out
    canon_tiles x hx
  all_goals
    rw [eq_ix2 x]
    open_payloads
    refine (dv_at' _ _ _ _ _ _ (x 0) (x 1)).trans ?_
    refine dvp_congr ?_ ?_ ?_ ?_ rfl rfl (Fin.ext hx0.symm) (Fin.ext (by show _ = (y 1).val % 128; omega))
    all_goals
      funext a b
      simp only [tl, qb, ob, lb, db, kb, vb, kn, vn, colT, hiT]
      pointwise []
      blk_ext

end Cert.KernelIdeal.Attn

end
-- ==== Proof.AttnOut.lean ====
module

public import proofs.«01_k».proof.Proof.AttnPoint

/-! The output block of a grid point, tile by tile. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem outAt_loQ (s : Fin cfg0.N) (row : Fin 256) (col : Fin 1536) (h : Fin 4) (r e : Fin 128) (hr : row.val = r.val)
    (hc : col.val = 128 * h.val + e.val) : outAt m c t s row col = loQ m c t (prevQ m c h s) r e := by
  have e1 : (⟨col.val / 128 % 4, Nat.mod_lt _ (by decide)⟩ : Fin 4) = h := Fin.ext (by show col.val / 128 % 4 = h.val; omega)
  have e2 : (⟨col.val % 128, Nat.mod_lt _ (by decide)⟩ : Fin 128) = e := Fin.ext (by show col.val % 128 = e.val; omega)
  have e3 : (⟨row.val % 128, Nat.mod_lt _ (by decide)⟩ : Fin 128) = r := Fin.ext (by show row.val % 128 = r.val; omega)
  unfold outAt
  rw [if_pos (by omega), if_pos (by omega)]
  simp only [e1, e2, e3]

theorem outAt_loK (s : Fin cfg0.N) (row : Fin 256) (col : Fin 1536) (h : Fin 4) (r e : Fin 128) (hr : row.val = r.val)
    (hc : col.val = 512 + 128 * h.val + e.val) : outAt m c t s row col = loK m c t h (prevK m c h s) r e := by
  have e1 : (⟨col.val / 128 % 4, Nat.mod_lt _ (by decide)⟩ : Fin 4) = h := Fin.ext (by show col.val / 128 % 4 = h.val; omega)
  have e2 : (⟨col.val % 128, Nat.mod_lt _ (by decide)⟩ : Fin 128) = e := Fin.ext (by show col.val % 128 = e.val; omega)
  have e3 : (⟨row.val % 128, Nat.mod_lt _ (by decide)⟩ : Fin 128) = r := Fin.ext (by show row.val % 128 = r.val; omega)
  unfold outAt
  rw [if_pos (by omega), if_neg (by omega),
    if_pos (by omega)]
  simp only [e1, e2, e3]

theorem outAt_loV (s : Fin cfg0.N) (row : Fin 256) (col : Fin 1536) (h : Fin 4) (r e : Fin 128) (hr : row.val = r.val)
    (hc : col.val = 1024 + 128 * h.val + e.val) : outAt m c t s row col = loV m c t h (prevV m c h s) r e := by
  have e1 : (⟨col.val / 128 % 4, Nat.mod_lt _ (by decide)⟩ : Fin 4) = h := Fin.ext (by show col.val / 128 % 4 = h.val; omega)
  have e2 : (⟨col.val % 128, Nat.mod_lt _ (by decide)⟩ : Fin 128) = e := Fin.ext (by show col.val % 128 = e.val; omega)
  have e3 : (⟨row.val % 128, Nat.mod_lt _ (by decide)⟩ : Fin 128) = r := Fin.ext (by show row.val % 128 = r.val; omega)
  unfold outAt
  rw [if_pos (by omega), if_neg (by omega),
    if_neg (by omega)]
  simp only [e1, e2, e3]

theorem outAt_hiQ (s : Fin cfg0.N) (row : Fin 256) (col : Fin 1536) (h : Fin 4) (r e : Fin 128) (hr : row.val = 128 + r.val)
    (hc : col.val = 128 * h.val + e.val) : outAt m c t s row col = hiQ m c t h r e := by
  have e1 : (⟨col.val / 128 % 4, Nat.mod_lt _ (by decide)⟩ : Fin 4) = h := Fin.ext (by show col.val / 128 % 4 = h.val; omega)
  have e2 : (⟨col.val % 128, Nat.mod_lt _ (by decide)⟩ : Fin 128) = e := Fin.ext (by show col.val % 128 = e.val; omega)
  have e3 : (⟨row.val % 128, Nat.mod_lt _ (by decide)⟩ : Fin 128) = r := Fin.ext (by show row.val % 128 = r.val; omega)
  unfold outAt
  rw [if_neg (by omega), if_pos (by omega)]
  simp only [e1, e2, e3]

theorem outAt_hiK (s : Fin cfg0.N) (row : Fin 256) (col : Fin 1536) (h : Fin 4) (r e : Fin 128) (hr : row.val = 128 + r.val)
    (hc : col.val = 512 + 128 * h.val + e.val) : outAt m c t s row col = hiK m c t h r e := by
  have e1 : (⟨col.val / 128 % 4, Nat.mod_lt _ (by decide)⟩ : Fin 4) = h := Fin.ext (by show col.val / 128 % 4 = h.val; omega)
  have e2 : (⟨col.val % 128, Nat.mod_lt _ (by decide)⟩ : Fin 128) = e := Fin.ext (by show col.val % 128 = e.val; omega)
  have e3 : (⟨row.val % 128, Nat.mod_lt _ (by decide)⟩ : Fin 128) = r := Fin.ext (by show row.val % 128 = r.val; omega)
  unfold outAt
  rw [if_neg (by omega), if_neg (by omega),
    if_pos (by omega)]
  simp only [e1, e2, e3]

theorem outAt_hiV (s : Fin cfg0.N) (row : Fin 256) (col : Fin 1536) (h : Fin 4) (r e : Fin 128) (hr : row.val = 128 + r.val)
    (hc : col.val = 1024 + 128 * h.val + e.val) : outAt m c t s row col = hiV m c t h r e := by
  have e1 : (⟨col.val / 128 % 4, Nat.mod_lt _ (by decide)⟩ : Fin 4) = h := Fin.ext (by show col.val / 128 % 4 = h.val; omega)
  have e2 : (⟨col.val % 128, Nat.mod_lt _ (by decide)⟩ : Fin 128) = e := Fin.ext (by show col.val % 128 = e.val; omega)
  have e3 : (⟨row.val % 128, Nat.mod_lt _ (by decide)⟩ : Fin 128) = r := Fin.ext (by show row.val % 128 = r.val; omega)
  unfold outAt
  rw [if_neg (by omega), if_neg (by omega),
    if_neg (by omega)]
  simp only [e1, e2, e3]

end Cert.KernelIdeal.Attn

end
-- ==== Proof.AttnOutQ.lean ====
module

public import proofs.«01_k».proof.Proof.AttnOut
public import Idealize.ShloMosaic.Lib.Pipeline.ReadBack

/-! The query columns of the output block after a grid point that writes it back. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

set_option maxHeartbeats 2000000 in
theorem out_Q (s : Fin cfg0.N) (hs : s.val = t.val - 1) (h0 : ¬ t.val % 9 = 0) (y : S256x1536.Idx) (hy : (y 1).val < 512) :
    (outsAt0 m c t.val t.isLt).1 y = outAt m c t s (y 0) (y 1) := by
  obtain rfl : s = ⟨t.val - 1, Nat.lt_of_le_of_lt (Nat.sub_le _ _) t.isLt⟩ := Fin.ext hs
  rw [outsAt0_B m c t h0]
  frame_out
  simp only [read_unread_whole]
  canon_tiles x hx
  case piece23 | piece17 | piece11 | piece5 =>
    refine Eq.trans ?_ (by
      first
      | exact (outAt_loQ m c t _ (y 0) (y 1) 0 (x 0) (x 1) hx0 (hx1.trans (Nat.zero_add _).symm)).symm
      | exact (outAt_loQ m c t _ (y 0) (y 1) 1 (x 0) (x 1) hx0 (hx1.trans rfl)).symm
      | exact (outAt_loQ m c t _ (y 0) (y 1) 2 (x 0) (x 1) hx0 (hx1.trans rfl)).symm
      | exact (outAt_loQ m c t _ (y 0) (y 1) 3 (x 0) (x 1) hx0 (hx1.trans rfl)).symm)
    rw [eq_ix2 x]
    open_payloads
    refine (unrope_bf_at _ _ _ (x 0) (x 1)).trans ?_
    refine unrope_congr (fun e => ?_) ?_ ?_ rfl rfl
    · simp only [tl, prevQ, colT]; pointwise []; blk_ext
    all_goals (funext a b; simp only [tl, qa, oa, la, da, ka, va, qb, ob, lb, db, kb, vb, kn, vn, colT, loT, hiT, loR, hiR, cosLo, sinLo, cosHi, sinHi]; pointwise []; blk_ext)
  case piece22 | piece16 | piece10 | piece4 =>
    refine Eq.trans ?_ (by
      first
      | exact (outAt_hiQ m c t _ (y 0) (y 1) 0 (x 0) (x 1) hx0 (hx1.trans (Nat.zero_add _).symm)).symm
      | exact (outAt_hiQ m c t _ (y 0) (y 1) 1 (x 0) (x 1) hx0 (hx1.trans rfl)).symm
      | exact (outAt_hiQ m c t _ (y 0) (y 1) 2 (x 0) (x 1) hx0 (hx1.trans rfl)).symm
      | exact (outAt_hiQ m c t _ (y 0) (y 1) 3 (x 0) (x 1) hx0 (hx1.trans rfl)).symm)
    rw [eq_ix2 x]
    open_payloads
    refine (unrope_bf_at _ _ _ (x 0) (x 1)).trans ?_
    refine unrope_congr (fun e => ?_) ?_ ?_ rfl rfl
    on_goal 1 => refine (dq_add_at _ _ _ _ _ _ _ _ _ _ _ _ _ _ _ _ (x 0) e).trans (congrArg₂ (· + ·) (dqp_congr ?_ ?_ ?_ ?_ ?_ ?_ rfl rfl rfl rfl) (dqp_congr ?_ ?_ ?_ ?_ ?_ ?_ rfl rfl rfl rfl))
    all_goals (funext a b; simp only [tl, qa, oa, la, da, ka, va, qb, ob, lb, db, kb, vb, kn, vn, colT, loT, hiT, loR, hiR, cosLo, sinLo, cosHi, sinHi]; pointwise []; blk_ext)
  all_goals (exfalso; omega)

end Cert.KernelIdeal.Attn

end
-- ==== Proof.AttnOutK.lean ====
module

public import proofs.«01_k».proof.Proof.AttnOut
public import Idealize.ShloMosaic.Lib.Pipeline.ReadBack

/-! The key columns of the output block after a grid point that writes it back. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

set_option maxHeartbeats 2000000 in
theorem out_K (s : Fin cfg0.N) (hs : s.val = t.val - 1) (h0 : ¬ t.val % 9 = 0) (y : S256x1536.Idx) (hy : 512 ≤ (y 1).val ∧ (y 1).val < 1024) :
    (outsAt0 m c t.val t.isLt).1 y = outAt m c t s (y 0) (y 1) := by
  obtain rfl : s = ⟨t.val - 1, Nat.lt_of_le_of_lt (Nat.sub_le _ _) t.isLt⟩ := Fin.ext hs
  rw [outsAt0_B m c t h0]
  frame_out
  simp only [read_unread_whole]
  canon_tiles x hx
  case piece21 | piece15 | piece9 | piece3 =>
    refine Eq.trans ?_ (by
      first
      | exact (outAt_loK m c t _ (y 0) (y 1) 0 (x 0) (x 1) hx0 (hx1.trans rfl)).symm
      | exact (outAt_loK m c t _ (y 0) (y 1) 1 (x 0) (x 1) hx0 (hx1.trans rfl)).symm
      | exact (outAt_loK m c t _ (y 0) (y 1) 2 (x 0) (x 1) hx0 (hx1.trans rfl)).symm
      | exact (outAt_loK m c t _ (y 0) (y 1) 3 (x 0) (x 1) hx0 (hx1.trans rfl)).symm)
    rw [eq_ix2 x]
    open_payloads
    refine (unrope_bf_at _ _ _ (x 0) (x 1)).trans ?_
    refine unrope_congr (fun e => ?_) ?_ ?_ rfl rfl
    on_goal 1 => refine (dk_add_scr _ _ _ _ _ _ _ _ _ (x 0) e).trans (congrArg₂ (· + ·) ?_ (dkp_congr ?_ ?_ ?_ ?_ ?_ ?_ rfl rfl rfl rfl))
    on_goal 1 => (simp only [tl, prevK, colT]; pointwise []; blk_ext)
    all_goals (funext a b; simp only [tl, qa, oa, la, da, ka, va, qb, ob, lb, db, kb, vb, kn, vn, colT, loT, hiT, loR, hiR, cosLo, sinLo, cosHi, sinHi]; pointwise []; blk_ext)
  case piece20 | piece14 | piece8 | piece2 =>
    refine Eq.trans ?_ (by
      first
      | exact (outAt_hiK m c t _ (y 0) (y 1) 0 (x 0) (x 1) hx0 (hx1.trans rfl)).symm
      | exact (outAt_hiK m c t _ (y 0) (y 1) 1 (x 0) (x 1) hx0 (hx1.trans rfl)).symm
      | exact (outAt_hiK m c t _ (y 0) (y 1) 2 (x 0) (x 1) hx0 (hx1.trans rfl)).symm
      | exact (outAt_hiK m c t _ (y 0) (y 1) 3 (x 0) (x 1) hx0 (hx1.trans rfl)).symm)
    rw [eq_ix2 x]
    open_payloads
    refine (unrope_bf_at _ _ _ (x 0) (x 1)).trans ?_
    refine unrope_congr (fun e => ?_) ?_ ?_ rfl rfl
    on_goal 1 => refine (dk_add_at _ _ _ _ _ _ _ _ _ _ _ _ _ _ _ _ (x 0) e).trans (congrArg₂ (· + ·) (dkp_congr ?_ ?_ ?_ ?_ ?_ ?_ rfl rfl rfl rfl) (dkp_congr ?_ ?_ ?_ ?_ ?_ ?_ rfl rfl rfl rfl))
    all_goals (funext a b; simp only [tl, qa, oa, la, da, ka, va, qb, ob, lb, db, kb, vb, kn, vn, colT, loT, hiT, loR, hiR, cosLo, sinLo, cosHi, sinHi]; pointwise []; blk_ext)
  all_goals (exfalso; omega)

end Cert.KernelIdeal.Attn

end
-- ==== Proof.AttnOutV.lean ====
module

public import proofs.«01_k».proof.Proof.AttnOut
public import Idealize.ShloMosaic.Lib.Pipeline.ReadBack

/-! The value columns of the output block after a grid point that writes it back. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

set_option maxHeartbeats 2000000 in
theorem out_V (s : Fin cfg0.N) (hs : s.val = t.val - 1) (h0 : ¬ t.val % 9 = 0) (y : S256x1536.Idx) (hy : 1024 ≤ (y 1).val) :
    (outsAt0 m c t.val t.isLt).1 y = outAt m c t s (y 0) (y 1) := by
  obtain rfl : s = ⟨t.val - 1, Nat.lt_of_le_of_lt (Nat.sub_le _ _) t.isLt⟩ := Fin.ext hs
  rw [outsAt0_B m c t h0]
  frame_out
  simp only [read_unread_whole]
  canon_tiles x hx
  case piece19 | piece13 | piece7 | piece1 =>
    refine Eq.trans ?_ (by
      first
      | exact (outAt_loV m c t _ (y 0) (y 1) 0 (x 0) (x 1) hx0 (hx1.trans rfl)).symm
      | exact (outAt_loV m c t _ (y 0) (y 1) 1 (x 0) (x 1) hx0 (hx1.trans rfl)).symm
      | exact (outAt_loV m c t _ (y 0) (y 1) 2 (x 0) (x 1) hx0 (hx1.trans rfl)).symm
      | exact (outAt_loV m c t _ (y 0) (y 1) 3 (x 0) (x 1) hx0 (hx1.trans rfl)).symm)
    rw [eq_ix2 x]
    open_payloads
    refine (dv_add_scr _ _ _ _ _ _ _ (x 0) (x 1)).trans (congrArg₂ (· + ·) ?_ (dvp_congr ?_ ?_ ?_ ?_ rfl rfl rfl rfl))
    on_goal 1 => (simp only [tl, prevV, colT]; pointwise []; blk_ext)
    all_goals (funext a b; simp only [tl, qa, oa, la, da, ka, va, qb, ob, lb, db, kb, vb, kn, vn, colT, loT, hiT, loR, hiR, cosLo, sinLo, cosHi, sinHi]; pointwise []; blk_ext)
  case piece18 | piece12 | piece6 | piece0 =>
    refine Eq.trans ?_ (by
      first
      | exact (outAt_hiV m c t _ (y 0) (y 1) 0 (x 0) (x 1) hx0 (hx1.trans rfl)).symm
      | exact (outAt_hiV m c t _ (y 0) (y 1) 1 (x 0) (x 1) hx0 (hx1.trans rfl)).symm
      | exact (outAt_hiV m c t _ (y 0) (y 1) 2 (x 0) (x 1) hx0 (hx1.trans rfl)).symm
      | exact (outAt_hiV m c t _ (y 0) (y 1) 3 (x 0) (x 1) hx0 (hx1.trans rfl)).symm)
    rw [eq_ix2 x]
    open_payloads
    refine (dv_add_at _ _ _ _ _ _ _ _ _ _ _ _ (x 0) (x 1)).trans (congrArg₂ (· + ·) (dvp_congr ?_ ?_ ?_ ?_ rfl rfl rfl rfl) (dvp_congr ?_ ?_ ?_ ?_ rfl rfl rfl rfl))
    all_goals (funext a b; simp only [tl, qa, oa, la, da, ka, va, qb, ob, lb, db, kb, vb, kn, vn, colT, loT, hiT, loR, hiR, cosLo, sinLo, cosHi, sinHi]; pointwise []; blk_ext)
  all_goals (exfalso; omega)

end Cert.KernelIdeal.Attn

end
-- ==== Proof.AttnFinal.lean ====
module

public import proofs.«01_k».proof.Proof.AttnBlocks
public import proofs.«01_k».proof.Proof.AttnScr0
public import proofs.«01_k».proof.Proof.AttnScr1
public import proofs.«01_k».proof.Proof.AttnOutQ
public import proofs.«01_k».proof.Proof.AttnOutK
public import proofs.«01_k».proof.Proof.AttnOutV

/-! What a grid point writes back, as the gradients of its pair of blocks. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N) (h : Fin 4)

theorem scrQ_eq (hn : t.val % 9 ≠ 8) : scrQ m c t h = gq (argsOf m c) (res t) h (2 * (t.val % 9)) := by
  funext r e
  unfold scrQ gq
  rw [biasAB_eq, biasA_eq, biasB_eq, if_neg hn, mPrev_eq, mCur_eq]
  by_cases h0 : t.val % 9 = 0
  · rw [if_pos h0, if_pos (by omega), EReal.bot_add, dqp_bot, qb_eq m c t h hn, ob_eq m c t h hn, lb_eq m c t h hn, db_eq m c t h hn, kn_eq m c t h hn, vn_eq m c t h hn]
    rfl
  · rw [if_neg h0, if_neg (by omega), zero_add, qb_eq m c t h hn, ob_eq m c t h hn, lb_eq m c t h hn, db_eq m c t h hn, kn_eq m c t h hn, vn_eq m c t h hn, kb_eq m c t h h0, vb_eq m c t h h0]
    rfl

theorem scrK_eq (hn : t.val % 9 ≠ 8) : scrK m c t h = dkC (argsOf m c) (res t) h (2 * (t.val % 9)) := by
  unfold scrK dkC
  rw [biasB_eq, if_neg hn, mCur_eq, qb_eq m c t h hn, ob_eq m c t h hn, lb_eq m c t h hn, db_eq m c t h hn, kn_eq m c t h hn, vn_eq m c t h hn]

theorem scrV_eq (hn : t.val % 9 ≠ 8) : scrV m c t h = dvC (argsOf m c) (res t) h (2 * (t.val % 9)) := by
  unfold scrV dvC
  rw [biasB_eq, if_neg hn, mCur_eq, qb_eq m c t h hn, ob_eq m c t h hn, lb_eq m c t h hn, kn_eq m c t h hn]

theorem prevQ_eq : prevQ m c h t = scrQ m c t h := by
  funext r e
  unfold prevQ colT
  refine (scr0 m c t _).trans ?_
  have e1 : (⟨(128 * h.val + e.val) / 128, by omega⟩ : Fin 4) = h := Fin.ext (by show (128 * h.val + e.val) / 128 = h.val; omega)
  have e2 : (⟨(128 * h.val + e.val) % 128, by omega⟩ : Fin 128) = e := Fin.ext (by show (128 * h.val + e.val) % 128 = e.val; omega)
  exact congrArg₂ (fun a b => scrQ m c t a r b) e1 e2

theorem prevK_eq : prevK m c h t = scrK m c t h := by
  funext r e
  unfold prevK colT
  refine (scr1 m c t _).trans ?_
  have e1 : (⟨(128 * h.val + e.val) / 128, by omega⟩ : Fin 4) = h := Fin.ext (by show (128 * h.val + e.val) / 128 = h.val; omega)
  have e2 : (⟨(128 * h.val + e.val) % 128, by omega⟩ : Fin 128) = e := Fin.ext (by show (128 * h.val + e.val) % 128 = e.val; omega)
  exact congrArg₂ (fun a b => scrK m c t a r b) e1 e2

theorem prevV_eq : prevV m c h t = scrV m c t h := by
  funext r e
  unfold prevV colT
  refine (scr2 m c t _).trans ?_
  have e1 : (⟨(128 * h.val + e.val) / 128, by omega⟩ : Fin 4) = h := Fin.ext (by show (128 * h.val + e.val) / 128 = h.val; omega)
  have e2 : (⟨(128 * h.val + e.val) % 128, by omega⟩ : Fin 128) = e := Fin.ext (by show (128 * h.val + e.val) % 128 = e.val; omega)
  exact congrArg₂ (fun a b => scrV m c t a r b) e1 e2

theorem hiQ_eq (h0 : t.val % 9 ≠ 0) : hiQ m c t h = gradQ (argsOf m c) (res t) h (2 * (t.val % 9) - 1) := by
  unfold hiQ gradQ
  rw [biasA_eq, if_neg h0, mPrev_eq, mCur_eq, qa_eq m c t h h0, oa_eq m c t h h0, la_eq m c t h h0, da_eq m c t h h0, ka_eq m c t h h0, va_eq m c t h h0, kb_eq m c t h h0, vb_eq m c t h h0, cosHi_eq m c t h0, sinHi_eq m c t h0]
  refine congrArg (fun X => unrope X _ _) ?_
  funext r e
  unfold gq
  rw [if_neg (by omega)]
  rfl

theorem hiK_eq (h0 : t.val % 9 ≠ 0) : hiK m c t h = gradK (argsOf m c) (res t) h (2 * (t.val % 9) - 1) := by
  unfold hiK gradK
  rw [biasAB_eq, biasA_eq, biasB_eq, if_neg h0, mPrev_eq, mCur_eq, qa_eq m c t h h0, oa_eq m c t h h0, la_eq m c t h h0, da_eq m c t h h0, kb_eq m c t h h0, vb_eq m c t h h0, cosHi_eq m c t h0, sinHi_eq m c t h0, zero_add]
  refine congrArg (fun X => unrope X _ _) ?_
  funext r e
  unfold gk
  by_cases hn : t.val % 9 = 8
  · rw [if_pos hn, if_pos (by omega), dkp_bot]
    rfl
  · rw [if_neg hn, if_neg (by omega), qb_eq m c t h hn, ob_eq m c t h hn, lb_eq m c t h hn, db_eq m c t h hn, show 2 * (t.val % 9) - 1 + 1 = 2 * (t.val % 9) from by omega]
    rfl

theorem hiV_eq (h0 : t.val % 9 ≠ 0) : hiV m c t h = gv (argsOf m c) (res t) h (2 * (t.val % 9) - 1) := by
  unfold hiV
  rw [biasAB_eq, biasA_eq, biasB_eq, if_neg h0, mPrev_eq, mCur_eq, qa_eq m c t h h0, oa_eq m c t h h0, la_eq m c t h h0, kb_eq m c t h h0, zero_add]
  funext r e
  unfold gv
  by_cases hn : t.val % 9 = 8
  · rw [if_pos hn, if_pos (by omega), dvp_bot]
    rfl
  · rw [if_neg hn, if_neg (by omega), qb_eq m c t h hn, ob_eq m c t h hn, lb_eq m c t h hn, show 2 * (t.val % 9) - 1 + 1 = 2 * (t.val % 9) from by omega]
    rfl

theorem loQ_eq (h0 : t.val % 9 ≠ 0) : loQ m c t (gq (argsOf m c) (res t) h (2 * (t.val % 9) - 2)) = gradQ (argsOf m c) (res t) h (2 * (t.val % 9) - 2) := by
  unfold loQ gradQ
  rw [cosLo_eq m c t h0, sinLo_eq m c t h0]

theorem loK_eq (h0 : t.val % 9 ≠ 0) : loK m c t h (dkC (argsOf m c) (res t) h (2 * (t.val % 9) - 2)) = gradK (argsOf m c) (res t) h (2 * (t.val % 9) - 2) := by
  unfold loK gradK
  rw [biasA_eq, if_neg h0, mPrev_eq, qa_eq m c t h h0, oa_eq m c t h h0, la_eq m c t h h0, da_eq m c t h h0, ka_eq m c t h h0, va_eq m c t h h0, cosLo_eq m c t h0, sinLo_eq m c t h0]
  refine congrArg (fun X => unrope X _ _) ?_
  funext r e
  unfold gk
  rw [if_neg (by omega), show 2 * (t.val % 9) - 2 + 1 = 2 * (t.val % 9) - 1 from by omega]
  rfl

theorem loV_eq (h0 : t.val % 9 ≠ 0) : loV m c t h (dvC (argsOf m c) (res t) h (2 * (t.val % 9) - 2)) = gv (argsOf m c) (res t) h (2 * (t.val % 9) - 2) := by
  unfold loV
  rw [biasA_eq, if_neg h0, mPrev_eq, qa_eq m c t h h0, oa_eq m c t h h0, la_eq m c t h h0, ka_eq m c t h h0]
  funext r e
  unfold gv
  rw [if_neg (by omega), show 2 * (t.val % 9) - 2 + 1 = 2 * (t.val % 9) - 1 from by omega]
  rfl

/-- What a flushing point stores is the gradients at the rows of its pair. -/
theorem outAt_eq (s : Fin cfg0.N) (hs : s.val = t.val - 1) (h0 : t.val % 9 ≠ 0) (row : Fin 256) (col : Fin 1536) (R : Fin 8192)
    (hR : R.val = 256 * (8 * (t.val / 9) + (t.val % 9 - 1)) + row.val) :
    outAt m c t s row col = spec (argsOf m c) R col := by
  have hs8 : s.val % 9 ≠ 8 := by omega
  have hj : 2 * (s.val % 9) = 2 * (t.val % 9) - 2 := by omega
  have hres : res s = res t := Fin.ext (by show s.val / 9 = t.val / 9; omega)
  have ht := point_lt t
  have hrow := row.isLt
  have e1 : (⟨R.val / 2048, by omega⟩ : Fin 4) = res t := Fin.ext (by show R.val / 2048 = t.val / 9; omega)
  have e2 : (⟨R.val % 128, Nat.mod_lt _ (by decide)⟩ : Fin 128) = ⟨row.val % 128, Nat.mod_lt _ (by decide)⟩ :=
    Fin.ext (by show R.val % 128 = row.val % 128; omega)
  have kq := fun h => (prevQ_eq m c s h).trans (scrQ_eq m c s h hs8)
  have kk := fun h => (prevK_eq m c s h).trans (scrK_eq m c s h hs8)
  have kv := fun h => (prevV_eq m c s h).trans (scrV_eq m c s h hs8)
  rw [hj, hres] at kq kk kv
  unfold outAt spec
  rw [e1, e2]
  by_cases hr : row.val < 128
  · have e3 : R.val % 2048 / 128 = 2 * (t.val % 9) - 2 := by omega
    rw [if_pos hr, e3, kq, kk, kv, loQ_eq m c t _ h0, loK_eq m c t _ h0, loV_eq m c t _ h0]
    split
    · rfl
    · split <;> rfl
  · have e3 : R.val % 2048 / 128 = 2 * (t.val % 9) - 1 := by omega
    rw [if_neg hr, e3, hiQ_eq m c t _ h0, hiK_eq m c t _ h0, hiV_eq m c t _ h0]
    split
    · rfl
    · split <;> rfl

theorem out_eq (h0 : ¬ t.val % 9 = 0) (y : S256x1536.Idx) (R : Fin 8192)
    (hR : R.val = 256 * (8 * (t.val / 9) + (t.val % 9 - 1)) + (y 0).val) :
    (outsAt0 m c t.val t.isLt).1 y = spec (argsOf m c) R (y 1) := by
  refine Eq.trans ?_ (outAt_eq m c t ⟨t.val - 1, Nat.lt_of_le_of_lt (Nat.sub_le _ _) t.isLt⟩ rfl h0 (y 0) (y 1) R hR)
  by_cases h1 : (y 1).val < 512
  · exact out_Q m c t _ rfl h0 y h1
  by_cases h2 : (y 1).val < 1024
  · exact out_K m c t _ rfl h0 y ⟨by omega, h2⟩
  · exact out_V m c t _ rfl h0 y (by omega)

theorem flush_ne : ∀ t : Fin cfg0.N, (cfg0.win 14).flush t = true → ¬ t.val % 9 = 0 :=
  (by decide +kernel : ∀ t : Fin grid0.N, (win0_14).flush t = true → ¬ t.val % 9 = 0)

/-- The result array: every row of every residue's pairs is written by a flushing point. -/
theorem final : (dats m 0 c).arrAt 14 cfg0.N = fun i : S8192x1536.Idx => spec (argsOf m c) (i 0) (i 1) := by
  refine (dats m 0 c).arrAt_eq_of_covers 14 _ (by decide +kernel) fun t hf y => ?_
  blk_simp
  rw [after0_14]
  refine (out_eq m c t (flush_ne t hf) y ((win0_14.blk t).view.emb y 0) ?_).trans (congrArg (spec (argsOf m c) _) (Fin.ext ?_))
  all_goals
    blk_simp [idx t]
    try omega

end Cert.KernelIdeal.Attn

end
-- ==== Proof.AttnRefIn.lean ====
module

public import proofs.«01_k».proof.Proof.Gen.ReferenceIdeal.Read
public import proofs.«01_k».proof.Proof.AttnSpec
public import Idealize.ShloMosaic.Lib.Pipeline.ValueKit.Point
public import Idealize.ShloMosaic.Lib.Pipeline.ReadBack

/-! The reference's blocked arrays, read at an index: queries, keys with the block before, values, the mask. -/

@[expose] public section

set_option maxRecDepth 16384

noncomputable section

namespace Cert.ReferenceIdeal.AttnR

open Cert.ReferenceIdeal Cert.ReferenceIdeal.Read Idealize.ShloMosaic Idealize.ShloMosaic.TcCoe Idealize.SL.Sem
open Cert.KernelIdeal.Attn

variable (x0 x1 x2 x3 : FVec Ideal S8192x4x128 .f32) (x4 x5 : FVec Ideal S8192x4 .f32) (x6 x7 : FVec Ideal S8192x64 .f32)

/-- The arguments, as functions of position, head and dimension. -/
def argsR : Args where
  q p h e := x0 (ix3 p h e)
  k p h e := x1 (ix3 p h e)
  v p h e := x2 (ix3 p h e)
  o p h e := x3 (ix3 p h e)
  l p h := x4 (ix2 p h)
  d p h := x5 (ix2 p h)
  cs p e := x6 (ix2 p e)
  sn p e := x7 (ix2 p e)

variable (s h : Fin 4) (n : Fin 16) (r : Fin 128)

/-! The blocks. -/

theorem pos_eq : pos s n.val r = ⟨(n.val * 128 + r.val) * 4 + s.val, by omega⟩ := by
  unfold pos
  apply Fin.ext
  show (4 * (128 * n.val + r.val) + s.val) % 8192 = (n.val * 128 + r.val) * 4 + s.val
  omega

theorem r_q (e : Fin 128) : val_main_v32 (F := Ideal) x0 x6 x7 (ix5 s h n r e) = qT (argsR x0 x1 x2 x3 x4 x5 x6 x7) s h n.val r e := by
  unfold argsR qT roped
  rw [pos_eq]
  pointwise [val_main_v32, val_main_v31, val_main_v30, val_main_v14, val_main_v13, val_main_v12, val_main_v11, val_main_v10, val_main_v9, val_main_v8, val_main_v7, val_main_v6, val_main_v5, val_main_v4, val_main_v3, val_main_v2, val_main_v1, val_main_v0]
  unfold angle other
  by_cases he : e.val < 64
  · simp only [he, dif_pos, if_pos]
    blk_point []
  · simp only [he, dif_neg, if_neg, not_false_eq_true]
    blk_point []

theorem r_k (e : Fin 128) : val_main_v35 (F := Ideal) x1 x6 x7 (ix5 s h n r e) = kT (argsR x0 x1 x2 x3 x4 x5 x6 x7) s h n.val r e := by
  unfold argsR kT roped
  rw [pos_eq]
  pointwise [val_main_v35, val_main_v34, val_main_v33, val_main_v29, val_main_v28, val_main_v27, val_main_v26, val_main_v25, val_main_v24, val_main_v23, val_main_v22, val_main_v21, val_main_v20, val_main_v19, val_main_v18, val_main_v17, val_main_v16, val_main_v15]
  unfold angle other
  by_cases he : e.val < 64
  · simp only [he, dif_pos, if_pos]
    blk_point []
  · simp only [he, dif_neg, if_neg, not_false_eq_true]
    blk_point []

theorem r_v (e : Fin 128) : val_main_v44 (F := Ideal) x2 (ix5 s h n r e) = vT (argsR x0 x1 x2 x3 x4 x5 x6 x7) s h n.val r e := by
  unfold argsR vT
  rw [pos_eq]
  pointwise [val_main_v44, val_main_v43, val_main_v42]
  blk_ext

theorem r_o (e : Fin 128) : val_main_v104 (F := Ideal) x3 (ix5 s h n r e) = oT (argsR x0 x1 x2 x3 x4 x5 x6 x7) s h n.val r e := by
  unfold argsR oT
  rw [pos_eq]
  pointwise [val_main_v104, val_main_v103, val_main_v102]
  blk_ext

theorem r_l (k : Fin 256) (e : Fin 128) : val_main_v87 (F := Ideal) x4 (ix5 s h n r k) = lT (argsR x0 x1 x2 x3 x4 x5 x6 x7) s h n.val r e := by
  unfold argsR lT
  rw [pos_eq]
  pointwise [val_main_v87, val_main_v86, val_main_v85, val_main_v84]
  blk_ext

theorem r_d (k : Fin 256) (e : Fin 128) : val_main_v105 (F := Ideal) x5 (ix5 s h n r k) = - dT (argsR x0 x1 x2 x3 x4 x5 x6 x7) s h n.val r e := by
  unfold argsR dT
  rw [pos_eq]
  pointwise [val_main_v105, val_main_v101, val_main_v100, val_main_v99, val_main_v98]

end Cert.ReferenceIdeal.AttnR

end
-- ==== Proof.AttnRefMask.lean ====
module

public import proofs.«01_k».proof.Proof.Gen.ReferenceIdeal.Read
public import proofs.«01_k».proof.Proof.AttnSpec

/-! The reference's mask of a block of 128 queries against 256 keys, read at an index. -/

@[expose] public section

set_option maxRecDepth 16384

noncomputable section

namespace Cert.ReferenceIdeal.AttnR

open Cert.ReferenceIdeal Cert.ReferenceIdeal.Read Idealize.ShloMosaic Idealize.ShloMosaic.TcCoe Idealize.SL.Sem
open Cert.KernelIdeal.Attn

/-! Positions as words: the mask compares them signed. -/

theorem sle_word (a b : ℤ) (ha : -4096 ≤ a) (ha' : a ≤ 4096) (hb : -4096 ≤ b) (hb' : b ≤ 4096) :
    IntOp.cmpi .sle (BitVec.ofInt 32 a) (BitVec.ofInt 32 b) = if a ≤ b then 1#1 else 0#1 := by
  have ea : (BitVec.ofInt 32 a).toInt = a := by rw [BitVec.toInt_ofInt]; exact Int.bmod_eq_of_le (by omega) (by omega)
  have eb : (BitVec.ofInt 32 b).toInt = b := by rw [BitVec.toInt_ofInt]; exact Int.bmod_eq_of_le (by omega) (by omega)
  simp only [IntOp.cmpi, BitVec.sle, ea, eb]
  by_cases h : a ≤ b <;> simp [h]

theorem sge_word (a b : ℤ) (ha : -4096 ≤ a) (ha' : a ≤ 4096) (hb : -4096 ≤ b) (hb' : b ≤ 4096) :
    IntOp.cmpi .sge (BitVec.ofInt 32 a) (BitVec.ofInt 32 b) = if b ≤ a then 1#1 else 0#1 := by
  rw [← sle_word b a hb hb' ha ha']
  rfl

theorem and_if (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem sub_word (x : BitVec 32) : IntOp.subi x 128#32 = x + BitVec.ofInt 32 (-128) := by
  show x - 128#32 = _
  rw [BitVec.sub_eq_add_neg]
  rfl

theorem key_word (n k : ℕ) : IntOp.addi (IntOp.subi (IntOp.muli (BitVec.ofNat 32 n) 128#32) 128#32) (BitVec.ofNat 32 k)
    = BitVec.ofInt 32 ((n : ℤ) * 128 - 128 + k) := by
  rw [sub_word, Int.sub_eq_add_neg, BitVec.ofInt_add, BitVec.ofInt_add, BitVec.ofInt_mul, BitVec.ofInt_natCast, BitVec.ofInt_natCast]
  rfl

theorem query_word (n r : ℕ) : IntOp.addi (IntOp.muli (BitVec.ofNat 32 n) 128#32) (BitVec.ofNat 32 r)
    = BitVec.ofInt 32 ((n : ℤ) * 128 + r) := by
  rw [BitVec.ofInt_add, BitVec.ofInt_mul, BitVec.ofInt_natCast, BitVec.ofInt_natCast]
  rfl

theorem first_word (n r : ℕ) : IntOp.subi (BitVec.ofInt 32 ((n : ℤ) * 128 + r)) 128#32 = BitVec.ofInt 32 ((n : ℤ) * 128 + r - 128) := by
  rw [sub_word, Int.sub_eq_add_neg, ← BitVec.ofInt_add]

theorem r_mask (n : Fin 16) (r : Fin 128) (k : Fin 256) : val_main_v82 (F := Ideal) (ix3 n r k) =
    (if k.val < 128 then (if n.val ≠ 0 ∧ r.val ≤ k.val then 1#1 else 0#1) else (if k.val - 128 ≤ r.val then 1#1 else 0#1)) := by
  pointwise [val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_c, val_main_c_4, val_main_c_5, val_main_c_6]
  have hn := n.isLt
  have hr := r.isLt
  have hk := k.isLt
  rw [key_word, query_word, first_word, show (0#32 : BitVec 32) = BitVec.ofInt 32 0 from rfl, sle_word _ _ (by omega) (by omega) (by omega) (by omega),
    sge_word _ _ (by omega) (by omega) (by omega) (by omega), sge_word _ _ (by omega) (by omega) (by omega) (by omega)]
  rw [and_if, and_if]
  by_cases c4 : k.val < 128
  · rw [if_pos c4]
    exact if_congr (by omega) rfl rfl
  · rw [if_neg c4]
    exact if_congr (by omega) rfl rfl

end Cert.ReferenceIdeal.AttnR

end
-- ==== Proof.AttnRefWide.lean ====
module

public import proofs.«01_k».proof.Proof.AttnRefIn
public import proofs.«01_k».proof.Proof.AttnRefMask
public import Idealize.ShloMosaic.Lib.Pipeline.ValueKit.Point
public import Idealize.ShloMosaic.Lib.Pipeline.ReadBack

/-! The reference's keys and values with the block before, its probabilities and their gradients, read at an index. -/

@[expose] public section

set_option maxRecDepth 16384

noncomputable section

namespace Cert.ReferenceIdeal.AttnR

open Cert.ReferenceIdeal Cert.ReferenceIdeal.Gen Cert.ReferenceIdeal.Read Idealize.ShloMosaic Idealize.ShloMosaic.TcCoe Idealize.SL.Sem
open Cert.KernelIdeal.Attn

variable (x0 x1 x2 x3 : FVec Ideal S8192x4x128 .f32) (x4 x5 : FVec Ideal S8192x4 .f32) (x6 x7 : FVec Ideal S8192x64 .f32)
variable (s h : Fin 4) (n : Fin 16)

/-! The 256 keys of a block: the block before (zeros before the first), then its own. -/

/-- An array of blocks with the block before in front: a zero block before the first. -/
theorem wide_apply (X : FVec Ideal S4x4x16x128x128 .f32) (Z : FVec Ideal S4x4x1x128x128 .f32) (hZ : ∀ i, Z i = 0) (k : Fin 256) (e : Fin 128) :
    concatenate S4x4x16x256x128 3 [⟨S4x4x16x128x128, concatenate S4x4x16x128x128 2 [⟨S4x4x1x128x128, Z⟩,
      ⟨S4x4x15x128x128, extractStridedSlice S4x4x15x128x128 ![0, 0, 0, 0, 0] X slices_S4x4x16x128x128_S4x4x15x128x128_0_0_0_0_0⟩]
        concatenates_S4x4x1x128x128_S4x4x15x128x128_S4x4x16x128x128_d2⟩, ⟨S4x4x16x128x128, X⟩]
        concatenates_S4x4x16x128x128_S4x4x16x128x128_S4x4x16x256x128_d3 (ix5 s h n k e) =
    (if hk : k.val < 128 then (if n.val = 0 then 0 else X (ix5 s h ⟨n.val - 1, Nat.lt_of_le_of_lt (Nat.sub_le _ _) n.isLt⟩ ⟨k.val, hk⟩ e))
      else X (ix5 s h n ⟨k.val - 128, by omega⟩ e)) := by
  by_cases hk : k.val < 128
  · rw [dif_pos hk]
    refine (concatenate_pair_apply_left (t := S4x4x16x256x128) (s₁ := S4x4x16x128x128) (s₂ := S4x4x16x128x128) 3 _ X
      concatenates_S4x4x16x128x128_S4x4x16x128x128_S4x4x16x256x128_d3 (ix5 s h n k e) rfl (ix5 s h n ⟨k.val, hk⟩ e)
      (fun b => match b with
        | ⟨0, _⟩ => rfl
        | ⟨1, _⟩ => rfl
        | ⟨2, _⟩ => rfl
        | ⟨3, _⟩ => rfl
        | ⟨4, _⟩ => rfl)).trans ?_
    by_cases hn : n.val = 0
    · rw [if_pos hn]
      exact (concatenate_pair_apply_left (t := S4x4x16x128x128) (s₁ := S4x4x1x128x128) (s₂ := S4x4x15x128x128) 2 Z _
        concatenates_S4x4x1x128x128_S4x4x15x128x128_S4x4x16x128x128_d2 (ix5 s h n ⟨k.val, hk⟩ e) rfl
        (ix5 s h (⟨0, by omega⟩ : Fin 1) (⟨k.val, hk⟩ : Fin 128) e) (fun b => match b with
        | ⟨0, _⟩ => rfl
        | ⟨1, _⟩ => rfl
        | ⟨2, _⟩ => hn.symm
        | ⟨3, _⟩ => rfl
        | ⟨4, _⟩ => rfl)).trans (hZ _)
    · rw [if_neg hn]
      have hl : n.val - 1 < 15 := by omega
      refine (concatenate_pair_apply_right (t := S4x4x16x128x128) (s₁ := S4x4x1x128x128) (s₂ := S4x4x15x128x128) 2 Z _
        concatenates_S4x4x1x128x128_S4x4x15x128x128_S4x4x16x128x128_d2 (ix5 s h n ⟨k.val, hk⟩ e) rfl rfl
        (ix5 s h (⟨n.val - 1, hl⟩ : Fin 15) (⟨k.val, hk⟩ : Fin 128) e) (fun b hb => match b with
        | ⟨0, _⟩ => rfl
        | ⟨1, _⟩ => rfl
        | ⟨2, _⟩ => absurd rfl hb
        | ⟨3, _⟩ => rfl
        | ⟨4, _⟩ => rfl)
        (show n.val - 1 + 1 = n.val by omega)).trans ?_
      exact extractStridedSlice_apply ![0, 0, 0, 0, 0] X slices_S4x4x16x128x128_S4x4x15x128x128_0_0_0_0_0 _
        (ix5 s h ⟨n.val - 1, Nat.lt_of_le_of_lt (Nat.sub_le _ _) n.isLt⟩ ⟨k.val, hk⟩ e) (fun b => match b with
        | ⟨0, _⟩ => (Nat.zero_add _).symm
        | ⟨1, _⟩ => (Nat.zero_add _).symm
        | ⟨2, _⟩ => (Nat.zero_add _).symm
        | ⟨3, _⟩ => (Nat.zero_add _).symm
        | ⟨4, _⟩ => (Nat.zero_add _).symm)
  · rw [dif_neg hk]
    exact concatenate_pair_apply_right (t := S4x4x16x256x128) (s₁ := S4x4x16x128x128) (s₂ := S4x4x16x128x128) 3 _ X
      concatenates_S4x4x16x128x128_S4x4x16x128x128_S4x4x16x256x128_d3 (ix5 s h n k e) rfl rfl (ix5 s h n ⟨k.val - 128, by omega⟩ e)
      (fun b hb => match b with
        | ⟨0, _⟩ => rfl
        | ⟨1, _⟩ => rfl
        | ⟨2, _⟩ => rfl
        | ⟨3, _⟩ => absurd rfl hb
        | ⟨4, _⟩ => rfl)
      (show k.val - 128 + 128 = k.val by omega)

theorem r_kw (k : Fin 256) (e : Fin 128) : val_main_v41 (F := Ideal) x1 x6 x7 (ix5 s h n k e) =
    (if hk : k.val < 128 then (if n.val = 0 then 0 else kT (argsR x0 x1 x2 x3 x4 x5 x6 x7) s h (n.val - 1) ⟨k.val, hk⟩ e)
      else kT (argsR x0 x1 x2 x3 x4 x5 x6 x7) s h n.val ⟨k.val - 128, by omega⟩ e) := by
  refine (wide_apply s h n (val_main_v35 (F := Ideal) x1 x6 x7) (val_main_v37 (F := Ideal)) (fun i => ?_) k e).trans ?_
  · rw [val_main_v37_apply]
    exact Ideal.ofBits_zero_f32
  · simp only [r_k x0 x1 x2 x3 x4 x5 x6 x7]

theorem r_vw (k : Fin 256) (e : Fin 128) : val_main_v50 (F := Ideal) x2 (ix5 s h n k e) =
    (if hk : k.val < 128 then (if n.val = 0 then 0 else vT (argsR x0 x1 x2 x3 x4 x5 x6 x7) s h (n.val - 1) ⟨k.val, hk⟩ e)
      else vT (argsR x0 x1 x2 x3 x4 x5 x6 x7) s h n.val ⟨k.val - 128, by omega⟩ e) := by
  refine (wide_apply s h n (val_main_v44 (F := Ideal) x2) (val_main_v46 (F := Ideal)) (fun i => ?_) k e).trans ?_
  · rw [val_main_v46_apply]
    exact Ideal.ofBits_zero_f32
  · simp only [r_v x0 x1 x2 x3 x4 x5 x6 x7]

end Cert.ReferenceIdeal.AttnR

end
-- ==== Proof.AttnRefProb.lean ====
module

public import proofs.«01_k».proof.Proof.AttnRefWide
public import Idealize.ShloMosaic.Lib.Pipeline.ValueKit.Point
public import Idealize.ShloMosaic.Lib.Pipeline.ReadBack

/-! The reference's probabilities over the 256 keys of a block and their gradients, read at an index. -/

@[expose] public section

set_option maxRecDepth 16384

noncomputable section

namespace Cert.ReferenceIdeal.AttnR

open Cert.ReferenceIdeal Cert.ReferenceIdeal.Gen Cert.ReferenceIdeal.Read Idealize.ShloMosaic Idealize.ShloMosaic.TcCoe Idealize.SL.Sem
open Cert.KernelIdeal.Attn

variable (x0 x1 x2 x3 : FVec Ideal S8192x4x128 .f32) (x4 x5 : FVec Ideal S8192x4 .f32) (x6 x7 : FVec Ideal S8192x64 .f32)
variable (s h : Fin 4) (n : Fin 16) (r : Fin 128)

/-- The mask over all heads. -/
theorem r_maskw (k : Fin 256) : val_main_v83_1 (F := Ideal) (ix5 s h n r k) =
    (if k.val < 128 then (if n.val ≠ 0 ∧ r.val ≤ k.val then 1#1 else 0#1) else (if k.val - 128 ≤ r.val then 1#1 else 0#1)) := by
  rw [val_main_v83_1_apply]
  have e : idx_main_v83_1 (ix5 s h n r k) = ix3 n r k := by
      funext a
      match a with
      | ⟨0, _⟩ => rfl
      | ⟨1, _⟩ => rfl
      | ⟨2, _⟩ => rfl
  rw [e]
  exact r_mask n r k

/-- The scaled scores. -/
theorem r_s (k : Fin 256) : val_main_v53 (F := Ideal) x0 x1 x6 x7 (ix5 s h n r k) =
    (∑ e : Fin 128, qT (argsR x0 x1 x2 x3 x4 x5 x6 x7) s h n.val r e * val_main_v41 (F := Ideal) x1 x6 x7 (ix5 s h n k e)) * scale := by
  rw [val_main_v53_apply, val_main_v51_apply, val_main_v52_apply]
  refine congrArg₂ (fun a b : EReal => a * b) (Finset.sum_congr rfl fun e _ => ?_) rfl
  have e1 : lidx_main_v51 (ix5 s h n r k) e = ix5 s h n r e := by
      funext a
      match a with
      | ⟨0, _⟩ => rfl
      | ⟨1, _⟩ => rfl
      | ⟨2, _⟩ => rfl
      | ⟨3, _⟩ => rfl
      | ⟨4, _⟩ => rfl
  have e2 : ridx_main_v51 (ix5 s h n r k) e = ix5 s h n k e := by
      funext a
      match a with
      | ⟨0, _⟩ => rfl
      | ⟨1, _⟩ => rfl
      | ⟨2, _⟩ => rfl
      | ⟨3, _⟩ => rfl
      | ⟨4, _⟩ => rfl
  rw [e1, e2, r_q x0 x1 x2 x3 x4 x5 x6 x7]

theorem ofBits_bot : Ideal.ofBits .f32 0xFF800000#32 = ⊥ := by
  simp [Ideal.ofBits, Ideal.ieee]

theorem exp_masked (x l : EReal) (m : BitVec 1) : Ideal.exp (Scalar.select m x ⊥ - l) = Scalar.select m (Ideal.exp (x - l + 0)) 0 := by
  unfold Scalar.select
  by_cases hm : m = 1
  · rw [if_pos hm, if_pos hm, add_zero]
  · rw [if_neg hm, if_neg hm]
    simp

/-- The weights: of the block before, and of the block's own keys. -/
theorem r_p (k : Fin 256) : val_main_v89 (F := Ideal) x0 x1 x4 x6 x7 (ix5 s h n r k) =
    (if hk : k.val < 128 then (if n.val = 0 then 0 else prob (qT (argsR x0 x1 x2 x3 x4 x5 x6 x7) s h n.val) (kT (argsR x0 x1 x2 x3 x4 x5 x6 x7) s h (n.val - 1))
        (lT (argsR x0 x1 x2 x3 x4 x5 x6 x7) s h n.val) mP 0 r ⟨k.val, hk⟩)
      else prob (qT (argsR x0 x1 x2 x3 x4 x5 x6 x7) s h n.val) (kT (argsR x0 x1 x2 x3 x4 x5 x6 x7) s h n.val)
        (lT (argsR x0 x1 x2 x3 x4 x5 x6 x7) s h n.val) mC 0 r ⟨k.val - 128, by omega⟩) := by
  rw [val_main_v89_apply, val_main_v88_apply, val_main_v83_0_apply, r_maskw, r_s x0 x1 x2 x3 x4 x5 x6 x7, r_l x0 x1 x2 x3 x4 x5 x6 x7 s h n r k 0]
  have eb : val_main_call0_v2 (F := Ideal) (ix5 s h n r k) = (⊥ : EReal) := by
    rw [val_main_call0_v2_apply]
    exact ofBits_bot
  rw [eb]
  refine (exp_masked _ _ _).trans ?_
  by_cases hk : k.val < 128
  · rw [dif_pos hk, if_pos hk]
    by_cases hn : n.val = 0
    · rw [if_pos hn, if_neg (by omega)]
      rfl
    · simp only [r_kw x0 x1 x2 x3 x4 x5 x6 x7, dif_pos hk, if_neg hn, hn, ne_eq, not_false_eq_true, true_and]
      rfl
  · rw [dif_neg hk, if_neg hk]
    simp only [r_kw x0 x1 x2 x3 x4 x5 x6 x7, dif_neg hk]
    rfl

end Cert.ReferenceIdeal.AttnR

end
-- ==== Proof.AttnRefGrad.lean ====
module

public import proofs.«01_k».proof.Proof.AttnRefProb
public import Idealize.ShloMosaic.Lib.Pipeline.ValueKit.Point
public import Idealize.ShloMosaic.Lib.Pipeline.ReadBack

/-! The reference's gradients of scores, queries, keys and values of a block, as parts of the specification. -/

@[expose] public section

set_option maxRecDepth 16384

noncomputable section

namespace Cert.ReferenceIdeal.AttnR

open Cert.ReferenceIdeal Cert.ReferenceIdeal.Gen Cert.ReferenceIdeal.Read Idealize.ShloMosaic Idealize.ShloMosaic.TcCoe Idealize.SL.Sem
open Cert.KernelIdeal.Attn

variable (x0 x1 x2 x3 : FVec Ideal S8192x4x128 .f32) (x4 x5 : FVec Ideal S8192x4 .f32) (x6 x7 : FVec Ideal S8192x64 .f32)
variable (s h : Fin 4) (n : Fin 16) (r : Fin 128)

theorem select_grad (m : BitVec 1) (a X D sc : EReal) :
    Scalar.select m ((-D + X) * Scalar.select m a 0) 0 * sc = Scalar.select m a 0 * (X - D) * sc := by
  unfold Scalar.select
  by_cases hm : m = 1
  · rw [if_pos hm, if_pos hm, sub_eq_add_neg, add_comm (-D) X, mul_comm (X + -D) a]
  · rw [if_neg hm, if_neg hm, zero_mul, zero_mul, zero_mul]

/-- The gradients of the weights, before the row's own sum is taken away. -/
theorem r_dp (k : Fin 256) : val_main_v108 (F := Ideal) x2 x3 (ix5 s h n r k) =
    ∑ e : Fin 128, oT (argsR x0 x1 x2 x3 x4 x5 x6 x7) s h n.val r e * val_main_v50 (F := Ideal) x2 (ix5 s h n k e) := by
  rw [val_main_v108_apply]
  refine Finset.sum_congr rfl fun e _ => ?_
  have e1 : lidx_main_v108 (ix5 s h n r k) e = ix5 s h n r e := by
      funext a
      match a with
      | ⟨0, _⟩ => rfl
      | ⟨1, _⟩ => rfl
      | ⟨2, _⟩ => rfl
      | ⟨3, _⟩ => rfl
      | ⟨4, _⟩ => rfl
  have e2 : ridx_main_v108 (ix5 s h n r k) e = ix5 s h n k e := by
      funext a
      match a with
      | ⟨0, _⟩ => rfl
      | ⟨1, _⟩ => rfl
      | ⟨2, _⟩ => rfl
      | ⟨3, _⟩ => rfl
      | ⟨4, _⟩ => rfl
  rw [e1, e2, r_o x0 x1 x2 x3 x4 x5 x6 x7]

/-- The gradients of the scores. -/
theorem r_ds (k : Fin 256) : val_main_v113 (F := Ideal) x0 x1 x2 x3 x4 x5 x6 x7 (ix5 s h n r k) =
    (if hk : k.val < 128 then (if n.val = 0 then 0 else dscore (qT (argsR x0 x1 x2 x3 x4 x5 x6 x7) s h n.val) (oT (argsR x0 x1 x2 x3 x4 x5 x6 x7) s h n.val) (lT (argsR x0 x1 x2 x3 x4 x5 x6 x7) s h n.val) (dT (argsR x0 x1 x2 x3 x4 x5 x6 x7) s h n.val)
        (kT (argsR x0 x1 x2 x3 x4 x5 x6 x7) s h (n.val - 1)) (vT (argsR x0 x1 x2 x3 x4 x5 x6 x7) s h (n.val - 1)) mP 0 r ⟨k.val, hk⟩)
      else dscore (qT (argsR x0 x1 x2 x3 x4 x5 x6 x7) s h n.val) (oT (argsR x0 x1 x2 x3 x4 x5 x6 x7) s h n.val) (lT (argsR x0 x1 x2 x3 x4 x5 x6 x7) s h n.val) (dT (argsR x0 x1 x2 x3 x4 x5 x6 x7) s h n.val)
        (kT (argsR x0 x1 x2 x3 x4 x5 x6 x7) s h n.val) (vT (argsR x0 x1 x2 x3 x4 x5 x6 x7) s h n.val) mC 0 r ⟨k.val - 128, by omega⟩) := by
  rw [val_main_v113_apply, val_main_v111_apply, val_main_v110_apply, val_main_v109_apply, r_maskw, r_dp x0 x1 x2 x3 x4 x5 x6 x7, r_d x0 x1 x2 x3 x4 x5 x6 x7 s h n r k 0,
    r_p x0 x1 x2 x3 x4 x5 x6 x7]
  have e0 : val_main_call1_v0 (F := Ideal) (ix5 s h n r k) = (0 : EReal) := by
    rw [val_main_call1_v0_apply]
    exact Ideal.ofBits_zero_f32
  have es : val_main_v112 (F := Ideal) (ix5 s h n r k) = scale := by
    rw [val_main_v112_apply]
    rfl
  rw [e0, es]
  by_cases hk : k.val < 128
  · rw [dif_pos hk, dif_pos hk, if_pos hk]
    by_cases hn : n.val = 0
    · rw [if_pos hn, if_pos hn, if_neg (by omega)]
      exact zero_mul _
    · simp only [r_vw x0 x1 x2 x3 x4 x5 x6 x7, dif_pos hk, if_neg hn, hn, ne_eq, not_false_eq_true, true_and]
      exact select_grad _ _ _ _ _
  · rw [dif_neg hk, dif_neg hk, if_neg hk]
    simp only [r_vw x0 x1 x2 x3 x4 x5 x6 x7, dif_neg hk]
    exact select_grad _ _ _ _ _

theorem sum_256 (f : Fin 256 → EReal) :
    ∑ k : Fin 256, f k = (∑ c : Fin 128, f ⟨c.val, by omega⟩) + ∑ c : Fin 128, f ⟨128 + c.val, by omega⟩ :=
  Fin.sum_univ_add (a := 128) (b := 128) f

/-- The gradient of the queries, before the rotation is undone. -/
theorem r_dq (e : Fin 128) : val_main_v115 (F := Ideal) x0 x1 x2 x3 x4 x5 x6 x7 (ix5 s h n r e) = gq (argsR x0 x1 x2 x3 x4 x5 x6 x7) s h n.val r e := by
  rw [val_main_v115_apply, sum_256]
  unfold gq dqP dqC dqp
  have e1 : ∀ k, lidx_main_v115 (ix5 s h n r e) k = ix5 s h n r k := by
    intro k
    funext a
    match a with
    | ⟨0, _⟩ => rfl
    | ⟨1, _⟩ => rfl
    | ⟨2, _⟩ => rfl
    | ⟨3, _⟩ => rfl
    | ⟨4, _⟩ => rfl
  have e2 : ∀ k, ridx_main_v115 (ix5 s h n r e) k = ix5 s h n k e := by
    intro k
    funext a
    match a with
    | ⟨0, _⟩ => rfl
    | ⟨1, _⟩ => rfl
    | ⟨2, _⟩ => rfl
    | ⟨3, _⟩ => rfl
    | ⟨4, _⟩ => rfl
  simp only [e1, e2, r_ds x0 x1 x2 x3 x4 x5 x6 x7, r_kw x0 x1 x2 x3 x4 x5 x6 x7, Fin.is_lt, dif_pos, Nat.add_sub_cancel_left]
  refine congrArg₂ (fun a b : EReal => a + b) ?_ ?_
  · by_cases hn : n.val = 0
    · simp only [if_pos hn, mul_zero, Finset.sum_const_zero]
    · simp only [if_neg hn]
  · refine Finset.sum_congr rfl fun c _ => ?_
    rw [dif_neg (by omega), dif_neg (by omega)]

/-- What the queries of a block contribute to the gradient of the 256 keys. -/
theorem r_dk (k : Fin 256) (e : Fin 128) : val_main_v114 (F := Ideal) x0 x1 x2 x3 x4 x5 x6 x7 (ix5 s h n k e) =
    (if hk : k.val < 128 then (if n.val = 0 then 0 else dkP (argsR x0 x1 x2 x3 x4 x5 x6 x7) s h n.val ⟨k.val, hk⟩ e) else dkC (argsR x0 x1 x2 x3 x4 x5 x6 x7) s h n.val ⟨k.val - 128, by omega⟩ e) := by
  rw [val_main_v114_apply]
  unfold dkP dkC dkp
  have e1 : ∀ r, lidx_main_v114 (ix5 s h n k e) r = ix5 s h n r k := by
    intro r
    funext a
    match a with
    | ⟨0, _⟩ => rfl
    | ⟨1, _⟩ => rfl
    | ⟨2, _⟩ => rfl
    | ⟨3, _⟩ => rfl
    | ⟨4, _⟩ => rfl
  have e2 : ∀ r, ridx_main_v114 (ix5 s h n k e) r = ix5 s h n r e := by
    intro r
    funext a
    match a with
    | ⟨0, _⟩ => rfl
    | ⟨1, _⟩ => rfl
    | ⟨2, _⟩ => rfl
    | ⟨3, _⟩ => rfl
    | ⟨4, _⟩ => rfl
  simp only [e1, e2, r_ds x0 x1 x2 x3 x4 x5 x6 x7, r_q x0 x1 x2 x3 x4 x5 x6 x7]
  by_cases hk : k.val < 128
  · simp only [dif_pos hk]
    by_cases hn : n.val = 0
    · simp only [if_pos hn, zero_mul, Finset.sum_const_zero]
    · simp only [if_neg hn]
  · simp only [dif_neg hk]

/-- What they contribute to the gradient of the 256 values. -/
theorem r_dv (k : Fin 256) (e : Fin 128) : val_main_v107 (F := Ideal) x0 x1 x3 x4 x6 x7 (ix5 s h n k e) =
    (if hk : k.val < 128 then (if n.val = 0 then 0 else dvP (argsR x0 x1 x2 x3 x4 x5 x6 x7) s h n.val ⟨k.val, hk⟩ e) else dvC (argsR x0 x1 x2 x3 x4 x5 x6 x7) s h n.val ⟨k.val - 128, by omega⟩ e) := by
  rw [val_main_v107_apply, val_main_v106_apply]
  unfold dvP dvC dvp
  have e1 : ∀ r, lidx_main_v106 (idx_main_v107 (ix5 s h n k e)) r = ix5 s h n r e := by
    intro r
    funext a
    match a with
    | ⟨0, _⟩ => rfl
    | ⟨1, _⟩ => rfl
    | ⟨2, _⟩ => rfl
    | ⟨3, _⟩ => rfl
    | ⟨4, _⟩ => rfl
  have e2 : ∀ r, ridx_main_v106 (idx_main_v107 (ix5 s h n k e)) r = ix5 s h n r k := by
    intro r
    funext a
    match a with
    | ⟨0, _⟩ => rfl
    | ⟨1, _⟩ => rfl
    | ⟨2, _⟩ => rfl
    | ⟨3, _⟩ => rfl
    | ⟨4, _⟩ => rfl
  simp only [e1, e2, r_p x0 x1 x2 x3 x4 x5 x6 x7, r_o x0 x1 x2 x3 x4 x5 x6 x7]
  by_cases hk : k.val < 128
  · simp only [dif_pos hk]
    by_cases hn : n.val = 0
    · simp only [if_pos hn, mul_zero, Finset.sum_const_zero]
    · simp only [if_neg hn]
      exact Finset.sum_congr rfl fun r _ => mul_comm _ _
  · simp only [dif_neg hk]
    exact Finset.sum_congr rfl fun r _ => mul_comm _ _

end Cert.ReferenceIdeal.AttnR

end
-- ==== Proof.AttnRefShift.lean ====
module

public import proofs.«01_k».proof.Proof.AttnRefGrad
public import Idealize.ShloMosaic.Lib.KernelVsHost
public import Idealize.ShloMosaic.Lib.Pipeline.ValueKit.Point
public import Idealize.ShloMosaic.Lib.Pipeline.ReadBack

/-! The reference's gradients of keys and values, the two parts of a block added. -/

@[expose] public section

set_option maxRecDepth 16384

noncomputable section

namespace Cert.ReferenceIdeal.AttnR

open Cert.ReferenceIdeal Cert.ReferenceIdeal.Gen Cert.ReferenceIdeal.Read Idealize.ShloMosaic Idealize.ShloMosaic.TcCoe Idealize.SL.Sem
open Cert.KernelIdeal.Attn

variable (x0 x1 x2 x3 : FVec Ideal S8192x4x128 .f32) (x4 x5 : FVec Ideal S8192x4 .f32) (x6 x7 : FVec Ideal S8192x64 .f32)
variable (s h : Fin 4) (n : Fin 16) (r : Fin 128)

/-- An array of blocks moved one block down: a zero block in the last place. -/
theorem next_apply (Y : FVec Ideal S4x4x16x128x128 .f32) (Z : FVec Ideal S_ .f32) (hZ : ∀ i, Z i = 0) (e : Fin 128) :
    pad S4x4x16x128x128 ![0, 0, 0, 0, 0] ![0, 0, 1, 0, 0] ![0, 0, 0, 0, 0]
      (extractStridedSlice S4x4x15x128x128 ![0, 0, 1, 0, 0] Y slices_S4x4x16x128x128_S4x4x15x128x128_0_0_1_0_0) Z
      pads_S4x4x15x128x128_S4x4x16x128x128_000_000_010_000_000 h_S_ (ix5 s h n r e) =
    (if hn : n.val = 15 then 0 else Y (ix5 s h ⟨n.val + 1, by omega⟩ r e)) := by
  by_cases hn : n.val = 15
  · rw [dif_pos hn]
    refine (pad_apply_of_not_inside (s := S4x4x15x128x128) (t := S4x4x16x128x128) _ _ _ _ _ _ _ (ix5 s h n r e) 2 ?_).trans (hZ _)
    intro hc
    have h3 : (n.val - 0) / (0 + 1) < 15 := hc.2.2
    omega
  · rw [dif_neg hn]
    have hl : n.val < 15 := by omega
    refine (pad_apply_of_inside (s := S4x4x15x128x128) (t := S4x4x16x128x128) _ _ _ _ _ _ _ (ix5 s h n r e)
      (ix5 s h (⟨n.val, hl⟩ : Fin 15) r e) (fun b => match b with
        | ⟨0, _⟩ => by
          show _ = 0 + _ * (0 + 1)
          rw [Nat.zero_add, Nat.mul_one]
          rfl
        | ⟨1, _⟩ => by
          show _ = 0 + _ * (0 + 1)
          rw [Nat.zero_add, Nat.mul_one]
          rfl
        | ⟨2, _⟩ => by
          show _ = 0 + _ * (0 + 1)
          rw [Nat.zero_add, Nat.mul_one]
          rfl
        | ⟨3, _⟩ => by
          show _ = 0 + _ * (0 + 1)
          rw [Nat.zero_add, Nat.mul_one]
          rfl
        | ⟨4, _⟩ => by
          show _ = 0 + _ * (0 + 1)
          rw [Nat.zero_add, Nat.mul_one]
          rfl)).trans ?_
    exact extractStridedSlice_apply ![0, 0, 1, 0, 0] Y slices_S4x4x16x128x128_S4x4x15x128x128_0_0_1_0_0 _
      (ix5 s h ⟨n.val + 1, by omega⟩ r e) (fun b => match b with
        | ⟨0, _⟩ => (Nat.zero_add _).symm
        | ⟨1, _⟩ => (Nat.zero_add _).symm
        | ⟨2, _⟩ => Nat.add_comm _ _
        | ⟨3, _⟩ => (Nat.zero_add _).symm
        | ⟨4, _⟩ => (Nat.zero_add _).symm)

/-- The two halves of an array over 256 keys. -/
theorem lower_apply (W : FVec Ideal S4x4x16x256x128 .f32) (e : Fin 128) :
    extractStridedSlice S4x4x16x128x128 ![0, 0, 0, 0, 0] W slices_S4x4x16x256x128_S4x4x16x128x128_0_0_0_0_0 (ix5 s h n r e) =
      W (ix5 s h n ⟨r.val, by omega⟩ e) :=
  extractStridedSlice_apply ![0, 0, 0, 0, 0] W slices_S4x4x16x256x128_S4x4x16x128x128_0_0_0_0_0 _ _ (fun b => match b with
        | ⟨0, _⟩ => (Nat.zero_add _).symm
        | ⟨1, _⟩ => (Nat.zero_add _).symm
        | ⟨2, _⟩ => (Nat.zero_add _).symm
        | ⟨3, _⟩ => (Nat.zero_add _).symm
        | ⟨4, _⟩ => (Nat.zero_add _).symm)

theorem upper_apply (W : FVec Ideal S4x4x16x256x128 .f32) (e : Fin 128) :
    extractStridedSlice S4x4x16x128x128 ![0, 0, 0, 128, 0] W slices_S4x4x16x256x128_S4x4x16x128x128_0_0_0_128_0 (ix5 s h n r e) =
      W (ix5 s h n ⟨128 + r.val, by omega⟩ e) :=
  extractStridedSlice_apply ![0, 0, 0, 128, 0] W slices_S4x4x16x256x128_S4x4x16x128x128_0_0_0_128_0 _ _ (fun b => match b with
        | ⟨0, _⟩ => (Nat.zero_add _).symm
        | ⟨1, _⟩ => (Nat.zero_add _).symm
        | ⟨2, _⟩ => (Nat.zero_add _).symm
        | ⟨3, _⟩ => rfl
        | ⟨4, _⟩ => (Nat.zero_add _).symm)

/-- The gradient of the keys, before the rotation is undone. -/
theorem r_gk (e : Fin 128) : val_main_v130 (F := Ideal) x0 x1 x2 x3 x4 x5 x6 x7 (ix5 s h n r e) = gk (argsR x0 x1 x2 x3 x4 x5 x6 x7) s h n.val r e := by
  rw [val_main_v130_apply]
  unfold gk
  refine congrArg₂ (fun a b : EReal => a + b) ?_ ?_
  · refine (upper_apply s h n r (val_main_v114 (F := Ideal) x0 x1 x2 x3 x4 x5 x6 x7) e).trans ?_
    rw [r_dk x0 x1 x2 x3 x4 x5 x6 x7, dif_neg (by simp)]
    simp only [Nat.add_sub_cancel_left]
  · refine (next_apply s h n r (val_main_v125 (F := Ideal) x0 x1 x2 x3 x4 x5 x6 x7) (val_main_cst_11 (F := Ideal)) (fun i => Ideal.ofBits_zero_f32) e).trans ?_
    by_cases hn : n.val = 15
    · rw [dif_pos hn, if_pos hn]
    · rw [dif_neg hn, if_neg hn]
      refine (lower_apply s h ⟨n.val + 1, by omega⟩ r (val_main_v114 (F := Ideal) x0 x1 x2 x3 x4 x5 x6 x7) e).trans ?_
      rw [r_dk x0 x1 x2 x3 x4 x5 x6 x7, dif_pos r.isLt, if_neg (by simp)]

/-- The gradient of the values. -/
theorem r_gv (e : Fin 128) : val_main_v121 (F := Ideal) x0 x1 x3 x4 x6 x7 (ix5 s h n r e) = gv (argsR x0 x1 x2 x3 x4 x5 x6 x7) s h n.val r e := by
  rw [val_main_v121_apply]
  unfold gv
  refine congrArg₂ (fun a b : EReal => a + b) ?_ ?_
  · refine (upper_apply s h n r (val_main_v107 (F := Ideal) x0 x1 x3 x4 x6 x7) e).trans ?_
    rw [r_dv x0 x1 x2 x3 x4 x5 x6 x7, dif_neg (by simp)]
    simp only [Nat.add_sub_cancel_left]
  · refine (next_apply s h n r (val_main_v116 (F := Ideal) x0 x1 x3 x4 x6 x7) (val_main_cst_10 (F := Ideal)) (fun i => Ideal.ofBits_zero_f32) e).trans ?_
    by_cases hn : n.val = 15
    · rw [dif_pos hn, if_pos hn]
    · rw [dif_neg hn, if_neg hn]
      refine (lower_apply s h ⟨n.val + 1, by omega⟩ r (val_main_v107 (F := Ideal) x0 x1 x3 x4 x6 x7) e).trans ?_
      rw [r_dv x0 x1 x2 x3 x4 x5 x6 x7, dif_pos r.isLt, if_neg (by simp)]

end Cert.ReferenceIdeal.AttnR

end
-- ==== Proof.AttnRefOut.lean ====
module

public import proofs.«01_k».proof.Proof.AttnRefShift
public import Idealize.ShloMosaic.Lib.Pipeline.ValueKit.Point
public import Idealize.ShloMosaic.Lib.Pipeline.ReadBack

/-! The reference's result, read at an index: the specification. -/

@[expose] public section

set_option maxRecDepth 16384

noncomputable section

namespace Cert.ReferenceIdeal.AttnR

open Cert.ReferenceIdeal Cert.ReferenceIdeal.Gen Cert.ReferenceIdeal.Read Idealize.ShloMosaic Idealize.ShloMosaic.TcCoe Idealize.SL.Sem
open Cert.KernelIdeal.Attn

variable (x0 x1 x2 x3 : FVec Ideal S8192x4x128 .f32) (x4 x5 : FVec Ideal S8192x4 .f32) (x6 x7 : FVec Ideal S8192x64 .f32)
variable (s h : Fin 4) (n : Fin 16)

/-- Blocks put back in the order of the positions. -/
theorem unblock_apply (Y : FVec Ideal S4x4x16x128x128 .f32) (p : Fin 8192) (e : Fin 128) :
    shapeCast _ (transpose S2048x4x4x128 [2, 0, 1, 3] (shapeCast _ Y shapeCasts_S4x4x16x128x128_S4x4x2048x128)
      transposes_S4x4x2048x128_S2048x4x4x128_2_0_1_3) shapeCasts_S2048x4x4x128_S8192x4x128 (ix3 p h e) =
    Y (ix5 (⟨p.val % 4, by omega⟩ : Fin 4) h (⟨p.val / 512, by omega⟩ : Fin 16) (⟨p.val / 4 % 128, by omega⟩ : Fin 128) e) := by
  pointwise
  blk_ext

theorem unrope_k_lo (p : Fin 8192) (e : Fin 64) : val_main_v149 (F := Ideal) x0 x1 x2 x3 x4 x5 x6 x7 (ix3 p h e) =
    val_main_v133 (F := Ideal) x0 x1 x2 x3 x4 x5 x6 x7 (ix3 p h ⟨64 + e.val, by omega⟩) * x7 (ix2 p e) +
      val_main_v133 (F := Ideal) x0 x1 x2 x3 x4 x5 x6 x7 (ix3 p h ⟨e.val, by omega⟩) * x6 (ix2 p e) := by
  rw [val_main_v149_apply, val_main_v140_apply, val_main_v148_apply, val_main_v138_apply, val_main_v137_apply, val_main_v139_apply, val_main_v147_apply, val_main_v16_apply, val_main_v15_apply]
  have e1 : idx_main_v138 (ix3 p h e) = ix3 p h ⟨64 + e.val, by omega⟩ := by
    funext a
    match a with
    | ⟨0, _⟩ => rfl
    | ⟨1, _⟩ => rfl
    | ⟨2, _⟩ => rfl
  have e2 : idx_main_v137 (ix3 p h e) = ix3 p h ⟨e.val, by omega⟩ := by
    funext a
    match a with
    | ⟨0, _⟩ => rfl
    | ⟨1, _⟩ => rfl
    | ⟨2, _⟩ => rfl
  have e3 : idx_main_v16 (idx_main_v139 (ix3 p h e)) = ix2 p e := by
    funext a
    match a with
    | ⟨0, _⟩ => rfl
    | ⟨1, _⟩ => rfl
  have e4 : idx_main_v15 (idx_main_v147 (ix3 p h e)) = ix2 p e := by
    funext a
    match a with
    | ⟨0, _⟩ => rfl
    | ⟨1, _⟩ => rfl
  rw [e1, e2, e3, e4]
  rfl

theorem unrope_k_up (p : Fin 8192) (e : Fin 64) : val_main_v146 (F := Ideal) x0 x1 x2 x3 x4 x5 x6 x7 (ix3 p h e) =
    val_main_v133 (F := Ideal) x0 x1 x2 x3 x4 x5 x6 x7 (ix3 p h ⟨64 + e.val, by omega⟩) * x6 (ix2 p e) +
      -val_main_v133 (F := Ideal) x0 x1 x2 x3 x4 x5 x6 x7 (ix3 p h ⟨e.val, by omega⟩) * x7 (ix2 p e) := by
  rw [val_main_v146_apply, val_main_v142_apply, val_main_v145_apply, val_main_v143_apply, val_main_v138_apply, val_main_v137_apply, val_main_v141_apply, val_main_v144_apply, val_main_v15_apply, val_main_v16_apply]
  have e1 : idx_main_v138 (ix3 p h e) = ix3 p h ⟨64 + e.val, by omega⟩ := by
    funext a
    match a with
    | ⟨0, _⟩ => rfl
    | ⟨1, _⟩ => rfl
    | ⟨2, _⟩ => rfl
  have e2 : idx_main_v137 (ix3 p h e) = ix3 p h ⟨e.val, by omega⟩ := by
    funext a
    match a with
    | ⟨0, _⟩ => rfl
    | ⟨1, _⟩ => rfl
    | ⟨2, _⟩ => rfl
  have e3 : idx_main_v15 (idx_main_v141 (ix3 p h e)) = ix2 p e := by
    funext a
    match a with
    | ⟨0, _⟩ => rfl
    | ⟨1, _⟩ => rfl
  have e4 : idx_main_v16 (idx_main_v144 (ix3 p h e)) = ix2 p e := by
    funext a
    match a with
    | ⟨0, _⟩ => rfl
    | ⟨1, _⟩ => rfl
  rw [e1, e2, e3, e4]
  rfl

theorem unrope_k (p : Fin 8192) (e : Fin 128) : val_main_v150 (F := Ideal) x0 x1 x2 x3 x4 x5 x6 x7 (ix3 p h e) =
    (if he : e.val < 64 then
      val_main_v133 (F := Ideal) x0 x1 x2 x3 x4 x5 x6 x7 (ix3 p h ⟨64 + e.val, by omega⟩) * x7 (ix2 p ⟨e.val, he⟩) +
        val_main_v133 (F := Ideal) x0 x1 x2 x3 x4 x5 x6 x7 (ix3 p h e) * x6 (ix2 p ⟨e.val, he⟩)
    else val_main_v133 (F := Ideal) x0 x1 x2 x3 x4 x5 x6 x7 (ix3 p h e) * x6 (ix2 p ⟨e.val - 64, by omega⟩) +
      -val_main_v133 (F := Ideal) x0 x1 x2 x3 x4 x5 x6 x7 (ix3 p h ⟨e.val - 64, by omega⟩) * x7 (ix2 p ⟨e.val - 64, by omega⟩)) := by
  unfold val_main_v150
  by_cases he : e.val < 64
  · rw [dif_pos he]
    refine (concatenate_pair_apply_left (t := S8192x4x128) (s₁ := S8192x4x64) (s₂ := S8192x4x64) 2 _ _
      concatenates_S8192x4x64_S8192x4x64_S8192x4x128_d2 (ix3 p h e) rfl (ix3 p h (⟨e.val, he⟩ : Fin 64)) (fun b => match b with
        | ⟨0, _⟩ => rfl
        | ⟨1, _⟩ => rfl
        | ⟨2, _⟩ => rfl)).trans ?_
    exact unrope_k_lo x0 x1 x2 x3 x4 x5 x6 x7 h p ⟨e.val, he⟩
  · rw [dif_neg he]
    have hl : e.val - 64 < 64 := by omega
    refine (concatenate_pair_apply_right (t := S8192x4x128) (s₁ := S8192x4x64) (s₂ := S8192x4x64) 2 _ _
      concatenates_S8192x4x64_S8192x4x64_S8192x4x128_d2 (ix3 p h e) rfl rfl (ix3 p h (⟨e.val - 64, hl⟩ : Fin 64)) (fun b hb => match b with
        | ⟨0, _⟩ => rfl
        | ⟨1, _⟩ => rfl
        | ⟨2, _⟩ => absurd rfl hb)
      (show e.val - 64 + 64 = e.val by omega)).trans ?_
    rw [unrope_k_up x0 x1 x2 x3 x4 x5 x6 x7 h p ⟨e.val - 64, hl⟩]
    have e1 : (⟨64 + (e.val - 64), by omega⟩ : Fin 128) = e := Fin.ext (show 64 + (e.val - 64) = e.val by omega)
    rw [e1]

theorem unrope_q_lo (p : Fin 8192) (e : Fin 64) : val_main_v163 (F := Ideal) x0 x1 x2 x3 x4 x5 x6 x7 (ix3 p h e) =
    val_main_v136 (F := Ideal) x0 x1 x2 x3 x4 x5 x6 x7 (ix3 p h ⟨64 + e.val, by omega⟩) * x7 (ix2 p e) +
      val_main_v136 (F := Ideal) x0 x1 x2 x3 x4 x5 x6 x7 (ix3 p h ⟨e.val, by omega⟩) * x6 (ix2 p e) := by
  rw [val_main_v163_apply, val_main_v154_apply, val_main_v162_apply, val_main_v152_apply, val_main_v151_apply, val_main_v153_apply, val_main_v161_apply, val_main_v1_apply, val_main_v0_apply]
  have e1 : idx_main_v152 (ix3 p h e) = ix3 p h ⟨64 + e.val, by omega⟩ := by
    funext a
    match a with
    | ⟨0, _⟩ => rfl
    | ⟨1, _⟩ => rfl
    | ⟨2, _⟩ => rfl
  have e2 : idx_main_v151 (ix3 p h e) = ix3 p h ⟨e.val, by omega⟩ := by
    funext a
    match a with
    | ⟨0, _⟩ => rfl
    | ⟨1, _⟩ => rfl
    | ⟨2, _⟩ => rfl
  have e3 : idx_main_v1 (idx_main_v153 (ix3 p h e)) = ix2 p e := by
    funext a
    match a with
    | ⟨0, _⟩ => rfl
    | ⟨1, _⟩ => rfl
  have e4 : idx_main_v0 (idx_main_v161 (ix3 p h e)) = ix2 p e := by
    funext a
    match a with
    | ⟨0, _⟩ => rfl
    | ⟨1, _⟩ => rfl
  rw [e1, e2, e3, e4]
  rfl

theorem unrope_q_up (p : Fin 8192) (e : Fin 64) : val_main_v160 (F := Ideal) x0 x1 x2 x3 x4 x5 x6 x7 (ix3 p h e) =
    val_main_v136 (F := Ideal) x0 x1 x2 x3 x4 x5 x6 x7 (ix3 p h ⟨64 + e.val, by omega⟩) * x6 (ix2 p e) +
      -val_main_v136 (F := Ideal) x0 x1 x2 x3 x4 x5 x6 x7 (ix3 p h ⟨e.val, by omega⟩) * x7 (ix2 p e) := by
  rw [val_main_v160_apply, val_main_v156_apply, val_main_v159_apply, val_main_v157_apply, val_main_v152_apply, val_main_v151_apply, val_main_v155_apply, val_main_v158_apply, val_main_v0_apply, val_main_v1_apply]
  have e1 : idx_main_v152 (ix3 p h e) = ix3 p h ⟨64 + e.val, by omega⟩ := by
    funext a
    match a with
    | ⟨0, _⟩ => rfl
    | ⟨1, _⟩ => rfl
    | ⟨2, _⟩ => rfl
  have e2 : idx_main_v151 (ix3 p h e) = ix3 p h ⟨e.val, by omega⟩ := by
    funext a
    match a with
    | ⟨0, _⟩ => rfl
    | ⟨1, _⟩ => rfl
    | ⟨2, _⟩ => rfl
  have e3 : idx_main_v0 (idx_main_v155 (ix3 p h e)) = ix2 p e := by
    funext a
    match a with
    | ⟨0, _⟩ => rfl
    | ⟨1, _⟩ => rfl
  have e4 : idx_main_v1 (idx_main_v158 (ix3 p h e)) = ix2 p e := by
    funext a
    match a with
    | ⟨0, _⟩ => rfl
    | ⟨1, _⟩ => rfl
  rw [e1, e2, e3, e4]
  rfl

theorem unrope_q (p : Fin 8192) (e : Fin 128) : val_main_v164 (F := Ideal) x0 x1 x2 x3 x4 x5 x6 x7 (ix3 p h e) =
    (if he : e.val < 64 then
      val_main_v136 (F := Ideal) x0 x1 x2 x3 x4 x5 x6 x7 (ix3 p h ⟨64 + e.val, by omega⟩) * x7 (ix2 p ⟨e.val, he⟩) +
        val_main_v136 (F := Ideal) x0 x1 x2 x3 x4 x5 x6 x7 (ix3 p h e) * x6 (ix2 p ⟨e.val, he⟩)
    else val_main_v136 (F := Ideal) x0 x1 x2 x3 x4 x5 x6 x7 (ix3 p h e) * x6 (ix2 p ⟨e.val - 64, by omega⟩) +
      -val_main_v136 (F := Ideal) x0 x1 x2 x3 x4 x5 x6 x7 (ix3 p h ⟨e.val - 64, by omega⟩) * x7 (ix2 p ⟨e.val - 64, by omega⟩)) := by
  unfold val_main_v164
  by_cases he : e.val < 64
  · rw [dif_pos he]
    refine (concatenate_pair_apply_left (t := S8192x4x128) (s₁ := S8192x4x64) (s₂ := S8192x4x64) 2 _ _
      concatenates_S8192x4x64_S8192x4x64_S8192x4x128_d2 (ix3 p h e) rfl (ix3 p h (⟨e.val, he⟩ : Fin 64)) (fun b => match b with
        | ⟨0, _⟩ => rfl
        | ⟨1, _⟩ => rfl
        | ⟨2, _⟩ => rfl)).trans ?_
    exact unrope_q_lo x0 x1 x2 x3 x4 x5 x6 x7 h p ⟨e.val, he⟩
  · rw [dif_neg he]
    have hl : e.val - 64 < 64 := by omega
    refine (concatenate_pair_apply_right (t := S8192x4x128) (s₁ := S8192x4x64) (s₂ := S8192x4x64) 2 _ _
      concatenates_S8192x4x64_S8192x4x64_S8192x4x128_d2 (ix3 p h e) rfl rfl (ix3 p h (⟨e.val - 64, hl⟩ : Fin 64)) (fun b hb => match b with
        | ⟨0, _⟩ => rfl
        | ⟨1, _⟩ => rfl
        | ⟨2, _⟩ => absurd rfl hb)
      (show e.val - 64 + 64 = e.val by omega)).trans ?_
    rw [unrope_q_up x0 x1 x2 x3 x4 x5 x6 x7 h p ⟨e.val - 64, hl⟩]
    have e1 : (⟨64 + (e.val - 64), by omega⟩ : Fin 128) = e := Fin.ext (show 64 + (e.val - 64) = e.val by omega)
    rw [e1]

/-- The three arrays side by side, rows in residue order. -/
theorem r_rows (R : Fin 8192) (C : Fin 1536) : val_main_v175 (F := Ideal) x0 x1 x2 x3 x4 x5 x6 x7 (ix2 R C) =
    (if C.val < 512 then val_main_v164 (F := Ideal) x0 x1 x2 x3 x4 x5 x6 x7 (ix3 ⟨4 * (R.val % 2048) + R.val / 2048, by omega⟩ ⟨C.val / 128 % 4, by omega⟩ ⟨C.val % 128, by omega⟩)
    else if C.val < 1024 then val_main_v150 (F := Ideal) x0 x1 x2 x3 x4 x5 x6 x7 (ix3 ⟨4 * (R.val % 2048) + R.val / 2048, by omega⟩ ⟨C.val / 128 % 4, by omega⟩ ⟨C.val % 128, by omega⟩)
    else val_main_v124 (F := Ideal) x0 x1 x3 x4 x6 x7 (ix3 ⟨4 * (R.val % 2048) + R.val / 2048, by omega⟩ ⟨C.val / 128 % 4, by omega⟩ ⟨C.val % 128, by omega⟩)) := by
  rw [val_main_v175_apply]
  unfold val_main_v174 val_main_v173 val_main_v172 val_main_v171 val_main_v170 val_main_v169 val_main_v168 val_main_v167 val_main_v166 val_main_v165
  generalize val_main_v164 (F := Ideal) x0 x1 x2 x3 x4 x5 x6 x7 = G1
  generalize val_main_v150 (F := Ideal) x0 x1 x2 x3 x4 x5 x6 x7 = G2
  generalize val_main_v124 (F := Ideal) x0 x1 x3 x4 x6 x7 = G3
  pointwise
  by_cases h1 : C.val < 512
  · simp only [h1, dif_pos, if_pos]
    blk_ext
  · by_cases h2 : C.val < 1024
    · have h3 : C.val - 512 < 512 := by omega
      simp only [h1, h2, h3, dif_pos, if_pos, dif_neg, if_neg, not_false_eq_true]
      blk_ext
    · have h3 : ¬ C.val - 512 < 512 := by omega
      simp only [h1, h2, h3, dif_pos, if_pos, dif_neg, if_neg, not_false_eq_true]
      blk_ext

end Cert.ReferenceIdeal.AttnR

end
-- ==== Proof.AttnRefFinal.lean ====
module

public import proofs.«01_k».proof.Proof.AttnRefOut
public import Idealize.ShloMosaic.Lib.Pipeline.ValueKit.Point
public import Idealize.ShloMosaic.Lib.Pipeline.ReadBack

/-! The reference's result is the specification. -/

@[expose] public section

set_option maxRecDepth 16384

noncomputable section

namespace Cert.ReferenceIdeal.AttnR

open Cert.ReferenceIdeal Cert.ReferenceIdeal.Gen Cert.ReferenceIdeal.Read Idealize.ShloMosaic Idealize.ShloMosaic.TcCoe Idealize.SL.Sem
open Cert.KernelIdeal.Attn

variable (x0 x1 x2 x3 : FVec Ideal S8192x4x128 .f32) (x4 x5 : FVec Ideal S8192x4 .f32) (x6 x7 : FVec Ideal S8192x64 .f32)
variable (h : Fin 4)

theorem neg_mul_eq (x y : EReal) : -x * y = x * -y := by
  rw [EReal.neg_mul, mul_comm x (-y), EReal.neg_mul, mul_comm x y]

/-- A position, from its residue, block and row. -/
theorem pos_self (p : Fin 8192) : pos ⟨p.val % 4, by omega⟩ (p.val / 512) ⟨p.val / 4 % 128, by omega⟩ = p := by
  unfold pos
  apply Fin.ext
  show (4 * (128 * (p.val / 512) + p.val / 4 % 128) + p.val % 4) % 8192 = p.val
  omega

theorem g_q (p : Fin 8192) (e : Fin 128) : val_main_v136 (F := Ideal) x0 x1 x2 x3 x4 x5 x6 x7 (ix3 p h e) = gq (argsR x0 x1 x2 x3 x4 x5 x6 x7) ⟨p.val % 4, by omega⟩ h (p.val / 512) ⟨p.val / 4 % 128, by omega⟩ e :=
  (unblock_apply h (val_main_v115 (F := Ideal) x0 x1 x2 x3 x4 x5 x6 x7) p e).trans (r_dq x0 x1 x2 x3 x4 x5 x6 x7 _ h _ _ e)

theorem g_k (p : Fin 8192) (e : Fin 128) : val_main_v133 (F := Ideal) x0 x1 x2 x3 x4 x5 x6 x7 (ix3 p h e) = gk (argsR x0 x1 x2 x3 x4 x5 x6 x7) ⟨p.val % 4, by omega⟩ h (p.val / 512) ⟨p.val / 4 % 128, by omega⟩ e :=
  (unblock_apply h (val_main_v130 (F := Ideal) x0 x1 x2 x3 x4 x5 x6 x7) p e).trans (r_gk x0 x1 x2 x3 x4 x5 x6 x7 _ h _ _ e)

theorem g_v (p : Fin 8192) (e : Fin 128) : val_main_v124 (F := Ideal) x0 x1 x3 x4 x6 x7 (ix3 p h e) = gv (argsR x0 x1 x2 x3 x4 x5 x6 x7) ⟨p.val % 4, by omega⟩ h (p.val / 512) ⟨p.val / 4 % 128, by omega⟩ e :=
  (unblock_apply h (val_main_v121 (F := Ideal) x0 x1 x3 x4 x6 x7) p e).trans (r_gv x0 x1 x2 x3 x4 x5 x6 x7 _ h _ _ e)

theorem grad_q (p : Fin 8192) (e : Fin 128) : val_main_v164 (F := Ideal) x0 x1 x2 x3 x4 x5 x6 x7 (ix3 p h e) = gradQ (argsR x0 x1 x2 x3 x4 x5 x6 x7) ⟨p.val % 4, by omega⟩ h (p.val / 512) ⟨p.val / 4 % 128, by omega⟩ e := by
  rw [unrope_q x0 x1 x2 x3 x4 x5 x6 x7]
  unfold gradQ unrope cosT sinT
  rw [pos_self]
  by_cases he : e.val < 64
  · have e1 : (⟨(e.val + 128 - 64) % 128, Nat.mod_lt _ (by decide)⟩ : Fin 128) = ⟨64 + e.val, by omega⟩ := Fin.ext (show (e.val + 128 - 64) % 128 = 64 + e.val by omega)
    have e2 : angle e = ⟨e.val, he⟩ := Fin.ext (show e.val % 64 = e.val by omega)
    have e3 : angle ⟨64 + e.val, by omega⟩ = ⟨e.val, he⟩ := Fin.ext (show (64 + e.val) % 64 = e.val by omega)
    rw [dif_pos he, e1, e2, e3, if_neg (show ¬ 64 + e.val < 64 by omega), g_q x0 x1 x2 x3 x4 x5 x6 x7, g_q x0 x1 x2 x3 x4 x5 x6 x7, add_comm]
    rfl
  · have hl : e.val - 64 < 64 := by omega
    have e1 : (⟨(e.val + 128 - 64) % 128, Nat.mod_lt _ (by decide)⟩ : Fin 128) = ⟨e.val - 64, by omega⟩ := Fin.ext (show (e.val + 128 - 64) % 128 = e.val - 64 by omega)
    have e2 : angle e = ⟨e.val - 64, hl⟩ := Fin.ext (show e.val % 64 = e.val - 64 by omega)
    have e3 : angle ⟨e.val - 64, by omega⟩ = ⟨e.val - 64, hl⟩ := Fin.ext (show (e.val - 64) % 64 = e.val - 64 by omega)
    rw [dif_neg he, e1, e2, e3, if_pos (show e.val - 64 < 64 by omega), g_q x0 x1 x2 x3 x4 x5 x6 x7, g_q x0 x1 x2 x3 x4 x5 x6 x7, neg_mul_eq]
    rfl

theorem grad_k (p : Fin 8192) (e : Fin 128) : val_main_v150 (F := Ideal) x0 x1 x2 x3 x4 x5 x6 x7 (ix3 p h e) = gradK (argsR x0 x1 x2 x3 x4 x5 x6 x7) ⟨p.val % 4, by omega⟩ h (p.val / 512) ⟨p.val / 4 % 128, by omega⟩ e := by
  rw [unrope_k x0 x1 x2 x3 x4 x5 x6 x7]
  unfold gradK unrope cosT sinT
  rw [pos_self]
  by_cases he : e.val < 64
  · have e1 : (⟨(e.val + 128 - 64) % 128, Nat.mod_lt _ (by decide)⟩ : Fin 128) = ⟨64 + e.val, by omega⟩ := Fin.ext (show (e.val + 128 - 64) % 128 = 64 + e.val by omega)
    have e2 : angle e = ⟨e.val, he⟩ := Fin.ext (show e.val % 64 = e.val by omega)
    have e3 : angle ⟨64 + e.val, by omega⟩ = ⟨e.val, he⟩ := Fin.ext (show (64 + e.val) % 64 = e.val by omega)
    rw [dif_pos he, e1, e2, e3, if_neg (show ¬ 64 + e.val < 64 by omega), g_k x0 x1 x2 x3 x4 x5 x6 x7, g_k x0 x1 x2 x3 x4 x5 x6 x7, add_comm]
    rfl
  · have hl : e.val - 64 < 64 := by omega
    have e1 : (⟨(e.val + 128 - 64) % 128, Nat.mod_lt _ (by decide)⟩ : Fin 128) = ⟨e.val - 64, by omega⟩ := Fin.ext (show (e.val + 128 - 64) % 128 = e.val - 64 by omega)
    have e2 : angle e = ⟨e.val - 64, hl⟩ := Fin.ext (show e.val % 64 = e.val - 64 by omega)
    have e3 : angle ⟨e.val - 64, by omega⟩ = ⟨e.val - 64, hl⟩ := Fin.ext (show (e.val - 64) % 64 = e.val - 64 by omega)
    rw [dif_neg he, e1, e2, e3, if_pos (show e.val - 64 < 64 by omega), g_k x0 x1 x2 x3 x4 x5 x6 x7, g_k x0 x1 x2 x3 x4 x5 x6 x7, neg_mul_eq]
    rfl

/-- The reference's result at an index. -/
theorem result (R : Fin 8192) (C : Fin 1536) : val_main_v175 (F := Ideal) x0 x1 x2 x3 x4 x5 x6 x7 (ix2 R C) = spec (argsR x0 x1 x2 x3 x4 x5 x6 x7) R C := by
  rw [r_rows x0 x1 x2 x3 x4 x5 x6 x7, grad_q x0 x1 x2 x3 x4 x5 x6 x7, grad_k x0 x1 x2 x3 x4 x5 x6 x7, g_v x0 x1 x2 x3 x4 x5 x6 x7]
  unfold spec
  have b1 : (⟨(4 * (R.val % 2048) + R.val / 2048) % 4, by omega⟩ : Fin 4) = ⟨R.val / 2048, by omega⟩ :=
    Fin.ext (show (4 * (R.val % 2048) + R.val / 2048) % 4 = R.val / 2048 by omega)
  have b2 : (4 * (R.val % 2048) + R.val / 2048) / 512 = R.val % 2048 / 128 := by omega
  have b3 : (⟨(4 * (R.val % 2048) + R.val / 2048) / 4 % 128, by omega⟩ : Fin 128) = ⟨R.val % 128, by omega⟩ :=
    Fin.ext (show (4 * (R.val % 2048) + R.val / 2048) / 4 % 128 = R.val % 128 from by
      have hq : (4 * (R.val % 2048) + R.val / 2048) / 4 = R.val % 2048 := by omega
      rw [hq]
      omega)
  rw [b1, b2, b3]

end Cert.ReferenceIdeal.AttnR

end
-- ==== Proof.FfnIn.lean ====
module

public import proofs.«01_k».proof.Proof.Gen.Kernel2Ideal.Frame
public import Idealize.ShloMosaic.Lib.Pipeline.ValueKit
public import Idealize.ShloMosaic.Lib.Pipeline.ValueKit.Point

/-! The first call of the feed-forward sublayer: the normalised rows, the gate, the up projection and their product,
    as the four arrays the call leaves. -/

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

/-- The constants of the two programs: one half, one, the row length and the guard of the root. -/
def half : EReal := Ideal.ofBits .f32 0x3F000000#32
def rowLen : EReal := Ideal.ofBits .f32 0x44800000#32
def guard : EReal := Ideal.ofBits .f32 0x358637BD#32

/-- The reciprocal root of a row's mean square. -/
def rstd {n : ℕ} (X : Fin n → Fin 1024 → EReal) (i : Fin n) : EReal :=
  Ideal.rsqrt (Ideal.div (∑ k : Fin 1024, X i k * X i k) rowLen + guard)

/-- A row scaled by its reciprocal root and the gain. -/
def normed {n : ℕ} (X : Fin n → Fin 1024 → EReal) (G : Fin 1024 → EReal) (i : Fin n) (k : Fin 1024) : EReal :=
  X i k * rstd X i * G k

/-- The logistic function in the form the first call uses. -/
def sig1 (x : EReal) : EReal := half * Ideal.tanh (half * x) + half

theorem norm_at (x0 : Vec Ideal S512x1024 .f32) (x1 : Vec Ideal S1x1024 .f32) (j : S512x1024.Idx) :
    k0_pay6 x0 x1 j = normed (fun i k => x0 (ix2 i k)) (fun k => x1 (ix2 0 k)) (j 0) (j 1) := by
  pointwise [k0_pay6, normed, rstd, half, rowLen, guard]

/-- One product of the normalised rows with a row of the weight. -/
def gemm (n : Vec Ideal S512x1024 .bf16) (w : Vec Ideal S5632x1024 .bf16) (i : Fin 512) (f : Fin 5632) : EReal :=
  ∑ k : Fin 1024, n (ix2 i k) * w (ix2 f k)

theorem ld_row (x0 : Vec Ideal S512x1024 .f32) : View.ld x0 r0_0 = x0 := by
  funext j
  pointwise []
  blk_ext

theorem ld_gain (x1 : Vec Ideal S1x1024 .f32) : View.ld x1 r0_1 = x1 := by
  funext j
  pointwise []
  blk_ext

variable (x0 : Vec Ideal S512x1024 .f32) (x1 : Vec Ideal S1x1024 .f32) (x2 : Vec Ideal S5632x1024 .bf16)

theorem out0_3_at (y : S512x1024.Idx) : out0_3 x0 x1 x2 y = k0_pay6 x0 x1 y := by
  unfold_out out0_3
  rw [ld_row, ld_gain]
  canon_tiles x hx
  have e : x = y := by
    funext a
    match a with
    | ⟨0, _⟩ => exact Fin.ext hx0.symm
    | ⟨1, _⟩ => exact Fin.ext hx1.symm
  rw [e]

theorem out0_4_at (y : S512x2816.Idx) :
    out0_4 x0 x1 x2 y = gemm (k0_pay6 x0 x1) x2 ⟨(y 0).val, (y 0).isLt⟩ ⟨(y 1).val, lt_trans (y 1).isLt (by decide)⟩ := by
  unfold_out out0_4
  rw [ld_row, ld_gain]
  canon_tiles x hx
  all_goals
    open_payloads
    generalize k0_pay6 x0 x1 = n
    pointwise [gemm]
    first | blk_ext | simp only [hx1, show y 0 = x 0 from Fin.ext hx0]

theorem out0_5_at (y : S512x2816.Idx) :
    out0_5 x0 x1 x2 y = gemm (k0_pay6 x0 x1) x2 ⟨(y 0).val, (y 0).isLt⟩ ⟨2816 + (y 1).val, by have h : (y 1).val < 2816 := (y 1).isLt; omega⟩ := by
  unfold_out out0_5
  rw [ld_row, ld_gain]
  canon_tiles x hx
  all_goals
    open_payloads
    generalize k0_pay6 x0 x1 = n
    pointwise [gemm]
    simp only [hx1, show y 0 = x 0 from Fin.ext hx0, ← Nat.add_assoc, Nat.reduceAdd]

theorem out0_6_at (y : S512x2816.Idx) :
    out0_6 x0 x1 x2 y = gemm (k0_pay6 x0 x1) x2 ⟨(y 0).val, (y 0).isLt⟩ ⟨(y 1).val, lt_trans (y 1).isLt (by decide)⟩
      * sig1 (gemm (k0_pay6 x0 x1) x2 ⟨(y 0).val, (y 0).isLt⟩ ⟨(y 1).val, lt_trans (y 1).isLt (by decide)⟩)
      * gemm (k0_pay6 x0 x1) x2 ⟨(y 0).val, (y 0).isLt⟩ ⟨2816 + (y 1).val, by have h : (y 1).val < 2816 := (y 1).isLt; omega⟩ := by
  unfold_out out0_6
  rw [ld_row, ld_gain]
  canon_tiles x hx
  all_goals
    open_payloads
    generalize k0_pay6 x0 x1 = n
    pointwise [gemm, sig1, half]
    simp only [hx1, show y 0 = x 0 from Fin.ext hx0, ← Nat.add_assoc, Nat.reduceAdd]

/-! The arrays -/

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] :=
  (by decide +kernel : ∀ t : Fin grid0.N, _)

theorem row_lt {n : ℕ} (hn : n = 16) {t : ℕ} (h : t < n) (i : Fin 512) : t * 512 + i.val < 8192 := by omega

theorem iblk0_0 (t : Fin cfg0.N) (i : Fin 512) (k : Fin 1024) :
    iblk0 V c 0 t (ix2 i k) = V c main_arg0 (ix2 ⟨t.val * 512 + i.val, row_lt N_0 t.isLt i⟩ k) := by
  blk_point [iblk0, idx0 t]

theorem iblk0_1 (t : Fin cfg0.N) (k : Fin 1024) : iblk0 V c 1 t (ix2 0 k) = V c main_v0 (ix2 0 k) := by
  blk_point [iblk0, idx0 t]

theorem iblk0_2 (t : Fin cfg0.N) (f : Fin 5632) (k : Fin 1024) : iblk0 V c 2 t (ix2 f k) = V c main_v2 (ix2 f k) := by
  blk_point [iblk0, idx0 t]

/-- The rows, the gain and the weight as the call finds them. -/
def rowsIn (i : Fin 8192) (k : Fin 1024) : EReal := V c main_arg0 (ix2 i k)
def gainIn (k : Fin 1024) : EReal := V c main_v0 (ix2 0 k)
def weightIn (f : Fin 5632) (k : Fin 1024) : EReal := V c main_v2 (ix2 f k)

/-- A product of rows with the rows of a weight. -/
def prod {n m l : ℕ} (X : Fin n → Fin l → EReal) (Y : Fin m → Fin l → EReal) (i : Fin n) (f : Fin m) : EReal :=
  ∑ k : Fin l, X i k * Y f k

theorem norm_blk (t : Fin cfg0.N) (i : Fin 512) (k : Fin 1024) :
    k0_pay6 (iblk0 V c 0 t) (iblk0 V c 1 t) (ix2 i k) = normed (rowsIn V c) (gainIn V c) ⟨t.val * 512 + i.val, row_lt N_0 t.isLt i⟩ k := by
  refine (norm_at _ _ _).trans ?_
  show normed _ _ i k = _
  unfold normed rstd
  simp only [iblk0_0, iblk0_1]
  rfl

theorem gemm_blk (t : Fin cfg0.N) (i : Fin 512) (f : Fin 5632) :
    gemm (k0_pay6 (iblk0 V c 0 t) (iblk0 V c 1 t)) (iblk0 V c 2 t) i f
      = prod (normed (rowsIn V c) (gainIn V c)) (weightIn V c) ⟨t.val * 512 + i.val, row_lt N_0 t.isLt i⟩ f :=
  Finset.sum_congr rfl fun k _ => congrArg₂ (· * ·) (norm_blk V c t i k) (iblk0_2 V c t f k)

theorem arr0_3 (i : Fin 8192) (k : Fin 1024) : (dat0 V c).arrAt 3 cfg0.N (ix2 i k) = normed (rowsIn V c) (gainIn V c) i k := by
  refine congrFun ((dat0 V c).arrAt_eq_of_covers 3 (fun j : S8192x1024.Idx => normed (rowsIn V c) (gainIn V c) (j 0) (j 1)) (by decide +kernel) fun t hf y => ?_) (ix2 i k)
  blk_simp
  rw [after0_3]
  refine (out0_3_at _ _ _ _).trans ((congrArg _ (eq_ix2 y)).trans ((norm_blk V c t (y 0) (y 1)).trans (congrArg₂ _ (Fin.ext ?_) (Fin.ext ?_))))
  all_goals (blk_simp [idx0 t] <;> try omega)

/-- The gate and the up projection. -/
def gateOf (i : Fin 8192) (f : Fin 2816) : EReal := prod (normed (rowsIn V c) (gainIn V c)) (weightIn V c) i ⟨f.val, lt_trans f.isLt (by decide)⟩
def upOf (i : Fin 8192) (f : Fin 2816) : EReal := prod (normed (rowsIn V c) (gainIn V c)) (weightIn V c) i ⟨2816 + f.val, by omega⟩

theorem arr0_4 (i : Fin 8192) (f : Fin 2816) : (dat0 V c).arrAt 4 cfg0.N (ix2 i f) = gateOf V c i f := by
  refine congrFun ((dat0 V c).arrAt_eq_of_covers 4 (fun j : S8192x2816.Idx => gateOf V c (j 0) (j 1)) (by decide +kernel) fun t hf y => ?_) (ix2 i f)
  blk_simp
  rw [after0_4]
  refine (out0_4_at _ _ _ _).trans ((gemm_blk V c t _ _).trans (congrArg₂ (gateOf V c) (y := ⟨(y 1).val, (y 1).isLt⟩) (Fin.ext ?_) (Fin.ext ?_)))
  all_goals (blk_simp [idx0 t] <;> try omega)

theorem arr0_5 (i : Fin 8192) (f : Fin 2816) : (dat0 V c).arrAt 5 cfg0.N (ix2 i f) = upOf V c i f := by
  refine congrFun ((dat0 V c).arrAt_eq_of_covers 5 (fun j : S8192x2816.Idx => upOf V c (j 0) (j 1)) (by decide +kernel) fun t hf y => ?_) (ix2 i f)
  blk_simp
  rw [after0_5]
  refine (out0_5_at _ _ _ _).trans ((gemm_blk V c t _ _).trans (congrArg₂ (upOf V c) (y := ⟨(y 1).val, (y 1).isLt⟩) (Fin.ext ?_) (Fin.ext ?_)))
  all_goals (blk_simp [idx0 t] <;> try omega)

/-- The activation. -/
def act1 (g u : EReal) : EReal := g * sig1 g * u

theorem arr0_6 (i : Fin 8192) (f : Fin 2816) : (dat0 V c).arrAt 6 cfg0.N (ix2 i f) = act1 (gateOf V c i f) (upOf V c i f) := by
  refine congrFun ((dat0 V c).arrAt_eq_of_covers 6 (fun j : S8192x2816.Idx => act1 (gateOf V c (j 0) (j 1)) (upOf V c (j 0) (j 1))) (by decide +kernel) fun t hf y => ?_) (ix2 i f)
  blk_simp
  rw [after0_6]
  refine (out0_6_at _ _ _ _).trans ?_
  rw [gemm_blk V c t, gemm_blk V c t]
  refine congrArg₂ (fun a b => act1 (gateOf V c a b) (upOf V c a b)) (y := ⟨(y 1).val, (y 1).isLt⟩) (Fin.ext ?_) (Fin.ext ?_)
  all_goals (blk_simp [idx0 t] <;> try omega)

end Cert.Kernel2Ideal.Ffn

end
-- ==== Proof.FfnDown.lean ====
module

public import proofs.«01_k».proof.Proof.FfnIn

/-! The second call of the feed-forward sublayer: the product with the down projection, added to the rows. -/

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

theorem down_at (x0 : Vec Ideal S512x2816 .bf16) (x1 : Vec Ideal S2816x1024 .bf16) (x2 : Vec Ideal S512x1024 .f32) (y : S512x1024.Idx) :
    out1_3 x0 x1 x2 y = (∑ f : Fin 2816, x0 (ix2 (y 0) f) * x1 (ix2 f (y 1))) + x2 y := by
  unfold out1_3
  canon_tiles x hx
  have e : x = y := by
    funext a
    match a with
    | ⟨0, _⟩ => exact Fin.ext hx0.symm
    | ⟨1, _⟩ => exact Fin.ext hx1.symm
  rw [e]
  pointwise [k1_pay1]
  trace_state
  blk_ext

variable (V : (c : Dev nD) → (b : Ref sig .tc) → Buf (Elt Ideal) ((c : Thread nD τ).loc b)) (c : Dev nD)

theorem idx1 : ∀ t : Fin cfg1.N, win1_0.index t = ![t.val, 0] ∧ win1_1.index t = ![0, 0] ∧ win1_2.index t = ![t.val, 0] ∧ win1_3.index t = ![t.val, 0] :=
  (by decide +kernel : ∀ t : Fin grid1.N, _)

theorem iblk1_0 (t : Fin cfg1.N) (i : Fin 512) (f : Fin 2816) :
    iblk1 V c 0 t (ix2 i f) = V c main_v5_3 (ix2 ⟨t.val * 512 + i.val, row_lt N_1 t.isLt i⟩ f) := by
  blk_point [iblk1, idx1 t]

theorem iblk1_1 (t : Fin cfg1.N) (f : Fin 2816) (k : Fin 1024) : iblk1 V c 1 t (ix2 f k) = V c main_v3 (ix2 f k) := by
  blk_point [iblk1, idx1 t]

theorem iblk1_2 (t : Fin cfg1.N) (i : Fin 512) (k : Fin 1024) :
    iblk1 V c 2 t (ix2 i k) = V c main_arg0 (ix2 ⟨t.val * 512 + i.val, row_lt N_1 t.isLt i⟩ k) := by
  blk_point [iblk1, idx1 t]

/-- Rows times a weight, and the rows added. -/
def downOf (A : Fin 8192 → Fin 2816 → EReal) (Wd : Fin 2816 → Fin 1024 → EReal) (H : Fin 8192 → Fin 1024 → EReal) (i : Fin 8192) (k : Fin 1024) : EReal :=
  (∑ f : Fin 2816, A i f * Wd f k) + H i k

theorem arr1_3 (i : Fin 8192) (k : Fin 1024) : (dat1 V c).arrAt 3 cfg1.N (ix2 i k)
    = downOf (fun i f => V c main_v5_3 (ix2 i f)) (fun f k => V c main_v3 (ix2 f k)) (fun i k => V c main_arg0 (ix2 i k)) i k := by
  refine congrFun ((dat1 V c).arrAt_eq_of_covers 3 (fun j : S8192x1024.Idx => downOf (fun i f => V c main_v5_3 (ix2 i f)) (fun f k => V c main_v3 (ix2 f k)) (fun i k => V c main_arg0 (ix2 i k)) (j 0) (j 1)) (by decide +kernel) fun t hf y => ?_) (ix2 i k)
  blk_simp
  rw [after1_3]
  refine (congrArg _ (eq_ix2 y)).trans ((down_at _ _ _ _).trans (Eq.trans ?_ (congrArg₂ _ (x := ⟨t.val * 512 + (y 0).val, row_lt N_1 t.isLt (y 0)⟩) (y := (y 1)) (Fin.ext ?_) (Fin.ext ?_))))
  · unfold downOf
    refine congrArg₂ (· + ·) (Finset.sum_congr rfl fun f _ => congrArg₂ (· * ·) (iblk1_0 V c t _ f) (iblk1_1 V c t f _)) (iblk1_2 V c t _ _)
  all_goals (blk_simp [idx1 t] <;> try omega)

end Cert.Kernel2Ideal.Ffn

end
-- ==== Proof.FfnDx.lean ====
module

public import proofs.«01_k».proof.Proof.FfnIn

/-! The third call of the feed-forward sublayer: the gradients of the gate and of the up projection. -/

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

theorem ld_row2 (x0 : Vec Ideal S512x1024 .bf16) : View.ld x0 r2_0 = x0 := by
  funext j
  pointwise []
  blk_ext

variable (x0 : Vec Ideal S512x1024 .bf16) (x1 : Vec Ideal S2816x1024 .bf16) (x2 : Vec Ideal S512x2816 .bf16) (x3 : Vec Ideal S512x2816 .bf16)

/-- The gradient of the activation, a row of it from a row of the incoming gradient. -/
def da (i : Fin 512) (f : Fin 2816) : EReal := ∑ k : Fin 1024, x0 (ix2 i k) * x1 (ix2 f k)

/-- One half and one as the call writes them, and the logistic function in the form it uses. -/
def halfB : EReal := Ideal.ofBits .bf16 0x3F00#16
def sig2 (g : EReal) : EReal :=
  (halfB * Ideal.tanh (halfB * FloatOps.absf (F := Ideal) (φ := .bf16) g) + halfB) * Ideal.exp (min g 0)

/-- The gradient of the gate and of the up projection at one element. -/
def dgateAt (d g u : EReal) : EReal := d * u * (sig2 g + g * sig2 g * (1 - sig2 g))
def dupAt (d g : EReal) : EReal := d * (g * sig2 g)

theorem out2_5_at (y : S512x2816.Idx) (i : Fin 512) (f : Fin 2816) (hi : i.val = (y 0).val) (hf : f.val = (y 1).val) :
    out2_5 x0 x1 x2 x3 y = dupAt (da x0 x1 i f) (x2 (ix2 i f)) := by
  unfold_out out2_5
  rw [ld_row2]
  canon_tiles x hx
  all_goals
    obtain rfl : i = x 0 := Fin.ext (hi.trans hx0)
    have ef := Fin.ext (a := f) (b := ⟨_, lt_of_eq_of_lt (hf.trans hx1).symm f.isLt⟩) (hf.trans hx1)
    rw [ef]
    open_payloads
    pointwise [da, dupAt, sig2, halfB]

theorem out2_4_at (y : S512x2816.Idx) (i : Fin 512) (f : Fin 2816) (hi : i.val = (y 0).val) (hf : f.val = (y 1).val) :
    out2_4 x0 x1 x2 x3 y = dgateAt (da x0 x1 i f) (x2 (ix2 i f)) (x3 (ix2 i f)) := by
  unfold_out out2_4
  rw [ld_row2]
  canon_tiles x hx
  all_goals
    obtain rfl : i = x 0 := Fin.ext (hi.trans hx0)
    have ef := Fin.ext (a := f) (b := ⟨_, lt_of_eq_of_lt (hf.trans hx1).symm f.isLt⟩) (hf.trans hx1)
    rw [ef]
    open_payloads
    pointwise [da, dgateAt, sig2, halfB]

variable (V : (c : Dev nD) → (b : Ref sig .tc) → Buf (Elt Ideal) ((c : Thread nD τ).loc b)) (c : Dev nD)

theorem idx2 : ∀ t : Fin cfg2.N, win2_0.index t = ![t.val, 0] ∧ win2_1.index t = ![0, 0] ∧ win2_2.index t = ![t.val, 0] ∧ win2_3.index t = ![t.val, 0]
    ∧ win2_4.index t = ![t.val, 0] ∧ win2_5.index t = ![t.val, 0] :=
  (by decide +kernel : ∀ t : Fin grid2.N, _)

theorem iblk2_0 (t : Fin cfg2.N) (i : Fin 512) (k : Fin 1024) :
    iblk2 V c 0 t (ix2 i k) = V c main_v4 (ix2 ⟨t.val * 512 + i.val, row_lt N_2 t.isLt i⟩ k) := by
  blk_point [iblk2, idx2 t]

theorem iblk2_1 (t : Fin cfg2.N) (f : Fin 2816) (k : Fin 1024) : iblk2 V c 1 t (ix2 f k) = V c main_v3 (ix2 f k) := by
  blk_point [iblk2, idx2 t]

theorem iblk2_2 (t : Fin cfg2.N) (i : Fin 512) (f : Fin 2816) :
    iblk2 V c 2 t (ix2 i f) = V c main_v5_1 (ix2 ⟨t.val * 512 + i.val, row_lt N_2 t.isLt i⟩ f) := by
  blk_point [iblk2, idx2 t]

theorem iblk2_3 (t : Fin cfg2.N) (i : Fin 512) (f : Fin 2816) :
    iblk2 V c 3 t (ix2 i f) = V c main_v5_2 (ix2 ⟨t.val * 512 + i.val, row_lt N_2 t.isLt i⟩ f) := by
  blk_point [iblk2, idx2 t]

/-- The gradient of the activation over all the rows. -/
def daOf (i : Fin 8192) (f : Fin 2816) : EReal :=
  prod (l := 1024) (fun (i : Fin 8192) k => V c main_v4 (ix2 i k)) (fun (f : Fin 2816) k => V c main_v3 (ix2 f k)) i f

theorem da_blk (t : Fin cfg2.N) (i : Fin 512) (f : Fin 2816) :
    da (iblk2 V c 0 t) (iblk2 V c 1 t) i f = daOf V c ⟨t.val * 512 + i.val, row_lt N_2 t.isLt i⟩ f :=
  Finset.sum_congr rfl fun k _ => congrArg₂ (fun a b : EReal => a * b) (iblk2_0 V c t i k) (iblk2_1 V c t f k)

def dupOf (i : Fin 8192) (f : Fin 2816) : EReal := dupAt (daOf V c i f) (V c main_v5_1 (ix2 i f))
def dgateOf (i : Fin 8192) (f : Fin 2816) : EReal := dgateAt (daOf V c i f) (V c main_v5_1 (ix2 i f)) (V c main_v5_2 (ix2 i f))

theorem arr2_5 (i : Fin 8192) (f : Fin 2816) : (dat2 V c).arrAt 5 cfg2.N (ix2 i f) = dupOf V c i f := by
  refine congrFun ((dat2 V c).arrAt_eq_of_covers 5 (fun j : S8192x2816.Idx => dupOf V c (j 0) (j 1)) (by decide +kernel) fun t hf y => ?_) (ix2 i f)
  blk_simp
  rw [after2_5]
  refine (out2_5_at _ _ _ _ _ ⟨(y 0).val, (y 0).isLt⟩ ⟨(y 1).val, (y 1).isLt⟩ rfl rfl).trans (Eq.trans ?_ (congrArg₂ (dupOf V c) (x := ⟨t.val * 512 + (y 0).val, row_lt N_2 t.isLt (y 0)⟩) (y := ⟨(y 1).val, (y 1).isLt⟩) (Fin.ext ?_) (Fin.ext ?_)))
  · exact congrArg₂ dupAt (da_blk V c t _ _) (iblk2_2 V c t _ _)
  all_goals (blk_simp [idx2 t] <;> try omega)

theorem arr2_4 (i : Fin 8192) (f : Fin 2816) : (dat2 V c).arrAt 4 cfg2.N (ix2 i f) = dgateOf V c i f := by
  refine congrFun ((dat2 V c).arrAt_eq_of_covers 4 (fun j : S8192x2816.Idx => dgateOf V c (j 0) (j 1)) (by decide +kernel) fun t hf y => ?_) (ix2 i f)
  blk_simp
  rw [after2_4]
  refine (out2_4_at _ _ _ _ _ ⟨(y 0).val, (y 0).isLt⟩ ⟨(y 1).val, (y 1).isLt⟩ rfl rfl).trans (Eq.trans ?_ (congrArg₂ (dgateOf V c) (x := ⟨t.val * 512 + (y 0).val, row_lt N_2 t.isLt (y 0)⟩) (y := ⟨(y 1).val, (y 1).isLt⟩) (Fin.ext ?_) (Fin.ext ?_)))
  · rw [da_blk V c t, iblk2_2 V c t, iblk2_3 V c t]
    rfl
  all_goals (blk_simp [idx2 t] <;> try omega)

end Cert.Kernel2Ideal.Ffn

end
-- ==== Proof.FfnDw.lean ====
module

public import proofs.«01_k».proof.Proof.FfnIn

/-! The gradients of the two weights: rows contracted over the tokens, 256 rows of the weight a grid point. -/

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

theorem idx3 : ∀ t : Fin cfg3.N, win3_0.index t = ![0, t.val] ∧ win3_1.index t = ![0, 0] ∧ win3_2.index t = ![t.val, 0] :=
  (by decide +kernel : ∀ t : Fin grid3.N, _)

theorem pay3_at (v5 : Vec Ideal S8192x256 .bf16) (v7 : Vec Ideal S8192x1024 .bf16) (j : S256x1024.Idx) :
    k3_pay1 v5 v7 j = ∑ i : Fin 8192, v5 (ix2 i (j 0)) * v7 (ix2 i (j 1)) := by
  pointwise [k3_pay1]

theorem col_lt {n : ℕ} (hn : n = 11) {t : ℕ} (h : t < n) (i : Fin 256) : t * 256 + i.val < 2816 := by omega

theorem iblk3_0 (t : Fin cfg3.N) (i : Fin 8192) (f : Fin 256) :
    iblk3 V c 0 t (ix2 i f) = V c main_v5_3 (ix2 i ⟨t.val * 256 + f.val, col_lt N_3 t.isLt f⟩) := by
  blk_point [iblk3, idx3 t]

theorem iblk3_1 (t : Fin cfg3.N) (i : Fin 8192) (k : Fin 1024) : iblk3 V c 1 t (ix2 i k) = V c main_v4 (ix2 i k) := by
  blk_point [iblk3, idx3 t]

/-- Two arrays of rows contracted over the rows. -/
def gram {n m l : ℕ} (X : Fin l → Fin n → EReal) (Y : Fin l → Fin m → EReal) (f : Fin n) (k : Fin m) : EReal :=
  ∑ i : Fin l, X i f * Y i k

theorem arr3_2 (f : Fin 2816) (k : Fin 1024) : (dat3 V c).arrAt 2 cfg3.N (ix2 f k)
    = gram (fun (i : Fin 8192) (f : Fin 2816) => V c main_v5_3 (ix2 i f)) (fun i (k : Fin 1024) => V c main_v4 (ix2 i k)) f k := by
  refine congrFun ((dat3 V c).arrAt_eq_of_covers 2 (fun j : S2816x1024.Idx => gram (fun (i : Fin 8192) (f : Fin 2816) => V c main_v5_3 (ix2 i f)) (fun i (k : Fin 1024) => V c main_v4 (ix2 i k)) (j 0) (j 1)) (by decide +kernel) fun t hf y => ?_) (ix2 f k)
  blk_simp
  rw [after3_2]
  unfold outsAt3
  frame_out
  refine (congrArg _ (eq_ix2 y)).trans ((pay3_at _ _ _).trans (Eq.trans ?_ (congrArg₂ _ (x := ⟨t.val * 256 + (y 0).val, col_lt N_3 t.isLt (y 0)⟩) (y := (y 1)) (Fin.ext ?_) (Fin.ext ?_))))
  · exact Finset.sum_congr rfl fun i _ => congrArg₂ (· * ·) (iblk3_0 V c t i _) (iblk3_1 V c t i _)
  all_goals (blk_simp [idx3 t] <;> try omega)

theorem idx4 : ∀ t : Fin cfg4.N, win4_2.index t = ![0, 0] ∧ win4_3.index t = ![t.val, 0] :=
  (by decide +kernel : ∀ t : Fin grid4.N, _)

theorem idx4_0 : ∀ t : Fin cfg4.N, t.val < 11 → win4_0.index t = ![0, t.val] :=
  (by decide +kernel : ∀ t : Fin grid4.N, t.val < 11 → _)

theorem idx4_1 : ∀ t : Fin cfg4.N, 11 ≤ t.val → win4_1.index t = ![0, t.val - 11] :=
  (by decide +kernel : ∀ t : Fin grid4.N, 11 ≤ t.val → _)

theorem pay4_at (v5 : Vec Ideal S8192x256 .bf16) (v7 : Vec Ideal S8192x1024 .bf16) (j : S256x1024.Idx) :
    k4_pay1 v5 v7 j = ∑ i : Fin 8192, v5 (ix2 i (j 0)) * v7 (ix2 i (j 1)) := by
  pointwise [k4_pay1]

theorem pay4_at' (v5 : Vec Ideal S8192x256 .bf16) (v7 : Vec Ideal S8192x1024 .bf16) (j : S256x1024.Idx) :
    k4_pay2 v5 v7 j = ∑ i : Fin 8192, v5 (ix2 i (j 0)) * v7 (ix2 i (j 1)) := by
  pointwise [k4_pay2]

theorem iblk4_0 (t : Fin cfg4.N) (ht : t.val < 11) (i : Fin 8192) (f : Fin 256) :
    iblk4 V c 0 t (ix2 i f) = V c main_v7_0 (ix2 i ⟨t.val * 256 + f.val, by omega⟩) := by
  blk_point [iblk4, idx4_0 t ht]

theorem iblk4_1 (t : Fin cfg4.N) (ht : 11 ≤ t.val) (hN : t.val < 22) (i : Fin 8192) (f : Fin 256) :
    iblk4 V c 1 t (ix2 i f) = V c main_v7_1 (ix2 i ⟨(t.val - 11) * 256 + f.val, by omega⟩) := by
  blk_point [iblk4, idx4_1 t ht]

theorem iblk4_2 (t : Fin cfg4.N) (i : Fin 8192) (k : Fin 1024) : iblk4 V c 2 t (ix2 i k) = V c main_v5_0 (ix2 i k) := by
  blk_point [iblk4, idx4 t]

/-- Two arrays of columns side by side. -/
def beside (X Y : Fin 8192 → Fin 2816 → EReal) (i : Fin 8192) (r : Fin 5632) : EReal :=
  if h : r.val < 2816 then X i ⟨r.val, h⟩ else Y i ⟨r.val - 2816, by omega⟩

theorem beside_left (X Y : Fin 8192 → Fin 2816 → EReal) (i : Fin 8192) (r : Fin 5632) (h : r.val < 2816) :
    beside X Y i r = X i ⟨r.val, h⟩ := dif_pos h
theorem beside_right (X Y : Fin 8192 → Fin 2816 → EReal) (i : Fin 8192) (r : Fin 5632) (h : ¬ r.val < 2816) :
    beside X Y i r = Y i ⟨r.val - 2816, by omega⟩ := dif_neg h

theorem arr4_3 (r : Fin 5632) (k : Fin 1024) : (dat4 V c).arrAt 3 cfg4.N (ix2 r k)
    = gram (beside (fun i f => V c main_v7_0 (ix2 i f)) (fun i f => V c main_v7_1 (ix2 i f))) (fun i (k : Fin 1024) => V c main_v5_0 (ix2 i k)) r k := by
  refine congrFun ((dat4 V c).arrAt_eq_of_covers 3 (fun j : S5632x1024.Idx => gram (beside (fun i f => V c main_v7_0 (ix2 i f)) (fun i f => V c main_v7_1 (ix2 i f))) (fun i (k : Fin 1024) => V c main_v5_0 (ix2 i k)) (j 0) (j 1)) (by decide +kernel) fun t hf y => ?_) (ix2 r k)
  have hN : t.val < 22 := lt_of_lt_of_eq t.isLt N_4
  have hy : ((y : S256x1024.Idx) 0).val < 256 := ((y : S256x1024.Idx) 0).isLt
  blk_simp
  rw [after4_3]
  refine Eq.trans ?_ (congrArg₂ _ (x := ⟨t.val * 256 + ((y : S256x1024.Idx) 0).val, (by omega : t.val * 256 + ((y : S256x1024.Idx) 0).val < 5632)⟩) (y := (y 1)) (Fin.ext ?_) (Fin.ext ?_))
  · by_cases h : t.val < 11
    · rw [outsAt4_A V c t h (by omega)]
      frame_out
      refine (congrArg _ (eq_ix2 y)).trans ((pay4_at _ _ _).trans ?_)
      refine Finset.sum_congr rfl fun i _ => congrArg₂ (· * ·) ((iblk4_0 V c t h i _).trans ?_) (iblk4_2 V c t i _)
      exact (beside_left (fun i f => V c main_v7_0 (ix2 i f)) _ i ⟨t.val * 256 + (y 0).val, by omega⟩ (by show t.val * 256 + (y 0).val < 2816; omega)).symm
    · rw [outsAt4_B V c t h (by omega)]
      frame_out
      refine (congrArg _ (eq_ix2 y)).trans ((pay4_at' _ _ _).trans ?_)
      refine Finset.sum_congr rfl fun i _ => congrArg₂ (· * ·) ((iblk4_1 V c t (by omega) hN i _).trans ?_) (iblk4_2 V c t i _)
      refine Eq.trans ?_ (beside_right _ (fun i f => V c main_v7_1 (ix2 i f)) i ⟨t.val * 256 + (y 0).val, by omega⟩ (by show ¬ t.val * 256 + (y 0).val < 2816; omega)).symm
      exact congrArg (fun a => V c main_v7_1 (ix2 i a)) (Fin.ext (by show (t.val - 11) * 256 + (y 0).val = t.val * 256 + (y 0).val - 2816; omega))
  all_goals (blk_simp [idx4 t] <;> try omega)

end Cert.Kernel2Ideal.Ffn

end
-- ==== Proof.FfnInDx.lean ====
module

public import proofs.«01_k».proof.Proof.FfnIn
public import Idealize.ShloMosaic.Lib.Pipeline.ValueKit

/-! The last call of the feed-forward sublayer: the gradients of the hidden state and of the gain. -/

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

/-- The reciprocal root of one row's mean square. -/
def rowRstd (x : Fin 1024 → EReal) : EReal := Ideal.rsqrt (Ideal.div (∑ k : Fin 1024, x k * x k) rowLen + guard)

/-- The gradient of one normalised row: two products against the two parts of the weight. -/
def accRow (a b : Fin 2816 → EReal) (w0 w1 : Fin 2816 → Fin 1024 → EReal) (k : Fin 1024) : EReal :=
  (∑ f : Fin 2816, a f * w0 f k) + ∑ f : Fin 2816, b f * w1 f k

/-- The gradient of one row of the hidden state, from the gradient `d` of the output, the row `x`, the gradient `u` of the
    normalised row and the gain `g`. -/
def dxRow (d x u g : Fin 1024 → EReal) (k : Fin 1024) : EReal :=
  d k + rowRstd x * (u k * g k - x k * rowRstd x * Ideal.div (∑ l : Fin 1024, u l * g l * (x l * rowRstd x)) rowLen)

/-- One row's part of the gradient of the gain. -/
def dgTerm (x u : Fin 1024 → EReal) (k : Fin 1024) : EReal := u k * (x k * rowRstd x)

section Payloads
variable (a b : Vec Ideal S256x2816 .bf16) (w0 w1 : Vec Ideal S2816x1024 .bf16) (h d : Vec Ideal S256x1024 .f32) (g acc : Vec Ideal S1x1024 .f32)

/-- The gradient of one normalised row, of arrays. -/
def accAt (i : Fin 256) : Fin 1024 → EReal :=
  accRow (fun f => a (ix2 i f)) (fun f => b (ix2 i f)) (fun f k => w0 (ix2 f k)) (fun f k => w1 (ix2 f k))

theorem pay11_at (j : S256x1024.Idx) : k5_pay11 (k5_pay7 a w0 b w1) (k5_pay8 h) (k5_pay9 h) g d j
    = dxRow (fun k => d (ix2 (j 0) k)) (fun k => h (ix2 (j 0) k)) (accAt a b w0 w1 (j 0)) (fun k => g (ix2 0 k)) (j 1) := by
  pointwise [k5_pay11, k5_pay7, k5_pay8, k5_pay9, dxRow, accAt, accRow, rowRstd, rowLen, guard]

theorem pay12_at (j : S256x1024.Idx) : k5_pay12 (k5_pay7 a w0 b w1) (k5_pay8 h) (k5_pay9 h) g d j
    = dxRow (fun k => d (ix2 (j 0) k)) (fun k => h (ix2 (j 0) k)) (accAt a b w0 w1 (j 0)) (fun k => g (ix2 0 k)) (j 1) := by
  pointwise [k5_pay12, k5_pay11, k5_pay7, k5_pay8, k5_pay9, dxRow, accAt, accRow, rowRstd, rowLen, guard]

theorem pay4w_at (j : S256x1024.Idx) : k5_pay4 (k5_pay13 a w0 b w1) h (k5_pay14 h) (FloatOps.ofBits (F := Ideal) FTy.f32 897988541#32) g d j
    = dxRow (fun k => d (ix2 (j 0) k)) (fun k => h (ix2 (j 0) k)) (accAt a b w0 w1 (j 0)) (fun k => g (ix2 0 k)) (j 1) := by
  pointwise [k5_pay4, k5_pay13, k5_pay14, k5_pay2, k5_pay1, dxRow, accAt, accRow, rowRstd, rowLen, guard]

theorem pay5w_at (j : S256x1024.Idx) : k5_pay5 (k5_pay13 a w0 b w1) h (k5_pay14 h) (FloatOps.ofBits (F := Ideal) FTy.f32 897988541#32) g d j
    = dxRow (fun k => d (ix2 (j 0) k)) (fun k => h (ix2 (j 0) k)) (accAt a b w0 w1 (j 0)) (fun k => g (ix2 0 k)) (j 1) := by
  pointwise [k5_pay5, k5_pay4, k5_pay13, k5_pay14, k5_pay2, k5_pay1, dxRow, accAt, accRow, rowRstd, rowLen, guard]

theorem pay10_at (j : S1x1024.Idx) : k5_pay10 a w0 b w1 h acc j
    = acc j + ∑ i : Fin 256, dgTerm (fun k => h (ix2 i k)) (accAt a b w0 w1 i) (j 1) := by
  pointwise [k5_pay10, k5_pay7, k5_pay9, k5_pay8, dgTerm, accAt, accRow, rowRstd, rowLen, guard]

theorem pay3w_at (j : S1x1024.Idx) : k5_pay3 (k5_pay13 a w0 b w1) h (k5_pay14 h) (FloatOps.ofBits (F := Ideal) FTy.f32 897988541#32) acc j
    = acc j + ∑ i : Fin 256, dgTerm (fun k => h (ix2 i k)) (accAt a b w0 w1 i) (j 1) := by
  pointwise [k5_pay3, k5_pay13, k5_pay14, k5_pay2, k5_pay1, dgTerm, accAt, accRow, rowRstd, rowLen, guard]

theorem pay6_at (j : S1x1024.Idx) : k5_pay6 (F := Ideal) j = 0 := by pointwise [k5_pay6]

end Payloads

theorem ld_lo1 (B : Vec Ideal S512x1024 .f32) (i : Fin 256) (k : Fin 1024) :
    View.ld B (Rect.unit ![0, 0] ![256, 1024] inb_S512x1024_S256x1024_0_0) (ix2 i k) = B (ix2 ⟨i.val, by omega⟩ k) := by
  pointwise []
  blk_ext

theorem ld_hi1 (B : Vec Ideal S512x1024 .f32) (i : Fin 256) (k : Fin 1024) :
    View.ld B (Rect.unit ![256, 0] ![256, 1024] inb_S512x1024_S256x1024_256_0) (ix2 i k) = B (ix2 ⟨256 + i.val, by omega⟩ k) := by
  pointwise []
  blk_ext

theorem ld_lo2 (B : Vec Ideal S512x2816 .bf16) (i : Fin 256) (k : Fin 2816) :
    View.ld B (Rect.unit ![0, 0] ![256, 2816] inb_S512x2816_S256x2816_0_0) (ix2 i k) = B (ix2 ⟨i.val, by omega⟩ k) := by
  pointwise []
  blk_ext

theorem ld_hi2 (B : Vec Ideal S512x2816 .bf16) (i : Fin 256) (k : Fin 2816) :
    View.ld B (Rect.unit ![256, 0] ![256, 2816] inb_S512x2816_S256x2816_256_0) (ix2 i k) = B (ix2 ⟨256 + i.val, by omega⟩ k) := by
  pointwise []
  blk_ext

variable (V : (c : Dev nD) → (b : Ref sig .tc) → Buf (Elt Ideal) ((c : Thread nD τ).loc b)) (c : Dev nD)

theorem idx5 : ∀ t : Fin cfg5.N, win5_0.index t = ![t.val, 0] ∧ win5_1.index t = ![t.val, 0] ∧ win5_2.index t = ![0, 0] ∧ win5_3.index t = ![1, 0]
    ∧ win5_4.index t = ![t.val, 0] ∧ win5_5.index t = ![t.val, 0] ∧ win5_6.index t = ![0, 0] ∧ win5_7.index t = ![t.val, 0]
    ∧ win5_8.index t = ![t.val, 0] ∧ win5_9.index t = ![0, 0] :=
  (by decide +kernel : ∀ t : Fin grid5.N, _)

theorem iblk5_0 (t : Fin cfg5.N) (i : Fin 512) (f : Fin 2816) :
    iblk5 V c 0 t (ix2 i f) = V c main_v7_0 (ix2 ⟨t.val * 512 + i.val, row_lt N_5 t.isLt i⟩ f) := by
  blk_point [iblk5, idx5 t]
theorem iblk5_1 (t : Fin cfg5.N) (i : Fin 512) (f : Fin 2816) :
    iblk5 V c 1 t (ix2 i f) = V c main_v7_1 (ix2 ⟨t.val * 512 + i.val, row_lt N_5 t.isLt i⟩ f) := by
  blk_point [iblk5, idx5 t]
theorem iblk5_2 (t : Fin cfg5.N) (f : Fin 2816) (k : Fin 1024) :
    iblk5 V c 2 t (ix2 f k) = V c main_v2 (ix2 ⟨f.val, by omega⟩ k) := by
  blk_point [iblk5, idx5 t]
theorem iblk5_3 (t : Fin cfg5.N) (f : Fin 2816) (k : Fin 1024) :
    iblk5 V c 3 t (ix2 f k) = V c main_v2 (ix2 ⟨2816 + f.val, by omega⟩ k) := by
  blk_point [iblk5, idx5 t]
theorem iblk5_4 (t : Fin cfg5.N) (i : Fin 512) (k : Fin 1024) :
    iblk5 V c 4 t (ix2 i k) = V c main_arg4 (ix2 ⟨t.val * 512 + i.val, row_lt N_5 t.isLt i⟩ k) := by
  blk_point [iblk5, idx5 t]
theorem iblk5_5 (t : Fin cfg5.N) (i : Fin 512) (k : Fin 1024) :
    iblk5 V c 5 t (ix2 i k) = V c main_arg0 (ix2 ⟨t.val * 512 + i.val, row_lt N_5 t.isLt i⟩ k) := by
  blk_point [iblk5, idx5 t]
theorem iblk5_6 (t : Fin cfg5.N) (k : Fin 1024) : iblk5 V c 6 t (ix2 0 k) = V c main_v0 (ix2 0 k) := by
  blk_point [iblk5, idx5 t]

/-- The gradient of the normalised rows, over all the rows. -/
def accOf (i : Fin 8192) : Fin 1024 → EReal :=
  accRow (fun f => V c main_v7_0 (ix2 i f)) (fun f => V c main_v7_1 (ix2 i f))
    (fun f k => V c main_v2 (ix2 ⟨f.val, by omega⟩ k)) (fun f k => V c main_v2 (ix2 ⟨2816 + f.val, by omega⟩ k))

/-- The gradient of the hidden state, over all the rows. -/
def dxOf (i : Fin 8192) : Fin 1024 → EReal :=
  dxRow (fun k => V c main_arg4 (ix2 i k)) (fun k => V c main_arg0 (ix2 i k)) (accOf V c i) (fun k => V c main_v0 (ix2 0 k))

/-- The gradient of the gain: one row's part of it. -/
def dgOf (i : Fin 8192) : Fin 1024 → EReal := dgTerm (fun k => V c main_arg0 (ix2 i k)) (accOf V c i)

theorem accRow_eq {a a' b b' : Fin 2816 → EReal} {w0 w0' w1 w1' : Fin 2816 → Fin 1024 → EReal} (ha : ∀ f, a f = a' f)
    (hb : ∀ f, b f = b' f) (h0 : ∀ f k, w0 f k = w0' f k) (h1 : ∀ f k, w1 f k = w1' f k) : accRow a b w0 w1 = accRow a' b' w0' w1' := by
  rw [funext ha, funext hb, (funext fun f => funext (h0 f) : w0 = w0'), (funext fun f => funext (h1 f) : w1 = w1')]

theorem dxRow_eq {d d' x x' u u' g g' : Fin 1024 → EReal} (hd : ∀ k, d k = d' k) (hx : ∀ k, x k = x' k) (hu : u = u')
    (hg : ∀ k, g k = g' k) : dxRow d x u g = dxRow d' x' u' g' := by
  rw [funext hd, funext hx, hu, funext hg]

theorem dgTerm_eq {x x' u u' : Fin 1024 → EReal} (hx : ∀ k, x k = x' k) (hu : u = u') : dgTerm x u = dgTerm x' u' := by
  rw [funext hx, hu]

theorem acc_lo (t : Fin cfg5.N) (i : Fin 256) :
    accAt (View.ld (iblk5 V c 0 t) (Rect.unit ![0, 0] ![256, 2816] inb_S512x2816_S256x2816_0_0)) (View.ld (iblk5 V c 1 t) (Rect.unit ![0, 0] ![256, 2816] inb_S512x2816_S256x2816_0_0)) (iblk5 V c 2 t) (iblk5 V c 3 t) i
      = accOf V c ⟨t.val * 512 + i.val, row_lt N_5 t.isLt ⟨i.val, by omega⟩⟩ :=
  accRow_eq (fun f => (ld_lo2 _ i f).trans (iblk5_0 V c t _ f)) (fun f => (ld_lo2 _ i f).trans (iblk5_1 V c t _ f))
    (fun f k => iblk5_2 V c t f k) (fun f k => iblk5_3 V c t f k)

theorem dx_lo (t : Fin cfg5.N) (i : Fin 256) (k : Fin 1024) :
    dxRow (fun k => View.ld (iblk5 V c 4 t) (Rect.unit ![0, 0] ![256, 1024] inb_S512x1024_S256x1024_0_0) (ix2 i k)) (fun k => View.ld (iblk5 V c 5 t) (Rect.unit ![0, 0] ![256, 1024] inb_S512x1024_S256x1024_0_0) (ix2 i k))
      (accAt (View.ld (iblk5 V c 0 t) (Rect.unit ![0, 0] ![256, 2816] inb_S512x2816_S256x2816_0_0)) (View.ld (iblk5 V c 1 t) (Rect.unit ![0, 0] ![256, 2816] inb_S512x2816_S256x2816_0_0)) (iblk5 V c 2 t) (iblk5 V c 3 t) i)
      (fun k => iblk5 V c 6 t (ix2 0 k)) k = dxOf V c ⟨t.val * 512 + i.val, row_lt N_5 t.isLt ⟨i.val, by omega⟩⟩ k :=
  congrFun (dxRow_eq (fun k => (ld_lo1 _ i k).trans (iblk5_4 V c t _ k)) (fun k => (ld_lo1 _ i k).trans (iblk5_5 V c t _ k))
    (acc_lo V c t i) (fun k => iblk5_6 V c t k)) k

theorem dg_lo (t : Fin cfg5.N) (i : Fin 256) (k : Fin 1024) :
    dgTerm (fun k => View.ld (iblk5 V c 5 t) (Rect.unit ![0, 0] ![256, 1024] inb_S512x1024_S256x1024_0_0) (ix2 i k))
      (accAt (View.ld (iblk5 V c 0 t) (Rect.unit ![0, 0] ![256, 2816] inb_S512x2816_S256x2816_0_0)) (View.ld (iblk5 V c 1 t) (Rect.unit ![0, 0] ![256, 2816] inb_S512x2816_S256x2816_0_0)) (iblk5 V c 2 t) (iblk5 V c 3 t) i) k
      = dgOf V c ⟨t.val * 512 + i.val, row_lt N_5 t.isLt ⟨i.val, by omega⟩⟩ k :=
  congrFun (dgTerm_eq (fun k => (ld_lo1 _ i k).trans (iblk5_5 V c t _ k)) (acc_lo V c t i)) k

theorem acc_hi (t : Fin cfg5.N) (i : Fin 256) :
    accAt (View.ld (iblk5 V c 0 t) (Rect.unit ![256, 0] ![256, 2816] inb_S512x2816_S256x2816_256_0)) (View.ld (iblk5 V c 1 t) (Rect.unit ![256, 0] ![256, 2816] inb_S512x2816_S256x2816_256_0)) (iblk5 V c 2 t) (iblk5 V c 3 t) i
      = accOf V c ⟨t.val * 512 + (256 + i.val), row_lt N_5 t.isLt ⟨256 + i.val, by omega⟩⟩ :=
  accRow_eq (fun f => (ld_hi2 _ i f).trans (iblk5_0 V c t _ f)) (fun f => (ld_hi2 _ i f).trans (iblk5_1 V c t _ f))
    (fun f k => iblk5_2 V c t f k) (fun f k => iblk5_3 V c t f k)

theorem dx_hi (t : Fin cfg5.N) (i : Fin 256) (k : Fin 1024) :
    dxRow (fun k => View.ld (iblk5 V c 4 t) (Rect.unit ![256, 0] ![256, 1024] inb_S512x1024_S256x1024_256_0) (ix2 i k)) (fun k => View.ld (iblk5 V c 5 t) (Rect.unit ![256, 0] ![256, 1024] inb_S512x1024_S256x1024_256_0) (ix2 i k))
      (accAt (View.ld (iblk5 V c 0 t) (Rect.unit ![256, 0] ![256, 2816] inb_S512x2816_S256x2816_256_0)) (View.ld (iblk5 V c 1 t) (Rect.unit ![256, 0] ![256, 2816] inb_S512x2816_S256x2816_256_0)) (iblk5 V c 2 t) (iblk5 V c 3 t) i)
      (fun k => iblk5 V c 6 t (ix2 0 k)) k = dxOf V c ⟨t.val * 512 + (256 + i.val), row_lt N_5 t.isLt ⟨256 + i.val, by omega⟩⟩ k :=
  congrFun (dxRow_eq (fun k => (ld_hi1 _ i k).trans (iblk5_4 V c t _ k)) (fun k => (ld_hi1 _ i k).trans (iblk5_5 V c t _ k))
    (acc_hi V c t i) (fun k => iblk5_6 V c t k)) k

theorem dg_hi (t : Fin cfg5.N) (i : Fin 256) (k : Fin 1024) :
    dgTerm (fun k => View.ld (iblk5 V c 5 t) (Rect.unit ![256, 0] ![256, 1024] inb_S512x1024_S256x1024_256_0) (ix2 i k))
      (accAt (View.ld (iblk5 V c 0 t) (Rect.unit ![256, 0] ![256, 2816] inb_S512x2816_S256x2816_256_0)) (View.ld (iblk5 V c 1 t) (Rect.unit ![256, 0] ![256, 2816] inb_S512x2816_S256x2816_256_0)) (iblk5 V c 2 t) (iblk5 V c 3 t) i) k
      = dgOf V c ⟨t.val * 512 + (256 + i.val), row_lt N_5 t.isLt ⟨256 + i.val, by omega⟩⟩ k :=
  congrFun (dgTerm_eq (fun k => (ld_hi1 _ i k).trans (iblk5_5 V c t _ k)) (acc_hi V c t i)) k

theorem outs7_at (t : Fin cfg5.N) (y : S512x1024.Idx) :
    (outsAt5 V c t.val t.isLt).1 y = dxOf V c ⟨t.val * 512 + (y 0).val, row_lt N_5 t.isLt (y 0)⟩ (y 1) := by
  by_cases h : t.val % 16 = 0
  · rw [outsAt5_A V c t h]
    frame_out
    canon_tiles x hx
    case piece0 =>
      refine (pay4w_at _ _ _ _ _ _ _ x).trans ((dx_hi V c t (x 0) (x 1)).trans (congrArg₂ (dxOf V c) (Fin.ext ?_) (Fin.ext hx1.symm)))
      show t.val * 512 + (256 + (x 0).val) = _
      rw [← hx0]
    case piece1 =>
      refine (pay11_at _ _ _ _ _ _ _ x).trans ((dx_lo V c t (x 0) (x 1)).trans (congrArg₂ (dxOf V c) (Fin.ext ?_) (Fin.ext hx1.symm)))
      show t.val * 512 + (x 0).val = _
      rw [← hx0]
  · rw [outsAt5_B V c t h]
    frame_out
    canon_tiles x hx
    case piece0 =>
      refine (pay4w_at _ _ _ _ _ _ _ x).trans ((dx_hi V c t (x 0) (x 1)).trans (congrArg₂ (dxOf V c) (Fin.ext ?_) (Fin.ext hx1.symm)))
      show t.val * 512 + (256 + (x 0).val) = _
      rw [← hx0]
    case piece1 =>
      refine (pay11_at _ _ _ _ _ _ _ x).trans ((dx_lo V c t (x 0) (x 1)).trans (congrArg₂ (dxOf V c) (Fin.ext ?_) (Fin.ext hx1.symm)))
      show t.val * 512 + (x 0).val = _
      rw [← hx0]

theorem outs8_at (t : Fin cfg5.N) (y : S512x1024.Idx) :
    (outsAt5 V c t.val t.isLt).2.1 y = dxOf V c ⟨t.val * 512 + (y 0).val, row_lt N_5 t.isLt (y 0)⟩ (y 1) := by
  by_cases h : t.val % 16 = 0
  · rw [outsAt5_A V c t h]
    frame_out
    canon_tiles x hx
    case piece0 =>
      refine (pay5w_at _ _ _ _ _ _ _ x).trans ((dx_hi V c t (x 0) (x 1)).trans (congrArg₂ (dxOf V c) (Fin.ext ?_) (Fin.ext hx1.symm)))
      show t.val * 512 + (256 + (x 0).val) = _
      rw [← hx0]
    case piece1 =>
      refine (pay12_at _ _ _ _ _ _ _ x).trans ((dx_lo V c t (x 0) (x 1)).trans (congrArg₂ (dxOf V c) (Fin.ext ?_) (Fin.ext hx1.symm)))
      show t.val * 512 + (x 0).val = _
      rw [← hx0]
  · rw [outsAt5_B V c t h]
    frame_out
    canon_tiles x hx
    case piece0 =>
      refine (pay5w_at _ _ _ _ _ _ _ x).trans ((dx_hi V c t (x 0) (x 1)).trans (congrArg₂ (dxOf V c) (Fin.ext ?_) (Fin.ext hx1.symm)))
      show t.val * 512 + (256 + (x 0).val) = _
      rw [← hx0]
    case piece1 =>
      refine (pay12_at _ _ _ _ _ _ _ x).trans ((dx_lo V c t (x 0) (x 1)).trans (congrArg₂ (dxOf V c) (Fin.ext ?_) (Fin.ext hx1.symm)))
      show t.val * 512 + (x 0).val = _
      rw [← hx0]

/-- What one point adds to the gradient of the gain. -/
def dgPart (t : Fin cfg5.N) (k : Fin 1024) : EReal :=
  ∑ i : Fin 512, dgOf V c ⟨t.val * 512 + i.val, row_lt N_5 t.isLt i⟩ k

theorem sum_halves (g : Fin 512 → EReal) :
    (∑ i : Fin 256, g ⟨i.val, by omega⟩) + ∑ i : Fin 256, g ⟨256 + i.val, by omega⟩ = ∑ i : Fin 512, g i :=
  (Fin.sum_univ_add (a := 256) (b := 256) g).symm

theorem dg_halves (t : Fin cfg5.N) (k : Fin 1024) :
    (∑ i : Fin 256, dgOf V c ⟨t.val * 512 + i.val, row_lt N_5 t.isLt ⟨i.val, by omega⟩⟩ k)
      + ∑ i : Fin 256, dgOf V c ⟨t.val * 512 + (256 + i.val), row_lt N_5 t.isLt ⟨256 + i.val, by omega⟩⟩ k = dgPart V c t k :=
  sum_halves (fun i => dgOf V c ⟨t.val * 512 + i.val, row_lt N_5 t.isLt i⟩ k)

theorem outs9_A (t : Fin cfg5.N) (h : t.val % 16 = 0) (y : S1x1024.Idx) :
    (outsAt5 V c t.val t.isLt).2.2 y = 0 + dgPart V c t (y 1) := by
  rw [outsAt5_A V c t h]
  frame_out
  refine (pay3w_at _ _ _ _ _ _ _).trans ?_
  refine (congrArg₂ (fun a b : EReal => a + b) ((pay10_at _ _ _ _ _ _ _).trans (congrArg₂ (fun a b : EReal => a + b) (pay6_at _)
    (Finset.sum_congr rfl fun i _ => dg_lo V c t i (y 1)))) (Finset.sum_congr rfl fun i _ => dg_hi V c t i (y 1))).trans ?_
  exact (add_assoc (G := EReal) _ _ _).trans (congrArg (fun a : EReal => _ + a) (dg_halves V c t (y 1)))

theorem outs9_B (t : Fin cfg5.N) (h : ¬ t.val % 16 = 0) (y : S1x1024.Idx) :
    (outsAt5 V c t.val t.isLt).2.2 y
      = (outsAt5 V c (t.val - 1) (Nat.lt_of_le_of_lt (Nat.sub_le _ _) t.isLt)).2.2 y + dgPart V c t (y 1) := by
  rw [outsAt5_B V c t h]
  frame_out
  refine (pay3w_at _ _ _ _ _ _ _).trans ?_
  refine (congrArg₂ (fun a b : EReal => a + b) ((pay10_at _ _ _ _ _ _ _).trans (congrArg₂ (fun a b : EReal => a + b) rfl
    (Finset.sum_congr rfl fun i _ => dg_lo V c t i (y 1)))) (Finset.sum_congr rfl fun i _ => dg_hi V c t i (y 1))).trans ?_
  exact (add_assoc (G := EReal) _ _ _).trans (congrArg (fun a : EReal => _ + a) (dg_halves V c t (y 1)))

theorem arr5_7 (i : Fin 8192) (k : Fin 1024) : (dat5 V c).arrAt 7 cfg5.N (ix2 i k) = dxOf V c i k := by
  refine congrFun ((dat5 V c).arrAt_eq_of_covers 7 (fun j : S8192x1024.Idx => dxOf V c (j 0) (j 1)) (by decide +kernel) fun t hf y => ?_) (ix2 i k)
  blk_simp
  rw [after5_7]
  refine (outs7_at V c t y).trans (congrArg₂ (dxOf V c) (Fin.ext ?_) (Fin.ext ?_))
  all_goals (blk_simp [idx5 t] <;> try omega)

theorem arr5_8 (i : Fin 8192) (k : Fin 1024) : (dat5 V c).arrAt 8 cfg5.N (ix2 i k) = dxOf V c i k := by
  refine congrFun ((dat5 V c).arrAt_eq_of_covers 8 (fun j : S8192x1024.Idx => dxOf V c (j 0) (j 1)) (by decide +kernel) fun t hf y => ?_) (ix2 i k)
  blk_simp
  rw [after5_8]
  refine (outs8_at V c t y).trans (congrArg₂ (dxOf V c) (Fin.ext ?_) (Fin.ext ?_))
  all_goals (blk_simp [idx5 t] <;> try omega)

/-- The gradient of the gain. -/
def dgTotal (k : Fin 1024) : EReal := ∑ i : Fin 8192, dgOf V c i k

theorem outs9_last (j : S1x1024.Idx) : (outsAt5 V c t5_15.val t5_15.isLt).2.2 j = dgTotal V c (j 1) :=
  (Pipeline.eq_sum_fin_of_reset_step_apply_last (M := EReal) (ι := S1x1024.Idx) (fun n h => (outsAt5 V c n h).2.2) 16 (fun _ => 0)
    (fun p j => dgPart V c p (j 1)) (fun t h j => outs9_A V c t h j) (fun t h j => outs9_B V c t h j) (le_of_eq N_5) t5_15 rfl j).trans
    ((zero_add (M := EReal) _).trans (Fin.sum_mul_add_congr (fun s k hl => rfl)
      ((congrArg (· * 512) N_5).symm : 8192 = cfg5.N * 512)))

theorem arr5_9 (k : Fin 1024) : (dat5 V c).arrAt 9 cfg5.N (ix2 0 k) = dgTotal V c k := by
  refine congrFun ((dat5 V c).arrAt_eq_of_after_last 9 t5_15 (by decide +kernel) (fun j : S1x1024.Idx => dgTotal V c (j 1)) fun j => ?_) (ix2 0 k)
  blk_simp
  rw [after5_9]
  exact outs9_last V c j

end Cert.Kernel2Ideal.Ffn

end
-- ==== Proof.FfnSpec.lean ====
module

public import proofs.«01_k».proof.Proof.FfnIn
public import proofs.«01_k».proof.Proof.FfnDown
public import proofs.«01_k».proof.Proof.FfnDx
public import proofs.«01_k».proof.Proof.FfnDw
public import proofs.«01_k».proof.Proof.FfnInDx

/-! The six calls' results as functions of the arguments. -/

@[expose] public section

noncomputable section

namespace Cert.Kernel2Ideal.Ffn

open Idealize.ShloMosaic

/-- The arguments: the hidden state, the gain, the two weights and the gradient of the result. -/
structure Args where
  h : Fin 8192 → Fin 1024 → EReal
  g : Fin 1024 → EReal
  w : Fin 1024 → Fin 5632 → EReal
  d : Fin 2816 → Fin 1024 → EReal
  e : Fin 8192 → Fin 1024 → EReal

namespace Args

variable (A : Args)

/-- The columns of the first weight that make the gate, and those that make the up projection. -/
def wGate (f : Fin 2816) (k : Fin 1024) : EReal := A.w k ⟨f.val, by omega⟩
def wUp (f : Fin 2816) (k : Fin 1024) : EReal := A.w k ⟨2816 + f.val, by omega⟩

/-- The forward: the normalised rows, the gate, the up projection, the activation and the result. -/
def nrm : Fin 8192 → Fin 1024 → EReal := normed A.h A.g
def gate (i : Fin 8192) (f : Fin 2816) : EReal := prod A.nrm A.wGate i f
def up (i : Fin 8192) (f : Fin 2816) : EReal := prod A.nrm A.wUp i f
def act (i : Fin 8192) (f : Fin 2816) : EReal := act1 (A.gate i f) (A.up i f)
def out (i : Fin 8192) (k : Fin 1024) : EReal := downOf A.act A.d A.h i k

/-- The backward. -/
def dact (i : Fin 8192) (f : Fin 2816) : EReal := prod A.e A.d i f
def dgate (i : Fin 8192) (f : Fin 2816) : EReal := dgateAt (A.dact i f) (A.gate i f) (A.up i f)
def dup (i : Fin 8192) (f : Fin 2816) : EReal := dupAt (A.dact i f) (A.gate i f)
def dDown (f : Fin 2816) (k : Fin 1024) : EReal := gram A.act A.e f k
def dIn (r : Fin 5632) (k : Fin 1024) : EReal := gram (beside A.dgate A.dup) A.nrm r k
def dnrm (i : Fin 8192) : Fin 1024 → EReal := accRow (A.dgate i) (A.dup i) A.wGate A.wUp
def dx (i : Fin 8192) : Fin 1024 → EReal := dxRow (A.e i) (A.h i) (A.dnrm i) A.g
def dgain (k : Fin 1024) : EReal := ∑ i : Fin 8192, dgTerm (A.h i) (A.dnrm i) k

end Args

end Cert.Kernel2Ideal.Ffn

end
-- ==== Proof.FfnRefIn.lean ====
module

public import proofs.«01_k».proof.Proof.Gen.Reference2Ideal.Read
public import proofs.«01_k».proof.Proof.FfnSpec
public import Idealize.ShloMosaic.Lib.Pipeline.ValueKit.Point
public import Idealize.ShloMosaic.Lib.Pipeline.ReadBack

/-! The reference's arrays, read at an index: the forward lines. -/

@[expose] public section

set_option maxRecDepth 16384

noncomputable section

namespace Cert.Reference2Ideal.FfnR

open Cert.Reference2Ideal Cert.Reference2Ideal.Gen Cert.Reference2Ideal.Read Idealize.ShloMosaic Idealize.ShloMosaic.TcCoe Idealize.SL.Sem
open Cert.Kernel2Ideal.Ffn

variable (x0 : FVec Ideal S8192x1024 .f32) (x1 : FVec Ideal S1024 .f32) (x2 : FVec Ideal S1024x5632 .f32) (x3 : FVec Ideal S2816x1024 .f32)
  (x4 : FVec Ideal S8192x1024 .f32)

/-- The arguments, as functions of row and column. -/
def argsR : Args where
  h i k := x0 (ix2 i k)
  g k := x1 (ix1 k)
  w k r := x2 (ix2 k r)
  d f k := x3 (ix2 f k)
  e i k := x4 (ix2 i k)

/-- The logistic function as the reference has it. -/
def sigR (x : EReal) : EReal := Ideal.div 1 (1 + Ideal.exp (-x))

theorem r_rstd (i : Fin 8192) : val_main_v7 (F := Ideal) x0 (ix2 i 0) = rstd (argsR x0 x1 x2 x3 x4).h i := by
  unfold argsR rstd rowLen Cert.Kernel2Ideal.Ffn.guard
  pointwise [val_main_v7, val_main_v6, val_main_v5, val_main_cst_1, val_main_v4, val_main_v3, val_main_cst_0, val_main_v2, val_main_v1, val_main_cst, val_main_v0]

theorem r_unit (i : Fin 8192) (k : Fin 1024) : val_main_v12 (F := Ideal) x0 (ix2 i k) = (argsR x0 x1 x2 x3 x4).h i k * rstd (argsR x0 x1 x2 x3 x4).h i := by
  rw [← r_rstd x0 x1 x2 x3 x4 i]
  unfold argsR
  pointwise [val_main_v12, val_main_v11]

theorem r_gain (i : Fin 8192) (k : Fin 1024) : val_main_v14 (F := Ideal) x1 (ix2 i k) = (argsR x0 x1 x2 x3 x4).g k := by
  unfold argsR
  pointwise [val_main_v14, val_main_v13]

theorem r_nrm (i : Fin 8192) (k : Fin 1024) : val_main_v15 (F := Ideal) x0 x1 (ix2 i k) = (argsR x0 x1 x2 x3 x4).nrm i k :=
  (val_main_v15_apply _ _ _).trans (congrArg₂ (fun a b : EReal => a * b) (r_unit x0 x1 x2 x3 x4 i k) (r_gain x0 x1 x2 x3 x4 i k))

theorem r_in (i : Fin 8192) (r : Fin 5632) : val_main_v16 (F := Ideal) x0 x1 x2 (ix2 i r)
    = ∑ k : Fin 1024, (argsR x0 x1 x2 x3 x4).nrm i k * (argsR x0 x1 x2 x3 x4).w k r := by
  refine (val_main_v16_apply _ _ _ _).trans (Finset.sum_congr rfl fun k _ => congrArg₂ (fun a b : EReal => a * b) ((congrArg _ ?_).trans (r_nrm x0 x1 x2 x3 x4 i k)) (congrArg x2 ?_))
  all_goals
    funext a
    match a with
    | ⟨0, _⟩ => rfl
    | ⟨1, _⟩ => rfl

theorem r_gate (i : Fin 8192) (f : Fin 2816) : val_main_v17 (F := Ideal) x0 x1 x2 (ix2 i f) = (argsR x0 x1 x2 x3 x4).gate i f := by
  refine (val_main_v17_apply _ _ _ _).trans ((congrArg _ ?_).trans (r_in x0 x1 x2 x3 x4 i ⟨f.val, by omega⟩))
  funext a
  match a with
  | ⟨0, _⟩ => rfl
  | ⟨1, _⟩ => rfl

theorem r_up (i : Fin 8192) (f : Fin 2816) : val_main_v18 (F := Ideal) x0 x1 x2 (ix2 i f) = (argsR x0 x1 x2 x3 x4).up i f := by
  refine (val_main_v18_apply _ _ _ _).trans ((congrArg _ ?_).trans (r_in x0 x1 x2 x3 x4 i ⟨2816 + f.val, by omega⟩))
  funext a
  match a with
  | ⟨0, _⟩ => rfl
  | ⟨1, _⟩ => rfl

theorem r_sig (j : S8192x2816.Idx) : val_main_v19_2 (F := Ideal) x0 x1 x2 j = sigR (val_main_v17 (F := Ideal) x0 x1 x2 j) := by
  unfold sigR
  pointwise [val_main_v19_2, val_main_call0_v4, val_main_call0_cst_0, val_main_call0_v3, val_main_call0_v2, val_main_call0_cst, val_main_call0_v1, val_main_call0_v0]

theorem r_sig1 (j : S8192x2816.Idx) : val_main_v19_1 (F := Ideal) x0 x1 x2 j
    = sigR (val_main_v17 (F := Ideal) x0 x1 x2 j) * (1 - sigR (val_main_v17 (F := Ideal) x0 x1 x2 j)) := by
  rw [← r_sig]
  pointwise [val_main_v19_1, val_main_call0_v7, val_main_call0_v6, val_main_call0_cst_1]

/-- The activation as the reference has it, and the result. -/
def actR (A : Args) (i : Fin 8192) (f : Fin 2816) : EReal := A.gate i f * sigR (A.gate i f) * A.up i f
def outR (A : Args) (i : Fin 8192) (k : Fin 1024) : EReal := A.h i k + ∑ f : Fin 2816, actR A i f * A.d f k

theorem r_silu (i : Fin 8192) (f : Fin 2816) : val_main_v19_0 (F := Ideal) x0 x1 x2 (ix2 i f)
    = (argsR x0 x1 x2 x3 x4).gate i f * sigR ((argsR x0 x1 x2 x3 x4).gate i f) := by
  refine (val_main_v19_0_apply _ _ _ _).trans ?_
  rw [r_sig, r_gate x0 x1 x2 x3 x4]
  rfl

theorem r_act (i : Fin 8192) (f : Fin 2816) : val_main_v20 (F := Ideal) x0 x1 x2 (ix2 i f) = actR (argsR x0 x1 x2 x3 x4) i f :=
  (val_main_v20_apply _ _ _ _).trans (congrArg₂ (fun a b : EReal => a * b) (r_silu x0 x1 x2 x3 x4 i f) (r_up x0 x1 x2 x3 x4 i f))

theorem r_out (i : Fin 8192) (k : Fin 1024) : val_main_v22 (F := Ideal) x0 x1 x2 x3 (ix2 i k) = outR (argsR x0 x1 x2 x3 x4) i k := by
  refine (val_main_v22_apply _ _ _ _ _).trans (congrArg (fun a : EReal => x0 (ix2 i k) + a) ?_)
  refine (val_main_v21_apply _ _ _ _ _).trans (Finset.sum_congr rfl fun f _ => congrArg₂ (fun a b : EReal => a * b) ((congrArg _ ?_).trans (r_act x0 x1 x2 x3 x4 i f)) (congrArg x3 ?_))
  all_goals
    funext a
    match a with
    | ⟨0, _⟩ => rfl
    | ⟨1, _⟩ => rfl

end Cert.Reference2Ideal.FfnR

end
-- ==== Proof.FfnRefBack.lean ====
module

public import proofs.«01_k».proof.Proof.FfnRefIn
public import Idealize.ShloMosaic.Lib.Pipeline.Value

/-! The reference's arrays, read at an index: the lines of the transposed pass. -/

@[expose] public section

set_option maxRecDepth 16384

noncomputable section

namespace Cert.Reference2Ideal.FfnR

open Cert.Reference2Ideal Cert.Reference2Ideal.Gen Cert.Reference2Ideal.Read Idealize.ShloMosaic Idealize.ShloMosaic.TcCoe Idealize.SL.Sem
open Cert.Kernel2Ideal.Ffn

variable (x0 : FVec Ideal S8192x1024 .f32) (x1 : FVec Ideal S1024 .f32) (x2 : FVec Ideal S1024x5632 .f32) (x3 : FVec Ideal S2816x1024 .f32)
  (x4 : FVec Ideal S8192x1024 .f32)

theorem r_e (j : S8192x1024.Idx) : val_main_v23 (F := Ideal) x4 j = x4 j := by
  refine (val_main_v23_apply _ _).trans (congrArg x4 ?_)
  have h0 : (j 0).val < 8192 := (j 0).isLt
  have h1 : (j 1).val < 1024 := (j 1).isLt
  funext a
  match a with
  | ⟨0, _⟩ => exact Fin.ext (show ((j 0).val * 1024 + (j 1).val) / 1024 = (j 0).val by omega)
  | ⟨1, _⟩ => exact Fin.ext (show ((j 0).val * 1024 + (j 1).val) % 1024 = (j 1).val by omega)

/-- The gradient of the down projection, as the reference has it. -/
def dDownR (A : Args) (f : Fin 2816) (k : Fin 1024) : EReal := ∑ i : Fin 8192, A.e i k * actR A i f

theorem r_dDown (f : Fin 2816) (k : Fin 1024) : val_main_v59 (F := Ideal) x0 x1 x2 x4 (ix2 f k) = dDownR (argsR x0 x1 x2 x3 x4) f k := by
  refine (val_main_v59_apply _ _ _ _ _).trans ((val_main_v25_apply _ _ _ _ _).trans ((val_main_v24_apply _ _ _ _ _).trans ?_))
  refine Finset.sum_congr rfl fun i _ => congrArg₂ (fun a b : EReal => a * b) ((r_e x4 _).trans (congrArg x4 ?_)) ((congrArg _ ?_).trans (r_act x0 x1 x2 x3 x4 i f))
  all_goals
    funext a
    match a with
    | ⟨0, _⟩ => rfl
    | ⟨1, _⟩ => rfl

theorem r_dact (i : Fin 8192) (f : Fin 2816) : val_main_v26 (F := Ideal) x3 x4 (ix2 i f) = (argsR x0 x1 x2 x3 x4).dact i f := by
  refine (val_main_v26_apply _ _ _).trans ?_
  refine Finset.sum_congr rfl fun k _ => congrArg₂ (fun a b : EReal => a * b) ((r_e x4 _).trans (congrArg x4 ?_)) (congrArg x3 ?_)
  all_goals
    funext a
    match a with
    | ⟨0, _⟩ => rfl
    | ⟨1, _⟩ => rfl

/-- The gradients of the up projection and of the gate at one element, as the reference has them. -/
def dupR (A : Args) (i : Fin 8192) (f : Fin 2816) : EReal := A.gate i f * sigR (A.gate i f) * A.dact i f
def dgateR (A : Args) (i : Fin 8192) (f : Fin 2816) : EReal :=
  A.dact i f * A.up i f * sigR (A.gate i f) + A.gate i f * (A.dact i f * A.up i f) * (sigR (A.gate i f) * (1 - sigR (A.gate i f)))

theorem r_dup (i : Fin 8192) (f : Fin 2816) : val_main_v27 (F := Ideal) x0 x1 x2 x3 x4 (ix2 i f) = dupR (argsR x0 x1 x2 x3 x4) i f :=
  (val_main_v27_apply _ _ _ _ _ _).trans (congrArg₂ (fun a b : EReal => a * b) (r_silu x0 x1 x2 x3 x4 i f) (r_dact x0 x1 x2 x3 x4 i f))

theorem r_both (i : Fin 8192) (f : Fin 2816) : val_main_v28 (F := Ideal) x0 x1 x2 x3 x4 (ix2 i f)
    = (argsR x0 x1 x2 x3 x4).dact i f * (argsR x0 x1 x2 x3 x4).up i f :=
  (val_main_v28_apply _ _ _ _ _ _).trans (congrArg₂ (fun a b : EReal => a * b) (r_dact x0 x1 x2 x3 x4 i f) (r_up x0 x1 x2 x3 x4 i f))

theorem r_dgate (i : Fin 8192) (f : Fin 2816) : val_main_v29 (F := Ideal) x0 x1 x2 x3 x4 (ix2 i f) = dgateR (argsR x0 x1 x2 x3 x4) i f := by
  refine (val_main_v29_apply _ _ _ _ _ _).trans (congrArg₂ (fun a b : EReal => a + b) ?_ ?_)
  · refine (val_main_call1_v1_apply _ _ _ _ _ _).trans (congrArg₂ (fun a b : EReal => a * b) (r_both x0 x1 x2 x3 x4 i f) ?_)
    exact (r_sig x0 x1 x2 _).trans (congrArg sigR (r_gate x0 x1 x2 x3 x4 i f))
  · refine (val_main_call1_v2_apply _ _ _ _ _ _).trans (congrArg₂ (fun a b : EReal => a * b) ?_ ?_)
    · exact (val_main_call1_v0_apply _ _ _ _ _ _).trans (congrArg₂ (fun a b : EReal => a * b) (r_gate x0 x1 x2 x3 x4 i f) (r_both x0 x1 x2 x3 x4 i f))
    · exact (r_sig1 x0 x1 x2 _).trans (congrArg (fun y : EReal => sigR y * (1 - sigR y)) (r_gate x0 x1 x2 x3 x4 i f))

theorem r_beside (i : Fin 8192) (r : Fin 5632) : val_main_v30 (F := Ideal) x0 x1 x2 x3 x4 (ix2 i r)
    = beside (dgateR (argsR x0 x1 x2 x3 x4)) (dupR (argsR x0 x1 x2 x3 x4)) i r := by
  unfold val_main_v30
  by_cases hr : r.val < 2816
  · rw [beside_left _ _ _ _ hr]
    refine (concatenate_pair_apply_left (t := S8192x5632) (s₁ := S8192x2816) (s₂ := S8192x2816) 1 _ _
      concatenates_S8192x2816_S8192x2816_S8192x5632_d1 (ix2 i r) rfl (ix2 i (⟨r.val, hr⟩ : Fin 2816)) (fun b => match b with
        | ⟨0, _⟩ => rfl
        | ⟨1, _⟩ => rfl)).trans ?_
    exact r_dgate x0 x1 x2 x3 x4 i ⟨r.val, hr⟩
  · rw [beside_right _ _ _ _ hr]
    have hl : r.val - 2816 < 2816 := by omega
    refine (concatenate_pair_apply_right (t := S8192x5632) (s₁ := S8192x2816) (s₂ := S8192x2816) 1 _ _
      concatenates_S8192x2816_S8192x2816_S8192x5632_d1 (ix2 i r) rfl rfl (ix2 i (⟨r.val - 2816, hl⟩ : Fin 2816)) (fun b hb => match b with
        | ⟨0, _⟩ => rfl
        | ⟨1, _⟩ => absurd rfl hb)
      (show r.val - 2816 + 2816 = r.val by omega)).trans ?_
    exact r_dup x0 x1 x2 x3 x4 i ⟨r.val - 2816, hl⟩

/-- The gradient of the two projections in, and of the normed rows. -/
def dInR (A : Args) (r : Fin 5632) (k : Fin 1024) : EReal := ∑ i : Fin 8192, beside (dgateR A) (dupR A) i r * A.nrm i k
def dnrmR (A : Args) (i : Fin 8192) (k : Fin 1024) : EReal := ∑ r : Fin 5632, beside (dgateR A) (dupR A) i r * A.w k r

theorem r_dIn (r : Fin 5632) (k : Fin 1024) : val_main_v58 (F := Ideal) x0 x1 x2 x3 x4 (ix2 r k) = dInR (argsR x0 x1 x2 x3 x4) r k := by
  refine (val_main_v58_apply _ _ _ _ _ _).trans ((val_main_v57_apply _ _ _ _ _ _).trans ((val_main_v32_apply _ _ _ _ _ _).trans ((val_main_v31_apply _ _ _ _ _ _).trans ?_)))
  refine Finset.sum_congr rfl fun i _ => congrArg₂ (fun a b : EReal => a * b) ((congrArg _ ?_).trans (r_beside x0 x1 x2 x3 x4 i r)) ((congrArg _ ?_).trans (r_nrm x0 x1 x2 x3 x4 i k))
  all_goals
    funext a
    match a with
    | ⟨0, _⟩ => rfl
    | ⟨1, _⟩ => rfl

theorem r_dnrm (i : Fin 8192) (k : Fin 1024) : val_main_v33 (F := Ideal) x0 x1 x2 x3 x4 (ix2 i k) = dnrmR (argsR x0 x1 x2 x3 x4) i k := by
  refine (val_main_v33_apply _ _ _ _ _ _).trans ?_
  refine Finset.sum_congr rfl fun r _ => congrArg₂ (fun a b : EReal => a * b) ((congrArg _ ?_).trans (r_beside x0 x1 x2 x3 x4 i r)) (congrArg x2 ?_)
  all_goals
    funext a
    match a with
    | ⟨0, _⟩ => rfl
    | ⟨1, _⟩ => rfl

/-- The gradient of the gain, as the reference has it. -/
def dgainR (A : Args) (k : Fin 1024) : EReal := ∑ i : Fin 8192, A.h i k * rstd A.h i * dnrmR A i k

theorem first_zero (k : Fin 1024) : val_main_v35 (F := Ideal) x0 x1 x2 x3 x4 (ix1 k) = dgainR (argsR x0 x1 x2 x3 x4) k := by
  refine (val_main_v35_apply _ _ _ _ _ _).trans (Eq.trans (congrArg₂ (fun a b : EReal => a + b) Ideal.ofBits_zero_f32 ?_) (zero_add _))
  refine Finset.sum_congr rfl fun i _ => ?_
  refine (val_main_v34_apply _ _ _ _ _ _).trans (congrArg₂ (fun a b : EReal => a * b) ((congrArg _ ?_).trans (r_unit x0 x1 x2 x3 x4 i k)) ((congrArg _ ?_).trans (r_dnrm x0 x1 x2 x3 x4 i k)))
  all_goals
    funext a
    match a with
    | ⟨0, _⟩ => rfl
    | ⟨1, _⟩ => rfl

theorem r_dgain (k : Fin 1024) : val_main_v56 (F := Ideal) x0 x1 x2 x3 x4 (ix2 0 k) = dgainR (argsR x0 x1 x2 x3 x4) k := by
  refine (val_main_v56_apply _ _ _ _ _ _).trans ((val_main_v39_apply _ _ _ _ _ _).trans ?_)
  refine Eq.trans (congrArg₂ (fun a b : EReal => a + b) Ideal.ofBits_zero_f32 (Fin.sum_univ_one _)) ((zero_add _).trans ?_)
  refine (val_main_v36_apply _ _ _ _ _ _).trans ((congrArg _ ?_).trans (first_zero x0 x1 x2 x3 x4 k))
  funext a
  match a with
  | ⟨0, _⟩ => exact Fin.ext (show 0 * 1024 + k.val = k.val by omega)

/-- The mean square of a row with the guard; the row's coefficient as the reference has it; the gradient of the rows. -/
def negHalf : EReal := Ideal.ofBits .f32 0xBF000000#32
def msq (x : Fin 1024 → EReal) : EReal := Ideal.div (∑ k, x k * x k) rowLen + Cert.Kernel2Ideal.Ffn.guard
def coefR (x u g : Fin 1024 → EReal) : EReal :=
  Ideal.div ((∑ k, x k * (u k * g k)) * (negHalf * Ideal.div (Ideal.rsqrt (msq x)) (msq x))) rowLen
def dxR (e x u g : Fin 1024 → EReal) (k : Fin 1024) : EReal :=
  e k + u k * g k * Ideal.rsqrt (msq x) + x k * coefR x u g + coefR x u g * x k

theorem r_msq (i : Fin 8192) : val_main_v6 (F := Ideal) x0 (ix2 i 0) = msq ((argsR x0 x1 x2 x3 x4).h i) := by
  unfold argsR msq rowLen Cert.Kernel2Ideal.Ffn.guard
  pointwise [val_main_v6, val_main_v5, val_main_cst_1, val_main_v4, val_main_v3, val_main_cst_0, val_main_v2, val_main_v1, val_main_cst, val_main_v0]

theorem r_cube (i : Fin 8192) : val_main_v10 (F := Ideal) x0 (ix2 i 0)
    = negHalf * Ideal.div (Ideal.rsqrt (msq ((argsR x0 x1 x2 x3 x4).h i))) (msq ((argsR x0 x1 x2 x3 x4).h i)) := by
  rw [← r_msq]
  unfold negHalf
  pointwise [val_main_v10, val_main_v9, val_main_cst_2, val_main_v8, val_main_v7]

theorem r_ug (i : Fin 8192) (k : Fin 1024) : val_main_v38 (F := Ideal) x0 x1 x2 x3 x4 (ix2 i k)
    = dnrmR (argsR x0 x1 x2 x3 x4) i k * (argsR x0 x1 x2 x3 x4).g k := by
  refine (val_main_v38_apply _ _ _ _ _ _).trans (congrArg₂ (fun a b : EReal => a * b) (r_dnrm x0 x1 x2 x3 x4 i k) ?_)
  unfold argsR
  pointwise [val_main_v37, val_main_v13]

theorem r_coef (i : Fin 8192) : val_main_v49 (F := Ideal) x0 x1 x2 x3 x4 (ix1 i)
    = coefR ((argsR x0 x1 x2 x3 x4).h i) (dnrmR (argsR x0 x1 x2 x3 x4) i) (argsR x0 x1 x2 x3 x4).g := by
  refine (val_main_v49_apply _ _ _ _ _ _).trans ?_
  refine Eq.trans (congrArg₂ (fun a b : EReal => a + b) Ideal.ofBits_zero_f32 (Fin.sum_univ_one _)) ((zero_add _).trans ?_)
  refine (val_main_v48_apply _ _ _ _ _ _).trans (congrArg₂ Ideal.div ?_ rfl)
  refine (val_main_v46_apply _ _ _ _ _ _).trans (congrArg₂ (fun a b : EReal => a * b) ?_ ((congrArg _ ?_).trans (r_cube x0 x1 x2 x3 x4 i)))
  · refine (val_main_v42_apply _ _ _ _ _ _).trans ((val_main_v41_apply _ _ _ _ _ _).trans ?_)
    refine Eq.trans (congrArg₂ (fun a b : EReal => a + b) Ideal.ofBits_zero_f32 ?_) (zero_add _)
    refine Finset.sum_congr rfl fun k _ => ?_
    refine (val_main_v40_apply _ _ _ _ _ _).trans (congrArg₂ (fun a b : EReal => a * b) (congrArg x0 ?_) ((congrArg _ ?_).trans (r_ug x0 x1 x2 x3 x4 i k)))
    all_goals
      funext a
      match a with
      | ⟨0, _⟩ => exact Fin.ext (show i.val * 1 + 0 = i.val by omega)
      | ⟨1, _⟩ => rfl
  · funext a
    match a with
    | ⟨0, _⟩ => rfl
    | ⟨1, _⟩ => rfl

theorem r_dx (i : Fin 8192) (k : Fin 1024) : val_main_v54 (F := Ideal) x0 x1 x2 x3 x4 (ix2 i k)
    = dxR ((argsR x0 x1 x2 x3 x4).e i) ((argsR x0 x1 x2 x3 x4).h i) (dnrmR (argsR x0 x1 x2 x3 x4) i) (argsR x0 x1 x2 x3 x4).g k := by
  have hc : val_main_v50 (F := Ideal) x0 x1 x2 x3 x4 (ix2 i k)
      = coefR ((argsR x0 x1 x2 x3 x4).h i) (dnrmR (argsR x0 x1 x2 x3 x4) i) (argsR x0 x1 x2 x3 x4).g := by
    refine (val_main_v50_apply _ _ _ _ _ _).trans ((congrArg _ ?_).trans (r_coef x0 x1 x2 x3 x4 i))
    funext a
    match a with
    | ⟨0, _⟩ => rfl
  have hs : val_main_v43 (F := Ideal) x0 (ix2 i k) = Ideal.rsqrt (msq ((argsR x0 x1 x2 x3 x4).h i)) := by
    refine (val_main_v43_apply _ _).trans ((congrArg _ ?_).trans (r_rstd x0 x1 x2 x3 x4 i))
    funext a
    match a with
    | ⟨0, _⟩ => rfl
    | ⟨1, _⟩ => rfl
  refine (val_main_v54_apply _ _ _ _ _ _).trans (congrArg₂ (fun a b : EReal => a + b) ?_ ?_)
  · refine (val_main_v52_apply _ _ _ _ _ _).trans (congrArg₂ (fun a b : EReal => a + b) ?_ ?_)
    · refine (val_main_v45_apply _ _ _ _ _ _).trans (congrArg (fun a : EReal => x4 (ix2 i k) + a) ?_)
      exact (val_main_v44_apply _ _ _ _ _ _).trans (congrArg₂ (fun a b : EReal => a * b) (r_ug x0 x1 x2 x3 x4 i k) hs)
    · exact (val_main_v51_apply _ _ _ _ _ _).trans (congrArg (fun a : EReal => x0 (ix2 i k) * a) hc)
  · exact (val_main_v53_apply _ _ _ _ _ _).trans (congrArg (fun a : EReal => a * x0 (ix2 i k)) hc)

theorem r_dxb (i : Fin 8192) (k : Fin 1024) : val_main_v55 (F := Ideal) x0 x1 x2 x3 x4 (ix2 i k)
    = dxR ((argsR x0 x1 x2 x3 x4).e i) ((argsR x0 x1 x2 x3 x4).h i) (dnrmR (argsR x0 x1 x2 x3 x4) i) (argsR x0 x1 x2 x3 x4).g k :=
  (val_main_v55_apply _ _ _ _ _ _).trans (r_dx x0 x1 x2 x3 x4 i k)

end Cert.Reference2Ideal.FfnR

end
-- ==== Proof.FfnMath.lean ====
module

public import proofs.«01_k».proof.Proof.FfnRefBack
public import Mathlib.Analysis.SpecialFunctions.Trigonometric.DerivHyp

/-! The two readings agree where every element of the arguments but the rows is a real number; the rows may hold infinities. -/

@[expose] public section

set_option maxRecDepth 16384

noncomputable section

namespace Cert.Reference2Ideal.FfnR

open Idealize.ShloMosaic
open Cert.Kernel2Ideal.Ffn

/-- An extended real that is a real number. -/
def Real? (x : EReal) : Prop := ∃ r : ℝ, x = (r : EReal)

theorem real_add {x y : EReal} (hx : Real? x) (hy : Real? y) : Real? (x + y) := by
  obtain ⟨a, rfl⟩ := hx
  obtain ⟨b, rfl⟩ := hy
  exact ⟨a + b, (EReal.coe_add a b).symm⟩

theorem real_mul {x y : EReal} (hx : Real? x) (hy : Real? y) : Real? (x * y) := by
  obtain ⟨a, rfl⟩ := hx
  obtain ⟨b, rfl⟩ := hy
  exact ⟨a * b, (EReal.coe_mul a b).symm⟩

theorem coe_sum {ι : Type} (s : Finset ι) (f : ι → ℝ) : ((∑ k ∈ s, f k : ℝ) : EReal) = ∑ k ∈ s, (f k : EReal) := by
  classical
  induction s using Finset.induction_on with
  | empty => rfl
  | insert a s ha ih => rw [Finset.sum_insert ha, Finset.sum_insert ha, EReal.coe_add, ih]

theorem real_sum {ι : Type} [Fintype ι] {f : ι → EReal} (h : ∀ k, Real? (f k)) : Real? (∑ k, f k) := by
  choose g hg using h
  refine ⟨∑ k, g k, ?_⟩
  rw [coe_sum]
  exact Finset.sum_congr rfl fun k _ => hg k

theorem half_eq : half = ((1 / 2 : ℝ) : EReal) := by
  simp [half, Ideal.ofBits, Ideal.ieee]
  rw [← EReal.coe_mul]
  norm_num
theorem halfB_eq : halfB = ((1 / 2 : ℝ) : EReal) := by
  simp [halfB, Ideal.ofBits, Ideal.ieee]
  rw [← EReal.coe_mul]
  norm_num
theorem negHalf_eq : negHalf = ((-1 / 2 : ℝ) : EReal) := by
  simp [negHalf, Ideal.ofBits, Ideal.ieee]
  rw [← EReal.coe_mul]
  norm_num
theorem rowLen_eq : rowLen = ((1024 : ℝ) : EReal) := by
  simp [rowLen, Ideal.ofBits, Ideal.ieee]
  rw [← EReal.coe_mul]
  norm_num
theorem guard_eq : ∃ r : ℝ, 0 < r ∧ Cert.Kernel2Ideal.Ffn.guard = (r : EReal) := by
  refine ⟨(8796093 : ℝ) * (2 : ℝ) ^ (-43 : Int), by positivity, ?_⟩
  simp [Cert.Kernel2Ideal.Ffn.guard, Ideal.ofBits, Ideal.ieee]

/-- The logistic function at the reals. -/
def sg (x : ℝ) : ℝ := 1 / (1 + Real.exp (-x))

theorem sg_tanh (x : ℝ) : sg x = 1 / 2 * Real.tanh (1 / 2 * x) + 1 / 2 := by
  unfold sg
  rw [Real.tanh_eq_sinh_div_cosh, Real.sinh_eq, Real.cosh_eq]
  have e : Real.exp (-x) = Real.exp (-(1 / 2 * x)) * Real.exp (-(1 / 2 * x)) := by rw [← Real.exp_add]; congr 1; ring
  have e1 : Real.exp (1 / 2 * x) * Real.exp (-(1 / 2 * x)) = 1 := by rw [← Real.exp_add]; simp
  rw [e]
  have p := Real.exp_pos (1 / 2 * x)
  have q := Real.exp_pos (-(1 / 2 * x))
  generalize Real.exp (1 / 2 * x) = a at *
  generalize Real.exp (-(1 / 2 * x)) = b at *
  have hb : (1 : ℝ) + b * b ≠ 0 := by positivity
  have hab : a + b ≠ 0 := by positivity
  field_simp
  nlinarith [e1]

theorem sg_neg (x : ℝ) : sg (-x) * Real.exp x = sg x := by
  unfold sg
  have e1 : Real.exp x * Real.exp (-x) = 1 := by rw [← Real.exp_add]; simp
  rw [neg_neg]
  have p := Real.exp_pos x
  have q := Real.exp_pos (-x)
  have h1 : (1 : ℝ) + Real.exp x ≠ 0 := by positivity
  have h2 : (1 : ℝ) + Real.exp (-x) ≠ 0 := by positivity
  field_simp
  linarith

theorem sigR_coe (x : ℝ) : sigR (x : EReal) = (sg x : EReal) := by
  have h2 : (1 : ℝ) + Real.exp (-x) ≠ 0 := by positivity
  unfold sigR sg
  rw [← EReal.coe_neg, Ideal.exp_coe, show (1 : EReal) = ((1 : ℝ) : EReal) from rfl, ← EReal.coe_add, Ideal.div_coe h2, ← EReal.coe_mul, one_mul]

theorem sig1_coe (x : ℝ) : sig1 (x : EReal) = (sg x : EReal) := by
  unfold sig1
  rw [half_eq, ← EReal.coe_mul, Ideal.tanh_coe, ← EReal.coe_mul, ← EReal.coe_add, sg_tanh]

theorem sig2_coe (x : ℝ) : sig2 (x : EReal) = (sg x : EReal) := by
  have ha : FloatOps.absf (F := Ideal) (φ := .bf16) (x : EReal) = ((|x| : ℝ) : EReal) := by
    show max (x : EReal) (-(x : EReal)) = _
    rw [← EReal.coe_neg]
    exact (EReal.coe_strictMono.monotone.map_max).symm
  have hm : min (x : EReal) 0 = ((min x 0 : ℝ) : EReal) := by
    exact (EReal.coe_strictMono.monotone.map_min (a := x) (b := 0)).symm
  unfold sig2
  rw [ha, hm, halfB_eq, ← EReal.coe_mul, Ideal.tanh_coe, ← EReal.coe_mul, ← EReal.coe_add, ← sg_tanh, Ideal.exp_coe, ← EReal.coe_mul]
  congr 1
  rcases le_total 0 x with h | h
  · rw [abs_of_nonneg h, min_eq_right h, Real.exp_zero, mul_one]
  · rw [abs_of_nonpos h, min_eq_left h, sg_neg]

theorem sub_coe (x : ℝ) : (1 : EReal) - (x : EReal) = ((1 - x : ℝ) : EReal) := by
  rw [show (1 : EReal) = ((1 : ℝ) : EReal) from rfl, ← EReal.coe_sub]

theorem dgate_eq {d g u : EReal} (hd : Real? d) (hg : Real? g) (hu : Real? u) :
    dgateAt d g u = d * u * sigR g + g * (d * u) * (sigR g * (1 - sigR g)) := by
  obtain ⟨d, rfl⟩ := hd
  obtain ⟨g, rfl⟩ := hg
  obtain ⟨u, rfl⟩ := hu
  unfold dgateAt
  rw [sig2_coe, sigR_coe, sub_coe]
  simp only [← EReal.coe_mul, ← EReal.coe_add]
  congr 1
  ring

/-- The mean square of a real row with the guard is a positive real. -/
theorem msq_coe (x : Fin 1024 → ℝ) : ∃ v : ℝ, 0 < v ∧ msq (fun k => (x k : EReal)) = (v : EReal) := by
  obtain ⟨r, hr, e⟩ := guard_eq
  refine ⟨(∑ k, x k * x k) * (1 / 1024) + r, ?_, ?_⟩
  · have : 0 ≤ ∑ k, x k * x k := Finset.sum_nonneg fun k _ => mul_self_nonneg _
    positivity
  · unfold msq
    rw [e, rowLen_eq, Ideal.div_coe (by norm_num), EReal.coe_add, EReal.coe_mul, coe_sum]
    simp only [EReal.coe_mul]

theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

theorem dx_eq (e x u g : Fin 1024 → ℝ) (k : Fin 1024) :
    dxRow (fun k => (e k : EReal)) (fun k => (x k : EReal)) (fun k => (u k : EReal)) (fun k => (g k : EReal)) k
      = dxR (fun k => (e k : EReal)) (fun k => (x k : EReal)) (fun k => (u k : EReal)) (fun k => (g k : EReal)) k := by
  obtain ⟨v, hv, ev⟩ := msq_coe x
  have hr : rowRstd (fun k => (x k : EReal)) = (((Real.sqrt v)⁻¹ : ℝ) : EReal) := by
    rw [← rsqrt_pos hv, ← ev]
    rfl
  unfold dxRow dxR coefR
  rw [hr, ev, rsqrt_pos hv, rowLen_eq, negHalf_eq, Ideal.div_coe (by norm_num), Ideal.div_coe (by norm_num), Ideal.div_coe hv.ne']
  simp only [← EReal.coe_mul, ← coe_sum, ← EReal.coe_sub, ← EReal.coe_add]
  congr 1
  have hs : (Real.sqrt v)⁻¹ * (Real.sqrt v)⁻¹ = 1 / v := by
    rw [← mul_inv, Real.mul_self_sqrt hv.le, one_div]
  generalize (Real.sqrt v)⁻¹ = s at hs ⊢
  rw [← hs]
  have h1 : ∑ l, u l * g l * (x l * s) = (∑ l, x l * (u l * g l)) * s := by
    rw [Finset.sum_mul]
    exact Finset.sum_congr rfl fun l _ => by ring
  rw [h1]
  generalize ∑ l, x l * (u l * g l) = S
  ring

theorem real_or (x : EReal) : Real? x ∨ x * x = ⊤ := by
  induction x using EReal.rec with
  | bot => exact Or.inr (by simp)
  | coe r => exact Or.inl ⟨r, rfl⟩
  | top => exact Or.inr (by simp)

theorem sq_nonneg' (x : EReal) : 0 ≤ x * x := by
  rcases real_or x with ⟨r, rfl⟩ | h
  · rw [← EReal.coe_mul]
    exact EReal.coe_nonneg.mpr (mul_self_nonneg r)
  · rw [h]
    exact le_top

/-- A row either holds real numbers only, or its mean square is infinite and its scale is zero. -/
theorem row_cases (x : Fin 1024 → EReal) : (∀ k, Real? (x k)) ∨ (msq x = ⊤ ∧ rowRstd x = 0) := by
  by_cases h : ∀ k, Real? (x k)
  · exact Or.inl h
  · refine Or.inr ?_
    obtain ⟨k, hk⟩ := not_forall.mp h
    have ht : ∑ k, x k * x k = ⊤ :=
      top_le_iff.mp (((real_or (x k)).resolve_left hk).symm.le.trans (Finset.single_le_sum (f := fun k => x k * x k) (fun l _ => sq_nonneg' (x l)) (Finset.mem_univ k)))
    have hm : msq x = ⊤ := by
      obtain ⟨r, _, e⟩ := guard_eq
      unfold msq
      rw [ht, rowLen_eq, Ideal.div_coe (by norm_num), EReal.top_mul_coe_of_pos (by norm_num), e, EReal.top_add_coe]
    refine ⟨hm, ?_⟩
    show Ideal.rsqrt (msq x) = 0
    rw [hm]
    rfl

/-- The same gradient where the row's scale is zero: what came in. -/
theorem dx_eq_zero (e x u g : Fin 1024 → EReal) (k : Fin 1024) (hm : msq x = ⊤) (hr : rowRstd x = 0) : dxRow e x u g k = dxR e x u g k := by
  have hc : coefR x u g = 0 := by
    unfold coefR
    rw [hm, Ideal.rsqrt_top, rowLen_eq, Ideal.div_coe (by norm_num), show Ideal.div 0 (⊤ : EReal) = 0 by simp [Ideal.div], mul_zero, mul_zero, zero_mul]
  unfold dxRow dxR
  rw [hr, hm, hc, Ideal.rsqrt_top, zero_mul, mul_zero, mul_zero, zero_mul, add_zero, add_zero, add_zero]

/-- Every element of the arguments but the rows is a real number. -/
structure RealArgs (A : Args) : Prop where
  g : ∀ k, Real? (A.g k)
  w : ∀ k r, Real? (A.w k r)
  d : ∀ f k, Real? (A.d f k)
  e : ∀ i k, Real? (A.e i k)

theorem real_unit (A : Args) (i : Fin 8192) (k : Fin 1024) : Real? (A.h i k * rstd A.h i) := by
  show Real? (A.h i k * rowRstd (A.h i))
  rcases row_cases (A.h i) with h | ⟨_, h⟩
  · refine real_mul (h k) ?_
    choose x hx using h
    obtain ⟨v, hv, ev⟩ := msq_coe x
    refine ⟨(Real.sqrt v)⁻¹, ?_⟩
    rw [← rsqrt_pos hv, ← ev, ← (funext hx : A.h i = fun k => (x k : EReal))]
    rfl
  · rw [h, mul_zero]
    exact ⟨0, rfl⟩

variable {A : Args} (R : RealArgs A)
include R

theorem real_nrm (i : Fin 8192) (k : Fin 1024) : Real? (A.nrm i k) := real_mul (real_unit A i k) (R.g k)
theorem real_gate (i : Fin 8192) (f : Fin 2816) : Real? (A.gate i f) := real_sum fun k => real_mul (real_nrm R i k) (R.w k _)
theorem real_up (i : Fin 8192) (f : Fin 2816) : Real? (A.up i f) := real_sum fun k => real_mul (real_nrm R i k) (R.w k _)
theorem real_dact (i : Fin 8192) (f : Fin 2816) : Real? (A.dact i f) := real_sum fun k => real_mul (R.e i k) (R.d f k)

theorem sig1_eq (i : Fin 8192) (f : Fin 2816) : sig1 (A.gate i f) = sigR (A.gate i f) := by
  obtain ⟨x, hx⟩ := real_gate R i f
  rw [hx, sig1_coe, sigR_coe]
theorem sig2_eq (i : Fin 8192) (f : Fin 2816) : sig2 (A.gate i f) = sigR (A.gate i f) := by
  obtain ⟨x, hx⟩ := real_gate R i f
  rw [hx, sig2_coe, sigR_coe]
theorem real_sig (i : Fin 8192) (f : Fin 2816) : Real? (sig2 (A.gate i f)) := by
  obtain ⟨x, hx⟩ := real_gate R i f
  rw [hx, sig2_coe]
  exact ⟨_, rfl⟩

theorem act_eq (i : Fin 8192) (f : Fin 2816) : A.act i f = actR A i f := by
  show A.gate i f * sig1 (A.gate i f) * A.up i f = _
  rw [sig1_eq R]
  rfl

theorem out_eq (i : Fin 8192) (k : Fin 1024) : A.out i k = outR A i k := by
  show (∑ f : Fin 2816, A.act i f * A.d f k) + A.h i k = _
  rw [add_comm]
  exact congrArg (fun a : EReal => A.h i k + a) (Finset.sum_congr rfl fun f _ => by rw [act_eq R])

theorem dDown_eq (f : Fin 2816) (k : Fin 1024) : A.dDown f k = dDownR A f k := by
  show ∑ i : Fin 8192, A.act i f * A.e i k = _
  exact Finset.sum_congr rfl fun i _ => by rw [act_eq R, mul_comm]

theorem dgate_fn : A.dgate = dgateR A := by
  funext i f
  exact dgate_eq (real_dact R i f) (real_gate R i f) (real_up R i f)

theorem dup_fn : A.dup = dupR A := by
  funext i f
  show A.dact i f * (A.gate i f * sig2 (A.gate i f)) = _
  rw [sig2_eq R, mul_comm]
  rfl

theorem dIn_eq (r : Fin 5632) (k : Fin 1024) : A.dIn r k = dInR A r k := by
  show ∑ i : Fin 8192, beside A.dgate A.dup i r * A.nrm i k = _
  rw [dgate_fn R, dup_fn R]
  rfl

theorem dnrm_eq (i : Fin 8192) (k : Fin 1024) : A.dnrm i k = dnrmR A i k := by
  show (∑ f, A.dgate i f * A.wGate f k) + ∑ f, A.dup i f * A.wUp f k = _
  rw [dgate_fn R, dup_fn R]
  refine Eq.symm ((Fin.sum_univ_add (a := 2816) (b := 2816) fun r : Fin 5632 => beside (dgateR A) (dupR A) i r * A.w k r).trans ?_)
  refine congrArg₂ (fun a b : EReal => a + b) (Finset.sum_congr rfl fun f _ => ?_) (Finset.sum_congr rfl fun f _ => ?_)
  · rw [beside_left _ _ _ _ (show (Fin.castAdd 2816 f).val < 2816 from f.isLt)]
    rfl
  · rw [beside_right _ _ _ _ (show ¬ (Fin.natAdd 2816 f).val < 2816 by simp)]
    refine congrArg₂ (fun a b : EReal => a * b) (congrArg (dupR A i) (Fin.ext ?_)) rfl
    show 2816 + f.val - 2816 = f.val
    omega

theorem real_dgate (i : Fin 8192) (f : Fin 2816) : Real? (A.dgate i f) := by
  show Real? (dgateAt (A.dact i f) (A.gate i f) (A.up i f))
  obtain ⟨d, hd⟩ := real_dact R i f
  obtain ⟨g, hg⟩ := real_gate R i f
  obtain ⟨u, hu⟩ := real_up R i f
  unfold dgateAt
  rw [hd, hg, hu, sig2_coe, sub_coe]
  simp only [← EReal.coe_mul, ← EReal.coe_add]
  exact ⟨_, rfl⟩

theorem real_dup (i : Fin 8192) (f : Fin 2816) : Real? (A.dup i f) := real_mul (real_dact R i f) (real_mul (real_gate R i f) (real_sig R i f))

theorem real_dnrm (i : Fin 8192) (k : Fin 1024) : Real? (A.dnrm i k) :=
  real_add (real_sum fun f => real_mul (real_dgate R i f) (R.w k _)) (real_sum fun f => real_mul (real_dup R i f) (R.w k _))

theorem dx_args (i : Fin 8192) (k : Fin 1024) : A.dx i k = dxR (A.e i) (A.h i) (dnrmR A i) A.g k := by
  show dxRow (A.e i) (A.h i) (A.dnrm i) A.g k = _
  rw [← (funext (dnrm_eq R i) : A.dnrm i = dnrmR A i)]
  rcases row_cases (A.h i) with hrow | ⟨hm, hr⟩
  swap
  · exact dx_eq_zero _ _ _ _ k hm hr
  choose e he using R.e i
  choose x hx using hrow
  choose u hu using real_dnrm R i
  choose g hg using R.g
  rw [(funext he : A.e i = _), (funext hx : A.h i = _), (funext hu : A.dnrm i = _), (funext hg : A.g = _)]
  exact dx_eq e x u g k

theorem dgain_eq (k : Fin 1024) : A.dgain k = dgainR A k := by
  show ∑ i : Fin 8192, dgTerm (A.h i) (A.dnrm i) k = _
  refine Finset.sum_congr rfl fun i _ => ?_
  show A.dnrm i k * (A.h i k * rstd A.h i) = _
  rw [dnrm_eq R, mul_comm]

end Cert.Reference2Ideal.FfnR

end
-- ==== Proof.FfnEntry.lean ====
module

public import proofs.«01_k».proof.Proof.FfnIn
public import proofs.«01_k».proof.Proof.Gen.Kernel2Ideal.Frame
public import Idealize.ShloMosaic.Lib.Claim

/-! What the host operations leave in the arrays the calls read. -/

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

theorem entry_gain (k : Fin 1024) : (V1 m ρ c main_v0 : FVec Ideal S1x1024 .f32) (ix2 0 k) = m ((c : Thread nD τ).loc main_arg1) (ix1 k) := by
  unfold V1 W1
  after_results
  pointwise []

theorem entry_w (r : Fin 5632) (k : Fin 1024) : (V1 m ρ c main_v2 : FVec Ideal S5632x1024 .bf16) (ix2 r k) = m ((c : Thread nD τ).loc main_arg2) (ix2 k r) := by
  unfold V1 W1
  after_results
  pointwise []

theorem entry_d (f : Fin 2816) (k : Fin 1024) : (V1 m ρ c main_v3 : FVec Ideal S2816x1024 .bf16) (ix2 f k) = m ((c : Thread nD τ).loc main_arg3) (ix2 f k) := by
  unfold V1 W1
  after_results
  pointwise []

theorem entry_e (i : Fin 8192) (k : Fin 1024) : (V1 m ρ c main_v4 : FVec Ideal S8192x1024 .bf16) (ix2 i k) = m ((c : Thread nD τ).loc main_arg4) (ix2 i k) := by
  unfold V1 W1
  after_results
  pointwise []

end Cert.Kernel2Ideal.Ffn

end
-- ==== Proof.FfnRun.lean ====
module

public import proofs.«01_k».proof.Proof.FfnSpec
public import proofs.«01_k».proof.Proof.FfnEntry

/-! From the launch to the six results: what each call finds in its arrays and leaves in them. -/

@[expose] public section

set_option maxRecDepth 16384

noncomputable section

namespace Cert.Kernel2Ideal.Ffn

open Cert.Kernel2Ideal Cert.Kernel2Ideal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Launch
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, leaves its arguments as they were, and its results are what the last boundary holds. -/
theorem run_results : θ_run defs (onTc (τ := τ) (main (F := F))) ⟨m, fun _ => 0, ρ⟩ (fun r => ∀ c : Dev nD,
      r.2.mem ((c.tc : Thread nD τ).loc main_v6) = W7 m ρ c (Proc.devRef .tc main_v6)
      ∧ r.2.mem ((c.tc : Thread nD τ).loc main_v10_0) = W7 m ρ c (Proc.devRef .tc main_v10_0)
      ∧ r.2.mem ((c.tc : Thread nD τ).loc main_v10_1) = W7 m ρ c (Proc.devRef .tc main_v10_1)
      ∧ r.2.mem ((c.tc : Thread nD τ).loc main_v10_2) = W7 m ρ c (Proc.devRef .tc main_v10_2)
      ∧ r.2.mem ((c.tc : Thread nD τ).loc main_v9) = W7 m ρ c (Proc.devRef .tc main_v9)
      ∧ r.2.mem ((c.tc : Thread nD τ).loc main_v8) = W7 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v6 (by decide)), h c _ (mem_uc main_v10_0 (by decide)), h c _ (mem_uc main_v10_1 (by decide)),
       h c _ (mem_uc main_v10_2 (by decide)), h c _ (mem_uc main_v9 (by decide)), h c _ (mem_uc main_v8 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)
end Launch

variable (m : (ℓ : Loc nD τ sig) → Buf (Elt Ideal) ℓ) (ρ : Dev nD → PrngReg) (c : Dev nD)

/-- The arguments as launched. -/
def argsOf : Args where
  h i k := m ((c : Thread nD τ).loc main_arg0) (ix2 i k)
  g k := m ((c : Thread nD τ).loc main_arg1) (ix1 k)
  w k r := m ((c : Thread nD τ).loc main_arg2) (ix2 k r)
  d f k := m ((c : Thread nD τ).loc main_arg3) (ix2 f k)
  e i k := m ((c : Thread nD τ).loc main_arg4) (ix2 i k)

/-! The first call. -/

theorem rows1 : rowsIn (V1 m ρ) c = (argsOf m c).h := by
  funext i k
  exact congrFun (W1_args m ρ c main_arg0 (by decide)) (ix2 i k)
theorem gain1 : gainIn (V1 m ρ) c = (argsOf m c).g := funext fun k => entry_gain m ρ c k
theorem gate_of1 (i : Fin 8192) (f : Fin 2816) : gateOf (V1 m ρ) c i f = (argsOf m c).gate i f := by
  unfold gateOf Args.gate Args.nrm
  rw [rows1, gain1]
  exact Finset.sum_congr rfl fun k _ => congrArg (fun a : EReal => _ * a) (entry_w m ρ c _ k)
theorem up_of1 (i : Fin 8192) (f : Fin 2816) : upOf (V1 m ρ) c i f = (argsOf m c).up i f := by
  unfold upOf Args.up Args.nrm
  rw [rows1, gain1]
  exact Finset.sum_congr rfl fun k _ => congrArg (fun a : EReal => _ * a) (entry_w m ρ c _ k)

theorem n2 (i : Fin 8192) (k : Fin 1024) : V2 m ρ c main_v5_0 (ix2 i k) = (argsOf m c).nrm i k :=
  (congrFun (W2_arr m ρ c 3) (ix2 i k)).trans ((arr0_3 (V1 m ρ) c i k).trans (by unfold Args.nrm; rw [rows1, gain1]))
theorem gate2 (i : Fin 8192) (f : Fin 2816) : V2 m ρ c main_v5_1 (ix2 i f) = (argsOf m c).gate i f :=
  (congrFun (W2_arr m ρ c 4) (ix2 i f)).trans ((arr0_4 (V1 m ρ) c i f).trans (gate_of1 m ρ c i f))
theorem up2 (i : Fin 8192) (f : Fin 2816) : V2 m ρ c main_v5_2 (ix2 i f) = (argsOf m c).up i f :=
  (congrFun (W2_arr m ρ c 5) (ix2 i f)).trans ((arr0_5 (V1 m ρ) c i f).trans (up_of1 m ρ c i f))
theorem act2 (i : Fin 8192) (f : Fin 2816) : V2 m ρ c main_v5_3 (ix2 i f) = (argsOf m c).act i f :=
  (congrFun (W2_arr m ρ c 6) (ix2 i f)).trans ((arr0_6 (V1 m ρ) c i f).trans (congrArg₂ act1 (gate_of1 m ρ c i f) (up_of1 m ρ c i f)))
theorem d2 (f : Fin 2816) (k : Fin 1024) : V2 m ρ c main_v3 (ix2 f k) = (argsOf m c).d f k :=
  (congrFun (W2_of m ρ c main_v3 (by decide +kernel)) (ix2 f k)).trans (entry_d m ρ c f k)
theorem e2 (i : Fin 8192) (k : Fin 1024) : V2 m ρ c main_v4 (ix2 i k) = (argsOf m c).e i k :=
  (congrFun (W2_of m ρ c main_v4 (by decide +kernel)) (ix2 i k)).trans (entry_e m ρ c i k)
theorem w2 (r : Fin 5632) (k : Fin 1024) : V2 m ρ c main_v2 (ix2 r k) = (argsOf m c).w k r :=
  (congrFun (W2_of m ρ c main_v2 (by decide +kernel)) (ix2 r k)).trans (entry_w m ρ c r k)
theorem g2 (k : Fin 1024) : V2 m ρ c main_v0 (ix2 0 k) = (argsOf m c).g k :=
  (congrFun (W2_of m ρ c main_v0 (by decide +kernel)) (ix2 0 k)).trans (entry_gain m ρ c k)

/-! The second call. -/

theorem out3 (i : Fin 8192) (k : Fin 1024) : V3 m ρ c main_v6 (ix2 i k) = (argsOf m c).out i k :=
  (congrFun (W3_arr m ρ c 3) (ix2 i k)).trans ((arr1_3 (V2 m ρ) c i k).trans
    (congrArg₂ (fun a b : EReal => a + b) (Finset.sum_congr rfl fun f _ => congrArg₂ (fun a b : EReal => a * b) (act2 m ρ c i f) (d2 m ρ c f k))
      (congrFun (W2_args m ρ c main_arg0 (by decide)) (ix2 i k))))

/-! The third call. -/

theorem gate3 (i : Fin 8192) (f : Fin 2816) : V3 m ρ c main_v5_1 (ix2 i f) = (argsOf m c).gate i f :=
  (congrFun (W3_of m ρ c main_v5_1 (by decide +kernel)) (ix2 i f)).trans (gate2 m ρ c i f)
theorem up3 (i : Fin 8192) (f : Fin 2816) : V3 m ρ c main_v5_2 (ix2 i f) = (argsOf m c).up i f :=
  (congrFun (W3_of m ρ c main_v5_2 (by decide +kernel)) (ix2 i f)).trans (up2 m ρ c i f)
theorem da3 (i : Fin 8192) (f : Fin 2816) : daOf (V3 m ρ) c i f = (argsOf m c).dact i f := by
  unfold daOf Args.dact prod
  exact Finset.sum_congr rfl fun k _ => congrArg₂ (fun a b : EReal => a * b)
    ((congrFun (W3_of m ρ c main_v4 (by decide +kernel)) (ix2 i k)).trans (e2 m ρ c i k))
    ((congrFun (W3_of m ρ c main_v3 (by decide +kernel)) (ix2 f k)).trans (d2 m ρ c f k))

theorem dgate4 (i : Fin 8192) (f : Fin 2816) : V4 m ρ c main_v7_0 (ix2 i f) = (argsOf m c).dgate i f := by
  refine (congrFun (W4_arr m ρ c 4) (ix2 i f)).trans ((arr2_4 (V3 m ρ) c i f).trans ?_)
  unfold dgateOf Args.dgate
  rw [da3]
  exact congrArg₂ (dgateAt _) (gate3 m ρ c i f) (up3 m ρ c i f)
theorem dup4 (i : Fin 8192) (f : Fin 2816) : V4 m ρ c main_v7_1 (ix2 i f) = (argsOf m c).dup i f := by
  refine (congrFun (W4_arr m ρ c 5) (ix2 i f)).trans ((arr2_5 (V3 m ρ) c i f).trans ?_)
  unfold dupOf Args.dup
  rw [da3]
  exact congrArg (dupAt _) (gate3 m ρ c i f)

/-! The fourth and the fifth call: the gradients of the two weights. -/

theorem dDown5 (f : Fin 2816) (k : Fin 1024) : V5 m ρ c main_v8 (ix2 f k) = (argsOf m c).dDown f k :=
  (congrFun (W5_arr m ρ c 2) (ix2 f k)).trans ((arr3_2 (V4 m ρ) c f k).trans
    (Finset.sum_congr rfl fun i _ => congrArg₂ (fun a b : EReal => a * b)
      ((congrFun (W4_of m ρ c main_v5_3 (by decide +kernel)) (ix2 i f)).trans
        ((congrFun (W3_of m ρ c main_v5_3 (by decide +kernel)) (ix2 i f)).trans (act2 m ρ c i f)))
      ((congrFun (W4_of m ρ c main_v4 (by decide +kernel)) (ix2 i k)).trans
        ((congrFun (W3_of m ρ c main_v4 (by decide +kernel)) (ix2 i k)).trans (e2 m ρ c i k)))))

theorem dgate5 (i : Fin 8192) (f : Fin 2816) : V5 m ρ c main_v7_0 (ix2 i f) = (argsOf m c).dgate i f :=
  (congrFun (W5_of m ρ c main_v7_0 (by decide +kernel)) (ix2 i f)).trans (dgate4 m ρ c i f)
theorem dup5 (i : Fin 8192) (f : Fin 2816) : V5 m ρ c main_v7_1 (ix2 i f) = (argsOf m c).dup i f :=
  (congrFun (W5_of m ρ c main_v7_1 (by decide +kernel)) (ix2 i f)).trans (dup4 m ρ c i f)

theorem dIn6 (r : Fin 5632) (k : Fin 1024) : V6 m ρ c main_v9 (ix2 r k) = (argsOf m c).dIn r k := by
  refine (congrFun (W6_arr m ρ c 3) (ix2 r k)).trans ((arr4_3 (V5 m ρ) c r k).trans ?_)
  refine congrArg₂ (fun (X : Fin 8192 → Fin 5632 → EReal) (Y : Fin 8192 → Fin 1024 → EReal) => gram X Y r k) ?_ ?_
  · exact congrArg₂ beside (funext fun i => funext fun f => dgate5 m ρ c i f) (funext fun i => funext fun f => dup5 m ρ c i f)
  · funext i k
    exact (congrFun (W5_of m ρ c main_v5_0 (by decide +kernel)) (ix2 i k)).trans
      ((congrFun (W4_of m ρ c main_v5_0 (by decide +kernel)) (ix2 i k)).trans
        ((congrFun (W3_of m ρ c main_v5_0 (by decide +kernel)) (ix2 i k)).trans (n2 m ρ c i k)))

/-! The last call. -/

theorem w6 (r : Fin 5632) (k : Fin 1024) : V6 m ρ c main_v2 (ix2 r k) = (argsOf m c).w k r :=
  (congrFun (W6_of m ρ c main_v2 (by decide +kernel)) (ix2 r k)).trans
    ((congrFun (W5_of m ρ c main_v2 (by decide +kernel)) (ix2 r k)).trans
      ((congrFun (W4_of m ρ c main_v2 (by decide +kernel)) (ix2 r k)).trans
        ((congrFun (W3_of m ρ c main_v2 (by decide +kernel)) (ix2 r k)).trans (w2 m ρ c r k))))
theorem g6 (k : Fin 1024) : V6 m ρ c main_v0 (ix2 0 k) = (argsOf m c).g k :=
  (congrFun (W6_of m ρ c main_v0 (by decide +kernel)) (ix2 0 k)).trans
    ((congrFun (W5_of m ρ c main_v0 (by decide +kernel)) (ix2 0 k)).trans
      ((congrFun (W4_of m ρ c main_v0 (by decide +kernel)) (ix2 0 k)).trans
        ((congrFun (W3_of m ρ c main_v0 (by decide +kernel)) (ix2 0 k)).trans (g2 m ρ c k))))
theorem acc6 (i : Fin 8192) : accOf (V6 m ρ) c i = (argsOf m c).dnrm i :=
  accRow_eq (fun f => (congrFun (W6_of m ρ c main_v7_0 (by decide +kernel)) (ix2 i f)).trans (dgate5 m ρ c i f))
    (fun f => (congrFun (W6_of m ρ c main_v7_1 (by decide +kernel)) (ix2 i f)).trans (dup5 m ρ c i f))
    (fun f k => w6 m ρ c _ k) (fun f k => w6 m ρ c _ k)
theorem h6 (i : Fin 8192) (k : Fin 1024) : V6 m ρ c main_arg0 (ix2 i k) = (argsOf m c).h i k :=
  congrFun (W6_args m ρ c main_arg0 (by decide)) (ix2 i k)
theorem e6 (i : Fin 8192) (k : Fin 1024) : V6 m ρ c main_arg4 (ix2 i k) = (argsOf m c).e i k :=
  congrFun (W6_args m ρ c main_arg4 (by decide)) (ix2 i k)
theorem dx6 (i : Fin 8192) (k : Fin 1024) : dxOf (V6 m ρ) c i k = (argsOf m c).dx i k :=
  congrFun (dxRow_eq (fun k => e6 m ρ c i k) (fun k => h6 m ρ c i k) (acc6 m ρ c i) (fun k => g6 m ρ c k)) k

theorem dg6 (k : Fin 1024) : dgTotal (V6 m ρ) c k = (argsOf m c).dgain k := by
  unfold dgTotal Args.dgain
  exact Finset.sum_congr rfl fun i _ => congrFun (dgTerm_eq (fun k => h6 m ρ c i k) (acc6 m ρ c i)) k

/-! The six results. -/

theorem res_dx (i : Fin 8192) (k : Fin 1024) : W7 m ρ c (Proc.devRef .tc main_v10_0) (ix2 i k) = (argsOf m c).dx i k :=
  (congrFun (W7_arr m ρ c 7) (ix2 i k)).trans ((arr5_7 (V6 m ρ) c i k).trans (dx6 m ρ c i k))
theorem res_dxb (i : Fin 8192) (k : Fin 1024) : W7 m ρ c (Proc.devRef .tc main_v10_1) (ix2 i k) = (argsOf m c).dx i k :=
  (congrFun (W7_arr m ρ c 8) (ix2 i k)).trans ((arr5_8 (V6 m ρ) c i k).trans (dx6 m ρ c i k))
theorem res_dg (k : Fin 1024) : W7 m ρ c (Proc.devRef .tc main_v10_2) (ix2 0 k) = (argsOf m c).dgain k :=
  (congrFun (W7_arr m ρ c 9) (ix2 0 k)).trans ((arr5_9 (V6 m ρ) c k).trans
    (dg6 m ρ c k))
theorem res_dIn (r : Fin 5632) (k : Fin 1024) : W7 m ρ c (Proc.devRef .tc main_v9) (ix2 r k) = (argsOf m c).dIn r k :=
  (congrFun (W7_of m ρ c main_v9 (by decide +kernel)) (ix2 r k)).trans (dIn6 m ρ c r k)
theorem res_dDown (f : Fin 2816) (k : Fin 1024) : W7 m ρ c (Proc.devRef .tc main_v8) (ix2 f k) = (argsOf m c).dDown f k :=
  (congrFun (W7_of m ρ c main_v8 (by decide +kernel)) (ix2 f k)).trans
    ((congrFun (W6_of m ρ c main_v8 (by decide +kernel)) (ix2 f k)).trans (dDown5 m ρ c f k))
theorem res_out (i : Fin 8192) (k : Fin 1024) : W7 m ρ c (Proc.devRef .tc main_v6) (ix2 i k) = (argsOf m c).out i k :=
  (congrFun (W7_of m ρ c main_v6 (by decide +kernel)) (ix2 i k)).trans
    ((congrFun (W6_of m ρ c main_v6 (by decide +kernel)) (ix2 i k)).trans
      ((congrFun (W5_of m ρ c main_v6 (by decide +kernel)) (ix2 i k)).trans
        ((congrFun (W4_of m ρ c main_v6 (by decide +kernel)) (ix2 i k)).trans (out3 m ρ c i k))))

end Cert.Kernel2Ideal.Ffn

end
-- ==== Proof.FfnPre.lean ====
module

public import proofs.«01_k».proof.Defs
public import proofs.«01_k».proof.Proof.FfnMath
public import proofs.«01_k».proof.Proof.FfnRun
public import Idealize.ShloMosaic.Lib.ReduceAll

/-! The precondition, read back: every element of every argument but the first is a real number. -/

@[expose] public section

set_option maxRecDepth 16384

noncomputable section

namespace Cert.Pre_finite

open Idealize.ShloMosaic Idealize.SL.Sem
open Cert.Reference2Ideal.FfnR (Real? RealArgs)

theorem facts : Facts where
  bcast_S_S8192x1024 := by decide
  reducesTo_S8192x1024_S_d0_1 := by decide
  h_S_ := by decide
  bcast_S_S1024 := by decide
  reducesTo_S1024_S_d0 := by decide
  bcast_S_S1024x5632 := by decide
  reducesTo_S1024x5632_S_d0_1 := by decide
  bcast_S_S2816x1024 := by decide
  reducesTo_S2816x1024_S_d0_1 := by decide

instance : Facts := facts

theorem inf_eq : Ideal.ofBits .f32 0x7F800000#32 = ⊤ := by simp [Ideal.ofBits, Ideal.ieee]

theorem real_of_lt {x : EReal} (h : max x (-x) < ⊤) : Real? x := by
  induction x using EReal.rec with
  | bot => simp at h
  | coe r => exact ⟨r, rfl⟩
  | top => simp at h

theorem real_of_cmp {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) : Real? (x i) := by
  refine real_of_lt ?_
  rw [← inf_eq]
  have h' : Ideal.cmp .olt (max (x i) (-(x i))) (Ideal.ofBits .f32 0x7F800000#32) = 1#1 := h
  unfold Ideal.cmp at h'
  by_contra hn
  simp [hn] at h'

theorem real_of_fn (x0 : FVec Ideal S8192x1024 .f32) (x1 : FVec Ideal S1024 .f32) (x2 : FVec Ideal S1024x5632 .f32) (x3 : FVec Ideal S2816x1024 .f32)
    (x4 : FVec Ideal S8192x1024 .f32) (h : fn (F := Ideal) x0 x1 x2 x3 x4 = fun _ => 1#1) :
    (∀ i, Real? (x1 i)) ∧ (∀ i, Real? (x2 i)) ∧ (∀ i, Real? (x3 i)) ∧ ∀ i, Real? (x4 i) := by
  haveI : Subsingleton S_.Idx := ⟨fun a b => funext fun i => i.elim0⟩
  have hj := congrFun h (Shape.Idx.first (s := S_) (by decide))
  unfold fn fn_part1 at hj
  obtain ⟨hj, h4⟩ := IntOp.andi_eq_one.1 hj
  obtain ⟨hj, h3⟩ := IntOp.andi_eq_one.1 hj
  obtain ⟨h1, h2⟩ := IntOp.andi_eq_one.1 hj
  exact ⟨fun i => real_of_cmp x1 _ i (Host.reduce_andi_all _ _ _ _ _ h1 i), fun i => real_of_cmp x2 _ i (Host.reduce_andi_all _ _ _ _ _ h2 i),
    fun i => real_of_cmp x3 _ i (Host.reduce_andi_all _ _ _ _ _ h3 i), fun i => real_of_cmp x4 _ i (Host.reduce_andi_all _ _ _ _ _ h4 i)⟩

theorem real_args (m : (ℓ : Loc Cert.Kernel2Ideal.nD Cert.Kernel2Ideal.τ Cert.Kernel2Ideal.sig) → Buf (Elt Ideal) ℓ)
    (h : Cert.Pre_Kernel2Ideal_finite m) (c : Dev Cert.Kernel2Ideal.nD) : RealArgs (Cert.Kernel2Ideal.Ffn.argsOf m c) := by
  obtain ⟨h1, h2, h3, h4⟩ := real_of_fn _ _ _ _ _ (h c)
  exact ⟨fun k => h1 _, fun k r => h2 _, fun f k => h3 _, fun i k => h4 _⟩

end Cert.Pre_finite

end
-- ==== Proof.HgrnCalls.lean ====
module

public import proofs.«01_k».proof.Proof.Gen.Kernel3Ideal.Frame
public import proofs.«01_k».proof.Proof.FfnDw
public import Idealize.ShloMosaic.Lib.Pipeline.ValueKit
public import Idealize.ShloMosaic.Lib.Pipeline.ValueKit.Point

/-! Around the recurrence: the norm, the product into the recurrence, the product out of it, and the products of the
    transposed pass, each as the array its call leaves. -/

@[expose] public section

set_option maxRecDepth 16384

noncomputable section

namespace Cert.Kernel3Ideal.Hgrn

open Cert.Kernel3Ideal Cert.Kernel3Ideal.Gen Idealize.ShloMosaic Idealize.ShloMosaic.TcCoe Idealize.SL.Sem
open Idealize.ShloMosaic.Pipeline (Dat)
open Cert.Kernel2Ideal.Ffn (rowLen guard rstd normed prod gram row_lt)

theorem norm_at (x0 : Vec Ideal S512x1024 .f32) (x1 : Vec Ideal S1x1024 .f32) (j : S512x1024.Idx) :
    k0_pay1 x0 x1 j = normed (fun i k => x0 (ix2 i k)) (fun k => x1 (ix2 0 k)) (j 0) (j 1) := by
  pointwise [k0_pay1, normed, rstd, rowLen, Cert.Kernel2Ideal.Ffn.guard]

theorem ld_rows (x0 : Vec Ideal S512x1024 .f32) : View.ld x0 r0_0 = x0 := by
  funext j
  pointwise []
  blk_ext

theorem ld_gain (x1 : Vec Ideal S1x1024 .f32) : View.ld x1 r0_1 = x1 := by
  funext j
  pointwise []
  blk_ext

theorem out0_2_at (x0 : Vec Ideal S512x1024 .f32) (x1 : Vec Ideal S1x1024 .f32) (y : S512x1024.Idx) :
    out0_2 x0 x1 y = k0_pay1 x0 x1 y := by
  unfold out0_2
  rw [ld_rows, ld_gain]
  canon_tiles x hx
  have e : x = y := by
    funext a
    match a with
    | ⟨0, _⟩ => exact Fin.ext hx0.symm
    | ⟨1, _⟩ => exact Fin.ext hx1.symm
  rw [e]

theorem out1_2_at (x0 : Vec Ideal S512x1024 .bf16) (x1 : Vec Ideal S4096x1024 .bf16) (y : S512x4096.Idx) :
    out1_2 x0 x1 y = ∑ k : Fin 1024, x0 (ix2 (y 0) k) * x1 (ix2 (y 1) k) := by
  unfold out1_2
  canon_tiles x hx
  all_goals
    open_payloads
    pointwise []
    exact Finset.sum_congr rfl fun k _ => congrArg₂ (fun a b : EReal => a * b) (congrArg (fun a => x0 (ix2 a k)) (Fin.ext hx0.symm))
      (congrArg (fun a => x1 (ix2 a k)) (Fin.ext hx1.symm))

theorem out2_3_at (x0 : Vec Ideal S512x1024 .bf16) (x1 : Vec Ideal S1024x1024 .bf16) (x2 : Vec Ideal S512x1024 .f32) (y : S512x1024.Idx) :
    out2_3 x0 x1 x2 y = (∑ f : Fin 1024, x0 (ix2 (y 0) f) * x1 (ix2 f (y 1))) + x2 y := by
  unfold out2_3
  canon_tiles x hx
  have e : x = y := by
    funext a
    match a with
    | ⟨0, _⟩ => exact Fin.ext hx0.symm
    | ⟨1, _⟩ => exact Fin.ext hx1.symm
  rw [e]
  pointwise [k2_pay1]
  blk_ext

theorem out3_2_at (x0 : Vec Ideal S512x1024 .bf16) (x1 : Vec Ideal S1024x1024 .bf16) (y : S512x1024.Idx) :
    out3_2 x0 x1 y = ∑ k : Fin 1024, x0 (ix2 (y 0) k) * x1 (ix2 (y 1) k) := by
  unfold out3_2
  canon_tiles x hx
  all_goals
    open_payloads
    pointwise []
    exact Finset.sum_congr rfl fun k _ => congrArg₂ (fun a b : EReal => a * b) (congrArg (fun a => x0 (ix2 a k)) (Fin.ext hx0.symm))
      (congrArg (fun a => x1 (ix2 a k)) (Fin.ext hx1.symm))

theorem pay4_at (v5 : Vec Ideal S8192x256 .bf16) (v7 : Vec Ideal S8192x1024 .bf16) (j : S256x1024.Idx) :
    k4_pay1 v5 v7 j = ∑ i : Fin 8192, v5 (ix2 i (j 0)) * v7 (ix2 i (j 1)) := by
  pointwise [k4_pay1]

theorem pay5_at (v5 : Vec Ideal S8192x256 .bf16) (v7 : Vec Ideal S8192x1024 .bf16) (j : S256x1024.Idx) :
    k5_pay1 v5 v7 j = ∑ i : Fin 8192, v5 (ix2 i (j 0)) * v7 (ix2 i (j 1)) := by
  pointwise [k5_pay1]

/-! The arrays -/

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] :=
  (by decide +kernel : ∀ t : Fin grid0.N, _)
theorem idx1 : ∀ t : Fin cfg1.N, win1_0.index t = ![t.val, 0] ∧ win1_1.index t = ![0, 0] ∧ win1_2.index t = ![t.val, 0] :=
  (by decide +kernel : ∀ t : Fin grid1.N, _)
theorem idx2 : ∀ t : Fin cfg2.N, win2_0.index t = ![t.val, 0] ∧ win2_1.index t = ![0, 0] ∧ win2_2.index t = ![t.val, 0] ∧ win2_3.index t = ![t.val, 0] :=
  (by decide +kernel : ∀ t : Fin grid2.N, _)
theorem idx3 : ∀ t : Fin cfg3.N, win3_0.index t = ![t.val, 0] ∧ win3_1.index t = ![0, 0] ∧ win3_2.index t = ![t.val, 0] :=
  (by decide +kernel : ∀ t : Fin grid3.N, _)
theorem idx4 : ∀ t : Fin cfg4.N, win4_0.index t = ![0, t.val] ∧ win4_1.index t = ![0, 0] ∧ win4_2.index t = ![t.val, 0] :=
  (by decide +kernel : ∀ t : Fin grid4.N, _)
theorem idx5 : ∀ t : Fin cfg5.N, win5_0.index t = ![0, t.val] ∧ win5_1.index t = ![0, 0] ∧ win5_2.index t = ![t.val, 0] :=
  (by decide +kernel : ∀ t : Fin grid5.N, _)

theorem iblk0_0 (t : Fin cfg0.N) (i : Fin 512) (k : Fin 1024) :
    iblk0 V c 0 t (ix2 i k) = V c main_arg0 (ix2 ⟨t.val * 512 + i.val, row_lt N_0 t.isLt i⟩ k) := by
  blk_point [iblk0, idx0 t]
theorem iblk0_1 (t : Fin cfg0.N) (k : Fin 1024) : iblk0 V c 1 t (ix2 0 k) = V c main_v0 (ix2 0 k) := by
  blk_point [iblk0, idx0 t]
theorem iblk1_0 (t : Fin cfg1.N) (i : Fin 512) (k : Fin 1024) :
    iblk1 V c 0 t (ix2 i k) = V c main_v7 (ix2 ⟨t.val * 512 + i.val, row_lt N_1 t.isLt i⟩ k) := by
  blk_point [iblk1, idx1 t]
theorem iblk1_1 (t : Fin cfg1.N) (f : Fin 4096) (k : Fin 1024) : iblk1 V c 1 t (ix2 f k) = V c main_v2 (ix2 f k) := by
  blk_point [iblk1, idx1 t]
theorem iblk2_0 (t : Fin cfg2.N) (i : Fin 512) (k : Fin 1024) :
    iblk2 V c 0 t (ix2 i k) = V c main_v4 (ix2 ⟨t.val * 512 + i.val, row_lt N_2 t.isLt i⟩ k) := by
  blk_point [iblk2, idx2 t]
theorem iblk2_1 (t : Fin cfg2.N) (f : Fin 1024) (k : Fin 1024) : iblk2 V c 1 t (ix2 f k) = V c main_v3 (ix2 f k) := by
  blk_point [iblk2, idx2 t]
theorem iblk2_2 (t : Fin cfg2.N) (i : Fin 512) (k : Fin 1024) :
    iblk2 V c 2 t (ix2 i k) = V c main_arg0 (ix2 ⟨t.val * 512 + i.val, row_lt N_2 t.isLt i⟩ k) := by
  blk_point [iblk2, idx2 t]
theorem iblk3_0 (t : Fin cfg3.N) (i : Fin 512) (k : Fin 1024) :
    iblk3 V c 0 t (ix2 i k) = V c main_v6 (ix2 ⟨t.val * 512 + i.val, row_lt N_3 t.isLt i⟩ k) := by
  blk_point [iblk3, idx3 t]
theorem iblk3_1 (t : Fin cfg3.N) (f : Fin 1024) (k : Fin 1024) : iblk3 V c 1 t (ix2 f k) = V c main_v3 (ix2 f k) := by
  blk_point [iblk3, idx3 t]

theorem colO_lt {n : ℕ} (hn : n = 4) {t : ℕ} (h : t < n) (i : Fin 256) : t * 256 + i.val < 1024 := by omega
theorem colP_lt {n : ℕ} (hn : n = 16) {t : ℕ} (h : t < n) (i : Fin 256) : t * 256 + i.val < 4096 := by omega

theorem iblk4_0 (t : Fin cfg4.N) (i : Fin 8192) (f : Fin 256) :
    iblk4 V c 0 t (ix2 i f) = V c main_v4 (ix2 i ⟨t.val * 256 + f.val, colO_lt N_4 t.isLt f⟩) := by
  blk_point [iblk4, idx4 t]
theorem iblk4_1 (t : Fin cfg4.N) (i : Fin 8192) (k : Fin 1024) : iblk4 V c 1 t (ix2 i k) = V c main_v6 (ix2 i k) := by
  blk_point [iblk4, idx4 t]
theorem iblk5_0 (t : Fin cfg5.N) (i : Fin 8192) (f : Fin 256) :
    iblk5 V c 0 t (ix2 i f) = V c main_v5 (ix2 i ⟨t.val * 256 + f.val, colP_lt N_5 t.isLt f⟩) := by
  blk_point [iblk5, idx5 t]
theorem iblk5_1 (t : Fin cfg5.N) (i : Fin 8192) (k : Fin 1024) : iblk5 V c 1 t (ix2 i k) = V c main_v7 (ix2 i k) := by
  blk_point [iblk5, idx5 t]

/-- An array of a call, as a function of row and column. -/
def X0 (i : Fin 8192) (k : Fin 1024) : EReal := V c main_arg0 (ix2 i k)
def G0 (k : Fin 1024) : EReal := V c main_v0 (ix2 0 k)
def Wi (f : Fin 4096) (k : Fin 1024) : EReal := V c main_v2 (ix2 f k)
def Wo (f : Fin 1024) (k : Fin 1024) : EReal := V c main_v3 (ix2 f k)
def O0 (i : Fin 8192) (f : Fin 1024) : EReal := V c main_v4 (ix2 i f)
def P0 (i : Fin 8192) (f : Fin 4096) : EReal := V c main_v5 (ix2 i f)
def E0 (i : Fin 8192) (k : Fin 1024) : EReal := V c main_v6 (ix2 i k)
def U0 (i : Fin 8192) (k : Fin 1024) : EReal := V c main_v7 (ix2 i k)

theorem norm_blk (t : Fin cfg0.N) (i : Fin 512) (k : Fin 1024) :
    k0_pay1 (iblk0 V c 0 t) (iblk0 V c 1 t) (ix2 i k) = normed (X0 V c) (G0 V c) ⟨t.val * 512 + i.val, row_lt N_0 t.isLt i⟩ k := by
  refine (norm_at _ _ _).trans ?_
  show normed _ _ i k = _
  unfold normed rstd
  simp only [iblk0_0, iblk0_1]
  rfl

theorem arr0_2 (i : Fin 8192) (k : Fin 1024) : (dat0 V c).arrAt 2 cfg0.N (ix2 i k) = normed (X0 V c) (G0 V c) i k := by
  refine congrFun ((dat0 V c).arrAt_eq_of_covers 2 (fun j : S8192x1024.Idx => normed (X0 V c) (G0 V c) (j 0) (j 1)) (by decide +kernel) fun t hf y => ?_) (ix2 i k)
  blk_simp
  rw [after0_2]
  refine (out0_2_at _ _ _).trans ((congrArg _ (eq_ix2 y)).trans ((norm_blk V c t (y 0) (y 1)).trans (congrArg₂ _ (Fin.ext ?_) (Fin.ext ?_))))
  all_goals (blk_simp [idx0 t] <;> try omega)

theorem arr1_2 (i : Fin 8192) (f : Fin 4096) : (dat1 V c).arrAt 2 cfg1.N (ix2 i f) = prod (U0 V c) (Wi V c) i f := by
  refine congrFun ((dat1 V c).arrAt_eq_of_covers 2 (fun j : S8192x4096.Idx => prod (U0 V c) (Wi V c) (j 0) (j 1)) (by decide +kernel) fun t hf y => ?_) (ix2 i f)
  blk_simp
  rw [after1_2]
  refine (out1_2_at _ _ _).trans (Eq.trans ?_ (congrArg₂ _ (x := ⟨t.val * 512 + (y 0).val, row_lt N_1 t.isLt (y 0)⟩) (y := (y 1)) (Fin.ext ?_) (Fin.ext ?_)))
  · exact Finset.sum_congr rfl fun k _ => congrArg₂ (fun a b : EReal => a * b) (iblk1_0 V c t _ k) (iblk1_1 V c t _ k)
  all_goals (blk_simp [idx1 t] <;> try omega)

/-- Rows times a weight, and rows added. -/
def outOf (A : Fin 8192 → Fin 1024 → EReal) (W : Fin 1024 → Fin 1024 → EReal) (H : Fin 8192 → Fin 1024 → EReal) (i : Fin 8192) (k : Fin 1024) : EReal :=
  (∑ f : Fin 1024, A i f * W f k) + H i k

theorem arr2_3 (i : Fin 8192) (k : Fin 1024) : (dat2 V c).arrAt 3 cfg2.N (ix2 i k) = outOf (O0 V c) (Wo V c) (X0 V c) i k := by
  refine congrFun ((dat2 V c).arrAt_eq_of_covers 3 (fun j : S8192x1024.Idx => outOf (O0 V c) (Wo V c) (X0 V c) (j 0) (j 1)) (by decide +kernel) fun t hf y => ?_) (ix2 i k)
  blk_simp
  rw [after2_3]
  refine (congrArg _ (eq_ix2 y)).trans ((out2_3_at _ _ _ _).trans (Eq.trans ?_ (congrArg₂ _ (x := ⟨t.val * 512 + (y 0).val, row_lt N_2 t.isLt (y 0)⟩) (y := (y 1)) (Fin.ext ?_) (Fin.ext ?_))))
  · unfold outOf
    refine congrArg₂ (fun a b : EReal => a + b) (Finset.sum_congr rfl fun f _ => congrArg₂ (fun a b : EReal => a * b) (iblk2_0 V c t _ f) (iblk2_1 V c t f _)) (iblk2_2 V c t _ _)
  all_goals (blk_simp [idx2 t] <;> try omega)

theorem arr3_2 (i : Fin 8192) (f : Fin 1024) : (dat3 V c).arrAt 2 cfg3.N (ix2 i f) = prod (E0 V c) (Wo V c) i f := by
  refine congrFun ((dat3 V c).arrAt_eq_of_covers 2 (fun j : S8192x1024.Idx => prod (E0 V c) (Wo V c) (j 0) (j 1)) (by decide +kernel) fun t hf y => ?_) (ix2 i f)
  blk_simp
  rw [after3_2]
  refine (out3_2_at _ _ _).trans (Eq.trans ?_ (congrArg₂ _ (x := ⟨t.val * 512 + (y 0).val, row_lt N_3 t.isLt (y 0)⟩) (y := (y 1)) (Fin.ext ?_) (Fin.ext ?_)))
  · exact Finset.sum_congr rfl fun k _ => congrArg₂ (fun a b : EReal => a * b) (iblk3_0 V c t _ k) (iblk3_1 V c t _ k)
  all_goals (blk_simp [idx3 t] <;> try omega)

theorem arr4_2 (f : Fin 1024) (k : Fin 1024) : (dat4 V c).arrAt 2 cfg4.N (ix2 f k) = gram (O0 V c) (E0 V c) f k := by
  refine congrFun ((dat4 V c).arrAt_eq_of_covers 2 (fun j : S1024x1024.Idx => gram (O0 V c) (E0 V c) (j 0) (j 1)) (by decide +kernel) fun t hf y => ?_) (ix2 f k)
  blk_simp
  rw [after4_2]
  unfold outsAt4
  frame_out
  refine (congrArg _ (eq_ix2 y)).trans ((pay4_at _ _ _).trans (Eq.trans ?_ (congrArg₂ _ (x := ⟨t.val * 256 + (y 0).val, colO_lt N_4 t.isLt (y 0)⟩) (y := (y 1)) (Fin.ext ?_) (Fin.ext ?_))))
  · exact Finset.sum_congr rfl fun i _ => congrArg₂ (fun a b : EReal => a * b) (iblk4_0 V c t i _) (iblk4_1 V c t i _)
  all_goals (blk_simp [idx4 t] <;> try omega)

theorem arr5_2 (f : Fin 4096) (k : Fin 1024) : (dat5 V c).arrAt 2 cfg5.N (ix2 f k) = gram (P0 V c) (U0 V c) f k := by
  refine congrFun ((dat5 V c).arrAt_eq_of_covers 2 (fun j : S4096x1024.Idx => gram (P0 V c) (U0 V c) (j 0) (j 1)) (by decide +kernel) fun t hf y => ?_) (ix2 f k)
  blk_simp
  rw [after5_2]
  unfold outsAt5
  frame_out
  refine (congrArg _ (eq_ix2 y)).trans ((pay5_at _ _ _).trans (Eq.trans ?_ (congrArg₂ _ (x := ⟨t.val * 256 + (y 0).val, colP_lt N_5 t.isLt (y 0)⟩) (y := (y 1)) (Fin.ext ?_) (Fin.ext ?_))))
  · exact Finset.sum_congr rfl fun i _ => congrArg₂ (fun a b : EReal => a * b) (iblk5_0 V c t i _) (iblk5_1 V c t i _)
  all_goals (blk_simp [idx5 t] <;> try omega)

end Cert.Kernel3Ideal.Hgrn

end
-- ==== Proof.HgrnInDx.lean ====
module

public import proofs.«01_k».proof.Proof.HgrnCalls
public import proofs.«01_k».proof.Proof.FfnInDx

/-! The last call around the recurrence: the gradients of the rows and of the gain. -/

@[expose] public section

set_option maxRecDepth 16384

noncomputable section

namespace Cert.Kernel3Ideal.Hgrn

open Cert.Kernel3Ideal Cert.Kernel3Ideal.Gen Idealize.ShloMosaic Idealize.ShloMosaic.TcCoe Idealize.SL.Sem
open Idealize.ShloMosaic.Pipeline (Dat)
open Cert.Kernel2Ideal.Ffn (rowLen row_lt rowRstd dxRow dgTerm dxRow_eq dgTerm_eq sum_halves)

/-- The gradient of one normalised row: its projection's gradient against the weight. -/
def backRow (a : Fin 4096 → EReal) (w : Fin 4096 → Fin 1024 → EReal) (k : Fin 1024) : EReal := ∑ f : Fin 4096, a f * w f k

theorem backRow_eq {a a' : Fin 4096 → EReal} {w w' : Fin 4096 → Fin 1024 → EReal} (ha : ∀ f, a f = a' f) (hw : ∀ f k, w f k = w' f k) :
    backRow a w = backRow a' w' := by
  rw [funext ha, (funext fun f => funext (hw f) : w = w')]

section Payloads
variable (a : Vec Ideal S256x4096 .bf16) (w : Vec Ideal S4096x1024 .bf16) (h d : Vec Ideal S256x1024 .f32) (g acc : Vec Ideal S1x1024 .f32)

/-- The same, of arrays. -/
def backAt (i : Fin 256) : Fin 1024 → EReal := backRow (fun f => a (ix2 i f)) (fun f k => w (ix2 f k))

theorem lo5_at (j : S256x1024.Idx) : k6_pay10 (k6_pay5 h) (k6_pay6 h) (k6_pay8 a w g) d (k6_pay9 a w h g) (FloatOps.ofBits (F := Ideal) FTy.f32 1149239296#32) j
    = dxRow (fun k => d (ix2 (j 0) k)) (fun k => h (ix2 (j 0) k)) (backAt a w (j 0)) (fun k => g (ix2 0 k)) (j 1) := by
  pointwise [k6_pay10, k6_pay9, k6_pay8, k6_pay6, k6_pay5, k6_pay4, dxRow, backAt, backRow, rowRstd, rowLen, Cert.Kernel2Ideal.Ffn.guard]

theorem lo6_at (j : S256x1024.Idx) : k6_pay11 (k6_pay5 h) (k6_pay6 h) (k6_pay8 a w g) d (k6_pay9 a w h g) (FloatOps.ofBits (F := Ideal) FTy.f32 1149239296#32) j
    = dxRow (fun k => d (ix2 (j 0) k)) (fun k => h (ix2 (j 0) k)) (backAt a w (j 0)) (fun k => g (ix2 0 k)) (j 1) := by
  pointwise [k6_pay11, k6_pay10, k6_pay9, k6_pay8, k6_pay6, k6_pay5, k6_pay4, dxRow, backAt, backRow, rowRstd, rowLen, Cert.Kernel2Ideal.Ffn.guard]

theorem hi5_at (j : S256x1024.Idx) : k6_pay1 (k6_pay12 a w) (k6_pay13 h) (k6_pay14 h) (k6_pay16 g) d j
    = dxRow (fun k => d (ix2 (j 0) k)) (fun k => h (ix2 (j 0) k)) (backAt a w (j 0)) (fun k => g (ix2 0 k)) (j 1) := by
  pointwise [k6_pay1, k6_pay12, k6_pay13, k6_pay14, k6_pay16, dxRow, backAt, backRow, rowRstd, rowLen, Cert.Kernel2Ideal.Ffn.guard]

theorem hi6_at (j : S256x1024.Idx) : k6_pay2 (k6_pay12 a w) (k6_pay13 h) (k6_pay14 h) (k6_pay16 g) d j
    = dxRow (fun k => d (ix2 (j 0) k)) (fun k => h (ix2 (j 0) k)) (backAt a w (j 0)) (fun k => g (ix2 0 k)) (j 1) := by
  pointwise [k6_pay2, k6_pay1, k6_pay12, k6_pay13, k6_pay14, k6_pay16, dxRow, backAt, backRow, rowRstd, rowLen, Cert.Kernel2Ideal.Ffn.guard]

theorem lo7_at (j : S1x1024.Idx) : k6_pay7 a w h acc j = acc j + ∑ i : Fin 256, dgTerm (fun k => h (ix2 i k)) (backAt a w i) (j 1) := by
  pointwise [k6_pay7, k6_pay6, k6_pay5, k6_pay4, dgTerm, backAt, backRow, rowRstd, rowLen, Cert.Kernel2Ideal.Ffn.guard]

theorem hi7_at (j : S1x1024.Idx) : k6_pay15 a w h acc j = acc j + ∑ i : Fin 256, dgTerm (fun k => h (ix2 i k)) (backAt a w i) (j 1) := by
  pointwise [k6_pay15, k6_pay14, k6_pay13, k6_pay12, dgTerm, backAt, backRow, rowRstd, rowLen, Cert.Kernel2Ideal.Ffn.guard]

theorem zero7_at (j : S1x1024.Idx) : k6_pay3 (F := Ideal) j = 0 := by pointwise [k6_pay3]

end Payloads

theorem ld_lo1 (B : Vec Ideal S512x1024 .f32) (i : Fin 256) (k : Fin 1024) :
    View.ld B (Rect.unit ![0, 0] ![256, 1024] inb_S512x1024_S256x1024_0_0) (ix2 i k) = B (ix2 ⟨i.val, by omega⟩ k) := by
  pointwise []
  blk_ext

theorem ld_lo4 (B : Vec Ideal S512x4096 .bf16) (i : Fin 256) (k : Fin 4096) :
    View.ld B (Rect.unit ![0, 0] ![256, 4096] inb_S512x4096_S256x4096_0_0) (ix2 i k) = B (ix2 ⟨i.val, by omega⟩ k) := by
  pointwise []
  blk_ext

theorem ld_hi1 (B : Vec Ideal S512x1024 .f32) (i : Fin 256) (k : Fin 1024) :
    View.ld B (Rect.unit ![256, 0] ![256, 1024] inb_S512x1024_S256x1024_256_0) (ix2 i k) = B (ix2 ⟨256 + i.val, by omega⟩ k) := by
  pointwise []
  blk_ext

theorem ld_hi4 (B : Vec Ideal S512x4096 .bf16) (i : Fin 256) (k : Fin 4096) :
    View.ld B (Rect.unit ![256, 0] ![256, 4096] inb_S512x4096_S256x4096_256_0) (ix2 i k) = B (ix2 ⟨256 + i.val, by omega⟩ k) := by
  pointwise []
  blk_ext

variable (V : (c : Dev nD) → (b : Ref sig .tc) → Buf (Elt Ideal) ((c : Thread nD τ).loc b)) (c : Dev nD)

theorem idx6 : ∀ t : Fin cfg6.N, win6_0.index t = ![t.val, 0] ∧ win6_1.index t = ![0, 0] ∧ win6_2.index t = ![t.val, 0]
    ∧ win6_3.index t = ![t.val, 0] ∧ win6_4.index t = ![0, 0] ∧ win6_5.index t = ![t.val, 0] ∧ win6_6.index t = ![t.val, 0]
    ∧ win6_7.index t = ![0, 0] :=
  (by decide +kernel : ∀ t : Fin grid6.N, _)

theorem iblk6_0 (t : Fin cfg6.N) (i : Fin 512) (f : Fin 4096) :
    iblk6 V c 0 t (ix2 i f) = V c main_v5 (ix2 ⟨t.val * 512 + i.val, row_lt N_6 t.isLt i⟩ f) := by
  blk_point [iblk6, idx6 t]
theorem iblk6_1 (t : Fin cfg6.N) (f : Fin 4096) (k : Fin 1024) : iblk6 V c 1 t (ix2 f k) = V c main_v2 (ix2 f k) := by
  blk_point [iblk6, idx6 t]
theorem iblk6_2 (t : Fin cfg6.N) (i : Fin 512) (k : Fin 1024) :
    iblk6 V c 2 t (ix2 i k) = V c main_arg6 (ix2 ⟨t.val * 512 + i.val, row_lt N_6 t.isLt i⟩ k) := by
  blk_point [iblk6, idx6 t]
theorem iblk6_3 (t : Fin cfg6.N) (i : Fin 512) (k : Fin 1024) :
    iblk6 V c 3 t (ix2 i k) = V c main_arg0 (ix2 ⟨t.val * 512 + i.val, row_lt N_6 t.isLt i⟩ k) := by
  blk_point [iblk6, idx6 t]
theorem iblk6_4 (t : Fin cfg6.N) (k : Fin 1024) : iblk6 V c 4 t (ix2 0 k) = V c main_v0 (ix2 0 k) := by
  blk_point [iblk6, idx6 t]

/-- The gradient of the normalised rows, of the rows and of the gain, over all the rows. -/
def backOf (i : Fin 8192) : Fin 1024 → EReal := backRow (P0 V c i) (Wi V c)
def dxOf (i : Fin 8192) : Fin 1024 → EReal := dxRow (fun k => V c main_arg6 (ix2 i k)) (X0 V c i) (backOf V c i) (G0 V c)
def dgOf (i : Fin 8192) : Fin 1024 → EReal := dgTerm (X0 V c i) (backOf V c i)

theorem back_lo (t : Fin cfg6.N) (i : Fin 256) :
    backAt (View.ld (iblk6 V c 0 t) (Rect.unit ![0, 0] ![256, 4096] inb_S512x4096_S256x4096_0_0)) (iblk6 V c 1 t) i = backOf V c ⟨t.val * 512 + i.val, row_lt N_6 t.isLt ⟨i.val, by omega⟩⟩ :=
  backRow_eq (fun f => (ld_lo4 _ i f).trans (iblk6_0 V c t _ f)) (fun f k => iblk6_1 V c t f k)

theorem dx_lo (t : Fin cfg6.N) (i : Fin 256) (k : Fin 1024) :
    dxRow (fun k => View.ld (iblk6 V c 2 t) (Rect.unit ![0, 0] ![256, 1024] inb_S512x1024_S256x1024_0_0) (ix2 i k)) (fun k => View.ld (iblk6 V c 3 t) (Rect.unit ![0, 0] ![256, 1024] inb_S512x1024_S256x1024_0_0) (ix2 i k))
      (backAt (View.ld (iblk6 V c 0 t) (Rect.unit ![0, 0] ![256, 4096] inb_S512x4096_S256x4096_0_0)) (iblk6 V c 1 t) i) (fun k => iblk6 V c 4 t (ix2 0 k)) k
      = dxOf V c ⟨t.val * 512 + i.val, row_lt N_6 t.isLt ⟨i.val, by omega⟩⟩ k :=
  congrFun (dxRow_eq (fun k => (ld_lo1 _ i k).trans (iblk6_2 V c t _ k)) (fun k => (ld_lo1 _ i k).trans (iblk6_3 V c t _ k))
    (back_lo V c t i) (fun k => iblk6_4 V c t k)) k

theorem dg_lo (t : Fin cfg6.N) (i : Fin 256) (k : Fin 1024) :
    dgTerm (fun k => View.ld (iblk6 V c 3 t) (Rect.unit ![0, 0] ![256, 1024] inb_S512x1024_S256x1024_0_0) (ix2 i k))
      (backAt (View.ld (iblk6 V c 0 t) (Rect.unit ![0, 0] ![256, 4096] inb_S512x4096_S256x4096_0_0)) (iblk6 V c 1 t) i) k = dgOf V c ⟨t.val * 512 + i.val, row_lt N_6 t.isLt ⟨i.val, by omega⟩⟩ k :=
  congrFun (dgTerm_eq (fun k => (ld_lo1 _ i k).trans (iblk6_3 V c t _ k)) (back_lo V c t i)) k

theorem back_hi (t : Fin cfg6.N) (i : Fin 256) :
    backAt (View.ld (iblk6 V c 0 t) (Rect.unit ![256, 0] ![256, 4096] inb_S512x4096_S256x4096_256_0)) (iblk6 V c 1 t) i = backOf V c ⟨t.val * 512 + (256 + i.val), row_lt N_6 t.isLt ⟨256 + i.val, by omega⟩⟩ :=
  backRow_eq (fun f => (ld_hi4 _ i f).trans (iblk6_0 V c t _ f)) (fun f k => iblk6_1 V c t f k)

theorem dx_hi (t : Fin cfg6.N) (i : Fin 256) (k : Fin 1024) :
    dxRow (fun k => View.ld (iblk6 V c 2 t) (Rect.unit ![256, 0] ![256, 1024] inb_S512x1024_S256x1024_256_0) (ix2 i k)) (fun k => View.ld (iblk6 V c 3 t) (Rect.unit ![256, 0] ![256, 1024] inb_S512x1024_S256x1024_256_0) (ix2 i k))
      (backAt (View.ld (iblk6 V c 0 t) (Rect.unit ![256, 0] ![256, 4096] inb_S512x4096_S256x4096_256_0)) (iblk6 V c 1 t) i) (fun k => iblk6 V c 4 t (ix2 0 k)) k
      = dxOf V c ⟨t.val * 512 + (256 + i.val), row_lt N_6 t.isLt ⟨256 + i.val, by omega⟩⟩ k :=
  congrFun (dxRow_eq (fun k => (ld_hi1 _ i k).trans (iblk6_2 V c t _ k)) (fun k => (ld_hi1 _ i k).trans (iblk6_3 V c t _ k))
    (back_hi V c t i) (fun k => iblk6_4 V c t k)) k

theorem dg_hi (t : Fin cfg6.N) (i : Fin 256) (k : Fin 1024) :
    dgTerm (fun k => View.ld (iblk6 V c 3 t) (Rect.unit ![256, 0] ![256, 1024] inb_S512x1024_S256x1024_256_0) (ix2 i k))
      (backAt (View.ld (iblk6 V c 0 t) (Rect.unit ![256, 0] ![256, 4096] inb_S512x4096_S256x4096_256_0)) (iblk6 V c 1 t) i) k = dgOf V c ⟨t.val * 512 + (256 + i.val), row_lt N_6 t.isLt ⟨256 + i.val, by omega⟩⟩ k :=
  congrFun (dgTerm_eq (fun k => (ld_hi1 _ i k).trans (iblk6_3 V c t _ k)) (back_hi V c t i)) k

theorem outs5_at (t : Fin cfg6.N) (y : S512x1024.Idx) :
    (outsAt6 V c t.val t.isLt).1 y = dxOf V c ⟨t.val * 512 + (y 0).val, row_lt N_6 t.isLt (y 0)⟩ (y 1) := by
  by_cases h : t.val % 16 = 0
  · rw [outsAt6_A V c t h]
    frame_out
    canon_tiles x hx
    case piece0 =>
      refine (hi5_at _ _ _ _ _ x).trans ((dx_hi V c t (x 0) (x 1)).trans (congrArg₂ (dxOf V c) (Fin.ext ?_) (Fin.ext hx1.symm)))
      show t.val * 512 + (256 + (x 0).val) = _
      rw [← hx0]
    case piece1 =>
      refine (lo5_at _ _ _ _ _ x).trans ((dx_lo V c t (x 0) (x 1)).trans (congrArg₂ (dxOf V c) (Fin.ext ?_) (Fin.ext hx1.symm)))
      show t.val * 512 + (x 0).val = _
      rw [← hx0]
  · rw [outsAt6_B V c t h]
    frame_out
    canon_tiles x hx
    case piece0 =>
      refine (hi5_at _ _ _ _ _ x).trans ((dx_hi V c t (x 0) (x 1)).trans (congrArg₂ (dxOf V c) (Fin.ext ?_) (Fin.ext hx1.symm)))
      show t.val * 512 + (256 + (x 0).val) = _
      rw [← hx0]
    case piece1 =>
      refine (lo5_at _ _ _ _ _ x).trans ((dx_lo V c t (x 0) (x 1)).trans (congrArg₂ (dxOf V c) (Fin.ext ?_) (Fin.ext hx1.symm)))
      show t.val * 512 + (x 0).val = _
      rw [← hx0]

theorem outs6_at (t : Fin cfg6.N) (y : S512x1024.Idx) :
    (outsAt6 V c t.val t.isLt).2.1 y = dxOf V c ⟨t.val * 512 + (y 0).val, row_lt N_6 t.isLt (y 0)⟩ (y 1) := by
  by_cases h : t.val % 16 = 0
  · rw [outsAt6_A V c t h]
    frame_out
    canon_tiles x hx
    case piece0 =>
      refine (hi6_at _ _ _ _ _ x).trans ((dx_hi V c t (x 0) (x 1)).trans (congrArg₂ (dxOf V c) (Fin.ext ?_) (Fin.ext hx1.symm)))
      show t.val * 512 + (256 + (x 0).val) = _
      rw [← hx0]
    case piece1 =>
      refine (lo6_at _ _ _ _ _ x).trans ((dx_lo V c t (x 0) (x 1)).trans (congrArg₂ (dxOf V c) (Fin.ext ?_) (Fin.ext hx1.symm)))
      show t.val * 512 + (x 0).val = _
      rw [← hx0]
  · rw [outsAt6_B V c t h]
    frame_out
    canon_tiles x hx
    case piece0 =>
      refine (hi6_at _ _ _ _ _ x).trans ((dx_hi V c t (x 0) (x 1)).trans (congrArg₂ (dxOf V c) (Fin.ext ?_) (Fin.ext hx1.symm)))
      show t.val * 512 + (256 + (x 0).val) = _
      rw [← hx0]
    case piece1 =>
      refine (lo6_at _ _ _ _ _ x).trans ((dx_lo V c t (x 0) (x 1)).trans (congrArg₂ (dxOf V c) (Fin.ext ?_) (Fin.ext hx1.symm)))
      show t.val * 512 + (x 0).val = _
      rw [← hx0]

/-- What one point adds to the gradient of the gain. -/
def dgPart (t : Fin cfg6.N) (k : Fin 1024) : EReal :=
  ∑ i : Fin 512, dgOf V c ⟨t.val * 512 + i.val, row_lt N_6 t.isLt i⟩ k

theorem dg_halves (t : Fin cfg6.N) (k : Fin 1024) :
    (∑ i : Fin 256, dgOf V c ⟨t.val * 512 + i.val, row_lt N_6 t.isLt ⟨i.val, by omega⟩⟩ k)
      + ∑ i : Fin 256, dgOf V c ⟨t.val * 512 + (256 + i.val), row_lt N_6 t.isLt ⟨256 + i.val, by omega⟩⟩ k = dgPart V c t k :=
  sum_halves (fun i => dgOf V c ⟨t.val * 512 + i.val, row_lt N_6 t.isLt i⟩ k)

theorem outs7_A (t : Fin cfg6.N) (h : t.val % 16 = 0) (y : S1x1024.Idx) :
    (outsAt6 V c t.val t.isLt).2.2 y = 0 + dgPart V c t (y 1) := by
  rw [outsAt6_A V c t h]
  frame_out
  refine (hi7_at _ _ _ _ _).trans ?_
  refine (congrArg₂ (fun a b : EReal => a + b) ((lo7_at _ _ _ _ _).trans (congrArg₂ (fun a b : EReal => a + b) (zero7_at _)
    (Finset.sum_congr rfl fun i _ => dg_lo V c t i (y 1)))) (Finset.sum_congr rfl fun i _ => dg_hi V c t i (y 1))).trans ?_
  exact (add_assoc (G := EReal) _ _ _).trans (congrArg (fun a : EReal => _ + a) (dg_halves V c t (y 1)))

theorem outs7_B (t : Fin cfg6.N) (h : ¬ t.val % 16 = 0) (y : S1x1024.Idx) :
    (outsAt6 V c t.val t.isLt).2.2 y
      = (outsAt6 V c (t.val - 1) (Nat.lt_of_le_of_lt (Nat.sub_le _ _) t.isLt)).2.2 y + dgPart V c t (y 1) := by
  rw [outsAt6_B V c t h]
  frame_out
  refine (hi7_at _ _ _ _ _).trans ?_
  refine (congrArg₂ (fun a b : EReal => a + b) ((lo7_at _ _ _ _ _).trans (congrArg₂ (fun a b : EReal => a + b) rfl
    (Finset.sum_congr rfl fun i _ => dg_lo V c t i (y 1)))) (Finset.sum_congr rfl fun i _ => dg_hi V c t i (y 1))).trans ?_
  exact (add_assoc (G := EReal) _ _ _).trans (congrArg (fun a : EReal => _ + a) (dg_halves V c t (y 1)))

theorem arr6_5 (i : Fin 8192) (k : Fin 1024) : (dat6 V c).arrAt 5 cfg6.N (ix2 i k) = dxOf V c i k := by
  refine congrFun ((dat6 V c).arrAt_eq_of_covers 5 (fun j : S8192x1024.Idx => dxOf V c (j 0) (j 1)) (by decide +kernel) fun t hf y => ?_) (ix2 i k)
  blk_simp
  rw [after6_5]
  refine (outs5_at V c t y).trans (congrArg₂ (dxOf V c) (Fin.ext ?_) (Fin.ext ?_))
  all_goals (blk_simp [idx6 t] <;> try omega)

theorem arr6_6 (i : Fin 8192) (k : Fin 1024) : (dat6 V c).arrAt 6 cfg6.N (ix2 i k) = dxOf V c i k := by
  refine congrFun ((dat6 V c).arrAt_eq_of_covers 6 (fun j : S8192x1024.Idx => dxOf V c (j 0) (j 1)) (by decide +kernel) fun t hf y => ?_) (ix2 i k)
  blk_simp
  rw [after6_6]
  refine (outs6_at V c t y).trans (congrArg₂ (dxOf V c) (Fin.ext ?_) (Fin.ext ?_))
  all_goals (blk_simp [idx6 t] <;> try omega)

/-- The gradient of the gain. -/
def dgTotal (k : Fin 1024) : EReal := ∑ i : Fin 8192, dgOf V c i k

theorem outs7_last (j : S1x1024.Idx) : (outsAt6 V c t6_15.val t6_15.isLt).2.2 j = dgTotal V c (j 1) :=
  (Pipeline.eq_sum_fin_of_reset_step_apply_last (M := EReal) (ι := S1x1024.Idx) (fun n h => (outsAt6 V c n h).2.2) 16 (fun _ => 0)
    (fun p j => dgPart V c p (j 1)) (fun t h j => outs7_A V c t h j) (fun t h j => outs7_B V c t h j) (le_of_eq N_6) t6_15 rfl j).trans
    ((zero_add (M := EReal) _).trans (Fin.sum_mul_add_congr (fun s k hl => rfl)
      ((congrArg (· * 512) N_6).symm : 8192 = cfg6.N * 512)))

theorem arr6_7 (k : Fin 1024) : (dat6 V c).arrAt 7 cfg6.N (ix2 0 k) = dgTotal V c k := by
  refine congrFun ((dat6 V c).arrAt_eq_of_after_last 7 t6_15 (by decide +kernel) (fun j : S1x1024.Idx => dgTotal V c (j 1)) fun j => ?_) (ix2 0 k)
  blk_simp
  rw [after6_7]
  exact outs7_last V c j

end Cert.Kernel3Ideal.Hgrn

end
-- ==== Proof.HgrnSpec.lean ====
module

public import proofs.«01_k».proof.Proof.HgrnInDx

/-! The eight results around the recurrence as functions of the arguments. -/

@[expose] public section

noncomputable section

namespace Cert.Kernel3Ideal.Hgrn

open Idealize.ShloMosaic
open Cert.Kernel2Ideal.Ffn (normed prod gram dxRow dgTerm)

/-- The arguments: the rows, the gain, the weight into the recurrence and the weight out of it, what the recurrence hands over,
    the gradient of what it takes, and the gradient of the result. -/
structure Args where
  x : Fin 8192 → Fin 1024 → EReal
  g : Fin 1024 → EReal
  wi : Fin 1024 → Fin 4096 → EReal
  wo : Fin 1024 → Fin 1024 → EReal
  o : Fin 8192 → Fin 1024 → EReal
  p : Fin 8192 → Fin 4096 → EReal
  e : Fin 8192 → Fin 1024 → EReal

namespace Args

variable (A : Args)

/-- The weight into the recurrence, a row for each column of the projection. -/
def rowsWi (f : Fin 4096) (k : Fin 1024) : EReal := A.wi k f

/-- The forward: the normalised rows, the projection and the result. -/
def nrm : Fin 8192 → Fin 1024 → EReal := normed A.x A.g
def proj : Fin 8192 → Fin 4096 → EReal := prod A.nrm A.rowsWi
def out : Fin 8192 → Fin 1024 → EReal := outOf A.o A.wo A.x

/-- The backward. -/
def dO : Fin 8192 → Fin 1024 → EReal := prod A.e A.wo
def dOut : Fin 1024 → Fin 1024 → EReal := gram A.o A.e
def dIn : Fin 4096 → Fin 1024 → EReal := gram A.p A.nrm
def dnrm (i : Fin 8192) : Fin 1024 → EReal := backRow (A.p i) A.rowsWi
def dx (i : Fin 8192) : Fin 1024 → EReal := dxRow (A.e i) (A.x i) (A.dnrm i) A.g
def dgain (k : Fin 1024) : EReal := ∑ i : Fin 8192, dgTerm (A.x i) (A.dnrm i) k

end Args

end Cert.Kernel3Ideal.Hgrn

end
-- ==== Proof.HgrnRun.lean ====
module

public import proofs.«01_k».proof.Proof.HgrnSpec
public import Idealize.ShloMosaic.Lib.Claim

/-! From the launch to the eight results: what each call around the recurrence finds in its arrays and leaves in them. -/

@[expose] public section

set_option maxRecDepth 16384

noncomputable section

namespace Cert.Kernel3Ideal.Hgrn

open Cert.Kernel3Ideal Cert.Kernel3Ideal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Ffn (normed prod gram dxRow dgTerm dxRow_eq dgTerm_eq)

section Launch
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, leaves its arguments as they were, and its results are what the last boundary holds. -/
theorem run_results : θ_run defs (onTc (τ := τ) (main (F := F))) ⟨m, fun _ => 0, ρ⟩ (fun r => ∀ c : Dev nD,
      r.2.mem ((c.tc : Thread nD τ).loc main_v8) = W8 m ρ c (Proc.devRef .tc main_v8)
      ∧ r.2.mem ((c.tc : Thread nD τ).loc main_v9) = W8 m ρ c (Proc.devRef .tc main_v9)
      ∧ r.2.mem ((c.tc : Thread nD τ).loc main_v10) = W8 m ρ c (Proc.devRef .tc main_v10)
      ∧ r.2.mem ((c.tc : Thread nD τ).loc main_v13_0) = W8 m ρ c (Proc.devRef .tc main_v13_0)
      ∧ r.2.mem ((c.tc : Thread nD τ).loc main_v13_1) = W8 m ρ c (Proc.devRef .tc main_v13_1)
      ∧ r.2.mem ((c.tc : Thread nD τ).loc main_v13_2) = W8 m ρ c (Proc.devRef .tc main_v13_2)
      ∧ r.2.mem ((c.tc : Thread nD τ).loc main_v12) = W8 m ρ c (Proc.devRef .tc main_v12)
      ∧ r.2.mem ((c.tc : Thread nD τ).loc main_v11) = W8 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c =>
      ⟨h c _ (mem_uc main_v8 (by decide)),
       h c _ (mem_uc main_v9 (by decide)),
       h c _ (mem_uc main_v10 (by decide)),
       h c _ (mem_uc main_v13_0 (by decide)),
       h c _ (mem_uc main_v13_1 (by decide)),
       h c _ (mem_uc main_v13_2 (by decide)),
       h c _ (mem_uc main_v12 (by decide)),
       h c _ (mem_uc main_v11 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)
end Launch

variable (m : (ℓ : Loc nD τ sig) → Buf (Elt Ideal) ℓ) (ρ : Dev nD → PrngReg) (c : Dev nD)

/-- The arguments as launched. -/
def argsOf : Args where
  x i k := m ((c : Thread nD τ).loc main_arg0) (ix2 i k)
  g k := m ((c : Thread nD τ).loc main_arg1) (ix1 k)
  wi k f := m ((c : Thread nD τ).loc main_arg2) (ix2 k f)
  wo f k := m ((c : Thread nD τ).loc main_arg3) (ix2 f k)
  o i f := m ((c : Thread nD τ).loc main_arg4) (ix2 i f)
  p i f := m ((c : Thread nD τ).loc main_arg5) (ix2 i f)
  e i k := m ((c : Thread nD τ).loc main_arg6) (ix2 i k)

/-! What the host operations leave in the arrays the calls read. -/

theorem g_1 (k : Fin 1024) : (V1 m ρ c main_v0 : FVec Ideal S1x1024 .f32) (ix2 0 k) = (argsOf m c).g k := by
  unfold V1 W1
  after_results
  pointwise [argsOf]
theorem wi_1 (f : Fin 4096) (k : Fin 1024) : (V1 m ρ c main_v2 : FVec Ideal S4096x1024 .bf16) (ix2 f k) = (argsOf m c).rowsWi f k := by
  unfold V1 W1
  after_results
  pointwise [argsOf, Args.rowsWi]
theorem wo_1 (f : Fin 1024) (k : Fin 1024) : (V1 m ρ c main_v3 : FVec Ideal S1024x1024 .bf16) (ix2 f k) = (argsOf m c).wo f k := by
  unfold V1 W1
  after_results
  pointwise [argsOf]
theorem o_1 (i : Fin 8192) (k : Fin 1024) : (V1 m ρ c main_v4 : FVec Ideal S8192x1024 .bf16) (ix2 i k) = (argsOf m c).o i k := by
  unfold V1 W1
  after_results
  pointwise [argsOf]
theorem p_1 (i : Fin 8192) (f : Fin 4096) : (V1 m ρ c main_v5 : FVec Ideal S8192x4096 .bf16) (ix2 i f) = (argsOf m c).p i f := by
  unfold V1 W1
  after_results
  pointwise [argsOf]
theorem e_1 (i : Fin 8192) (k : Fin 1024) : (V1 m ρ c main_v6 : FVec Ideal S8192x1024 .bf16) (ix2 i k) = (argsOf m c).e i k := by
  unfold V1 W1
  after_results
  pointwise [argsOf]
theorem x_1 : X0 (V1 m ρ) c = (argsOf m c).x := funext fun i => funext fun k => congrFun (W1_args m ρ c main_arg0 (by decide)) (ix2 i k)
theorem x_2 : X0 (V2 m ρ) c = (argsOf m c).x := funext fun i => funext fun k => congrFun (W2_args m ρ c main_arg0 (by decide)) (ix2 i k)
theorem x_3 : X0 (V3 m ρ) c = (argsOf m c).x := funext fun i => funext fun k => congrFun (W3_args m ρ c main_arg0 (by decide)) (ix2 i k)
theorem x_4 : X0 (V4 m ρ) c = (argsOf m c).x := funext fun i => funext fun k => congrFun (W4_args m ρ c main_arg0 (by decide)) (ix2 i k)
theorem x_5 : X0 (V5 m ρ) c = (argsOf m c).x := funext fun i => funext fun k => congrFun (W5_args m ρ c main_arg0 (by decide)) (ix2 i k)
theorem x_6 : X0 (V6 m ρ) c = (argsOf m c).x := funext fun i => funext fun k => congrFun (W6_args m ρ c main_arg0 (by decide)) (ix2 i k)
theorem x_7 : X0 (V7 m ρ) c = (argsOf m c).x := funext fun i => funext fun k => congrFun (W7_args m ρ c main_arg0 (by decide)) (ix2 i k)
theorem u_1 : normed (X0 (V1 m ρ) c) (G0 (V1 m ρ) c) = (argsOf m c).nrm := by
  rw [x_1, (funext (g_1 m ρ c) : G0 (V1 m ρ) c = _)]
  rfl

/-! The same arrays at the later calls: no call between writes them. -/

theorem u_2 (i : Fin 8192) (k : Fin 1024) : V2 m ρ c main_v7 (ix2 i k) = (argsOf m c).nrm i k :=
  (congrFun (W2_arr m ρ c 2) (ix2 i k)).trans ((arr0_2 (V1 m ρ) c i k).trans (congrFun (congrFun (u_1 m ρ c) i) k))
theorem wi_2 (f : Fin 4096) (k : Fin 1024) : V2 m ρ c main_v2 (ix2 f k) = (argsOf m c).rowsWi f k :=
  (congrFun (W2_of m ρ c main_v2 (by decide +kernel)) (ix2 f k)).trans (wi_1 m ρ c f k)
theorem wi_7 (f : Fin 4096) (k : Fin 1024) : V7 m ρ c main_v2 (ix2 f k) = (argsOf m c).rowsWi f k :=
  (congrFun (W7_of m ρ c main_v2 (by decide +kernel)) (ix2 f k)).trans ((congrFun (W6_of m ρ c main_v2 (by decide +kernel)) (ix2 f k)).trans ((congrFun (W5_of m ρ c main_v2 (by decide +kernel)) (ix2 f k)).trans ((congrFun (W4_of m ρ c main_v2 (by decide +kernel)) (ix2 f k)).trans ((congrFun (W3_of m ρ c main_v2 (by decide +kernel)) (ix2 f k)).trans (wi_2 m ρ c f k)))))
theorem o_3 (i : Fin 8192) (k : Fin 1024) : V3 m ρ c main_v4 (ix2 i k) = (argsOf m c).o i k :=
  (congrFun (W3_of m ρ c main_v4 (by decide +kernel)) (ix2 i k)).trans ((congrFun (W2_of m ρ c main_v4 (by decide +kernel)) (ix2 i k)).trans (o_1 m ρ c i k))
theorem o_5 (i : Fin 8192) (k : Fin 1024) : V5 m ρ c main_v4 (ix2 i k) = (argsOf m c).o i k :=
  (congrFun (W5_of m ρ c main_v4 (by decide +kernel)) (ix2 i k)).trans ((congrFun (W4_of m ρ c main_v4 (by decide +kernel)) (ix2 i k)).trans (o_3 m ρ c i k))
theorem wo_3 (f : Fin 1024) (k : Fin 1024) : V3 m ρ c main_v3 (ix2 f k) = (argsOf m c).wo f k :=
  (congrFun (W3_of m ρ c main_v3 (by decide +kernel)) (ix2 f k)).trans ((congrFun (W2_of m ρ c main_v3 (by decide +kernel)) (ix2 f k)).trans (wo_1 m ρ c f k))
theorem wo_4 (f : Fin 1024) (k : Fin 1024) : V4 m ρ c main_v3 (ix2 f k) = (argsOf m c).wo f k :=
  (congrFun (W4_of m ρ c main_v3 (by decide +kernel)) (ix2 f k)).trans (wo_3 m ρ c f k)
theorem e_4 (i : Fin 8192) (k : Fin 1024) : V4 m ρ c main_v6 (ix2 i k) = (argsOf m c).e i k :=
  (congrFun (W4_of m ρ c main_v6 (by decide +kernel)) (ix2 i k)).trans ((congrFun (W3_of m ρ c main_v6 (by decide +kernel)) (ix2 i k)).trans ((congrFun (W2_of m ρ c main_v6 (by decide +kernel)) (ix2 i k)).trans (e_1 m ρ c i k)))
theorem e_5 (i : Fin 8192) (k : Fin 1024) : V5 m ρ c main_v6 (ix2 i k) = (argsOf m c).e i k :=
  (congrFun (W5_of m ρ c main_v6 (by decide +kernel)) (ix2 i k)).trans (e_4 m ρ c i k)
theorem p_6 (i : Fin 8192) (f : Fin 4096) : V6 m ρ c main_v5 (ix2 i f) = (argsOf m c).p i f :=
  (congrFun (W6_of m ρ c main_v5 (by decide +kernel)) (ix2 i f)).trans ((congrFun (W5_of m ρ c main_v5 (by decide +kernel)) (ix2 i f)).trans ((congrFun (W4_of m ρ c main_v5 (by decide +kernel)) (ix2 i f)).trans ((congrFun (W3_of m ρ c main_v5 (by decide +kernel)) (ix2 i f)).trans ((congrFun (W2_of m ρ c main_v5 (by decide +kernel)) (ix2 i f)).trans (p_1 m ρ c i f)))))
theorem p_7 (i : Fin 8192) (f : Fin 4096) : V7 m ρ c main_v5 (ix2 i f) = (argsOf m c).p i f :=
  (congrFun (W7_of m ρ c main_v5 (by decide +kernel)) (ix2 i f)).trans (p_6 m ρ c i f)
theorem u_6 (i : Fin 8192) (k : Fin 1024) : V6 m ρ c main_v7 (ix2 i k) = (argsOf m c).nrm i k :=
  (congrFun (W6_of m ρ c main_v7 (by decide +kernel)) (ix2 i k)).trans ((congrFun (W5_of m ρ c main_v7 (by decide +kernel)) (ix2 i k)).trans ((congrFun (W4_of m ρ c main_v7 (by decide +kernel)) (ix2 i k)).trans ((congrFun (W3_of m ρ c main_v7 (by decide +kernel)) (ix2 i k)).trans (u_2 m ρ c i k))))
theorem g_7 (k : Fin 1024) : V7 m ρ c main_v0 (ix2 0 k) = (argsOf m c).g k :=
  (congrFun (W7_of m ρ c main_v0 (by decide +kernel)) (ix2 0 k)).trans ((congrFun (W6_of m ρ c main_v0 (by decide +kernel)) (ix2 0 k)).trans ((congrFun (W5_of m ρ c main_v0 (by decide +kernel)) (ix2 0 k)).trans ((congrFun (W4_of m ρ c main_v0 (by decide +kernel)) (ix2 0 k)).trans ((congrFun (W3_of m ρ c main_v0 (by decide +kernel)) (ix2 0 k)).trans ((congrFun (W2_of m ρ c main_v0 (by decide +kernel)) (ix2 0 k)).trans (g_1 m ρ c k))))))

/-! The eight results. -/

theorem back_7 (i : Fin 8192) : backOf (V7 m ρ) c i = (argsOf m c).dnrm i := backRow_eq (fun f => p_7 m ρ c i f) (fun f k => wi_7 m ρ c f k)
theorem dx_7 (i : Fin 8192) (k : Fin 1024) : dxOf (V7 m ρ) c i k = (argsOf m c).dx i k :=
  congrFun (dxRow_eq (fun k => congrFun (W7_args m ρ c main_arg6 (by decide)) (ix2 i k)) (fun k => congrFun (congrFun (x_7 m ρ c) i) k)
    (back_7 m ρ c i) (fun k => g_7 m ρ c k)) k
theorem dg_7 (k : Fin 1024) : dgTotal (V7 m ρ) c k = (argsOf m c).dgain k :=
  Finset.sum_congr rfl fun i _ => congrFun (dgTerm_eq (fun k => congrFun (congrFun (x_7 m ρ c) i) k) (back_7 m ρ c i)) k

theorem res_proj (i : Fin 8192) (f : Fin 4096) : W8 m ρ c (Proc.devRef .tc main_v8) (ix2 i f) = (argsOf m c).proj i f :=
  (congrFun (W8_of m ρ c main_v8 (by decide +kernel)) (ix2 i f)).trans ((congrFun (W7_of m ρ c main_v8 (by decide +kernel)) (ix2 i f)).trans ((congrFun (W6_of m ρ c main_v8 (by decide +kernel)) (ix2 i f)).trans ((congrFun (W5_of m ρ c main_v8 (by decide +kernel)) (ix2 i f)).trans ((congrFun (W4_of m ρ c main_v8 (by decide +kernel)) (ix2 i f)).trans ((congrFun (W3_arr m ρ c 2) (ix2 i f)).trans ((arr1_2 (V2 m ρ) c i f).trans (congrFun (congrFun (congrArg₂ prod (funext fun a => funext fun b => u_2 m ρ c a b) (funext fun a => funext fun b => wi_2 m ρ c a b)) i) f)))))))
theorem res_out (i : Fin 8192) (k : Fin 1024) : W8 m ρ c (Proc.devRef .tc main_v9) (ix2 i k) = (argsOf m c).out i k :=
  (congrFun (W8_of m ρ c main_v9 (by decide +kernel)) (ix2 i k)).trans ((congrFun (W7_of m ρ c main_v9 (by decide +kernel)) (ix2 i k)).trans ((congrFun (W6_of m ρ c main_v9 (by decide +kernel)) (ix2 i k)).trans ((congrFun (W5_of m ρ c main_v9 (by decide +kernel)) (ix2 i k)).trans ((congrFun (W4_arr m ρ c 3) (ix2 i k)).trans ((arr2_3 (V3 m ρ) c i k).trans
    (congrArg₂ (fun a b : EReal => a + b) (Finset.sum_congr rfl fun f _ => congrArg₂ (fun a b : EReal => a * b) (o_3 m ρ c i f) (wo_3 m ρ c f k))
      (congrFun (congrFun (x_3 m ρ c) i) k)))))))
theorem res_dO (i : Fin 8192) (k : Fin 1024) : W8 m ρ c (Proc.devRef .tc main_v10) (ix2 i k) = (argsOf m c).dO i k :=
  (congrFun (W8_of m ρ c main_v10 (by decide +kernel)) (ix2 i k)).trans ((congrFun (W7_of m ρ c main_v10 (by decide +kernel)) (ix2 i k)).trans ((congrFun (W6_of m ρ c main_v10 (by decide +kernel)) (ix2 i k)).trans ((congrFun (W5_arr m ρ c 2) (ix2 i k)).trans ((arr3_2 (V4 m ρ) c i k).trans (congrFun (congrFun (congrArg₂ prod (funext fun a => funext fun b => e_4 m ρ c a b) (funext fun a => funext fun b => wo_4 m ρ c a b)) i) k)))))
theorem res_dOut (f : Fin 1024) (k : Fin 1024) : W8 m ρ c (Proc.devRef .tc main_v11) (ix2 f k) = (argsOf m c).dOut f k :=
  (congrFun (W8_of m ρ c main_v11 (by decide +kernel)) (ix2 f k)).trans ((congrFun (W7_of m ρ c main_v11 (by decide +kernel)) (ix2 f k)).trans ((congrFun (W6_arr m ρ c 2) (ix2 f k)).trans ((arr4_2 (V5 m ρ) c f k).trans (congrFun (congrFun (congrArg₂ gram (funext fun a => funext fun b => o_5 m ρ c a b) (funext fun a => funext fun b => e_5 m ρ c a b)) f) k))))
theorem res_dIn (f : Fin 4096) (k : Fin 1024) : W8 m ρ c (Proc.devRef .tc main_v12) (ix2 f k) = (argsOf m c).dIn f k :=
  (congrFun (W8_of m ρ c main_v12 (by decide +kernel)) (ix2 f k)).trans ((congrFun (W7_arr m ρ c 2) (ix2 f k)).trans ((arr5_2 (V6 m ρ) c f k).trans (congrFun (congrFun (congrArg₂ gram (funext fun a => funext fun b => p_6 m ρ c a b) (funext fun a => funext fun b => u_6 m ρ c a b)) f) k)))
theorem res_dx (i : Fin 8192) (k : Fin 1024) : W8 m ρ c (Proc.devRef .tc main_v13_0) (ix2 i k) = (argsOf m c).dx i k :=
  (congrFun (W8_arr m ρ c 5) (ix2 i k)).trans ((arr6_5 (V7 m ρ) c i k).trans (dx_7 m ρ c i k))
theorem res_dxb (i : Fin 8192) (k : Fin 1024) : W8 m ρ c (Proc.devRef .tc main_v13_1) (ix2 i k) = (argsOf m c).dx i k :=
  (congrFun (W8_arr m ρ c 6) (ix2 i k)).trans ((arr6_6 (V7 m ρ) c i k).trans (dx_7 m ρ c i k))
theorem res_dg (k : Fin 1024) : W8 m ρ c (Proc.devRef .tc main_v13_2) (ix2 0 k) = (argsOf m c).dgain k :=
  (congrFun (W8_arr m ρ c 7) (ix2 0 k)).trans ((arr6_7 (V7 m ρ) c k).trans (dg_7 m ρ c k))

end Cert.Kernel3Ideal.Hgrn

end
-- ==== Proof.HeadCall.lean ====
module

public import proofs.«01_k».proof.Proof.Gen.Kernel5Ideal.Frame
public import proofs.«01_k».proof.Proof.FfnInDx
public import Idealize.ShloMosaic.Lib.Pipeline.ValueKit
public import Idealize.ShloMosaic.Lib.Pipeline.ValueKit.Point

/-! The last output product with the loss head: what the call leaves in its four arrays. -/

@[expose] public section

set_option maxRecDepth 16384

noncomputable section

namespace Cert.Kernel5Ideal.Head

open Cert.Kernel5Ideal Cert.Kernel5Ideal.Gen Idealize.ShloMosaic Idealize.ShloMosaic.TcCoe Idealize.SL.Sem
open Idealize.ShloMosaic.Pipeline (Dat)
open Cert.Kernel2Ideal.Ffn (rowLen row_lt rowRstd dxRow dgTerm dxRow_eq dgTerm_eq sum_halves)

/-- One part in 1024, and half of it. -/
def part : EReal := Ideal.ofBits .f32 0x3A800000#32
def halfPart : EReal := Ideal.ofBits .f32 0x3A000000#32

/-- One row after the output product and the residual. -/
def hidRow (a : Fin 2816 → EReal) (w : Fin 2816 → Fin 1024 → EReal) (h : Fin 1024 → EReal) (k : Fin 1024) : EReal :=
  (∑ f : Fin 2816, a f * w f k) + h k

/-- One row's distance from the target after the norm. -/
def errRow (x g t : Fin 1024 → EReal) (k : Fin 1024) : EReal := x k * rowRstd x * g k - t k

/-- The gradient of one normalised row. -/
def dyRow (x g t : Fin 1024 → EReal) (k : Fin 1024) : EReal := errRow x g t k * part

/-- The gradient of one row. -/
def dhRow (x g t : Fin 1024 → EReal) (k : Fin 1024) : EReal :=
  rowRstd x * (dyRow x g t k * g k - x k * rowRstd x * Ideal.div (∑ l : Fin 1024, dyRow x g t l * g l * (x l * rowRstd x)) rowLen)

theorem hidRow_eq {a a' : Fin 2816 → EReal} {w w' : Fin 2816 → Fin 1024 → EReal} {h h' : Fin 1024 → EReal} (ha : ∀ f, a f = a' f)
    (hw : ∀ f k, w f k = w' f k) (hh : ∀ k, h k = h' k) : hidRow a w h = hidRow a' w' h' := by
  rw [funext ha, (funext fun f => funext (hw f) : w = w'), funext hh]

section Payloads
variable (a : Vec Ideal S256x2816 .bf16) (w : Vec Ideal S2816x1024 .bf16) (h t : Vec Ideal S256x1024 .f32) (g acc : Vec Ideal S1x1024 .f32)

/-- The rows after the product, of arrays. -/
def hidAt (i : Fin 256) : Fin 1024 → EReal := hidRow (fun f => a (ix2 i f)) (fun f k => w (ix2 f k)) (fun k => h (ix2 i k))
def errAt (i : Fin 256) : Fin 1024 → EReal := errRow (hidAt a w h i) (fun k => g (ix2 0 k)) (fun k => t (ix2 i k))
def dhAt (i : Fin 256) : Fin 1024 → EReal := dhRow (hidAt a w h i) (fun k => g (ix2 0 k)) (fun k => t (ix2 i k))
def dgAt (i : Fin 256) : Fin 1024 → EReal := dgTerm (hidAt a w h i) (dyRow (hidAt a w h i) (fun k => g (ix2 0 k)) (fun k => t (ix2 i k)))

theorem loHid_at (j : S256x1024.Idx) : k0_pay5 a w h j = hidAt a w h (j 0) (j 1) := by
  pointwise [k0_pay5, hidAt, hidRow]
theorem hiHid_at (j : S256x1024.Idx) : k0_pay15 a w h j = hidAt a w h (j 0) (j 1) := by
  pointwise [k0_pay15, hidAt, hidRow]
theorem loErr_at (j : S256x1024.Idx) : k0_pay9 a w h g t j = errAt a w h t g (j 0) (j 1) := by
  pointwise [k0_pay9, k0_pay8, k0_pay7, k0_pay6, k0_pay5, errAt, hidAt, hidRow, errRow, rowRstd, rowLen, Cert.Kernel2Ideal.Ffn.guard]
theorem hiErr_at (j : S256x1024.Idx) : k0_pay20 (k0_pay15 a w h) (k0_pay16 g) (k0_pay17 a w h) t j = errAt a w h t g (j 0) (j 1) := by
  pointwise [k0_pay20, k0_pay19, k0_pay18, k0_pay17, k0_pay16, k0_pay15, errAt, hidAt, hidRow, errRow, rowRstd, rowLen, Cert.Kernel2Ideal.Ffn.guard]
theorem lo5_at (j : S256x1024.Idx) : k0_pay13 (k0_pay6 g) (k0_pay7 a w h) (k0_pay8 a w h) (k0_pay9 a w h g t) j = dhAt a w h t g (j 0) (j 1) := by
  pointwise [k0_pay13, k0_pay11, k0_pay9, k0_pay8, k0_pay7, k0_pay6, k0_pay5, dhAt, dhRow, dyRow, part, hidAt, hidRow, errRow, rowRstd, rowLen, Cert.Kernel2Ideal.Ffn.guard]
theorem lo6_at (j : S256x1024.Idx) : k0_pay14 (k0_pay6 g) (k0_pay7 a w h) (k0_pay8 a w h) (k0_pay9 a w h g t) j = dhAt a w h t g (j 0) (j 1) := by
  pointwise [k0_pay14, k0_pay13, k0_pay11, k0_pay9, k0_pay8, k0_pay7, k0_pay6, k0_pay5, dhAt, dhRow, dyRow, part, hidAt, hidRow, errRow, rowRstd, rowLen, Cert.Kernel2Ideal.Ffn.guard]
theorem hi5_at (j : S256x1024.Idx) : k0_pay1 (k0_pay18 (k0_pay17 a w h)) (k0_pay24 (k0_pay15 a w h) (k0_pay16 g) (k0_pay17 a w h) t) j = dhAt a w h t g (j 0) (j 1) := by
  pointwise [k0_pay1, k0_pay24, k0_pay22, k0_pay20, k0_pay19, k0_pay18, k0_pay17, k0_pay16, k0_pay15, dhAt, dhRow, dyRow, part, hidAt, hidRow, errRow, rowRstd, rowLen, Cert.Kernel2Ideal.Ffn.guard]
theorem hi6_at (j : S256x1024.Idx) : k0_pay2 (k0_pay18 (k0_pay17 a w h)) (k0_pay24 (k0_pay15 a w h) (k0_pay16 g) (k0_pay17 a w h) t) j = dhAt a w h t g (j 0) (j 1) := by
  pointwise [k0_pay2, k0_pay1, k0_pay24, k0_pay22, k0_pay20, k0_pay19, k0_pay18, k0_pay17, k0_pay16, k0_pay15, dhAt, dhRow, dyRow, part, hidAt, hidRow, errRow, rowRstd, rowLen, Cert.Kernel2Ideal.Ffn.guard]
theorem lo7_at (j : S1x1024.Idx) : k0_pay12 (k0_pay8 a w h) (k0_pay9 a w h g t) acc j = acc j + ∑ i : Fin 256, dgAt a w h t g i (j 1) := by
  pointwise [k0_pay12, k0_pay11, k0_pay9, k0_pay8, k0_pay7, k0_pay6, k0_pay5, dgAt, dgTerm, dyRow, part, hidAt, hidRow, errRow, rowRstd, rowLen, Cert.Kernel2Ideal.Ffn.guard]
theorem hi7_at (j : S1x1024.Idx) : k0_pay23 (k0_pay15 a w h) (k0_pay16 g) (k0_pay17 a w h) t acc j = acc j + ∑ i : Fin 256, dgAt a w h t g i (j 1) := by
  pointwise [k0_pay23, k0_pay22, k0_pay20, k0_pay19, k0_pay18, k0_pay17, k0_pay16, k0_pay15, dgAt, dgTerm, dyRow, part, hidAt, hidRow, errRow, rowRstd, rowLen, Cert.Kernel2Ideal.Ffn.guard]
theorem lo8_at (j : S1x1024.Idx) : k0_pay10 a w h g t acc j = acc j + halfPart * ∑ i : Fin 256, errAt a w h t g i (j 1) * errAt a w h t g i (j 1) := by
  pointwise [k0_pay10, k0_pay9, k0_pay8, k0_pay7, k0_pay6, k0_pay5, halfPart, errAt, hidAt, hidRow, errRow, rowRstd, rowLen, Cert.Kernel2Ideal.Ffn.guard]
theorem hi8_at (j : S1x1024.Idx) : k0_pay21 (k0_pay15 a w h) (k0_pay16 g) (k0_pay17 a w h) t acc j = acc j + halfPart * ∑ i : Fin 256, errAt a w h t g i (j 1) * errAt a w h t g i (j 1) := by
  pointwise [k0_pay21, k0_pay20, k0_pay19, k0_pay18, k0_pay17, k0_pay16, k0_pay15, halfPart, errAt, hidAt, hidRow, errRow, rowRstd, rowLen, Cert.Kernel2Ideal.Ffn.guard]
theorem zero3_at (j : S1x1024.Idx) : k0_pay3 (F := Ideal) j = 0 := by pointwise [k0_pay3]
theorem zero4_at (j : S1x1024.Idx) : k0_pay4 (F := Ideal) j = 0 := by pointwise [k0_pay4]

end Payloads

end Cert.Kernel5Ideal.Head

end
-- ==== Proof.HgrnMath.lean ====
module

public import proofs.«01_k».proof.Proof.FfnMath

/-! The two forms of the gradient through the norm agree at every extended real: a row of real numbers has a positive real scale,
    by which a sum of extended reals may be multiplied term by term; any other row has scale zero. -/

@[expose] public section

set_option maxRecDepth 16384

noncomputable section

namespace Cert.Reference3Ideal.HgrnR

open Idealize.ShloMosaic
open Cert.Kernel2Ideal.Ffn Cert.Reference2Ideal.FfnR

/-- A nonnegative real factor goes into a sum. -/
theorem sum_mul_real {ι : Type} (s : Finset ι) (f : ι → EReal) {r : ℝ} (hr : 0 ≤ r) : (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem mul_sub_real (a b : EReal) {r : ℝ} (hr : 0 ≤ r) : (r : EReal) * (a - b) = (r : EReal) * a + -((r : EReal) * b) := by
  rw [sub_eq_add_neg, EReal.left_distrib_of_nonneg_of_ne_top (EReal.coe_nonneg.mpr hr) (EReal.coe_ne_top r), mul_neg]

/-- One half of a real multiple, twice. -/
theorem two_halves (S : EReal) (q : ℝ) : S * ((q / 2 : ℝ) : EReal) + S * ((q / 2 : ℝ) : EReal) = S * (q : EReal) := by
  rcases lt_trichotomy q 0 with h | h | h
  · induction S using EReal.rec with
    | bot => rw [EReal.bot_mul_coe_of_neg (by linarith), EReal.bot_mul_coe_of_neg h]; rfl
    | coe s => rw [← EReal.coe_mul, ← EReal.coe_mul, ← EReal.coe_add]; congr 1; ring
    | top => rw [EReal.top_mul_coe_of_neg (by linarith), EReal.top_mul_coe_of_neg h]; rfl
  · subst h
    simp
  · induction S using EReal.rec with
    | bot => rw [EReal.bot_mul_coe_of_pos (by linarith), EReal.bot_mul_coe_of_pos h]; rfl
    | coe s => rw [← EReal.coe_mul, ← EReal.coe_mul, ← EReal.coe_add]; congr 1; ring
    | top => rw [EReal.top_mul_coe_of_pos (by linarith), EReal.top_mul_coe_of_pos h]; rfl

/-- The gradient of a row of real numbers; everything else is arbitrary. -/
theorem dx_row (e u g : Fin 1024 → EReal) (x : Fin 1024 → ℝ) (k : Fin 1024) :
    dxRow e (fun k => (x k : EReal)) u g k = dxR e (fun k => (x k : EReal)) u g k := by
  obtain ⟨v, hv, ev⟩ := msq_coe x
  have hr : rowRstd (fun k => (x k : EReal)) = (((Real.sqrt v)⁻¹ : ℝ) : EReal) := by
    rw [← rsqrt_pos hv, ← ev]
    rfl
  have hs : (Real.sqrt v)⁻¹ * (Real.sqrt v)⁻¹ = 1 / v := by
    rw [← mul_inv, Real.mul_self_sqrt hv.le, one_div]
  have hn : 0 ≤ (Real.sqrt v)⁻¹ := inv_nonneg.mpr (Real.sqrt_nonneg v)
  unfold dxRow dxR coefR
  rw [hr, ev, rsqrt_pos hv, rowLen_eq, negHalf_eq, Ideal.div_coe (by norm_num), Ideal.div_coe (by norm_num), Ideal.div_coe hv.ne']
  generalize (Real.sqrt v)⁻¹ = s at hs hn ⊢
  rw [← hs]
  have h1 : ∑ l, u l * g l * ((x l : EReal) * (s : EReal)) = (∑ l, (x l : EReal) * (u l * g l)) * (s : EReal) := by
    rw [sum_mul_real _ _ hn]
    exact Finset.sum_congr rfl fun l _ => by rw [← mul_assoc, mul_comm (u l * g l) (x l : EReal)]
  rw [h1]
  generalize (∑ l, (x l : EReal) * (u l * g l)) = S
  rw [mul_sub_real _ _ hn, mul_comm (s : EReal) (u k * g k), add_assoc, add_assoc]
  congr 2
  have hl : -((s : EReal) * ((x k : EReal) * (s : EReal) * (S * (s : EReal) * ((1 / 1024 : ℝ) : EReal)))) = S * ((-(s * (x k * s * (s * (1 / 1024)))) : ℝ) : EReal) := by
    rw [EReal.coe_neg, mul_neg, EReal.coe_mul, EReal.coe_mul, EReal.coe_mul, EReal.coe_mul]
    ac_rfl
  have hc : S * (((-1 / 2 : ℝ) : EReal) * ((s : EReal) * ((s * s : ℝ) : EReal))) * ((1 / 1024 : ℝ) : EReal) * (x k : EReal)
      = S * ((-(s * (x k * s * (s * (1 / 1024)))) / 2 : ℝ) : EReal) := by
    rw [show -(s * (x k * s * (s * (1 / 1024)))) / 2 = -1 / 2 * (s * (s * s)) * (1 / 1024) * x k by ring,
      EReal.coe_mul _ (x k), EReal.coe_mul _ (1 / 1024), EReal.coe_mul (-1 / 2) (s * (s * s)), EReal.coe_mul s (s * s)]
    ac_rfl
  refine hl.trans ((two_halves S _).symm.trans ?_)
  exact congrArg₂ (fun a b : EReal => a + b) (hc.symm.trans (mul_comm _ _)) hc.symm

/-- The two forms agree. -/
theorem dx_agree (e x u g : Fin 1024 → EReal) (k : Fin 1024) : dxRow e x u g k = dxR e x u g k := by
  rcases row_cases x with hrow | ⟨hm, hr⟩
  · choose y hy using hrow
    rw [(funext hy : x = _)]
    exact dx_row e u g y k
  · exact dx_eq_zero e x u g k hm hr

end Cert.Reference3Ideal.HgrnR

end
-- ==== Proof.HeadRun.lean ====
module

public import proofs.«01_k».proof.Proof.HeadCall
public import proofs.«01_k».proof.Proof.HgrnMath

/-! The last output product with the loss head: the arrays the call leaves, over all the rows. -/

@[expose] public section

set_option maxRecDepth 16384

noncomputable section

namespace Cert.Kernel5Ideal.Head

open Cert.Kernel5Ideal Cert.Kernel5Ideal.Gen Idealize.ShloMosaic Idealize.ShloMosaic.TcCoe Idealize.SL.Sem
open Idealize.ShloMosaic.Pipeline (Dat)
open Cert.Kernel2Ideal.Ffn (rowLen row_lt rowRstd dxRow dgTerm dxRow_eq dgTerm_eq sum_halves)

theorem errRow_eq {x x' g g' t t' : Fin 1024 → EReal} (hx : x = x') (hg : ∀ k, g k = g' k) (ht : ∀ k, t k = t' k) : errRow x g t = errRow x' g' t' := by
  rw [hx, funext hg, funext ht]
theorem dyRow_eq {x x' g g' t t' : Fin 1024 → EReal} (hx : x = x') (hg : ∀ k, g k = g' k) (ht : ∀ k, t k = t' k) : dyRow x g t = dyRow x' g' t' := by
  rw [hx, funext hg, funext ht]
theorem dhRow_eq {x x' g g' t t' : Fin 1024 → EReal} (hx : x = x') (hg : ∀ k, g k = g' k) (ht : ∀ k, t k = t' k) : dhRow x g t = dhRow x' g' t' := by
  rw [hx, funext hg, funext ht]

theorem ld_lo1 (B : Vec Ideal S512x1024 .f32) (i : Fin 256) (k : Fin 1024) :
    View.ld B (Rect.unit ![0, 0] ![256, 1024] inb_S512x1024_S256x1024_0_0) (ix2 i k) = B (ix2 ⟨i.val, by omega⟩ k) := by
  pointwise []
  blk_ext

theorem ld_hi1 (B : Vec Ideal S512x1024 .f32) (i : Fin 256) (k : Fin 1024) :
    View.ld B (Rect.unit ![256, 0] ![256, 1024] inb_S512x1024_S256x1024_256_0) (ix2 i k) = B (ix2 ⟨256 + i.val, by omega⟩ k) := by
  pointwise []
  blk_ext

theorem ld_lo2 (B : Vec Ideal S512x2816 .bf16) (i : Fin 256) (k : Fin 2816) :
    View.ld B (Rect.unit ![0, 0] ![256, 2816] inb_S512x2816_S256x2816_0_0) (ix2 i k) = B (ix2 ⟨i.val, by omega⟩ k) := by
  pointwise []
  blk_ext

theorem ld_hi2 (B : Vec Ideal S512x2816 .bf16) (i : Fin 256) (k : Fin 2816) :
    View.ld B (Rect.unit ![256, 0] ![256, 2816] inb_S512x2816_S256x2816_256_0) (ix2 i k) = B (ix2 ⟨256 + i.val, by omega⟩ k) := by
  pointwise []
  blk_ext

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

theorem iblk_0 (t : Fin cfg0.N) (i : Fin 512) (f : Fin 2816) :
    iblk m c 0 t (ix2 i f) = V m c main_v0 (ix2 ⟨t.val * 512 + i.val, row_lt N_0 t.isLt i⟩ f) := by
  blk_point [iblk, idx t]
theorem iblk_1 (t : Fin cfg0.N) (f : Fin 2816) (k : Fin 1024) : iblk m c 1 t (ix2 f k) = V m c main_v1 (ix2 f k) := by
  blk_point [iblk, idx t]
theorem iblk_2 (t : Fin cfg0.N) (i : Fin 512) (k : Fin 1024) :
    iblk m c 2 t (ix2 i k) = V m c main_arg2 (ix2 ⟨t.val * 512 + i.val, row_lt N_0 t.isLt i⟩ k) := by
  blk_point [iblk, idx t]
theorem iblk_3 (t : Fin cfg0.N) (i : Fin 512) (k : Fin 1024) :
    iblk m c 3 t (ix2 i k) = V m c main_arg3 (ix2 ⟨t.val * 512 + i.val, row_lt N_0 t.isLt i⟩ k) := by
  blk_point [iblk, idx t]
theorem iblk_4 (t : Fin cfg0.N) (k : Fin 1024) : iblk m c 4 t (ix2 0 k) = V m c main_v2 (ix2 0 k) := by
  blk_point [iblk, idx t]

/-- The rows after the product, and what the head makes of each row. -/
def gainOf (k : Fin 1024) : EReal := V m c main_v2 (ix2 0 k)
def goalOf (i : Fin 8192) (k : Fin 1024) : EReal := V m c main_arg3 (ix2 i k)
def hidOf (i : Fin 8192) : Fin 1024 → EReal := hidRow (fun f => V m c main_v0 (ix2 i f)) (fun f k => V m c main_v1 (ix2 f k)) (fun k => V m c main_arg2 (ix2 i k))
def dhOf (i : Fin 8192) : Fin 1024 → EReal := dhRow (hidOf m c i) (gainOf m c) (goalOf m c i)
def dgOf (i : Fin 8192) : Fin 1024 → EReal := dgTerm (hidOf m c i) (dyRow (hidOf m c i) (gainOf m c) (goalOf m c i))
def sqOf (i : Fin 8192) (k : Fin 1024) : EReal :=
  errRow (hidOf m c i) (gainOf m c) (goalOf m c i) k * errRow (hidOf m c i) (gainOf m c) (goalOf m c i) k

/-- A point's blocks, by halves. -/
abbrev aLo (t : Fin cfg0.N) : Vec Ideal S256x2816 .bf16 := View.ld (iblk m c 0 t) (Rect.unit ![0, 0] ![256, 2816] inb_S512x2816_S256x2816_0_0)
abbrev hLo (t : Fin cfg0.N) : Vec Ideal S256x1024 .f32 := View.ld (iblk m c 2 t) (Rect.unit ![0, 0] ![256, 1024] inb_S512x1024_S256x1024_0_0)
abbrev tLo (t : Fin cfg0.N) : Vec Ideal S256x1024 .f32 := View.ld (iblk m c 3 t) (Rect.unit ![0, 0] ![256, 1024] inb_S512x1024_S256x1024_0_0)
abbrev aHi (t : Fin cfg0.N) : Vec Ideal S256x2816 .bf16 := View.ld (iblk m c 0 t) (Rect.unit ![256, 0] ![256, 2816] inb_S512x2816_S256x2816_256_0)
abbrev hHi (t : Fin cfg0.N) : Vec Ideal S256x1024 .f32 := View.ld (iblk m c 2 t) (Rect.unit ![256, 0] ![256, 1024] inb_S512x1024_S256x1024_256_0)
abbrev tHi (t : Fin cfg0.N) : Vec Ideal S256x1024 .f32 := View.ld (iblk m c 3 t) (Rect.unit ![256, 0] ![256, 1024] inb_S512x1024_S256x1024_256_0)

theorem hid_lo (t : Fin cfg0.N) (i : Fin 256) : hidAt (aLo m c t) (iblk m c 1 t) (hLo m c t) i = hidOf m c ⟨t.val * 512 + i.val, row_lt N_0 t.isLt ⟨i.val, by omega⟩⟩ :=
  hidRow_eq (fun f => (ld_lo2 _ i f).trans (iblk_0 m c t _ f)) (fun f k => iblk_1 m c t f k) (fun k => (ld_lo1 _ i k).trans (iblk_2 m c t _ k))

theorem dh_lo (t : Fin cfg0.N) (i : Fin 256) : dhAt (aLo m c t) (iblk m c 1 t) (hLo m c t) (tLo m c t) (iblk m c 4 t) i = dhOf m c ⟨t.val * 512 + i.val, row_lt N_0 t.isLt ⟨i.val, by omega⟩⟩ :=
  dhRow_eq (hid_lo m c t i) (fun k => iblk_4 m c t k) (fun k => (ld_lo1 _ i k).trans (iblk_3 m c t _ k))

theorem dg_lo (t : Fin cfg0.N) (i : Fin 256) (k : Fin 1024) :
    dgAt (aLo m c t) (iblk m c 1 t) (hLo m c t) (tLo m c t) (iblk m c 4 t) i k = dgOf m c ⟨t.val * 512 + i.val, row_lt N_0 t.isLt ⟨i.val, by omega⟩⟩ k :=
  congrFun (dgTerm_eq (fun k => congrFun (hid_lo m c t i) k) (dyRow_eq (hid_lo m c t i) (fun k => iblk_4 m c t k) (fun k => (ld_lo1 _ i k).trans (iblk_3 m c t _ k)))) k

theorem sq_lo (t : Fin cfg0.N) (i : Fin 256) (k : Fin 1024) :
    errAt (aLo m c t) (iblk m c 1 t) (hLo m c t) (tLo m c t) (iblk m c 4 t) i k * errAt (aLo m c t) (iblk m c 1 t) (hLo m c t) (tLo m c t) (iblk m c 4 t) i k
      = sqOf m c ⟨t.val * 512 + i.val, row_lt N_0 t.isLt ⟨i.val, by omega⟩⟩ k :=
  congrArg (fun r : Fin 1024 → EReal => r k * r k) (errRow_eq (hid_lo m c t i) (fun k => iblk_4 m c t k) (fun k => (ld_lo1 _ i k).trans (iblk_3 m c t _ k)))

theorem hid_hi (t : Fin cfg0.N) (i : Fin 256) : hidAt (aHi m c t) (iblk m c 1 t) (hHi m c t) i = hidOf m c ⟨t.val * 512 + (256 + i.val), row_lt N_0 t.isLt ⟨256 + i.val, by omega⟩⟩ :=
  hidRow_eq (fun f => (ld_hi2 _ i f).trans (iblk_0 m c t _ f)) (fun f k => iblk_1 m c t f k) (fun k => (ld_hi1 _ i k).trans (iblk_2 m c t _ k))

theorem dh_hi (t : Fin cfg0.N) (i : Fin 256) : dhAt (aHi m c t) (iblk m c 1 t) (hHi m c t) (tHi m c t) (iblk m c 4 t) i = dhOf m c ⟨t.val * 512 + (256 + i.val), row_lt N_0 t.isLt ⟨256 + i.val, by omega⟩⟩ :=
  dhRow_eq (hid_hi m c t i) (fun k => iblk_4 m c t k) (fun k => (ld_hi1 _ i k).trans (iblk_3 m c t _ k))

theorem dg_hi (t : Fin cfg0.N) (i : Fin 256) (k : Fin 1024) :
    dgAt (aHi m c t) (iblk m c 1 t) (hHi m c t) (tHi m c t) (iblk m c 4 t) i k = dgOf m c ⟨t.val * 512 + (256 + i.val), row_lt N_0 t.isLt ⟨256 + i.val, by omega⟩⟩ k :=
  congrFun (dgTerm_eq (fun k => congrFun (hid_hi m c t i) k) (dyRow_eq (hid_hi m c t i) (fun k => iblk_4 m c t k) (fun k => (ld_hi1 _ i k).trans (iblk_3 m c t _ k)))) k

theorem sq_hi (t : Fin cfg0.N) (i : Fin 256) (k : Fin 1024) :
    errAt (aHi m c t) (iblk m c 1 t) (hHi m c t) (tHi m c t) (iblk m c 4 t) i k * errAt (aHi m c t) (iblk m c 1 t) (hHi m c t) (tHi m c t) (iblk m c 4 t) i k
      = sqOf m c ⟨t.val * 512 + (256 + i.val), row_lt N_0 t.isLt ⟨256 + i.val, by omega⟩⟩ k :=
  congrArg (fun r : Fin 1024 → EReal => r k * r k) (errRow_eq (hid_hi m c t i) (fun k => iblk_4 m c t k) (fun k => (ld_hi1 _ i k).trans (iblk_3 m c t _ k)))

theorem outs5_at (t : Fin cfg0.N) (y : S512x1024.Idx) :
    (outsAt0 m c t.val t.isLt).1 y = dhOf m c ⟨t.val * 512 + (y 0).val, row_lt N_0 t.isLt (y 0)⟩ (y 1) := by
  by_cases h : t.val % 16 = 0
  · rw [outsAt0_A m c t h]
    frame_out
    canon_tiles x hx
    case piece0 =>
      refine (hi5_at _ _ _ _ _ x).trans ((congrFun (dh_hi m c t (x 0)) (x 1)).trans (congrArg₂ (dhOf m c) (Fin.ext ?_) (Fin.ext hx1.symm)))
      show t.val * 512 + (256 + (x 0).val) = _
      rw [← hx0]
    case piece1 =>
      refine (lo5_at _ _ _ _ _ x).trans ((congrFun (dh_lo m c t (x 0)) (x 1)).trans (congrArg₂ (dhOf m c) (Fin.ext ?_) (Fin.ext hx1.symm)))
      show t.val * 512 + (x 0).val = _
      rw [← hx0]
  · rw [outsAt0_B m c t h]
    frame_out
    canon_tiles x hx
    case piece0 =>
      refine (hi5_at _ _ _ _ _ x).trans ((congrFun (dh_hi m c t (x 0)) (x 1)).trans (congrArg₂ (dhOf m c) (Fin.ext ?_) (Fin.ext hx1.symm)))
      show t.val * 512 + (256 + (x 0).val) = _
      rw [← hx0]
    case piece1 =>
      refine (lo5_at _ _ _ _ _ x).trans ((congrFun (dh_lo m c t (x 0)) (x 1)).trans (congrArg₂ (dhOf m c) (Fin.ext ?_) (Fin.ext hx1.symm)))
      show t.val * 512 + (x 0).val = _
      rw [← hx0]

theorem outs6_at (t : Fin cfg0.N) (y : S512x1024.Idx) :
    (outsAt0 m c t.val t.isLt).2.1 y = dhOf m c ⟨t.val * 512 + (y 0).val, row_lt N_0 t.isLt (y 0)⟩ (y 1) := by
  by_cases h : t.val % 16 = 0
  · rw [outsAt0_A m c t h]
    frame_out
    canon_tiles x hx
    case piece0 =>
      refine (hi6_at _ _ _ _ _ x).trans ((congrFun (dh_hi m c t (x 0)) (x 1)).trans (congrArg₂ (dhOf m c) (Fin.ext ?_) (Fin.ext hx1.symm)))
      show t.val * 512 + (256 + (x 0).val) = _
      rw [← hx0]
    case piece1 =>
      refine (lo6_at _ _ _ _ _ x).trans ((congrFun (dh_lo m c t (x 0)) (x 1)).trans (congrArg₂ (dhOf m c) (Fin.ext ?_) (Fin.ext hx1.symm)))
      show t.val * 512 + (x 0).val = _
      rw [← hx0]
  · rw [outsAt0_B m c t h]
    frame_out
    canon_tiles x hx
    case piece0 =>
      refine (hi6_at _ _ _ _ _ x).trans ((congrFun (dh_hi m c t (x 0)) (x 1)).trans (congrArg₂ (dhOf m c) (Fin.ext ?_) (Fin.ext hx1.symm)))
      show t.val * 512 + (256 + (x 0).val) = _
      rw [← hx0]
    case piece1 =>
      refine (lo6_at _ _ _ _ _ x).trans ((congrFun (dh_lo m c t (x 0)) (x 1)).trans (congrArg₂ (dhOf m c) (Fin.ext ?_) (Fin.ext hx1.symm)))
      show t.val * 512 + (x 0).val = _
      rw [← hx0]

/-- What one point adds to the gradient of the gain and to the loss's columns. -/
def dgPart (t : Fin cfg0.N) (k : Fin 1024) : EReal := ∑ i : Fin 512, dgOf m c ⟨t.val * 512 + i.val, row_lt N_0 t.isLt i⟩ k
def lossPart (t : Fin cfg0.N) (k : Fin 1024) : EReal := ∑ i : Fin 512, sqOf m c ⟨t.val * 512 + i.val, row_lt N_0 t.isLt i⟩ k * halfPart

theorem dg_halves (t : Fin cfg0.N) (k : Fin 1024) :
    (∑ i : Fin 256, dgOf m c ⟨t.val * 512 + i.val, row_lt N_0 t.isLt ⟨i.val, by omega⟩⟩ k)
      + ∑ i : Fin 256, dgOf m c ⟨t.val * 512 + (256 + i.val), row_lt N_0 t.isLt ⟨256 + i.val, by omega⟩⟩ k = dgPart m c t k :=
  sum_halves (fun i => dgOf m c ⟨t.val * 512 + i.val, row_lt N_0 t.isLt i⟩ k)

theorem halfPart_eq : halfPart = ((1 / 2048 : ℝ) : EReal) := by
  simp [halfPart, Ideal.ofBits, Ideal.ieee]
  rw [← EReal.coe_mul]
  norm_num

/-- Half a part of a sum is the sum of the terms' half parts. -/
theorem halfPart_sum {n : Nat} (f : Fin n → EReal) : halfPart * ∑ i : Fin n, f i = ∑ i : Fin n, f i * halfPart := by
  rw [halfPart_eq, mul_comm, Cert.Reference3Ideal.HgrnR.sum_mul_real _ _ (by norm_num)]

theorem loss_halves (t : Fin cfg0.N) (k : Fin 1024) :
    (∑ i : Fin 256, sqOf m c ⟨t.val * 512 + i.val, row_lt N_0 t.isLt ⟨i.val, by omega⟩⟩ k * halfPart)
      + ∑ i : Fin 256, sqOf m c ⟨t.val * 512 + (256 + i.val), row_lt N_0 t.isLt ⟨256 + i.val, by omega⟩⟩ k * halfPart = lossPart m c t k :=
  sum_halves (fun i => sqOf m c ⟨t.val * 512 + i.val, row_lt N_0 t.isLt i⟩ k * halfPart)

theorem loss_lo (t : Fin cfg0.N) (k : Fin 1024) :
    halfPart * ∑ i : Fin 256, errAt (aLo m c t) (iblk m c 1 t) (hLo m c t) (tLo m c t) (iblk m c 4 t) i k * errAt (aLo m c t) (iblk m c 1 t) (hLo m c t) (tLo m c t) (iblk m c 4 t) i k
      = ∑ i : Fin 256, sqOf m c ⟨t.val * 512 + i.val, row_lt N_0 t.isLt ⟨i.val, by omega⟩⟩ k * halfPart :=
  (halfPart_sum _).trans (Finset.sum_congr rfl fun i _ => congrArg (fun a : EReal => a * halfPart) (sq_lo m c t i k))

theorem loss_hi (t : Fin cfg0.N) (k : Fin 1024) :
    halfPart * ∑ i : Fin 256, errAt (aHi m c t) (iblk m c 1 t) (hHi m c t) (tHi m c t) (iblk m c 4 t) i k * errAt (aHi m c t) (iblk m c 1 t) (hHi m c t) (tHi m c t) (iblk m c 4 t) i k
      = ∑ i : Fin 256, sqOf m c ⟨t.val * 512 + (256 + i.val), row_lt N_0 t.isLt ⟨256 + i.val, by omega⟩⟩ k * halfPart :=
  (halfPart_sum _).trans (Finset.sum_congr rfl fun i _ => congrArg (fun a : EReal => a * halfPart) (sq_hi m c t i k))

theorem outs7_A (t : Fin cfg0.N) (h : t.val % 16 = 0) (y : S1x1024.Idx) :
    (outsAt0 m c t.val t.isLt).2.2.1 y = 0 + dgPart m c t (y 1) := by
  rw [outsAt0_A m c t h]
  frame_out
  refine (hi7_at _ _ _ _ _ _ _).trans ?_
  refine (congrArg₂ (fun a b : EReal => a + b) ((lo7_at _ _ _ _ _ _ _).trans (congrArg₂ (fun a b : EReal => a + b) (zero3_at _) (Finset.sum_congr rfl fun i _ => dg_lo m c t i (y 1)))) (Finset.sum_congr rfl fun i _ => dg_hi m c t i (y 1))).trans ?_
  exact (add_assoc (G := EReal) _ _ _).trans (congrArg (fun a : EReal => _ + a) (dg_halves m c t (y 1)))

theorem outs7_B (t : Fin cfg0.N) (h : ¬ t.val % 16 = 0) (y : S1x1024.Idx) :
    (outsAt0 m c t.val t.isLt).2.2.1 y = (outsAt0 m c (t.val - 1) (Nat.lt_of_le_of_lt (Nat.sub_le _ _) t.isLt)).2.2.1 y + dgPart m c t (y 1) := by
  rw [outsAt0_B m c t h]
  frame_out
  refine (hi7_at _ _ _ _ _ _ _).trans ?_
  refine (congrArg₂ (fun a b : EReal => a + b) ((lo7_at _ _ _ _ _ _ _).trans (congrArg₂ (fun a b : EReal => a + b) rfl (Finset.sum_congr rfl fun i _ => dg_lo m c t i (y 1)))) (Finset.sum_congr rfl fun i _ => dg_hi m c t i (y 1))).trans ?_
  exact (add_assoc (G := EReal) _ _ _).trans (congrArg (fun a : EReal => _ + a) (dg_halves m c t (y 1)))

theorem outs8_A (t : Fin cfg0.N) (h : t.val % 16 = 0) (y : S1x1024.Idx) :
    (outsAt0 m c t.val t.isLt).2.2.2 y = 0 + lossPart m c t (y 1) := by
  rw [outsAt0_A m c t h]
  frame_out
  refine (hi8_at _ _ _ _ _ _ _).trans ?_
  refine (congrArg₂ (fun a b : EReal => a + b) ((lo8_at _ _ _ _ _ _ _).trans (congrArg₂ (fun a b : EReal => a + b) (zero4_at _) (loss_lo m c t (y 1)))) (loss_hi m c t (y 1))).trans ?_
  exact (add_assoc (G := EReal) _ _ _).trans (congrArg (fun a : EReal => _ + a) (loss_halves m c t (y 1)))

theorem outs8_B (t : Fin cfg0.N) (h : ¬ t.val % 16 = 0) (y : S1x1024.Idx) :
    (outsAt0 m c t.val t.isLt).2.2.2 y = (outsAt0 m c (t.val - 1) (Nat.lt_of_le_of_lt (Nat.sub_le _ _) t.isLt)).2.2.2 y + lossPart m c t (y 1) := by
  rw [outsAt0_B m c t h]
  frame_out
  refine (hi8_at _ _ _ _ _ _ _).trans ?_
  refine (congrArg₂ (fun a b : EReal => a + b) ((lo8_at _ _ _ _ _ _ _).trans (congrArg₂ (fun a b : EReal => a + b) rfl (loss_lo m c t (y 1)))) (loss_hi m c t (y 1))).trans ?_
  exact (add_assoc (G := EReal) _ _ _).trans (congrArg (fun a : EReal => _ + a) (loss_halves m c t (y 1)))

theorem arr_5 (i : Fin 8192) (k : Fin 1024) : (dats m 0 c).arrAt 5 cfg0.N (ix2 i k) = dhOf m c i k := by
  refine congrFun ((dats m 0 c).arrAt_eq_of_covers 5 (fun j : S8192x1024.Idx => dhOf m c (j 0) (j 1)) (by decide +kernel) fun t hf y => ?_) (ix2 i k)
  blk_simp
  rw [after0_5]
  refine (outs5_at m c t y).trans (congrArg₂ (dhOf m c) (Fin.ext ?_) (Fin.ext ?_))
  all_goals (blk_simp [idx t] <;> try omega)

theorem arr_6 (i : Fin 8192) (k : Fin 1024) : (dats m 0 c).arrAt 6 cfg0.N (ix2 i k) = dhOf m c i k := by
  refine congrFun ((dats m 0 c).arrAt_eq_of_covers 6 (fun j : S8192x1024.Idx => dhOf m c (j 0) (j 1)) (by decide +kernel) fun t hf y => ?_) (ix2 i k)
  blk_simp
  rw [after0_6]
  refine (outs6_at m c t y).trans (congrArg₂ (dhOf m c) (Fin.ext ?_) (Fin.ext ?_))
  all_goals (blk_simp [idx t] <;> try omega)

/-- The gradient of the gain. -/
def dgTotal (k : Fin 1024) : EReal := ∑ i : Fin 8192, dgOf m c i k

theorem outs7_last (j : S1x1024.Idx) : (outsAt0 m c t0_15.val t0_15.isLt).2.2.1 j = dgTotal m c (j 1) :=
  (Pipeline.eq_sum_fin_of_reset_step_apply_last (M := EReal) (ι := S1x1024.Idx) (fun n h => (outsAt0 m c n h).2.2.1) 16 (fun _ => 0)
    (fun p j => dgPart m c p (j 1)) (fun t h j => outs7_A m c t h j) (fun t h j => outs7_B m c t h j) (le_of_eq N_0) t0_15 rfl j).trans
    ((zero_add (M := EReal) _).trans (Fin.sum_mul_add_congr (fun s k hl => rfl)
      ((congrArg (· * 512) N_0).symm : 8192 = cfg0.N * 512)))

theorem arr_7 (k : Fin 1024) : (dats m 0 c).arrAt 7 cfg0.N (ix2 0 k) = dgTotal m c k := by
  refine congrFun ((dats m 0 c).arrAt_eq_of_after_last 7 t0_15 (by decide +kernel) (fun j : S1x1024.Idx => dgTotal m c (j 1)) fun j => ?_) (ix2 0 k)
  blk_simp
  rw [after0_7]
  exact outs7_last m c j

/-- The loss's part of each column. -/
def lossTotal (k : Fin 1024) : EReal := ∑ i : Fin 8192, sqOf m c i k * halfPart

theorem outs8_last (j : S1x1024.Idx) : (outsAt0 m c t0_15.val t0_15.isLt).2.2.2 j = lossTotal m c (j 1) :=
  (Pipeline.eq_sum_fin_of_reset_step_apply_last (M := EReal) (ι := S1x1024.Idx) (fun n h => (outsAt0 m c n h).2.2.2) 16 (fun _ => 0)
    (fun p j => lossPart m c p (j 1)) (fun t h j => outs8_A m c t h j) (fun t h j => outs8_B m c t h j) (le_of_eq N_0) t0_15 rfl j).trans
    ((zero_add (M := EReal) _).trans (Fin.sum_mul_add_congr (fun s k hl => rfl)
      ((congrArg (· * 512) N_0).symm : 8192 = cfg0.N * 512)))

theorem arr_8 (k : Fin 1024) : (dats m 0 c).arrAt 8 cfg0.N (ix2 0 k) = lossTotal m c k := by
  refine congrFun ((dats m 0 c).arrAt_eq_of_after_last 8 t0_15 (by decide +kernel) (fun j : S1x1024.Idx => lossTotal m c (j 1)) fun j => ?_) (ix2 0 k)
  blk_simp
  rw [after0_8]
  exact outs8_last m c j

end Cert.Kernel5Ideal.Head

end
-- ==== Proof.HeadRef.lean ====
module

public import proofs.«01_k».proof.Proof.Gen.Reference5Ideal.Read
public import proofs.«01_k».proof.Proof.HeadRun
public import Idealize.ShloMosaic.Lib.Pipeline.ReadBack
public import Idealize.ShloMosaic.Lib.Pipeline.Value

/-! The reference's loss head, read at an index. -/

@[expose] public section

set_option maxRecDepth 16384

noncomputable section

namespace Cert.Reference5Ideal.HeadR

open Cert.Reference5Ideal Cert.Reference5Ideal.Gen Cert.Reference5Ideal.Read Idealize.ShloMosaic Idealize.ShloMosaic.TcCoe Idealize.SL.Sem
open Cert.Kernel5Ideal.Head (part halfPart hidRow errRow dyRow dhRow halfPart_eq)
open Cert.Kernel2Ideal.Ffn (rowLen rowRstd dxRow dgTerm)
open Cert.Reference2Ideal.FfnR (negHalf msq coefR dxR rowLen_eq)
open Cert.Reference3Ideal.HgrnR (dx_agree sum_mul_real)

/-! ## The constants -/

def halfC : EReal := Ideal.ofBits .f32 0x3F000000#32
def oneC : EReal := Ideal.ofBits .f32 0x3F800000#32
def twoC : EReal := Ideal.ofBits .f32 0x40000000#32

theorem halfC_eq : halfC = ((1 / 2 : ℝ) : EReal) := by
  simp [halfC, Ideal.ofBits, Ideal.ieee]
  rw [← EReal.coe_mul]
  norm_num
theorem oneC_eq : oneC = ((1 : ℝ) : EReal) := by
  simp [oneC, Ideal.ofBits, Ideal.ieee]
  rw [← EReal.coe_mul]
  norm_num
theorem twoC_eq : twoC = ((2 : ℝ) : EReal) := by
  simp [twoC, Ideal.ofBits, Ideal.ieee]
  rw [← EReal.coe_mul]
  norm_num
theorem part_eq : part = ((1 / 1024 : ℝ) : EReal) := by
  simp [part, Ideal.ofBits, Ideal.ieee]
  rw [← EReal.coe_mul]
  norm_num

/-- The derivative of half a mean of squares is one part of the distance. -/
theorem dy_const (e : EReal) : Ideal.div (halfC * oneC) rowLen * (twoC * e) = e * part := by
  rw [halfC_eq, oneC_eq, twoC_eq, rowLen_eq, part_eq, Ideal.div_coe (by norm_num), ← EReal.coe_mul, ← EReal.coe_mul, ← mul_assoc, ← EReal.coe_mul, mul_comm e]
  congr 2
  norm_num

/-- A column's part of the loss, term by term. -/
theorem loss_const {n : Nat} (f : Fin n → EReal) : Ideal.div (halfC * ∑ i : Fin n, f i) rowLen = ∑ i : Fin n, f i * halfPart := by
  rw [halfC_eq, rowLen_eq, halfPart_eq, Ideal.div_coe (by norm_num), ← sum_mul_real _ _ (by norm_num), mul_comm _ (∑ i : Fin n, f i), mul_assoc, ← EReal.coe_mul]
  congr 2
  norm_num

/-! ## The lines -/

variable (x0 : FVec Ideal S8192x2816 .f32) (x1 : FVec Ideal S2816x1024 .f32) (x2 x3 : FVec Ideal S8192x1024 .f32) (x4 : FVec Ideal S1024 .f32)

/-- The rows after the product, the gain and the target. -/
def hidR (i : Fin 8192) : Fin 1024 → EReal := hidRow (fun f => x0 (ix2 i f)) (fun f k => x1 (ix2 f k)) (fun k => x2 (ix2 i k))
def gainR (k : Fin 1024) : EReal := x4 (ix1 k)
def goalR (i : Fin 8192) (k : Fin 1024) : EReal := x3 (ix2 i k)
def errR (i : Fin 8192) : Fin 1024 → EReal := errRow (hidR x0 x1 x2 i) (gainR x4) (goalR x3 i)
def dyR (i : Fin 8192) : Fin 1024 → EReal := dyRow (hidR x0 x1 x2 i) (gainR x4) (goalR x3 i)

theorem r_hid (i : Fin 8192) (k : Fin 1024) : val_main_v1 (F := Ideal) x0 x1 x2 (ix2 i k) = hidR x0 x1 x2 i k := by
  refine (val_main_v1_apply (F := Ideal) _ _ _ _).trans ((add_comm (G := EReal) _ _).trans (congrArg (fun a : EReal => a + x2 (ix2 i k)) ?_))
  refine (val_main_v0_apply _ _ _).trans (Finset.sum_congr rfl fun f _ => congrArg₂ (fun a b : EReal => a * b) (congrArg x0 ?_) (congrArg x1 ?_))
  all_goals
    funext a
    match a with
    | ⟨0, _⟩ => rfl
    | ⟨1, _⟩ => rfl

theorem r_msq (i : Fin 8192) : val_main_v8 (F := Ideal) x0 x1 x2 (ix2 i 0) = msq (hidR x0 x1 x2 i) := by
  unfold msq rowLen Cert.Kernel2Ideal.Ffn.guard
  refine (val_main_v8_apply (F := Ideal) _ _ _ _).trans (congrArg₂ (fun a b : EReal => a + b) ?_ rfl)
  refine (val_main_v6_apply (F := Ideal) _ _ _ _).trans (congrArg₂ Ideal.div ?_ rfl)
  refine (val_main_v4_apply (F := Ideal) _ _ _ _).trans ((val_main_v3_apply _ _ _ _).trans ?_)
  refine Eq.trans (congrArg₂ (fun a b : EReal => a + b) Ideal.ofBits_zero_f32 ?_) (zero_add _)
  refine Finset.sum_congr rfl fun k _ => ?_
  refine (val_main_v2_apply (F := Ideal) _ _ _ _).trans (congrArg (fun a : EReal => a * a) ((congrArg _ ?_).trans (r_hid x0 x1 x2 i k)))
  funext a
  match a with
  | ⟨0, _⟩ => rfl
  | ⟨1, _⟩ => rfl

theorem r_rstd (i : Fin 8192) : val_main_v9 (F := Ideal) x0 x1 x2 (ix2 i 0) = Ideal.rsqrt (msq (hidR x0 x1 x2 i)) :=
  (val_main_v9_apply (F := Ideal) _ _ _ _).trans (congrArg Ideal.rsqrt (r_msq x0 x1 x2 i))

theorem r_cube (i : Fin 8192) : val_main_v12 (F := Ideal) x0 x1 x2 (ix2 i 0)
    = negHalf * Ideal.div (Ideal.rsqrt (msq (hidR x0 x1 x2 i))) (msq (hidR x0 x1 x2 i)) := by
  refine (val_main_v12_apply (F := Ideal) _ _ _ _).trans (congrArg (fun a : EReal => negHalf * a) ?_)
  exact (val_main_v10_apply (F := Ideal) _ _ _ _).trans (congrArg₂ Ideal.div (r_rstd x0 x1 x2 i) (r_msq x0 x1 x2 i))

theorem r_unit (i : Fin 8192) (k : Fin 1024) : val_main_v14 (F := Ideal) x0 x1 x2 (ix2 i k) = hidR x0 x1 x2 i k * rowRstd (hidR x0 x1 x2 i) := by
  refine (val_main_v14_apply (F := Ideal) _ _ _ _).trans (congrArg₂ (fun a b : EReal => a * b) (r_hid x0 x1 x2 i k) ?_)
  refine (val_main_v13_apply (F := Ideal) _ _ _ _).trans ((congrArg _ ?_).trans (r_rstd x0 x1 x2 i))
  funext a
  match a with
  | ⟨0, _⟩ => rfl
  | ⟨1, _⟩ => rfl

theorem r_gain (i : Fin 8192) (k : Fin 1024) : val_main_v16 (F := Ideal) x4 (ix2 i k) = gainR x4 k := by
  unfold gainR
  pointwise [val_main_v16, val_main_v15]

theorem r_err (i : Fin 8192) (k : Fin 1024) : val_main_v18 (F := Ideal) x0 x1 x2 x3 x4 (ix2 i k) = errR x0 x1 x2 x3 x4 i k := by
  refine (val_main_v18_apply (F := Ideal) _ _ _ _ _ _).trans (congrArg (fun a : EReal => a - x3 (ix2 i k)) ?_)
  exact (val_main_v17_apply (F := Ideal) _ _ _ _ _).trans (congrArg₂ (fun a b : EReal => a * b) (r_unit x0 x1 x2 i k) (r_gain x4 i k))

theorem r_sq (i : Fin 8192) (k : Fin 1024) : val_main_v19 (F := Ideal) x0 x1 x2 x3 x4 (ix2 i k) = errR x0 x1 x2 x3 x4 i k * errR x0 x1 x2 x3 x4 i k :=
  (val_main_v19_apply (F := Ideal) _ _ _ _ _ _).trans (congrArg (fun a : EReal => a * a) (r_err x0 x1 x2 x3 x4 i k))

theorem r_scale (i : Fin 8192) (k : Fin 1024) : val_main_v31 (F := Ideal) (ix2 i k) = Ideal.div (halfC * oneC) rowLen := rfl

theorem r_two (i : Fin 8192) (k : Fin 1024) : val_main_v21 (F := Ideal) x0 x1 x2 x3 x4 (ix2 i k) = twoC * errR x0 x1 x2 x3 x4 i k :=
  (val_main_v21_apply (F := Ideal) _ _ _ _ _ _).trans (congrArg (fun a : EReal => twoC * a) (r_err x0 x1 x2 x3 x4 i k))

theorem r_dy (i : Fin 8192) (k : Fin 1024) : val_main_v32 (F := Ideal) x0 x1 x2 x3 x4 (ix2 i k) = dyR x0 x1 x2 x3 x4 i k :=
  (val_main_v32_apply (F := Ideal) _ _ _ _ _ _).trans ((congrArg₂ (fun a b : EReal => a * b) (r_scale i k) (r_two x0 x1 x2 x3 x4 i k)).trans (dy_const _))

theorem r_dgain (k : Fin 1024) : val_main_v54 (F := Ideal) x0 x1 x2 x3 x4 (ix2 0 k) = ∑ i : Fin 8192, dgTerm (hidR x0 x1 x2 i) (dyR x0 x1 x2 x3 x4 i) k := by
  refine (val_main_v54_apply (F := Ideal) _ _ _ _ _ _).trans ((val_main_v38_apply _ _ _ _ _ _).trans ?_)
  refine Eq.trans (congrArg₂ (fun a b : EReal => a + b) Ideal.ofBits_zero_f32 (Fin.sum_univ_one _)) ((zero_add _).trans ?_)
  refine (val_main_v35_apply (F := Ideal) _ _ _ _ _ _).trans ((val_main_v34_apply _ _ _ _ _ _).trans ?_)
  refine Eq.trans (congrArg₂ (fun a b : EReal => a + b) Ideal.ofBits_zero_f32 ?_) (zero_add _)
  refine Finset.sum_congr rfl fun i _ => ?_
  have e : idx_main_v34 (idx_main_v35 (idx_main_v38 (idx_main_v54 (ix2 0 k)) 0)) i = ix2 i k := by
    funext a
    match a with
    | ⟨0, _⟩ => rfl
    | ⟨1, _⟩ => exact Fin.ext (show 0 * 1024 + k.val = k.val by omega)
  refine (congrArg _ e).trans ((val_main_v33_apply (F := Ideal) _ _ _ _ _ _).trans ?_)
  exact (congrArg₂ (fun a b : EReal => a * b) (r_unit x0 x1 x2 i k) (r_dy x0 x1 x2 x3 x4 i k)).trans (mul_comm (G := EReal) _ _)

theorem r_loss (k : Fin 1024) : val_main_v60 (F := Ideal) x0 x1 x2 x3 x4 (ix2 0 k)
    = ∑ i : Fin 8192, errR x0 x1 x2 x3 x4 i k * errR x0 x1 x2 x3 x4 i k * halfPart := by
  refine (val_main_v60_apply (F := Ideal) _ _ _ _ _ _).trans ((val_main_v59_apply (F := Ideal) _ _ _ _ _ _).trans ?_)
  refine Eq.trans (congrArg₂ Ideal.div ((val_main_v57_apply (F := Ideal) _ _ _ _ _ _).trans (congrArg (fun a : EReal => halfC * a) ?_)) rfl) (loss_const _)
  refine (val_main_v55_apply _ _ _ _ _ _).trans ?_
  refine Eq.trans (congrArg₂ (fun a b : EReal => a + b) Ideal.ofBits_zero_f32 ?_) (zero_add _)
  refine Finset.sum_congr rfl fun i _ => (congrArg _ ?_).trans (r_sq x0 x1 x2 x3 x4 i k)
  funext a
  match a with
  | ⟨0, _⟩ => rfl
  | ⟨1, _⟩ => rfl

theorem r_ug (i : Fin 8192) (k : Fin 1024) : val_main_v37 (F := Ideal) x0 x1 x2 x3 x4 (ix2 i k) = dyR x0 x1 x2 x3 x4 i k * gainR x4 k := by
  refine (val_main_v37_apply (F := Ideal) _ _ _ _ _ _).trans (congrArg₂ (fun a b : EReal => a * b) (r_dy x0 x1 x2 x3 x4 i k) ?_)
  unfold gainR
  pointwise [val_main_v36, val_main_v15]

theorem r_coef (i : Fin 8192) : val_main_v47 (F := Ideal) x0 x1 x2 x3 x4 (ix1 i) = coefR (hidR x0 x1 x2 i) (dyR x0 x1 x2 x3 x4 i) (gainR x4) := by
  refine (val_main_v47_apply _ _ _ _ _ _).trans ?_
  refine Eq.trans (congrArg₂ (fun a b : EReal => a + b) Ideal.ofBits_zero_f32 (Fin.sum_univ_one _)) ((zero_add _).trans ?_)
  refine (val_main_v46_apply (F := Ideal) _ _ _ _ _ _).trans (congrArg₂ Ideal.div ?_ rfl)
  refine (val_main_v44_apply (F := Ideal) _ _ _ _ _ _).trans (congrArg₂ (fun a b : EReal => a * b) ?_ ((congrArg _ ?_).trans (r_cube x0 x1 x2 i)))
  · refine (val_main_v41_apply (F := Ideal) _ _ _ _ _ _).trans ((val_main_v40_apply _ _ _ _ _ _).trans ?_)
    refine Eq.trans (congrArg₂ (fun a b : EReal => a + b) Ideal.ofBits_zero_f32 ?_) (zero_add _)
    refine Finset.sum_congr rfl fun k _ => ?_
    refine (val_main_v39_apply (F := Ideal) _ _ _ _ _ _).trans (congrArg₂ (fun a b : EReal => a * b) ((congrArg _ ?_).trans (r_hid x0 x1 x2 i k)) ((congrArg _ ?_).trans (r_ug x0 x1 x2 x3 x4 i k)))
    all_goals
      funext a
      match a with
      | ⟨0, _⟩ => exact Fin.ext (show i.val * 1 + 0 = i.val by omega)
      | ⟨1, _⟩ => rfl
  · funext a
    match a with
    | ⟨0, _⟩ => rfl
    | ⟨1, _⟩ => rfl

/-- The gradient of a row, in the reference's form. -/
theorem r_dhR (i : Fin 8192) (k : Fin 1024) : val_main_v52 (F := Ideal) x0 x1 x2 x3 x4 (ix2 i k)
    = dyR x0 x1 x2 x3 x4 i k * gainR x4 k * Ideal.rsqrt (msq (hidR x0 x1 x2 i)) + hidR x0 x1 x2 i k * coefR (hidR x0 x1 x2 i) (dyR x0 x1 x2 x3 x4 i) (gainR x4)
      + coefR (hidR x0 x1 x2 i) (dyR x0 x1 x2 x3 x4 i) (gainR x4) * hidR x0 x1 x2 i k := by
  have hc : val_main_v48 (F := Ideal) x0 x1 x2 x3 x4 (ix2 i k) = coefR (hidR x0 x1 x2 i) (dyR x0 x1 x2 x3 x4 i) (gainR x4) := by
    refine (val_main_v48_apply (F := Ideal) _ _ _ _ _ _).trans ((congrArg _ ?_).trans (r_coef x0 x1 x2 x3 x4 i))
    funext a
    match a with
    | ⟨0, _⟩ => rfl
  have hs : val_main_v42 (F := Ideal) x0 x1 x2 (ix2 i k) = Ideal.rsqrt (msq (hidR x0 x1 x2 i)) := by
    refine (val_main_v42_apply (F := Ideal) _ _ _ _).trans ((congrArg _ ?_).trans (r_rstd x0 x1 x2 i))
    funext a
    match a with
    | ⟨0, _⟩ => rfl
    | ⟨1, _⟩ => rfl
  refine (val_main_v52_apply (F := Ideal) _ _ _ _ _ _).trans (congrArg₂ (fun a b : EReal => a + b) ?_ ?_)
  · refine (val_main_v50_apply (F := Ideal) _ _ _ _ _ _).trans (congrArg₂ (fun a b : EReal => a + b) ?_ ?_)
    · exact (val_main_v43_apply (F := Ideal) _ _ _ _ _ _).trans (congrArg₂ (fun a b : EReal => a * b) (r_ug x0 x1 x2 x3 x4 i k) hs)
    · exact (val_main_v49_apply (F := Ideal) _ _ _ _ _ _).trans (congrArg₂ (fun a b : EReal => a * b) (r_hid x0 x1 x2 i k) hc)
  · exact (val_main_v51_apply (F := Ideal) _ _ _ _ _ _).trans (congrArg₂ (fun a b : EReal => a * b) hc (r_hid x0 x1 x2 i k))

/-- The two forms of a row's gradient agree at every extended real. -/
theorem dh_agree (x u g : Fin 1024 → EReal) (k : Fin 1024) :
    rowRstd x * (u k * g k - x k * rowRstd x * Ideal.div (∑ l : Fin 1024, u l * g l * (x l * rowRstd x)) rowLen)
      = u k * g k * Ideal.rsqrt (msq x) + x k * coefR x u g + coefR x u g * x k := by
  have h := dx_agree (fun _ => 0) x u g k
  unfold dxRow dxR at h
  rwa [zero_add, zero_add] at h

theorem r_dh (i : Fin 8192) (k : Fin 1024) : val_main_v52 (F := Ideal) x0 x1 x2 x3 x4 (ix2 i k) = dhRow (hidR x0 x1 x2 i) (gainR x4) (goalR x3 i) k :=
  (r_dhR x0 x1 x2 x3 x4 i k).trans (dh_agree (hidR x0 x1 x2 i) (dyR x0 x1 x2 x3 x4 i) (gainR x4) k).symm

theorem r_dhb (i : Fin 8192) (k : Fin 1024) : val_main_v53 (F := Ideal) x0 x1 x2 x3 x4 (ix2 i k) = dhRow (hidR x0 x1 x2 i) (gainR x4) (goalR x3 i) k :=
  (val_main_v53_apply (F := Ideal) _ _ _ _ _ _).trans (r_dh x0 x1 x2 x3 x4 i k)

end Cert.Reference5Ideal.HeadR

end
-- ==== Proof.OptCall.lean ====
module

public import proofs.«01_k».proof.Proof.Gen.Kernel6Ideal.Frame
public import proofs.«01_k».proof.Proof.HgrnCalls
public import Idealize.ShloMosaic.Lib.Pipeline.ValueKit
public import Idealize.ShloMosaic.Lib.Pipeline.ValueKit.Point

/-! The optimiser's calls: the sum of the parts that the devices send, and the step on a weight, each as the arrays it leaves. -/

@[expose] public section

set_option maxRecDepth 16384

noncomputable section

namespace Cert.Kernel6Ideal.Opt

open Cert.Kernel6Ideal Cert.Kernel6Ideal.Gen Idealize.ShloMosaic Idealize.ShloMosaic.TcCoe Idealize.SL.Sem
open Idealize.ShloMosaic.Pipeline (Dat)

/-! ## The step, at one element -/

/-- The new first moment. -/
def newM (m g : EReal) : EReal := Ideal.ofBits .f32 0x3F666666#32 * m + Ideal.ofBits .f32 0x3DCCCCCD#32 * g
/-- The new second moment. -/
def newV (v g : EReal) : EReal := Ideal.ofBits .f32 0x3F7FBE77#32 * v + Ideal.ofBits .f32 0x3A83126F#32 * (g * g)
/-- The change of the weight. -/
def step (w g m v : EReal) : EReal :=
  Ideal.ofBits .f32 0xBA83126F#32 * (Ideal.div (Ideal.div (newM m g) (Ideal.ofBits .f32 0x3F26BD02#32))
    (Ideal.sqrt (Ideal.div (newV v g) (Ideal.ofBits .f32 0x3C231ACC#32)) + Ideal.ofBits .f32 0x322BCC77#32) + Ideal.ofBits .f32 0x3C23D70A#32 * w)

/-! ## What a grid point leaves -/

theorem sum0_at (x0 : Vec Ideal S8x192x1024 .bf16) (y : S192x1024.Idx) : out0_1 x0 y = ∑ d : Fin 8, x0 (ix3 d (y 0) (y 1)) := by
  unfold out0_1
  canon_tiles x hx
  have e : x = y := by
    funext a
    match a with
    | ⟨0, _⟩ => exact Fin.ext hx0.symm
    | ⟨1, _⟩ => exact Fin.ext hx1.symm
  rw [e, Fin.sum_univ_eight]
  pointwise [k0_pay1]
  blk_ext

theorem sum2_at (x0 : Vec Ideal S8x192x1024 .bf16) (y : S192x1024.Idx) : out2_1 x0 y = ∑ d : Fin 8, x0 (ix3 d (y 0) (y 1)) := sum0_at x0 y

/-- In a block of one layer an index is a row and a column. -/
theorem only_row {n0 n1 : Nat} {x y : (⟨3, ![1, n0, n1]⟩ : Shape).Idx} (h1 : (y 1).val = (x 1).val) (h2 : (y 2).val = (x 2).val) :
    x = ix3 0 (y 1) (y 2) := by
  funext a
  match a with
  | ⟨0, _⟩ => exact Fin.ext (Nat.lt_one_iff.mp (x 0).isLt)
  | ⟨1, _⟩ => exact Fin.ext h1.symm
  | ⟨2, _⟩ => exact Fin.ext h2.symm

section Qkv
variable (x0 : Vec Ideal S1x256x576 .f32) (x1 : Vec Ideal S256x576 .f32) (x2 x3 : Vec Ideal S1x256x576 .f32) (y : S1x256x576.Idx)

theorem g1_at : out1_4 x0 x1 x2 x3 y = x1 (ix2 (y 1) (y 2)) := by
  unfold out1_4
  canon_tiles x hx
  open_payloads
  pointwise []
  blk_ext

theorem d1_at : out1_5 x0 x1 x2 x3 y = step (x0 (ix3 0 (y 1) (y 2))) (x1 (ix2 (y 1) (y 2))) (x2 (ix3 0 (y 1) (y 2))) (x3 (ix3 0 (y 1) (y 2))) := by
  unfold out1_5
  canon_tiles x hx
  have e : x = ix3 0 (y 1) (y 2) := only_row hx1 hx2
  open_payloads
  pointwise [step, newM, newV]
  rw [e]
  rfl

theorem m1_at : out1_6 x0 x1 x2 x3 y = newM (x2 (ix3 0 (y 1) (y 2))) (x1 (ix2 (y 1) (y 2))) := by
  unfold out1_6
  canon_tiles x hx
  have e : x = ix3 0 (y 1) (y 2) := only_row hx1 hx2
  open_payloads
  pointwise [newM]
  rw [e]
  rfl

theorem v1_at : out1_7 x0 x1 x2 x3 y = newV (x3 (ix3 0 (y 1) (y 2))) (x1 (ix2 (y 1) (y 2))) := by
  unfold out1_7
  canon_tiles x hx
  have e : x = ix3 0 (y 1) (y 2) := only_row hx1 hx2
  open_payloads
  pointwise [newV]
  rw [e]
  rfl
end Qkv

section Out
variable (x0 : Vec Ideal S1x192x1024 .f32) (x1 : Vec Ideal S192x1024 .f32) (x2 x3 : Vec Ideal S1x192x1024 .f32) (y : S1x192x1024.Idx)

theorem g3_at : out3_4 x0 x1 x2 x3 y = x1 (ix2 (y 1) (y 2)) := by
  unfold out3_4
  canon_tiles x hx
  open_payloads
  pointwise []
  blk_ext

theorem d3_at : out3_5 x0 x1 x2 x3 y = step (x0 (ix3 0 (y 1) (y 2))) (x1 (ix2 (y 1) (y 2))) (x2 (ix3 0 (y 1) (y 2))) (x3 (ix3 0 (y 1) (y 2))) := by
  unfold out3_5
  canon_tiles x hx
  have e : x = ix3 0 (y 1) (y 2) := only_row hx1 hx2
  open_payloads
  pointwise [step, newM, newV]
  rw [e]
  rfl

theorem m3_at : out3_6 x0 x1 x2 x3 y = newM (x2 (ix3 0 (y 1) (y 2))) (x1 (ix2 (y 1) (y 2))) := by
  unfold out3_6
  canon_tiles x hx
  have e : x = ix3 0 (y 1) (y 2) := only_row hx1 hx2
  open_payloads
  pointwise [newM]
  rw [e]
  rfl

theorem v3_at : out3_7 x0 x1 x2 x3 y = newV (x3 (ix3 0 (y 1) (y 2))) (x1 (ix2 (y 1) (y 2))) := by
  unfold out3_7
  canon_tiles x hx
  have e : x = ix3 0 (y 1) (y 2) := only_row hx1 hx2
  open_payloads
  pointwise [newV]
  rw [e]
  rfl
end Out

/-! ## The arrays -/

variable (V : (c : Dev nD) → (b : Ref sig .tc) → Buf (Elt Ideal) ((c : Thread nD τ).loc b)) (c : Dev nD)

theorem idx0 : ∀ t : Fin cfg0.N, win0_0.index t = ![0, t.val, 0] ∧ win0_1.index t = ![t.val, 0] :=
  (by decide +kernel : ∀ t : Fin grid0.N, _)
theorem idx1 : ∀ t : Fin cfg1.N, win1_0.index t = ![0, t.val, 0] ∧ win1_1.index t = ![t.val, 0] ∧ win1_2.index t = ![0, t.val, 0]
    ∧ win1_3.index t = ![0, t.val, 0] ∧ win1_4.index t = ![0, t.val, 0] ∧ win1_5.index t = ![0, t.val, 0]
    ∧ win1_6.index t = ![0, t.val, 0] ∧ win1_7.index t = ![0, t.val, 0] :=
  (by decide +kernel : ∀ t : Fin grid1.N, _)
theorem idx2 : ∀ t : Fin cfg2.N, win2_0.index t = ![0, t.val, 0] ∧ win2_1.index t = ![t.val, 0] :=
  (by decide +kernel : ∀ t : Fin grid2.N, _)
theorem idx3 : ∀ t : Fin cfg3.N, win3_0.index t = ![0, t.val, 0] ∧ win3_1.index t = ![t.val, 0] ∧ win3_2.index t = ![0, t.val, 0]
    ∧ win3_3.index t = ![0, t.val, 0] ∧ win3_4.index t = ![0, t.val, 0] ∧ win3_5.index t = ![0, t.val, 0]
    ∧ win3_6.index t = ![0, t.val, 0] ∧ win3_7.index t = ![0, t.val, 0] :=
  (by decide +kernel : ∀ t : Fin grid3.N, _)

theorem row_in {n : ℕ} {b : ℕ} (m : ℕ) (hn : n = m) {t : ℕ} (h : t < n) (i : Fin b) : t * b + i.val < m * b := by
  have h1 := i.isLt
  calc t * b + i.val < (t + 1) * b := by rw [Nat.add_mul, Nat.one_mul]; omega
    _ ≤ m * b := Nat.mul_le_mul_right b (by omega)

theorem blk0 (t : Fin cfg0.N) (d : Fin 8) (i : Fin 192) (k : Fin 1024) :
    iblk0 V c 0 t (ix3 d i k) = V c main_v0 (ix3 d ⟨t.val * 192 + i.val, row_in 3 N_0 t.isLt i⟩ k) := by
  blk_point [iblk0, idx0 t]
theorem blk1_0 (t : Fin cfg1.N) (i : Fin 256) (k : Fin 576) :
    iblk1 V c 0 t (ix3 0 i k) = V c main_arg1 (ix3 0 ⟨t.val * 256 + i.val, row_in 4 N_1 t.isLt i⟩ k) := by
  blk_point [iblk1, idx1 t]
theorem blk1_1 (t : Fin cfg1.N) (i : Fin 256) (k : Fin 576) :
    iblk1 V c 1 t (ix2 i k) = V c main_v2 (ix2 ⟨t.val * 256 + i.val, row_in 4 N_1 t.isLt i⟩ k) := by
  blk_point [iblk1, idx1 t]
theorem blk1_2 (t : Fin cfg1.N) (i : Fin 256) (k : Fin 576) :
    iblk1 V c 2 t (ix3 0 i k) = V c main_arg2 (ix3 0 ⟨t.val * 256 + i.val, row_in 4 N_1 t.isLt i⟩ k) := by
  blk_point [iblk1, idx1 t]
theorem blk1_3 (t : Fin cfg1.N) (i : Fin 256) (k : Fin 576) :
    iblk1 V c 3 t (ix3 0 i k) = V c main_arg3 (ix3 0 ⟨t.val * 256 + i.val, row_in 4 N_1 t.isLt i⟩ k) := by
  blk_point [iblk1, idx1 t]
theorem blk2 (t : Fin cfg2.N) (d : Fin 8) (i : Fin 192) (k : Fin 1024) :
    iblk2 V c 0 t (ix3 d i k) = V c main_v4 (ix3 d ⟨t.val * 192 + i.val, row_in 1 N_2 t.isLt i⟩ k) := by
  blk_point [iblk2, idx2 t]
theorem blk3_0 (t : Fin cfg3.N) (i : Fin 192) (k : Fin 1024) :
    iblk3 V c 0 t (ix3 0 i k) = V c main_arg5 (ix3 0 ⟨t.val * 192 + i.val, row_in 1 N_3 t.isLt i⟩ k) := by
  blk_point [iblk3, idx3 t]
theorem blk3_1 (t : Fin cfg3.N) (i : Fin 192) (k : Fin 1024) :
    iblk3 V c 1 t (ix2 i k) = V c main_v5 (ix2 ⟨t.val * 192 + i.val, row_in 1 N_3 t.isLt i⟩ k) := by
  blk_point [iblk3, idx3 t]
theorem blk3_2 (t : Fin cfg3.N) (i : Fin 192) (k : Fin 1024) :
    iblk3 V c 2 t (ix3 0 i k) = V c main_arg6 (ix3 0 ⟨t.val * 192 + i.val, row_in 1 N_3 t.isLt i⟩ k) := by
  blk_point [iblk3, idx3 t]
theorem blk3_3 (t : Fin cfg3.N) (i : Fin 192) (k : Fin 1024) :
    iblk3 V c 3 t (ix3 0 i k) = V c main_arg7 (ix3 0 ⟨t.val * 192 + i.val, row_in 1 N_3 t.isLt i⟩ k) := by
  blk_point [iblk3, idx3 t]

/-- The parts of a gradient that the devices send. -/
def P0 (d : Fin 8) (i : Fin 576) (k : Fin 1024) : EReal := V c main_v0 (ix3 d i k)
def P2 (d : Fin 8) (i : Fin 192) (k : Fin 1024) : EReal := V c main_v4 (ix3 d i k)

def T0 (i : Fin 576) (k : Fin 1024) : EReal := ∑ d : Fin 8, P0 V c d i k

theorem arr0_1 (i : Fin 576) (k : Fin 1024) : (dat0 V c).arrAt 1 cfg0.N (ix2 i k) = T0 V c i k := by
  refine congrFun ((dat0 V c).arrAt_eq_of_covers 1 (fun j : S576x1024.Idx => T0 V c (j 0) (j 1)) (by decide +kernel) fun t hf y => ?_) (ix2 i k)
  blk_simp
  rw [after0_1]
  refine (sum0_at _ _).trans (Finset.sum_congr rfl fun d _ => (blk0 V c t d (y 0) (y 1)).trans (congrArg₂ (P0 V c d) (Fin.ext ?_) (Fin.ext ?_)))
  all_goals (blk_simp [idx0 t] <;> try omega)

def T2 (i : Fin 192) (k : Fin 1024) : EReal := ∑ d : Fin 8, P2 V c d i k

theorem arr2_1 (i : Fin 192) (k : Fin 1024) : (dat2 V c).arrAt 1 cfg2.N (ix2 i k) = T2 V c i k := by
  refine congrFun ((dat2 V c).arrAt_eq_of_covers 1 (fun j : S192x1024.Idx => T2 V c (j 0) (j 1)) (by decide +kernel) fun t hf y => ?_) (ix2 i k)
  blk_simp
  rw [after2_1]
  refine (sum2_at _ _).trans (Finset.sum_congr rfl fun d _ => (blk2 V c t d (y 0) (y 1)).trans (congrArg₂ (P2 V c d) (Fin.ext ?_) (Fin.ext ?_)))
  all_goals (blk_simp [idx2 t] <;> try omega)

/-- The arrays of a step, as functions of row and column: the weight, the gradient and the two moments. -/
def Wt1 (i : Fin 1024) (k : Fin 576) : EReal := V c main_arg1 (ix3 0 i k)
def Mo1 (i : Fin 1024) (k : Fin 576) : EReal := V c main_arg2 (ix3 0 i k)
def Ve1 (i : Fin 1024) (k : Fin 576) : EReal := V c main_arg3 (ix3 0 i k)
def Gr1 (i : Fin 1024) (k : Fin 576) : EReal := V c main_v2 (ix2 i k)
def Wt3 (i : Fin 192) (k : Fin 1024) : EReal := V c main_arg5 (ix3 0 i k)
def Mo3 (i : Fin 192) (k : Fin 1024) : EReal := V c main_arg6 (ix3 0 i k)
def Ve3 (i : Fin 192) (k : Fin 1024) : EReal := V c main_arg7 (ix3 0 i k)
def Gr3 (i : Fin 192) (k : Fin 1024) : EReal := V c main_v5 (ix2 i k)
def St1 (i : Fin 1024) (k : Fin 576) : EReal := step (Wt1 V c i k) (Gr1 V c i k) (Mo1 V c i k) (Ve1 V c i k)
def Nm1 (i : Fin 1024) (k : Fin 576) : EReal := newM (Mo1 V c i k) (Gr1 V c i k)
def Nv1 (i : Fin 1024) (k : Fin 576) : EReal := newV (Ve1 V c i k) (Gr1 V c i k)
def St3 (i : Fin 192) (k : Fin 1024) : EReal := step (Wt3 V c i k) (Gr3 V c i k) (Mo3 V c i k) (Ve3 V c i k)
def Nm3 (i : Fin 192) (k : Fin 1024) : EReal := newM (Mo3 V c i k) (Gr3 V c i k)
def Nv3 (i : Fin 192) (k : Fin 1024) : EReal := newV (Ve3 V c i k) (Gr3 V c i k)

theorem step_eq {w w' g g' m m' v v' : EReal} (hw : w = w') (hg : g = g') (hm : m = m') (hv : v = v') : step w g m v = step w' g' m' v' := by
  rw [hw, hg, hm, hv]

theorem arr1_4 (i : Fin 1024) (k : Fin 576) : (dat1 V c).arrAt 4 cfg1.N (ix3 0 i k) = Gr1 V c i k := by
  refine congrFun ((dat1 V c).arrAt_eq_of_covers 4 (fun j : S1x1024x576.Idx => Gr1 V c (j 1) (j 2)) (by decide +kernel) fun t hf y => ?_) (ix3 0 i k)
  blk_simp
  rw [after1_4]
  refine (g1_at _ _ _ _ _).trans ((blk1_1 V c t (y 1) (y 2)).trans (congrArg₂ (Gr1 V c) (x := ⟨t.val * 256 + (y 1).val, row_in _ N_1 t.isLt (y 1)⟩) (y := y 2) (Fin.ext ?_) (Fin.ext ?_)))
  all_goals (blk_simp [idx1 t] <;> try omega)

theorem arr1_5 (i : Fin 1024) (k : Fin 576) : (dat1 V c).arrAt 5 cfg1.N (ix3 0 i k) = St1 V c i k := by
  refine congrFun ((dat1 V c).arrAt_eq_of_covers 5 (fun j : S1x1024x576.Idx => St1 V c (j 1) (j 2)) (by decide +kernel) fun t hf y => ?_) (ix3 0 i k)
  blk_simp
  rw [after1_5]
  refine (d1_at _ _ _ _ _).trans ((step_eq (blk1_0 V c t (y 1) (y 2)) (blk1_1 V c t (y 1) (y 2)) (blk1_2 V c t (y 1) (y 2)) (blk1_3 V c t (y 1) (y 2))).trans (congrArg₂ (St1 V c) (x := ⟨t.val * 256 + (y 1).val, row_in _ N_1 t.isLt (y 1)⟩) (y := y 2) (Fin.ext ?_) (Fin.ext ?_)))
  all_goals (blk_simp [idx1 t] <;> try omega)

theorem arr1_6 (i : Fin 1024) (k : Fin 576) : (dat1 V c).arrAt 6 cfg1.N (ix3 0 i k) = Nm1 V c i k := by
  refine congrFun ((dat1 V c).arrAt_eq_of_covers 6 (fun j : S1x1024x576.Idx => Nm1 V c (j 1) (j 2)) (by decide +kernel) fun t hf y => ?_) (ix3 0 i k)
  blk_simp
  rw [after1_6]
  refine (m1_at _ _ _ _ _).trans ((congrArg₂ newM (blk1_2 V c t (y 1) (y 2)) (blk1_1 V c t (y 1) (y 2))).trans (congrArg₂ (Nm1 V c) (x := ⟨t.val * 256 + (y 1).val, row_in _ N_1 t.isLt (y 1)⟩) (y := y 2) (Fin.ext ?_) (Fin.ext ?_)))
  all_goals (blk_simp [idx1 t] <;> try omega)

theorem arr1_7 (i : Fin 1024) (k : Fin 576) : (dat1 V c).arrAt 7 cfg1.N (ix3 0 i k) = Nv1 V c i k := by
  refine congrFun ((dat1 V c).arrAt_eq_of_covers 7 (fun j : S1x1024x576.Idx => Nv1 V c (j 1) (j 2)) (by decide +kernel) fun t hf y => ?_) (ix3 0 i k)
  blk_simp
  rw [after1_7]
  refine (v1_at _ _ _ _ _).trans ((congrArg₂ newV (blk1_3 V c t (y 1) (y 2)) (blk1_1 V c t (y 1) (y 2))).trans (congrArg₂ (Nv1 V c) (x := ⟨t.val * 256 + (y 1).val, row_in _ N_1 t.isLt (y 1)⟩) (y := y 2) (Fin.ext ?_) (Fin.ext ?_)))
  all_goals (blk_simp [idx1 t] <;> try omega)

theorem arr3_4 (i : Fin 192) (k : Fin 1024) : (dat3 V c).arrAt 4 cfg3.N (ix3 0 i k) = Gr3 V c i k := by
  refine congrFun ((dat3 V c).arrAt_eq_of_covers 4 (fun j : S1x192x1024.Idx => Gr3 V c (j 1) (j 2)) (by decide +kernel) fun t hf y => ?_) (ix3 0 i k)
  blk_simp
  rw [after3_4]
  refine (g3_at _ _ _ _ _).trans ((blk3_1 V c t (y 1) (y 2)).trans (congrArg₂ (Gr3 V c) (x := ⟨t.val * 192 + (y 1).val, row_in _ N_3 t.isLt (y 1)⟩) (y := y 2) (Fin.ext ?_) (Fin.ext ?_)))
  all_goals (blk_simp [idx3 t] <;> try omega)

theorem arr3_5 (i : Fin 192) (k : Fin 1024) : (dat3 V c).arrAt 5 cfg3.N (ix3 0 i k) = St3 V c i k := by
  refine congrFun ((dat3 V c).arrAt_eq_of_covers 5 (fun j : S1x192x1024.Idx => St3 V c (j 1) (j 2)) (by decide +kernel) fun t hf y => ?_) (ix3 0 i k)
  blk_simp
  rw [after3_5]
  refine (d3_at _ _ _ _ _).trans ((step_eq (blk3_0 V c t (y 1) (y 2)) (blk3_1 V c t (y 1) (y 2)) (blk3_2 V c t (y 1) (y 2)) (blk3_3 V c t (y 1) (y 2))).trans (congrArg₂ (St3 V c) (x := ⟨t.val * 192 + (y 1).val, row_in _ N_3 t.isLt (y 1)⟩) (y := y 2) (Fin.ext ?_) (Fin.ext ?_)))
  all_goals (blk_simp [idx3 t] <;> try omega)

theorem arr3_6 (i : Fin 192) (k : Fin 1024) : (dat3 V c).arrAt 6 cfg3.N (ix3 0 i k) = Nm3 V c i k := by
  refine congrFun ((dat3 V c).arrAt_eq_of_covers 6 (fun j : S1x192x1024.Idx => Nm3 V c (j 1) (j 2)) (by decide +kernel) fun t hf y => ?_) (ix3 0 i k)
  blk_simp
  rw [after3_6]
  refine (m3_at _ _ _ _ _).trans ((congrArg₂ newM (blk3_2 V c t (y 1) (y 2)) (blk3_1 V c t (y 1) (y 2))).trans (congrArg₂ (Nm3 V c) (x := ⟨t.val * 192 + (y 1).val, row_in _ N_3 t.isLt (y 1)⟩) (y := y 2) (Fin.ext ?_) (Fin.ext ?_)))
  all_goals (blk_simp [idx3 t] <;> try omega)

theorem arr3_7 (i : Fin 192) (k : Fin 1024) : (dat3 V c).arrAt 7 cfg3.N (ix3 0 i k) = Nv3 V c i k := by
  refine congrFun ((dat3 V c).arrAt_eq_of_covers 7 (fun j : S1x192x1024.Idx => Nv3 V c (j 1) (j 2)) (by decide +kernel) fun t hf y => ?_) (ix3 0 i k)
  blk_simp
  rw [after3_7]
  refine (v3_at _ _ _ _ _).trans ((congrArg₂ newV (blk3_3 V c t (y 1) (y 2)) (blk3_1 V c t (y 1) (y 2))).trans (congrArg₂ (Nv3 V c) (x := ⟨t.val * 192 + (y 1).val, row_in _ N_3 t.isLt (y 1)⟩) (y := y 2) (Fin.ext ?_) (Fin.ext ?_)))
  all_goals (blk_simp [idx3 t] <;> try omega)

end Cert.Kernel6Ideal.Opt

end
-- ==== Proof.OptRun.lean ====
module

public import proofs.«01_k».proof.Proof.OptCall
public import Idealize.ShloMosaic.Lib.Claim

/-! From the launch to the eight results of the optimiser's calls, as functions of the arguments. -/

@[expose] public section

set_option maxRecDepth 16384

noncomputable section

namespace Cert.Kernel6Ideal.Opt

open Cert.Kernel6Ideal Cert.Kernel6Ideal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Launch
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, leaves its arguments as they were, and its results are what the last boundary holds. -/
theorem run_results : θ_run defs (onTc (τ := τ) (main (F := F))) ⟨m, fun _ => 0, ρ⟩ (fun r => ∀ c : Dev nD,
      r.2.mem ((c.tc : Thread nD τ).loc main_v3_0) = W7 m ρ c (Proc.devRef .tc main_v3_0)
      ∧ r.2.mem ((c.tc : Thread nD τ).loc main_v3_1) = W7 m ρ c (Proc.devRef .tc main_v3_1)
      ∧ r.2.mem ((c.tc : Thread nD τ).loc main_v3_2) = W7 m ρ c (Proc.devRef .tc main_v3_2)
      ∧ r.2.mem ((c.tc : Thread nD τ).loc main_v3_3) = W7 m ρ c (Proc.devRef .tc main_v3_3)
      ∧ r.2.mem ((c.tc : Thread nD τ).loc main_v6_0) = W7 m ρ c (Proc.devRef .tc main_v6_0)
      ∧ r.2.mem ((c.tc : Thread nD τ).loc main_v6_1) = W7 m ρ c (Proc.devRef .tc main_v6_1)
      ∧ r.2.mem ((c.tc : Thread nD τ).loc main_v6_2) = W7 m ρ c (Proc.devRef .tc main_v6_2)
      ∧ r.2.mem ((c.tc : Thread nD τ).loc main_v6_3) = W7 m ρ c (Proc.devRef .tc main_v6_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v3_0 (by decide)),
       h c _ (mem_uc main_v3_1 (by decide)),
       h c _ (mem_uc main_v3_2 (by decide)),
       h c _ (mem_uc main_v3_3 (by decide)),
       h c _ (mem_uc main_v6_0 (by decide)),
       h c _ (mem_uc main_v6_1 (by decide)),
       h c _ (mem_uc main_v6_2 (by decide)),
       h c _ (mem_uc main_v6_3 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)
end Launch

variable (m : (ℓ : Loc nD τ sig) → Buf (Elt Ideal) ℓ) (ρ : Dev nD → PrngReg) (c : Dev nD)

/-- The arguments as launched, as functions of row and column: the parts of the gradients that the devices send, and a weight and its moments. -/
def partQ (d : Fin 8) (i : Fin 576) (k : Fin 1024) : EReal := m ((c.tc : Thread nD τ).loc main_arg0) (ix3 d i k)
def wQ (i : Fin 1024) (k : Fin 576) : EReal := m ((c.tc : Thread nD τ).loc main_arg1) (ix3 0 i k)
def mQ (i : Fin 1024) (k : Fin 576) : EReal := m ((c.tc : Thread nD τ).loc main_arg2) (ix3 0 i k)
def vQ (i : Fin 1024) (k : Fin 576) : EReal := m ((c.tc : Thread nD τ).loc main_arg3) (ix3 0 i k)
def partO (d : Fin 8) (i : Fin 192) (k : Fin 1024) : EReal := m ((c.tc : Thread nD τ).loc main_arg4) (ix3 d i k)
def wO (i : Fin 192) (k : Fin 1024) : EReal := m ((c.tc : Thread nD τ).loc main_arg5) (ix3 0 i k)
def mO (i : Fin 192) (k : Fin 1024) : EReal := m ((c.tc : Thread nD τ).loc main_arg6) (ix3 0 i k)
def vO (i : Fin 192) (k : Fin 1024) : EReal := m ((c.tc : Thread nD τ).loc main_arg7) (ix3 0 i k)

/-- The gradients: the sum of the parts, the first one transposed. -/
def gQ (i : Fin 1024) (k : Fin 576) : EReal := ∑ d : Fin 8, partQ m c d k i
def gO (i : Fin 192) (k : Fin 1024) : EReal := ∑ d : Fin 8, partO m c d i k

/-! What each call finds in its arrays. -/

theorem part_1 (d : Fin 8) (i : Fin 576) (k : Fin 1024) : P0 (V1 m ρ) c d i k = partQ m c d i k := by
  unfold P0 V1 W1
  after_results
  pointwise [partQ]

theorem total_1 (i : Fin 576) (k : Fin 1024) : T0 (V1 m ρ) c i k = gQ m c k i := Finset.sum_congr rfl fun d _ => part_1 m ρ c d i k

theorem g_3 (i : Fin 1024) (k : Fin 576) : Gr1 (V3 m ρ) c i k = gQ m c i k := by
  have e : Gr1 (V3 m ρ) c i k = V2 m ρ c main_v1 (ix2 k i) := by
    unfold Gr1 V3 W3
    after_results
    pointwise []
  exact e.trans ((congrFun (W2_arr m ρ c 1) (ix2 k i)).trans ((arr0_1 (V1 m ρ) c k i).trans (total_1 m ρ c k i)))

theorem w_3 (i : Fin 1024) (k : Fin 576) : Wt1 (V3 m ρ) c i k = wQ m c i k := congrFun (W3_args m ρ c main_arg1 (by decide)) (ix3 0 i k)
theorem m_3 (i : Fin 1024) (k : Fin 576) : Mo1 (V3 m ρ) c i k = mQ m c i k := congrFun (W3_args m ρ c main_arg2 (by decide)) (ix3 0 i k)
theorem v_3 (i : Fin 1024) (k : Fin 576) : Ve1 (V3 m ρ) c i k = vQ m c i k := congrFun (W3_args m ρ c main_arg3 (by decide)) (ix3 0 i k)

theorem part_5 (d : Fin 8) (i : Fin 192) (k : Fin 1024) : P2 (V5 m ρ) c d i k = partO m c d i k := by
  have e : P2 (V5 m ρ) c d i k = V4 m ρ c main_arg4 (ix3 d i k) := by
    unfold P2 V5 W5
    after_results
    pointwise []
  exact e.trans (congrFun (W4_args m ρ c main_arg4 (by decide)) (ix3 d i k))

theorem total_5 (i : Fin 192) (k : Fin 1024) : T2 (V5 m ρ) c i k = gO m c i k := Finset.sum_congr rfl fun d _ => part_5 m ρ c d i k

theorem g_6 (i : Fin 192) (k : Fin 1024) : Gr3 (V6 m ρ) c i k = gO m c i k :=
  (congrFun (W6_arr m ρ c 1) (ix2 i k)).trans ((arr2_1 (V5 m ρ) c i k).trans (total_5 m ρ c i k))
theorem w_6 (i : Fin 192) (k : Fin 1024) : Wt3 (V6 m ρ) c i k = wO m c i k := congrFun (W6_args m ρ c main_arg5 (by decide)) (ix3 0 i k)
theorem m_6 (i : Fin 192) (k : Fin 1024) : Mo3 (V6 m ρ) c i k = mO m c i k := congrFun (W6_args m ρ c main_arg6 (by decide)) (ix3 0 i k)
theorem v_6 (i : Fin 192) (k : Fin 1024) : Ve3 (V6 m ρ) c i k = vO m c i k := congrFun (W6_args m ρ c main_arg7 (by decide)) (ix3 0 i k)

/-! The eight results. -/

/-- What the first step leaves stays to the end. -/
theorem keep (r : Ref sig .tc) (h6 : ∀ w : Fin cfg3.W, Pipeline.arrRef spec3 w = r → (cfg3.win w).isOut = false)
    (h5 : ∀ w : Fin cfg2.W, Pipeline.arrRef spec2 w = r → (cfg2.win w).isOut = false) (h4 : r ∉ hostOps2_W) :
    W7 m ρ c (Proc.devRef .tc r) = W4 m ρ c (Proc.devRef .tc r) :=
  (W7_of m ρ c r h6).trans ((W6_of m ρ c r h5).trans (W5_of m ρ c r h4))

theorem res_gQ (i : Fin 1024) (k : Fin 576) : W7 m ρ c (Proc.devRef .tc main_v3_0) (ix3 0 i k) = gQ m c i k :=
  (congrFun (keep m ρ c main_v3_0 (by decide +kernel) (by decide +kernel) (by decide +kernel)) (ix3 0 i k)).trans ((congrFun (W4_arr m ρ c 4) (ix3 0 i k)).trans ((arr1_4 (V3 m ρ) c i k).trans (g_3 m ρ c i k)))
theorem res_dQ (i : Fin 1024) (k : Fin 576) : W7 m ρ c (Proc.devRef .tc main_v3_1) (ix3 0 i k) = step (wQ m c i k) (gQ m c i k) (mQ m c i k) (vQ m c i k) :=
  (congrFun (keep m ρ c main_v3_1 (by decide +kernel) (by decide +kernel) (by decide +kernel)) (ix3 0 i k)).trans ((congrFun (W4_arr m ρ c 5) (ix3 0 i k)).trans ((arr1_5 (V3 m ρ) c i k).trans (step_eq (w_3 m ρ c i k) (g_3 m ρ c i k) (m_3 m ρ c i k) (v_3 m ρ c i k))))
theorem res_mQ (i : Fin 1024) (k : Fin 576) : W7 m ρ c (Proc.devRef .tc main_v3_2) (ix3 0 i k) = newM (mQ m c i k) (gQ m c i k) :=
  (congrFun (keep m ρ c main_v3_2 (by decide +kernel) (by decide +kernel) (by decide +kernel)) (ix3 0 i k)).trans ((congrFun (W4_arr m ρ c 6) (ix3 0 i k)).trans ((arr1_6 (V3 m ρ) c i k).trans (congrArg₂ newM (m_3 m ρ c i k) (g_3 m ρ c i k))))
theorem res_vQ (i : Fin 1024) (k : Fin 576) : W7 m ρ c (Proc.devRef .tc main_v3_3) (ix3 0 i k) = newV (vQ m c i k) (gQ m c i k) :=
  (congrFun (keep m ρ c main_v3_3 (by decide +kernel) (by decide +kernel) (by decide +kernel)) (ix3 0 i k)).trans ((congrFun (W4_arr m ρ c 7) (ix3 0 i k)).trans ((arr1_7 (V3 m ρ) c i k).trans (congrArg₂ newV (v_3 m ρ c i k) (g_3 m ρ c i k))))
theorem res_gO (i : Fin 192) (k : Fin 1024) : W7 m ρ c (Proc.devRef .tc main_v6_0) (ix3 0 i k) = gO m c i k :=
  (congrFun (W7_arr m ρ c 4) (ix3 0 i k)).trans ((arr3_4 (V6 m ρ) c i k).trans (g_6 m ρ c i k))
theorem res_dO (i : Fin 192) (k : Fin 1024) : W7 m ρ c (Proc.devRef .tc main_v6_1) (ix3 0 i k) = step (wO m c i k) (gO m c i k) (mO m c i k) (vO m c i k) :=
  (congrFun (W7_arr m ρ c 5) (ix3 0 i k)).trans ((arr3_5 (V6 m ρ) c i k).trans (step_eq (w_6 m ρ c i k) (g_6 m ρ c i k) (m_6 m ρ c i k) (v_6 m ρ c i k)))
theorem res_mO (i : Fin 192) (k : Fin 1024) : W7 m ρ c (Proc.devRef .tc main_v6_2) (ix3 0 i k) = newM (mO m c i k) (gO m c i k) :=
  (congrFun (W7_arr m ρ c 6) (ix3 0 i k)).trans ((arr3_6 (V6 m ρ) c i k).trans (congrArg₂ newM (m_6 m ρ c i k) (g_6 m ρ c i k)))
theorem res_vO (i : Fin 192) (k : Fin 1024) : W7 m ρ c (Proc.devRef .tc main_v6_3) (ix3 0 i k) = newV (vO m c i k) (gO m c i k) :=
  (congrFun (W7_arr m ρ c 7) (ix3 0 i k)).trans ((arr3_7 (V6 m ρ) c i k).trans (congrArg₂ newV (v_6 m ρ c i k) (g_6 m ρ c i k)))

end Cert.Kernel6Ideal.Opt

end
-- ==== Proof.OptRef.lean ====
module

public import proofs.«01_k».proof.Proof.Gen.Reference6Ideal.Read
public import proofs.«01_k».proof.Proof.OptCall
public import Idealize.ShloMosaic.Lib.Pipeline.ReadBack
public import Idealize.ShloMosaic.Lib.Pipeline.Value

/-! The reference's optimiser, read at an index. -/

@[expose] public section

set_option maxRecDepth 16384

noncomputable section

namespace Cert.Reference6Ideal.OptR

open Cert.Reference6Ideal Cert.Reference6Ideal.Gen Cert.Reference6Ideal.Read Idealize.ShloMosaic Idealize.ShloMosaic.TcCoe Idealize.SL.Sem
open Cert.Kernel6Ideal.Opt (newM newV step step_eq)

/-! ## The weight of queries, keys and values -/

section Qkv
variable (x0 : FVec Ideal S8x576x1024 .f32) (x1 x2 x3 : FVec Ideal S1x1024x576 .f32) (i : Fin 1024) (k : Fin 576)

theorem r_gQ : val_main_v2 (F := Ideal) x0 (ix3 0 i k) = ∑ d : Fin 8, x0 (ix3 d k i) := by
  refine (val_main_v2_apply (F := Ideal) _ _).trans ((val_main_v1_apply (F := Ideal) _ _).trans ((val_main_v0_apply _ _).trans ?_))
  refine Eq.trans (congrArg₂ (fun a b : EReal => a + b) Ideal.ofBits_zero_f32 ?_) (zero_add _)
  refine Finset.sum_congr rfl fun d _ => congrArg x0 ?_
  funext a
  match a with
  | ⟨0, _⟩ => rfl
  | ⟨1, _⟩ => rfl
  | ⟨2, _⟩ => rfl

theorem r_mQ : val_main_v9 (F := Ideal) x0 x2 (ix3 0 i k) = newM (x2 (ix3 0 i k)) (∑ d : Fin 8, x0 (ix3 d k i)) :=
  congrArg (newM (x2 (ix3 0 i k))) (r_gQ x0 i k)

theorem r_vQ : val_main_v15 (F := Ideal) x0 x3 (ix3 0 i k) = newV (x3 (ix3 0 i k)) (∑ d : Fin 8, x0 (ix3 d k i)) :=
  congrArg (newV (x3 (ix3 0 i k))) (r_gQ x0 i k)

theorem r_dQ : val_main_v28 (F := Ideal) x0 x1 x2 x3 (ix3 0 i k) =
    step (x1 (ix3 0 i k)) (∑ d : Fin 8, x0 (ix3 d k i)) (x2 (ix3 0 i k)) (x3 (ix3 0 i k)) :=
  congrArg (fun g => step (x1 (ix3 0 i k)) g (x2 (ix3 0 i k)) (x3 (ix3 0 i k))) (r_gQ x0 i k)
end Qkv

/-! ## The output weight -/

section Out
variable (x4 : FVec Ideal S8x192x1024 .f32) (x5 x6 x7 : FVec Ideal S1x192x1024 .f32) (i : Fin 192) (k : Fin 1024)

theorem r_gO : val_main_v4 (F := Ideal) x4 (ix3 0 i k) = ∑ d : Fin 8, x4 (ix3 d i k) := by
  refine (val_main_v4_apply (F := Ideal) _ _).trans ((val_main_v3_apply _ _).trans ?_)
  refine Eq.trans (congrArg₂ (fun a b : EReal => a + b) Ideal.ofBits_zero_f32 ?_) (zero_add _)
  refine Finset.sum_congr rfl fun d _ => congrArg x4 ?_
  funext a
  match a with
  | ⟨0, _⟩ => rfl
  | ⟨1, _⟩ => rfl
  | ⟨2, _⟩ => rfl

theorem r_mO : val_main_v33 (F := Ideal) x4 x6 (ix3 0 i k) = newM (x6 (ix3 0 i k)) (∑ d : Fin 8, x4 (ix3 d i k)) :=
  congrArg (newM (x6 (ix3 0 i k))) (r_gO x4 i k)

theorem r_vO : val_main_v39 (F := Ideal) x4 x7 (ix3 0 i k) = newV (x7 (ix3 0 i k)) (∑ d : Fin 8, x4 (ix3 d i k)) :=
  congrArg (newV (x7 (ix3 0 i k))) (r_gO x4 i k)

theorem r_dO : val_main_v52 (F := Ideal) x4 x5 x6 x7 (ix3 0 i k) =
    step (x5 (ix3 0 i k)) (∑ d : Fin 8, x4 (ix3 d i k)) (x6 (ix3 0 i k)) (x7 (ix3 0 i k)) :=
  congrArg (fun g => step (x5 (ix3 0 i k)) g (x6 (ix3 0 i k)) (x7 (ix3 0 i k))) (r_gO x4 i k)
end Out

end Cert.Reference6Ideal.OptR

end
-- ==== Proof.SmallMath.lean ====
module

public import proofs.«01_k».proof.Proof.FfnMath

/-! The derivative of a softmax over three logits, with one cotangent on the first probability, in the kernel's form and in the reference's. -/

@[expose] public section

noncomputable section

namespace Cert.Small

open Idealize.ShloMosaic

/-- A product with a positive real reaches an infinity. -/
theorem top_mul_pos {r : ℝ} (h : 0 < r) : (⊤ : EReal) * (r : EReal) = ⊤ := EReal.top_mul_coe_of_pos h
theorem bot_mul_pos {r : ℝ} (h : 0 < r) : (⊥ : EReal) * (r : EReal) = ⊥ := EReal.bot_mul_coe_of_pos h
theorem pos_mul_top {r : ℝ} (h : 0 < r) : (r : EReal) * ⊤ = ⊤ := EReal.coe_mul_top_of_pos h
theorem pos_mul_bot {r : ℝ} (h : 0 < r) : (r : EReal) * ⊥ = ⊥ := EReal.coe_mul_bot_of_pos h

theorem own_row_pos {a s : ℝ} (ha : 0 < a) (hs : 0 < s) (d : EReal) :
    (Ideal.div d (s : EReal) + -(d * Ideal.div 1 ((s : EReal) * (s : EReal)) * (a : EReal))) * (a : EReal)
      = Ideal.div (a : EReal) (s : EReal) * (d - Ideal.div (a : EReal) (s : EReal) * d) := by
  have h1 : (0 : ℝ) < 1 / s := by positivity
  have h2 : (0 : ℝ) < 1 * (1 / (s * s)) := by positivity
  have h3 : (0 : ℝ) < a * (1 / s) := by positivity
  rw [← EReal.coe_mul, Ideal.div_coe hs.ne', Ideal.div_coe (by positivity), Ideal.div_coe hs.ne', ← EReal.coe_one, ← EReal.coe_mul, ← EReal.coe_mul]
  induction d using EReal.rec with
  | bot =>
    rw [bot_mul_pos h1, bot_mul_pos h2, bot_mul_pos ha, pos_mul_bot h3, EReal.bot_add, bot_mul_pos ha, sub_eq_add_neg, EReal.bot_add, pos_mul_bot h3]
  | top =>
    rw [top_mul_pos h1, top_mul_pos h2, top_mul_pos ha, pos_mul_top h3, EReal.neg_top, EReal.add_bot, bot_mul_pos ha, sub_eq_add_neg, EReal.neg_top, EReal.add_bot, pos_mul_bot h3]
  | coe d =>
    norm_cast
    field_simp
    ring

theorem other_row_pos {a b s : ℝ} (ha : 0 < a) (hb : 0 < b) (hs : 0 < s) (d : EReal) :
    (Ideal.div 0 (s : EReal) + -(d * Ideal.div 1 ((s : EReal) * (s : EReal)) * (a : EReal))) * (b : EReal)
      = Ideal.div (b : EReal) (s : EReal) * (0 - Ideal.div (a : EReal) (s : EReal) * d) := by
  have h2 : (0 : ℝ) < 1 * (1 / (s * s)) := by positivity
  have h3 : (0 : ℝ) < a * (1 / s) := by positivity
  have h4 : (0 : ℝ) < b * (1 / s) := by positivity
  rw [← EReal.coe_mul, Ideal.div_coe hs.ne', Ideal.div_coe (by positivity), Ideal.div_coe hs.ne', Ideal.div_coe hs.ne', ← EReal.coe_one, ← EReal.coe_mul, ← EReal.coe_mul, ← EReal.coe_mul, zero_mul, zero_add,
    sub_eq_add_neg, zero_add]
  induction d using EReal.rec with
  | bot => rw [bot_mul_pos h2, bot_mul_pos ha, pos_mul_bot h3, EReal.neg_bot, top_mul_pos hb, pos_mul_top h4]
  | top => rw [top_mul_pos h2, top_mul_pos ha, pos_mul_top h3, EReal.neg_top, bot_mul_pos hb, pos_mul_bot h4]
  | coe d =>
    norm_cast
    field_simp

/-- The row of the first logit: the reference's form is the kernel's. -/
theorem own_row {a s : ℝ} (ha : 0 ≤ a) (hs : 0 < s) (d : EReal) :
    (Ideal.div d (s : EReal) + -(d * Ideal.div 1 ((s : EReal) * (s : EReal)) * (a : EReal))) * (a : EReal)
      = Ideal.div (a : EReal) (s : EReal) * (d - Ideal.div (a : EReal) (s : EReal) * d) := by
  rcases ha.eq_or_lt with rfl | ha
  · rw [EReal.coe_zero, mul_zero, Ideal.div_coe hs.ne', zero_mul, zero_mul]
  · exact own_row_pos ha hs d

/-- The rows of the others. -/
theorem other_row {a b s : ℝ} (ha : 0 ≤ a) (hb : 0 ≤ b) (hs : 0 < s) (d : EReal) :
    (Ideal.div 0 (s : EReal) + -(d * Ideal.div 1 ((s : EReal) * (s : EReal)) * (a : EReal))) * (b : EReal)
      = Ideal.div (b : EReal) (s : EReal) * (0 - Ideal.div (a : EReal) (s : EReal) * d) := by
  have z : Ideal.div 0 (s : EReal) = 0 := by rw [Ideal.div_coe hs.ne', zero_mul]
  rcases hb.eq_or_lt with rfl | hb
  · rw [EReal.coe_zero, mul_zero, z, zero_mul]
  rcases ha.eq_or_lt with rfl | ha
  · rw [EReal.coe_zero, mul_zero, z, zero_mul, neg_zero, add_zero, zero_mul, sub_zero, mul_zero]
  · exact other_row_pos ha hb hs d

/-- The exponential of a logit less one that is real and no smaller. -/
theorem exp_real {l : EReal} {x : ℝ} (h : l ≤ (x : EReal)) : ∃ a : ℝ, 0 ≤ a ∧ Ideal.exp (l - (x : EReal)) = a := by
  induction l using EReal.rec with
  | bot => exact ⟨0, le_rfl, by rw [sub_eq_add_neg, EReal.bot_add]; rfl⟩
  | coe r => exact ⟨Real.exp (r - x), (Real.exp_pos _).le, by rw [← EReal.coe_sub]; rfl⟩
  | top => exact absurd (top_le_iff.1 h) (EReal.coe_ne_top x)

theorem exp_own (x : ℝ) : Ideal.exp ((x : EReal) - (x : EReal)) = ((1 : ℝ) : EReal) := by
  rw [← EReal.coe_sub, sub_self]
  exact congrArg (fun r : ℝ => (r : EReal)) Real.exp_zero

/-- Where the greatest logit is real the three exponentials are real and not negative, and their sum is positive. -/
theorem exps_real {l0 l1 l2 : EReal} (h : ∃ r : ℝ, max (max l0 l1) l2 = r) :
    ∃ a b e : ℝ, 0 ≤ a ∧ 0 ≤ b ∧ 0 ≤ e ∧ 0 < a + b + e ∧ Ideal.exp (l0 - max (max l0 l1) l2) = a ∧ Ideal.exp (l1 - max (max l0 l1) l2) = b
      ∧ Ideal.exp (l2 - max (max l0 l1) l2) = e := by
  obtain ⟨x, hx⟩ := h
  have g0 : l0 ≤ (x : EReal) := hx ▸ (le_max_left l0 l1).trans (le_max_left _ _)
  have g1 : l1 ≤ (x : EReal) := hx ▸ (le_max_right l0 l1).trans (le_max_left _ _)
  have g2 : l2 ≤ (x : EReal) := hx ▸ le_max_right _ _
  rw [hx]
  obtain ⟨a, ha, ea⟩ := exp_real g0
  obtain ⟨b, hb, eb⟩ := exp_real g1
  obtain ⟨e, he, ee⟩ := exp_real g2
  have one : ∀ {l : EReal} {q : ℝ}, Ideal.exp (l - (x : EReal)) = q → l = x → q = 1 := fun {l q} hq hl =>
    EReal.coe_injective (hq.symm.trans (by rw [hl]; exact exp_own x))
  refine ⟨a, b, e, ha, hb, he, ?_, ea, eb, ee⟩
  rcases max_choice (max l0 l1) l2 with hm | hm
  · rcases max_choice l0 l1 with hn | hn
    · have := one ea (hn.symm.trans (hm.symm.trans hx)); linarith
    · have := one eb (hn.symm.trans (hm.symm.trans hx)); linarith
  · have := one ee (hm.symm.trans hx); linarith

/-- A sum over the devices of one part's row. -/
def tot (p : (⟨3, ![8, 8, 1024]⟩ : Shape).Idx → EReal) (r : Fin 8) (k : Fin 1024) : EReal := ∑ d : Fin 8, p (ix3 d r k)

/-- The exponential of a logit less the greatest of the three. -/
def expo (l l0 l1 l2 : EReal) : EReal := Ideal.exp (l - max (max l0 l1) l2)

/-- The sum of the three. -/
def expoSum (l0 l1 l2 : EReal) : EReal := expo l0 l0 l1 l2 + expo l1 l0 l1 l2 + expo l2 l0 l1 l2

/-- The softmax's value for a logit. -/
def prob (l l0 l1 l2 : EReal) : EReal := Ideal.div (expo l l0 l1 l2) (expoSum l0 l1 l2)

/-- The gradient of a logit: the softmax's derivative, where only the first probability has a cotangent. -/
def logitGrad (l : Fin 3 → EReal) (t : EReal) (i : Fin 3) : EReal :=
  prob (l i) (l 0) (l 1) (l 2) * ((if i = 0 then t else 0) - prob (l 0) (l 0) (l 1) (l 2) * t)

/-- The gradient that the call leaves, by its rows. -/
def gradAt (p : (⟨3, ![8, 8, 1024]⟩ : Shape).Idx → EReal) (w : (⟨2, ![16, 1024]⟩ : Shape).Idx → EReal) (r : Fin 16) (k : Fin 1024) : EReal :=
  let l0 := w (ix2 4 k); let l1 := w (ix2 5 k); let l2 := w (ix2 6 k)
  match r with
  | ⟨0, _⟩ => tot p 0 k
  | ⟨1, _⟩ => tot p 1 k
  | ⟨2, _⟩ => tot p 2 k
  | ⟨3, _⟩ => tot p 3 k
  | ⟨4, _⟩ => prob l0 l0 l1 l2 * (tot p 4 k - prob l0 l0 l1 l2 * tot p 4 k)
  | ⟨5, _⟩ => prob l1 l0 l1 l2 * (0 - prob l0 l0 l1 l2 * tot p 4 k)
  | ⟨6, _⟩ => prob l2 l0 l1 l2 * (0 - prob l0 l0 l1 l2 * tot p 4 k)
  | ⟨7, _⟩ => tot p 5 k
  | ⟨8, _⟩ => tot p 6 k
  | ⟨_, _⟩ => 0

end Cert.Small

end
-- ==== Proof.SmallCall.lean ====
module

public import proofs.«01_k».proof.Proof.Gen.Kernel7Ideal.Frame
public import proofs.«01_k».proof.Proof.OptCall
public import proofs.«01_k».proof.Proof.SmallMath
public import Idealize.ShloMosaic.Lib.Pipeline.ValueKit
public import Idealize.ShloMosaic.Lib.Pipeline.ValueKit.Point

/-! The optimiser's call on the gains and the lower bound, and the call that makes the lower bound: what each leaves in its arrays. -/

@[expose] public section

set_option maxRecDepth 16384

noncomputable section

namespace Cert.Kernel7Ideal.Small

open Cert.Kernel7Ideal Cert.Kernel7Ideal.Gen Idealize.ShloMosaic Idealize.ShloMosaic.TcCoe Idealize.SL.Sem
open Idealize.ShloMosaic.Pipeline (Dat)
open Cert.Small

/-! ## Whole rows, stored over one another -/

section Rows
variable {o n : Nat} (inb : ∀ a, (![o, 0] : Fin 2 → Nat) a + (![n, 1024] : Fin 2 → Nat) a ≤ S16x1024.size a)
  (w : (⟨2, ![n, 1024]⟩ : Shape).Idx → EReal) (L : List (View.Piece (Elt Ideal) S16x1024 .f32))

/-- Inside the last store's rows its value is found, -/
theorem canon_rows (r : Fin 16) (k : Fin 1024) (h : o ≤ r.val ∧ r.val < o + n) :
    View.canon (Val := Elt Ideal) (e := .f32) (⟨Rect.unit (s := S16x1024) ![o, 0] ![n, 1024] inb, w⟩ :: L) (ix2 r k) = w (ix2 ⟨r.val - o, by omega⟩ k) := by
  have e : (ix2 r k : S16x1024.Idx) = (Rect.unit (s := S16x1024) ![o, 0] ![n, 1024] inb).emb (ix2 ⟨r.val - o, by omega⟩ k) := by
    funext a
    match a with
    | ⟨0, _⟩ => exact Fin.ext (by show r.val = o + 1 * (r.val - o); omega)
    | ⟨1, _⟩ => exact Fin.ext (by show k.val = 0 + 1 * k.val; omega)
  rw [e]
  exact View.canon_cons_emb (Rect.unit (s := S16x1024) ![o, 0] ![n, 1024] inb) w L (ix2 ⟨r.val - o, by omega⟩ k)

/-- and outside them what the stores before it left. -/
theorem canon_past (r : Fin 16) (k : Fin 1024) (h : r.val < o ∨ o + n ≤ r.val) :
    View.canon (Val := Elt Ideal) (e := .f32) (⟨Rect.unit (s := S16x1024) ![o, 0] ![n, 1024] inb, w⟩ :: L) (ix2 r k) = View.canon L (ix2 r k) := by
  refine View.canon_cons_of_not_mem _ L fun hm => ?_
  obtain ⟨x, hx⟩ := (Rect.unit (s := S16x1024) ![o, 0] ![n, 1024] inb).exists_idx_of_mem hm
  have h0 : o + 1 * (x 0).val = r.val := congrArg Fin.val (congrFun hx 0)
  have h1 : (x 0).val < n := (x 0).isLt
  omega
end Rows

variable (V : (c : Dev nD) → (b : Ref sig .tc) → Buf (Elt Ideal) ((c : Thread nD τ).loc b)) (c : Dev nD)

set_option maxHeartbeats 800000 in
theorem outs4_at (t : Fin cfg1.N) (r : Fin 16) (k : Fin 1024) : (outsAt1 V c t).1 (ix2 r k) = gradAt (iblk1 V c 0 t) (iblk1 V c 1 t) r k := by
  unfold outsAt1
  frame_out
  simp only [read_unread_whole]
  generalize iblk1 V c 0 t = p
  generalize iblk1 V c 1 t = w
  fin_cases r
  all_goals repeat rw [canon_past _ _ _ _ _ (by decide)]
  all_goals rw [canon_rows _ _ _ _ _ (by decide)]
  all_goals simp only [gradAt, tot, prob, expoSum, expo, Fin.sum_univ_eight]
  all_goals pointwise [k1_pay1, k1_pay2, k1_pay3, k1_pay4, k1_pay5, k1_pay6, k1_pay7, k1_pay8, k1_pay9, k1_pay10, k1_pay11, k1_pay12,
    k1_pay13, k1_pay14, k1_pay15, k1_pay16, k1_pay17, k1_pay18, k1_pay19, k1_pay20, k1_pay21, k1_pay22,
    k1_pay23, k1_pay24]
  all_goals blk_ext

theorem grads (t : Fin cfg1.N) (y : S16x1024.Idx) : (outsAt1 V c t).1 y = gradAt (iblk1 V c 0 t) (iblk1 V c 1 t) (y 0) (y 1) := by
  have e : y = ix2 (y 0) (y 1) := by
    funext a
    match a with
    | ⟨0, _⟩ => rfl
    | ⟨1, _⟩ => rfl
  rw [e]
  exact outs4_at V c t _ _

theorem off_zero : (![0, 0] : Fin S16x1024.rank → Nat) = fun _ => 0 := by
  funext a
  match a with
  | ⟨0, _⟩ => rfl
  | ⟨1, _⟩ => rfl

/-- A load of the whole array reads the array. -/
theorem ld_all (X : Vec Ideal S16x1024 .f32) : View.ld X (Rect.unit (s := S16x1024) ![0, 0] ![16, 1024] inb_S16x1024_S16x1024_0_0) = X :=
  View.ld_unit_zero off_zero _ X

/-! The gradient that the step reads back is the gradient that was stored. -/

theorem outs5_eq (t : Fin cfg1.N) : (outsAt1 V c t).2.1 = k1_pay28 (iblk1 V c 1 t) (outsAt1 V c t).1 (iblk1 V c 2 t) (iblk1 V c 3 t) := by
  unfold outsAt1
  frame_out
  simp only [read_unread_whole, View.readCov_eq_canon']
  generalize View.canon (Val := Elt Ideal) (e := .f32) _ = G
  generalize iblk1 V c 1 t = w
  generalize iblk1 V c 2 t = m
  generalize iblk1 V c 3 t = v
  exact congrArg (fun G => k1_pay28 w G m v) (ld_all G)

theorem outs6_eq (t : Fin cfg1.N) : (outsAt1 V c t).2.2.1 = k1_pay26 (outsAt1 V c t).1 (iblk1 V c 2 t) := by
  unfold outsAt1
  frame_out
  simp only [read_unread_whole, View.readCov_eq_canon']
  generalize View.canon (Val := Elt Ideal) (e := .f32) _ = G
  generalize iblk1 V c 2 t = m
  exact congrArg (fun G => k1_pay26 G m) (ld_all G)

theorem outs7_eq (t : Fin cfg1.N) : (outsAt1 V c t).2.2.2.1 = k1_pay27 (outsAt1 V c t).1 (iblk1 V c 3 t) := by
  unfold outsAt1
  frame_out
  simp only [read_unread_whole, View.readCov_eq_canon']
  generalize View.canon (Val := Elt Ideal) (e := .f32) _ = G
  generalize iblk1 V c 3 t = v
  exact congrArg (fun G => k1_pay27 G v) (ld_all G)

theorem outs8_at (t : Fin cfg1.N) (y : S1x1.Idx) : (outsAt1 V c t).2.2.2.2 y = ∑ k, tot (iblk1 V c 0 t) 7 k := by
  unfold outsAt1
  frame_out
  simp only [read_unread_whole]
  generalize iblk1 V c 0 t = p
  simp only [tot, Fin.sum_univ_eight]
  pointwise [k1_pay29]

open Cert.Kernel6Ideal.Opt (step newM newV step_eq)

/-! ## The arrays: each call has one grid point, whose blocks are the whole arrays -/

theorem eta2 {a b : Nat} (j : (⟨2, ![a, b]⟩ : Shape).Idx) : j = ix2 (j 0) (j 1) := by
  funext x
  match x with
  | ⟨0, _⟩ => rfl
  | ⟨1, _⟩ => rfl
theorem eta3 {a b d : Nat} (j : (⟨3, ![a, b, d]⟩ : Shape).Idx) : j = ix3 (j 0) (j 1) (j 2) := by
  funext x
  match x with
  | ⟨0, _⟩ => rfl
  | ⟨1, _⟩ => rfl
  | ⟨2, _⟩ => rfl

theorem idx0 : ∀ t : Fin cfg0.N, win0_0.index t = ![0, 0] ∧ win0_1.index t = ![0, 0] :=
  (by decide +kernel : ∀ t : Fin grid0.N, _)
theorem idx1 : ∀ t : Fin cfg1.N, win1_0.index t = ![0, 0, 0] ∧ win1_1.index t = ![0, 0] ∧ win1_2.index t = ![0, 0]
    ∧ win1_3.index t = ![0, 0] ∧ win1_4.index t = ![0, 0] ∧ win1_5.index t = ![0, 0]
    ∧ win1_6.index t = ![0, 0] ∧ win1_7.index t = ![0, 0] ∧ win1_8.index t = ![0, 0] :=
  (by decide +kernel : ∀ t : Fin grid1.N, _)

theorem blk0 (t : Fin cfg0.N) (i : Fin 3) (k : Fin 1024) : iblk0 V c 0 t (ix2 i k) = V c main_arg3 (ix2 i k) := by
  blk_point [iblk0, idx0 t]
theorem blk1_0 (t : Fin cfg1.N) (d r : Fin 8) (k : Fin 1024) : iblk1 V c 0 t (ix3 d r k) = V c main_arg0 (ix3 d r k) := by
  blk_point [iblk1, idx1 t]
theorem blk1_1 (t : Fin cfg1.N) (i : Fin 16) (k : Fin 1024) : iblk1 V c 1 t (ix2 i k) = V c main_v5 (ix2 i k) := by
  blk_point [iblk1, idx1 t]
theorem blk1_2 (t : Fin cfg1.N) (i : Fin 16) (k : Fin 1024) : iblk1 V c 2 t (ix2 i k) = V c main_v10 (ix2 i k) := by
  blk_point [iblk1, idx1 t]
theorem blk1_3 (t : Fin cfg1.N) (i : Fin 16) (k : Fin 1024) : iblk1 V c 3 t (ix2 i k) = V c main_v15 (ix2 i k) := by
  blk_point [iblk1, idx1 t]

/-- The parts and the weights as a call finds them. -/
def Pt (j : S8x8x1024.Idx) : EReal := V c main_arg0 j
def Wt (j : S16x1024.Idx) : EReal := V c main_v5 j
def Mo (j : S16x1024.Idx) : EReal := V c main_v10 j
def Ve (j : S16x1024.Idx) : EReal := V c main_v15 j
def Gr (i : Fin 16) (k : Fin 1024) : EReal := gradAt (Pt V c) (Wt V c) i k
def Ls : EReal := ∑ k, tot (Pt V c) 7 k
/-- The lower bound, from the three logits of a column. -/
def lbOf (x : S3x1024.Idx → EReal) (k : Fin 1024) : EReal := prob (x (ix2 0 k)) (x (ix2 0 k)) (x (ix2 1 k)) (x (ix2 2 k))
def Lb (k : Fin 1024) : EReal := lbOf (V c main_arg3) k

theorem all0 (t : Fin cfg0.N) : (iblk0 V c 0 t : S3x1024.Idx → EReal) = V c main_arg3 := funext fun j => by
  rw [eta2 j]; exact blk0 V c t _ _

theorem all1_0 (t : Fin cfg1.N) : (iblk1 V c 0 t : S8x8x1024.Idx → EReal) = Pt V c := funext fun j => by
  rw [eta3 j]; exact blk1_0 V c t _ _ _
theorem all1_1 (t : Fin cfg1.N) : (iblk1 V c 1 t : S16x1024.Idx → EReal) = Wt V c := funext fun j => by
  rw [eta2 j]; exact blk1_1 V c t _ _

theorem grad_at (t : Fin cfg1.N) (y : S16x1024.Idx) : (outsAt1 V c t).1 y = Gr V c (y 0) (y 1) :=
  (grads V c t y).trans (congrArg₂ (fun p w => gradAt p w (y 0) (y 1)) (all1_0 V c t) (all1_1 V c t))

theorem step_at (w g m v : Vec Ideal S16x1024 .f32) (y : S16x1024.Idx) : k1_pay28 w g m v y = step (w y) (g y) (m y) (v y) := by
  pointwise [k1_pay28, k1_pay27, k1_pay26, k1_pay25, step, newM, newV]
theorem mom_at (g m : Vec Ideal S16x1024 .f32) (y : S16x1024.Idx) : k1_pay26 g m y = newM (m y) (g y) := by
  pointwise [k1_pay26, k1_pay25, newM]
theorem vel_at (g v : Vec Ideal S16x1024 .f32) (y : S16x1024.Idx) : k1_pay27 g v y = newV (v y) (g y) := by
  pointwise [k1_pay27, k1_pay25, newV]

def St (i : Fin 16) (k : Fin 1024) : EReal := step (Wt V c (ix2 i k)) (Gr V c i k) (Mo V c (ix2 i k)) (Ve V c (ix2 i k))
def Nm (i : Fin 16) (k : Fin 1024) : EReal := newM (Mo V c (ix2 i k)) (Gr V c i k)
def Nv (i : Fin 16) (k : Fin 1024) : EReal := newV (Ve V c (ix2 i k)) (Gr V c i k)

theorem arr1_4 (i : Fin 16) (k : Fin 1024) : (dat1 V c).arrAt 4 cfg1.N (ix2 i k) = Gr V c i k := by
  refine congrFun ((dat1 V c).arrAt_eq_of_covers 4 (fun j : S16x1024.Idx => Gr V c (j 0) (j 1)) (by decide +kernel) fun t hf y => ?_) (ix2 i k)
  blk_simp
  rw [after1_4]
  refine (grad_at V c t _).trans (congrArg₂ (Gr V c) (x := y 0) (y := y 1) (Fin.ext ?_) (Fin.ext ?_))
  all_goals (blk_simp [idx1 t] <;> try omega)

theorem arr1_5 (i : Fin 16) (k : Fin 1024) : (dat1 V c).arrAt 5 cfg1.N (ix2 i k) = St V c i k := by
  refine congrFun ((dat1 V c).arrAt_eq_of_covers 5 (fun j : S16x1024.Idx => St V c (j 0) (j 1)) (by decide +kernel) fun t hf y => ?_) (ix2 i k)
  blk_simp
  rw [after1_5, outs5_eq, eta2 y]
  refine (step_at _ _ _ _ _).trans ((step_eq (blk1_1 V c t (y 0) (y 1)) (grad_at V c t _) (blk1_2 V c t (y 0) (y 1)) (blk1_3 V c t (y 0) (y 1))).trans (congrArg₂ (St V c) (x := y 0) (y := y 1) (Fin.ext ?_) (Fin.ext ?_)))
  all_goals (blk_simp [idx1 t] <;> try omega)

theorem arr1_6 (i : Fin 16) (k : Fin 1024) : (dat1 V c).arrAt 6 cfg1.N (ix2 i k) = Nm V c i k := by
  refine congrFun ((dat1 V c).arrAt_eq_of_covers 6 (fun j : S16x1024.Idx => Nm V c (j 0) (j 1)) (by decide +kernel) fun t hf y => ?_) (ix2 i k)
  blk_simp
  rw [after1_6, outs6_eq, eta2 y]
  refine (mom_at _ _ _).trans ((congrArg₂ newM (blk1_2 V c t (y 0) (y 1)) (grad_at V c t _)).trans (congrArg₂ (Nm V c) (x := y 0) (y := y 1) (Fin.ext ?_) (Fin.ext ?_)))
  all_goals (blk_simp [idx1 t] <;> try omega)

theorem arr1_7 (i : Fin 16) (k : Fin 1024) : (dat1 V c).arrAt 7 cfg1.N (ix2 i k) = Nv V c i k := by
  refine congrFun ((dat1 V c).arrAt_eq_of_covers 7 (fun j : S16x1024.Idx => Nv V c (j 0) (j 1)) (by decide +kernel) fun t hf y => ?_) (ix2 i k)
  blk_simp
  rw [after1_7, outs7_eq, eta2 y]
  refine (vel_at _ _ _).trans ((congrArg₂ newV (blk1_3 V c t (y 0) (y 1)) (grad_at V c t _)).trans (congrArg₂ (Nv V c) (x := y 0) (y := y 1) (Fin.ext ?_) (Fin.ext ?_)))
  all_goals (blk_simp [idx1 t] <;> try omega)

theorem arr1_8 (j : S1x1.Idx) : (dat1 V c).arrAt 8 cfg1.N j = Ls V c := by
  refine congrFun ((dat1 V c).arrAt_eq_of_covers 8 (fun _ : S1x1.Idx => Ls V c) (by decide +kernel) fun t hf y => ?_) j
  blk_simp
  rw [after1_8]
  exact (outs8_at V c t _).trans (congrArg (fun p => ∑ k, tot p 7 k) (all1_0 V c t))

theorem lb_at (x0 : Vec Ideal S3x1024 .f32) (y : S1x1024.Idx) :
    out0_1 x0 y = lbOf x0 (y 1) := by
  unfold out0_1
  canon_tiles x hx
  have e : y 1 = x 1 := Fin.ext hx1
  rw [e]
  pointwise [k0_pay1, lbOf, prob, expoSum, expo]
  blk_ext

theorem arr0_1 (k : Fin 1024) : (dat0 V c).arrAt 1 cfg0.N (ix2 0 k) = Lb V c k := by
  refine congrFun ((dat0 V c).arrAt_eq_of_covers 1 (fun j : S1x1024.Idx => Lb V c (j 1)) (by decide +kernel) fun t hf y => ?_) (ix2 0 k)
  blk_simp
  rw [after0_1]
  refine (lb_at _ _).trans ?_
  refine (congrArg (lbOf · (y 1)) (all0 V c t)).trans ?_
  refine congrArg (Lb V c) (a₁ := y 1) (Fin.ext ?_)
  blk_simp [idx0 t] <;> try omega

end Cert.Kernel7Ideal.Small

end
-- ==== Proof.SmallLeaves.lean ====
module

public import proofs.«01_k».proof.Proof.OptCall
public import Idealize.ShloMosaic.Lib.KernelVsHost

/-! What the optimiser leaves of one element of a small parameter. -/

@[expose] public section

noncomputable section

namespace Cert.Small

open Idealize.ShloMosaic
open Cert.Kernel6Ideal.Opt (newM newV step step_eq)

/-- The four numbers left of an element: its gradient, its change and its two new moments; from the gradient, the value and the moments. -/
def Leaves (xg xd xm xv g w mo ve : EReal) : Prop := xg = g ∧ xd = step w g mo ve ∧ xm = newM mo g ∧ xv = newV ve g

/-- A step taken with a gradient's own form. -/
theorem Leaves.of_grad {x g w mo ve : EReal} (h : x = g) : Leaves x (step w x mo ve) (newM mo x) (newV ve x) g w mo ve := by
  subst h
  exact ⟨rfl, rfl, rfl, rfl⟩

/-- The four numbers at another place. -/
theorem Leaves.at {xg xd xm xv yg yd ym yv g w mo ve : EReal} (h : Leaves xg xd xm xv g w mo ve) (e0 : yg = xg) (e1 : yd = xd) (e2 : ym = xm) (e3 : yv = xv) :
    Leaves yg yd ym yv g w mo ve :=
  ⟨e0.trans h.1, e1.trans h.2.1, e2.trans h.2.2.1, e3.trans h.2.2.2⟩

/-- Two programs that leave an array's elements so leave the same arrays. -/
theorem Leaves.agree {ι : Type} {xg xd xm xv yg yd ym yv g w mo ve : ι → EReal} (h : ∀ j, Leaves (xg j) (xd j) (xm j) (xv j) (g j) (w j) (mo j) (ve j))
    (h' : ∀ j, Leaves (yg j) (yd j) (ym j) (yv j) (g j) (w j) (mo j) (ve j)) : xg = yg ∧ xd = yd ∧ xm = ym ∧ xv = yv :=
  ⟨funext fun j => (h j).1.trans (h' j).1.symm, funext fun j => (h j).2.1.trans (h' j).2.1.symm, funext fun j => (h j).2.2.1.trans (h' j).2.2.1.symm,
    funext fun j => (h j).2.2.2.trans (h' j).2.2.2.symm⟩

/-- A statement of a matrix's indices, row by row. -/
theorem by_rows {a b : Nat} {P : (⟨2, ![a, b]⟩ : Shape).Idx → Prop} (h : ∀ (i : Fin a) (k : Fin b), P (ix2 i k)) (j : (⟨2, ![a, b]⟩ : Shape).Idx) : P j := by
  have e : j = ix2 (j 0) (j 1) := by
    funext x
    match x with
    | ⟨0, _⟩ => rfl
    | ⟨1, _⟩ => rfl
  rw [e]
  exact h _ _

/-- A statement of a vector's indices. -/
theorem by_entries {a : Nat} {P : (⟨1, ![a]⟩ : Shape).Idx → Prop} (h : ∀ k : Fin a, P (ix1 k)) (j : (⟨1, ![a]⟩ : Shape).Idx) : P j := by
  have e : j = ix1 (j 0) := by
    funext x
    match x with
    | ⟨0, _⟩ => rfl
  rw [e]
  exact h _

end Cert.Small

end
-- ==== Proof.SmallRun.lean ====
module

public import proofs.«01_k».proof.Proof.SmallCall
public import proofs.«01_k».proof.Proof.SmallLeaves
public import Idealize.ShloMosaic.Lib.Claim
public import Idealize.ShloMosaic.Lib.KernelVsHost

/-! From the launch to the results of the two small calls, as functions of the arguments. -/

@[expose] public section

set_option maxRecDepth 16384

noncomputable section

namespace Cert.Kernel7Ideal.Small

open Cert.Kernel7Ideal Cert.Kernel7Ideal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Launch
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, leaves its arguments as they were, and its results are what the last boundary holds. -/
theorem run_results : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_v17) = W4 m ρ c (Proc.devRef .tc main_v17)
      ∧ r.2.mem ((c.tc : Thread nD τ).loc main_v18) = W4 m ρ c (Proc.devRef .tc main_v18)
      ∧ r.2.mem ((c.tc : Thread nD τ).loc main_v19) = W4 m ρ c (Proc.devRef .tc main_v19)
      ∧ r.2.mem ((c.tc : Thread nD τ).loc main_v20) = W4 m ρ c (Proc.devRef .tc main_v20)
      ∧ r.2.mem ((c.tc : Thread nD τ).loc main_v22) = W4 m ρ c (Proc.devRef .tc main_v22)
      ∧ r.2.mem ((c.tc : Thread nD τ).loc main_v23) = W4 m ρ c (Proc.devRef .tc main_v23)
      ∧ r.2.mem ((c.tc : Thread nD τ).loc main_v24) = W4 m ρ c (Proc.devRef .tc main_v24)
      ∧ r.2.mem ((c.tc : Thread nD τ).loc main_v25) = W4 m ρ c (Proc.devRef .tc main_v25)
      ∧ r.2.mem ((c.tc : Thread nD τ).loc main_v26) = W4 m ρ c (Proc.devRef .tc main_v26)
      ∧ r.2.mem ((c.tc : Thread nD τ).loc main_v28) = W4 m ρ c (Proc.devRef .tc main_v28)
      ∧ r.2.mem ((c.tc : Thread nD τ).loc main_v29) = W4 m ρ c (Proc.devRef .tc main_v29)
      ∧ r.2.mem ((c.tc : Thread nD τ).loc main_v30) = W4 m ρ c (Proc.devRef .tc main_v30)
      ∧ r.2.mem ((c.tc : Thread nD τ).loc main_v31) = W4 m ρ c (Proc.devRef .tc main_v31)
      ∧ r.2.mem ((c.tc : Thread nD τ).loc main_v32) = W4 m ρ c (Proc.devRef .tc main_v32)
      ∧ r.2.mem ((c.tc : Thread nD τ).loc main_v34) = W4 m ρ c (Proc.devRef .tc main_v34)
      ∧ r.2.mem ((c.tc : Thread nD τ).loc main_v35) = W4 m ρ c (Proc.devRef .tc main_v35)
      ∧ r.2.mem ((c.tc : Thread nD τ).loc main_v36) = W4 m ρ c (Proc.devRef .tc main_v36)
      ∧ r.2.mem ((c.tc : Thread nD τ).loc main_v37) = W4 m ρ c (Proc.devRef .tc main_v37)
      ∧ r.2.mem ((c.tc : Thread nD τ).loc main_v38) = W4 m ρ c (Proc.devRef .tc main_v38)
      ∧ r.2.mem ((c.tc : Thread nD τ).loc main_v40) = W4 m ρ c (Proc.devRef .tc main_v40)
      ∧ r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v0 (by decide)),
       h c _ (mem_uc main_v17 (by decide)),
       h c _ (mem_uc main_v18 (by decide)),
       h c _ (mem_uc main_v19 (by decide)),
       h c _ (mem_uc main_v20 (by decide)),
       h c _ (mem_uc main_v22 (by decide)),
       h c _ (mem_uc main_v23 (by decide)),
       h c _ (mem_uc main_v24 (by decide)),
       h c _ (mem_uc main_v25 (by decide)),
       h c _ (mem_uc main_v26 (by decide)),
       h c _ (mem_uc main_v28 (by decide)),
       h c _ (mem_uc main_v29 (by decide)),
       h c _ (mem_uc main_v30 (by decide)),
       h c _ (mem_uc main_v31 (by decide)),
       h c _ (mem_uc main_v32 (by decide)),
       h c _ (mem_uc main_v34 (by decide)),
       h c _ (mem_uc main_v35 (by decide)),
       h c _ (mem_uc main_v36 (by decide)),
       h c _ (mem_uc main_v37 (by decide)),
       h c _ (mem_uc main_v38 (by decide)),
       h c _ (mem_uc main_v40 (by decide)),
       h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)
end Launch

variable (m : (ℓ : Loc nD τ sig) → Buf (Elt Ideal) ℓ) (ρ : Dev nD → PrngReg) (c : Dev nD)

open Cert.Small
open Cert.Kernel6Ideal.Opt (step newM newV step_eq)

/-! ## The packed rows -/

section Pack
variable (a b : FVec Ideal S2x1024 .f32) (l : FVec Ideal S3x1024 .f32) (o : FVec Ideal S1x128 .f32) (f : FVec Ideal S1024 .f32)
  (z1 : FVec Ideal S1x896 .f32) (z2 : FVec Ideal S7x1024 .f32)

/-- The row of the recurrence's output gain, padded to the width of the others. -/
def wide : FVec Ideal S1x1024 .f32 := concatenate S1x1024 1 [⟨S1x128, o⟩, ⟨S1x896, z1⟩] concatenates_S1x128_S1x896_S1x1024_d1

/-- The pieces of the pack, from the top. -/
abbrev pieces : List ((s : Shape) × FVec Ideal s .f32) :=
  [⟨S2x1024, a⟩, ⟨S2x1024, b⟩, ⟨S3x1024, l⟩, ⟨S1x1024, wide o z1⟩, ⟨S1x1024, shapeCast S1x1024 f shapeCasts_S1024_S1x1024⟩, ⟨S7x1024, z2⟩]

/-- The five parameters one under the other. -/
def pack : FVec Ideal S16x1024 .f32 :=
  concatenate S16x1024 0 (pieces a b l o f z1 z2) concatenates_S2x1024_S2x1024_S3x1024_S1x1024_S1x1024_S7x1024_S16x1024_d0

/-- Off the joined axis a part's index is the whole's. -/
theorem off_rows {n : Nat} (i : Fin n) (r : Fin 16) (k : Fin 1024) (x : Fin 2) (hx : x ≠ 0) :
    ((ix2 i k : (⟨2, ![n, 1024]⟩ : Shape).Idx) x).val = ((ix2 r k : S16x1024.Idx) x).val := by
  match x, hx with
  | ⟨0, _⟩, hx => exact absurd rfl hx
  | ⟨1, _⟩, _ => rfl

theorem pack_mix (i : Fin 2) (k : Fin 1024) : pack a b l o f z1 z2 (ix2 ⟨i.val, by omega⟩ k) = a (ix2 i k) :=
  concatenate_apply_piece (t := S16x1024) 0 (pieces a b l o f z1 z2) _ (ix2 ⟨i.val, by omega⟩ k) 0 (show 0 < 6 by omega) S2x1024 a rfl rfl 0 rfl _ (off_rows i _ k) (Nat.zero_add _)
theorem pack_ffn (i : Fin 2) (k : Fin 1024) : pack a b l o f z1 z2 (ix2 ⟨2 + i.val, by omega⟩ k) = b (ix2 i k) :=
  concatenate_apply_piece (t := S16x1024) 0 (pieces a b l o f z1 z2) _ (ix2 ⟨2 + i.val, by omega⟩ k) 1 (show 1 < 6 by omega) S2x1024 b rfl rfl 2 rfl _ (off_rows i _ k) rfl
theorem pack_lb (i : Fin 3) (k : Fin 1024) : pack a b l o f z1 z2 (ix2 ⟨4 + i.val, by omega⟩ k) = l (ix2 i k) :=
  concatenate_apply_piece (t := S16x1024) 0 (pieces a b l o f z1 z2) _ (ix2 ⟨4 + i.val, by omega⟩ k) 2 (show 2 < 6 by omega) S3x1024 l rfl rfl 4 rfl _ (off_rows i _ k) rfl
theorem pack_wide (i : Fin 1) (k : Fin 1024) : pack a b l o f z1 z2 (ix2 7 k) = wide o z1 (ix2 i k) :=
  concatenate_apply_piece (t := S16x1024) 0 (pieces a b l o f z1 z2) _ (ix2 7 k) 3 (show 3 < 6 by omega) S1x1024 (wide o z1) rfl rfl 7 rfl _ (off_rows i _ k) (by have := i.isLt; show 7 + i.val = 7; omega)
theorem pack_out (i : Fin 1) (k : Fin 128) : pack a b l o f z1 z2 (ix2 7 ⟨k.val, by omega⟩) = o (ix2 i k) :=
  (pack_wide a b l o f z1 z2 i _).trans (concatenate_apply_piece (t := S1x1024) 1 [⟨S1x128, o⟩, ⟨S1x896, z1⟩] _ (ix2 i ⟨k.val, by omega⟩) 0 (show 0 < 2 by omega) S1x128 o rfl rfl 0 rfl (ix2 i k) (fun x hx =>
    match x, hx with
    | ⟨0, _⟩, _ => rfl
    | ⟨1, _⟩, hx => absurd rfl hx) (Nat.zero_add _))
theorem pack_fin (k : Fin 1024) : pack a b l o f z1 z2 (ix2 8 k) = f (ix1 k) := by
  refine (concatenate_apply_piece (t := S16x1024) 0 (pieces a b l o f z1 z2) _ (ix2 8 k) 4 (show 4 < 6 by omega) S1x1024 (shapeCast S1x1024 f shapeCasts_S1024_S1x1024) rfl rfl 8 rfl (ix2 0 k) (off_rows 0 _ k) rfl).trans ?_
  pointwise []

variable {a b l o f z1 z2} in
theorem pack_eq {a' b' : FVec Ideal S2x1024 .f32} {l' : FVec Ideal S3x1024 .f32} {o' : FVec Ideal S1x128 .f32} {f' : FVec Ideal S1024 .f32}
    (ha : a = a') (hb : b = b') (hl : l = l') (ho : o = o') (hf : f = f') : pack a b l o f z1 z2 = pack a' b' l' o' f' z1 z2 := by
  rw [ha, hb, hl, ho, hf]
end Pack

/-! ## The arguments as launched -/

/-- The parts that the devices send. -/
def aP (j : S8x8x1024.Idx) : EReal := m ((c.tc : Thread nD τ).loc main_arg0) j
/-- The parameters, and their first and second moments. -/
def aA (j : S2x1024.Idx) : EReal := m ((c.tc : Thread nD τ).loc main_arg1) j
def aB (j : S2x1024.Idx) : EReal := m ((c.tc : Thread nD τ).loc main_arg2) j
def aL (j : S3x1024.Idx) : EReal := m ((c.tc : Thread nD τ).loc main_arg3) j
def aO (j : S1x128.Idx) : EReal := m ((c.tc : Thread nD τ).loc main_arg4) j
def aF (j : S1024.Idx) : EReal := m ((c.tc : Thread nD τ).loc main_arg5) j
def aAm (j : S2x1024.Idx) : EReal := m ((c.tc : Thread nD τ).loc main_arg6) j
def aBm (j : S2x1024.Idx) : EReal := m ((c.tc : Thread nD τ).loc main_arg7) j
def aLm (j : S3x1024.Idx) : EReal := m ((c.tc : Thread nD τ).loc main_arg8) j
def aOm (j : S1x128.Idx) : EReal := m ((c.tc : Thread nD τ).loc main_arg9) j
def aFm (j : S1024.Idx) : EReal := m ((c.tc : Thread nD τ).loc main_arg10) j
def aAv (j : S2x1024.Idx) : EReal := m ((c.tc : Thread nD τ).loc main_arg11) j
def aBv (j : S2x1024.Idx) : EReal := m ((c.tc : Thread nD τ).loc main_arg12) j
def aLv (j : S3x1024.Idx) : EReal := m ((c.tc : Thread nD τ).loc main_arg13) j
def aOv (j : S1x128.Idx) : EReal := m ((c.tc : Thread nD τ).loc main_arg14) j
def aFv (j : S1024.Idx) : EReal := m ((c.tc : Thread nD τ).loc main_arg15) j
/-- The rows of zeros that fill a pack. -/
def zw : FVec Ideal S1x896 .f32 := broadcastInDim S1x896 ![] bcast_S_S1x896 (constant S_ .f32 0x00000000#32)
def zr : FVec Ideal S7x1024 .f32 := broadcastInDim S7x1024 ![] bcast_S_S7x1024 (constant S_ .f32 0x00000000#32)
/-- The packed parameters and moments. -/
def aW : FVec Ideal S16x1024 .f32 := pack (aA m c) (aB m c) (aL m c) (aO m c) (aF m c) zw zr
def aM : FVec Ideal S16x1024 .f32 := pack (aAm m c) (aBm m c) (aLm m c) (aOm m c) (aFm m c) zw zr
def aV : FVec Ideal S16x1024 .f32 := pack (aAv m c) (aBv m c) (aLv m c) (aOv m c) (aFv m c) zw zr

/-! What each call finds in its arrays. -/

theorem p_2 : Pt (V2 m ρ) c = aP m c := W2_args m ρ c main_arg0 (by decide)
theorem w_2 : Wt (V2 m ρ) c = aW m c :=
  Eq.trans (show V2 m ρ c main_v5 = pack (W1 m ρ c (Proc.devRef .tc main_arg1)) (W1 m ρ c (Proc.devRef .tc main_arg2)) (W1 m ρ c (Proc.devRef .tc main_arg3))
      (W1 m ρ c (Proc.devRef .tc main_arg4)) (W1 m ρ c (Proc.devRef .tc main_arg5)) zw zr by unfold V2 W2; after_results; rfl)
    (pack_eq (W1_args m ρ c main_arg1 (by decide)) (W1_args m ρ c main_arg2 (by decide)) (W1_args m ρ c main_arg3 (by decide)) (W1_args m ρ c main_arg4 (by decide)) (W1_args m ρ c main_arg5 (by decide)))
theorem m_2 : Mo (V2 m ρ) c = aM m c :=
  Eq.trans (show V2 m ρ c main_v10 = pack (W1 m ρ c (Proc.devRef .tc main_arg6)) (W1 m ρ c (Proc.devRef .tc main_arg7)) (W1 m ρ c (Proc.devRef .tc main_arg8))
      (W1 m ρ c (Proc.devRef .tc main_arg9)) (W1 m ρ c (Proc.devRef .tc main_arg10)) zw zr by unfold V2 W2; after_results; rfl)
    (pack_eq (W1_args m ρ c main_arg6 (by decide)) (W1_args m ρ c main_arg7 (by decide)) (W1_args m ρ c main_arg8 (by decide)) (W1_args m ρ c main_arg9 (by decide)) (W1_args m ρ c main_arg10 (by decide)))
theorem v_2 : Ve (V2 m ρ) c = aV m c :=
  Eq.trans (show V2 m ρ c main_v15 = pack (W1 m ρ c (Proc.devRef .tc main_arg11)) (W1 m ρ c (Proc.devRef .tc main_arg12)) (W1 m ρ c (Proc.devRef .tc main_arg13))
      (W1 m ρ c (Proc.devRef .tc main_arg14)) (W1 m ρ c (Proc.devRef .tc main_arg15)) zw zr by unfold V2 W2; after_results; rfl)
    (pack_eq (W1_args m ρ c main_arg11 (by decide)) (W1_args m ρ c main_arg12 (by decide)) (W1_args m ρ c main_arg13 (by decide)) (W1_args m ρ c main_arg14 (by decide)) (W1_args m ρ c main_arg15 (by decide)))
theorem g_2 (i : Fin 16) (k : Fin 1024) : Gr (V2 m ρ) c i k = gradAt (aP m c) (aW m c) i k :=
  congrArg₂ (fun p w => gradAt p w i k) (p_2 m ρ c) (w_2 m ρ c)

/-! The five arrays that the call leaves. -/

theorem arr_g (i : Fin 16) (k : Fin 1024) : W3 m ρ c (Proc.devRef .tc main_v16_0) (ix2 i k) = gradAt (aP m c) (aW m c) i k :=
  (congrFun (W3_arr m ρ c 4) (ix2 i k)).trans ((arr1_4 (V2 m ρ) c i k).trans (g_2 m ρ c i k))
theorem arr_d (i : Fin 16) (k : Fin 1024) : W3 m ρ c (Proc.devRef .tc main_v16_1) (ix2 i k) =
    step (aW m c (ix2 i k)) (gradAt (aP m c) (aW m c) i k) (aM m c (ix2 i k)) (aV m c (ix2 i k)) :=
  (congrFun (W3_arr m ρ c 5) (ix2 i k)).trans ((arr1_5 (V2 m ρ) c i k).trans
    (step_eq (congrFun (w_2 m ρ c) _) (g_2 m ρ c i k) (congrFun (m_2 m ρ c) _) (congrFun (v_2 m ρ c) _)))
theorem arr_m (i : Fin 16) (k : Fin 1024) : W3 m ρ c (Proc.devRef .tc main_v16_2) (ix2 i k) = newM (aM m c (ix2 i k)) (gradAt (aP m c) (aW m c) i k) :=
  (congrFun (W3_arr m ρ c 6) (ix2 i k)).trans ((arr1_6 (V2 m ρ) c i k).trans (congrArg₂ newM (congrFun (m_2 m ρ c) _) (g_2 m ρ c i k)))
theorem arr_v (i : Fin 16) (k : Fin 1024) : W3 m ρ c (Proc.devRef .tc main_v16_3) (ix2 i k) = newV (aV m c (ix2 i k)) (gradAt (aP m c) (aW m c) i k) :=
  (congrFun (W3_arr m ρ c 7) (ix2 i k)).trans ((arr1_7 (V2 m ρ) c i k).trans (congrArg₂ newV (congrFun (v_2 m ρ c) _) (g_2 m ρ c i k)))
theorem arr_loss (j : S1x1.Idx) : W3 m ρ c (Proc.devRef .tc main_v16_4) j = ∑ k, tot (aP m c) 7 k :=
  (congrFun (W3_arr m ρ c 8) j).trans ((arr1_8 (V2 m ρ) c j).trans (congrArg (fun p => ∑ k, tot p 7 k) (p_2 m ρ c)))

/-! ## The rows, parameter by parameter -/

/-- What is left of an element of a parameter, read from the five arrays through its slice of the rows. -/
theorem leaves {s : Shape} (cut : FVec Ideal S16x1024 .f32 → FVec Ideal s .f32) (j : s.Idx) (r : Fin 16) (k : Fin 1024) (hc : ∀ X, cut X j = X (ix2 r k))
    {g w mo ve : EReal} (hg : gradAt (aP m c) (aW m c) r k = g) (hw : aW m c (ix2 r k) = w) (hm : aM m c (ix2 r k) = mo) (hv : aV m c (ix2 r k) = ve) :
    Leaves (cut (W3 m ρ c (Proc.devRef .tc main_v16_0)) j) (cut (W3 m ρ c (Proc.devRef .tc main_v16_1)) j) (cut (W3 m ρ c (Proc.devRef .tc main_v16_2)) j)
      (cut (W3 m ρ c (Proc.devRef .tc main_v16_3)) j) g w mo ve := by
  subst hg hw hm hv
  exact ⟨(hc _).trans (arr_g m ρ c r k), (hc _).trans (arr_d m ρ c r k), (hc _).trans (arr_m m ρ c r k), (hc _).trans (arr_v m ρ c r k)⟩

/-- A slice of the rows, read at an index. -/
theorem cut_apply {n b : Nat} (o : Nat) (X : FVec Ideal S16x1024 .f32) (h : S16x1024.Slices ![o, 0] ⟨2, ![n, b]⟩) (i : Fin n) (k : Fin b) (r : Fin 16) (q : Fin 1024)
    (hr : r.val = o + i.val) (hq : q.val = k.val) : extractStridedSlice ⟨2, ![n, b]⟩ ![o, 0] X h (ix2 i k) = X (ix2 r q) := by
  refine extractStridedSlice_apply ![o, 0] X h (ix2 i k) (ix2 r q) fun a => ?_
  match a with
  | ⟨0, _⟩ => exact hr
  | ⟨1, _⟩ => exact hq.trans (Nat.zero_add _).symm

/-- The gradient's rows. -/
theorem grad_mix (i : Fin 2) (k : Fin 1024) : gradAt (aP m c) (aW m c) ⟨i.val, by omega⟩ k = tot (aP m c) ⟨i.val, by omega⟩ k := by
  match i with
  | ⟨0, _⟩ => rfl
  | ⟨1, _⟩ => rfl
theorem grad_ffn (i : Fin 2) (k : Fin 1024) : gradAt (aP m c) (aW m c) ⟨2 + i.val, by omega⟩ k = tot (aP m c) ⟨2 + i.val, by omega⟩ k := by
  match i with
  | ⟨0, _⟩ => rfl
  | ⟨1, _⟩ => rfl
theorem grad_lb (i : Fin 3) (k : Fin 1024) : gradAt (aP m c) (aW m c) ⟨4 + i.val, by omega⟩ k = logitGrad (fun j => aL m c (ix2 j k)) (tot (aP m c) 4 k) i := by
  have e : ∀ j : Fin 3, aW m c (ix2 ⟨4 + j.val, by omega⟩ k) = aL m c (ix2 j k) := fun j => pack_lb _ _ _ _ _ _ _ j k
  unfold logitGrad
  simp only [← e]
  match i with
  | ⟨0, _⟩ => rfl
  | ⟨1, _⟩ => rfl
  | ⟨2, _⟩ => rfl

/-! ## The results -/

theorem lb_1 (k : Fin 1024) : Lb (V0 m ρ) c k = prob (aL m c (ix2 0 k)) (aL m c (ix2 0 k)) (aL m c (ix2 1 k)) (aL m c (ix2 2 k)) := rfl

theorem res_lower (k : Fin 1024) : W4 m ρ c (Proc.devRef .tc main_v0) (ix2 0 k) =
    prob (aL m c (ix2 0 k)) (aL m c (ix2 0 k)) (aL m c (ix2 1 k)) (aL m c (ix2 2 k)) :=
  (congrFun (W4_of m ρ c main_v0 (by decide +kernel)) (ix2 0 k)).trans ((congrFun (W3_of m ρ c main_v0 (by decide +kernel)) (ix2 0 k)).trans
    ((congrFun (W2_of m ρ c main_v0 (by decide +kernel)) (ix2 0 k)).trans ((congrFun (W1_arr m ρ c 1) (ix2 0 k)).trans ((arr0_1 (V0 m ρ) c k).trans (lb_1 m ρ c k)))))

theorem res_loss (j : S_.Idx) : W4 m ρ c (Proc.devRef .tc main_v41) j = ∑ k, tot (aP m c) 7 k := by
  unfold W4
  after_results
  exact arr_loss m ρ c _

theorem cut_fin (k : Fin 1024) (X : FVec Ideal S16x1024 .f32) :
    shapeCast S1024 (extractStridedSlice S1x1024 ![8, 0] X slices_S16x1024_S1x1024_8_0) shapeCasts_S1x1024_S1024 (ix1 k) = X (ix2 8 k) := by
  refine Eq.trans ?_ (cut_apply 8 X slices_S16x1024_S1x1024_8_0 0 k 8 k rfl rfl)
  generalize extractStridedSlice S1x1024 ![8, 0] X slices_S16x1024_S1x1024_8_0 = Y
  pointwise []

theorem res_mix (i : Fin 2) (k : Fin 1024) :
    Leaves (W4 m ρ c (Proc.devRef .tc main_v17) (ix2 i k)) (W4 m ρ c (Proc.devRef .tc main_v23) (ix2 i k)) (W4 m ρ c (Proc.devRef .tc main_v29) (ix2 i k))
      (W4 m ρ c (Proc.devRef .tc main_v35) (ix2 i k)) (tot (aP m c) ⟨i.val, by omega⟩ k) (aA m c (ix2 i k)) (aAm m c (ix2 i k)) (aAv m c (ix2 i k)) := by
  refine (leaves m ρ c (fun X => extractStridedSlice S2x1024 ![0, 0] X slices_S16x1024_S2x1024_0_0) (ix2 i k) ⟨i.val, by omega⟩ k (fun X => cut_apply 0 X slices_S16x1024_S2x1024_0_0 i k _ _ (Nat.zero_add _).symm rfl)
    (grad_mix m c i k) (pack_mix _ _ _ _ _ _ _ i k) (pack_mix _ _ _ _ _ _ _ i k) (pack_mix _ _ _ _ _ _ _ i k)).at ?_ ?_ ?_ ?_ <;>
  exact congrFun (by unfold W4; after_results) _

theorem res_ffn (i : Fin 2) (k : Fin 1024) :
    Leaves (W4 m ρ c (Proc.devRef .tc main_v18) (ix2 i k)) (W4 m ρ c (Proc.devRef .tc main_v24) (ix2 i k)) (W4 m ρ c (Proc.devRef .tc main_v30) (ix2 i k))
      (W4 m ρ c (Proc.devRef .tc main_v36) (ix2 i k)) (tot (aP m c) ⟨2 + i.val, by omega⟩ k) (aB m c (ix2 i k)) (aBm m c (ix2 i k)) (aBv m c (ix2 i k)) := by
  refine (leaves m ρ c (fun X => extractStridedSlice S2x1024 ![2, 0] X slices_S16x1024_S2x1024_2_0) (ix2 i k) ⟨2 + i.val, by omega⟩ k (fun X => cut_apply 2 X slices_S16x1024_S2x1024_2_0 i k _ _ rfl rfl)
    (grad_ffn m c i k) (pack_ffn _ _ _ _ _ _ _ i k) (pack_ffn _ _ _ _ _ _ _ i k) (pack_ffn _ _ _ _ _ _ _ i k)).at ?_ ?_ ?_ ?_ <;>
  exact congrFun (by unfold W4; after_results) _

theorem res_lb (i : Fin 3) (k : Fin 1024) :
    Leaves (W4 m ρ c (Proc.devRef .tc main_v19) (ix2 i k)) (W4 m ρ c (Proc.devRef .tc main_v25) (ix2 i k)) (W4 m ρ c (Proc.devRef .tc main_v31) (ix2 i k))
      (W4 m ρ c (Proc.devRef .tc main_v37) (ix2 i k)) (logitGrad (fun j => aL m c (ix2 j k)) (tot (aP m c) 4 k) i) (aL m c (ix2 i k)) (aLm m c (ix2 i k)) (aLv m c (ix2 i k)) := by
  refine (leaves m ρ c (fun X => extractStridedSlice S3x1024 ![4, 0] X slices_S16x1024_S3x1024_4_0) (ix2 i k) ⟨4 + i.val, by omega⟩ k (fun X => cut_apply 4 X slices_S16x1024_S3x1024_4_0 i k _ _ rfl rfl)
    (grad_lb m c i k) (pack_lb _ _ _ _ _ _ _ i k) (pack_lb _ _ _ _ _ _ _ i k) (pack_lb _ _ _ _ _ _ _ i k)).at ?_ ?_ ?_ ?_ <;>
  exact congrFun (by unfold W4; after_results) _

theorem res_out (i : Fin 1) (k : Fin 128) :
    Leaves (W4 m ρ c (Proc.devRef .tc main_v20) (ix2 i k)) (W4 m ρ c (Proc.devRef .tc main_v26) (ix2 i k)) (W4 m ρ c (Proc.devRef .tc main_v32) (ix2 i k))
      (W4 m ρ c (Proc.devRef .tc main_v38) (ix2 i k)) (tot (aP m c) 5 ⟨k.val, by omega⟩) (aO m c (ix2 i k)) (aOm m c (ix2 i k)) (aOv m c (ix2 i k)) := by
  refine (leaves m ρ c (fun X => extractStridedSlice S1x128 ![7, 0] X slices_S16x1024_S1x128_7_0) (ix2 i k) 7 ⟨k.val, by omega⟩ (fun X => cut_apply 7 X slices_S16x1024_S1x128_7_0 i k _ _ (by have := i.isLt; show 7 = 7 + i.val; omega) rfl)
    rfl (pack_out _ _ _ _ _ _ _ i k) (pack_out _ _ _ _ _ _ _ i k) (pack_out _ _ _ _ _ _ _ i k)).at ?_ ?_ ?_ ?_ <;>
  exact congrFun (by unfold W4; after_results) _

theorem res_fin (k : Fin 1024) :
    Leaves (W4 m ρ c (Proc.devRef .tc main_v22) (ix1 k)) (W4 m ρ c (Proc.devRef .tc main_v28) (ix1 k)) (W4 m ρ c (Proc.devRef .tc main_v34) (ix1 k))
      (W4 m ρ c (Proc.devRef .tc main_v40) (ix1 k)) (tot (aP m c) 6 k) (aF m c (ix1 k)) (aFm m c (ix1 k)) (aFv m c (ix1 k)) := by
  refine (leaves m ρ c (fun X => shapeCast S1024 (extractStridedSlice S1x1024 ![8, 0] X slices_S16x1024_S1x1024_8_0) shapeCasts_S1x1024_S1024) (ix1 k) 8 k (cut_fin k)
    rfl (pack_fin _ _ _ _ _ _ _ k) (pack_fin _ _ _ _ _ _ _ k) (pack_fin _ _ _ _ _ _ _ k)).at ?_ ?_ ?_ ?_ <;>
  exact congrFun (by unfold W4; after_results; rfl) _

end Cert.Kernel7Ideal.Small

end
-- ==== Proof.SmallRef.lean ====
module

public import proofs.«01_k».proof.Proof.Gen.Reference7Ideal.Read
public import proofs.«01_k».proof.Proof.SmallLeaves
public import proofs.«01_k».proof.Proof.SmallMath
public import Idealize.ShloMosaic.Lib.KernelVsHost
public import Idealize.ShloMosaic.Lib.Pipeline.ReadBack
public import Idealize.ShloMosaic.Lib.Pipeline.Value

/-! The reference's gradients of the gains and of the logits, its lower bound and its optimiser steps, read at an index. -/

@[expose] public section

set_option maxRecDepth 16384

noncomputable section

namespace Cert.Reference7Ideal.SmallR

open Cert.Reference7Ideal Cert.Reference7Ideal.Gen Cert.Reference7Ideal.Read Idealize.ShloMosaic Idealize.ShloMosaic.TcCoe Idealize.SL.Sem
open Cert.Kernel6Ideal.Opt (newM newV step step_eq)
open Cert.Small

/-! ## A running sum over three rows, by windows -/

/-- The window's term for offset `n` at row `i`, with `lo` rows of padding before. -/
def term (lo : Nat) (x : S3x1024.Idx → EReal) (v : EReal) (i : Fin 3) (k : Fin 1024) (n : Nat) : EReal :=
  if h : lo ≤ i.val + n ∧ i.val + n - lo < 3 then x (ix2 ⟨i.val + n - lo, h.2⟩ k) else v

theorem window_apply (lo hi : Nat) (x : S3x1024.Idx → EReal) (init : S_.Idx → EReal)
    (h : S3x1024.ReduceWindows ![3, 1] ![1, 1] ![lo, 0] ![hi, 0] S3x1024) (i : Fin 3) (k : Fin 1024) :
    Host.reduceWindow (fun a b : EReal => a + b) ![3, 1] ![1, 1] ![lo, 0] ![hi, 0] x init h h_S_ (ix2 i k) =
      init (Shape.Idx.first h_S_) + term lo x (init (Shape.Idx.first h_S_)) i k 0 + term lo x (init (Shape.Idx.first h_S_)) i k 1
        + term lo x (init (Shape.Idx.first h_S_)) i k 2 := by
  have key : ∀ (n : Fin (Shape.numel ⟨2, ![3, 1]⟩)) (p : Fin S3x1024.rank → Nat) (v : EReal)
      (dec : Decidable (∀ a : Fin S3x1024.rank, (![lo, 0] : Fin 2 → Nat) a ≤ p a ∧ p a - (![lo, 0] : Fin 2 → Nat) a < S3x1024.size a)),
      p 0 = i.val + n.val → p 1 = k.val →
      @dite EReal (∀ a : Fin S3x1024.rank, (![lo, 0] : Fin 2 → Nat) a ≤ p a ∧ p a - (![lo, 0] : Fin 2 → Nat) a < S3x1024.size a) dec
        (fun hin => x (fun a => ⟨p a - (![lo, 0] : Fin 2 → Nat) a, (hin a).2⟩)) (fun _ => v) = term lo x v i k n.val := by
    intro n p v _ h0 h1
    unfold term
    by_cases hc : lo ≤ i.val + n.val ∧ i.val + n.val - lo < 3
    · have hin : ∀ a, (![lo, 0] : Fin 2 → Nat) a ≤ p a ∧ p a - (![lo, 0] : Fin 2 → Nat) a < S3x1024.size a := by
        intro a
        match a with
        | ⟨0, _⟩ => exact h0 ▸ hc
        | ⟨1, _⟩ => exact ⟨Nat.zero_le _, h1 ▸ k.isLt⟩
      rw [dif_pos hc, dif_pos hin]
      refine congrArg x (funext fun a => Fin.ext ?_)
      match a with
      | ⟨0, _⟩ => exact congrArg (· - lo) h0
      | ⟨1, _⟩ => exact h1
    · rw [dif_neg hc, dif_neg fun hin => hc (h0 ▸ hin 0)]
  have r0 : ∀ n : Fin (Shape.numel ⟨2, ![3, 1]⟩), ((Shape.rowMajor ⟨2, ![3, 1]⟩).symm n 0).val = n.val := by decide
  have r1 : ∀ n : Fin (Shape.numel ⟨2, ![3, 1]⟩), ((Shape.rowMajor ⟨2, ![3, 1]⟩).symm n 1).val = 0 := by decide
  have hl : List.finRange (Shape.numel ⟨2, ![3, 1]⟩) = [⟨0, by decide⟩, ⟨1, by decide⟩, ⟨2, by decide⟩] := by decide
  unfold Host.reduceWindow
  refine (congrArg (List.foldl _ _) hl).trans ?_
  refine congrArg₂ (fun a b : EReal => a + b) (congrArg₂ (fun a b : EReal => a + b) (congrArg (fun b : EReal => _ + b)
    (key ⟨0, by decide⟩ _ _ _ ?_ ?_)) (key ⟨1, by decide⟩ _ _ _ ?_ ?_)) (key ⟨2, by decide⟩ _ _ _ ?_ ?_)
  · exact congrArg₂ (fun a b : Nat => a + b) (Nat.mul_one _) (r0 _)
  · exact congrArg₂ (fun a b : Nat => a + b) (Nat.mul_one _) (r1 _)
  · exact congrArg₂ (fun a b : Nat => a + b) (Nat.mul_one _) (r0 _)
  · exact congrArg₂ (fun a b : Nat => a + b) (Nat.mul_one _) (r1 _)
  · exact congrArg₂ (fun a b : Nat => a + b) (Nat.mul_one _) (r0 _)
  · exact congrArg₂ (fun a b : Nat => a + b) (Nat.mul_one _) (r1 _)

/-! ## The greatest of three rows -/

theorem fold3 (f : Fin 3 → EReal) (b : EReal) :
    (Finset.univ : Finset (Fin 3)).fold (max : EReal → EReal → EReal) b f = max (f 0) (max (f 1) (max (f 2) b)) := by
  rfl

theorem lift3 (h : S3x1024.Reduces [0] S1024) (k : Fin 1024) (i : Fin 3) : h.lift (ix1 k) i = ix2 i k := by
  funext a; apply Fin.ext
  fin_cases a <;> rfl

theorem max3 (x : FVec Ideal S3x1024 .f32) (k : Fin 1024) :
    Host.reduce FloatOps.maximumf x (constant S_ .f32 0xFF800000#32) reducesTo_S3x1024_S1024_d0 h_S_ (ix1 k)
      = max (max (x (ix2 0 k)) (x (ix2 1 k))) (x (ix2 2 k)) := by
  have hr : S3x1024.Reduces [0] S1024 := ⟨reducesTo_S3x1024_S1024_d0.1, Nat.one_pos, reducesTo_S3x1024_S1024_d0.2⟩
  rw [Host.reduce_eq_fold_single FloatOps.maximumf x _ reducesTo_S3x1024_S1024_d0 hr h_S_]
  refine (fold3 (fun i => x (hr.lift (ix1 k) i)) (Ideal.ofBits .f32 0xFF800000#32)).trans ?_
  rw [lift3, lift3, lift3, show Ideal.ofBits .f32 0xFF800000#32 = (⊥ : EReal) from by simp [Ideal.ofBits, Ideal.ieee]]
  simp [max_assoc]

/-! ## The softmax and the lower bound -/

section Small
variable (x0 : FVec Ideal S8x8x1024 .f32) (x3 : FVec Ideal S3x1024 .f32) (k : Fin 1024)

theorem r_max : val_main_v8 (F := Ideal) x3 (ix1 k) = max (max (x3 (ix2 0 k)) (x3 (ix2 1 k))) (x3 (ix2 2 k)) := by
  refine (congrArg₂ (fun a b : EReal => max a b) (show _ = (⊥ : EReal) from ?_) (max3 x3 k)).trans (max_eq_right bot_le)
  show Ideal.ofBits .f32 0xFF800000#32 = _
  simp [Ideal.ofBits, Ideal.ieee]

theorem r_expo (i : Fin 3) :
    val_main_v21 (F := Ideal) x3 (ix2 i k) = expo (x3 (ix2 i k)) (x3 (ix2 0 k)) (x3 (ix2 1 k)) (x3 (ix2 2 k)) := by
  refine congrArg Ideal.exp (congrArg (fun b : EReal => x3 (ix2 i k) - b) ?_)
  refine (val_main_v19_apply (F := Ideal) _ _).trans ((val_main_v18_apply (F := Ideal) _ _).trans (Eq.trans (congrArg _ ?_) (r_max x3 k)))
  funext a
  match a with
  | ⟨0, _⟩ => rfl

theorem r_sum : val_main_v23 (F := Ideal) x3 (ix2 0 k) = expoSum (x3 (ix2 0 k)) (x3 (ix2 1 k)) (x3 (ix2 2 k)) := by
  refine (val_main_v23_apply (F := Ideal) _ _).trans ((val_main_v22_apply _ _).trans ?_)
  refine (congrArg₂ (fun a b : EReal => a + b) Ideal.ofBits_zero_f32 ?_).trans (zero_add _)
  refine (Fin.sum_univ_three _).trans ?_
  unfold expoSum
  rw [← r_expo x3 k 0, ← r_expo x3 k 1, ← r_expo x3 k 2]
  refine congrArg₂ (fun a b : EReal => a + b) (congrArg₂ (fun a b : EReal => a + b) ?_ ?_) ?_ <;>
  · refine congrArg _ (funext fun a => ?_)
    match a with
    | ⟨0, _⟩ => rfl
    | ⟨1, _⟩ => rfl

theorem r_prob (i : Fin 3) :
    val_main_v25 (F := Ideal) x3 (ix2 i k) = prob (x3 (ix2 i k)) (x3 (ix2 0 k)) (x3 (ix2 1 k)) (x3 (ix2 2 k)) := by
  refine congrArg₂ Ideal.div (r_expo x3 k i) ?_
  refine (val_main_v24_apply (F := Ideal) _ _).trans (Eq.trans (congrArg _ ?_) (r_sum x3 k))
  funext a
  match a with
  | ⟨0, _⟩ => rfl
  | ⟨1, _⟩ => rfl

theorem init0 : val_main_call0_call0_v0 (F := Ideal) (Shape.Idx.first h_S_) = (0 : EReal) :=
  (val_main_call0_call0_v0_apply (F := Ideal) _).trans Ideal.ofBits_zero_f32
theorem init1 : val_main_call1_call0_v0 (F := Ideal) (Shape.Idx.first h_S_) = (0 : EReal) :=
  (val_main_call1_call0_v0_apply (F := Ideal) _).trans Ideal.ofBits_zero_f32

/-- The first row of the running sum is the first probability. -/
theorem r_lb : val_main_v174 (F := Ideal) x3 (ix2 0 k) = prob (x3 (ix2 0 k)) (x3 (ix2 0 k)) (x3 (ix2 1 k)) (x3 (ix2 2 k)) := by
  refine (val_main_v174_apply (F := Ideal) _ _).trans ((val_main_v31_apply (F := Ideal) _ _).trans ((val_main_v30_apply (F := Ideal) _ _).trans ?_))
  refine Eq.trans (congrArg (val_main_v29 (F := Ideal) x3) (a₂ := ix2 0 k) ?_) ?_
  · funext a
    apply Fin.ext
    match a with
    | ⟨0, _⟩ => rfl
    | ⟨1, _⟩ => exact Nat.mod_eq_of_lt k.isLt
  refine (window_apply 2 0 (val_main_v25 (F := Ideal) x3) (val_main_call0_call0_v0 (F := Ideal)) reduceWindows_S3x1024_S3x1024_w3s1p2_0_w1s1p0_0 0 k).trans ?_
  rw [init0, ← r_prob x3 k 0]
  simp [term]

/-! ## The derivative -/

theorem r_tot (r : Fin 8) : val_main_v0 (F := Ideal) x0 (ix2 r k) = tot x0 r k := by
  refine (val_main_v0_apply _ _).trans ?_
  refine (congrArg₂ (fun a b : EReal => a + b) Ideal.ofBits_zero_f32 ?_).trans (zero_add _)
  refine Finset.sum_congr rfl fun d _ => congrArg x0 (funext fun a => ?_)
  match a with
  | ⟨0, _⟩ => rfl
  | ⟨1, _⟩ => rfl
  | ⟨2, _⟩ => rfl

theorem r_cot (i : Fin 3) : val_main_v35 (F := Ideal) x0 (ix2 i k) = if i = 0 then tot x0 4 k else 0 := by
  unfold val_main_v35
  by_cases h : i = 0
  · subst h
    rw [if_pos rfl]
    refine (pad_apply_of_inside (s := S1x1024) (t := S3x1024) _ _ _ _ _ _ _ (ix2 0 k) (ix2 0 k) (fun b => match b with
      | ⟨0, _⟩ => by show _ = 0 + _ * (0 + 1); rw [Nat.zero_add, Nat.mul_one]; rfl
      | ⟨1, _⟩ => by show _ = 0 + _ * (0 + 1); rw [Nat.zero_add, Nat.mul_one]; rfl)).trans ?_
    refine (val_main_v34_apply (F := Ideal) _ _).trans ((val_main_v33_apply (F := Ideal) _ _).trans ((val_main_v32_apply (F := Ideal) _ _).trans (Eq.trans (congrArg _ ?_) (r_tot x0 k 4))))
    funext a
    apply Fin.ext
    match a with
    | ⟨0, _⟩ => rfl
    | ⟨1, _⟩ => exact Nat.mod_eq_of_lt k.isLt
  · rw [if_neg h]
    refine (pad_apply_of_not_inside (s := S1x1024) (t := S3x1024) _ _ _ _ _ _ _ (ix2 i k) 0 ?_).trans Ideal.ofBits_zero_f32
    intro hc
    have h3 : (i.val - 0) / (0 + 1) < 1 := hc.2.2
    exact h (Fin.ext (by omega))

/-- The cotangent of the softmax: the lower bound's on the first row, none on the others. -/
theorem r_back (i : Fin 3) : val_main_v36 (F := Ideal) x0 (ix2 i k) = if i = 0 then tot x0 4 k else 0 := by
  refine (window_apply 0 2 (val_main_v35 (F := Ideal) x0) (val_main_call1_call0_v0 (F := Ideal)) reduceWindows_S3x1024_S3x1024_w3s1p0_2_w1s1p0_0 i k).trans ?_
  rw [init1]
  unfold term
  simp only [r_cot]
  fin_cases i <;> simp

/-- A column of one row, read through the two broadcasts. -/
theorem r_sumB (i : Fin 3) : val_main_v43 (F := Ideal) x3 (ix2 i k) = expoSum (x3 (ix2 0 k)) (x3 (ix2 1 k)) (x3 (ix2 2 k)) := by
  refine (val_main_v43_apply (F := Ideal) _ _).trans (Eq.trans (congrArg _ ?_) (r_sum x3 k))
  funext a
  match a with
  | ⟨0, _⟩ => rfl
  | ⟨1, _⟩ => rfl

theorem r_invB (i : Fin 3) : val_main_v37 (F := Ideal) x3 (ix2 i k) = Ideal.div 1 (expoSum (x3 (ix2 0 k)) (x3 (ix2 1 k)) (x3 (ix2 2 k))
    * expoSum (x3 (ix2 0 k)) (x3 (ix2 1 k)) (x3 (ix2 2 k))) := by
  refine (val_main_v37_apply (F := Ideal) _ _).trans ?_
  refine Eq.trans (congrArg (val_main_v28 (F := Ideal) x3) (a₂ := ix2 0 k) ?_) ?_
  · funext a
    match a with
    | ⟨0, _⟩ => rfl
    | ⟨1, _⟩ => rfl
  refine congrArg₂ Ideal.div (show Ideal.ofBits .f32 0x3F800000#32 = (1 : EReal) from ?_) (congrArg₂ (fun a b : EReal => a * b) (r_sum x3 k) (r_sum x3 k))
  exact Ideal.ofBits_one_f32

theorem r_dot : val_main_v40 (F := Ideal) x0 x3 (ix1 k) = tot x0 4 k * Ideal.div 1 (expoSum (x3 (ix2 0 k)) (x3 (ix2 1 k)) (x3 (ix2 2 k))
    * expoSum (x3 (ix2 0 k)) (x3 (ix2 1 k)) (x3 (ix2 2 k))) * expo (x3 (ix2 0 k)) (x3 (ix2 0 k)) (x3 (ix2 1 k)) (x3 (ix2 2 k)) := by
  refine (val_main_v40_apply _ _ _).trans ?_
  refine (congrArg₂ (fun a b : EReal => a + b) Ideal.ofBits_zero_f32 ?_).trans (zero_add _)
  have e : ∀ i : Fin 3, val_main_v39 (F := Ideal) x0 x3 (ix2 i k) =
      (if i = 0 then tot x0 4 k else 0) * Ideal.div 1 (expoSum (x3 (ix2 0 k)) (x3 (ix2 1 k)) (x3 (ix2 2 k))
        * expoSum (x3 (ix2 0 k)) (x3 (ix2 1 k)) (x3 (ix2 2 k))) * expo (x3 (ix2 i k)) (x3 (ix2 0 k)) (x3 (ix2 1 k)) (x3 (ix2 2 k)) := fun i =>
    congrArg₂ (fun a b : EReal => a * b) (congrArg₂ (fun a b : EReal => a * b) (r_back x0 k i) (r_invB x3 k i)) (r_expo x3 k i)
  refine (Finset.sum_congr rfl fun i _ => (congrArg (val_main_v39 (F := Ideal) x0 x3) (a₂ := ix2 i k) (funext fun a => ?_))).trans ?_
  · match a with
    | ⟨0, _⟩ => rfl
    | ⟨1, _⟩ => rfl
  refine (Fin.sum_univ_three _).trans ?_
  rw [e 0, e 1, e 2, if_pos rfl, if_neg (by decide), if_neg (by decide), zero_mul, zero_mul, add_zero, zero_mul, add_zero]

theorem r_dotB (i : Fin 3) : val_main_v46 (F := Ideal) x0 x3 (ix2 i k) = -(tot x0 4 k * Ideal.div 1 (expoSum (x3 (ix2 0 k)) (x3 (ix2 1 k)) (x3 (ix2 2 k))
    * expoSum (x3 (ix2 0 k)) (x3 (ix2 1 k)) (x3 (ix2 2 k))) * expo (x3 (ix2 0 k)) (x3 (ix2 0 k)) (x3 (ix2 1 k)) (x3 (ix2 2 k))) := by
  refine (val_main_v46_apply (F := Ideal) _ _ _).trans ((val_main_v45_apply _ _ _).trans ?_)
  refine (congrArg₂ (fun a b : EReal => a + b) Ideal.ofBits_zero_f32 (Fin.sum_univ_one _)).trans ((zero_add _).trans ?_)
  refine congrArg (fun a : EReal => -a) ((val_main_v41_apply (F := Ideal) _ _ _).trans (Eq.trans (congrArg _ (funext fun a => Fin.ext ?_)) (r_dot x0 x3 k)))
  match a with
  | ⟨0, _⟩ =>
    show 0 * 1024 + k.val = k.val
    omega

/-- A row of the gradient of the logits, as the reference writes it. -/
theorem r_dlog (i : Fin 3) : val_main_v48 (F := Ideal) x0 x3 (ix2 i k) =
    (Ideal.div (if i = 0 then tot x0 4 k else 0) (expoSum (x3 (ix2 0 k)) (x3 (ix2 1 k)) (x3 (ix2 2 k)))
      + -(tot x0 4 k * Ideal.div 1 (expoSum (x3 (ix2 0 k)) (x3 (ix2 1 k)) (x3 (ix2 2 k)) * expoSum (x3 (ix2 0 k)) (x3 (ix2 1 k)) (x3 (ix2 2 k)))
        * expo (x3 (ix2 0 k)) (x3 (ix2 0 k)) (x3 (ix2 1 k)) (x3 (ix2 2 k)))) * expo (x3 (ix2 i k)) (x3 (ix2 0 k)) (x3 (ix2 1 k)) (x3 (ix2 2 k)) :=
  congrArg₂ (fun a b : EReal => a * b) (congrArg₂ (fun a b : EReal => a + b) (congrArg₂ Ideal.div (r_back x0 k i) (r_sumB x3 k i)) (r_dotB x0 x3 k i)) (r_expo x3 k i)

/-! ## The gradient of the logits -/

/-- The reference's form is the kernel's, where the greatest logit of the column is real. -/
theorem r_glb (hm : ∃ a : ℝ, max (max (x3 (ix2 0 k)) (x3 (ix2 1 k))) (x3 (ix2 2 k)) = a) (i : Fin 3) :
    val_main_v48 (F := Ideal) x0 x3 (ix2 i k) = logitGrad (fun j => x3 (ix2 j k)) (tot x0 4 k) i := by
  refine (r_dlog x0 x3 k i).trans ?_
  obtain ⟨a, b, e, ha, hb, he, hs, ea, eb, ee⟩ := exps_real hm
  have hx : ∃ q : ℝ, 0 ≤ q ∧ expo (x3 (ix2 i k)) (x3 (ix2 0 k)) (x3 (ix2 1 k)) (x3 (ix2 2 k)) = q := by
    match i with
    | ⟨0, _⟩ => exact ⟨a, ha, ea⟩
    | ⟨1, _⟩ => exact ⟨b, hb, eb⟩
    | ⟨2, _⟩ => exact ⟨e, he, ee⟩
  obtain ⟨q, hq, eq⟩ := hx
  show _ = prob (x3 (ix2 i k)) (x3 (ix2 0 k)) (x3 (ix2 1 k)) (x3 (ix2 2 k))
    * ((if i = 0 then tot x0 4 k else 0) - prob (x3 (ix2 0 k)) (x3 (ix2 0 k)) (x3 (ix2 1 k)) (x3 (ix2 2 k)) * tot x0 4 k)
  unfold prob
  rw [eq]
  by_cases hi : i = 0
  · subst hi
    obtain rfl : a = q := EReal.coe_injective (ea.symm.trans eq)
    rw [if_pos rfl]
    unfold expoSum expo
    rw [ea, eb, ee, ← EReal.coe_add, ← EReal.coe_add]
    exact own_row ha hs _
  · rw [if_neg hi]
    unfold expoSum expo
    rw [ea, eb, ee, ← EReal.coe_add, ← EReal.coe_add]
    exact other_row ha hq hs _
end Small

/-! ## The gradients of the gains, and the loss -/

section Gains
variable (x0 : FVec Ideal S8x8x1024 .f32)

theorem r_gmix (i : Fin 2) (k : Fin 1024) : val_main_v49 (F := Ideal) x0 (ix2 i k) = tot x0 ⟨i.val, by omega⟩ k := by
  refine (val_main_v49_apply (F := Ideal) _ _).trans (Eq.trans (congrArg _ (funext fun a => Fin.ext ?_)) (r_tot x0 k _))
  match a with
  | ⟨0, _⟩ => rfl
  | ⟨1, _⟩ => rfl

theorem r_gffn (i : Fin 2) (k : Fin 1024) : val_main_v50 (F := Ideal) x0 (ix2 i k) = tot x0 ⟨2 + i.val, by omega⟩ k := by
  refine (val_main_v50_apply (F := Ideal) _ _).trans (Eq.trans (congrArg _ (funext fun a => Fin.ext ?_)) (r_tot x0 k _))
  match a with
  | ⟨0, _⟩ => rfl
  | ⟨1, _⟩ => rfl

theorem r_gout (i : Fin 1) (k : Fin 128) : val_main_v51 (F := Ideal) x0 (ix2 i k) = tot x0 5 ⟨k.val, by omega⟩ := by
  refine (val_main_v51_apply (F := Ideal) _ _).trans (Eq.trans (congrArg _ (funext fun a => Fin.ext ?_)) (r_tot x0 _ _))
  match a with
  | ⟨0, _⟩ =>
    obtain rfl : i = 0 := Subsingleton.elim _ _
    rfl
  | ⟨1, _⟩ => rfl

theorem r_gfin (k : Fin 1024) : val_main_v53 (F := Ideal) x0 (ix1 k) = tot x0 6 k := by
  refine (val_main_v53_apply (F := Ideal) _ _).trans ((val_main_v52_apply (F := Ideal) _ _).trans (Eq.trans (congrArg _ (funext fun a => Fin.ext ?_)) (r_tot x0 k 6)))
  match a with
  | ⟨0, _⟩ => rfl
  | ⟨1, _⟩ => exact Nat.mod_eq_of_lt k.isLt

theorem r_loss (j : S_.Idx) : val_main_v177 (F := Ideal) x0 j = ∑ k, tot x0 7 k := by
  refine (val_main_v177_apply _ _).trans ((congrArg₂ (fun a b : EReal => a + b) Ideal.ofBits_zero_f32 ?_).trans (zero_add _))
  refine (Fintype.sum_equiv (⟨fun k => ix1 k, fun j => j 0, fun _ => rfl, fun j => funext fun a => match a with | ⟨0, _⟩ => rfl⟩ : Fin 1024 ≃ S1024.Idx) _ _ fun k => ?_).symm
  refine ((val_main_v176_apply (F := Ideal) _ _).trans ((val_main_v175_apply (F := Ideal) _ _).trans (Eq.trans (congrArg _ (funext fun a => Fin.ext ?_)) (r_tot x0 k 7)))).symm
  match a with
  | ⟨0, _⟩ => rfl
  | ⟨1, _⟩ => exact Nat.mod_eq_of_lt k.isLt

/-! ## What is left of each parameter -/

theorem left_mix (w mo ve : FVec Ideal S2x1024 .f32) (i : Fin 2) (k : Fin 1024) :
    Leaves (val_main_v49 (F := Ideal) x0 (ix2 i k)) (val_main_v77 (F := Ideal) x0 w mo ve (ix2 i k)) (val_main_v58 (F := Ideal) x0 mo (ix2 i k))
      (val_main_v64 (F := Ideal) x0 ve (ix2 i k)) (tot x0 ⟨i.val, by omega⟩ k) (w (ix2 i k)) (mo (ix2 i k)) (ve (ix2 i k)) :=
  .of_grad (r_gmix x0 i k)
theorem left_ffn (w mo ve : FVec Ideal S2x1024 .f32) (i : Fin 2) (k : Fin 1024) :
    Leaves (val_main_v50 (F := Ideal) x0 (ix2 i k)) (val_main_v101 (F := Ideal) x0 w mo ve (ix2 i k)) (val_main_v82 (F := Ideal) x0 mo (ix2 i k))
      (val_main_v88 (F := Ideal) x0 ve (ix2 i k)) (tot x0 ⟨2 + i.val, by omega⟩ k) (w (ix2 i k)) (mo (ix2 i k)) (ve (ix2 i k)) :=
  .of_grad (r_gffn x0 i k)
theorem left_lb (x3 mo ve : FVec Ideal S3x1024 .f32) (i : Fin 3) (k : Fin 1024) (hm : ∃ a : ℝ, max (max (x3 (ix2 0 k)) (x3 (ix2 1 k))) (x3 (ix2 2 k)) = a) :
    Leaves (val_main_v48 (F := Ideal) x0 x3 (ix2 i k)) (val_main_v125 (F := Ideal) x0 x3 mo ve (ix2 i k)) (val_main_v106 (F := Ideal) x0 x3 mo (ix2 i k))
      (val_main_v112 (F := Ideal) x0 x3 ve (ix2 i k)) (logitGrad (fun j => x3 (ix2 j k)) (tot x0 4 k) i) (x3 (ix2 i k)) (mo (ix2 i k)) (ve (ix2 i k)) :=
  .of_grad (r_glb x0 x3 k hm i)
theorem left_out (w mo ve : FVec Ideal S1x128 .f32) (i : Fin 1) (k : Fin 128) :
    Leaves (val_main_v51 (F := Ideal) x0 (ix2 i k)) (val_main_v149 (F := Ideal) x0 w mo ve (ix2 i k)) (val_main_v130 (F := Ideal) x0 mo (ix2 i k))
      (val_main_v136 (F := Ideal) x0 ve (ix2 i k)) (tot x0 5 ⟨k.val, by omega⟩) (w (ix2 i k)) (mo (ix2 i k)) (ve (ix2 i k)) :=
  .of_grad (r_gout x0 i k)
theorem left_fin (w mo ve : FVec Ideal S1024 .f32) (k : Fin 1024) :
    Leaves (val_main_v53 (F := Ideal) x0 (ix1 k)) (val_main_v173 (F := Ideal) x0 w mo ve (ix1 k)) (val_main_v154 (F := Ideal) x0 mo (ix1 k))
      (val_main_v160 (F := Ideal) x0 ve (ix1 k)) (tot x0 6 k) (w (ix1 k)) (mo (ix1 k)) (ve (ix1 k)) :=
  .of_grad (r_gfin x0 k)

end Gains

end Cert.Reference7Ideal.SmallR

end
-- ==== Proof.SmallPre.lean ====
module

public import proofs.«01_k».proof.Defs
public import proofs.«01_k».proof.Proof.FfnPre
public import proofs.«01_k».proof.Proof.SmallRun
public import proofs.«01_k».proof.Proof.SmallRef
public import Idealize.ShloMosaic.Lib.ReduceAll

/-! The precondition on the logits, read back: the greatest of a column's three is a real number. -/

@[expose] public section

set_option maxRecDepth 16384

noncomputable section

namespace Cert.Pre_finite_logits

open Idealize.ShloMosaic Idealize.SL.Sem

theorem facts : Facts where
  reducesTo_S3x1024_S1024_d0 := by decide
  h_S_ := by decide
  bcast_S_S1024 := by decide
  reducesTo_S1024_S_d0 := by decide

instance : Facts := facts

theorem real_greatest (x0 : FVec Ideal S8x8x1024 .f32) (x1 x2 : FVec Ideal S2x1024 .f32) (x3 : FVec Ideal S3x1024 .f32) (x4 : FVec Ideal S1x128 .f32)
    (x5 : FVec Ideal S1024 .f32) (x6 x7 : FVec Ideal S2x1024 .f32) (x8 : FVec Ideal S3x1024 .f32) (x9 : FVec Ideal S1x128 .f32)
    (x10 : FVec Ideal S1024 .f32) (x11 x12 : FVec Ideal S2x1024 .f32) (x13 : FVec Ideal S3x1024 .f32) (x14 : FVec Ideal S1x128 .f32)
    (x15 : FVec Ideal S1024 .f32) (h : fn (F := Ideal) x0 x1 x2 x3 x4 x5 x6 x7 x8 x9 x10 x11 x12 x13 x14 x15 = fun _ => 1#1)
    (k : Fin 1024) : ∃ a : ℝ, max (max (x3 (ix2 0 k)) (x3 (ix2 1 k))) (x3 (ix2 2 k)) = a := by
  haveI : Subsingleton S_.Idx := ⟨fun a b => funext fun i => i.elim0⟩
  have hj := congrFun h (Shape.Idx.first (s := S_) (by decide))
  unfold fn at hj
  have e := Cert.Pre_finite.real_of_cmp (Host.reduce FloatOps.maximumf x3
    (constant S_ .f32 0xFF800000#32) Facts.reducesTo_S3x1024_S1024_d0 Facts.h_S_) _ _ (Host.reduce_andi_all _ _ _ _ _ hj (ix1 k))
  exact Cert.Reference7Ideal.SmallR.max3 x3 k ▸ e

theorem real_args (m : (ℓ : Loc Cert.Kernel7Ideal.nD Cert.Kernel7Ideal.τ Cert.Kernel7Ideal.sig) → Buf (Elt Ideal) ℓ)
    (h : Cert.Pre_Kernel7Ideal_finite_logits m) (c : Dev Cert.Kernel7Ideal.nD) (k : Fin 1024) :
    ∃ a : ℝ, max (max (Cert.Kernel7Ideal.Small.aL m c (ix2 0 k)) (Cert.Kernel7Ideal.Small.aL m c (ix2 1 k))) (Cert.Kernel7Ideal.Small.aL m c (ix2 2 k)) = a :=
  real_greatest _ _ _ _ _ _ _ _ _ _ _ _ _ _ _ _ (h c) k

end Cert.Pre_finite_logits

namespace Cert.Small

open Idealize.ShloMosaic Idealize.SL.Sem Idealize.ShloMosaic.TcCoe
open Cert.Kernel7Ideal Cert.Kernel7Ideal.Gen Cert.Kernel7Ideal.Small Cert.Reference7Ideal.SmallR Cert.Reference7Ideal.Read

/-! Both programs leave the same of each parameter, when they are given the same. -/

variable (m : (ℓ : Loc Cert.Kernel7Ideal.nD Cert.Kernel7Ideal.τ Cert.Kernel7Ideal.sig) → Buf (Elt Ideal) ℓ) (ρ : Dev Cert.Kernel7Ideal.nD → PrngReg)
  (c : Dev Cert.Kernel7Ideal.nD) {x0 : FVec Ideal S8x8x1024 .f32}

theorem agree_mix {w mo ve : FVec Ideal S2x1024 .f32} (e0 : x0 = aP m c) (e1 : w = aA m c) (e2 : mo = aAm m c) (e3 : ve = aAv m c) :
    val_main_v49 (F := Ideal) x0 = W4 m ρ c (Proc.devRef .tc Cert.Kernel7Ideal.main_v17)
      ∧ val_main_v77 (F := Ideal) x0 w mo ve = W4 m ρ c (Proc.devRef .tc Cert.Kernel7Ideal.main_v23)
      ∧ val_main_v58 (F := Ideal) x0 mo = W4 m ρ c (Proc.devRef .tc Cert.Kernel7Ideal.main_v29)
      ∧ val_main_v64 (F := Ideal) x0 ve = W4 m ρ c (Proc.devRef .tc Cert.Kernel7Ideal.main_v35) := by
  subst e0 e1 e2 e3
  exact Leaves.agree (g := fun j => tot (aP m c) ⟨(j 0).val, by have : (j 0).val < 2 := (j 0).isLt; omega⟩ (j 1)) (w := aA m c) (mo := aAm m c) (ve := aAv m c)
    (by_rows fun i k => left_mix _ _ _ _ i k) (by_rows fun i k => res_mix m ρ c i k)

theorem agree_ffn {w mo ve : FVec Ideal S2x1024 .f32} (e0 : x0 = aP m c) (e1 : w = aB m c) (e2 : mo = aBm m c) (e3 : ve = aBv m c) :
    val_main_v50 (F := Ideal) x0 = W4 m ρ c (Proc.devRef .tc Cert.Kernel7Ideal.main_v18)
      ∧ val_main_v101 (F := Ideal) x0 w mo ve = W4 m ρ c (Proc.devRef .tc Cert.Kernel7Ideal.main_v24)
      ∧ val_main_v82 (F := Ideal) x0 mo = W4 m ρ c (Proc.devRef .tc Cert.Kernel7Ideal.main_v30)
      ∧ val_main_v88 (F := Ideal) x0 ve = W4 m ρ c (Proc.devRef .tc Cert.Kernel7Ideal.main_v36) := by
  subst e0 e1 e2 e3
  exact Leaves.agree (g := fun j => tot (aP m c) ⟨2 + (j 0).val, by have : (j 0).val < 2 := (j 0).isLt; omega⟩ (j 1)) (w := aB m c) (mo := aBm m c) (ve := aBv m c)
    (by_rows fun i k => left_ffn _ _ _ _ i k) (by_rows fun i k => res_ffn m ρ c i k)

theorem agree_lb {x3 mo ve : FVec Ideal S3x1024 .f32} (e0 : x0 = aP m c) (e1 : x3 = aL m c) (e2 : mo = aLm m c) (e3 : ve = aLv m c)
    (hl : ∀ k, ∃ a : ℝ, max (max (aL m c (ix2 0 k)) (aL m c (ix2 1 k))) (aL m c (ix2 2 k)) = a) :
    val_main_v48 (F := Ideal) x0 x3 = W4 m ρ c (Proc.devRef .tc Cert.Kernel7Ideal.main_v19)
      ∧ val_main_v125 (F := Ideal) x0 x3 mo ve = W4 m ρ c (Proc.devRef .tc Cert.Kernel7Ideal.main_v25)
      ∧ val_main_v106 (F := Ideal) x0 x3 mo = W4 m ρ c (Proc.devRef .tc Cert.Kernel7Ideal.main_v31)
      ∧ val_main_v112 (F := Ideal) x0 x3 ve = W4 m ρ c (Proc.devRef .tc Cert.Kernel7Ideal.main_v37) := by
  subst e0 e1 e2 e3
  exact Leaves.agree (g := fun j => logitGrad (fun r => aL m c (ix2 r (j 1))) (tot (aP m c) 4 (j 1)) (j 0)) (w := aL m c) (mo := aLm m c) (ve := aLv m c)
    (by_rows fun i k => left_lb _ _ _ _ i k (hl k)) (by_rows fun i k => res_lb m ρ c i k)

theorem agree_out {w mo ve : FVec Ideal S1x128 .f32} (e0 : x0 = aP m c) (e1 : w = aO m c) (e2 : mo = aOm m c) (e3 : ve = aOv m c) :
    val_main_v51 (F := Ideal) x0 = W4 m ρ c (Proc.devRef .tc Cert.Kernel7Ideal.main_v20)
      ∧ val_main_v149 (F := Ideal) x0 w mo ve = W4 m ρ c (Proc.devRef .tc Cert.Kernel7Ideal.main_v26)
      ∧ val_main_v130 (F := Ideal) x0 mo = W4 m ρ c (Proc.devRef .tc Cert.Kernel7Ideal.main_v32)
      ∧ val_main_v136 (F := Ideal) x0 ve = W4 m ρ c (Proc.devRef .tc Cert.Kernel7Ideal.main_v38) := by
  subst e0 e1 e2 e3
  exact Leaves.agree (g := fun j => tot (aP m c) 5 ⟨(j 1).val, by have : (j 1).val < 128 := (j 1).isLt; omega⟩) (w := aO m c) (mo := aOm m c) (ve := aOv m c)
    (by_rows fun i k => left_out _ _ _ _ i k) (by_rows fun i k => res_out m ρ c i k)

theorem agree_fin {w mo ve : FVec Ideal S1024 .f32} (e0 : x0 = aP m c) (e1 : w = aF m c) (e2 : mo = aFm m c) (e3 : ve = aFv m c) :
    val_main_v53 (F := Ideal) x0 = W4 m ρ c (Proc.devRef .tc Cert.Kernel7Ideal.main_v22)
      ∧ val_main_v173 (F := Ideal) x0 w mo ve = W4 m ρ c (Proc.devRef .tc Cert.Kernel7Ideal.main_v28)
      ∧ val_main_v154 (F := Ideal) x0 mo = W4 m ρ c (Proc.devRef .tc Cert.Kernel7Ideal.main_v34)
      ∧ val_main_v160 (F := Ideal) x0 ve = W4 m ρ c (Proc.devRef .tc Cert.Kernel7Ideal.main_v40) := by
  subst e0 e1 e2 e3
  exact Leaves.agree (g := fun j => tot (aP m c) 6 (j 0)) (w := aF m c) (mo := aFm m c) (ve := aFv m c)
    (by_entries fun k => left_fin _ _ _ _ k) (by_entries fun k => res_fin m ρ c k)

/-! Both programs leave the same lower bound and the same loss. -/

theorem agree_lower {x3 : FVec Ideal S3x1024 .f32} (e : x3 = aL m c) : val_main_v174 (F := Ideal) x3 = W4 m ρ c (Proc.devRef .tc Cert.Kernel7Ideal.main_v0) := by
  subst e
  refine funext (by_rows fun i k => ?_)
  obtain rfl : i = 0 := Subsingleton.elim _ _
  exact (r_lb _ k).trans (res_lower m ρ c k).symm

theorem agree_loss (e : x0 = aP m c) : val_main_v177 (F := Ideal) x0 = W4 m ρ c (Proc.devRef .tc Cert.Kernel7Ideal.main_v41) := by
  subst e
  exact funext fun j => (r_loss _ j).trans (res_loss m ρ c j).symm

end Cert.Small

end
-- ==== Proof.HgrnRef.lean ====
module

public import proofs.«01_k».proof.Proof.Gen.Reference3Ideal.Read
public import proofs.«01_k».proof.Proof.HgrnSpec
public import proofs.«01_k».proof.Proof.FfnRefBack
public import Idealize.ShloMosaic.Lib.Pipeline.ValueKit.Point
public import Idealize.ShloMosaic.Lib.Pipeline.ReadBack
public import Idealize.ShloMosaic.Lib.Pipeline.Value

/-! The reference around the recurrence, read at an index. -/

@[expose] public section

set_option maxRecDepth 16384

noncomputable section

namespace Cert.Reference3Ideal.HgrnR

open Cert.Reference3Ideal Cert.Reference3Ideal.Gen Cert.Reference3Ideal.Read Idealize.ShloMosaic Idealize.ShloMosaic.TcCoe Idealize.SL.Sem
open Cert.Kernel3Ideal.Hgrn
open Cert.Kernel2Ideal.Ffn (rowLen rstd)
open Cert.Reference2Ideal.FfnR (negHalf msq coefR dxR)

variable (x0 : FVec Ideal S8192x1024 .f32) (x1 : FVec Ideal S1024 .f32) (x2 : FVec Ideal S1024x4096 .f32) (x3 : FVec Ideal S1024x1024 .f32)
  (x4 : FVec Ideal S8192x1024 .f32) (x5 : FVec Ideal S8192x4096 .f32) (x6 : FVec Ideal S8192x1024 .f32)

/-- The arguments, as functions of row and column. -/
def argsR : Args where
  x i k := x0 (ix2 i k)
  g k := x1 (ix1 k)
  wi k f := x2 (ix2 k f)
  wo f k := x3 (ix2 f k)
  o i f := x4 (ix2 i f)
  p i f := x5 (ix2 i f)
  e i k := x6 (ix2 i k)

theorem r_rstd (i : Fin 8192) : val_main_v7 (F := Ideal) x0 (ix2 i 0) = rstd (argsR x0 x1 x2 x3 x4 x5 x6).x i := by
  unfold argsR rstd rowLen Cert.Kernel2Ideal.Ffn.guard
  pointwise [val_main_v7, val_main_v6, val_main_v5, val_main_cst_1, val_main_v4, val_main_v3, val_main_cst_0, val_main_v2, val_main_v1, val_main_cst, val_main_v0]

theorem r_msq (i : Fin 8192) : val_main_v6 (F := Ideal) x0 (ix2 i 0) = msq ((argsR x0 x1 x2 x3 x4 x5 x6).x i) := by
  unfold argsR msq rowLen Cert.Kernel2Ideal.Ffn.guard
  pointwise [val_main_v6, val_main_v5, val_main_cst_1, val_main_v4, val_main_v3, val_main_cst_0, val_main_v2, val_main_v1, val_main_cst, val_main_v0]

theorem r_cube (i : Fin 8192) : val_main_v10 (F := Ideal) x0 (ix2 i 0) = negHalf * Ideal.div (Ideal.rsqrt (msq ((argsR x0 x1 x2 x3 x4 x5 x6).x i))) (msq ((argsR x0 x1 x2 x3 x4 x5 x6).x i)) := by
  rw [← r_msq]
  unfold negHalf
  pointwise [val_main_v10, val_main_v9, val_main_cst_2, val_main_v8, val_main_v7]

theorem r_unit (i : Fin 8192) (k : Fin 1024) : val_main_v12 (F := Ideal) x0 (ix2 i k) = (argsR x0 x1 x2 x3 x4 x5 x6).x i k * rstd (argsR x0 x1 x2 x3 x4 x5 x6).x i := by
  rw [← r_rstd x0 x1 x2 x3 x4 x5 x6 i]
  unfold argsR
  pointwise [val_main_v12, val_main_v11]

theorem r_gain (i : Fin 8192) (k : Fin 1024) : val_main_v14 (F := Ideal) x1 (ix2 i k) = (argsR x0 x1 x2 x3 x4 x5 x6).g k := by
  unfold argsR
  pointwise [val_main_v14, val_main_v13]

theorem r_nrm (i : Fin 8192) (k : Fin 1024) : val_main_v15 (F := Ideal) x0 x1 (ix2 i k) = (argsR x0 x1 x2 x3 x4 x5 x6).nrm i k :=
  (val_main_v15_apply _ _ _).trans (congrArg₂ (fun a b : EReal => a * b) (r_unit x0 x1 x2 x3 x4 x5 x6 i k) (r_gain x0 x1 x2 x3 x4 x5 x6 i k))

theorem r_proj (i : Fin 8192) (f : Fin 4096) : val_main_v16 (F := Ideal) x0 x1 x2 (ix2 i f) = (argsR x0 x1 x2 x3 x4 x5 x6).proj i f := by
  show _ = ∑ k, (argsR x0 x1 x2 x3 x4 x5 x6).nrm i k * (argsR x0 x1 x2 x3 x4 x5 x6).wi k f
  refine (val_main_v16_apply _ _ _ _).trans (Finset.sum_congr rfl fun k _ => congrArg₂ (fun a b : EReal => a * b) ((congrArg _ ?_).trans (r_nrm x0 x1 x2 x3 x4 x5 x6 i k)) (congrArg x2 ?_))
  all_goals
    funext a
    match a with
    | ⟨0, _⟩ => rfl
    | ⟨1, _⟩ => rfl

theorem r_out (i : Fin 8192) (k : Fin 1024) : val_main_v18 (F := Ideal) x0 x3 x4 (ix2 i k) = (argsR x0 x1 x2 x3 x4 x5 x6).out i k := by
  refine (val_main_v18_apply _ _ _ _).trans ((add_comm (G := EReal) _ _).trans (congrArg (fun a : EReal => a + x0 (ix2 i k)) ?_))
  refine (val_main_v17_apply _ _ _).trans (Finset.sum_congr rfl fun f _ => congrArg₂ (fun a b : EReal => a * b) (congrArg x4 ?_) (congrArg x3 ?_))
  all_goals
    funext a
    match a with
    | ⟨0, _⟩ => rfl
    | ⟨1, _⟩ => rfl

theorem r_e (j : S8192x1024.Idx) : val_main_v19 (F := Ideal) x6 j = x6 j := by
  refine (val_main_v19_apply _ _).trans (congrArg x6 ?_)
  have h0 : (j 0).val < 8192 := (j 0).isLt
  have h1 : (j 1).val < 1024 := (j 1).isLt
  funext a
  match a with
  | ⟨0, _⟩ => exact Fin.ext (show ((j 0).val * 1024 + (j 1).val) / 1024 = (j 0).val by omega)
  | ⟨1, _⟩ => exact Fin.ext (show ((j 0).val * 1024 + (j 1).val) % 1024 = (j 1).val by omega)

theorem r_dOut (f : Fin 1024) (k : Fin 1024) : val_main_v51 (F := Ideal) x4 x6 (ix2 f k) = (argsR x0 x1 x2 x3 x4 x5 x6).dOut f k := by
  show _ = ∑ i, (argsR x0 x1 x2 x3 x4 x5 x6).o i f * (argsR x0 x1 x2 x3 x4 x5 x6).e i k
  refine (val_main_v51_apply _ _ _).trans ((val_main_v21_apply _ _ _).trans ((val_main_v20_apply _ _ _).trans ?_))
  refine Finset.sum_congr rfl fun i _ => (mul_comm (G := EReal) _ _).trans (congrArg₂ (fun a b : EReal => a * b) (congrArg x4 ?_) ((r_e x6 _).trans (congrArg x6 ?_)))
  all_goals
    funext a
    match a with
    | ⟨0, _⟩ => rfl
    | ⟨1, _⟩ => rfl

theorem r_dO (i : Fin 8192) (f : Fin 1024) : val_main_v22 (F := Ideal) x3 x6 (ix2 i f) = (argsR x0 x1 x2 x3 x4 x5 x6).dO i f := by
  refine (val_main_v22_apply _ _ _).trans ?_
  refine Finset.sum_congr rfl fun k _ => congrArg₂ (fun a b : EReal => a * b) ((r_e x6 _).trans (congrArg x6 ?_)) (congrArg x3 ?_)
  all_goals
    funext a
    match a with
    | ⟨0, _⟩ => rfl
    | ⟨1, _⟩ => rfl

theorem r_dIn (f : Fin 4096) (k : Fin 1024) : val_main_v50 (F := Ideal) x0 x1 x5 (ix2 f k) = (argsR x0 x1 x2 x3 x4 x5 x6).dIn f k := by
  show _ = ∑ i, (argsR x0 x1 x2 x3 x4 x5 x6).p i f * (argsR x0 x1 x2 x3 x4 x5 x6).nrm i k
  refine (val_main_v50_apply _ _ _ _).trans ((val_main_v49_apply _ _ _ _).trans ((val_main_v24_apply _ _ _ _).trans ((val_main_v23_apply _ _ _ _).trans ?_)))
  refine Finset.sum_congr rfl fun i _ => congrArg₂ (fun a b : EReal => a * b) (congrArg x5 ?_) ((congrArg _ ?_).trans (r_nrm x0 x1 x2 x3 x4 x5 x6 i k))
  all_goals
    funext a
    match a with
    | ⟨0, _⟩ => rfl
    | ⟨1, _⟩ => rfl

theorem r_dnrm (i : Fin 8192) (k : Fin 1024) : val_main_v25 (F := Ideal) x2 x5 (ix2 i k) = (argsR x0 x1 x2 x3 x4 x5 x6).dnrm i k := by
  refine (val_main_v25_apply _ _ _).trans ?_
  refine Finset.sum_congr rfl fun f _ => congrArg₂ (fun a b : EReal => a * b) (congrArg x5 ?_) (congrArg x2 ?_)
  all_goals
    funext a
    match a with
    | ⟨0, _⟩ => rfl
    | ⟨1, _⟩ => rfl

theorem gain_sum (k : Fin 1024) : val_main_v27 (F := Ideal) x0 x2 x5 (ix1 k) = (argsR x0 x1 x2 x3 x4 x5 x6).dgain k := by
  refine (val_main_v27_apply _ _ _ _).trans (Eq.trans (congrArg₂ (fun a b : EReal => a + b) Ideal.ofBits_zero_f32 ?_) (zero_add _))
  refine Finset.sum_congr rfl fun i _ => ?_
  refine (val_main_v26_apply _ _ _ _).trans ((mul_comm (G := EReal) _ _).trans (congrArg₂ (fun a b : EReal => a * b) ((congrArg _ ?_).trans (r_dnrm x0 x1 x2 x3 x4 x5 x6 i k)) ((congrArg _ ?_).trans (r_unit x0 x1 x2 x3 x4 x5 x6 i k))))
  all_goals
    funext a
    match a with
    | ⟨0, _⟩ => rfl
    | ⟨1, _⟩ => rfl

theorem r_dgain (k : Fin 1024) : val_main_v48 (F := Ideal) x0 x2 x5 (ix2 0 k) = (argsR x0 x1 x2 x3 x4 x5 x6).dgain k := by
  refine (val_main_v48_apply _ _ _ _).trans ((val_main_v31_apply _ _ _ _).trans ?_)
  refine Eq.trans (congrArg₂ (fun a b : EReal => a + b) Ideal.ofBits_zero_f32 (Fin.sum_univ_one _)) ((zero_add _).trans ?_)
  refine (val_main_v28_apply _ _ _ _).trans ((congrArg _ ?_).trans (gain_sum x0 x1 x2 x3 x4 x5 x6 k))
  funext a
  match a with
  | ⟨0, _⟩ => exact Fin.ext (show 0 * 1024 + k.val = k.val by omega)

theorem r_ug (i : Fin 8192) (k : Fin 1024) : val_main_v30 (F := Ideal) x1 x2 x5 (ix2 i k) = (argsR x0 x1 x2 x3 x4 x5 x6).dnrm i k * (argsR x0 x1 x2 x3 x4 x5 x6).g k := by
  refine (val_main_v30_apply _ _ _ _).trans (congrArg₂ (fun a b : EReal => a * b) (r_dnrm x0 x1 x2 x3 x4 x5 x6 i k) ?_)
  unfold argsR
  pointwise [val_main_v29, val_main_v13]

theorem r_coef (i : Fin 8192) : val_main_v41 (F := Ideal) x0 x1 x2 x5 (ix1 i) = coefR ((argsR x0 x1 x2 x3 x4 x5 x6).x i) ((argsR x0 x1 x2 x3 x4 x5 x6).dnrm i) (argsR x0 x1 x2 x3 x4 x5 x6).g := by
  refine (val_main_v41_apply _ _ _ _ _).trans ?_
  refine Eq.trans (congrArg₂ (fun a b : EReal => a + b) Ideal.ofBits_zero_f32 (Fin.sum_univ_one _)) ((zero_add _).trans ?_)
  refine (val_main_v40_apply _ _ _ _ _).trans (congrArg₂ Ideal.div ?_ rfl)
  refine (val_main_v38_apply _ _ _ _ _).trans (congrArg₂ (fun a b : EReal => a * b) ?_ ((congrArg _ ?_).trans (r_cube x0 x1 x2 x3 x4 x5 x6 i)))
  · refine (val_main_v34_apply _ _ _ _ _).trans ((val_main_v33_apply _ _ _ _ _).trans ?_)
    refine Eq.trans (congrArg₂ (fun a b : EReal => a + b) Ideal.ofBits_zero_f32 ?_) (zero_add _)
    refine Finset.sum_congr rfl fun k _ => ?_
    refine (val_main_v32_apply _ _ _ _ _).trans (congrArg₂ (fun a b : EReal => a * b) (congrArg x0 ?_) ((congrArg _ ?_).trans (r_ug x0 x1 x2 x3 x4 x5 x6 i k)))
    all_goals
      funext a
      match a with
      | ⟨0, _⟩ => exact Fin.ext (show i.val * 1 + 0 = i.val by omega)
      | ⟨1, _⟩ => rfl
  · funext a
    match a with
    | ⟨0, _⟩ => rfl
    | ⟨1, _⟩ => rfl

theorem r_dx (i : Fin 8192) (k : Fin 1024) : val_main_v46 (F := Ideal) x0 x1 x2 x5 x6 (ix2 i k) = dxR ((argsR x0 x1 x2 x3 x4 x5 x6).e i) ((argsR x0 x1 x2 x3 x4 x5 x6).x i) ((argsR x0 x1 x2 x3 x4 x5 x6).dnrm i) (argsR x0 x1 x2 x3 x4 x5 x6).g k := by
  have hc : val_main_v42 (F := Ideal) x0 x1 x2 x5 (ix2 i k) = coefR ((argsR x0 x1 x2 x3 x4 x5 x6).x i) ((argsR x0 x1 x2 x3 x4 x5 x6).dnrm i) (argsR x0 x1 x2 x3 x4 x5 x6).g := by
    refine (val_main_v42_apply _ _ _ _ _).trans ((congrArg _ ?_).trans (r_coef x0 x1 x2 x3 x4 x5 x6 i))
    funext a
    match a with
    | ⟨0, _⟩ => rfl
  have hs : val_main_v35 (F := Ideal) x0 (ix2 i k) = Ideal.rsqrt (msq ((argsR x0 x1 x2 x3 x4 x5 x6).x i)) := by
    refine (val_main_v35_apply _ _).trans ((congrArg _ ?_).trans (r_rstd x0 x1 x2 x3 x4 x5 x6 i))
    funext a
    match a with
    | ⟨0, _⟩ => rfl
    | ⟨1, _⟩ => rfl
  refine (val_main_v46_apply _ _ _ _ _ _).trans (congrArg₂ (fun a b : EReal => a + b) ?_ ?_)
  · refine (val_main_v44_apply _ _ _ _ _ _).trans (congrArg₂ (fun a b : EReal => a + b) ?_ ?_)
    · refine (val_main_v37_apply _ _ _ _ _ _).trans (congrArg (fun a : EReal => x6 (ix2 i k) + a) ?_)
      exact (val_main_v36_apply _ _ _ _ _).trans (congrArg₂ (fun a b : EReal => a * b) (r_ug x0 x1 x2 x3 x4 x5 x6 i k) hs)
    · exact (val_main_v43_apply _ _ _ _ _).trans (congrArg (fun a : EReal => x0 (ix2 i k) * a) hc)
  · exact (val_main_v45_apply _ _ _ _ _).trans (congrArg (fun a : EReal => a * x0 (ix2 i k)) hc)

theorem r_dxb (i : Fin 8192) (k : Fin 1024) : val_main_v47 (F := Ideal) x0 x1 x2 x5 x6 (ix2 i k) = dxR ((argsR x0 x1 x2 x3 x4 x5 x6).e i) ((argsR x0 x1 x2 x3 x4 x5 x6).x i) ((argsR x0 x1 x2 x3 x4 x5 x6).dnrm i) (argsR x0 x1 x2 x3 x4 x5 x6).g k :=
  (val_main_v47_apply _ _ _ _ _ _).trans (r_dx x0 x1 x2 x3 x4 x5 x6 i k)

end Cert.Reference3Ideal.HgrnR

end
-- ==== Proof.ProjQkv.lean ====
module

public import proofs.«01_k».proof.Proof.Gen.Kernel4Ideal.Frame
public import Idealize.ShloMosaic.Lib.Pipeline.ValueKit
public import Idealize.ShloMosaic.Lib.Pipeline.ValueKit.Point

/-! The attention's projections: what one call's body leaves of a group's queries, keys and values, rotated and side by side. -/

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Idealize.ShloMosaic.Pipeline (Dat)

/-- A column's place in its head. -/
def lane {n : ℕ} (f : Fin n) : Fin 128 := ⟨f.val % 128, Nat.mod_lt _ (by omega)⟩

/-- The column half a head away, in the same head. -/
def mate (f : Fin 512) : Fin 512 := ⟨f.val / 128 * 128 + (f.val + 64) % 128, by omega⟩

/-- A row's product with row `f` of a weight. -/
def dotRow (x : Fin 1024 → EReal) (w : Fin 512 → Fin 1024 → EReal) (f : Fin 512) : EReal := ∑ k : Fin 1024, x k * w f k

/-- Four heads side by side, rotated by the tables' rows `C` and `S`. -/
def turn (X : Fin 512 → EReal) (C S : Fin 128 → EReal) (f : Fin 512) : EReal := X f * C (lane f) + X (mate f) * S (lane f)

/-- One row of a group: its queries and keys rotated, then its values. -/
def groupRow (q k v : Fin 512 → EReal) (C S : Fin 128 → EReal) (f : Fin 1536) : EReal :=
  if h : f.val < 512 then turn q C S ⟨f.val, h⟩
  else if h' : f.val < 1024 then turn k C S ⟨f.val - 512, by omega⟩
  else v ⟨f.val - 1024, by omega⟩

/-- A row of four heads, and the tables, as arrays. -/
def mulV (x w : FVec Ideal S512x1024 .bf16) : FVec Ideal S512x512 .f32 :=
  matmul dot_S512x1024_S512x1024_S512x512_1_1_0_0_n_n none x w (constant S512x512 .f32 0x00000000#32)

theorem mulV_at (x w : FVec Ideal S512x1024 .bf16) (i f : Fin 512) :
    mulV x w (ix2 i f) = dotRow (fun k => x (ix2 i k)) (fun f k => w (ix2 f k)) f := by
  unfold mulV dotRow
  pointwise []

def turnV (A : FVec Ideal S512x128 .f32) (cs sn : FVec Ideal S512x128 .f32) : FVec Ideal S512x128 .bf16 :=
  truncf .bf16 (addf (mulf A cs) (mulf (dynamicRotate 1 64#32 none A rotates_S512x128_d1) sn)) bitsLt_bf16_f32

theorem turnV_at (A cs sn : FVec Ideal S512x128 .f32) (i : Fin 512) (l : Fin 128) :
    turnV A cs sn (ix2 i l) = A (ix2 i l) * cs (ix2 i l) + A (ix2 i ⟨(l.val + 64) % 128, Nat.mod_lt _ (by omega)⟩) * sn (ix2 i l) := by
  unfold turnV
  pointwise []
  exact congrArg (fun a => A (ix2 i l) * cs (ix2 i l) + A (ix2 i a) * sn (ix2 i l)) (Fin.ext (by show (l.val + 128 - 64) % 128 = (l.val + 64) % 128; omega))

/-- What the body stores, from the blocks it reads: nine pieces of the output's block, last first. -/
def pieces (x0 x1 x2 x3 : Vec Ideal S512x1024 .bf16) (x4 x5 : Vec Ideal S512x128 .f32) : List (View.Piece (Elt Ideal) S512x1536 .bf16) :=
  [⟨Rect.unit ![0, 1024] ![512, 512] inb_S512x1536_S512x512_0_1024, k0_pay1 (k0_pay2 x0) x3⟩,
   ⟨Rect.unit ![0, 896] ![512, 128] inb_S512x1536_S512x128_0_896, k0_pay16 (k0_pay2 x0) x2 x4 x5⟩,
   ⟨Rect.unit ![0, 768] ![512, 128] inb_S512x1536_S512x128_0_768, k0_pay15 (k0_pay2 x0) x2 x4 x5⟩,
   ⟨Rect.unit ![0, 640] ![512, 128] inb_S512x1536_S512x128_0_640, k0_pay14 (k0_pay2 x0) x2 x4 x5⟩,
   ⟨Rect.unit ![0, 512] ![512, 128] inb_S512x1536_S512x128_0_512, k0_pay13 (k0_pay2 x0) x2 x4 x5⟩,
   ⟨Rect.unit ![0, 384] ![512, 128] inb_S512x1536_S512x128_0_384, k0_pay9 x0 x1 x4 x5⟩,
   ⟨Rect.unit ![0, 256] ![512, 128] inb_S512x1536_S512x128_0_256, k0_pay8 x0 x1 x4 x5⟩,
   ⟨Rect.unit ![0, 128] ![512, 128] inb_S512x1536_S512x128_0_128, k0_pay7 x0 x1 x4 x5⟩,
   ⟨Rect.unit ![0, 0] ![512, 128] inb_S512x1536_S512x128_0_0, k0_pay6 x0 x1 x4 x5⟩]

/-- One row of a group, of arrays. -/
def groupAt (x0 x1 x2 x3 : Vec Ideal S512x1024 .bf16) (x4 x5 : Vec Ideal S512x128 .f32) (i : Fin 512) : Fin 1536 → EReal :=
  groupRow (dotRow (fun k => x0 (ix2 i k)) (fun f k => x1 (ix2 f k))) (dotRow (fun k => x0 (ix2 i k)) (fun f k => x2 (ix2 f k)))
    (dotRow (fun k => x0 (ix2 i k)) (fun f k => x3 (ix2 f k))) (fun l => x4 (ix2 i l)) (fun l => x5 (ix2 i l))

theorem slice_at (x w : FVec Ideal S512x1024 .bf16) (o : ℕ) (hs : S512x512.Slices ![0, o] S512x128) (cs sn : FVec Ideal S512x128 .f32)
    (i : Fin 512) (l : Fin 128) (ho : o + 128 ≤ 512) (h0 : o % 128 = 0) :
    turnV (extractStridedSlice S512x128 ![0, o] (mulV x w) hs) cs sn (ix2 i l)
      = turn (dotRow (fun k => x (ix2 i k)) (fun f k => w (ix2 f k))) (fun l => cs (ix2 i l)) (fun l => sn (ix2 i l)) ⟨o + l.val, by omega⟩ := by
  have e : ∀ l : Fin 128, extractStridedSlice S512x128 ![0, o] (mulV x w) hs (ix2 i l)
      = dotRow (fun k => x (ix2 i k)) (fun f k => w (ix2 f k)) ⟨o + l.val, by omega⟩ := fun l => by
    refine Eq.trans ?_ (mulV_at x w i ⟨o + l.val, by omega⟩)
    show mulV x w _ = _
    refine congrArg (mulV x w) ?_
    funext a
    match a with
    | ⟨0, _⟩ => exact Fin.ext (Nat.zero_add _)
    | ⟨1, _⟩ => exact Fin.ext rfl
  rw [turnV_at, e, e]
  unfold turn
  refine congrArg₂ (fun a b : EReal => a + b) (congrArg₂ (fun a b : EReal => a * b) rfl (congrArg (fun a => cs (ix2 i a)) (Fin.ext ?_)))
    (congrArg₂ (fun a b : EReal => a * b) (congrArg _ (Fin.ext ?_)) (congrArg (fun a => sn (ix2 i a)) (Fin.ext ?_)))
  · show l.val = (o + l.val) % 128; omega
  · show o + (l.val + 64) % 128 = (o + l.val) / 128 * 128 + (o + l.val + 64) % 128; omega
  · show l.val = (o + l.val) % 128; omega

section Payloads
variable (x w : Vec Ideal S512x1024 .bf16) (a b : Vec Ideal S512x128 .f32)

theorem pay1_eq : k0_pay1 (k0_pay2 x) w = mulV x w := by
  unfold k0_pay1 k0_pay2
  simp only [shapeCast_self]
  rfl
theorem pay6_eq : k0_pay6 x w a b = turnV (extractStridedSlice S512x128 ![0, 0] (mulV x w) slices_S512x512_o0_0_S512x128) a b := by
  unfold k0_pay6 k0_pay3 k0_pay2 k0_pay4 k0_pay5
  simp only [shapeCast_self]
  rfl
theorem pay7_eq : k0_pay7 x w a b = turnV (extractStridedSlice S512x128 ![0, 128] (mulV x w) slices_S512x512_o0_128_S512x128) a b := by
  unfold k0_pay7 k0_pay3 k0_pay2 k0_pay4 k0_pay5
  simp only [shapeCast_self]
  rfl
theorem pay8_eq : k0_pay8 x w a b = turnV (extractStridedSlice S512x128 ![0, 256] (mulV x w) slices_S512x512_o0_256_S512x128) a b := by
  unfold k0_pay8 k0_pay3 k0_pay2 k0_pay4 k0_pay5
  simp only [shapeCast_self]
  rfl
theorem pay9_eq : k0_pay9 x w a b = turnV (extractStridedSlice S512x128 ![0, 384] (mulV x w) slices_S512x512_o0_384_S512x128) a b := by
  unfold k0_pay9 k0_pay3 k0_pay2 k0_pay4 k0_pay5
  simp only [shapeCast_self]
  rfl
theorem pay13_eq : k0_pay13 (k0_pay2 x) w a b = turnV (extractStridedSlice S512x128 ![0, 0] (mulV x w) slices_S512x512_o0_0_S512x128) a b := by
  unfold k0_pay13 k0_pay10 k0_pay2 k0_pay11 k0_pay12
  simp only [shapeCast_self]
  rfl
theorem pay14_eq : k0_pay14 (k0_pay2 x) w a b = turnV (extractStridedSlice S512x128 ![0, 128] (mulV x w) slices_S512x512_o0_128_S512x128) a b := by
  unfold k0_pay14 k0_pay10 k0_pay2 k0_pay11 k0_pay12
  simp only [shapeCast_self]
  rfl
theorem pay15_eq : k0_pay15 (k0_pay2 x) w a b = turnV (extractStridedSlice S512x128 ![0, 256] (mulV x w) slices_S512x512_o0_256_S512x128) a b := by
  unfold k0_pay15 k0_pay10 k0_pay2 k0_pay11 k0_pay12
  simp only [shapeCast_self]
  rfl
theorem pay16_eq : k0_pay16 (k0_pay2 x) w a b = turnV (extractStridedSlice S512x128 ![0, 384] (mulV x w) slices_S512x512_o0_384_S512x128) a b := by
  unfold k0_pay16 k0_pay10 k0_pay2 k0_pay11 k0_pay12
  simp only [shapeCast_self]
  rfl
end Payloads

section Reads
variable (x0 x1 x2 x3 : Vec Ideal S512x1024 .bf16) (x4 x5 : Vec Ideal S512x128 .f32) (i : Fin 512) (f : Fin 1536)

theorem groupAt_q (o : ℕ) (a : Fin 512) (l : Fin 128) (ho : o + 128 ≤ 512) (hi : i.val = a.val) (hf : f.val = o + l.val) :
    groupAt x0 x1 x2 x3 x4 x5 i f
      = turn (dotRow (fun k => x0 (ix2 a k)) (fun f k => x1 (ix2 f k))) (fun l => x4 (ix2 a l)) (fun l => x5 (ix2 a l)) ⟨o + l.val, by omega⟩ := by
  obtain rfl : i = a := Fin.ext hi
  unfold groupAt groupRow
  rw [dif_pos (by omega)]
  exact congrArg _ (Fin.ext hf)

theorem groupAt_k (o : ℕ) (a : Fin 512) (l : Fin 128) (ho : o + 128 ≤ 512) (hi : i.val = a.val) (hf : f.val = 512 + o + l.val) :
    groupAt x0 x1 x2 x3 x4 x5 i f
      = turn (dotRow (fun k => x0 (ix2 a k)) (fun f k => x2 (ix2 f k))) (fun l => x4 (ix2 a l)) (fun l => x5 (ix2 a l)) ⟨o + l.val, by omega⟩ := by
  obtain rfl : i = a := Fin.ext hi
  unfold groupAt groupRow
  rw [dif_neg (by omega), dif_pos (by omega)]
  exact congrArg _ (Fin.ext (by show f.val - 512 = o + l.val; omega))

theorem groupAt_v (a : Fin 512) (b : Fin 512) (hi : i.val = a.val) (hf : f.val = 1024 + b.val) :
    groupAt x0 x1 x2 x3 x4 x5 i f = dotRow (fun k => x0 (ix2 a k)) (fun f k => x3 (ix2 f k)) b := by
  obtain rfl : i = a := Fin.ext hi
  unfold groupAt groupRow
  rw [dif_neg (by omega), dif_neg (by omega)]
  exact congrArg _ (Fin.ext (by show f.val - 1024 = b.val; omega))
end Reads

set_option maxHeartbeats 2000000 in
theorem pieces_at (x0 x1 x2 x3 : Vec Ideal S512x1024 .bf16) (x4 x5 : Vec Ideal S512x128 .f32) (y : S512x1536.Idx) :
    View.canon (pieces x0 x1 x2 x3 x4 x5) y = groupAt x0 x1 x2 x3 x4 x5 (y 0) (y 1) := by
  have hc : ∃ p ∈ pieces x0 x1 x2 x3 x4 x5, y ∈ p.1.set :=
    View.cover_of_tiledBy (pieces x0 x1 x2 x3 x4 x5) ![512, 128] (by sl_kernel_rfl) y
  unfold pieces at hc ⊢
  canon_tiles x hx using hc
  all_goals rw [eq_ix2 x]
  case piece0 =>
    rw [pay1_eq]
    exact (mulV_at _ _ (x 0) (x 1)).trans (groupAt_v x0 x1 x2 x3 x4 x5 (y 0) (y 1) (x 0) (x 1) hx0 hx1).symm
  case piece1 => rw [pay16_eq]; exact (slice_at _ _ 384 _ _ _ (x 0) (x 1) (by decide) (by decide)).trans (groupAt_k x0 x1 x2 x3 x4 x5 (y 0) (y 1) 384 (x 0) (x 1) (by decide) hx0 hx1).symm
  case piece2 => rw [pay15_eq]; exact (slice_at _ _ 256 _ _ _ (x 0) (x 1) (by decide) (by decide)).trans (groupAt_k x0 x1 x2 x3 x4 x5 (y 0) (y 1) 256 (x 0) (x 1) (by decide) hx0 hx1).symm
  case piece3 => rw [pay14_eq]; exact (slice_at _ _ 128 _ _ _ (x 0) (x 1) (by decide) (by decide)).trans (groupAt_k x0 x1 x2 x3 x4 x5 (y 0) (y 1) 128 (x 0) (x 1) (by decide) hx0 hx1).symm
  case piece4 => rw [pay13_eq]; exact (slice_at _ _ 0 _ _ _ (x 0) (x 1) (by decide) (by decide)).trans (groupAt_k x0 x1 x2 x3 x4 x5 (y 0) (y 1) 0 (x 0) (x 1) (by decide) hx0 hx1).symm
  case piece5 => rw [pay9_eq]; exact (slice_at _ _ 384 _ _ _ (x 0) (x 1) (by decide) (by decide)).trans (groupAt_q x0 x1 x2 x3 x4 x5 (y 0) (y 1) 384 (x 0) (x 1) (by decide) hx0 hx1).symm
  case piece6 => rw [pay8_eq]; exact (slice_at _ _ 256 _ _ _ (x 0) (x 1) (by decide) (by decide)).trans (groupAt_q x0 x1 x2 x3 x4 x5 (y 0) (y 1) 256 (x 0) (x 1) (by decide) hx0 hx1).symm
  case piece7 => rw [pay7_eq]; exact (slice_at _ _ 128 _ _ _ (x 0) (x 1) (by decide) (by decide)).trans (groupAt_q x0 x1 x2 x3 x4 x5 (y 0) (y 1) 128 (x 0) (x 1) (by decide) hx0 hx1).symm
  case piece8 => rw [pay6_eq]; exact (slice_at _ _ 0 _ _ _ (x 0) (x 1) (by decide) (by decide)).trans (groupAt_q x0 x1 x2 x3 x4 x5 (y 0) (y 1) 0 (x 0) (x 1) (by decide) hx0 (hx1.trans (Nat.zero_add _).symm)).symm

end Cert.Kernel4Ideal.Proj

end
-- ==== Proof.ProjCalls.lean ====
module

public import proofs.«01_k».proof.Proof.ProjQkv
public import proofs.«01_k».proof.Proof.FfnDw

/-! The attention's projections and their transposed products: the array each call leaves, from the arrays it reads. -/

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Idealize.ShloMosaic.Pipeline (Dat)
open Cert.Kernel2Ideal.Ffn (gram row_lt)

/-- The row of the transposed weight that holds column `f` of part `j` (queries, keys, values) of group `g`. -/
def partRow (j g : Fin 3) (f : Fin 512) : Fin 4608 := ⟨(3 * j.val + g.val) * 512 + f.val, by omega⟩

/-- A group's queries, keys and values: rows times the weight's parts, the first two rotated. -/
def qkvOf (U : Fin 8192 → Fin 1024 → EReal) (W : Fin 4608 → Fin 1024 → EReal) (C S : Fin 8192 → Fin 128 → EReal) (g : Fin 3)
    (i : Fin 8192) (f : Fin 1536) : EReal :=
  groupRow (dotRow (U i) fun f k => W (partRow 0 g f) k) (dotRow (U i) fun f k => W (partRow 1 g f) k)
    (dotRow (U i) fun f k => W (partRow 2 g f) k) (C i) (S i) f

/-- One part of a group's rows of gradients, times that part of the weight. -/
def partSum (D : Fin 8192 → Fin 1536 → EReal) (W : Fin 4608 → Fin 1024 → EReal) (j g : Fin 3) (i : Fin 8192) (k : Fin 1024) : EReal :=
  ∑ f : Fin 512, D i ⟨512 * j.val + f.val, by omega⟩ * W (partRow j g f) k

/-- A group's rows of gradients times its weight, part by part. -/
def duOf (D : Fin 8192 → Fin 1536 → EReal) (W : Fin 4608 → Fin 1024 → EReal) (g : Fin 3) (i : Fin 8192) (k : Fin 1024) : EReal :=
  partSum D W 0 g i k + partSum D W 1 g i k + partSum D W 2 g i k

/-- Rows times a weight, and rows added. -/
def outOf (A : Fin 8192 → Fin 1536 → EReal) (W : Fin 1536 → Fin 1024 → EReal) (H : Fin 8192 → Fin 1024 → EReal) (i : Fin 8192) (k : Fin 1024) : EReal :=
  (∑ f : Fin 1536, A i f * W f k) + H i k

/-- Rows times a transposed weight. -/
def backOf (E : Fin 8192 → Fin 1024 → EReal) (W : Fin 1536 → Fin 1024 → EReal) (i : Fin 8192) (f : Fin 1536) : EReal :=
  ∑ k : Fin 1024, E i k * W f k

theorem groupAt_eq {x0 x1 x2 x3 : Vec Ideal S512x1024 .bf16} {x4 x5 : Vec Ideal S512x128 .f32} {U : Fin 8192 → Fin 1024 → EReal}
    {W : Fin 4608 → Fin 1024 → EReal} {C S : Fin 8192 → Fin 128 → EReal} {g : Fin 3} {r : Fin 8192} {i : Fin 512} (f : Fin 1536)
    (h0 : ∀ k, x0 (ix2 i k) = U r k) (h1 : ∀ f k, x1 (ix2 f k) = W (partRow 0 g f) k) (h2 : ∀ f k, x2 (ix2 f k) = W (partRow 1 g f) k)
    (h3 : ∀ f k, x3 (ix2 f k) = W (partRow 2 g f) k) (h4 : ∀ l, x4 (ix2 i l) = C r l) (h5 : ∀ l, x5 (ix2 i l) = S r l) :
    groupAt x0 x1 x2 x3 x4 x5 i f = qkvOf U W C S g r f := by
  unfold groupAt qkvOf
  simp only [h0, h1, h2, h3, h4, h5]

theorem k9_at (x : Vec Ideal S512x1536 .bf16) (w0 w1 w2 : Vec Ideal S512x1024 .bf16) (j : S512x1024.Idx) :
    out9_4 x w0 w1 w2 j
      = (∑ f : Fin 512, x (ix2 (j 0) ⟨512 * 0 + f.val, by omega⟩) * w0 (ix2 f (j 1)))
        + (∑ f : Fin 512, x (ix2 (j 0) ⟨512 * 1 + f.val, by omega⟩) * w1 (ix2 f (j 1)))
        + ∑ f : Fin 512, x (ix2 (j 0) ⟨512 * 2 + f.val, by omega⟩) * w2 (ix2 f (j 1)) := by
  unfold out9_4
  canon_tiles y hy
  have e : y = j := by
    funext a
    match a with
    | ⟨0, _⟩ => exact Fin.ext hy0.symm
    | ⟨1, _⟩ => exact Fin.ext hy1.symm
  rw [e]
  pointwise [k9_pay1]

theorem du_at {x : Vec Ideal S512x1536 .bf16} {w0 w1 w2 : Vec Ideal S512x1024 .bf16} {D : Fin 8192 → Fin 1536 → EReal}
    {W : Fin 4608 → Fin 1024 → EReal} {g : Fin 3} {r : Fin 8192} (j : S512x1024.Idx) (h0 : ∀ f, x (ix2 (j 0) f) = D r f)
    (h1 : ∀ f k, w0 (ix2 f k) = W (partRow 0 g f) k) (h2 : ∀ f k, w1 (ix2 f k) = W (partRow 1 g f) k)
    (h3 : ∀ f k, w2 (ix2 f k) = W (partRow 2 g f) k) : out9_4 x w0 w1 w2 j = duOf D W g r (j 1) := by
  rw [k9_at]
  exact congrArg₂ (fun a b : EReal => a + b) (congrArg₂ (fun a b : EReal => a + b)
    (Finset.sum_congr rfl fun f _ => congrArg₂ (fun a b : EReal => a * b) (h0 _) (h1 f _))
    (Finset.sum_congr rfl fun f _ => congrArg₂ (fun a b : EReal => a * b) (h0 _) (h2 f _)))
    (Finset.sum_congr rfl fun f _ => congrArg₂ (fun a b : EReal => a * b) (h0 _) (h3 f _))

theorem out3_3_at (x0 : Vec Ideal S512x1536 .bf16) (x1 : Vec Ideal S1536x1024 .bf16) (x2 : Vec Ideal S512x1024 .f32) (y : S512x1024.Idx) :
    out3_3 x0 x1 x2 y = (∑ f : Fin 1536, x0 (ix2 (y 0) f) * x1 (ix2 f (y 1))) + x2 y := by
  unfold out3_3
  canon_tiles x hx
  have e : x = y := by
    funext a
    match a with
    | ⟨0, _⟩ => exact Fin.ext hx0.symm
    | ⟨1, _⟩ => exact Fin.ext hx1.symm
  rw [e]
  pointwise [k3_pay1]
  blk_ext

theorem out4_2_at (x0 : Vec Ideal S512x1024 .bf16) (x1 : Vec Ideal S1536x1024 .bf16) (y : S512x1536.Idx) :
    out4_2 x0 x1 y = ∑ k : Fin 1024, x0 (ix2 (y 0) k) * x1 (ix2 (y 1) k) := by
  unfold out4_2
  canon_tiles x hx
  all_goals
    open_payloads
    pointwise []
    exact Finset.sum_congr rfl fun k _ => congrArg₂ (fun a b : EReal => a * b) (congrArg (fun a => x0 (ix2 a k)) (Fin.ext hx0.symm))
      (congrArg (fun a => x1 (ix2 a k)) (Fin.ext hx1.symm))

theorem dw_at (v5 : Vec Ideal S8192x256 .bf16) (v7 : Vec Ideal S8192x1024 .bf16) (j : S256x1024.Idx) :
    k5_pay1 v5 v7 j = ∑ i : Fin 8192, v5 (ix2 i (j 0)) * v7 (ix2 i (j 1)) := by
  pointwise [k5_pay1]

/-! The arrays -/

variable (V : (c : Dev nD) → (b : Ref sig .tc) → Buf (Elt Ideal) ((c : Thread nD τ).loc b)) (c : Dev nD)

/-- The arrays the calls read, as functions of row and column. -/
def Wt (f : Fin 4608) (k : Fin 1024) : EReal := V c main_v1 (ix2 f k)
def Wo (f : Fin 1536) (k : Fin 1024) : EReal := V c main_v2 (ix2 f k)
def O0 (i : Fin 8192) (f : Fin 1536) : EReal := V c main_v4 (ix2 i f)
def E0 (i : Fin 8192) (k : Fin 1024) : EReal := V c main_v5 (ix2 i k)
def H0 (i : Fin 8192) (k : Fin 1024) : EReal := V c main_arg9 (ix2 i k)
def U0 (i : Fin 8192) (k : Fin 1024) : EReal := V c main_v3 (ix2 i k)
def C0 (i : Fin 8192) (l : Fin 128) : EReal := V c main_v6 (ix2 i l)
def S0 (i : Fin 8192) (l : Fin 128) : EReal := V c main_v8 (ix2 i l)
def D0 (i : Fin 8192) (f : Fin 1536) : EReal := V c main_v27 (ix2 i f)
def U1 (i : Fin 8192) (k : Fin 1024) : EReal := V c main_v11 (ix2 i k)
def C1 (i : Fin 8192) (l : Fin 128) : EReal := V c main_v17 (ix2 i l)
def S1 (i : Fin 8192) (l : Fin 128) : EReal := V c main_v20 (ix2 i l)
def D1 (i : Fin 8192) (f : Fin 1536) : EReal := V c main_v28 (ix2 i f)
def U2 (i : Fin 8192) (k : Fin 1024) : EReal := V c main_v14 (ix2 i k)
def C2 (i : Fin 8192) (l : Fin 128) : EReal := V c main_v23 (ix2 i l)
def S2 (i : Fin 8192) (l : Fin 128) : EReal := V c main_v26 (ix2 i l)
def D2 (i : Fin 8192) (f : Fin 1536) : EReal := V c main_v29 (ix2 i f)

theorem col_lt {n : ℕ} (hn : n = 6) {t : ℕ} (h : t < n) (i : Fin 256) : t * 256 + i.val < 1536 := by omega
theorem row_at {n : ℕ} (hn : n = 16) {t : ℕ} (h : t < n) (i : Fin 512) : t * 512 + i.val < 8192 := by omega

/-! The output product and its transposes -/

theorem idx3 : ∀ t : Fin cfg3.N, win3_0.index t = ![t.val, 0] ∧ win3_1.index t = ![0, 0] ∧ win3_2.index t = ![t.val, 0] ∧ win3_3.index t = ![t.val, 0] :=
  (by decide +kernel : ∀ t : Fin grid3.N, _)
theorem idx4 : ∀ t : Fin cfg4.N, win4_0.index t = ![t.val, 0] ∧ win4_1.index t = ![0, 0] ∧ win4_2.index t = ![t.val, 0] :=
  (by decide +kernel : ∀ t : Fin grid4.N, _)
theorem idx5 : ∀ t : Fin cfg5.N, win5_0.index t = ![0, t.val] ∧ win5_1.index t = ![0, 0] ∧ win5_2.index t = ![t.val, 0] :=
  (by decide +kernel : ∀ t : Fin grid5.N, _)

theorem iblk3_0 (t : Fin cfg3.N) (i : Fin 512) (k : Fin 1536) : iblk3 V c 0 t (ix2 i k) = O0 V c ⟨t.val * 512 + i.val, row_at N_3 t.isLt i⟩ k := by
  unfold O0; blk_point [iblk3, idx3 t]
theorem iblk3_1 (t : Fin cfg3.N) (f : Fin 1536) (k : Fin 1024) : iblk3 V c 1 t (ix2 f k) = Wo V c f k := by
  unfold Wo; blk_point [iblk3, idx3 t]
theorem iblk3_2 (t : Fin cfg3.N) (i : Fin 512) (k : Fin 1024) : iblk3 V c 2 t (ix2 i k) = H0 V c ⟨t.val * 512 + i.val, row_at N_3 t.isLt i⟩ k := by
  unfold H0; blk_point [iblk3, idx3 t]
theorem iblk4_0 (t : Fin cfg4.N) (i : Fin 512) (k : Fin 1024) : iblk4 V c 0 t (ix2 i k) = E0 V c ⟨t.val * 512 + i.val, row_at N_4 t.isLt i⟩ k := by
  unfold E0; blk_point [iblk4, idx4 t]
theorem iblk4_1 (t : Fin cfg4.N) (f : Fin 1536) (k : Fin 1024) : iblk4 V c 1 t (ix2 f k) = Wo V c f k := by
  unfold Wo; blk_point [iblk4, idx4 t]
theorem iblk5_0 (t : Fin cfg5.N) (i : Fin 8192) (f : Fin 256) : iblk5 V c 0 t (ix2 i f) = O0 V c i ⟨t.val * 256 + f.val, col_lt N_5 t.isLt f⟩ := by
  unfold O0; blk_point [iblk5, idx5 t]
theorem iblk5_1 (t : Fin cfg5.N) (i : Fin 8192) (k : Fin 1024) : iblk5 V c 1 t (ix2 i k) = E0 V c i k := by
  unfold E0; blk_point [iblk5, idx5 t]

theorem arr3_3 (i : Fin 8192) (k : Fin 1024) : (dat3 V c).arrAt 3 cfg3.N (ix2 i k) = outOf (O0 V c) (Wo V c) (H0 V c) i k := by
  refine congrFun ((dat3 V c).arrAt_eq_of_covers 3 (fun j : S8192x1024.Idx => outOf (O0 V c) (Wo V c) (H0 V c) (j 0) (j 1)) (by decide +kernel) fun t hf y => ?_) (ix2 i k)
  blk_simp
  rw [after3_3]
  refine (congrArg _ (eq_ix2 y)).trans ((out3_3_at _ _ _ _).trans (Eq.trans ?_ (congrArg₂ _ (x := ⟨t.val * 512 + (y 0).val, row_at N_3 t.isLt (y 0)⟩) (y := (y 1)) (Fin.ext ?_) (Fin.ext ?_))))
  · unfold outOf
    exact congrArg₂ (fun a b : EReal => a + b) (Finset.sum_congr rfl fun f _ => congrArg₂ (fun a b : EReal => a * b) (iblk3_0 V c t _ f) (iblk3_1 V c t f _)) (iblk3_2 V c t _ _)
  all_goals (blk_simp [idx3 t] <;> try omega)

theorem arr4_2 (i : Fin 8192) (f : Fin 1536) : (dat4 V c).arrAt 2 cfg4.N (ix2 i f) = backOf (E0 V c) (Wo V c) i f := by
  refine congrFun ((dat4 V c).arrAt_eq_of_covers 2 (fun j : S8192x1536.Idx => backOf (E0 V c) (Wo V c) (j 0) (j 1)) (by decide +kernel) fun t hf y => ?_) (ix2 i f)
  blk_simp
  rw [after4_2]
  refine (out4_2_at _ _ _).trans (Eq.trans ?_ (congrArg₂ _ (x := ⟨t.val * 512 + (y 0).val, row_at N_4 t.isLt (y 0)⟩) (y := (y 1)) (Fin.ext ?_) (Fin.ext ?_)))
  · exact Finset.sum_congr rfl fun k _ => congrArg₂ (fun a b : EReal => a * b) (iblk4_0 V c t _ k) (iblk4_1 V c t _ k)
  all_goals (blk_simp [idx4 t] <;> try omega)

theorem arr5_2 (f : Fin 1536) (k : Fin 1024) : (dat5 V c).arrAt 2 cfg5.N (ix2 f k) = gram (O0 V c) (E0 V c) f k := by
  refine congrFun ((dat5 V c).arrAt_eq_of_covers 2 (fun j : S1536x1024.Idx => gram (O0 V c) (E0 V c) (j 0) (j 1)) (by decide +kernel) fun t hf y => ?_) (ix2 f k)
  blk_simp
  rw [after5_2]
  unfold outsAt5
  frame_out
  refine (congrArg _ (eq_ix2 y)).trans ((dw_at _ _ _).trans (Eq.trans ?_ (congrArg₂ _ (x := ⟨t.val * 256 + (y 0).val, col_lt N_5 t.isLt (y 0)⟩) (y := (y 1)) (Fin.ext ?_) (Fin.ext ?_))))
  · exact Finset.sum_congr rfl fun i _ => congrArg₂ (fun a b : EReal => a * b) (iblk5_0 V c t i _) (iblk5_1 V c t i _)
  all_goals (blk_simp [idx5 t] <;> try omega)

end Cert.Kernel4Ideal.Proj

end
-- ==== Proof.ProjGroups.lean ====
module

public import proofs.«01_k».proof.Proof.ProjCalls

/-! The attention's projections, group by group: the arrays the three groups' calls leave. -/

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Idealize.ShloMosaic.Pipeline (Dat)
open Cert.Kernel2Ideal.Ffn (gram)

variable (V : (c : Dev nD) → (b : Ref sig .tc) → Buf (Elt Ideal) ((c : Thread nD τ).loc b)) (c : Dev nD)

/-! Group 0 -/

theorem idx0 : ∀ t : Fin cfg0.N, win0_0.index t = ![t.val, 0] ∧ win0_1.index t = ![0, 0] ∧ win0_2.index t = ![3, 0]
    ∧ win0_3.index t = ![6, 0] ∧ win0_4.index t = ![t.val, 0] ∧ win0_5.index t = ![t.val, 0] ∧ win0_6.index t = ![t.val, 0] :=
  (by decide +kernel : ∀ t : Fin grid0.N, _)
theorem idx6 : ∀ t : Fin cfg6.N, win6_0.index t = ![0, t.val] ∧ win6_1.index t = ![0, 0] ∧ win6_2.index t = ![t.val, 0] :=
  (by decide +kernel : ∀ t : Fin grid6.N, _)
theorem idx9 : ∀ t : Fin cfg9.N, win9_0.index t = ![t.val, 0] ∧ win9_1.index t = ![0, 0] ∧ win9_2.index t = ![3, 0]
    ∧ win9_3.index t = ![6, 0] ∧ win9_4.index t = ![t.val, 0] :=
  (by decide +kernel : ∀ t : Fin grid9.N, _)

theorem iblk0_0 (t : Fin cfg0.N) (i : Fin 512) (k : Fin 1024) : iblk0 V c 0 t (ix2 i k) = U0 V c ⟨t.val * 512 + i.val, row_at N_0 t.isLt i⟩ k := by
  unfold U0; blk_point [iblk0, idx0 t]
theorem iblk0_1 (t : Fin cfg0.N) (f : Fin 512) (k : Fin 1024) : iblk0 V c 1 t (ix2 f k) = Wt V c (partRow 0 0 f) k := by
  unfold Wt partRow; blk_point [iblk0, idx0 t]
theorem iblk0_2 (t : Fin cfg0.N) (f : Fin 512) (k : Fin 1024) : iblk0 V c 2 t (ix2 f k) = Wt V c (partRow 1 0 f) k := by
  unfold Wt partRow; blk_point [iblk0, idx0 t]
theorem iblk0_3 (t : Fin cfg0.N) (f : Fin 512) (k : Fin 1024) : iblk0 V c 3 t (ix2 f k) = Wt V c (partRow 2 0 f) k := by
  unfold Wt partRow; blk_point [iblk0, idx0 t]
theorem iblk0_4 (t : Fin cfg0.N) (i : Fin 512) (l : Fin 128) : iblk0 V c 4 t (ix2 i l) = C0 V c ⟨t.val * 512 + i.val, row_at N_0 t.isLt i⟩ l := by
  unfold C0; blk_point [iblk0, idx0 t]
theorem iblk0_5 (t : Fin cfg0.N) (i : Fin 512) (l : Fin 128) : iblk0 V c 5 t (ix2 i l) = S0 V c ⟨t.val * 512 + i.val, row_at N_0 t.isLt i⟩ l := by
  unfold S0; blk_point [iblk0, idx0 t]
theorem iblk6_0 (t : Fin cfg6.N) (i : Fin 8192) (f : Fin 256) : iblk6 V c 0 t (ix2 i f) = D0 V c i ⟨t.val * 256 + f.val, col_lt N_6 t.isLt f⟩ := by
  unfold D0; blk_point [iblk6, idx6 t]
theorem iblk6_1 (t : Fin cfg6.N) (i : Fin 8192) (k : Fin 1024) : iblk6 V c 1 t (ix2 i k) = U0 V c i k := by
  unfold U0; blk_point [iblk6, idx6 t]
theorem iblk9_0 (t : Fin cfg9.N) (i : Fin 512) (f : Fin 1536) : iblk9 V c 0 t (ix2 i f) = D0 V c ⟨t.val * 512 + i.val, row_at N_9 t.isLt i⟩ f := by
  unfold D0; blk_point [iblk9, idx9 t]
theorem iblk9_1 (t : Fin cfg9.N) (f : Fin 512) (k : Fin 1024) : iblk9 V c 1 t (ix2 f k) = Wt V c (partRow 0 0 f) k := by
  unfold Wt partRow; blk_point [iblk9, idx9 t]
theorem iblk9_2 (t : Fin cfg9.N) (f : Fin 512) (k : Fin 1024) : iblk9 V c 2 t (ix2 f k) = Wt V c (partRow 1 0 f) k := by
  unfold Wt partRow; blk_point [iblk9, idx9 t]
theorem iblk9_3 (t : Fin cfg9.N) (f : Fin 512) (k : Fin 1024) : iblk9 V c 3 t (ix2 f k) = Wt V c (partRow 2 0 f) k := by
  unfold Wt partRow; blk_point [iblk9, idx9 t]

theorem arr0_6 (i : Fin 8192) (f : Fin 1536) : (dat0 V c).arrAt 6 cfg0.N (ix2 i f) = qkvOf (U0 V c) (Wt V c) (C0 V c) (S0 V c) 0 i f := by
  refine congrFun ((dat0 V c).arrAt_eq_of_covers 6 (fun j : S8192x1536.Idx => qkvOf (U0 V c) (Wt V c) (C0 V c) (S0 V c) 0 (j 0) (j 1)) (by decide +kernel) fun t hf y => ?_) (ix2 i f)
  blk_simp
  rw [after0_6]
  unfold outsAt0
  frame_out
  refine (pieces_at (iblk0 V c 0 t) (iblk0 V c 1 t) (iblk0 V c 2 t) (iblk0 V c 3 t) (iblk0 V c 4 t) (iblk0 V c 5 t) y).trans
    (Eq.trans ?_ (congrArg₂ _ (x := ⟨t.val * 512 + (y 0).val, row_at N_0 t.isLt (y 0)⟩) (y := (y 1)) (Fin.ext ?_) (Fin.ext ?_)))
  · exact groupAt_eq (y 1) (iblk0_0 V c t _) (iblk0_1 V c t) (iblk0_2 V c t) (iblk0_3 V c t) (iblk0_4 V c t _) (iblk0_5 V c t _)
  all_goals (blk_simp [idx0 t] <;> try omega)

theorem arr6_2 (f : Fin 1536) (k : Fin 1024) : (dat6 V c).arrAt 2 cfg6.N (ix2 f k) = gram (D0 V c) (U0 V c) f k := by
  refine congrFun ((dat6 V c).arrAt_eq_of_covers 2 (fun j : S1536x1024.Idx => gram (D0 V c) (U0 V c) (j 0) (j 1)) (by decide +kernel) fun t hf y => ?_) (ix2 f k)
  blk_simp
  rw [after6_2]
  unfold outsAt6
  frame_out
  refine (congrArg _ (eq_ix2 y)).trans ((dw_at _ _ _).trans (Eq.trans ?_ (congrArg₂ _ (x := ⟨t.val * 256 + (y 0).val, col_lt N_6 t.isLt (y 0)⟩) (y := (y 1)) (Fin.ext ?_) (Fin.ext ?_))))
  · exact Finset.sum_congr rfl fun i _ => congrArg₂ (fun a b : EReal => a * b) (iblk6_0 V c t i _) (iblk6_1 V c t i _)
  all_goals (blk_simp [idx6 t] <;> try omega)

theorem arr9_4 (i : Fin 8192) (k : Fin 1024) : (dat9 V c).arrAt 4 cfg9.N (ix2 i k) = duOf (D0 V c) (Wt V c) 0 i k := by
  refine congrFun ((dat9 V c).arrAt_eq_of_covers 4 (fun j : S8192x1024.Idx => duOf (D0 V c) (Wt V c) 0 (j 0) (j 1)) (by decide +kernel) fun t hf y => ?_) (ix2 i k)
  blk_simp
  rw [after9_4]
  refine (du_at y (iblk9_0 V c t _) (iblk9_1 V c t) (iblk9_2 V c t) (iblk9_3 V c t)).trans
    (congrArg₂ _ (x := ⟨t.val * 512 + (y 0).val, row_at N_9 t.isLt (y 0)⟩) (y := (y 1)) (Fin.ext ?_) (Fin.ext ?_))
  all_goals (blk_simp [idx9 t] <;> try omega)

/-! Group 1 -/

theorem idx1 : ∀ t : Fin cfg1.N, win1_0.index t = ![t.val, 0] ∧ win1_1.index t = ![1, 0] ∧ win1_2.index t = ![4, 0]
    ∧ win1_3.index t = ![7, 0] ∧ win1_4.index t = ![t.val, 0] ∧ win1_5.index t = ![t.val, 0] ∧ win1_6.index t = ![t.val, 0] :=
  (by decide +kernel : ∀ t : Fin grid1.N, _)
theorem idx7 : ∀ t : Fin cfg7.N, win7_0.index t = ![0, t.val] ∧ win7_1.index t = ![0, 0] ∧ win7_2.index t = ![t.val, 0] :=
  (by decide +kernel : ∀ t : Fin grid7.N, _)
theorem idx10 : ∀ t : Fin cfg10.N, win10_0.index t = ![t.val, 0] ∧ win10_1.index t = ![1, 0] ∧ win10_2.index t = ![4, 0]
    ∧ win10_3.index t = ![7, 0] ∧ win10_4.index t = ![t.val, 0] :=
  (by decide +kernel : ∀ t : Fin grid10.N, _)

theorem iblk1_0 (t : Fin cfg1.N) (i : Fin 512) (k : Fin 1024) : iblk1 V c 0 t (ix2 i k) = U1 V c ⟨t.val * 512 + i.val, row_at N_1 t.isLt i⟩ k := by
  unfold U1; blk_point [iblk1, idx1 t]
theorem iblk1_1 (t : Fin cfg1.N) (f : Fin 512) (k : Fin 1024) : iblk1 V c 1 t (ix2 f k) = Wt V c (partRow 0 1 f) k := by
  unfold Wt partRow; blk_point [iblk1, idx1 t]
theorem iblk1_2 (t : Fin cfg1.N) (f : Fin 512) (k : Fin 1024) : iblk1 V c 2 t (ix2 f k) = Wt V c (partRow 1 1 f) k := by
  unfold Wt partRow; blk_point [iblk1, idx1 t]
theorem iblk1_3 (t : Fin cfg1.N) (f : Fin 512) (k : Fin 1024) : iblk1 V c 3 t (ix2 f k) = Wt V c (partRow 2 1 f) k := by
  unfold Wt partRow; blk_point [iblk1, idx1 t]
theorem iblk1_4 (t : Fin cfg1.N) (i : Fin 512) (l : Fin 128) : iblk1 V c 4 t (ix2 i l) = C1 V c ⟨t.val * 512 + i.val, row_at N_1 t.isLt i⟩ l := by
  unfold C1; blk_point [iblk1, idx1 t]
theorem iblk1_5 (t : Fin cfg1.N) (i : Fin 512) (l : Fin 128) : iblk1 V c 5 t (ix2 i l) = S1 V c ⟨t.val * 512 + i.val, row_at N_1 t.isLt i⟩ l := by
  unfold S1; blk_point [iblk1, idx1 t]
theorem iblk7_0 (t : Fin cfg7.N) (i : Fin 8192) (f : Fin 256) : iblk7 V c 0 t (ix2 i f) = D1 V c i ⟨t.val * 256 + f.val, col_lt N_7 t.isLt f⟩ := by
  unfold D1; blk_point [iblk7, idx7 t]
theorem iblk7_1 (t : Fin cfg7.N) (i : Fin 8192) (k : Fin 1024) : iblk7 V c 1 t (ix2 i k) = U1 V c i k := by
  unfold U1; blk_point [iblk7, idx7 t]
theorem iblk10_0 (t : Fin cfg10.N) (i : Fin 512) (f : Fin 1536) : iblk10 V c 0 t (ix2 i f) = D1 V c ⟨t.val * 512 + i.val, row_at N_10 t.isLt i⟩ f := by
  unfold D1; blk_point [iblk10, idx10 t]
theorem iblk10_1 (t : Fin cfg10.N) (f : Fin 512) (k : Fin 1024) : iblk10 V c 1 t (ix2 f k) = Wt V c (partRow 0 1 f) k := by
  unfold Wt partRow; blk_point [iblk10, idx10 t]
theorem iblk10_2 (t : Fin cfg10.N) (f : Fin 512) (k : Fin 1024) : iblk10 V c 2 t (ix2 f k) = Wt V c (partRow 1 1 f) k := by
  unfold Wt partRow; blk_point [iblk10, idx10 t]
theorem iblk10_3 (t : Fin cfg10.N) (f : Fin 512) (k : Fin 1024) : iblk10 V c 3 t (ix2 f k) = Wt V c (partRow 2 1 f) k := by
  unfold Wt partRow; blk_point [iblk10, idx10 t]

theorem arr1_6 (i : Fin 8192) (f : Fin 1536) : (dat1 V c).arrAt 6 cfg1.N (ix2 i f) = qkvOf (U1 V c) (Wt V c) (C1 V c) (S1 V c) 1 i f := by
  refine congrFun ((dat1 V c).arrAt_eq_of_covers 6 (fun j : S8192x1536.Idx => qkvOf (U1 V c) (Wt V c) (C1 V c) (S1 V c) 1 (j 0) (j 1)) (by decide +kernel) fun t hf y => ?_) (ix2 i f)
  blk_simp
  rw [after1_6]
  unfold outsAt1
  frame_out
  refine (pieces_at (iblk1 V c 0 t) (iblk1 V c 1 t) (iblk1 V c 2 t) (iblk1 V c 3 t) (iblk1 V c 4 t) (iblk1 V c 5 t) y).trans
    (Eq.trans ?_ (congrArg₂ _ (x := ⟨t.val * 512 + (y 0).val, row_at N_1 t.isLt (y 0)⟩) (y := (y 1)) (Fin.ext ?_) (Fin.ext ?_)))
  · exact groupAt_eq (y 1) (iblk1_0 V c t _) (iblk1_1 V c t) (iblk1_2 V c t) (iblk1_3 V c t) (iblk1_4 V c t _) (iblk1_5 V c t _)
  all_goals (blk_simp [idx1 t] <;> try omega)

theorem arr7_2 (f : Fin 1536) (k : Fin 1024) : (dat7 V c).arrAt 2 cfg7.N (ix2 f k) = gram (D1 V c) (U1 V c) f k := by
  refine congrFun ((dat7 V c).arrAt_eq_of_covers 2 (fun j : S1536x1024.Idx => gram (D1 V c) (U1 V c) (j 0) (j 1)) (by decide +kernel) fun t hf y => ?_) (ix2 f k)
  blk_simp
  rw [after7_2]
  unfold outsAt7
  frame_out
  refine (congrArg _ (eq_ix2 y)).trans ((dw_at _ _ _).trans (Eq.trans ?_ (congrArg₂ _ (x := ⟨t.val * 256 + (y 0).val, col_lt N_7 t.isLt (y 0)⟩) (y := (y 1)) (Fin.ext ?_) (Fin.ext ?_))))
  · exact Finset.sum_congr rfl fun i _ => congrArg₂ (fun a b : EReal => a * b) (iblk7_0 V c t i _) (iblk7_1 V c t i _)
  all_goals (blk_simp [idx7 t] <;> try omega)

theorem arr10_4 (i : Fin 8192) (k : Fin 1024) : (dat10 V c).arrAt 4 cfg10.N (ix2 i k) = duOf (D1 V c) (Wt V c) 1 i k := by
  refine congrFun ((dat10 V c).arrAt_eq_of_covers 4 (fun j : S8192x1024.Idx => duOf (D1 V c) (Wt V c) 1 (j 0) (j 1)) (by decide +kernel) fun t hf y => ?_) (ix2 i k)
  blk_simp
  rw [after10_4]
  refine (du_at y (iblk10_0 V c t _) (iblk10_1 V c t) (iblk10_2 V c t) (iblk10_3 V c t)).trans
    (congrArg₂ _ (x := ⟨t.val * 512 + (y 0).val, row_at N_10 t.isLt (y 0)⟩) (y := (y 1)) (Fin.ext ?_) (Fin.ext ?_))
  all_goals (blk_simp [idx10 t] <;> try omega)

/-! Group 2 -/

theorem idx2 : ∀ t : Fin cfg2.N, win2_0.index t = ![t.val, 0] ∧ win2_1.index t = ![2, 0] ∧ win2_2.index t = ![5, 0]
    ∧ win2_3.index t = ![8, 0] ∧ win2_4.index t = ![t.val, 0] ∧ win2_5.index t = ![t.val, 0] ∧ win2_6.index t = ![t.val, 0] :=
  (by decide +kernel : ∀ t : Fin grid2.N, _)
theorem idx8 : ∀ t : Fin cfg8.N, win8_0.index t = ![0, t.val] ∧ win8_1.index t = ![0, 0] ∧ win8_2.index t = ![t.val, 0] :=
  (by decide +kernel : ∀ t : Fin grid8.N, _)
theorem idx11 : ∀ t : Fin cfg11.N, win11_0.index t = ![t.val, 0] ∧ win11_1.index t = ![2, 0] ∧ win11_2.index t = ![5, 0]
    ∧ win11_3.index t = ![8, 0] ∧ win11_4.index t = ![t.val, 0] :=
  (by decide +kernel : ∀ t : Fin grid11.N, _)

theorem iblk2_0 (t : Fin cfg2.N) (i : Fin 512) (k : Fin 1024) : iblk2 V c 0 t (ix2 i k) = U2 V c ⟨t.val * 512 + i.val, row_at N_2 t.isLt i⟩ k := by
  unfold U2; blk_point [iblk2, idx2 t]
theorem iblk2_1 (t : Fin cfg2.N) (f : Fin 512) (k : Fin 1024) : iblk2 V c 1 t (ix2 f k) = Wt V c (partRow 0 2 f) k := by
  unfold Wt partRow; blk_point [iblk2, idx2 t]
theorem iblk2_2 (t : Fin cfg2.N) (f : Fin 512) (k : Fin 1024) : iblk2 V c 2 t (ix2 f k) = Wt V c (partRow 1 2 f) k := by
  unfold Wt partRow; blk_point [iblk2, idx2 t]
theorem iblk2_3 (t : Fin cfg2.N) (f : Fin 512) (k : Fin 1024) : iblk2 V c 3 t (ix2 f k) = Wt V c (partRow 2 2 f) k := by
  unfold Wt partRow; blk_point [iblk2, idx2 t]
theorem iblk2_4 (t : Fin cfg2.N) (i : Fin 512) (l : Fin 128) : iblk2 V c 4 t (ix2 i l) = C2 V c ⟨t.val * 512 + i.val, row_at N_2 t.isLt i⟩ l := by
  unfold C2; blk_point [iblk2, idx2 t]
theorem iblk2_5 (t : Fin cfg2.N) (i : Fin 512) (l : Fin 128) : iblk2 V c 5 t (ix2 i l) = S2 V c ⟨t.val * 512 + i.val, row_at N_2 t.isLt i⟩ l := by
  unfold S2; blk_point [iblk2, idx2 t]
theorem iblk8_0 (t : Fin cfg8.N) (i : Fin 8192) (f : Fin 256) : iblk8 V c 0 t (ix2 i f) = D2 V c i ⟨t.val * 256 + f.val, col_lt N_8 t.isLt f⟩ := by
  unfold D2; blk_point [iblk8, idx8 t]
theorem iblk8_1 (t : Fin cfg8.N) (i : Fin 8192) (k : Fin 1024) : iblk8 V c 1 t (ix2 i k) = U2 V c i k := by
  unfold U2; blk_point [iblk8, idx8 t]
theorem iblk11_0 (t : Fin cfg11.N) (i : Fin 512) (f : Fin 1536) : iblk11 V c 0 t (ix2 i f) = D2 V c ⟨t.val * 512 + i.val, row_at N_11 t.isLt i⟩ f := by
  unfold D2; blk_point [iblk11, idx11 t]
theorem iblk11_1 (t : Fin cfg11.N) (f : Fin 512) (k : Fin 1024) : iblk11 V c 1 t (ix2 f k) = Wt V c (partRow 0 2 f) k := by
  unfold Wt partRow; blk_point [iblk11, idx11 t]
theorem iblk11_2 (t : Fin cfg11.N) (f : Fin 512) (k : Fin 1024) : iblk11 V c 2 t (ix2 f k) = Wt V c (partRow 1 2 f) k := by
  unfold Wt partRow; blk_point [iblk11, idx11 t]
theorem iblk11_3 (t : Fin cfg11.N) (f : Fin 512) (k : Fin 1024) : iblk11 V c 3 t (ix2 f k) = Wt V c (partRow 2 2 f) k := by
  unfold Wt partRow; blk_point [iblk11, idx11 t]

theorem arr2_6 (i : Fin 8192) (f : Fin 1536) : (dat2 V c).arrAt 6 cfg2.N (ix2 i f) = qkvOf (U2 V c) (Wt V c) (C2 V c) (S2 V c) 2 i f := by
  refine congrFun ((dat2 V c).arrAt_eq_of_covers 6 (fun j : S8192x1536.Idx => qkvOf (U2 V c) (Wt V c) (C2 V c) (S2 V c) 2 (j 0) (j 1)) (by decide +kernel) fun t hf y => ?_) (ix2 i f)
  blk_simp
  rw [after2_6]
  unfold outsAt2
  frame_out
  refine (pieces_at (iblk2 V c 0 t) (iblk2 V c 1 t) (iblk2 V c 2 t) (iblk2 V c 3 t) (iblk2 V c 4 t) (iblk2 V c 5 t) y).trans
    (Eq.trans ?_ (congrArg₂ _ (x := ⟨t.val * 512 + (y 0).val, row_at N_2 t.isLt (y 0)⟩) (y := (y 1)) (Fin.ext ?_) (Fin.ext ?_)))
  · exact groupAt_eq (y 1) (iblk2_0 V c t _) (iblk2_1 V c t) (iblk2_2 V c t) (iblk2_3 V c t) (iblk2_4 V c t _) (iblk2_5 V c t _)
  all_goals (blk_simp [idx2 t] <;> try omega)

theorem arr8_2 (f : Fin 1536) (k : Fin 1024) : (dat8 V c).arrAt 2 cfg8.N (ix2 f k) = gram (D2 V c) (U2 V c) f k := by
  refine congrFun ((dat8 V c).arrAt_eq_of_covers 2 (fun j : S1536x1024.Idx => gram (D2 V c) (U2 V c) (j 0) (j 1)) (by decide +kernel) fun t hf y => ?_) (ix2 f k)
  blk_simp
  rw [after8_2]
  unfold outsAt8
  frame_out
  refine (congrArg _ (eq_ix2 y)).trans ((dw_at _ _ _).trans (Eq.trans ?_ (congrArg₂ _ (x := ⟨t.val * 256 + (y 0).val, col_lt N_8 t.isLt (y 0)⟩) (y := (y 1)) (Fin.ext ?_) (Fin.ext ?_))))
  · exact Finset.sum_congr rfl fun i _ => congrArg₂ (fun a b : EReal => a * b) (iblk8_0 V c t i _) (iblk8_1 V c t i _)
  all_goals (blk_simp [idx8 t] <;> try omega)

theorem arr11_4 (i : Fin 8192) (k : Fin 1024) : (dat11 V c).arrAt 4 cfg11.N (ix2 i k) = duOf (D2 V c) (Wt V c) 2 i k := by
  refine congrFun ((dat11 V c).arrAt_eq_of_covers 4 (fun j : S8192x1024.Idx => duOf (D2 V c) (Wt V c) 2 (j 0) (j 1)) (by decide +kernel) fun t hf y => ?_) (ix2 i k)
  blk_simp
  rw [after11_4]
  refine (du_at y (iblk11_0 V c t _) (iblk11_1 V c t) (iblk11_2 V c t) (iblk11_3 V c t)).trans
    (congrArg₂ _ (x := ⟨t.val * 512 + (y 0).val, row_at N_11 t.isLt (y 0)⟩) (y := (y 1)) (Fin.ext ?_) (Fin.ext ?_))
  all_goals (blk_simp [idx11 t] <;> try omega)

end Cert.Kernel4Ideal.Proj

end
-- ==== Proof.ProjSpec.lean ====
module

public import proofs.«01_k».proof.Proof.ProjGroups

/-! The attention's projections as plain mathematics of their arguments. -/

@[expose] public section

noncomputable section

namespace Cert.Kernel4Ideal.Proj

open Idealize.ShloMosaic
open Cert.Kernel2Ideal.Ffn (gram)

/-- The arguments: the normalised rows, the two weights, the tables of the rotation, the gradients of the three groups' queries,
    keys and values, what the attention hands to the output product, the rows it is added to, and the gradient of the result. -/
structure Args where
  u : Fin 8192 → Fin 1024 → EReal
  w : Fin 1024 → Fin 4608 → EReal
  wo : Fin 1536 → Fin 1024 → EReal
  cs : Fin 8192 → Fin 64 → EReal
  sn : Fin 8192 → Fin 64 → EReal
  d0 : Fin 8192 → Fin 1536 → EReal
  d1 : Fin 8192 → Fin 1536 → EReal
  d2 : Fin 8192 → Fin 1536 → EReal
  o : Fin 8192 → Fin 1536 → EReal
  h : Fin 8192 → Fin 1024 → EReal
  e : Fin 8192 → Fin 1024 → EReal

/-- The position a row stands for, in the order of the residue classes modulo one, four and sixteen. -/
def pos0 (r : Fin 8192) : Fin 8192 := r
def pos1 (r : Fin 8192) : Fin 8192 := ⟨4 * (r.val % 2048) + r.val / 2048, by omega⟩
def pos2 (r : Fin 8192) : Fin 8192 := ⟨16 * (r.val % 512) + r.val / 512, by omega⟩

/-- The angle of a place in a head. -/
def angle (l : Fin 128) : Fin 64 := ⟨l.val % 64, by omega⟩

namespace Args

variable (A : Args)

/-- The weight, a row for each column of the projection. -/
def rowsW (f : Fin 4608) (k : Fin 1024) : EReal := A.w k f

/-- The tables over a whole head: the sine's first half negated. -/
def cc (i : Fin 8192) (l : Fin 128) : EReal := A.cs i (angle l)
def ss (i : Fin 8192) (l : Fin 128) : EReal := if l.val < 64 then - A.sn i (angle l) else A.sn i (angle l)

theorem ss_lo (i : Fin 8192) (l : Fin 128) (h : l.val < 64) : A.ss i l = - A.sn i (angle l) := if_pos h
theorem ss_hi (i : Fin 8192) (l : Fin 128) (h : ¬ l.val < 64) : A.ss i l = A.sn i (angle l) := if_neg h

/-- The forward. -/
def qkv (π : Fin 8192 → Fin 8192) (g : Fin 3) : Fin 8192 → Fin 1536 → EReal :=
  qkvOf (fun i => A.u (π i)) A.rowsW (fun i => A.cc (π i)) (fun i => A.ss (π i)) g
def out : Fin 8192 → Fin 1024 → EReal := outOf A.o A.wo A.h

/-- The backward. -/
def dO : Fin 8192 → Fin 1536 → EReal := backOf A.e A.wo
def dOut : Fin 1536 → Fin 1024 → EReal := gram A.o A.e
def dW (D : Fin 8192 → Fin 1536 → EReal) (π : Fin 8192 → Fin 8192) : Fin 1536 → Fin 1024 → EReal := gram D fun i => A.u (π i)
def dU (D : Fin 8192 → Fin 1536 → EReal) (g : Fin 3) : Fin 8192 → Fin 1024 → EReal := duOf D A.rowsW g

end Args

end Cert.Kernel4Ideal.Proj

end
-- ==== Proof.ProjEntry.lean ====
module

public import proofs.«01_k».proof.Proof.ProjSpec
public import Idealize.ShloMosaic.Lib.Claim

/-! From the launch to the twelve results: what each call of the projections finds in its arrays and leaves in them. -/

@[expose] public section

set_option maxRecDepth 16384

noncomputable section

namespace Cert.Kernel4Ideal.Proj

open Cert.Kernel4Ideal Cert.Kernel4Ideal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Ffn (gram)

section Launch
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, leaves its arguments as they were, and its results are what the last boundary holds. -/
theorem run_results : θ_run defs (onTc (τ := τ) (main (F := F))) ⟨m, fun _ => 0, ρ⟩ (fun r => ∀ c : Dev nD,
      r.2.mem ((c.tc : Thread nD τ).loc main_v30) = W13 m ρ c (Proc.devRef .tc main_v30)
      ∧ r.2.mem ((c.tc : Thread nD τ).loc main_v31) = W13 m ρ c (Proc.devRef .tc main_v31)
      ∧ r.2.mem ((c.tc : Thread nD τ).loc main_v32) = W13 m ρ c (Proc.devRef .tc main_v32)
      ∧ r.2.mem ((c.tc : Thread nD τ).loc main_v33) = W13 m ρ c (Proc.devRef .tc main_v33)
      ∧ r.2.mem ((c.tc : Thread nD τ).loc main_v34) = W13 m ρ c (Proc.devRef .tc main_v34)
      ∧ r.2.mem ((c.tc : Thread nD τ).loc main_v35) = W13 m ρ c (Proc.devRef .tc main_v35)
      ∧ r.2.mem ((c.tc : Thread nD τ).loc main_v36) = W13 m ρ c (Proc.devRef .tc main_v36)
      ∧ r.2.mem ((c.tc : Thread nD τ).loc main_v37) = W13 m ρ c (Proc.devRef .tc main_v37)
      ∧ r.2.mem ((c.tc : Thread nD τ).loc main_v38) = W13 m ρ c (Proc.devRef .tc main_v38)
      ∧ r.2.mem ((c.tc : Thread nD τ).loc main_v39) = W13 m ρ c (Proc.devRef .tc main_v39)
      ∧ r.2.mem ((c.tc : Thread nD τ).loc main_v40) = W13 m ρ c (Proc.devRef .tc main_v40)
      ∧ r.2.mem ((c.tc : Thread nD τ).loc main_v41) = W13 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => fun c =>
      ⟨h c _ (mem_uc main_v30 (by decide)),
       h c _ (mem_uc main_v31 (by decide)),
       h c _ (mem_uc main_v32 (by decide)),
       h c _ (mem_uc main_v33 (by decide)),
       h c _ (mem_uc main_v34 (by decide)),
       h c _ (mem_uc main_v35 (by decide)),
       h c _ (mem_uc main_v36 (by decide)),
       h c _ (mem_uc main_v37 (by decide)),
       h c _ (mem_uc main_v38 (by decide)),
       h c _ (mem_uc main_v39 (by decide)),
       h c _ (mem_uc main_v40 (by decide)),
       h c _ (mem_uc main_v41 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)
end Launch

variable (m : (ℓ : Loc nD τ sig) → Buf (Elt Ideal) ℓ) (ρ : Dev nD → PrngReg) (c : Dev nD)

/-- The arguments as launched. -/
def argsOf : Args where
  u i k := m ((c : Thread nD τ).loc main_arg0) (ix2 i k)
  w k f := m ((c : Thread nD τ).loc main_arg1) (ix2 k f)
  wo f k := m ((c : Thread nD τ).loc main_arg2) (ix2 f k)
  cs i e := m ((c : Thread nD τ).loc main_arg3) (ix2 i e)
  sn i e := m ((c : Thread nD τ).loc main_arg4) (ix2 i e)
  d0 i f := m ((c : Thread nD τ).loc main_arg5) (ix2 i f)
  d1 i f := m ((c : Thread nD τ).loc main_arg6) (ix2 i f)
  d2 i f := m ((c : Thread nD τ).loc main_arg7) (ix2 i f)
  o i f := m ((c : Thread nD τ).loc main_arg8) (ix2 i f)
  h i k := m ((c : Thread nD τ).loc main_arg9) (ix2 i k)
  e i k := m ((c : Thread nD τ).loc main_arg10) (ix2 i k)

/-! What the host operations leave in the arrays the calls read. -/

theorem w_1 (f : Fin 4608) (k : Fin 1024) : (V1 m ρ c main_v1 : FVec Ideal S4608x1024 .bf16) (ix2 f k) = (argsOf m c).rowsW f k := by
  unfold V1 W1
  after_results
  pointwise [argsOf, Args.rowsW]
theorem wo_1 (f : Fin 1536) (k : Fin 1024) : (V1 m ρ c main_v2 : FVec Ideal S1536x1024 .bf16) (ix2 f k) = (argsOf m c).wo f k := by
  unfold V1 W1
  after_results
  pointwise [argsOf]
theorem o_1 (i : Fin 8192) (f : Fin 1536) : (V1 m ρ c main_v4 : FVec Ideal S8192x1536 .bf16) (ix2 i f) = (argsOf m c).o i f := by
  unfold V1 W1
  after_results
  pointwise [argsOf]
theorem e_1 (i : Fin 8192) (k : Fin 1024) : (V1 m ρ c main_v5 : FVec Ideal S8192x1024 .bf16) (ix2 i k) = (argsOf m c).e i k := by
  unfold V1 W1
  after_results
  pointwise [argsOf]
theorem d0_1 (i : Fin 8192) (f : Fin 1536) : (V1 m ρ c main_v27 : FVec Ideal S8192x1536 .bf16) (ix2 i f) = (argsOf m c).d0 i f := by
  unfold V1 W1
  after_results
  pointwise [argsOf]
theorem d1_1 (i : Fin 8192) (f : Fin 1536) : (V1 m ρ c main_v28 : FVec Ideal S8192x1536 .bf16) (ix2 i f) = (argsOf m c).d1 i f := by
  unfold V1 W1
  after_results
  pointwise [argsOf]
theorem d2_1 (i : Fin 8192) (f : Fin 1536) : (V1 m ρ c main_v29 : FVec Ideal S8192x1536 .bf16) (ix2 i f) = (argsOf m c).d2 i f := by
  unfold V1 W1
  after_results
  pointwise [argsOf]
theorem u0_1 (i : Fin 8192) (k : Fin 1024) : (V1 m ρ c main_v3 : FVec Ideal S8192x1024 .bf16) (ix2 i k) = (argsOf m c).u (pos0 i) k := by
  unfold V1 W1
  after_results
  pointwise [argsOf]
  rfl
theorem u1_1 (i : Fin 8192) (k : Fin 1024) : (V1 m ρ c main_v11 : FVec Ideal S8192x1024 .bf16) (ix2 i k) = (argsOf m c).u (pos1 i) k := by
  unfold V1 W1
  after_results
  pointwise [argsOf]
  unfold pos1
  blk_ext
theorem u2_1 (i : Fin 8192) (k : Fin 1024) : (V1 m ρ c main_v14 : FVec Ideal S8192x1024 .bf16) (ix2 i k) = (argsOf m c).u (pos2 i) k := by
  unfold V1 W1
  after_results
  pointwise [argsOf]
  unfold pos2
  blk_ext
theorem c0_1 (i : Fin 8192) (l : Fin 128) : (V1 m ρ c main_v6 : FVec Ideal S8192x128 .f32) (ix2 i l) = (argsOf m c).cc (pos0 i) l := by
  unfold V1 W1
  after_results
  pointwise [argsOf]
  unfold Args.cc pos0 angle
  by_cases hl : l.val < 64
  · rw [dif_pos hl]
    blk_ext
  · rw [dif_neg hl]
    blk_ext
theorem c1_1 (i : Fin 8192) (l : Fin 128) : (V1 m ρ c main_v17 : FVec Ideal S8192x128 .f32) (ix2 i l) = (argsOf m c).cc (pos1 i) l := by
  unfold V1 W1
  after_results
  pointwise [argsOf]
  unfold Args.cc pos1 angle
  by_cases hl : l.val < 64
  · rw [dif_pos hl]
    blk_ext
  · rw [dif_neg hl]
    blk_ext
theorem c2_1 (i : Fin 8192) (l : Fin 128) : (V1 m ρ c main_v23 : FVec Ideal S8192x128 .f32) (ix2 i l) = (argsOf m c).cc (pos2 i) l := by
  unfold V1 W1
  after_results
  pointwise [argsOf]
  unfold Args.cc pos2 angle
  by_cases hl : l.val < 64
  · rw [dif_pos hl]
    blk_ext
  · rw [dif_neg hl]
    blk_ext
theorem s0_1 (i : Fin 8192) (l : Fin 128) : (V1 m ρ c main_v8 : FVec Ideal S8192x128 .f32) (ix2 i l) = (argsOf m c).ss (pos0 i) l := by
  unfold V1 W1
  after_results
  pointwise []
  by_cases hl : l.val < 64
  · refine Eq.trans ?_ (Args.ss_lo (argsOf m c) (pos0 i) l hl).symm
    rw [dif_pos hl]
    refine congrArg (fun x : EReal => -x) (congrArg (m ((c : Thread nD τ).loc main_arg4)) ?_)
    unfold pos0 angle
    blk_ext
  · refine Eq.trans ?_ (Args.ss_hi (argsOf m c) (pos0 i) l hl).symm
    rw [dif_neg hl]
    refine congrArg (m ((c : Thread nD τ).loc main_arg4)) ?_
    unfold pos0 angle
    blk_ext
theorem s1_1 (i : Fin 8192) (l : Fin 128) : (V1 m ρ c main_v20 : FVec Ideal S8192x128 .f32) (ix2 i l) = (argsOf m c).ss (pos1 i) l := by
  unfold V1 W1
  after_results
  pointwise []
  by_cases hl : l.val < 64
  · refine Eq.trans ?_ (Args.ss_lo (argsOf m c) (pos1 i) l hl).symm
    rw [dif_pos hl]
    refine congrArg (fun x : EReal => -x) (congrArg (m ((c : Thread nD τ).loc main_arg4)) ?_)
    unfold pos1 angle
    blk_ext
  · refine Eq.trans ?_ (Args.ss_hi (argsOf m c) (pos1 i) l hl).symm
    rw [dif_neg hl]
    refine congrArg (m ((c : Thread nD τ).loc main_arg4)) ?_
    unfold pos1 angle
    blk_ext
theorem s2_1 (i : Fin 8192) (l : Fin 128) : (V1 m ρ c main_v26 : FVec Ideal S8192x128 .f32) (ix2 i l) = (argsOf m c).ss (pos2 i) l := by
  unfold V1 W1
  after_results
  pointwise []
  by_cases hl : l.val < 64
  · refine Eq.trans ?_ (Args.ss_lo (argsOf m c) (pos2 i) l hl).symm
    rw [dif_pos hl]
    refine congrArg (fun x : EReal => -x) (congrArg (m ((c : Thread nD τ).loc main_arg4)) ?_)
    unfold pos2 angle
    blk_ext
  · refine Eq.trans ?_ (Args.ss_hi (argsOf m c) (pos2 i) l hl).symm
    rw [dif_neg hl]
    refine congrArg (m ((c : Thread nD τ).loc main_arg4)) ?_
    unfold pos2 angle
    blk_ext

end Cert.Kernel4Ideal.Proj

end
-- ==== Proof.ProjRun.lean ====
module

public import proofs.«01_k».proof.Proof.ProjEntry

/-! The twelve results of the projections, from the arguments: no call writes an array another call reads. -/

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Idealize.ShloMosaic.Pipeline (Dat)
open Cert.Kernel2Ideal.Ffn (gram)

variable (m : (ℓ : Loc nD τ sig) → Buf (Elt Ideal) ℓ) (ρ : Dev nD → PrngReg) (c : Dev nD)

/-- What a call and those after it write. -/
abbrev outs12 : List (Ref sig .tc) := []
abbrev outs11 : List (Ref sig .tc) := main_v41 :: outs12
abbrev outs10 : List (Ref sig .tc) := main_v40 :: outs11
abbrev outs9 : List (Ref sig .tc) := main_v39 :: outs10
abbrev outs8 : List (Ref sig .tc) := main_v38 :: outs9
abbrev outs7 : List (Ref sig .tc) := main_v37 :: outs8
abbrev outs6 : List (Ref sig .tc) := main_v36 :: outs7
abbrev outs5 : List (Ref sig .tc) := main_v35 :: outs6
abbrev outs4 : List (Ref sig .tc) := main_v34 :: outs5
abbrev outs3 : List (Ref sig .tc) := main_v33 :: outs4
abbrev outs2 : List (Ref sig .tc) := main_v32 :: outs3
abbrev outs1 : List (Ref sig .tc) := main_v31 :: outs2
abbrev outs0 : List (Ref sig .tc) := main_v30 :: outs1

/-! What a call leaves alone -/

theorem step0 (b : Ref sig .tc) (h : b ∉ outs0) : V2 m ρ c b = V1 m ρ c b :=
  W2_of m ρ c b fun w e => (by decide +kernel : ∀ w : Fin cfg0.W, Pipeline.arrRef spec0 w ∉ outs0 → (cfg0.win w).isOut = false) w (e ▸ h)
theorem step1 (b : Ref sig .tc) (h : b ∉ outs1) : V3 m ρ c b = V2 m ρ c b :=
  W3_of m ρ c b fun w e => (by decide +kernel : ∀ w : Fin cfg1.W, Pipeline.arrRef spec1 w ∉ outs1 → (cfg1.win w).isOut = false) w (e ▸ h)
theorem step2 (b : Ref sig .tc) (h : b ∉ outs2) : V4 m ρ c b = V3 m ρ c b :=
  W4_of m ρ c b fun w e => (by decide +kernel : ∀ w : Fin cfg2.W, Pipeline.arrRef spec2 w ∉ outs2 → (cfg2.win w).isOut = false) w (e ▸ h)
theorem step3 (b : Ref sig .tc) (h : b ∉ outs3) : V5 m ρ c b = V4 m ρ c b :=
  W5_of m ρ c b fun w e => (by decide +kernel : ∀ w : Fin cfg3.W, Pipeline.arrRef spec3 w ∉ outs3 → (cfg3.win w).isOut = false) w (e ▸ h)
theorem step4 (b : Ref sig .tc) (h : b ∉ outs4) : V6 m ρ c b = V5 m ρ c b :=
  W6_of m ρ c b fun w e => (by decide +kernel : ∀ w : Fin cfg4.W, Pipeline.arrRef spec4 w ∉ outs4 → (cfg4.win w).isOut = false) w (e ▸ h)
theorem step5 (b : Ref sig .tc) (h : b ∉ outs5) : V7 m ρ c b = V6 m ρ c b :=
  W7_of m ρ c b fun w e => (by decide +kernel : ∀ w : Fin cfg5.W, Pipeline.arrRef spec5 w ∉ outs5 → (cfg5.win w).isOut = false) w (e ▸ h)
theorem step6 (b : Ref sig .tc) (h : b ∉ outs6) : V8 m ρ c b = V7 m ρ c b :=
  W8_of m ρ c b fun w e => (by decide +kernel : ∀ w : Fin cfg6.W, Pipeline.arrRef spec6 w ∉ outs6 → (cfg6.win w).isOut = false) w (e ▸ h)
theorem step7 (b : Ref sig .tc) (h : b ∉ outs7) : V9 m ρ c b = V8 m ρ c b :=
  W9_of m ρ c b fun w e => (by decide +kernel : ∀ w : Fin cfg7.W, Pipeline.arrRef spec7 w ∉ outs7 → (cfg7.win w).isOut = false) w (e ▸ h)
theorem step8 (b : Ref sig .tc) (h : b ∉ outs8) : V10 m ρ c b = V9 m ρ c b :=
  W10_of m ρ c b fun w e => (by decide +kernel : ∀ w : Fin cfg8.W, Pipeline.arrRef spec8 w ∉ outs8 → (cfg8.win w).isOut = false) w (e ▸ h)
theorem step9 (b : Ref sig .tc) (h : b ∉ outs9) : V11 m ρ c b = V10 m ρ c b :=
  W11_of m ρ c b fun w e => (by decide +kernel : ∀ w : Fin cfg9.W, Pipeline.arrRef spec9 w ∉ outs9 → (cfg9.win w).isOut = false) w (e ▸ h)
theorem step10 (b : Ref sig .tc) (h : b ∉ outs10) : V12 m ρ c b = V11 m ρ c b :=
  W12_of m ρ c b fun w e => (by decide +kernel : ∀ w : Fin cfg10.W, Pipeline.arrRef spec10 w ∉ outs10 → (cfg10.win w).isOut = false) w (e ▸ h)
theorem step11 (b : Ref sig .tc) (h : b ∉ outs11) : V13 m ρ c b = V12 m ρ c b :=
  W13_of m ρ c b fun w e => (by decide +kernel : ∀ w : Fin cfg11.W, Pipeline.arrRef spec11 w ∉ outs11 → (cfg11.win w).isOut = false) w (e ▸ h)

/-! What the calls before the one leave alone -/

theorem keep1 (b : Ref sig .tc) (_ : b ∉ outs0) : V1 m ρ c b = V1 m ρ c b := rfl
theorem keep2 (b : Ref sig .tc) (h : b ∉ outs0) : V2 m ρ c b = V1 m ρ c b :=
  (step0 m ρ c b fun k => h ((by decide : outs0 ⊆ outs0) k)).trans (keep1 m ρ c b h)
theorem keep3 (b : Ref sig .tc) (h : b ∉ outs0) : V3 m ρ c b = V1 m ρ c b :=
  (step1 m ρ c b fun k => h ((by decide : outs1 ⊆ outs0) k)).trans (keep2 m ρ c b h)
theorem keep4 (b : Ref sig .tc) (h : b ∉ outs0) : V4 m ρ c b = V1 m ρ c b :=
  (step2 m ρ c b fun k => h ((by decide : outs2 ⊆ outs0) k)).trans (keep3 m ρ c b h)
theorem keep5 (b : Ref sig .tc) (h : b ∉ outs0) : V5 m ρ c b = V1 m ρ c b :=
  (step3 m ρ c b fun k => h ((by decide : outs3 ⊆ outs0) k)).trans (keep4 m ρ c b h)
theorem keep6 (b : Ref sig .tc) (h : b ∉ outs0) : V6 m ρ c b = V1 m ρ c b :=
  (step4 m ρ c b fun k => h ((by decide : outs4 ⊆ outs0) k)).trans (keep5 m ρ c b h)
theorem keep7 (b : Ref sig .tc) (h : b ∉ outs0) : V7 m ρ c b = V1 m ρ c b :=
  (step5 m ρ c b fun k => h ((by decide : outs5 ⊆ outs0) k)).trans (keep6 m ρ c b h)
theorem keep8 (b : Ref sig .tc) (h : b ∉ outs0) : V8 m ρ c b = V1 m ρ c b :=
  (step6 m ρ c b fun k => h ((by decide : outs6 ⊆ outs0) k)).trans (keep7 m ρ c b h)
theorem keep9 (b : Ref sig .tc) (h : b ∉ outs0) : V9 m ρ c b = V1 m ρ c b :=
  (step7 m ρ c b fun k => h ((by decide : outs7 ⊆ outs0) k)).trans (keep8 m ρ c b h)
theorem keep10 (b : Ref sig .tc) (h : b ∉ outs0) : V10 m ρ c b = V1 m ρ c b :=
  (step8 m ρ c b fun k => h ((by decide : outs8 ⊆ outs0) k)).trans (keep9 m ρ c b h)
theorem keep11 (b : Ref sig .tc) (h : b ∉ outs0) : V11 m ρ c b = V1 m ρ c b :=
  (step9 m ρ c b fun k => h ((by decide : outs9 ⊆ outs0) k)).trans (keep10 m ρ c b h)
theorem keep12 (b : Ref sig .tc) (h : b ∉ outs0) : V12 m ρ c b = V1 m ρ c b :=
  (step10 m ρ c b fun k => h ((by decide : outs10 ⊆ outs0) k)).trans (keep11 m ρ c b h)

/-! What the calls after the one leave alone -/

theorem last13 (b : Ref sig .tc) (_ : b ∉ outs12) : V13 m ρ c b = V13 m ρ c b := rfl
theorem last12 (b : Ref sig .tc) (h : b ∉ outs11) : V13 m ρ c b = V12 m ρ c b :=
  (last13 m ρ c b fun k => h (List.mem_cons_of_mem _ k)).trans (step11 m ρ c b h)
theorem last11 (b : Ref sig .tc) (h : b ∉ outs10) : V13 m ρ c b = V11 m ρ c b :=
  (last12 m ρ c b fun k => h (List.mem_cons_of_mem _ k)).trans (step10 m ρ c b h)
theorem last10 (b : Ref sig .tc) (h : b ∉ outs9) : V13 m ρ c b = V10 m ρ c b :=
  (last11 m ρ c b fun k => h (List.mem_cons_of_mem _ k)).trans (step9 m ρ c b h)
theorem last9 (b : Ref sig .tc) (h : b ∉ outs8) : V13 m ρ c b = V9 m ρ c b :=
  (last10 m ρ c b fun k => h (List.mem_cons_of_mem _ k)).trans (step8 m ρ c b h)
theorem last8 (b : Ref sig .tc) (h : b ∉ outs7) : V13 m ρ c b = V8 m ρ c b :=
  (last9 m ρ c b fun k => h (List.mem_cons_of_mem _ k)).trans (step7 m ρ c b h)
theorem last7 (b : Ref sig .tc) (h : b ∉ outs6) : V13 m ρ c b = V7 m ρ c b :=
  (last8 m ρ c b fun k => h (List.mem_cons_of_mem _ k)).trans (step6 m ρ c b h)
theorem last6 (b : Ref sig .tc) (h : b ∉ outs5) : V13 m ρ c b = V6 m ρ c b :=
  (last7 m ρ c b fun k => h (List.mem_cons_of_mem _ k)).trans (step5 m ρ c b h)
theorem last5 (b : Ref sig .tc) (h : b ∉ outs4) : V13 m ρ c b = V5 m ρ c b :=
  (last6 m ρ c b fun k => h (List.mem_cons_of_mem _ k)).trans (step4 m ρ c b h)
theorem last4 (b : Ref sig .tc) (h : b ∉ outs3) : V13 m ρ c b = V4 m ρ c b :=
  (last5 m ρ c b fun k => h (List.mem_cons_of_mem _ k)).trans (step3 m ρ c b h)
theorem last3 (b : Ref sig .tc) (h : b ∉ outs2) : V13 m ρ c b = V3 m ρ c b :=
  (last4 m ρ c b fun k => h (List.mem_cons_of_mem _ k)).trans (step2 m ρ c b h)
theorem last2 (b : Ref sig .tc) (h : b ∉ outs1) : V13 m ρ c b = V2 m ρ c b :=
  (last3 m ρ c b fun k => h (List.mem_cons_of_mem _ k)).trans (step1 m ρ c b h)

/-! The arrays, as each call finds them -/

theorem U0_1 : U0 (V1 m ρ) c = fun i => (argsOf m c).u (pos0 i) :=
  funext fun a => funext fun b => (congrFun (keep1 m ρ c main_v3 (by decide)) (ix2 a b)).trans (u0_1 m ρ c a b)
theorem Wt_1 : Wt (V1 m ρ) c = (argsOf m c).rowsW :=
  funext fun a => funext fun b => (congrFun (keep1 m ρ c main_v1 (by decide)) (ix2 a b)).trans (w_1 m ρ c a b)
theorem C0_1 : C0 (V1 m ρ) c = fun i => (argsOf m c).cc (pos0 i) :=
  funext fun a => funext fun b => (congrFun (keep1 m ρ c main_v6 (by decide)) (ix2 a b)).trans (c0_1 m ρ c a b)
theorem S0_1 : S0 (V1 m ρ) c = fun i => (argsOf m c).ss (pos0 i) :=
  funext fun a => funext fun b => (congrFun (keep1 m ρ c main_v8 (by decide)) (ix2 a b)).trans (s0_1 m ρ c a b)
theorem D0_7 : D0 (V7 m ρ) c = (argsOf m c).d0 :=
  funext fun a => funext fun b => (congrFun (keep7 m ρ c main_v27 (by decide)) (ix2 a b)).trans (d0_1 m ρ c a b)
theorem U0_7 : U0 (V7 m ρ) c = fun i => (argsOf m c).u (pos0 i) :=
  funext fun a => funext fun b => (congrFun (keep7 m ρ c main_v3 (by decide)) (ix2 a b)).trans (u0_1 m ρ c a b)
theorem D0_10 : D0 (V10 m ρ) c = (argsOf m c).d0 :=
  funext fun a => funext fun b => (congrFun (keep10 m ρ c main_v27 (by decide)) (ix2 a b)).trans (d0_1 m ρ c a b)
theorem Wt_10 : Wt (V10 m ρ) c = (argsOf m c).rowsW :=
  funext fun a => funext fun b => (congrFun (keep10 m ρ c main_v1 (by decide)) (ix2 a b)).trans (w_1 m ρ c a b)
theorem U1_2 : U1 (V2 m ρ) c = fun i => (argsOf m c).u (pos1 i) :=
  funext fun a => funext fun b => (congrFun (keep2 m ρ c main_v11 (by decide)) (ix2 a b)).trans (u1_1 m ρ c a b)
theorem Wt_2 : Wt (V2 m ρ) c = (argsOf m c).rowsW :=
  funext fun a => funext fun b => (congrFun (keep2 m ρ c main_v1 (by decide)) (ix2 a b)).trans (w_1 m ρ c a b)
theorem C1_2 : C1 (V2 m ρ) c = fun i => (argsOf m c).cc (pos1 i) :=
  funext fun a => funext fun b => (congrFun (keep2 m ρ c main_v17 (by decide)) (ix2 a b)).trans (c1_1 m ρ c a b)
theorem S1_2 : S1 (V2 m ρ) c = fun i => (argsOf m c).ss (pos1 i) :=
  funext fun a => funext fun b => (congrFun (keep2 m ρ c main_v20 (by decide)) (ix2 a b)).trans (s1_1 m ρ c a b)
theorem D1_8 : D1 (V8 m ρ) c = (argsOf m c).d1 :=
  funext fun a => funext fun b => (congrFun (keep8 m ρ c main_v28 (by decide)) (ix2 a b)).trans (d1_1 m ρ c a b)
theorem U1_8 : U1 (V8 m ρ) c = fun i => (argsOf m c).u (pos1 i) :=
  funext fun a => funext fun b => (congrFun (keep8 m ρ c main_v11 (by decide)) (ix2 a b)).trans (u1_1 m ρ c a b)
theorem D1_11 : D1 (V11 m ρ) c = (argsOf m c).d1 :=
  funext fun a => funext fun b => (congrFun (keep11 m ρ c main_v28 (by decide)) (ix2 a b)).trans (d1_1 m ρ c a b)
theorem Wt_11 : Wt (V11 m ρ) c = (argsOf m c).rowsW :=
  funext fun a => funext fun b => (congrFun (keep11 m ρ c main_v1 (by decide)) (ix2 a b)).trans (w_1 m ρ c a b)
theorem U2_3 : U2 (V3 m ρ) c = fun i => (argsOf m c).u (pos2 i) :=
  funext fun a => funext fun b => (congrFun (keep3 m ρ c main_v14 (by decide)) (ix2 a b)).trans (u2_1 m ρ c a b)
theorem Wt_3 : Wt (V3 m ρ) c = (argsOf m c).rowsW :=
  funext fun a => funext fun b => (congrFun (keep3 m ρ c main_v1 (by decide)) (ix2 a b)).trans (w_1 m ρ c a b)
theorem C2_3 : C2 (V3 m ρ) c = fun i => (argsOf m c).cc (pos2 i) :=
  funext fun a => funext fun b => (congrFun (keep3 m ρ c main_v23 (by decide)) (ix2 a b)).trans (c2_1 m ρ c a b)
theorem S2_3 : S2 (V3 m ρ) c = fun i => (argsOf m c).ss (pos2 i) :=
  funext fun a => funext fun b => (congrFun (keep3 m ρ c main_v26 (by decide)) (ix2 a b)).trans (s2_1 m ρ c a b)
theorem D2_9 : D2 (V9 m ρ) c = (argsOf m c).d2 :=
  funext fun a => funext fun b => (congrFun (keep9 m ρ c main_v29 (by decide)) (ix2 a b)).trans (d2_1 m ρ c a b)
theorem U2_9 : U2 (V9 m ρ) c = fun i => (argsOf m c).u (pos2 i) :=
  funext fun a => funext fun b => (congrFun (keep9 m ρ c main_v14 (by decide)) (ix2 a b)).trans (u2_1 m ρ c a b)
theorem D2_12 : D2 (V12 m ρ) c = (argsOf m c).d2 :=
  funext fun a => funext fun b => (congrFun (keep12 m ρ c main_v29 (by decide)) (ix2 a b)).trans (d2_1 m ρ c a b)
theorem Wt_12 : Wt (V12 m ρ) c = (argsOf m c).rowsW :=
  funext fun a => funext fun b => (congrFun (keep12 m ρ c main_v1 (by decide)) (ix2 a b)).trans (w_1 m ρ c a b)
theorem O0_4 : O0 (V4 m ρ) c = (argsOf m c).o :=
  funext fun a => funext fun b => (congrFun (keep4 m ρ c main_v4 (by decide)) (ix2 a b)).trans (o_1 m ρ c a b)
theorem Wo_4 : Wo (V4 m ρ) c = (argsOf m c).wo :=
  funext fun a => funext fun b => (congrFun (keep4 m ρ c main_v2 (by decide)) (ix2 a b)).trans (wo_1 m ρ c a b)
theorem H0_4 : H0 (V4 m ρ) c = (argsOf m c).h := funext fun a => funext fun b => congrFun (W4_args m ρ c main_arg9 (by decide)) (ix2 a b)
theorem E0_5 : E0 (V5 m ρ) c = (argsOf m c).e :=
  funext fun a => funext fun b => (congrFun (keep5 m ρ c main_v5 (by decide)) (ix2 a b)).trans (e_1 m ρ c a b)
theorem Wo_5 : Wo (V5 m ρ) c = (argsOf m c).wo :=
  funext fun a => funext fun b => (congrFun (keep5 m ρ c main_v2 (by decide)) (ix2 a b)).trans (wo_1 m ρ c a b)
theorem O0_6 : O0 (V6 m ρ) c = (argsOf m c).o :=
  funext fun a => funext fun b => (congrFun (keep6 m ρ c main_v4 (by decide)) (ix2 a b)).trans (o_1 m ρ c a b)
theorem E0_6 : E0 (V6 m ρ) c = (argsOf m c).e :=
  funext fun a => funext fun b => (congrFun (keep6 m ρ c main_v5 (by decide)) (ix2 a b)).trans (e_1 m ρ c a b)

/-! The twelve results -/

theorem res_qkv0 (i : Fin 8192) (f : Fin 1536) : W13 m ρ c (Proc.devRef .tc main_v30) (ix2 i f) = (argsOf m c).qkv pos0 0 i f := by
  refine (congrFun (last2 m ρ c main_v30 (by decide)) (ix2 i f)).trans ((congrFun (W2_arr m ρ c 6) (ix2 i f)).trans ((arr0_6 (V1 m ρ) c i f).trans ?_))
  rw [U0_1 m ρ c, Wt_1 m ρ c, C0_1 m ρ c, S0_1 m ρ c]
  rfl
theorem res_qkv1 (i : Fin 8192) (f : Fin 1536) : W13 m ρ c (Proc.devRef .tc main_v31) (ix2 i f) = (argsOf m c).qkv pos1 1 i f := by
  refine (congrFun (last3 m ρ c main_v31 (by decide)) (ix2 i f)).trans ((congrFun (W3_arr m ρ c 6) (ix2 i f)).trans ((arr1_6 (V2 m ρ) c i f).trans ?_))
  rw [U1_2 m ρ c, Wt_2 m ρ c, C1_2 m ρ c, S1_2 m ρ c]
  rfl
theorem res_qkv2 (i : Fin 8192) (f : Fin 1536) : W13 m ρ c (Proc.devRef .tc main_v32) (ix2 i f) = (argsOf m c).qkv pos2 2 i f := by
  refine (congrFun (last4 m ρ c main_v32 (by decide)) (ix2 i f)).trans ((congrFun (W4_arr m ρ c 6) (ix2 i f)).trans ((arr2_6 (V3 m ρ) c i f).trans ?_))
  rw [U2_3 m ρ c, Wt_3 m ρ c, C2_3 m ρ c, S2_3 m ρ c]
  rfl
theorem res_out (i : Fin 8192) (k : Fin 1024) : W13 m ρ c (Proc.devRef .tc main_v33) (ix2 i k) = (argsOf m c).out i k := by
  refine (congrFun (last5 m ρ c main_v33 (by decide)) (ix2 i k)).trans ((congrFun (W5_arr m ρ c 3) (ix2 i k)).trans ((arr3_3 (V4 m ρ) c i k).trans ?_))
  rw [O0_4 m ρ c, Wo_4 m ρ c, H0_4 m ρ c]
  rfl
theorem res_dO (i : Fin 8192) (f : Fin 1536) : W13 m ρ c (Proc.devRef .tc main_v34) (ix2 i f) = (argsOf m c).dO i f := by
  refine (congrFun (last6 m ρ c main_v34 (by decide)) (ix2 i f)).trans ((congrFun (W6_arr m ρ c 2) (ix2 i f)).trans ((arr4_2 (V5 m ρ) c i f).trans ?_))
  rw [E0_5 m ρ c, Wo_5 m ρ c]
  rfl
theorem res_dOut (f : Fin 1536) (k : Fin 1024) : W13 m ρ c (Proc.devRef .tc main_v35) (ix2 f k) = (argsOf m c).dOut f k := by
  refine (congrFun (last7 m ρ c main_v35 (by decide)) (ix2 f k)).trans ((congrFun (W7_arr m ρ c 2) (ix2 f k)).trans ((arr5_2 (V6 m ρ) c f k).trans ?_))
  rw [O0_6 m ρ c, E0_6 m ρ c]
  rfl
theorem res_dW0 (f : Fin 1536) (k : Fin 1024) : W13 m ρ c (Proc.devRef .tc main_v36) (ix2 f k) = (argsOf m c).dW (argsOf m c).d0 pos0 f k := by
  refine (congrFun (last8 m ρ c main_v36 (by decide)) (ix2 f k)).trans ((congrFun (W8_arr m ρ c 2) (ix2 f k)).trans ((arr6_2 (V7 m ρ) c f k).trans ?_))
  rw [D0_7 m ρ c, U0_7 m ρ c]
  rfl
theorem res_dW1 (f : Fin 1536) (k : Fin 1024) : W13 m ρ c (Proc.devRef .tc main_v37) (ix2 f k) = (argsOf m c).dW (argsOf m c).d1 pos1 f k := by
  refine (congrFun (last9 m ρ c main_v37 (by decide)) (ix2 f k)).trans ((congrFun (W9_arr m ρ c 2) (ix2 f k)).trans ((arr7_2 (V8 m ρ) c f k).trans ?_))
  rw [D1_8 m ρ c, U1_8 m ρ c]
  rfl
theorem res_dW2 (f : Fin 1536) (k : Fin 1024) : W13 m ρ c (Proc.devRef .tc main_v38) (ix2 f k) = (argsOf m c).dW (argsOf m c).d2 pos2 f k := by
  refine (congrFun (last10 m ρ c main_v38 (by decide)) (ix2 f k)).trans ((congrFun (W10_arr m ρ c 2) (ix2 f k)).trans ((arr8_2 (V9 m ρ) c f k).trans ?_))
  rw [D2_9 m ρ c, U2_9 m ρ c]
  rfl
theorem res_dU0 (i : Fin 8192) (k : Fin 1024) : W13 m ρ c (Proc.devRef .tc main_v39) (ix2 i k) = (argsOf m c).dU (argsOf m c).d0 0 i k := by
  refine (congrFun (last11 m ρ c main_v39 (by decide)) (ix2 i k)).trans ((congrFun (W11_arr m ρ c 4) (ix2 i k)).trans ((arr9_4 (V10 m ρ) c i k).trans ?_))
  rw [D0_10 m ρ c, Wt_10 m ρ c]
  rfl
theorem res_dU1 (i : Fin 8192) (k : Fin 1024) : W13 m ρ c (Proc.devRef .tc main_v40) (ix2 i k) = (argsOf m c).dU (argsOf m c).d1 1 i k := by
  refine (congrFun (last12 m ρ c main_v40 (by decide)) (ix2 i k)).trans ((congrFun (W12_arr m ρ c 4) (ix2 i k)).trans ((arr10_4 (V11 m ρ) c i k).trans ?_))
  rw [D1_11 m ρ c, Wt_11 m ρ c]
  rfl
theorem res_dU2 (i : Fin 8192) (k : Fin 1024) : W13 m ρ c (Proc.devRef .tc main_v41) (ix2 i k) = (argsOf m c).dU (argsOf m c).d2 2 i k := by
  refine (congrFun (last13 m ρ c main_v41 (by decide)) (ix2 i k)).trans ((congrFun (W13_arr m ρ c 4) (ix2 i k)).trans ((arr11_4 (V12 m ρ) c i k).trans ?_))
  rw [D2_12 m ρ c, Wt_12 m ρ c]
  rfl

end Cert.Kernel4Ideal.Proj

end
-- ==== Proof.ProjRefRow.lean ====
module

public import proofs.«01_k».proof.Proof.Gen.Reference4Ideal.Read
public import proofs.«01_k».proof.Proof.ProjSpec
public import Idealize.ShloMosaic.Lib.Pipeline.ValueKit.Point
public import Idealize.ShloMosaic.Lib.Pipeline.ReadBack
public import Idealize.ShloMosaic.Lib.Pipeline.Value

/-! The reference's projections forward, read at an index: the heads of a part, their rotation, a group's four heads, and its three
    parts side by side. -/

@[expose] public section

set_option maxRecDepth 16384

noncomputable section

namespace Cert.Reference4Ideal.ProjR

open Cert.Reference4Ideal Cert.Reference4Ideal.Gen Cert.Reference4Ideal.Read Idealize.ShloMosaic Idealize.ShloMosaic.TcCoe Idealize.SL.Sem
open Cert.Kernel4Ideal.Proj

/-- The heads of one part of the product. -/
def headsV (Y : FVec Ideal S8192x4608 .f32) (o : ℕ) (hs : S8192x3x3x4x128.Slices ![0, o, 0, 0, 0] S8192x1x3x4x128) : FVec Ideal S8192x3x4x128 .f32 :=
  shapeCast _ (extractStridedSlice S8192x1x3x4x128 ![0, o, 0, 0, 0] (shapeCast _ Y shapeCasts_S8192x4608_S8192x3x3x4x128) hs) shapeCasts_S8192x1x3x4x128_S8192x3x4x128

theorem headsV_at (Y : FVec Ideal S8192x4608 .f32) (j : Fin 3) (hs : S8192x3x3x4x128.Slices ![0, j.val, 0, 0, 0] S8192x1x3x4x128)
    (p : Fin 8192) (g : Fin 3) (h : Fin 4) (e : Fin 128) :
    headsV Y j.val hs (ix4 p g h e) = Y (ix2 p (partRow j g ⟨h.val * 128 + e.val, by omega⟩)) := by
  unfold headsV
  refine (shapeCast_apply _ shapeCasts_S8192x1x3x4x128_S8192x3x4x128 _ (ix5 p (0 : Fin 1) g h e) ?_).trans ?_
  · rewrite [Shape.rowMajor_val_five, Shape.rowMajor_val_four]
    show (((p.val * 1 + 0) * 3 + g.val) * 4 + h.val) * 128 + e.val = ((p.val * 3 + g.val) * 4 + h.val) * 128 + e.val
    omega
  refine (extractStridedSlice_apply ![0, j.val, 0, 0, 0] _ hs _ (ix5 p j g h e) fun a => ?_).trans ?_
  · match a with
    | ⟨0, _⟩ => exact (Nat.zero_add _).symm
    | ⟨1, _⟩ => rfl
    | ⟨2, _⟩ => exact (Nat.zero_add _).symm
    | ⟨3, _⟩ => exact (Nat.zero_add _).symm
    | ⟨4, _⟩ => exact (Nat.zero_add _).symm
  refine shapeCast_apply Y shapeCasts_S8192x4608_S8192x3x3x4x128 _ _ ?_
  rewrite [Shape.rowMajor_val_two, Shape.rowMajor_val_five]
  show p.val * 4608 + ((3 * j.val + g.val) * 512 + (h.val * 128 + e.val)) = (((p.val * 3 + j.val) * 3 + g.val) * 4 + h.val) * 128 + e.val
  omega

/-- A table over every head. -/
def wideV (C : FVec Ideal S8192x64 .f32) : FVec Ideal S8192x3x4x64 .f32 :=
  broadcastInDim S8192x3x4x64 ![0, 1, 2, 3] bcast_S8192x1x1x64_S8192x3x4x64_0_1_2_3 (broadcastInDim S8192x1x1x64 ![0, 3] bcast_S8192x64_S8192x1x1x64_0_3 C)

theorem wideV_at (C : FVec Ideal S8192x64 .f32) (p : Fin 8192) (g : Fin 3) (h : Fin 4) (l : Fin 64) : wideV C (ix4 p g h l) = C (ix2 p l) :=
  (val_main_v8_apply (F := Ideal) C _).trans ((val_main_v4_apply (F := Ideal) C _).trans (congrArg C (funext fun a => match a with
    | ⟨0, _⟩ => rfl
    | ⟨1, _⟩ => rfl)))

/-- The halves of every head. -/
def loV (A : FVec Ideal S8192x3x4x128 .f32) : FVec Ideal S8192x3x4x64 .f32 := extractStridedSlice S8192x3x4x64 ![0, 0, 0, 0] A slices_S8192x3x4x128_S8192x3x4x64_0_0_0_0
def hiV (A : FVec Ideal S8192x3x4x128 .f32) : FVec Ideal S8192x3x4x64 .f32 := extractStridedSlice S8192x3x4x64 ![0, 0, 0, 64] A slices_S8192x3x4x128_S8192x3x4x64_0_0_0_64

theorem loV_at (A : FVec Ideal S8192x3x4x128 .f32) (p : Fin 8192) (g : Fin 3) (h : Fin 4) (l : Fin 64) : loV A (ix4 p g h l) = A (ix4 p g h ⟨l.val, by omega⟩) :=
  extractStridedSlice_apply ![0, 0, 0, 0] A slices_S8192x3x4x128_S8192x3x4x64_0_0_0_0 _ _ fun a => match a with
    | ⟨0, _⟩ => (Nat.zero_add _).symm
    | ⟨1, _⟩ => (Nat.zero_add _).symm
    | ⟨2, _⟩ => (Nat.zero_add _).symm
    | ⟨3, _⟩ => (Nat.zero_add _).symm

theorem hiV_at (A : FVec Ideal S8192x3x4x128 .f32) (p : Fin 8192) (g : Fin 3) (h : Fin 4) (l : Fin 64) : hiV A (ix4 p g h l) = A (ix4 p g h ⟨64 + l.val, by omega⟩) :=
  extractStridedSlice_apply ![0, 0, 0, 64] A slices_S8192x3x4x128_S8192x3x4x64_0_0_0_64 _ _ fun a => match a with
    | ⟨0, _⟩ => (Nat.zero_add _).symm
    | ⟨1, _⟩ => (Nat.zero_add _).symm
    | ⟨2, _⟩ => (Nat.zero_add _).symm
    | ⟨3, _⟩ => rfl

/-- The rotation of every head. -/
def rotV (A : FVec Ideal S8192x3x4x128 .f32) (C S : FVec Ideal S8192x64 .f32) : FVec Ideal S8192x3x4x128 .f32 :=
  concatenate S8192x3x4x128 3 [⟨S8192x3x4x64, subf (mulf (loV A) (wideV C)) (mulf (hiV A) (wideV S))⟩,
    ⟨S8192x3x4x64, addf (mulf (hiV A) (wideV C)) (mulf (loV A) (wideV S))⟩] concatenates_S8192x3x4x64_S8192x3x4x64_S8192x3x4x128_d3

theorem rotV_at (A : FVec Ideal S8192x3x4x128 .f32) (C S : FVec Ideal S8192x64 .f32) (p : Fin 8192) (g : Fin 3) (h : Fin 4) (e : Fin 128) :
    rotV A C S (ix4 p g h e) = A (ix4 p g h e) * C (ix2 p (angle e))
      + A (ix4 p g h ⟨(e.val + 64) % 128, Nat.mod_lt _ (by omega)⟩) * (if e.val < 64 then - S (ix2 p (angle e)) else S (ix2 p (angle e))) := by
  unfold rotV
  by_cases he : e.val < 64
  · have ea : angle e = ⟨e.val, he⟩ := Fin.ext (Nat.mod_eq_of_lt he)
    have em : (⟨(e.val + 64) % 128, Nat.mod_lt _ (by omega)⟩ : Fin 128) = ⟨64 + e.val, by omega⟩ := Fin.ext (show (e.val + 64) % 128 = 64 + e.val by omega)
    rw [if_pos he, ea, em, mul_neg, ← sub_eq_add_neg]
    refine (concatenate_pair_apply_left (t := S8192x3x4x128) (s₁ := S8192x3x4x64) (s₂ := S8192x3x4x64) 3 _ _
      concatenates_S8192x3x4x64_S8192x3x4x64_S8192x3x4x128_d3 (ix4 p g h e) rfl (ix4 p g h (⟨e.val, he⟩ : Fin 64)) (fun b => match b with
        | ⟨0, _⟩ => rfl
        | ⟨1, _⟩ => rfl
        | ⟨2, _⟩ => rfl
        | ⟨3, _⟩ => rfl)).trans ?_
    exact congrArg₂ (fun a b : EReal => a - b) (congrArg₂ (fun a b : EReal => a * b) (loV_at A p g h ⟨e.val, he⟩) (wideV_at C p g h _))
      (congrArg₂ (fun a b : EReal => a * b) (hiV_at A p g h ⟨e.val, he⟩) (wideV_at S p g h _))
  · have hl : e.val - 64 < 64 := by omega
    have ea : angle e = ⟨e.val - 64, hl⟩ := Fin.ext (show e.val % 64 = e.val - 64 by omega)
    have em : (⟨(e.val + 64) % 128, Nat.mod_lt _ (by omega)⟩ : Fin 128) = ⟨e.val - 64, by omega⟩ := Fin.ext (show (e.val + 64) % 128 = e.val - 64 by omega)
    rw [if_neg he, ea, em]
    refine (concatenate_pair_apply_right (t := S8192x3x4x128) (s₁ := S8192x3x4x64) (s₂ := S8192x3x4x64) 3 _ _
      concatenates_S8192x3x4x64_S8192x3x4x64_S8192x3x4x128_d3 (ix4 p g h e) rfl rfl (ix4 p g h (⟨e.val - 64, hl⟩ : Fin 64)) (fun b hb => match b with
        | ⟨0, _⟩ => rfl
        | ⟨1, _⟩ => rfl
        | ⟨2, _⟩ => rfl
        | ⟨3, _⟩ => absurd rfl hb)
      (show e.val - 64 + 64 = e.val by omega)).trans ?_
    have e1 : (⟨64 + (e.val - 64), by omega⟩ : Fin 128) = e := Fin.ext (show 64 + (e.val - 64) = e.val by omega)
    exact congrArg₂ (fun a b : EReal => a + b)
      (congrArg₂ (fun a b : EReal => a * b) ((hiV_at A p g h ⟨e.val - 64, hl⟩).trans (congrArg (fun a => A (ix4 p g h a)) e1)) (wideV_at C p g h _))
      (congrArg₂ (fun a b : EReal => a * b) (loV_at A p g h ⟨e.val - 64, hl⟩) (wideV_at S p g h _))

/-- A group's four heads side by side. -/
def fourV (A : FVec Ideal S8192x3x4x128 .f32) (o : ℕ) (hs : S8192x3x4x128.Slices ![0, o, 0, 0] S8192x1x4x128) : FVec Ideal S8192x512 .f32 :=
  shapeCast _ (shapeCast S8192x4x128 (extractStridedSlice S8192x1x4x128 ![0, o, 0, 0] A hs) shapeCasts_S8192x1x4x128_S8192x4x128) shapeCasts_S8192x4x128_S8192x512

theorem fourV_at (A : FVec Ideal S8192x3x4x128 .f32) (g : Fin 3) (hs : S8192x3x4x128.Slices ![0, g.val, 0, 0] S8192x1x4x128) (p : Fin 8192) (f : Fin 512) :
    fourV A g.val hs (ix2 p f) = A (ix4 p g ⟨f.val / 128, by omega⟩ ⟨f.val % 128, by omega⟩) := by
  unfold fourV
  refine (shapeCast_apply _ shapeCasts_S8192x4x128_S8192x512 _ (ix3 p (⟨f.val / 128, by omega⟩ : Fin 4) (⟨f.val % 128, by omega⟩ : Fin 128)) ?_).trans ?_
  · rewrite [Shape.rowMajor_val_three, Shape.rowMajor_val_two]
    show (p.val * 4 + f.val / 128) * 128 + f.val % 128 = p.val * 512 + f.val
    omega
  refine (shapeCast_apply _ shapeCasts_S8192x1x4x128_S8192x4x128 _ (ix4 p (0 : Fin 1) (⟨f.val / 128, by omega⟩ : Fin 4) (⟨f.val % 128, by omega⟩ : Fin 128)) ?_).trans ?_
  · rewrite [Shape.rowMajor_val_four, Shape.rowMajor_val_three]
    show ((p.val * 1 + 0) * 4 + f.val / 128) * 128 + f.val % 128 = (p.val * 4 + f.val / 128) * 128 + f.val % 128
    omega
  exact extractStridedSlice_apply ![0, g.val, 0, 0] A hs _ _ fun a => match a with
    | ⟨0, _⟩ => (Nat.zero_add _).symm
    | ⟨1, _⟩ => rfl
    | ⟨2, _⟩ => (Nat.zero_add _).symm
    | ⟨3, _⟩ => (Nat.zero_add _).symm

/-- Three parts side by side. -/
def joinV (a b c : FVec Ideal S8192x512 .f32) : FVec Ideal S8192x1536 .f32 :=
  concatenate S8192x1536 1 [⟨S8192x512, a⟩, ⟨S8192x512, b⟩, ⟨S8192x512, c⟩] concatenates_S8192x512_S8192x512_S8192x512_S8192x1536_d1

theorem joinV_at (a b c : FVec Ideal S8192x512 .f32) (p : Fin 8192) (f : Fin 1536) :
    joinV a b c (ix2 p f) = if h : f.val < 512 then a (ix2 p ⟨f.val, h⟩)
      else if h' : f.val < 1024 then b (ix2 p ⟨f.val - 512, by omega⟩) else c (ix2 p ⟨f.val - 1024, by omega⟩) := by
  have hi : ∀ (l : Fin 512) (x : Fin S8192x512.rank), x.cast rfl ≠ (1 : Fin S8192x1536.rank) → ((ix2 p l : S8192x512.Idx) x).val = ((ix2 p f : S8192x1536.Idx) (x.cast rfl)).val :=
    fun l x hx => match x with
      | ⟨0, _⟩ => rfl
      | ⟨1, _⟩ => absurd rfl hx
  unfold joinV
  by_cases h : f.val < 512
  · rw [dif_pos h]
    exact concatenate_apply_piece (t := S8192x1536) 1 [⟨S8192x512, a⟩, ⟨S8192x512, b⟩, ⟨S8192x512, c⟩] _ (ix2 p f) 0 (show 0 < 3 by omega) S8192x512 a rfl rfl 0 rfl _ (hi ⟨f.val, h⟩) (Nat.zero_add _)
  · rw [dif_neg h]
    by_cases h' : f.val < 1024
    · rw [dif_pos h']
      exact concatenate_apply_piece (t := S8192x1536) 1 [⟨S8192x512, a⟩, ⟨S8192x512, b⟩, ⟨S8192x512, c⟩] _ (ix2 p f) 1 (show 1 < 3 by omega) S8192x512 b rfl rfl 512 rfl _ (hi ⟨f.val - 512, by omega⟩)
        (show 512 + (f.val - 512) = f.val by omega)
    · rw [dif_neg h']
      exact concatenate_apply_piece (t := S8192x1536) 1 [⟨S8192x512, a⟩, ⟨S8192x512, b⟩, ⟨S8192x512, c⟩] _ (ix2 p f) 2 (show 2 < 3 by omega) S8192x512 c rfl rfl 1024 rfl _ (hi ⟨f.val - 1024, by omega⟩)
        (show 1024 + (f.val - 1024) = f.val by omega)

/-- A part of a group, not rotated. -/
theorem plain_at (Y : FVec Ideal S8192x4608 .f32) (j g : Fin 3) (hj : S8192x3x3x4x128.Slices ![0, j.val, 0, 0, 0] S8192x1x3x4x128)
    (hg : S8192x3x4x128.Slices ![0, g.val, 0, 0] S8192x1x4x128) (p : Fin 8192) (f : Fin 512) :
    fourV (headsV Y j.val hj) g.val hg (ix2 p f) = Y (ix2 p (partRow j g f)) :=
  (fourV_at _ g hg p f).trans ((headsV_at Y j hj p g _ _).trans (congrArg (fun a => Y (ix2 p (partRow j g a))) (Fin.ext (show f.val / 128 * 128 + f.val % 128 = f.val by omega))))

/-- A part of a group, rotated. -/
theorem turned_at (Y : FVec Ideal S8192x4608 .f32) (C S : FVec Ideal S8192x64 .f32) (j g : Fin 3) (hj : S8192x3x3x4x128.Slices ![0, j.val, 0, 0, 0] S8192x1x3x4x128)
    (hg : S8192x3x4x128.Slices ![0, g.val, 0, 0] S8192x1x4x128) (p : Fin 8192) (f : Fin 512) :
    fourV (rotV (headsV Y j.val hj) C S) g.val hg (ix2 p f) = turn (fun f => Y (ix2 p (partRow j g f))) (fun l => C (ix2 p (angle l)))
      (fun l => if l.val < 64 then - S (ix2 p (angle l)) else S (ix2 p (angle l))) f := by
  refine (fourV_at _ g hg p f).trans ((rotV_at _ C S p g _ _).trans ?_)
  rw [headsV_at, headsV_at]
  unfold turn
  refine congrArg₂ (fun a b : EReal => a + b) (congrArg₂ (fun a b : EReal => a * b) (congrArg (fun a => Y (ix2 p (partRow j g a))) (Fin.ext ?_)) rfl)
    (congrArg₂ (fun a b : EReal => a * b) (congrArg (fun a => Y (ix2 p (partRow j g a))) (Fin.ext ?_)) rfl)
  · show f.val / 128 * 128 + f.val % 128 = f.val; omega
  · show f.val / 128 * 128 + (f.val % 128 + 64) % 128 = f.val / 128 * 128 + (f.val + 64) % 128; omega

/-- A group's row. -/
def rowV (Y : FVec Ideal S8192x4608 .f32) (C S : FVec Ideal S8192x64 .f32) (o : ℕ) (hg : S8192x3x4x128.Slices ![0, o, 0, 0] S8192x1x4x128) : FVec Ideal S8192x1536 .f32 :=
  joinV (fourV (rotV (headsV Y 0 slices_S8192x3x3x4x128_S8192x1x3x4x128_0_0_0_0_0) C S) o hg)
    (fourV (rotV (headsV Y 1 slices_S8192x3x3x4x128_S8192x1x3x4x128_0_1_0_0_0) C S) o hg)
    (fourV (headsV Y 2 slices_S8192x3x3x4x128_S8192x1x3x4x128_0_2_0_0_0) o hg)

theorem rowV_at (Y : FVec Ideal S8192x4608 .f32) (C S : FVec Ideal S8192x64 .f32) (g : Fin 3) (hg : S8192x3x4x128.Slices ![0, g.val, 0, 0] S8192x1x4x128)
    (p : Fin 8192) (f : Fin 1536) :
    rowV Y C S g.val hg (ix2 p f) = groupRow (fun f => Y (ix2 p (partRow 0 g f))) (fun f => Y (ix2 p (partRow 1 g f))) (fun f => Y (ix2 p (partRow 2 g f)))
      (fun l => C (ix2 p (angle l))) (fun l => if l.val < 64 then - S (ix2 p (angle l)) else S (ix2 p (angle l))) f := by
  unfold rowV groupRow
  refine (joinV_at _ _ _ p f).trans ?_
  by_cases h : f.val < 512
  · rw [dif_pos h, dif_pos h]
    exact turned_at Y C S 0 g _ hg p _
  · rw [dif_neg h, dif_neg h]
    by_cases h' : f.val < 1024
    · rw [dif_pos h', dif_pos h']
      exact turned_at Y C S 1 g _ hg p _
    · rw [dif_neg h', dif_neg h']
      exact plain_at Y 2 g _ hg p _

end Cert.Reference4Ideal.ProjR

end
-- ==== Proof.ProjRef.lean ====
module

public import proofs.«01_k».proof.Proof.ProjRefRow

/-! The reference's projections, result by result, at an index. -/

@[expose] public section

set_option maxRecDepth 16384

noncomputable section

namespace Cert.Reference4Ideal.ProjR

open Cert.Reference4Ideal Cert.Reference4Ideal.Gen Cert.Reference4Ideal.Read Idealize.ShloMosaic Idealize.ShloMosaic.TcCoe Idealize.SL.Sem
open Cert.Kernel4Ideal.Proj
open Cert.Kernel2Ideal.Ffn (gram)

/-- Rows in the order of the residue classes modulo `d`. -/
theorem classes_at {d q n : ℕ} (X : (⟨2, ![8192, n]⟩ : Shape).Idx → EReal) (h1 : (⟨2, ![8192, n]⟩ : Shape).ShapeCasts ⟨3, ![q, d, n]⟩)
    (ht : (⟨3, ![q, d, n]⟩ : Shape).Transposes [1, 0, 2] ⟨3, ![d, q, n]⟩) (h2 : (⟨3, ![d, q, n]⟩ : Shape).ShapeCasts ⟨2, ![8192, n]⟩)
    (r s : Fin 8192) (f : Fin n) (a : Fin d) (b : Fin q) (hr : a.val * q + b.val = r.val) (hs : b.val * d + a.val = s.val) :
    shapeCast ⟨2, ![8192, n]⟩ (transpose ⟨3, ![d, q, n]⟩ [1, 0, 2] (shapeCast ⟨3, ![q, d, n]⟩ X h1) ht) h2 (ix2 r f) = X (ix2 s f) := by
  refine (shapeCast_apply _ h2 _ (ix3 a b f) ?_).trans ((transpose_apply _ _ ht _ (ix3 b a f) fun x => ?_).trans (shapeCast_apply X h1 _ _ ?_))
  · rewrite [Shape.rowMajor_val_three, Shape.rowMajor_val_two]
    show (a.val * q + b.val) * n + f.val = r.val * n + f.val
    rw [hr]
  · match x with
    | ⟨0, _⟩ => rfl
    | ⟨1, _⟩ => rfl
    | ⟨2, _⟩ => rfl
  · rewrite [Shape.rowMajor_val_three, Shape.rowMajor_val_two]
    show s.val * n + f.val = (b.val * d + a.val) * n + f.val
    rw [hs]

/-- A sum over the columns of a group, part by part. -/
theorem sum_parts (t : Fin 1536 → EReal) : (∑ f : Fin 1536, t f) =
    (∑ f : Fin 512, t ⟨512 * 0 + f.val, by omega⟩) + (∑ f : Fin 512, t ⟨512 * 1 + f.val, by omega⟩) + ∑ f : Fin 512, t ⟨512 * 2 + f.val, by omega⟩ := by
  refine (Fin.sum_univ_add (a := 1024) (b := 512) t).trans (congrArg₂ (fun a b : EReal => a + b)
    ((Fin.sum_univ_add (a := 512) (b := 512) fun f => t (Fin.castAdd 512 f)).trans (congrArg₂ (fun a b : EReal => a + b) ?_ ?_)) ?_)
  · exact Finset.sum_congr rfl fun f _ => congrArg t (Fin.ext (show f.val = 512 * 0 + f.val by omega))
  · exact Finset.sum_congr rfl fun f _ => congrArg t (Fin.ext rfl)
  · exact Finset.sum_congr rfl fun f _ => congrArg t (Fin.ext rfl)

/-- A group's columns of the weight, its three parts side by side. -/
def colsV (W : FVec Ideal S1024x4608 .f32) (o : ℕ) (hs : S1024x3x3x512.Slices ![0, 0, o, 0] S1024x3x1x512) : FVec Ideal S1024x1536 .f32 :=
  shapeCast _ (shapeCast S1024x3x512 (extractStridedSlice S1024x3x1x512 ![0, 0, o, 0] (shapeCast S1024x3x3x512 W shapeCasts_S1024x4608_S1024x3x3x512) hs)
    shapeCasts_S1024x3x1x512_S1024x3x512) shapeCasts_S1024x3x512_S1024x1536

theorem colsV_at (W : FVec Ideal S1024x4608 .f32) (j g : Fin 3) (hs : S1024x3x3x512.Slices ![0, 0, g.val, 0] S1024x3x1x512) (k : Fin 1024) (f : Fin 512)
    (c : Fin 1536) (hc : c.val = 512 * j.val + f.val) :
    colsV W g.val hs (ix2 k c) = W (ix2 k (partRow j g f)) := by
  unfold colsV
  refine (shapeCast_apply _ shapeCasts_S1024x3x512_S1024x1536 _ (ix3 k j f) ?_).trans ?_
  · rewrite [Shape.rowMajor_val_three, Shape.rowMajor_val_two]
    show (k.val * 3 + j.val) * 512 + f.val = k.val * 1536 + c.val
    omega
  refine (shapeCast_apply _ shapeCasts_S1024x3x1x512_S1024x3x512 _ (ix4 k j (0 : Fin 1) f) ?_).trans ?_
  · rewrite [Shape.rowMajor_val_four, Shape.rowMajor_val_three]
    show ((k.val * 3 + j.val) * 1 + 0) * 512 + f.val = (k.val * 3 + j.val) * 512 + f.val
    omega
  refine (extractStridedSlice_apply ![0, 0, g.val, 0] _ hs _ (ix4 k j g f) fun a => ?_).trans ?_
  · match a with
    | ⟨0, _⟩ => exact (Nat.zero_add _).symm
    | ⟨1, _⟩ => exact (Nat.zero_add _).symm
    | ⟨2, _⟩ => rfl
    | ⟨3, _⟩ => exact (Nat.zero_add _).symm
  refine shapeCast_apply W shapeCasts_S1024x4608_S1024x3x3x512 _ _ ?_
  rewrite [Shape.rowMajor_val_two, Shape.rowMajor_val_four]
  show k.val * 4608 + ((3 * j.val + g.val) * 512 + f.val) = ((k.val * 3 + j.val) * 3 + g.val) * 512 + f.val
  omega

variable (x0 : FVec Ideal S8192x1024 .f32) (x1 : FVec Ideal S1024x4608 .f32) (x2 : FVec Ideal S1536x1024 .f32) (x3 x4 : FVec Ideal S8192x64 .f32)
  (x5 x6 x7 x8 : FVec Ideal S8192x1536 .f32) (x9 x10 : FVec Ideal S8192x1024 .f32)

/-- The arguments, as functions of row and column. -/
def argsR : Args where
  u i k := x0 (ix2 i k)
  w k f := x1 (ix2 k f)
  wo f k := x2 (ix2 f k)
  cs i l := x3 (ix2 i l)
  sn i l := x4 (ix2 i l)
  d0 i f := x5 (ix2 i f)
  d1 i f := x6 (ix2 i f)
  d2 i f := x7 (ix2 i f)
  o i f := x8 (ix2 i f)
  h i k := x9 (ix2 i k)
  e i k := x10 (ix2 i k)

theorem r_prod (p : Fin 8192) (f : Fin 4608) : val_main_v0 (F := Ideal) x0 x1 (ix2 p f) = ∑ k : Fin 1024, x0 (ix2 p k) * x1 (ix2 k f) := by
  refine (val_main_v0_apply _ _ _).trans (Finset.sum_congr rfl fun k _ => congrArg₂ (fun a b : EReal => a * b) (congrArg x0 ?_) (congrArg x1 ?_))
  all_goals
    funext a
    match a with
    | ⟨0, _⟩ => rfl
    | ⟨1, _⟩ => rfl

theorem r_row (g : Fin 3) (hg : S8192x3x4x128.Slices ![0, g.val, 0, 0] S8192x1x4x128) (π : Fin 8192 → Fin 8192) (i : Fin 8192) (f : Fin 1536) :
    rowV (val_main_v0 (F := Ideal) x0 x1) x3 x4 g.val hg (ix2 (π i) f) = (argsR x0 x1 x2 x3 x4 x5 x6 x7 x8 x9 x10).qkv π g i f := by
  refine (rowV_at _ x3 x4 g hg (π i) f).trans ?_
  simp only [r_prod]
  rfl

theorem r_qkv0 (i : Fin 8192) (f : Fin 1536) : val_main_v71 (F := Ideal) x0 x1 x3 x4 (ix2 i f) = (argsR x0 x1 x2 x3 x4 x5 x6 x7 x8 x9 x10).qkv pos0 0 i f :=
  (classes_at (d := 1) (q := 8192) _ shapeCasts_S8192x1536_S8192x1x1536 transposes_S8192x1x1536_S1x8192x1536_1_0_2 shapeCasts_S1x8192x1536_S8192x1536 i (pos0 i) f 0 i
    (show 0 * 8192 + i.val = i.val by omega) (show i.val * 1 + 0 = i.val by omega)).trans (r_row x0 x1 x2 x3 x4 x5 x6 x7 x8 x9 x10 0 slices_S8192x3x4x128_S8192x1x4x128_0_0_0_0 pos0 i f)

theorem r_qkv1 (i : Fin 8192) (f : Fin 1536) : val_main_v75 (F := Ideal) x0 x1 x3 x4 (ix2 i f) = (argsR x0 x1 x2 x3 x4 x5 x6 x7 x8 x9 x10).qkv pos1 1 i f :=
  (classes_at (d := 4) (q := 2048) _ shapeCasts_S8192x1536_S2048x4x1536 transposes_S2048x4x1536_S4x2048x1536_1_0_2 shapeCasts_S4x2048x1536_S8192x1536 i (pos1 i) f
    ⟨i.val / 2048, by omega⟩ ⟨i.val % 2048, by omega⟩
    (show i.val / 2048 * 2048 + i.val % 2048 = i.val by omega) (show i.val % 2048 * 4 + i.val / 2048 = 4 * (i.val % 2048) + i.val / 2048 by omega)).trans
    (r_row x0 x1 x2 x3 x4 x5 x6 x7 x8 x9 x10 1 slices_S8192x3x4x128_S8192x1x4x128_0_1_0_0 pos1 i f)

theorem r_qkv2 (i : Fin 8192) (f : Fin 1536) : val_main_v79 (F := Ideal) x0 x1 x3 x4 (ix2 i f) = (argsR x0 x1 x2 x3 x4 x5 x6 x7 x8 x9 x10).qkv pos2 2 i f :=
  (classes_at (d := 16) (q := 512) _ shapeCasts_S8192x1536_S512x16x1536 transposes_S512x16x1536_S16x512x1536_1_0_2 shapeCasts_S16x512x1536_S8192x1536 i (pos2 i) f
    ⟨i.val / 512, by omega⟩ ⟨i.val % 512, by omega⟩
    (show i.val / 512 * 512 + i.val % 512 = i.val by omega) (show i.val % 512 * 16 + i.val / 512 = 16 * (i.val % 512) + i.val / 512 by omega)).trans
    (r_row x0 x1 x2 x3 x4 x5 x6 x7 x8 x9 x10 2 slices_S8192x3x4x128_S8192x1x4x128_0_2_0_0 pos2 i f)

theorem r_out (i : Fin 8192) (k : Fin 1024) : val_main_v81 (F := Ideal) x2 x8 x9 (ix2 i k) = (argsR x0 x1 x2 x3 x4 x5 x6 x7 x8 x9 x10).out i k := by
  refine (val_main_v81_apply _ _ _ _).trans ((add_comm (G := EReal) _ _).trans (congrArg (fun a : EReal => a + x9 (ix2 i k)) ?_))
  refine (val_main_v80_apply _ _ _).trans (Finset.sum_congr rfl fun f _ => congrArg₂ (fun a b : EReal => a * b) (congrArg x8 ?_) (congrArg x2 ?_))
  all_goals
    funext a
    match a with
    | ⟨0, _⟩ => rfl
    | ⟨1, _⟩ => rfl

theorem r_dO (i : Fin 8192) (f : Fin 1536) : val_main_v84 (F := Ideal) x2 x10 (ix2 i f) = (argsR x0 x1 x2 x3 x4 x5 x6 x7 x8 x9 x10).dO i f := by
  refine (val_main_v84_apply _ _ _).trans (Finset.sum_congr rfl fun k _ => congrArg₂ (fun a b : EReal => a * b) (congrArg x10 ?_) (congrArg x2 ?_))
  all_goals
    funext a
    match a with
    | ⟨0, _⟩ => rfl
    | ⟨1, _⟩ => rfl

theorem r_dOut (f : Fin 1536) (k : Fin 1024) : val_main_v124 (F := Ideal) x8 x10 (ix2 f k) = (argsR x0 x1 x2 x3 x4 x5 x6 x7 x8 x9 x10).dOut f k := by
  show _ = ∑ i, (argsR x0 x1 x2 x3 x4 x5 x6 x7 x8 x9 x10).o i f * (argsR x0 x1 x2 x3 x4 x5 x6 x7 x8 x9 x10).e i k
  refine (val_main_v124_apply _ _ _).trans ((val_main_v83_apply _ _ _).trans ((val_main_v82_apply _ _ _).trans ?_))
  refine Finset.sum_congr rfl fun i _ => (mul_comm (G := EReal) _ _).trans (congrArg₂ (fun a b : EReal => a * b) (congrArg x8 ?_) (congrArg x10 ?_))
  all_goals
    funext a
    match a with
    | ⟨0, _⟩ => rfl
    | ⟨1, _⟩ => rfl

/-- A gradient's rows against rows in a class order. -/
theorem r_gram (D : FVec Ideal S8192x1536 .f32) (R : FVec Ideal S8192x1024 .f32) (π : Fin 8192 → Fin 8192) (hR : ∀ i k, R (ix2 i k) = x0 (ix2 (π i) k)) (f : Fin 1536) (k : Fin 1024) :
    Host.dotGeneral dot_S8192x1536_S8192x1024_S1536x1024_0_0_1_1_n_n none D R (ix2 f k)
      = (argsR x0 x1 x2 x3 x4 x5 x6 x7 x8 x9 x10).dW (fun i f => D (ix2 i f)) π f k := by
  show _ = ∑ i : Fin 8192, D (ix2 i f) * x0 (ix2 (π i) k)
  pointwise []
  exact Finset.sum_congr rfl fun i _ => congrArg (fun a : EReal => D (ix2 i f) * a) (hR i k)

theorem r_dW0 (f : Fin 1536) (k : Fin 1024) : val_main_v97 (F := Ideal) x0 x5 (ix2 f k)
    = (argsR x0 x1 x2 x3 x4 x5 x6 x7 x8 x9 x10).dW (argsR x0 x1 x2 x3 x4 x5 x6 x7 x8 x9 x10).d0 pos0 f k := by
  refine (val_main_v97_apply _ _ _).trans ((val_main_v96_apply _ _ _).trans ((val_main_v94_apply _ _ _).trans ((congrArg (val_main_v93 (F := Ideal) x0 x5) ?_).trans
    (r_gram x0 x1 x2 x3 x4 x5 x6 x7 x8 x9 x10 x5 (val_main_v91 (F := Ideal) x0) pos0 (fun i k => ?_) f k))))
  · funext a
    match a with
    | ⟨0, _⟩ => rfl
    | ⟨1, _⟩ => rfl
  · exact classes_at (d := 1) (q := 8192) x0 shapeCasts_S8192x1024_S8192x1x1024 transposes_S8192x1x1024_S1x8192x1024_1_0_2 shapeCasts_S1x8192x1024_S8192x1024 i (pos0 i) k 0 i
      (show 0 * 8192 + i.val = i.val by omega) (show i.val * 1 + 0 = i.val by omega)

theorem r_dW1 (f : Fin 1536) (k : Fin 1024) : val_main_v110 (F := Ideal) x0 x6 (ix2 f k)
    = (argsR x0 x1 x2 x3 x4 x5 x6 x7 x8 x9 x10).dW (argsR x0 x1 x2 x3 x4 x5 x6 x7 x8 x9 x10).d1 pos1 f k := by
  refine (val_main_v110_apply _ _ _).trans ((val_main_v109_apply _ _ _).trans ((val_main_v107_apply _ _ _).trans ((congrArg (val_main_v106 (F := Ideal) x0 x6) ?_).trans
    (r_gram x0 x1 x2 x3 x4 x5 x6 x7 x8 x9 x10 x6 (val_main_v104 (F := Ideal) x0) pos1 (fun i k => ?_) f k))))
  · funext a
    match a with
    | ⟨0, _⟩ => rfl
    | ⟨1, _⟩ => rfl
  · exact classes_at (d := 4) (q := 2048) x0 shapeCasts_S8192x1024_S2048x4x1024 transposes_S2048x4x1024_S4x2048x1024_1_0_2 shapeCasts_S4x2048x1024_S8192x1024 i (pos1 i) k
      ⟨i.val / 2048, by omega⟩ ⟨i.val % 2048, by omega⟩
      (show i.val / 2048 * 2048 + i.val % 2048 = i.val by omega) (show i.val % 2048 * 4 + i.val / 2048 = 4 * (i.val % 2048) + i.val / 2048 by omega)

theorem r_dW2 (f : Fin 1536) (k : Fin 1024) : val_main_v123 (F := Ideal) x0 x7 (ix2 f k)
    = (argsR x0 x1 x2 x3 x4 x5 x6 x7 x8 x9 x10).dW (argsR x0 x1 x2 x3 x4 x5 x6 x7 x8 x9 x10).d2 pos2 f k := by
  refine (val_main_v123_apply _ _ _).trans ((val_main_v122_apply _ _ _).trans ((val_main_v120_apply _ _ _).trans ((congrArg (val_main_v119 (F := Ideal) x0 x7) ?_).trans
    (r_gram x0 x1 x2 x3 x4 x5 x6 x7 x8 x9 x10 x7 (val_main_v117 (F := Ideal) x0) pos2 (fun i k => ?_) f k))))
  · funext a
    match a with
    | ⟨0, _⟩ => rfl
    | ⟨1, _⟩ => rfl
  · exact classes_at (d := 16) (q := 512) x0 shapeCasts_S8192x1024_S512x16x1024 transposes_S512x16x1024_S16x512x1024_1_0_2 shapeCasts_S16x512x1024_S8192x1024 i (pos2 i) k
      ⟨i.val / 512, by omega⟩ ⟨i.val % 512, by omega⟩
      (show i.val / 512 * 512 + i.val % 512 = i.val by omega) (show i.val % 512 * 16 + i.val / 512 = 16 * (i.val % 512) + i.val / 512 by omega)

/-- A gradient's rows times a group's columns of the weight. -/
theorem r_back (D : FVec Ideal S8192x1536 .f32) (g : Fin 3) (hs : S1024x3x3x512.Slices ![0, 0, g.val, 0] S1024x3x1x512) (i : Fin 8192) (k : Fin 1024) :
    Host.dotGeneral dot_S8192x1536_S1024x1536_S8192x1024_1_1_0_0_n_n none D (colsV x1 g.val hs) (ix2 i k)
      = (argsR x0 x1 x2 x3 x4 x5 x6 x7 x8 x9 x10).dU (fun i f => D (ix2 i f)) g i k := by
  have e : Host.dotGeneral dot_S8192x1536_S1024x1536_S8192x1024_1_1_0_0_n_n none D (colsV x1 g.val hs) (ix2 i k)
      = ∑ f : Fin 1536, D (ix2 i f) * colsV x1 g.val hs (ix2 k f) := by
    pointwise []
  refine e.trans ((sum_parts _).trans ?_)
  refine congrArg₂ (fun a b : EReal => a + b) (congrArg₂ (fun a b : EReal => a + b) ?_ ?_) ?_
  · exact Finset.sum_congr rfl fun f _ => congrArg (fun a : EReal => D (ix2 i ⟨512 * 0 + f.val, by omega⟩) * a) (colsV_at x1 0 g hs k f _ rfl)
  · exact Finset.sum_congr rfl fun f _ => congrArg (fun a : EReal => D (ix2 i ⟨512 * 1 + f.val, by omega⟩) * a) (colsV_at x1 1 g hs k f _ rfl)
  · exact Finset.sum_congr rfl fun f _ => congrArg (fun a : EReal => D (ix2 i ⟨512 * 2 + f.val, by omega⟩) * a) (colsV_at x1 2 g hs k f _ rfl)

theorem r_dU0 (i : Fin 8192) (k : Fin 1024) : val_main_v95 (F := Ideal) x1 x5 (ix2 i k)
    = (argsR x0 x1 x2 x3 x4 x5 x6 x7 x8 x9 x10).dU (argsR x0 x1 x2 x3 x4 x5 x6 x7 x8 x9 x10).d0 0 i k :=
  r_back x0 x1 x2 x3 x4 x5 x6 x7 x8 x9 x10 x5 0 slices_S1024x3x3x512_S1024x3x1x512_0_0_0_0 i k

theorem r_dU1 (i : Fin 8192) (k : Fin 1024) : val_main_v108 (F := Ideal) x1 x6 (ix2 i k)
    = (argsR x0 x1 x2 x3 x4 x5 x6 x7 x8 x9 x10).dU (argsR x0 x1 x2 x3 x4 x5 x6 x7 x8 x9 x10).d1 1 i k :=
  r_back x0 x1 x2 x3 x4 x5 x6 x7 x8 x9 x10 x6 1 slices_S1024x3x3x512_S1024x3x1x512_0_0_1_0 i k

theorem r_dU2 (i : Fin 8192) (k : Fin 1024) : val_main_v121 (F := Ideal) x1 x7 (ix2 i k)
    = (argsR x0 x1 x2 x3 x4 x5 x6 x7 x8 x9 x10).dU (argsR x0 x1 x2 x3 x4 x5 x6 x7 x8 x9 x10).d2 2 i k :=
  r_back x0 x1 x2 x3 x4 x5 x6 x7 x8 x9 x10 x7 2 slices_S1024x3x3x512_S1024x3x1x512_0_0_2_0 i k

end Cert.Reference4Ideal.ProjR

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Read
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Read
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal.Read
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal.Read
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal.Read
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal.Read
public import proofs.«01_k».proof.Proof.Gen.Reference7Ideal
public import proofs.«01_k».proof.Proof.Gen.Reference7Ideal.Run
public import Idealize.ShloMosaic.Adequacy
public import Idealize.ShloMosaic.Init
public import Idealize.ShloMosaic.Lib.Claim
public import proofs.«01_k».proof.Proof.AttnFinal
public import proofs.«01_k».proof.Proof.AttnRefFinal
public import proofs.«01_k».proof.Proof.FfnPre
public import proofs.«01_k».proof.Proof.HgrnRun
public import proofs.«01_k».proof.Proof.HeadRef
public import proofs.«01_k».proof.Proof.OptRun
public import proofs.«01_k».proof.Proof.OptRef
public import proofs.«01_k».proof.Proof.SmallRun
public import proofs.«01_k».proof.Proof.SmallRef
public import proofs.«01_k».proof.Proof.SmallPre
public import proofs.«01_k».proof.Proof.HgrnRef
public import proofs.«01_k».proof.Proof.HgrnMath
public import proofs.«01_k».proof.Proof.ProjRun
public import proofs.«01_k».proof.Proof.ProjRef

@[expose] public section

set_option maxRecDepth 16384

noncomputable section

namespace Cert.Proof

open Idealize.ShloMosaic Idealize.SL.Sem Cert.Kernel

theorem frame_kernel : Cert.quiescent_Kernel (hKernel := Cert.Kernel.Gen.facts) := fun m g _ => Cert.Kernel.Gen.frame m g

theorem frame_ideal : Cert.quiescent_KernelIdeal (hKernelIdeal := Cert.KernelIdeal.Gen.facts) := fun m g _ => Cert.KernelIdeal.Gen.frame m g

theorem frame_reference : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem preserves : Cert.preserves_Kernel_KernelIdeal :=
  IdealRules.named_const.statement Cert.KernelIdeal.κ "mask" .f32 0xF149F2CA#32 ⊥ rfl

/-- The reference's result, from its launch. -/
theorem reference_value (m' : (ℓ : Loc Cert.ReferenceIdeal.nD Cert.ReferenceIdeal.τ Cert.ReferenceIdeal.sig) → Buf (Elt Ideal) ℓ)
    (c : Dev Cert.ReferenceIdeal.nD) :
    Cert.ReferenceIdeal.Read.val_main_v175 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) =
      fun i => Cert.KernelIdeal.Attn.spec (Cert.ReferenceIdeal.AttnR.argsR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))) (i 0) (i 1) := by
  funext i
  have e : i = ix2 (i 0) (i 1) := by
    funext a
    match a with
    | ⟨0, _⟩ => rfl
    | ⟨1, _⟩ => rfl
  rw [e]
  exact Cert.ReferenceIdeal.AttnR.result _ _ _ _ _ _ _ _ _ _

/-- Arguments that agree are the same arguments of the specification. -/
theorem args_eq (m : (ℓ : Loc Cert.KernelIdeal.nD Cert.KernelIdeal.τ Cert.KernelIdeal.sig) → Buf (Elt Ideal) ℓ) (c : Dev Cert.KernelIdeal.nD) :
    Cert.ReferenceIdeal.AttnR.argsR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = Cert.KernelIdeal.Attn.argsOf m c := rfl

theorem algebraic : Cert.algebraic_KernelIdeal_ReferenceIdeal (hKernelIdeal := Cert.KernelIdeal.Gen.facts) (hReferenceIdeal := Cert.ReferenceIdeal.Gen.facts) := by
  pair_intro
  · run_from Cert.KernelIdeal.Gen.run_main m g
  · refine (θ_run Cert.ReferenceIdeal.defs _ _).mono (fun r h c => ⟨?_, (h c).2⟩) (Cert.ReferenceIdeal.Value.run (F := Ideal) m' g')
    refine (h c).1.trans ((Cert.ReferenceIdeal.Read.val_main_v175_eq _).trans ((reference_value m' c).trans ?_))
    obtain ⟨h0, h1, h2, h3, h4, h5, h6, h7⟩ := hagree c
    rw [h0, h1, h2, h3, h4, h5, h6, h7]
    refine Eq.trans ?_ (Cert.KernelIdeal.Attn.final m c).symm
    rw [args_eq m c]

theorem frame_kernel2 : Cert.quiescent_Kernel2 (hKernel2 := Cert.Kernel2.Gen.facts) := fun m g _ => Cert.Kernel2.Gen.frame m g

theorem frame_ideal2 : Cert.quiescent_Kernel2Ideal (hKernel2Ideal := Cert.Kernel2Ideal.Gen.facts) := fun m g _ => Cert.Kernel2Ideal.Gen.frame m g

theorem frame_ideal2_finite : Cert.quiescent_Kernel2Ideal_pre_finite (hKernel2Ideal := Cert.Kernel2Ideal.Gen.facts) (hPre_finite := Cert.Pre_finite.facts) :=
  fun m g _ => Cert.Kernel2Ideal.Gen.frame m g

theorem frame_reference2 : Cert.quiescent_Reference2Ideal (hReference2Ideal := Cert.Reference2Ideal.Gen.facts) := fun m g _ =>
  (θ_run Cert.Reference2Ideal.defs _ _).mono (fun r h => ⟨fun c => (h c).2.2.2.2.2.2, Idealize.ShloMosaic.sem_eq_zero_of_no_sems (by decide) r.2⟩)
    (Cert.Reference2Ideal.Value.run (F := Ideal) m g)

theorem frame_reference2_finite : Cert.quiescent_Reference2Ideal_pre_finite (hReference2Ideal := Cert.Reference2Ideal.Gen.facts) (hPre_finite := Cert.Pre_finite.facts) :=
  fun m g _ => frame_reference2 m g trivial

/-- The reference's arguments, read from the kernel's memory, are the kernel's. -/
theorem meet2 (m : (ℓ : Loc Cert.Kernel2Ideal.nD Cert.Kernel2Ideal.τ Cert.Kernel2Ideal.sig) → Buf (Elt Ideal) ℓ) (c : Dev Cert.Kernel2Ideal.nD) :
    Cert.Reference2Ideal.FfnR.argsR (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) = Cert.Kernel2Ideal.Ffn.argsOf m c := rfl

theorem at2 {a b : Nat} {f h : (⟨2, ![a, b]⟩ : Shape).Idx → EReal} (e : ∀ (i : Fin a) (k : Fin b), f (ix2 i k) = h (ix2 i k)) : f = h := by
  funext j
  have ej : j = ix2 (j 0) (j 1) := by
    funext x
    match x with
    | ⟨0, _⟩ => rfl
    | ⟨1, _⟩ => rfl
  rw [ej]
  exact e _ _

open Cert.Reference2Ideal.FfnR Cert.Kernel2Ideal.Ffn in
theorem algebraic2 : Cert.algebraic_Kernel2Ideal_Reference2Ideal_pre_finite (hKernel2Ideal := Cert.Kernel2Ideal.Gen.facts) (hReference2Ideal := Cert.Reference2Ideal.Gen.facts) (hPre_finite := Cert.Pre_finite.facts) := by
  intro m g m' g' hpre hagree
  refine ⟨_, _, _, _, _, _, run_results m g, ?_⟩
  refine (θ_run Cert.Reference2Ideal.defs _ _).mono (fun r h c => ?_) (Cert.Reference2Ideal.Value.run (F := Ideal) m' g')
  have R := Cert.Pre_finite.real_args m hpre c
  obtain ⟨a0, a1, a2, a3, a4⟩ := hagree c
  obtain ⟨h0, h1, h2, h3, h4, h5, hargs⟩ := h c
  refine ⟨h0.trans ((Cert.Reference2Ideal.Read.val_main_v22_eq _ _ _ _).trans ?_), h1.trans ((Cert.Reference2Ideal.Read.val_main_v54_eq _ c).trans ?_),
    h2.trans ((Cert.Reference2Ideal.Read.val_main_v55_eq _ c).trans ?_), h3.trans ((Cert.Reference2Ideal.Read.val_main_v56_eq _ c).trans ?_),
    h4.trans ((Cert.Reference2Ideal.Read.val_main_v58_eq _ c).trans ?_), h5.trans ((Cert.Reference2Ideal.Read.val_main_v59_eq _ _ _ _).trans ?_), hargs⟩
  all_goals rw [a0, a1, a2]
  · rw [a3]
    exact at2 fun i k => (r_out _ _ _ _ (m ((c.tc : Thread Cert.Kernel2Ideal.nD Cert.Kernel2Ideal.τ).loc Cert.Kernel2Ideal.main_arg4)) i k).trans (((congrArg (fun A => outR A i k) (meet2 m c)).trans (out_eq R i k).symm).trans (res_out m g c i k).symm)
  · rw [a3, a4]
    exact at2 fun i k => (r_dx _ _ _ _ _ i k).trans (((congrArg (fun A : Args => dxR (A.e i) (A.h i) (dnrmR A i) A.g k) (meet2 m c)).trans (dx_args R i k).symm).trans (res_dx m g c i k).symm)
  · rw [a3, a4]
    exact at2 fun i k => (r_dxb _ _ _ _ _ i k).trans (((congrArg (fun A : Args => dxR (A.e i) (A.h i) (dnrmR A i) A.g k) (meet2 m c)).trans (dx_args R i k).symm).trans (res_dxb m g c i k).symm)
  · rw [a3, a4]
    refine at2 fun i k => ?_
    obtain rfl : i = 0 := Fin.ext (by have := i.isLt; omega)
    exact (r_dgain _ _ _ _ _ k).trans (((congrArg (fun A => dgainR A k) (meet2 m c)).trans (dgain_eq R k).symm).trans (res_dg m g c k).symm)
  · rw [a3, a4]
    exact at2 fun i k => (r_dIn _ _ _ _ _ i k).trans (((congrArg (fun A => dInR A i k) (meet2 m c)).trans (dIn_eq R i k).symm).trans (res_dIn m g c i k).symm)
  · rw [a4]
    exact at2 fun i k => (r_dDown _ _ _ (m ((c.tc : Thread Cert.Kernel2Ideal.nD Cert.Kernel2Ideal.τ).loc Cert.Kernel2Ideal.main_arg3)) _ i k).trans (((congrArg (fun A => dDownR A i k) (meet2 m c)).trans (dDown_eq R i k).symm).trans (res_dDown m g c i k).symm)

theorem frame_kernel3 : Cert.quiescent_Kernel3 (hKernel3 := Cert.Kernel3.Gen.facts) := fun m g _ => Cert.Kernel3.Gen.frame m g

theorem frame_ideal3 : Cert.quiescent_Kernel3Ideal (hKernel3Ideal := Cert.Kernel3Ideal.Gen.facts) := fun m g _ => Cert.Kernel3Ideal.Gen.frame m g

theorem frame_reference3 : Cert.quiescent_Reference3Ideal (hReference3Ideal := Cert.Reference3Ideal.Gen.facts) := fun m g _ =>
  (θ_run Cert.Reference3Ideal.defs _ _).mono (fun r h => ⟨fun c => (h c).2.2.2.2.2.2.2.2, Idealize.ShloMosaic.sem_eq_zero_of_no_sems (by decide) r.2⟩)
    (Cert.Reference3Ideal.Value.run (F := Ideal) m g)

/-- The reference's arguments, read from the kernel's memory, are the kernel's. -/
theorem meet3 (m : (ℓ : Loc Cert.Kernel3Ideal.nD Cert.Kernel3Ideal.τ Cert.Kernel3Ideal.sig) → Buf (Elt Ideal) ℓ) (c : Dev Cert.Kernel3Ideal.nD) :
    Cert.Reference3Ideal.HgrnR.argsR (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) = Cert.Kernel3Ideal.Hgrn.argsOf m c := rfl

open Cert.Reference3Ideal.HgrnR Cert.Kernel3Ideal.Hgrn in
theorem algebraic3 : Cert.algebraic_Kernel3Ideal_Reference3Ideal (hKernel3Ideal := Cert.Kernel3Ideal.Gen.facts) (hReference3Ideal := Cert.Reference3Ideal.Gen.facts) := by
  intro m g m' g' _ hagree
  refine ⟨_, _, _, _, _, _, _, _, run_results m g, ?_⟩
  refine (θ_run Cert.Reference3Ideal.defs _ _).mono (fun r h c => ?_) (Cert.Reference3Ideal.Value.run (F := Ideal) m' g')
  have hm := meet3 m c
  obtain ⟨a0, a1, a2, a3, a4, a5, a6⟩ := hagree c
  obtain ⟨h0, h1, h2, h3, h4, h5, h6, h7, hargs⟩ := h c
  refine ⟨h0.trans ((Cert.Reference3Ideal.Read.val_main_v16_eq _ _ _).trans ?_),
    h1.trans ((Cert.Reference3Ideal.Read.val_main_v18_eq _ _ _).trans ?_),
    h2.trans ((Cert.Reference3Ideal.Read.val_main_v22_eq _ _).trans ?_),
    h3.trans ((Cert.Reference3Ideal.Read.val_main_v46_eq _ c).trans ?_),
    h4.trans ((Cert.Reference3Ideal.Read.val_main_v47_eq _ c).trans ?_),
    h5.trans ((Cert.Reference3Ideal.Read.val_main_v48_eq _ _ _).trans ?_),
    h6.trans ((Cert.Reference3Ideal.Read.val_main_v50_eq _ _ _).trans ?_),
    h7.trans ((Cert.Reference3Ideal.Read.val_main_v51_eq _ _).trans ?_), hargs⟩
  · rw [a0, a1, a2]
    exact at2 fun i k => (r_proj _ _ _ (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) i k).trans ((congrArg (fun A : Args => A.proj i k) hm).trans (res_proj m g c i k).symm)
  · rw [a0, a3, a4]
    exact at2 fun i k => (r_out _ (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) _ _ (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) i k).trans ((congrArg (fun A : Args => A.out i k) hm).trans (res_out m g c i k).symm)
  · rw [a3, a6]
    exact at2 fun i k => (r_dO (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) _ (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) _ i k).trans ((congrArg (fun A : Args => A.dO i k) hm).trans (res_dO m g c i k).symm)
  · rw [a0, a1, a2, a5, a6]
    exact at2 fun i k => (r_dx _ _ _ (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) _ _ i k).trans (((dx_agree _ _ _ _ k).symm.trans (congrArg (fun A : Args => A.dx i k) hm)).trans (res_dx m g c i k).symm)
  · rw [a0, a1, a2, a5, a6]
    exact at2 fun i k => (r_dxb _ _ _ (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) _ _ i k).trans (((dx_agree _ _ _ _ k).symm.trans (congrArg (fun A : Args => A.dx i k) hm)).trans (res_dxb m g c i k).symm)
  · rw [a0, a2, a5]
    refine at2 fun i k => ?_
    obtain rfl : i = 0 := Fin.ext (by have := i.isLt; omega)
    exact (r_dgain _ (m ((c.tc : Thread Cert.Kernel3Ideal.nD Cert.Kernel3Ideal.τ).loc Cert.Kernel3Ideal.main_arg1)) _ (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) _ (m ((c.tc : Thread Cert.Kernel3Ideal.nD Cert.Kernel3Ideal.τ).loc Cert.Kernel3Ideal.main_arg6)) k).trans ((congrArg (fun A : Args => A.dgain k) hm).trans (res_dg m g c k).symm)
  · rw [a0, a1, a5]
    exact at2 fun i k => (r_dIn _ _ (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) _ (m ((c.tc : Thread Cert.Kernel3Ideal.nD Cert.Kernel3Ideal.τ).loc Cert.Kernel3Ideal.main_arg6)) i k).trans ((congrArg (fun A : Args => A.dIn i k) hm).trans (res_dIn m g c i k).symm)
  · rw [a4, a6]
    exact at2 fun i k => (r_dOut (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) _ (m ((c.tc : Thread Cert.Kernel3Ideal.nD Cert.Kernel3Ideal.τ).loc Cert.Kernel3Ideal.main_arg5)) _ i k).trans ((congrArg (fun A : Args => A.dOut i k) hm).trans (res_dOut m g c i k).symm)

/-! ## The attention's projections -/

theorem frame_kernel4 : Cert.quiescent_Kernel4 (hKernel4 := Cert.Kernel4.Gen.facts) := fun m g _ => Cert.Kernel4.Gen.frame m g

theorem frame_ideal4 : Cert.quiescent_Kernel4Ideal (hKernel4Ideal := Cert.Kernel4Ideal.Gen.facts) := fun m g _ => Cert.Kernel4Ideal.Gen.frame m g

theorem frame_reference4 : Cert.quiescent_Reference4Ideal (hReference4Ideal := Cert.Reference4Ideal.Gen.facts) := fun m g _ =>
  (θ_run Cert.Reference4Ideal.defs _ _).mono (fun r h => ⟨fun c => (h c).2.2.2.2.2.2.2.2.2.2.2.2, Idealize.ShloMosaic.sem_eq_zero_of_no_sems (by decide) r.2⟩)
    (Cert.Reference4Ideal.Value.run (F := Ideal) m g)

/-- The reference's arguments, read from the kernel's memory, are the kernel's. -/
theorem meet4 (m : (ℓ : Loc Cert.Kernel4Ideal.nD Cert.Kernel4Ideal.τ Cert.Kernel4Ideal.sig) → Buf (Elt Ideal) ℓ) (c : Dev Cert.Kernel4Ideal.nD) :
    Cert.Reference4Ideal.ProjR.argsR (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6))
      (m ((c.tc : Thread Cert.Kernel4Ideal.nD Cert.Kernel4Ideal.τ).loc Cert.Kernel4Ideal.main_arg7))
      (m ((c.tc : Thread Cert.Kernel4Ideal.nD Cert.Kernel4Ideal.τ).loc Cert.Kernel4Ideal.main_arg8))
      (m ((c.tc : Thread Cert.Kernel4Ideal.nD Cert.Kernel4Ideal.τ).loc Cert.Kernel4Ideal.main_arg9))
      (m ((c.tc : Thread Cert.Kernel4Ideal.nD Cert.Kernel4Ideal.τ).loc Cert.Kernel4Ideal.main_arg10)) = Cert.Kernel4Ideal.Proj.argsOf m c := rfl

open Cert.Reference4Ideal.ProjR Cert.Kernel4Ideal.Proj in
theorem algebraic4 : Cert.algebraic_Kernel4Ideal_Reference4Ideal (hKernel4Ideal := Cert.Kernel4Ideal.Gen.facts) (hReference4Ideal := Cert.Reference4Ideal.Gen.facts) := by
  intro m g m' g' _ hagree
  refine ⟨_, _, _, _, _, _, _, _, _, _, _, _, run_results m g, ?_⟩
  refine (θ_run Cert.Reference4Ideal.defs _ _).mono (fun r h c => ?_) (Cert.Reference4Ideal.Value.run (F := Ideal) m' g')
  have hm := meet4 m c
  obtain ⟨a0, a1, a2, a3, a4, a5, a6, a7, a8, a9, a10⟩ := hagree c
  obtain ⟨h0, h1, h2, h3, h4, h5, h6, h7, h8, h9, h10, h11, hargs⟩ := h c
  refine ⟨h0.trans ((Cert.Reference4Ideal.Read.val_main_v71_eq _ c).trans ?_),
    h1.trans ((Cert.Reference4Ideal.Read.val_main_v75_eq _ c).trans ?_),
    h2.trans ((Cert.Reference4Ideal.Read.val_main_v79_eq _ c).trans ?_),
    h3.trans ((Cert.Reference4Ideal.Read.val_main_v81_eq _ _ _).trans ?_),
    h4.trans ((Cert.Reference4Ideal.Read.val_main_v84_eq _ _).trans ?_),
    h5.trans ((Cert.Reference4Ideal.Read.val_main_v124_eq _ _).trans ?_),
    h6.trans ((Cert.Reference4Ideal.Read.val_main_v97_eq _ _).trans ?_),
    h7.trans ((Cert.Reference4Ideal.Read.val_main_v110_eq _ _).trans ?_),
    h8.trans ((Cert.Reference4Ideal.Read.val_main_v123_eq _ _).trans ?_),
    h9.trans ((Cert.Reference4Ideal.Read.val_main_v95_eq _ _).trans ?_),
    h10.trans ((Cert.Reference4Ideal.Read.val_main_v108_eq _ _).trans ?_),
    h11.trans ((Cert.Reference4Ideal.Read.val_main_v121_eq _ _).trans ?_), hargs⟩
  · rw [a0, a1, a3, a4]
    exact at2 fun i k => (r_qkv0 _ _ _ _ _ _ _ _ _ _ _ i k).trans ((congrArg (fun A : Args => A.qkv pos0 0 i k) hm).trans (res_qkv0 m g c i k).symm)
  · rw [a0, a1, a3, a4]
    exact at2 fun i k => (r_qkv1 _ _ _ _ _ _ _ _ _ _ _ i k).trans ((congrArg (fun A : Args => A.qkv pos1 1 i k) hm).trans (res_qkv1 m g c i k).symm)
  · rw [a0, a1, a3, a4]
    exact at2 fun i k => (r_qkv2 _ _ _ _ _ _ _ _ _ _ _ i k).trans ((congrArg (fun A : Args => A.qkv pos2 2 i k) hm).trans (res_qkv2 m g c i k).symm)
  · rw [a2, a8, a9]
    exact at2 fun i k => (r_out _ _ _ _ _ _ _ _ _ _ _ i k).trans ((congrArg (fun A : Args => A.out i k) hm).trans (res_out m g c i k).symm)
  · rw [a2, a10]
    exact at2 fun i k => (r_dO _ _ _ _ _ _ _ _ _ _ _ i k).trans ((congrArg (fun A : Args => A.dO i k) hm).trans (res_dO m g c i k).symm)
  · rw [a8, a10]
    exact at2 fun i k => (r_dOut _ _ _ _ _ _ _ _ _ _ _ i k).trans ((congrArg (fun A : Args => A.dOut i k) hm).trans (res_dOut m g c i k).symm)
  · rw [a0, a5]
    exact at2 fun i k => (r_dW0 _ _ _ _ _ _ _ _ _ _ _ i k).trans ((congrArg (fun A : Args => A.dW A.d0 pos0 i k) hm).trans (res_dW0 m g c i k).symm)
  · rw [a0, a6]
    exact at2 fun i k => (r_dW1 _ _ _ _ _ _ _ _ _ _ _ i k).trans ((congrArg (fun A : Args => A.dW A.d1 pos1 i k) hm).trans (res_dW1 m g c i k).symm)
  · rw [a0, a7]
    exact at2 fun i k => (r_dW2 _ _ _ _ _ _ _ _ _ _ _ i k).trans ((congrArg (fun A : Args => A.dW A.d2 pos2 i k) hm).trans (res_dW2 m g c i k).symm)
  · rw [a1, a5]
    exact at2 fun i k => (r_dU0 _ _ _ _ _ _ _ _ _ _ _ i k).trans ((congrArg (fun A : Args => A.dU A.d0 0 i k) hm).trans (res_dU0 m g c i k).symm)
  · rw [a1, a6]
    exact at2 fun i k => (r_dU1 _ _ _ _ _ _ _ _ _ _ _ i k).trans ((congrArg (fun A : Args => A.dU A.d1 1 i k) hm).trans (res_dU1 m g c i k).symm)
  · rw [a1, a7]
    exact at2 fun i k => (r_dU2 _ _ _ _ _ _ _ _ _ _ _ i k).trans ((congrArg (fun A : Args => A.dU A.d2 2 i k) hm).trans (res_dU2 m g c i k).symm)

/-! ## The last output product with the loss head -/

theorem frame_kernel5 : Cert.quiescent_Kernel5 (hKernel5 := Cert.Kernel5.Gen.facts) := fun m g _ => Cert.Kernel5.Gen.frame m g

theorem frame_ideal5 : Cert.quiescent_Kernel5Ideal (hKernel5Ideal := Cert.Kernel5Ideal.Gen.facts) := fun m g _ => Cert.Kernel5Ideal.Gen.frame m g

theorem frame_reference5 : Cert.quiescent_Reference5Ideal (hReference5Ideal := Cert.Reference5Ideal.Gen.facts) := fun m g _ =>
  (θ_run Cert.Reference5Ideal.defs _ _).mono (fun r h => ⟨fun c => (h c).2.2.2.2, Idealize.ShloMosaic.sem_eq_zero_of_no_sems (by decide) r.2⟩)
    (Cert.Reference5Ideal.Value.run (F := Ideal) m g)

section Head
open Cert.Kernel5Ideal.Head Cert.Reference5Ideal.HeadR
open Cert.Kernel5Ideal.Gen (V)

variable (m : (ℓ : Loc Cert.Kernel5Ideal.nD Cert.Kernel5Ideal.τ Cert.Kernel5Ideal.sig) → Buf (Elt Ideal) ℓ) (c : Dev Cert.Kernel5Ideal.nD)

/-- What the call reads is the arguments, before any cast. -/
theorem head_a (i : Fin 8192) (f : Fin 2816) : (V m c Cert.Kernel5Ideal.main_v0 : FVec Ideal Cert.Kernel5Ideal.S8192x2816 .bf16) (ix2 i f) = (m ((c.tc : Thread Cert.Kernel5Ideal.nD Cert.Kernel5Ideal.τ).loc Cert.Kernel5Ideal.main_arg0)) (ix2 i f) := by
  entry_read
  pointwise []
theorem head_w (f : Fin 2816) (k : Fin 1024) : (V m c Cert.Kernel5Ideal.main_v1 : FVec Ideal Cert.Kernel5Ideal.S2816x1024 .bf16) (ix2 f k) = (m ((c.tc : Thread Cert.Kernel5Ideal.nD Cert.Kernel5Ideal.τ).loc Cert.Kernel5Ideal.main_arg1)) (ix2 f k) := by
  entry_read
  pointwise []
theorem head_gain (k : Fin 1024) : gainOf m c k = gainR (m ((c.tc : Thread Cert.Kernel5Ideal.nD Cert.Kernel5Ideal.τ).loc Cert.Kernel5Ideal.main_arg4)) k := by
  unfold gainOf gainR
  entry_read
  pointwise []
theorem head_goal (i : Fin 8192) : goalOf m c i = goalR (m ((c.tc : Thread Cert.Kernel5Ideal.nD Cert.Kernel5Ideal.τ).loc Cert.Kernel5Ideal.main_arg3)) i := by
  unfold goalOf goalR
  entry_read
  rfl
theorem head_hid (i : Fin 8192) : hidOf m c i = hidR (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) i :=
  hidRow_eq (fun f => head_a m c i f) (fun f k => head_w m c f k) (fun k => by entry_read; rfl)

theorem head_dh (i : Fin 8192) : dhOf m c i = dhRow (hidR (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) i) (gainR (m ((c.tc : Thread Cert.Kernel5Ideal.nD Cert.Kernel5Ideal.τ).loc Cert.Kernel5Ideal.main_arg4))) (goalR (m ((c.tc : Thread Cert.Kernel5Ideal.nD Cert.Kernel5Ideal.τ).loc Cert.Kernel5Ideal.main_arg3)) i) :=
  dhRow_eq (head_hid m c i) (fun k => head_gain m c k) (fun k => congrFun (head_goal m c i) k)
theorem head_dy (i : Fin 8192) : dyRow (hidOf m c i) (gainOf m c) (goalOf m c i) = dyR (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) i :=
  dyRow_eq (head_hid m c i) (fun k => head_gain m c k) (fun k => congrFun (head_goal m c i) k)
theorem head_err (i : Fin 8192) : errRow (hidOf m c i) (gainOf m c) (goalOf m c i) = errR (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) i :=
  errRow_eq (head_hid m c i) (fun k => head_gain m c k) (fun k => congrFun (head_goal m c i) k)
theorem head_dg (k : Fin 1024) : dgTotal m c k = ∑ i : Fin 8192, Cert.Kernel2Ideal.Ffn.dgTerm (hidR (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) i) (dyR (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) i) k :=
  Finset.sum_congr rfl fun i _ => congrFun (Cert.Kernel2Ideal.Ffn.dgTerm_eq (fun k => congrFun (head_hid m c i) k) (head_dy m c i)) k
theorem head_loss (k : Fin 1024) : lossTotal m c k = ∑ i : Fin 8192, errR (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) i k * errR (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) i k * halfPart :=
  Finset.sum_congr rfl fun i _ => congrArg (fun r : Fin 1024 → EReal => r k * r k * halfPart) (head_err m c i)

end Head

open Cert.Kernel5Ideal.Head Cert.Reference5Ideal.HeadR in
theorem algebraic5 : Cert.algebraic_Kernel5Ideal_Reference5Ideal (hKernel5Ideal := Cert.Kernel5Ideal.Gen.facts) (hReference5Ideal := Cert.Reference5Ideal.Gen.facts) := by
  pair_intro
  · run_from Cert.Kernel5Ideal.Gen.run_main m g
  · refine (θ_run Cert.Reference5Ideal.defs _ _).mono (fun r h c => ?_) (Cert.Reference5Ideal.Value.run (F := Ideal) m' g')
    obtain ⟨a0, a1, a2, a3, a4⟩ := hagree c
    obtain ⟨h0, h1, h2, h3, hargs⟩ := h c
    refine ⟨h0.trans ((Cert.Reference5Ideal.Read.val_main_v52_eq _ c).trans ?_), h1.trans ((Cert.Reference5Ideal.Read.val_main_v53_eq _ c).trans ?_),
      h2.trans ((Cert.Reference5Ideal.Read.val_main_v54_eq _ _ _ _ _).trans ?_), h3.trans ((Cert.Reference5Ideal.Read.val_main_v60_eq _ _ _ _ _).trans ?_), hargs⟩
    all_goals rw [a0, a1, a2, a3, a4]
    · exact at2 fun i k => (r_dh _ _ _ _ _ i k).trans ((congrFun (head_dh m c i) k).symm.trans (arr_5 m c i k).symm)
    · exact at2 fun i k => (r_dhb _ _ _ _ _ i k).trans ((congrFun (head_dh m c i) k).symm.trans (arr_6 m c i k).symm)
    · refine at2 fun i k => ?_
      obtain rfl : i = 0 := Fin.ext (by have := i.isLt; omega)
      exact (r_dgain _ _ _ _ _ k).trans ((head_dg m c k).symm.trans (arr_7 m c k).symm)
    · refine at2 fun i k => ?_
      obtain rfl : i = 0 := Fin.ext (by have := i.isLt; omega)
      exact (r_loss _ _ _ _ _ k).trans ((head_loss m c k).symm.trans (arr_8 m c k).symm)

/-! ## The optimiser on the attention's weights -/

theorem frame_kernel6 : Cert.quiescent_Kernel6 (hKernel6 := Cert.Kernel6.Gen.facts) := fun m g _ => Cert.Kernel6.Gen.frame m g

theorem frame_ideal6 : Cert.quiescent_Kernel6Ideal (hKernel6Ideal := Cert.Kernel6Ideal.Gen.facts) := fun m g _ => Cert.Kernel6Ideal.Gen.frame m g

theorem frame_reference6 : Cert.quiescent_Reference6Ideal (hReference6Ideal := Cert.Reference6Ideal.Gen.facts) := fun m g _ =>
  (θ_run Cert.Reference6Ideal.defs _ _).mono (fun r h => ⟨fun c => (h c).2.2.2.2.2.2.2.2, Idealize.ShloMosaic.sem_eq_zero_of_no_sems (by decide) r.2⟩)
    (Cert.Reference6Ideal.Value.run (F := Ideal) m g)

/-- Arrays of one layer agree where they agree at every row and column. -/
theorem layer1 {n0 n1 : Nat} {α : Type} {f g : (⟨3, ![1, n0, n1]⟩ : Shape).Idx → α} (h : ∀ (i : Fin n0) (k : Fin n1), f (ix3 0 i k) = g (ix3 0 i k)) : f = g := by
  funext j
  have e : j = ix3 0 (j 1) (j 2) := Cert.Kernel6Ideal.Opt.only_row rfl rfl
  rw [e]
  exact h _ _

open Cert.Kernel6Ideal.Opt Cert.Reference6Ideal.OptR in
theorem algebraic6 : Cert.algebraic_Kernel6Ideal_Reference6Ideal (hKernel6Ideal := Cert.Kernel6Ideal.Gen.facts) (hReference6Ideal := Cert.Reference6Ideal.Gen.facts) := by
  intro m g m' g' _ hagree
  refine ⟨_, _, _, _, _, _, _, _, run_results m g, ?_⟩
  refine (θ_run Cert.Reference6Ideal.defs _ _).mono (fun r h c => ?_) (Cert.Reference6Ideal.Value.run (F := Ideal) m' g')
  obtain ⟨a0, a1, a2, a3, a4, a5, a6, a7⟩ := hagree c
  obtain ⟨h0, h1, h2, h3, h4, h5, h6, h7, hargs⟩ := h c
  refine ⟨h0.trans ((Cert.Reference6Ideal.Read.val_main_v2_eq _).trans ?_), h1.trans ((Cert.Reference6Ideal.Read.val_main_v28_eq _ _ _ _).trans ?_),
    h2.trans ((Cert.Reference6Ideal.Read.val_main_v9_eq _ _).trans ?_), h3.trans ((Cert.Reference6Ideal.Read.val_main_v15_eq _ _).trans ?_),
    h4.trans ((Cert.Reference6Ideal.Read.val_main_v4_eq _).trans ?_), h5.trans ((Cert.Reference6Ideal.Read.val_main_v52_eq _ _ _ _).trans ?_),
    h6.trans ((Cert.Reference6Ideal.Read.val_main_v33_eq _ _).trans ?_), h7.trans ((Cert.Reference6Ideal.Read.val_main_v39_eq _ _).trans ?_), hargs⟩
  · rw [a0]
    exact layer1 fun i k => (r_gQ _ i k).trans (res_gQ m g c i k).symm
  · rw [a0, a1, a2, a3]
    exact layer1 fun i k => (r_dQ _ _ _ _ i k).trans (res_dQ m g c i k).symm
  · rw [a0, a2]
    exact layer1 fun i k => (r_mQ _ _ i k).trans (res_mQ m g c i k).symm
  · rw [a0, a3]
    exact layer1 fun i k => (r_vQ _ _ i k).trans (res_vQ m g c i k).symm
  · rw [a4]
    exact layer1 fun i k => (r_gO _ i k).trans (res_gO m g c i k).symm
  · rw [a4, a5, a6, a7]
    exact layer1 fun i k => (r_dO _ _ _ _ i k).trans (res_dO m g c i k).symm
  · rw [a4, a6]
    exact layer1 fun i k => (r_mO _ _ i k).trans (res_mO m g c i k).symm
  · rw [a4, a7]
    exact layer1 fun i k => (r_vO _ _ i k).trans (res_vO m g c i k).symm

/-! ## The optimiser on the packed rows, and the lower bound -/

theorem frame_kernel7 : Cert.quiescent_Kernel7 (hKernel7 := Cert.Kernel7.Gen.facts) := fun m g _ => Cert.Kernel7.Gen.frame m g

theorem frame_ideal7 : Cert.quiescent_Kernel7Ideal (hKernel7Ideal := Cert.Kernel7Ideal.Gen.facts) := fun m g _ => Cert.Kernel7Ideal.Gen.frame m g

theorem frame_ideal7_finite : Cert.quiescent_Kernel7Ideal_pre_finite_logits (hKernel7Ideal := Cert.Kernel7Ideal.Gen.facts) (hPre_finite_logits := Cert.Pre_finite_logits.facts) :=
  fun m g _ => Cert.Kernel7Ideal.Gen.frame m g

theorem frame_reference7 : Cert.quiescent_Reference7Ideal (hReference7Ideal := Cert.Reference7Ideal.Gen.facts) := fun m g _ =>
  (θ_run Cert.Reference7Ideal.defs _ _).mono (fun r h => ⟨fun c => (h c).2.2.2.2.2.2.2.2.2.2.2.2.2.2.2.2.2.2.2.2.2.2, Idealize.ShloMosaic.sem_eq_zero_of_no_sems (by decide) r.2⟩)
    (Cert.Reference7Ideal.Value.run (F := Ideal) m g)

theorem frame_reference7_finite : Cert.quiescent_Reference7Ideal_pre_finite_logits (hReference7Ideal := Cert.Reference7Ideal.Gen.facts) (hPre_finite_logits := Cert.Pre_finite_logits.facts) :=
  fun m g _ => frame_reference7 m g trivial

open Cert.Small Cert.Kernel7Ideal.Small in
theorem algebraic7 : Cert.algebraic_Kernel7Ideal_Reference7Ideal_pre_finite_logits (hKernel7Ideal := Cert.Kernel7Ideal.Gen.facts) (hReference7Ideal := Cert.Reference7Ideal.Gen.facts) (hPre_finite_logits := Cert.Pre_finite_logits.facts) := by
  intro m g m' g' hpre hagree
  refine ⟨_, _, _, _, _, _, _, _, _, _, _, _, _, _, _, _, _, _, _, _, _, _, run_results m g, ?_⟩
  refine (θ_run Cert.Reference7Ideal.defs _ _).mono (fun r h c => ?_) (Cert.Reference7Ideal.Value.run (F := Ideal) m' g')
  have R := Cert.Pre_finite_logits.real_args m hpre c
  obtain ⟨a0, a1, a2, a3, a4, a5, a6, a7, a8, a9, a10, a11, a12, a13, a14, a15⟩ := hagree c
  obtain ⟨h0, h1, h2, h3, h4, h5, h6, h7, h8, h9, h10, h11, h12, h13, h14, h15, h16, h17, h18, h19, h20, h21, hargs⟩ := h c
  obtain ⟨g0, d0, m0, v0⟩ := agree_mix m g c a0 a1 a6 a11
  obtain ⟨g1, d1, m1, v1⟩ := agree_ffn m g c a0 a2 a7 a12
  obtain ⟨g2, d2, m2, v2⟩ := agree_lb m g c a0 a3 a8 a13 R
  obtain ⟨g3, d3, m3, v3⟩ := agree_out m g c a0 a4 a9 a14
  obtain ⟨g4, d4, m4, v4⟩ := agree_fin m g c a0 a5 a10 a15
  exact ⟨h0.trans ((Cert.Reference7Ideal.Read.val_main_v174_eq _).trans (agree_lower m g c a3)), h1.trans ((Cert.Reference7Ideal.Read.val_main_v49_eq _).trans g0),
    h2.trans ((Cert.Reference7Ideal.Read.val_main_v50_eq _).trans g1), h3.trans ((Cert.Reference7Ideal.Read.val_main_v48_eq _).trans g2),
    h4.trans ((Cert.Reference7Ideal.Read.val_main_v51_eq _).trans g3), h5.trans ((Cert.Reference7Ideal.Read.val_main_v53_eq _).trans g4),
    h6.trans ((Cert.Reference7Ideal.Read.val_main_v77_eq _).trans d0), h7.trans ((Cert.Reference7Ideal.Read.val_main_v101_eq _).trans d1),
    h8.trans ((Cert.Reference7Ideal.Read.val_main_v125_eq _).trans d2), h9.trans ((Cert.Reference7Ideal.Read.val_main_v149_eq _).trans d3),
    h10.trans ((Cert.Reference7Ideal.Read.val_main_v173_eq _).trans d4), h11.trans ((Cert.Reference7Ideal.Read.val_main_v58_eq _).trans m0),
    h12.trans ((Cert.Reference7Ideal.Read.val_main_v82_eq _).trans m1), h13.trans ((Cert.Reference7Ideal.Read.val_main_v106_eq _).trans m2),
    h14.trans ((Cert.Reference7Ideal.Read.val_main_v130_eq _).trans m3), h15.trans ((Cert.Reference7Ideal.Read.val_main_v154_eq _).trans m4),
    h16.trans ((Cert.Reference7Ideal.Read.val_main_v64_eq _).trans v0), h17.trans ((Cert.Reference7Ideal.Read.val_main_v88_eq _).trans v1),
    h18.trans ((Cert.Reference7Ideal.Read.val_main_v112_eq _).trans v2), h19.trans ((Cert.Reference7Ideal.Read.val_main_v136_eq _).trans v3),
    h20.trans ((Cert.Reference7Ideal.Read.val_main_v160_eq _).trans v4), h21.trans ((Cert.Reference7Ideal.Read.val_main_v177_eq _).trans (agree_loss m g c a0)), hargs⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_finite.facts, Cert.Pre_finite_logits.facts,
    frame_kernel, frame_ideal, frame_reference, frame_kernel2, frame_ideal2, frame_ideal2_finite, frame_reference2, frame_reference2_finite,
    frame_kernel3, frame_ideal3, frame_reference3, frame_kernel4, frame_ideal4, frame_reference4, frame_kernel5, frame_ideal5, frame_reference5, frame_kernel6, frame_ideal6, frame_reference6,
    frame_kernel7, frame_ideal7, frame_ideal7_finite, frame_reference7, frame_reference7_finite, preserves, algebraic, trivial, algebraic2,
    trivial, algebraic3, trivial, algebraic4, trivial, algebraic5, trivial, algebraic6, trivial, algebraic7⟩

end Cert.Proof

end
